-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_mla_finite [hPre_mla_finite : Cert.Pre_mla_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_mla_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_mla_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_mla_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.1 = (fun _ => 1#1)
    ∧ (Cert.Pre_mla_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_mla_finite [hPre_mla_finite : Cert.Pre_mla_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_mla_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_mla_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_mla_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.1 = (fun _ => 1#1)
    ∧ (Cert.Pre_mla_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_fox_finite [hPre_fox_finite : Cert.Pre_fox_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_fox_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_fox_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_fox_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_fox_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.1 = (fun _ => 1#1)
    ∧ (Cert.Pre_fox_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_fox_finite [hPre_fox_finite : Cert.Pre_fox_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_fox_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_fox_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_fox_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_fox_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.1 = (fun _ => 1#1)
    ∧ (Cert.Pre_fox_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_q_a_norm_finite [hPre_q_a_norm_finite : Cert.Pre_q_a_norm_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_q_a_norm_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_q_a_norm_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.1 = (fun _ => 1#1)
    ∧ (Cert.Pre_q_a_norm_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_q_a_norm_finite [hPre_q_a_norm_finite : Cert.Pre_q_a_norm_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_q_a_norm_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_q_a_norm_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.1 = (fun _ => 1#1)
    ∧ (Cert.Pre_q_a_norm_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_kv_a_norm_finite [hPre_kv_a_norm_finite : Cert.Pre_kv_a_norm_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_kv_a_norm_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_kv_a_norm_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2.1 = (fun _ => 1#1)
    ∧ (Cert.Pre_kv_a_norm_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_kv_a_norm_finite [hPre_kv_a_norm_finite : Cert.Pre_kv_a_norm_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_kv_a_norm_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_kv_a_norm_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2.1 = (fun _ => 1#1)
    ∧ (Cert.Pre_kv_a_norm_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_q_a_dx_finite [hPre_q_a_dx_finite : Cert.Pre_q_a_dx_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_q_a_dx_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_q_a_dx_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.1 = (fun _ => 1#1)
    ∧ (Cert.Pre_q_a_dx_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.1 = (fun _ => 1#1)
    ∧ (Cert.Pre_q_a_dx_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_q_a_dx_finite [hPre_q_a_dx_finite : Cert.Pre_q_a_dx_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_q_a_dx_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_q_a_dx_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.1 = (fun _ => 1#1)
    ∧ (Cert.Pre_q_a_dx_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.1 = (fun _ => 1#1)
    ∧ (Cert.Pre_q_a_dx_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_ffn_norm_finite [hPre_ffn_norm_finite : Cert.Pre_ffn_norm_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_ffn_norm_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).1 = (fun _ => 1#1)
    ∧ (Cert.Pre_ffn_norm_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.1 = (fun _ => 1#1)
    ∧ (Cert.Pre_ffn_norm_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.1 = (fun _ => 1#1)
    ∧ (Cert.Pre_ffn_norm_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_ffn_norm_finite [hPre_ffn_norm_finite : Cert.Pre_ffn_norm_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_ffn_norm_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).1 = (fun _ => 1#1)
    ∧ (Cert.Pre_ffn_norm_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.1 = (fun _ => 1#1)
    ∧ (Cert.Pre_ffn_norm_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.1 = (fun _ => 1#1)
    ∧ (Cert.Pre_ffn_norm_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_qkv_dx_finite [hPre_qkv_dx_finite : Cert.Pre_qkv_dx_finite.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_qkv_dx_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).1 = (fun _ => 1#1)
    ∧ (Cert.Pre_qkv_dx_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.1 = (fun _ => 1#1)
    ∧ (Cert.Pre_qkv_dx_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.2.1 = (fun _ => 1#1)
    ∧ (Cert.Pre_qkv_dx_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.2.2.1 = (fun _ => 1#1)
    ∧ (Cert.Pre_qkv_dx_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_qkv_dx_finite [hPre_qkv_dx_finite : Cert.Pre_qkv_dx_finite.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_qkv_dx_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))).1 = (fun _ => 1#1)
    ∧ (Cert.Pre_qkv_dx_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))).2.1 = (fun _ => 1#1)
    ∧ (Cert.Pre_qkv_dx_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))).2.2.1 = (fun _ => 1#1)
    ∧ (Cert.Pre_qkv_dx_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))).2.2.2.1 = (fun _ => 1#1)
    ∧ (Cert.Pre_qkv_dx_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))).2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_kv_a_dx_finite [hPre_kv_a_dx_finite : Cert.Pre_kv_a_dx_finite.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_kv_a_dx_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).1 = (fun _ => 1#1)
    ∧ (Cert.Pre_kv_a_dx_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.1 = (fun _ => 1#1)
    ∧ (Cert.Pre_kv_a_dx_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.2.1 = (fun _ => 1#1)
    ∧ (Cert.Pre_kv_a_dx_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_kv_a_dx_finite [hPre_kv_a_dx_finite : Cert.Pre_kv_a_dx_finite.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_kv_a_dx_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).1 = (fun _ => 1#1)
    ∧ (Cert.Pre_kv_a_dx_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.1 = (fun _ => 1#1)
    ∧ (Cert.Pre_kv_a_dx_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.2.1 = (fun _ => 1#1)
    ∧ (Cert.Pre_kv_a_dx_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_loss_finite [hPre_loss_finite : Cert.Pre_loss_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_loss_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).1 = (fun _ => 1#1)
    ∧ (Cert.Pre_loss_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).2.1 = (fun _ => 1#1)
    ∧ (Cert.Pre_loss_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_loss_finite [hPre_loss_finite : Cert.Pre_loss_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_loss_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).1 = (fun _ => 1#1)
    ∧ (Cert.Pre_loss_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).2.1 = (fun _ => 1#1)
    ∧ (Cert.Pre_loss_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_gate_finite [hPre_gate_finite : Cert.Pre_gate_finite.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_gate_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).1 = (fun _ => 1#1)
    ∧ (Cert.Pre_gate_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_gate_finite [hPre_gate_finite : Cert.Pre_gate_finite.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_gate_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).1 = (fun _ => 1#1)
    ∧ (Cert.Pre_gate_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_mla_fwd_finite [hPre_mla_fwd_finite : Cert.Pre_mla_fwd_finite.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_mla_fwd_finite.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))).1 = (fun _ => 1#1)
    ∧ (Cert.Pre_mla_fwd_finite.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))).2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_mla_fwd_finite [hPre_mla_fwd_finite : Cert.Pre_mla_fwd_finite.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_mla_fwd_finite.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))).1 = (fun _ => 1#1)
    ∧ (Cert.Pre_mla_fwd_finite.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))).2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_fox_fwd_finite [hPre_fox_fwd_finite : Cert.Pre_fox_fwd_finite.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_fox_fwd_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).1 = (fun _ => 1#1)
    ∧ (Cert.Pre_fox_fwd_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.1 = (fun _ => 1#1)
    ∧ (Cert.Pre_fox_fwd_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_fox_fwd_finite [hPre_fox_fwd_finite : Cert.Pre_fox_fwd_finite.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_fox_fwd_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).1 = (fun _ => 1#1)
    ∧ (Cert.Pre_fox_fwd_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.1 = (fun _ => 1#1)
    ∧ (Cert.Pre_fox_fwd_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_mla_finite [hKernel3Ideal : Cert.Kernel3Ideal.Facts] [hPre_mla_finite : Cert.Pre_mla_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_mla_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_mla_finite [hReference3Ideal : Cert.Reference3Ideal.Facts] [hPre_mla_finite : Cert.Pre_mla_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_mla_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_fox_finite [hKernel4Ideal : Cert.Kernel4Ideal.Facts] [hPre_fox_finite : Cert.Pre_fox_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_fox_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_fox_finite [hReference4Ideal : Cert.Reference4Ideal.Facts] [hPre_fox_finite : Cert.Pre_fox_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_fox_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_q_a_norm_finite [hKernel5Ideal : Cert.Kernel5Ideal.Facts] [hPre_q_a_norm_finite : Cert.Pre_q_a_norm_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_q_a_norm_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_q_a_norm_finite [hReference5Ideal : Cert.Reference5Ideal.Facts] [hPre_q_a_norm_finite : Cert.Pre_q_a_norm_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_q_a_norm_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_kv_a_norm_finite [hKernel6Ideal : Cert.Kernel6Ideal.Facts] [hPre_kv_a_norm_finite : Cert.Pre_kv_a_norm_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_kv_a_norm_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_kv_a_norm_finite [hReference6Ideal : Cert.Reference6Ideal.Facts] [hPre_kv_a_norm_finite : Cert.Pre_kv_a_norm_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_kv_a_norm_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_q_a_dx_finite [hKernel7Ideal : Cert.Kernel7Ideal.Facts] [hPre_q_a_dx_finite : Cert.Pre_q_a_dx_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_q_a_dx_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_q_a_dx_finite [hReference7Ideal : Cert.Reference7Ideal.Facts] [hPre_q_a_dx_finite : Cert.Pre_q_a_dx_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_q_a_dx_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_ffn_norm_finite [hKernel8Ideal : Cert.Kernel8Ideal.Facts] [hPre_ffn_norm_finite : Cert.Pre_ffn_norm_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_ffn_norm_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_ffn_norm_finite [hReference8Ideal : Cert.Reference8Ideal.Facts] [hPre_ffn_norm_finite : Cert.Pre_ffn_norm_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_ffn_norm_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Kernel9Ideal_pre_qkv_dx_finite [hKernel9Ideal : Cert.Kernel9Ideal.Facts] [hPre_qkv_dx_finite : Cert.Pre_qkv_dx_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_qkv_dx_finite m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Reference9Ideal_pre_qkv_dx_finite [hReference9Ideal : Cert.Reference9Ideal.Facts] [hPre_qkv_dx_finite : Cert.Pre_qkv_dx_finite.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_qkv_dx_finite m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel10Ideal_pre_kv_a_dx_finite [hKernel10Ideal : Cert.Kernel10Ideal.Facts] [hPre_kv_a_dx_finite : Cert.Pre_kv_a_dx_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_kv_a_dx_finite m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10Ideal_pre_kv_a_dx_finite [hReference10Ideal : Cert.Reference10Ideal.Facts] [hPre_kv_a_dx_finite : Cert.Pre_kv_a_dx_finite.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_kv_a_dx_finite m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_loss_finite [hKernel11Ideal : Cert.Kernel11Ideal.Facts] [hPre_loss_finite : Cert.Pre_loss_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_loss_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_loss_finite [hReference11Ideal : Cert.Reference11Ideal.Facts] [hPre_loss_finite : Cert.Pre_loss_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_loss_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Kernel13Ideal_pre_gate_finite [hKernel13Ideal : Cert.Kernel13Ideal.Facts] [hPre_gate_finite : Cert.Pre_gate_finite.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_gate_finite m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Reference13Ideal_pre_gate_finite [hReference13Ideal : Cert.Reference13Ideal.Facts] [hPre_gate_finite : Cert.Pre_gate_finite.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_gate_finite m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Kernel14Ideal_pre_mla_fwd_finite [hKernel14Ideal : Cert.Kernel14Ideal.Facts] [hPre_mla_fwd_finite : Cert.Pre_mla_fwd_finite.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_mla_fwd_finite m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Reference14Ideal_pre_mla_fwd_finite [hReference14Ideal : Cert.Reference14Ideal.Facts] [hPre_mla_fwd_finite : Cert.Pre_mla_fwd_finite.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_mla_fwd_finite m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Kernel15Ideal_pre_fox_fwd_finite [hKernel15Ideal : Cert.Kernel15Ideal.Facts] [hPre_fox_fwd_finite : Cert.Pre_fox_fwd_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_fox_fwd_finite m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Reference15Ideal_pre_fox_fwd_finite [hReference15Ideal : Cert.Reference15Ideal.Facts] [hPre_fox_fwd_finite : Cert.Pre_fox_fwd_finite.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_fox_fwd_finite m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def preserves_Kernel3_Kernel3Ideal : Prop :=
  IdealRules.named_const.Statement Cert.Kernel3Ideal.κ "mask" .f32 0xF149F2CA#32 ⊥

def algebraic_Kernel3Ideal_Reference3Ideal_pre_mla_finite [hKernel3Ideal : Cert.Kernel3Ideal.Facts] [hReference3Ideal : Cert.Reference3Ideal.Facts] [hPre_mla_finite : Cert.Pre_mla_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_mla_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v101)) (v1 : (c : Dev Cert.Kernel3Ideal.nD) → Buf (Elt Ideal) ((c.tc : Thread Cert.Kernel3Ideal.nD Cert.Kernel3Ideal.τ).loc Cert.Kernel3Ideal.main_v102)) (v2 : (c : Dev Cert.Kernel3Ideal.nD) → Buf (Elt Ideal) ((c.tc : Thread Cert.Kernel3Ideal.nD Cert.Kernel3Ideal.τ).loc Cert.Kernel3Ideal.main_v103)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v101) = v0 c
          ∧ r.2.mem ((c.tc : Thread Cert.Kernel3Ideal.nD Cert.Kernel3Ideal.τ).loc Cert.Kernel3Ideal.main_v102) = v1 c
          ∧ r.2.mem ((c.tc : Thread Cert.Kernel3Ideal.nD Cert.Kernel3Ideal.τ).loc Cert.Kernel3Ideal.main_v103) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_v57) = v1 c
          ∧ r.2.mem ((c.tc : Thread Cert.Reference3Ideal.nD Cert.Reference3Ideal.τ).loc Cert.Reference3Ideal.main_v40) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.named_const.Statement Cert.Kernel4Ideal.κ "mask" .f32 0xF149F2CA#32 ⊥

def algebraic_Kernel4Ideal_Reference4Ideal_pre_fox_finite [hKernel4Ideal : Cert.Kernel4Ideal.Facts] [hReference4Ideal : Cert.Reference4Ideal.Facts] [hPre_fox_finite : Cert.Pre_fox_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_fox_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v146)) (v1 : (c : Dev Cert.Kernel4Ideal.nD) → Buf (Elt Ideal) ((c.tc : Thread Cert.Kernel4Ideal.nD Cert.Kernel4Ideal.τ).loc Cert.Kernel4Ideal.main_v147)) (v2 : (c : Dev Cert.Kernel4Ideal.nD) → Buf (Elt Ideal) ((c.tc : Thread Cert.Kernel4Ideal.nD Cert.Kernel4Ideal.τ).loc Cert.Kernel4Ideal.main_v148)) (v3 : (c : Dev Cert.Kernel4Ideal.nD) → Buf (Elt Ideal) ((c.tc : Thread Cert.Kernel4Ideal.nD Cert.Kernel4Ideal.τ).loc Cert.Kernel4Ideal.main_v150)) (v4 : (c : Dev Cert.Kernel4Ideal.nD) → Buf (Elt Ideal) ((c.tc : Thread Cert.Kernel4Ideal.nD Cert.Kernel4Ideal.τ).loc Cert.Kernel4Ideal.main_v152)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v146) = v0 c
          ∧ r.2.mem ((c.tc : Thread Cert.Kernel4Ideal.nD Cert.Kernel4Ideal.τ).loc Cert.Kernel4Ideal.main_v147) = v1 c
          ∧ r.2.mem ((c.tc : Thread Cert.Kernel4Ideal.nD Cert.Kernel4Ideal.τ).loc Cert.Kernel4Ideal.main_v148) = v2 c
          ∧ r.2.mem ((c.tc : Thread Cert.Kernel4Ideal.nD Cert.Kernel4Ideal.τ).loc Cert.Kernel4Ideal.main_v150) = v3 c
          ∧ r.2.mem ((c.tc : Thread Cert.Kernel4Ideal.nD Cert.Kernel4Ideal.τ).loc Cert.Kernel4Ideal.main_v152) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v71) = v0 c
          ∧ r.2.mem ((c.tc : Thread Cert.Reference4Ideal.nD Cert.Reference4Ideal.τ).loc Cert.Reference4Ideal.main_v70) = v1 c
          ∧ r.2.mem ((c.tc : Thread Cert.Reference4Ideal.nD Cert.Reference4Ideal.τ).loc Cert.Reference4Ideal.main_v46) = v2 c
          ∧ r.2.mem ((c.tc : Thread Cert.Reference4Ideal.nD Cert.Reference4Ideal.τ).loc Cert.Reference4Ideal.main_v67) = v3 c
          ∧ r.2.mem ((c.tc : Thread Cert.Reference4Ideal.nD Cert.Reference4Ideal.τ).loc Cert.Reference4Ideal.main_v72) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_q_a_norm_finite [hKernel5Ideal : Cert.Kernel5Ideal.Facts] [hReference5Ideal : Cert.Reference5Ideal.Facts] [hPre_q_a_norm_finite : Cert.Pre_q_a_norm_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_q_a_norm_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_v36) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_kv_a_norm_finite [hKernel6Ideal : Cert.Kernel6Ideal.Facts] [hReference6Ideal : Cert.Reference6Ideal.Facts] [hPre_kv_a_norm_finite : Cert.Pre_kv_a_norm_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_kv_a_norm_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v35) = v0 c
          ∧ r.2.mem ((c.tc : Thread Cert.Reference6Ideal.nD Cert.Reference6Ideal.τ).loc Cert.Reference6Ideal.main_v36) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_q_a_dx_finite [hKernel7Ideal : Cert.Kernel7Ideal.Facts] [hReference7Ideal : Cert.Reference7Ideal.Facts] [hPre_q_a_dx_finite : Cert.Pre_q_a_dx_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_q_a_dx_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v38) = v0 c
          ∧ r.2.mem ((c.tc : Thread Cert.Reference7Ideal.nD Cert.Reference7Ideal.τ).loc Cert.Reference7Ideal.main_v39) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_ffn_norm_finite [hKernel8Ideal : Cert.Kernel8Ideal.Facts] [hReference8Ideal : Cert.Reference8Ideal.Facts] [hPre_ffn_norm_finite : Cert.Pre_ffn_norm_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_ffn_norm_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_v39) = v1 c
          ∧ r.2.mem ((c.tc : Thread Cert.Reference8Ideal.nD Cert.Reference8Ideal.τ).loc Cert.Reference8Ideal.main_v40) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_qkv_dx_finite [hKernel9Ideal : Cert.Kernel9Ideal.Facts] [hReference9Ideal : Cert.Reference9Ideal.Facts] [hPre_qkv_dx_finite : Cert.Pre_qkv_dx_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_qkv_dx_finite m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v39) = v0 c
          ∧ r.2.mem ((c.tc : Thread Cert.Reference9Ideal.nD Cert.Reference9Ideal.τ).loc Cert.Reference9Ideal.main_v40) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal_pre_kv_a_dx_finite [hKernel10Ideal : Cert.Kernel10Ideal.Facts] [hReference10Ideal : Cert.Reference10Ideal.Facts] [hPre_kv_a_dx_finite : Cert.Pre_kv_a_dx_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_kv_a_dx_finite m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v38) = v0 c
          ∧ r.2.mem ((c.tc : Thread Cert.Reference10Ideal.nD Cert.Reference10Ideal.τ).loc Cert.Reference10Ideal.main_v39) = v1 c
          ∧ r.2.mem ((c.tc : Thread Cert.Reference10Ideal.nD Cert.Reference10Ideal.τ).loc Cert.Reference10Ideal.main_v40) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal_pre_loss_finite [hKernel11Ideal : Cert.Kernel11Ideal.Facts] [hReference11Ideal : Cert.Reference11Ideal.Facts] [hPre_loss_finite : Cert.Pre_loss_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_loss_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)) (v3 : (c : Dev Cert.Kernel11Ideal.nD) → Buf (Elt Ideal) ((c.tc : Thread Cert.Kernel11Ideal.nD Cert.Kernel11Ideal.τ).loc Cert.Kernel11Ideal.main_v1_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_v1_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v50) = v0 c
          ∧ r.2.mem ((c.tc : Thread Cert.Reference11Ideal.nD Cert.Reference11Ideal.τ).loc Cert.Reference11Ideal.main_v51) = v1 c
          ∧ r.2.mem ((c.tc : Thread Cert.Reference11Ideal.nD Cert.Reference11Ideal.τ).loc Cert.Reference11Ideal.main_v52) = v2 c
          ∧ r.2.mem ((c.tc : Thread Cert.Reference11Ideal.nD Cert.Reference11Ideal.τ).loc Cert.Reference11Ideal.main_v53) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v13) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal_pre_gate_finite [hKernel13Ideal : Cert.Kernel13Ideal.Facts] [hReference13Ideal : Cert.Reference13Ideal.Facts] [hPre_gate_finite : Cert.Pre_gate_finite.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_gate_finite m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_v13) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  IdealRules.named_const.Statement Cert.Kernel14Ideal.κ "mask" .f32 0xF149F2CA#32 ⊥

def algebraic_Kernel14Ideal_Reference14Ideal_pre_mla_fwd_finite [hKernel14Ideal : Cert.Kernel14Ideal.Facts] [hReference14Ideal : Cert.Reference14Ideal.Facts] [hPre_mla_fwd_finite : Cert.Pre_mla_fwd_finite.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_mla_fwd_finite m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v13_0)) (v1 : (c : Dev Cert.Kernel14Ideal.nD) → Buf (Elt Ideal) ((c.tc : Thread Cert.Kernel14Ideal.nD Cert.Kernel14Ideal.τ).loc Cert.Kernel14Ideal.main_v14)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v13_0) = v0 c
          ∧ r.2.mem ((c.tc : Thread Cert.Kernel14Ideal.nD Cert.Kernel14Ideal.τ).loc Cert.Kernel14Ideal.main_v14) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v22) = v0 c
          ∧ r.2.mem ((c.tc : Thread Cert.Reference14Ideal.nD Cert.Reference14Ideal.τ).loc Cert.Reference14Ideal.main_v29) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  IdealRules.named_const.Statement Cert.Kernel15Ideal.κ "mask" .f32 0xF149F2CA#32 ⊥

def algebraic_Kernel15Ideal_Reference15Ideal_pre_fox_fwd_finite [hKernel15Ideal : Cert.Kernel15Ideal.Facts] [hReference15Ideal : Cert.Reference15Ideal.Facts] [hPre_fox_fwd_finite : Cert.Pre_fox_fwd_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_fox_fwd_finite m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v56_0)) (v1 : (c : Dev Cert.Kernel15Ideal.nD) → Buf (Elt Ideal) ((c.tc : Thread Cert.Kernel15Ideal.nD Cert.Kernel15Ideal.τ).loc Cert.Kernel15Ideal.main_v57)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v56_0) = v0 c
          ∧ r.2.mem ((c.tc : Thread Cert.Kernel15Ideal.nD Cert.Kernel15Ideal.τ).loc Cert.Kernel15Ideal.main_v57) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v35) = v0 c
          ∧ r.2.mem ((c.tc : Thread Cert.Reference15Ideal.nD Cert.Reference15Ideal.τ).loc Cert.Reference15Ideal.main_v36) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_mla_finite : Cert.Pre_mla_finite.Facts) (hPre_fox_finite : Cert.Pre_fox_finite.Facts) (hPre_q_a_norm_finite : Cert.Pre_q_a_norm_finite.Facts) (hPre_kv_a_norm_finite : Cert.Pre_kv_a_norm_finite.Facts) (hPre_q_a_dx_finite : Cert.Pre_q_a_dx_finite.Facts) (hPre_ffn_norm_finite : Cert.Pre_ffn_norm_finite.Facts) (hPre_qkv_dx_finite : Cert.Pre_qkv_dx_finite.Facts) (hPre_kv_a_dx_finite : Cert.Pre_kv_a_dx_finite.Facts) (hPre_loss_finite : Cert.Pre_loss_finite.Facts) (hPre_gate_finite : Cert.Pre_gate_finite.Facts) (hPre_mla_fwd_finite : Cert.Pre_mla_fwd_finite.Facts) (hPre_fox_fwd_finite : Cert.Pre_fox_fwd_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_mla_finite (hKernel3Ideal := hKernel3Ideal) (hPre_mla_finite := hPre_mla_finite)
    ∧ quiescent_Reference3Ideal (hReference3Ideal := hReference3Ideal)
    ∧ quiescent_Reference3Ideal_pre_mla_finite (hReference3Ideal := hReference3Ideal) (hPre_mla_finite := hPre_mla_finite)
    ∧ quiescent_Kernel4 (hKernel4 := hKernel4)
    ∧ quiescent_Kernel4Ideal (hKernel4Ideal := hKernel4Ideal)
    ∧ quiescent_Kernel4Ideal_pre_fox_finite (hKernel4Ideal := hKernel4Ideal) (hPre_fox_finite := hPre_fox_finite)
    ∧ quiescent_Reference4Ideal (hReference4Ideal := hReference4Ideal)
    ∧ quiescent_Reference4Ideal_pre_fox_finite (hReference4Ideal := hReference4Ideal) (hPre_fox_finite := hPre_fox_finite)
    ∧ quiescent_Kernel5 (hKernel5 := hKernel5)
    ∧ quiescent_Kernel5Ideal (hKernel5Ideal := hKernel5Ideal)
    ∧ quiescent_Kernel5Ideal_pre_q_a_norm_finite (hKernel5Ideal := hKernel5Ideal) (hPre_q_a_norm_finite := hPre_q_a_norm_finite)
    ∧ quiescent_Reference5Ideal (hReference5Ideal := hReference5Ideal)
    ∧ quiescent_Reference5Ideal_pre_q_a_norm_finite (hReference5Ideal := hReference5Ideal) (hPre_q_a_norm_finite := hPre_q_a_norm_finite)
    ∧ quiescent_Kernel6 (hKernel6 := hKernel6)
    ∧ quiescent_Kernel6Ideal (hKernel6Ideal := hKernel6Ideal)
    ∧ quiescent_Kernel6Ideal_pre_kv_a_norm_finite (hKernel6Ideal := hKernel6Ideal) (hPre_kv_a_norm_finite := hPre_kv_a_norm_finite)
    ∧ quiescent_Reference6Ideal (hReference6Ideal := hReference6Ideal)
    ∧ quiescent_Reference6Ideal_pre_kv_a_norm_finite (hReference6Ideal := hReference6Ideal) (hPre_kv_a_norm_finite := hPre_kv_a_norm_finite)
    ∧ quiescent_Kernel7 (hKernel7 := hKernel7)
    ∧ quiescent_Kernel7Ideal (hKernel7Ideal := hKernel7Ideal)
    ∧ quiescent_Kernel7Ideal_pre_q_a_dx_finite (hKernel7Ideal := hKernel7Ideal) (hPre_q_a_dx_finite := hPre_q_a_dx_finite)
    ∧ quiescent_Reference7Ideal (hReference7Ideal := hReference7Ideal)
    ∧ quiescent_Reference7Ideal_pre_q_a_dx_finite (hReference7Ideal := hReference7Ideal) (hPre_q_a_dx_finite := hPre_q_a_dx_finite)
    ∧ quiescent_Kernel8 (hKernel8 := hKernel8)
    ∧ quiescent_Kernel8Ideal (hKernel8Ideal := hKernel8Ideal)
    ∧ quiescent_Kernel8Ideal_pre_ffn_norm_finite (hKernel8Ideal := hKernel8Ideal) (hPre_ffn_norm_finite := hPre_ffn_norm_finite)
    ∧ quiescent_Reference8Ideal (hReference8Ideal := hReference8Ideal)
    ∧ quiescent_Reference8Ideal_pre_ffn_norm_finite (hReference8Ideal := hReference8Ideal) (hPre_ffn_norm_finite := hPre_ffn_norm_finite)
    ∧ quiescent_Kernel9 (hKernel9 := hKernel9)
    ∧ quiescent_Kernel9Ideal (hKernel9Ideal := hKernel9Ideal)
    ∧ quiescent_Kernel9Ideal_pre_qkv_dx_finite (hKernel9Ideal := hKernel9Ideal) (hPre_qkv_dx_finite := hPre_qkv_dx_finite)
    ∧ quiescent_Reference9Ideal (hReference9Ideal := hReference9Ideal)
    ∧ quiescent_Reference9Ideal_pre_qkv_dx_finite (hReference9Ideal := hReference9Ideal) (hPre_qkv_dx_finite := hPre_qkv_dx_finite)
    ∧ quiescent_Kernel10 (hKernel10 := hKernel10)
    ∧ quiescent_Kernel10Ideal (hKernel10Ideal := hKernel10Ideal)
    ∧ quiescent_Kernel10Ideal_pre_kv_a_dx_finite (hKernel10Ideal := hKernel10Ideal) (hPre_kv_a_dx_finite := hPre_kv_a_dx_finite)
    ∧ quiescent_Reference10Ideal (hReference10Ideal := hReference10Ideal)
    ∧ quiescent_Reference10Ideal_pre_kv_a_dx_finite (hReference10Ideal := hReference10Ideal) (hPre_kv_a_dx_finite := hPre_kv_a_dx_finite)
    ∧ quiescent_Kernel11 (hKernel11 := hKernel11)
    ∧ quiescent_Kernel11Ideal (hKernel11Ideal := hKernel11Ideal)
    ∧ quiescent_Kernel11Ideal_pre_loss_finite (hKernel11Ideal := hKernel11Ideal) (hPre_loss_finite := hPre_loss_finite)
    ∧ quiescent_Reference11Ideal (hReference11Ideal := hReference11Ideal)
    ∧ quiescent_Reference11Ideal_pre_loss_finite (hReference11Ideal := hReference11Ideal) (hPre_loss_finite := hPre_loss_finite)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_gate_finite (hKernel13Ideal := hKernel13Ideal) (hPre_gate_finite := hPre_gate_finite)
    ∧ quiescent_Reference13Ideal (hReference13Ideal := hReference13Ideal)
    ∧ quiescent_Reference13Ideal_pre_gate_finite (hReference13Ideal := hReference13Ideal) (hPre_gate_finite := hPre_gate_finite)
    ∧ quiescent_Kernel14 (hKernel14 := hKernel14)
    ∧ quiescent_Kernel14Ideal (hKernel14Ideal := hKernel14Ideal)
    ∧ quiescent_Kernel14Ideal_pre_mla_fwd_finite (hKernel14Ideal := hKernel14Ideal) (hPre_mla_fwd_finite := hPre_mla_fwd_finite)
    ∧ quiescent_Reference14Ideal (hReference14Ideal := hReference14Ideal)
    ∧ quiescent_Reference14Ideal_pre_mla_fwd_finite (hReference14Ideal := hReference14Ideal) (hPre_mla_fwd_finite := hPre_mla_fwd_finite)
    ∧ quiescent_Kernel15 (hKernel15 := hKernel15)
    ∧ quiescent_Kernel15Ideal (hKernel15Ideal := hKernel15Ideal)
    ∧ quiescent_Kernel15Ideal_pre_fox_fwd_finite (hKernel15Ideal := hKernel15Ideal) (hPre_fox_fwd_finite := hPre_fox_fwd_finite)
    ∧ quiescent_Reference15Ideal (hReference15Ideal := hReference15Ideal)
    ∧ quiescent_Reference15Ideal_pre_fox_fwd_finite (hReference15Ideal := hReference15Ideal) (hPre_fox_fwd_finite := hPre_fox_fwd_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_mla_finite (hKernel3Ideal := hKernel3Ideal) (hReference3Ideal := hReference3Ideal) (hPre_mla_finite := hPre_mla_finite)
    ∧ preserves_Kernel4_Kernel4Ideal
    ∧ algebraic_Kernel4Ideal_Reference4Ideal_pre_fox_finite (hKernel4Ideal := hKernel4Ideal) (hReference4Ideal := hReference4Ideal) (hPre_fox_finite := hPre_fox_finite)
    ∧ preserves_Kernel5_Kernel5Ideal
    ∧ algebraic_Kernel5Ideal_Reference5Ideal_pre_q_a_norm_finite (hKernel5Ideal := hKernel5Ideal) (hReference5Ideal := hReference5Ideal) (hPre_q_a_norm_finite := hPre_q_a_norm_finite)
    ∧ preserves_Kernel6_Kernel6Ideal
    ∧ algebraic_Kernel6Ideal_Reference6Ideal_pre_kv_a_norm_finite (hKernel6Ideal := hKernel6Ideal) (hReference6Ideal := hReference6Ideal) (hPre_kv_a_norm_finite := hPre_kv_a_norm_finite)
    ∧ preserves_Kernel7_Kernel7Ideal
    ∧ algebraic_Kernel7Ideal_Reference7Ideal_pre_q_a_dx_finite (hKernel7Ideal := hKernel7Ideal) (hReference7Ideal := hReference7Ideal) (hPre_q_a_dx_finite := hPre_q_a_dx_finite)
    ∧ preserves_Kernel8_Kernel8Ideal
    ∧ algebraic_Kernel8Ideal_Reference8Ideal_pre_ffn_norm_finite (hKernel8Ideal := hKernel8Ideal) (hReference8Ideal := hReference8Ideal) (hPre_ffn_norm_finite := hPre_ffn_norm_finite)
    ∧ preserves_Kernel9_Kernel9Ideal
    ∧ algebraic_Kernel9Ideal_Reference9Ideal_pre_qkv_dx_finite (hKernel9Ideal := hKernel9Ideal) (hReference9Ideal := hReference9Ideal) (hPre_qkv_dx_finite := hPre_qkv_dx_finite)
    ∧ preserves_Kernel10_Kernel10Ideal
    ∧ algebraic_Kernel10Ideal_Reference10Ideal_pre_kv_a_dx_finite (hKernel10Ideal := hKernel10Ideal) (hReference10Ideal := hReference10Ideal) (hPre_kv_a_dx_finite := hPre_kv_a_dx_finite)
    ∧ preserves_Kernel11_Kernel11Ideal
    ∧ algebraic_Kernel11Ideal_Reference11Ideal_pre_loss_finite (hKernel11Ideal := hKernel11Ideal) (hReference11Ideal := hReference11Ideal) (hPre_loss_finite := hPre_loss_finite)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_gate_finite (hKernel13Ideal := hKernel13Ideal) (hReference13Ideal := hReference13Ideal) (hPre_gate_finite := hPre_gate_finite)
    ∧ preserves_Kernel14_Kernel14Ideal
    ∧ algebraic_Kernel14Ideal_Reference14Ideal_pre_mla_fwd_finite (hKernel14Ideal := hKernel14Ideal) (hReference14Ideal := hReference14Ideal) (hPre_mla_fwd_finite := hPre_mla_fwd_finite)
    ∧ preserves_Kernel15_Kernel15Ideal
    ∧ algebraic_Kernel15Ideal_Reference15Ideal_pre_fox_fwd_finite (hKernel15Ideal := hKernel15Ideal) (hReference15Ideal := hReference15Ideal) (hPre_fox_fwd_finite := hPre_fox_fwd_finite)
-- ==== Pre_ffn_norm_finite.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S8192x4096 : S_.BroadcastsInDim S8192x4096 (![] : Fin 0 → Fin S8192x4096.rank)

variable [Facts]

def fn {F : FTy → Type} [FloatOps F] (main_arg0 : FVec F S8192x1024 .f32) (main_arg1 : FVec F S1024 .f32) (main_arg2 : FVec F S1024x4096 .f32) (main_arg3 : FVec F S8192x1024 .f32) (main_arg4 : FVec F S8192x4096 .f32) : IVec S8192x1024 1 × IVec S1024 1 × IVec S1024x4096 1 × IVec S8192x4096 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S8192x4096 .f32 := Host.absf main_arg4
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  (main_v2, main_v5, main_v8, main_v11)
-- ==== Pre_fox_finite.lean ====
abbrev S16x8192x64 : Shape := ⟨3, ![16, 8192, 64]⟩
abbrev S16x8192 : Shape := ⟨2, ![16, 8192]⟩
abbrev S_ : Shape := ⟨0, ![]⟩

class Facts : Prop where
  bcast_S_S16x8192x64 : S_.BroadcastsInDim S16x8192x64 (![] : Fin 0 → Fin S16x8192x64.rank)
  bcast_S_S16x8192 : S_.BroadcastsInDim S16x8192 (![] : Fin 0 → Fin S16x8192.rank)

variable [Facts]

def fn {F : FTy → Type} [FloatOps F] (main_arg0 : FVec F S16x8192x64 .f32) (main_arg1 : FVec F S16x8192x64 .f32) (main_arg2 : FVec F S16x8192x64 .f32) (main_arg3 : FVec F S16x8192 .f32) (main_arg4 : FVec F S16x8192x64 .f32) : IVec S16x8192x64 1 × IVec S16x8192x64 1 × IVec S16x8192x64 1 × IVec S16x8192 1 × IVec S16x8192x64 1 :=
  let main_v0 : FVec F S16x8192x64 .f32 := Host.absf main_arg0
  let main_cst : FVec F S_ .f32 := constant S_ .f32 0x7F800000#32
  let main_v1 : FVec F S16x8192x64 .f32 := broadcastInDim S16x8192x64 ![] bcast_S_S16x8192x64 main_cst
  let main_v2 : IVec S16x8192x64 1 := cmpf .olt main_v0 main_v1
  let main_v3 : FVec F S16x8192x64 .f32 := Host.absf main_arg1
  let main_cst_0 : FVec F S_ .f32 := constant S_ .f32 0x7F800000#32
  let main_v4 : FVec F S16x8192x64 .f32 := broadcastInDim S16x8192x64 ![] bcast_S_S16x8192x64 main_cst_0
  let main_v5 : IVec S16x8192x64 1 := cmpf .olt main_v3 main_v4
  let main_v6 : FVec F S16x8192x64 .f32 := Host.absf main_arg2
  let main_cst_1 : FVec F S_ .f32 := constant S_ .f32 0x7F800000#32
  let main_v7 : FVec F S16x8192x64 .f32 := broadcastInDim S16x8192x64 ![] bcast_S_S16x8192x64 main_cst_1
  let main_v8 : IVec S16x8192x64 1 := cmpf .olt main_v6 main_v7
  let main_v9 : FVec F S16x8192 .f32 := Host.absf main_arg3
  let main_cst_2 : FVec F S_ .f32 := constant S_ .f32 0x7F800000#32
  let main_v10 : FVec F S16x8192 .f32 := broadcastInDim S16x8192 ![] bcast_S_S16x8192 main_cst_2
  let main_v11 : IVec S16x8192 1 := cmpf .olt main_v9 main_v10
  let main_v12 : FVec F S16x8192x64 .f32 := Host.absf main_arg4
  let main_cst_3 : FVec F S_ .f32 := constant S_ .f32 0x7F800000#32
  let main_v13 : FVec F S16x8192x64 .f32 := broadcastInDim S16x8192x64 ![] bcast_S_S16x8192x64 main_cst_3
  let main_v14 : IVec S16x8192x64 1 := cmpf .olt main_v12 main_v13
  (main_v2, main_v5, main_v8, main_v11, main_v14)
-- ==== Pre_fox_fwd_finite.lean ====
abbrev S16x8192x64 : Shape := ⟨3, ![16, 8192, 64]⟩
abbrev S16x8192 : Shape := ⟨2, ![16, 8192]⟩
abbrev S_ : Shape := ⟨0, ![]⟩

class Facts : Prop where
  bcast_S_S16x8192x64 : S_.BroadcastsInDim S16x8192x64 (![] : Fin 0 → Fin S16x8192x64.rank)
  bcast_S_S16x8192 : S_.BroadcastsInDim S16x8192 (![] : Fin 0 → Fin S16x8192.rank)

variable [Facts]

def fn {F : FTy → Type} [FloatOps F] (main_arg0 : FVec F S16x8192x64 .f32) (main_arg1 : FVec F S16x8192x64 .f32) (main_arg2 : FVec F S16x8192x64 .f32) (main_arg3 : FVec F S16x8192 .f32) : IVec S16x8192x64 1 × IVec S16x8192x64 1 × IVec S16x8192 1 :=
  let main_v0 : FVec F S16x8192x64 .f32 := Host.absf main_arg0
  let main_cst : FVec F S_ .f32 := constant S_ .f32 0x7F800000#32
  let main_v1 : FVec F S16x8192x64 .f32 := broadcastInDim S16x8192x64 ![] bcast_S_S16x8192x64 main_cst
  let main_v2 : IVec S16x8192x64 1 := cmpf .olt main_v0 main_v1
  let main_v3 : FVec F S16x8192x64 .f32 := Host.absf main_arg1
  let main_cst_0 : FVec F S_ .f32 := constant S_ .f32 0x7F800000#32
  let main_v4 : FVec F S16x8192x64 .f32 := broadcastInDim S16x8192x64 ![] bcast_S_S16x8192x64 main_cst_0
  let main_v5 : IVec S16x8192x64 1 := cmpf .olt main_v3 main_v4
  let main_v6 : FVec F S16x8192 .f32 := Host.absf main_arg3
  let main_cst_1 : FVec F S_ .f32 := constant S_ .f32 0x7F800000#32
  let main_v7 : FVec F S16x8192 .f32 := broadcastInDim S16x8192 ![] bcast_S_S16x8192 main_cst_1
  let main_v8 : IVec S16x8192 1 := cmpf .olt main_v6 main_v7
  (main_v2, main_v5, main_v8)
-- ==== Pre_gate_finite.lean ====
abbrev S16x8192 : Shape := ⟨2, ![16, 8192]⟩
abbrev S16 : Shape := ⟨1, ![16]⟩
abbrev S_ : Shape := ⟨0, ![]⟩

class Facts : Prop where
  bcast_S_S16x8192 : S_.BroadcastsInDim S16x8192 (![] : Fin 0 → Fin S16x8192.rank)
  bcast_S_S16 : S_.BroadcastsInDim S16 (![] : Fin 0 → Fin S16.rank)

variable [Facts]

def fn {F : FTy → Type} [FloatOps F] (main_arg0 : FVec F S16x8192 .f32) (main_arg1 : FVec F S16x8192 .f32) (main_arg2 : FVec F S16x8192 .f32) (main_arg3 : FVec F S16 .f32) : IVec S16x8192 1 × IVec S16 1 :=
  let main_v0 : FVec F S16x8192 .f32 := Host.absf main_arg2
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_v3 : FVec F S16 .f32 := Host.absf main_arg3
  let main_cst_0 : FVec F S_ .f32 := constant S_ .f32 0x7F800000#32
  let main_v4 : FVec F S16 .f32 := broadcastInDim S16 ![] bcast_S_S16 main_cst_0
  let main_v5 : IVec S16 1 := cmpf .olt main_v3 main_v4
  (main_v2, main_v5)
-- ==== Pre_kv_a_dx_finite.lean ====
abbrev S8192x1024 : Shape := ⟨2, ![8192, 1024]⟩
abbrev S1024 : Shape := ⟨1, ![1024]⟩
abbrev S1024x320 : Shape := ⟨2, ![1024, 320]⟩
abbrev S8192x320 : Shape := ⟨2, ![8192, 320]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x320 : S_.BroadcastsInDim S1024x320 (![] : Fin 0 → Fin S1024x320.rank)
  bcast_S_S8192x320 : S_.BroadcastsInDim S8192x320 (![] : Fin 0 → Fin S8192x320.rank)

variable [Facts]

def fn {F : FTy → Type} [FloatOps F] (main_arg0 : FVec F S8192x1024 .f32) (main_arg1 : FVec F S1024 .f32) (main_arg2 : FVec F S1024x320 .f32) (main_arg3 : FVec F S8192x1024 .f32) (main_arg4 : FVec F S8192x320 .f32) : IVec S8192x1024 1 × IVec S1024 1 × IVec S1024x320 1 × IVec S8192x320 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x320 .f32 := Host.absf main_arg2
  let main_cst_1 : FVec F S_ .f32 := constant S_ .f32 0x7F800000#32
  let main_v7 : FVec F S1024x320 .f32 := broadcastInDim S1024x320 ![] bcast_S_S1024x320 main_cst_1
  let main_v8 : IVec S1024x320 1 := cmpf .olt main_v6 main_v7
  let main_v9 : FVec F S8192x320 .f32 := Host.absf main_arg4
  let main_cst_2 : FVec F S_ .f32 := constant S_ .f32 0x7F800000#32
  let main_v10 : FVec F S8192x320 .f32 := broadcastInDim S8192x320 ![] bcast_S_S8192x320 main_cst_2
  let main_v11 : IVec S8192x320 1 := cmpf .olt main_v9 main_v10
  (main_v2, main_v5, main_v8, main_v11)
-- ==== Pre_kv_a_norm_finite.lean ====
abbrev S8192x256 : Shape := ⟨2, ![8192, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  bcast_S_S256 : S_.BroadcastsInDim S256 (![] : Fin 0 → Fin S256.rank)

variable [Facts]

def fn {F : FTy → Type} [FloatOps F] (main_arg0 : FVec F S8192x256 .f32) (main_arg1 : FVec F S256 .f32) (main_arg2 : FVec F S8192x256 .f32) : IVec S8192x256 1 × IVec S256 1 × IVec S8192x256 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_v3 : FVec F S256 .f32 := Host.absf main_arg1
  let main_cst_0 : FVec F S_ .f32 := constant S_ .f32 0x7F800000#32
  let main_v4 : FVec F S256 .f32 := broadcastInDim S256 ![] bcast_S_S256 main_cst_0
  let main_v5 : IVec S256 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  (main_v2, main_v5, main_v8)
-- ==== Pre_loss_finite.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S1024 .f32) (main_arg2 : FVec F S8192x1024 .f32) : IVec S8192x1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_mla_finite.lean ====
abbrev S8x8192x192 : Shape := ⟨3, ![8, 8192, 192]⟩
abbrev S8x8192x128 : Shape := ⟨3, ![8, 8192, 128]⟩
abbrev S_ : Shape := ⟨0, ![]⟩

class Facts : Prop where
  bcast_S_S8x8192x192 : S_.BroadcastsInDim S8x8192x192 (![] : Fin 0 → Fin S8x8192x192.rank)
  bcast_S_S8x8192x128 : S_.BroadcastsInDim S8x8192x128 (![] : Fin 0 → Fin S8x8192x128.rank)

variable [Facts]

def fn {F : FTy → Type} [FloatOps F] (main_arg0 : FVec F S8x8192x192 .f32) (main_arg1 : FVec F S8x8192x192 .f32) (main_arg2 : FVec F S8x8192x128 .f32) (main_arg3 : FVec F S8x8192x128 .f32) : IVec S8x8192x192 1 × IVec S8x8192x192 1 × IVec S8x8192x128 1 × IVec S8x8192x128 1 :=
  let main_v0 : FVec F S8x8192x192 .f32 := Host.absf main_arg0
  let main_cst : FVec F S_ .f32 := constant S_ .f32 0x7F800000#32
  let main_v1 : FVec F S8x8192x192 .f32 := broadcastInDim S8x8192x192 ![] bcast_S_S8x8192x192 main_cst
  let main_v2 : IVec S8x8192x192 1 := cmpf .olt main_v0 main_v1
  let main_v3 : FVec F S8x8192x192 .f32 := Host.absf main_arg1
  let main_cst_0 : FVec F S_ .f32 := constant S_ .f32 0x7F800000#32
  let main_v4 : FVec F S8x8192x192 .f32 := broadcastInDim S8x8192x192 ![] bcast_S_S8x8192x192 main_cst_0
  let main_v5 : IVec S8x8192x192 1 := cmpf .olt main_v3 main_v4
  let main_v6 : FVec F S8x8192x128 .f32 := Host.absf main_arg2
  let main_cst_1 : FVec F S_ .f32 := constant S_ .f32 0x7F800000#32
  let main_v7 : FVec F S8x8192x128 .f32 := broadcastInDim S8x8192x128 ![] bcast_S_S8x8192x128 main_cst_1
  let main_v8 : IVec S8x8192x128 1 := cmpf .olt main_v6 main_v7
  let main_v9 : FVec F S8x8192x128 .f32 := Host.absf main_arg3
  let main_cst_2 : FVec F S_ .f32 := constant S_ .f32 0x7F800000#32
  let main_v10 : FVec F S8x8192x128 .f32 := broadcastInDim S8x8192x128 ![] bcast_S_S8x8192x128 main_cst_2
  let main_v11 : IVec S8x8192x128 1 := cmpf .olt main_v9 main_v10
  (main_v2, main_v5, main_v8, main_v11)
-- ==== Pre_mla_fwd_finite.lean ====
abbrev S8x8192x192 : Shape := ⟨3, ![8, 8192, 192]⟩
abbrev S8x8192x128 : Shape := ⟨3, ![8, 8192, 128]⟩
abbrev S_ : Shape := ⟨0, ![]⟩

class Facts : Prop where
  bcast_S_S8x8192x192 : S_.BroadcastsInDim S8x8192x192 (![] : Fin 0 → Fin S8x8192x192.rank)

variable [Facts]

def fn {F : FTy → Type} [FloatOps F] (main_arg0 : FVec F S8x8192x192 .f32) (main_arg1 : FVec F S8x8192x192 .f32) (main_arg2 : FVec F S8x8192x128 .f32) : IVec S8x8192x192 1 × IVec S8x8192x192 1 :=
  let main_v0 : FVec F S8x8192x192 .f32 := Host.absf main_arg0
  let main_cst : FVec F S_ .f32 := constant S_ .f32 0x7F800000#32
  let main_v1 : FVec F S8x8192x192 .f32 := broadcastInDim S8x8192x192 ![] bcast_S_S8x8192x192 main_cst
  let main_v2 : IVec S8x8192x192 1 := cmpf .olt main_v0 main_v1
  let main_v3 : FVec F S8x8192x192 .f32 := Host.absf main_arg1
  let main_cst_0 : FVec F S_ .f32 := constant S_ .f32 0x7F800000#32
  let main_v4 : FVec F S8x8192x192 .f32 := broadcastInDim S8x8192x192 ![] bcast_S_S8x8192x192 main_cst_0
  let main_v5 : IVec S8x8192x192 1 := cmpf .olt main_v3 main_v4
  (main_v2, main_v5)
-- ==== Pre_q_a_dx_finite.lean ====
abbrev S8192x1024 : Shape := ⟨2, ![8192, 1024]⟩
abbrev S1024 : Shape := ⟨1, ![1024]⟩
abbrev S1024x384 : Shape := ⟨2, ![1024, 384]⟩
abbrev S8192x384 : Shape := ⟨2, ![8192, 384]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x384 : S_.BroadcastsInDim S1024x384 (![] : Fin 0 → Fin S1024x384.rank)
  bcast_S_S8192x384 : S_.BroadcastsInDim S8192x384 (![] : Fin 0 → Fin S8192x384.rank)

variable [Facts]

def fn {F : FTy → Type} [FloatOps F] (main_arg0 : FVec F S8192x1024 .f32) (main_arg1 : FVec F S1024 .f32) (main_arg2 : FVec F S1024x384 .f32) (main_arg3 : FVec F S8192x1024 .f32) (main_arg4 : FVec F S8192x384 .f32) : IVec S8192x1024 1 × IVec S1024 1 × IVec S1024x384 1 × IVec S8192x384 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x384 .f32 := Host.absf main_arg2
  let main_cst_1 : FVec F S_ .f32 := constant S_ .f32 0x7F800000#32
  let main_v7 : FVec F S1024x384 .f32 := broadcastInDim S1024x384 ![] bcast_S_S1024x384 main_cst_1
  let main_v8 : IVec S1024x384 1 := cmpf .olt main_v6 main_v7
  let main_v9 : FVec F S8192x384 .f32 := Host.absf main_arg4
  let main_cst_2 : FVec F S_ .f32 := constant S_ .f32 0x7F800000#32
  let main_v10 : FVec F S8192x384 .f32 := broadcastInDim S8192x384 ![] bcast_S_S8192x384 main_cst_2
  let main_v11 : IVec S8192x384 1 := cmpf .olt main_v9 main_v10
  (main_v2, main_v5, main_v8, main_v11)
-- ==== Pre_q_a_norm_finite.lean ====
abbrev S8192x384 : Shape := ⟨2, ![8192, 384]⟩
abbrev S384 : Shape := ⟨1, ![384]⟩
abbrev S_ : Shape := ⟨0, ![]⟩

class Facts : Prop where
  bcast_S_S8192x384 : S_.BroadcastsInDim S8192x384 (![] : Fin 0 → Fin S8192x384.rank)
  bcast_S_S384 : S_.BroadcastsInDim S384 (![] : Fin 0 → Fin S384.rank)

variable [Facts]

def fn {F : FTy → Type} [FloatOps F] (main_arg0 : FVec F S8192x384 .f32) (main_arg1 : FVec F S384 .f32) (main_arg2 : FVec F S8192x384 .f32) : IVec S8192x384 1 × IVec S384 1 × IVec S8192x384 1 :=
  let main_v0 : FVec F S8192x384 .f32 := Host.absf main_arg0
  let main_cst : FVec F S_ .f32 := constant S_ .f32 0x7F800000#32
  let main_v1 : FVec F S8192x384 .f32 := broadcastInDim S8192x384 ![] bcast_S_S8192x384 main_cst
  let main_v2 : IVec S8192x384 1 := cmpf .olt main_v0 main_v1
  let main_v3 : FVec F S384 .f32 := Host.absf main_arg1
  let main_cst_0 : FVec F S_ .f32 := constant S_ .f32 0x7F800000#32
  let main_v4 : FVec F S384 .f32 := broadcastInDim S384 ![] bcast_S_S384 main_cst_0
  let main_v5 : IVec S384 1 := cmpf .olt main_v3 main_v4
  let main_v6 : FVec F S8192x384 .f32 := Host.absf main_arg2
  let main_cst_1 : FVec F S_ .f32 := constant S_ .f32 0x7F800000#32
  let main_v7 : FVec F S8192x384 .f32 := broadcastInDim S8192x384 ![] bcast_S_S8192x384 main_cst_1
  let main_v8 : IVec S8192x384 1 := cmpf .olt main_v6 main_v7
  (main_v2, main_v5, main_v8)
-- ==== Pre_qkv_dx_finite.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x3072 : S_.BroadcastsInDim S1024x3072 (![] : Fin 0 → Fin S1024x3072.rank)
  bcast_S_S8192x3072 : S_.BroadcastsInDim S8192x3072 (![] : Fin 0 → Fin S8192x3072.rank)

variable [Facts]

def fn {F : FTy → Type} [FloatOps F] (main_arg0 : FVec F S8192x1024 .f32) (main_arg1 : FVec F S1024 .f32) (main_arg2 : FVec F S1024x3072 .f32) (main_arg3 : FVec F S8192x1024 .f32) (main_arg4 : FVec F S8192x3072 .f32) (main_arg5 : FVec F S8192x1024 .f32) : IVec S8192x1024 1 × IVec S1024 1 × IVec S1024x3072 1 × IVec S8192x3072 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3072 .f32 := Host.absf main_arg2
  let main_cst_1 : FVec F S_ .f32 := constant S_ .f32 0x7F800000#32
  let main_v7 : FVec F S1024x3072 .f32 := broadcastInDim S1024x3072 ![] bcast_S_S1024x3072 main_cst_1
  let main_v8 : IVec S1024x3072 1 := cmpf .olt main_v6 main_v7
  let main_v9 : FVec F S8192x3072 .f32 := Host.absf main_arg4
  let main_cst_2 : FVec F S_ .f32 := constant S_ .f32 0x7F800000#32
  let main_v10 : FVec F S8192x3072 .f32 := broadcastInDim S8192x3072 ![] bcast_S_S8192x3072 main_cst_2
  let main_v11 : IVec S8192x3072 1 := cmpf .olt main_v9 main_v10
  let main_v12 : FVec F S8192x1024 .f32 := Host.absf main_arg5
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Kernel.lean ====
abbrev S8x8192x64 : Shape := ⟨3, ![8, 8192, 64]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x1024x64 : Shape := ⟨3, ![1, 1024, 64]⟩
abbrev S1024x64 : Shape := ⟨2, ![1024, 64]⟩
abbrev S1024x32 : Shape := ⟨2, ![1024, 32]⟩

abbrev nBuf : Space → Nat
  | .hbm => 29
  | .vmem => 8
  | .smem => 0
  | _ => 0

abbrev bufTy : (tb : Table) → Fin (tcTables nBuf tb) → BufTy
  | .hbm, ⟨0, _⟩ => ⟨S8x8192x64, .f32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S8192, .f32⟩
  | .hbm, ⟨18, _⟩ => ⟨S8192x1, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x64, .f32⟩
  | .hbm, ⟨26, _⟩ => ⟨S8192x32, .f32⟩
  | .hbm, ⟨27, _⟩ => ⟨S8192x64, .f32⟩
  | .hbm, ⟨28, _⟩ => ⟨S8x8192x64, .f32⟩
  | .local _ .vmem, ⟨0, _⟩ => ⟨S1x1024x64, .f32⟩
  | .local _ .vmem, ⟨1, _⟩ => ⟨S1x1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1x1024x64, .f32⟩
  | .local _ .vmem, ⟨7, _⟩ => ⟨S1x1024x64, .f32⟩
  | _, _ => ⟨S8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x8192x64 : Shape := ⟨3, ![8, 8192, 64]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8x8192x32 : Shape := ⟨3, ![8, 8192, 32]⟩
abbrev S1x8192x32 : Shape := ⟨3, ![1, 8192, 32]⟩

abbrev nBuf : Space → Nat
  | .hbm => 60
  | .vmem => 0
  | .smem => 0
  | _ => 0

abbrev bufTy : (tb : Table) → Fin (tcTables nBuf tb) → BufTy
  | .hbm, ⟨0, _⟩ => ⟨S8x8192x64, .f32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S8192, .f32⟩
  | .hbm, ⟨18, _⟩ => ⟨S8192x1, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8x8192x32, .f32⟩
  | .hbm, ⟨26, _⟩ => ⟨S8x8192x32, .f32⟩
  | .hbm, ⟨27, _⟩ => ⟨S1x8192x32, .f32⟩
  | .hbm, ⟨28, _⟩ => ⟨S8x8192x32, .f32⟩
  | .hbm, ⟨29, _⟩ => ⟨S8x8192x32, .f32⟩
  | .hbm, ⟨30, _⟩ => ⟨S1x8192x32, .f32⟩
  | .hbm, ⟨31, _⟩ => ⟨S8x8192x32, .f32⟩
  | .hbm, ⟨32, _⟩ => ⟨S8x8192x32, .f32⟩
  | .hbm, ⟨33, _⟩ => ⟨S8x8192x32, .f32⟩
  | .hbm, ⟨34, _⟩ => ⟨S1x8192x32, .f32⟩
  | .hbm, ⟨35, _⟩ => ⟨S8x8192x32, .f32⟩
  | .hbm, ⟨36, _⟩ => ⟨S8x8192x32, .f32⟩
  | .hbm, ⟨37, _⟩ => ⟨S1x8192x32, .f32⟩
  | .hbm, ⟨38, _⟩ => ⟨S8x8192x32, .f32⟩
  | .hbm, ⟨39, _⟩ => ⟨S8x8192x32, .f32⟩
  | .hbm, ⟨40, _⟩ => ⟨S8x8192x32, .f32⟩
  | .hbm, ⟨41, _⟩ => ⟨S8x8192x64, .f32⟩
  | .hbm, ⟨42, _⟩ => ⟨S8x8192x32, .f32⟩
  | .hbm, ⟨43, _⟩ => ⟨S8x8192x32, .f32⟩
  | .hbm, ⟨44, _⟩ => ⟨S8x8192x32, .f32⟩
  | .hbm, ⟨45, _⟩ => ⟨S8x8192x32, .f32⟩
  | .hbm, ⟨46, _⟩ => ⟨S8x8192x32, .f32⟩
  | .hbm, ⟨47, _⟩ => ⟨S8x8192x32, .f32⟩
  | .hbm, ⟨48, _⟩ => ⟨S8x8192x32, .f32⟩
  | .hbm, ⟨49, _⟩ => ⟨S8x8192x32, .f32⟩
  | .hbm, ⟨50, _⟩ => ⟨S8x8192x32, .f32⟩
  | .hbm, ⟨51, _⟩ => ⟨S8x8192x32, .f32⟩
  | .hbm, ⟨52, _⟩ => ⟨S8x8192x32, .f32⟩
  | .hbm, ⟨53, _⟩ => ⟨S8x8192x32, .f32⟩
  | .hbm, ⟨54, _⟩ => ⟨S8x8192x32, .f32⟩
  | .hbm, ⟨55, _⟩ => ⟨S_, .f32⟩
  | .hbm, ⟨56, _⟩ => ⟨S8x8192x64, .f32⟩
  | .hbm, ⟨57, _⟩ => ⟨S_, .f32⟩
  | .hbm, ⟨58, _⟩ => ⟨S8x8192x64, .f32⟩
  | .hbm, ⟨59, _⟩ => ⟨S8x8192x64, .f32⟩
  | _, _ => ⟨S8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_cst_4 : Ref sig .tc := ⟨.hbm, 55, rfl⟩
abbrev main_v49 : Ref sig .tc := ⟨.hbm, 56, rfl⟩
abbrev main_cst_5 : Ref sig .tc := ⟨.hbm, 57, rfl⟩
abbrev main_v50 : Ref sig .tc := ⟨.hbm, 58, rfl⟩
abbrev main_v51 : Ref sig .tc := ⟨.hbm, 59, rfl⟩

abbrev nD : Nat := 1
abbrev τ : Topo := Topo.v7x

variable {F : FTy → Type} [FloatOps F]
-- ==== Kernel2.lean ====
abbrev S8x8192x64 : Shape := ⟨3, ![8, 8192, 64]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8x1024x64 : Shape := ⟨3, ![8, 1024, 64]⟩
abbrev S1024x64 : Shape := ⟨2, ![1024, 64]⟩
abbrev S1x1024x64 : Shape := ⟨3, ![1, 1024, 64]⟩
abbrev S1024x32 : Shape := ⟨2, ![1024, 32]⟩

abbrev nBuf : Space → Nat
  | .hbm => 29
  | .vmem => 8
  | .smem => 0
  | _ => 0

abbrev bufTy : (tb : Table) → Fin (tcTables nBuf tb) → BufTy
  | .hbm, ⟨0, _⟩ => ⟨S8x8192x64, .f32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S8192, .f32⟩
  | .hbm, ⟨18, _⟩ => ⟨S8192x1, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x64, .f32⟩
  | .hbm, ⟨26, _⟩ => ⟨S8192x32, .f32⟩
  | .hbm, ⟨27, _⟩ => ⟨S8192x64, .f32⟩
  | .hbm, ⟨28, _⟩ => ⟨S8192x64, .f32⟩
  | .local _ .vmem, ⟨0, _⟩ => ⟨S8x1024x64, .f32⟩
  | .local _ .vmem, ⟨1, _⟩ => ⟨S8x1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | _, _ => ⟨S8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S8x8192x64 : Shape := ⟨3, ![8, 8192, 64]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x64 : Shape := ⟨3, ![1, 8192, 64]⟩
abbrev S8192x64 : Shape := ⟨2, ![8192, 64]⟩

abbrev nBuf : Space → Nat
  | .hbm => 53
  | .vmem => 0
  | .smem => 0
  | _ => 0

abbrev bufTy : (tb : Table) → Fin (tcTables nBuf tb) → BufTy
  | .hbm, ⟨0, _⟩ => ⟨S8x8192x64, .f32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S8192, .f32⟩
  | .hbm, ⟨18, _⟩ => ⟨S8192x1, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S1x8192x64, .f32⟩
  | .hbm, ⟨26, _⟩ => ⟨S8192x64, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S8192x32, .f32⟩
  | .hbm, ⟨35, _⟩ => ⟨S8192x64, .f32⟩
  | .hbm, ⟨36, _⟩ => ⟨S8x8192x64, .f32⟩
  | .hbm, ⟨37, _⟩ => ⟨S_, .f32⟩
  | .hbm, ⟨38, _⟩ => ⟨S8192x64, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S8192x32, .f32⟩
  | .hbm, ⟨43, _⟩ => ⟨S8192x32, .f32⟩
  | .hbm, ⟨44, _⟩ => ⟨S8192x32, .f32⟩
  | .hbm, ⟨45, _⟩ => ⟨S8192x32, .f32⟩
  | .hbm, ⟨46, _⟩ => ⟨S8192x32, .f32⟩
  | .hbm, ⟨47, _⟩ => ⟨S8192x32, .f32⟩
  | .hbm, ⟨48, _⟩ => ⟨S_, .f32⟩
  | .hbm, ⟨49, _⟩ => ⟨S8192x64, .f32⟩
  | .hbm, ⟨50, _⟩ => ⟨S_, .f32⟩
  | .hbm, ⟨51, _⟩ => ⟨S8192x64, .f32⟩
  | .hbm, ⟨52, _⟩ => ⟨S8192x64, .f32⟩
  | _, _ => ⟨S8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_4 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_5 : Ref sig .tc := ⟨.hbm, 48, rfl⟩
abbrev main_v41 : Ref sig .tc := ⟨.hbm, 49, rfl⟩
abbrev main_cst_6 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== Kernel3.lean ====
abbrev S8x8192x192 : Shape := ⟨3, ![8, 8192, 192]⟩
abbrev S8x8192x128 : Shape := ⟨3, ![8, 8192, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x8192x256 : Shape := ⟨3, ![8, 8192, 256]⟩
abbrev S1x1x256 : Shape := ⟨3, ![1, 1, 256]⟩
abbrev S1x8192x256 : Shape := ⟨3, ![1, 8192, 256]⟩
abbrev S1x1024x256 : Shape := ⟨3, ![1, 1024, 256]⟩
abbrev S1024x256 : Shape := ⟨2, ![1024, 256]⟩
abbrev S8192x256 : Shape := ⟨2, ![8192, 256]⟩
abbrev S1x512x256 : Shape := ⟨3, ![1, 512, 256]⟩
abbrev S512x256 : Shape := ⟨2, ![512, 256]⟩
abbrev S512x512 : Shape := ⟨2, ![512, 512]⟩
abbrev S1024x512 : Shape := ⟨2, ![1024, 512]⟩

abbrev nBuf : Space → Nat
  | .hbm => 155
  | .vmem => 16
  | .smem => 0
  | _ => 0

abbrev hbmTy0_0 (i : Nat) : BufTy := match i % 128 with
  | 0 => ⟨S8x8192x192, .f32⟩
  | 1 => ⟨S8x8192x192, .f32⟩
  | 2 => ⟨S8x8192x128, .f32⟩
  | 3 => ⟨S8x8192x128, .f32⟩
  | 4 => ⟨S8x8192x8192, .f32⟩
  | 5 => ⟨S_, .f32⟩
  | 6 => ⟨S8x8192x8192, .f32⟩
  | 7 => ⟨S8x8192x8192, .f32⟩
  | 8 => ⟨S8192, .i32⟩
  | 9 => ⟨S1x8192, .i32⟩
  | 10 => ⟨S8192x1, .i32⟩
  | 11 => ⟨S8192x8192, .i32⟩
  | 12 => ⟨S8192x8192, .i32⟩
  | 13 => ⟨S8192x8192, .i1⟩
  | 14 => ⟨S_, .f32⟩
  | 15 => ⟨S_, .f32⟩
  | 16 => ⟨S8x8192x8192, .i1⟩
  | 17 => ⟨S8x8192x8192, .f32⟩
  | 18 => ⟨S8x8192x8192, .f32⟩
  | 19 => ⟨S_, .f32⟩
  | 20 => ⟨S8x8192, .f32⟩
  | 21 => ⟨S8x8192x1, .f32⟩
  | 22 => ⟨S8x8192x8192, .f32⟩
  | 23 => ⟨S8x8192x8192, .f32⟩
  | 24 => ⟨S8x8192x8192, .f32⟩
  | 25 => ⟨S_, .f32⟩
  | 26 => ⟨S8x8192, .f32⟩
  | 27 => ⟨S8x8192x1, .f32⟩
  | 28 => ⟨S8x8192x8192, .f32⟩
  | 29 => ⟨S8x8192x8192, .f32⟩
  | 30 => ⟨S8x8192x128, .f32⟩
  | 31 => ⟨S8x8192x1, .f32⟩
  | 32 => ⟨S8x8192x1, .f32⟩
  | 33 => ⟨S8x8192, .f32⟩
  | 34 => ⟨S_, .f32⟩
  | 35 => ⟨S8x8192x192, .f32⟩
  | 36 => ⟨S8x8192x192, .f32⟩
  | 37 => ⟨S8x8192x192, .bf16⟩
  | 38 => ⟨S8x8192x192, .bf16⟩
  | 39 => ⟨S8x8192x128, .bf16⟩
  | 40 => ⟨S8x8192x128, .bf16⟩
  | 41 => ⟨S8x8192x128, .f32⟩
  | 42 => ⟨S8x8192x128, .f32⟩
  | 43 => ⟨S_, .f32⟩
  | 44 => ⟨S8x8192, .f32⟩
  | 45 => ⟨S_, .i32⟩
  | 46 => ⟨S_, .bf16⟩
  | 47 => ⟨S8x8192x256, .bf16⟩
  | 48 => ⟨S1x1x256, .i32⟩
  | 49 => ⟨S_, .i32⟩
  | 50 => ⟨S1x1x256, .i32⟩
  | 51 => ⟨S1x1x256, .i1⟩
  | 52 => ⟨S_, .i32⟩
  | 53 => ⟨S1x1x256, .i32⟩
  | 54 => ⟨S1x1x256, .i1⟩
  | 55 => ⟨S1x1x256, .i1⟩
  | 56 => ⟨S_, .bf16⟩
  | 57 => ⟨S8x8192x256, .i1⟩
  | 58 => ⟨S8x8192x256, .bf16⟩
  | 59 => ⟨S8x8192x256, .bf16⟩
  | 60 => ⟨S8x8192, .f32⟩
  | 61 => ⟨S8x8192, .bf16⟩
  | 62 => ⟨S8x8192, .f32⟩
  | 63 => ⟨S8x8192, .f32⟩
  | 64 => ⟨S8x8192, .bf16⟩
  | 65 => ⟨S8x8192, .f32⟩
  | 66 => ⟨S8x8192, .f32⟩
  | 67 => ⟨S8x8192, .bf16⟩
  | 68 => ⟨S8x8192, .f32⟩
  | 69 => ⟨S8x8192, .bf16⟩
  | 70 => ⟨S8x8192, .bf16⟩
  | 71 => ⟨S8x8192, .bf16⟩
  | 72 => ⟨S_, .i32⟩
  | 73 => ⟨S_, .bf16⟩
  | 74 => ⟨S8x8192x256, .bf16⟩
  | 75 => ⟨S1x1x256, .i32⟩
  | 76 => ⟨S_, .i32⟩
  | 77 => ⟨S1x1x256, .i32⟩
  | 78 => ⟨S1x1x256, .i1⟩
  | 79 => ⟨S8x8192x1, .bf16⟩
  | 80 => ⟨S8x8192x256, .i1⟩
  | 81 => ⟨S8x8192x256, .bf16⟩
  | 82 => ⟨S8x8192x256, .bf16⟩
  | 83 => ⟨S_, .i32⟩
  | 84 => ⟨S1x1x256, .i32⟩
  | 85 => ⟨S1x1x256, .i1⟩
  | 86 => ⟨S8x8192x1, .bf16⟩
  | 87 => ⟨S8x8192x256, .i1⟩
  | 88 => ⟨S8x8192x256, .bf16⟩
  | 89 => ⟨S8x8192x256, .bf16⟩
  | 90 => ⟨S_, .i32⟩
  | 91 => ⟨S1x1x256, .i32⟩
  | 92 => ⟨S1x1x256, .i1⟩
  | 93 => ⟨S8x8192x1, .bf16⟩
  | 94 => ⟨S8x8192x256, .i1⟩
  | 95 => ⟨S8x8192x256, .bf16⟩
  | 96 => ⟨S8x8192x256, .bf16⟩
  | 97 => ⟨S_, .i32⟩
  | 98 => ⟨S_, .bf16⟩
  | 99 => ⟨S8x8192x256, .bf16⟩
  | 100 => ⟨S1x1x256, .i32⟩
  | 101 => ⟨S_, .i32⟩
  | 102 => ⟨S1x1x256, .i32⟩
  | 103 => ⟨S1x1x256, .i1⟩
  | 104 => ⟨S_, .i32⟩
  | 105 => ⟨S1x1x256, .i32⟩
  | 106 => ⟨S1x1x256, .i1⟩
  | 107 => ⟨S1x1x256, .i1⟩
  | 108 => ⟨S_, .bf16⟩
  | 109 => ⟨S8x8192x256, .i1⟩
  | 110 => ⟨S8x8192x256, .bf16⟩
  | 111 => ⟨S8x8192x256, .bf16⟩
  | 112 => ⟨S8x8192, .f32⟩
  | 113 => ⟨S8x8192, .bf16⟩
  | 114 => ⟨S8x8192, .f32⟩
  | 115 => ⟨S8x8192, .f32⟩
  | 116 => ⟨S8x8192, .bf16⟩
  | 117 => ⟨S8x8192, .f32⟩
  | 118 => ⟨S8x8192, .f32⟩
  | 119 => ⟨S8x8192, .bf16⟩
  | 120 => ⟨S8x8192, .f32⟩
  | 121 => ⟨S8x8192, .bf16⟩
  | 122 => ⟨S8x8192, .bf16⟩
  | 123 => ⟨S8x8192, .bf16⟩
  | 124 => ⟨S_, .i32⟩
  | 125 => ⟨S_, .bf16⟩
  | 126 => ⟨S8x8192x256, .bf16⟩
  | 127 => ⟨S1x1x256, .i32⟩
  | _ => ⟨S8x8192x192, .f32⟩

abbrev hbmTy0_1 (i : Nat) : BufTy := match i % 128 with
  | 0 => ⟨S_, .i32⟩
  | 1 => ⟨S1x1x256, .i32⟩
  | 2 => ⟨S1x1x256, .i1⟩
  | 3 => ⟨S8x8192x1, .bf16⟩
  | 4 => ⟨S8x8192x256, .i1⟩
  | 5 => ⟨S8x8192x256, .bf16⟩
  | 6 => ⟨S8x8192x256, .bf16⟩
  | 7 => ⟨S_, .i32⟩
  | 8 => ⟨S1x1x256, .i32⟩
  | 9 => ⟨S1x1x256, .i1⟩
  | 10 => ⟨S8x8192x1, .bf16⟩
  | 11 => ⟨S8x8192x256, .i1⟩
  | 12 => ⟨S8x8192x256, .bf16⟩
  | 13 => ⟨S8x8192x256, .bf16⟩
  | 14 => ⟨S_, .i32⟩
  | 15 => ⟨S1x1x256, .i32⟩
  | 16 => ⟨S1x1x256, .i1⟩
  | 17 => ⟨S8x8192x1, .bf16⟩
  | 18 => ⟨S8x8192x256, .i1⟩
  | 19 => ⟨S8x8192x256, .bf16⟩
  | 20 => ⟨S8x8192x256, .bf16⟩
  | 21 => ⟨S8x8192x256, .f32⟩
  | 22 => ⟨S8x8192x256, .f32⟩
  | 23 => ⟨S8x8192x256, .f32⟩
  | 24 => ⟨S8x8192x192, .f32⟩
  | 25 => ⟨S8x8192x192, .f32⟩
  | 26 => ⟨S8x8192x128, .f32⟩
  | _ => ⟨S8x8192x192, .f32⟩

abbrev hbmTy (i : Nat) : BufTy := match i / 128 with
  | 0 => hbmTy0_0 i
  | 1 => hbmTy0_1 i
  | _ => ⟨S8x8192x192, .f32⟩

abbrev bufTy : (tb : Table) → Fin (tcTables nBuf tb) → BufTy
  | .hbm, ⟨i, _⟩ => hbmTy i
  | .local _ .vmem, ⟨0, _⟩ => ⟨S1x8192x256, .bf16⟩
  | .local _ .vmem, ⟨1, _⟩ => ⟨S1x8192x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x8192x256, .bf16⟩
  | .local _ .vmem, ⟨7, _⟩ => ⟨S1x8192x256, .bf16⟩
  | .local _ .vmem, ⟨8, _⟩ => ⟨S1x8192x256, .f32⟩
  | .local _ .vmem, ⟨9, _⟩ => ⟨S1x8192x256, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x256, .f32⟩
  | .local _ .vmem, ⟨14, _⟩ => ⟨S1024x256, .f32⟩
  | .local _ .vmem, ⟨15, _⟩ => ⟨S1024x256, .f32⟩
  | _, _ => ⟨S8x8192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_c : Ref sig .tc := ⟨.hbm, 45, rfl⟩
abbrev main_call1_v0 : Ref sig .tc := ⟨.hbm, 46, rfl⟩
abbrev main_v32 : Ref sig .tc := ⟨.hbm, 47, rfl⟩
abbrev main_v33 : Ref sig .tc := ⟨.hbm, 48, rfl⟩
abbrev main_c_5 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_call2_v0 : Ref sig .tc := ⟨.hbm, 57, rfl⟩
abbrev main_call2_v1 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_8 : Ref sig .tc := ⟨.hbm, 72, rfl⟩
abbrev main_call3_v0 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call4_v0 : Ref sig .tc := ⟨.hbm, 80, rfl⟩
abbrev main_call4_v1 : Ref sig .tc := ⟨.hbm, 81, rfl⟩
abbrev main_v57 : Ref sig .tc := ⟨.hbm, 82, rfl⟩
abbrev main_c_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_call5_v0 : Ref sig .tc := ⟨.hbm, 87, rfl⟩
abbrev main_call5_v1 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call6_v0 : Ref sig .tc := ⟨.hbm, 94, rfl⟩
abbrev main_call6_v1 : Ref sig .tc := ⟨.hbm, 95, rfl⟩
abbrev main_v65 : Ref sig .tc := ⟨.hbm, 96, rfl⟩
abbrev main_c_12 : Ref sig .tc := ⟨.hbm, 97, rfl⟩
abbrev main_call7_v0 : Ref sig .tc := ⟨.hbm, 98, rfl⟩
abbrev main_v66 : Ref sig .tc := ⟨.hbm, 99, rfl⟩
abbrev main_v67 : Ref sig .tc := ⟨.hbm, 100, rfl⟩
abbrev main_c_13 : Ref sig .tc := ⟨.hbm, 101, rfl⟩
abbrev main_v68 : Ref sig .tc := ⟨.hbm, 102, rfl⟩
abbrev main_v69 : Ref sig .tc := ⟨.hbm, 103, rfl⟩
abbrev main_c_14 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_15 : Ref sig .tc := ⟨.hbm, 108, rfl⟩
abbrev main_call8_v0 : Ref sig .tc := ⟨.hbm, 109, rfl⟩
abbrev main_call8_v1 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_16 : Ref sig .tc := ⟨.hbm, 124, rfl⟩
abbrev main_call9_v0 : Ref sig .tc := ⟨.hbm, 125, rfl⟩
abbrev main_v86 : Ref sig .tc := ⟨.hbm, 126, rfl⟩
abbrev main_v87 : Ref sig .tc := ⟨.hbm, 127, rfl⟩
abbrev main_c_17 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_call10_v0 : Ref sig .tc := ⟨.hbm, 132, rfl⟩
abbrev main_call10_v1 : Ref sig .tc := ⟨.hbm, 133, rfl⟩
abbrev main_v91 : Ref sig .tc := ⟨.hbm, 134, rfl⟩
abbrev main_c_18 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_call11_v0 : Ref sig .tc := ⟨.hbm, 139, rfl⟩
abbrev main_call11_v1 : Ref sig .tc := ⟨.hbm, 140, rfl⟩
abbrev main_v95 : Ref sig .tc := ⟨.hbm, 141, rfl⟩
abbrev main_c_19 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_call12_v0 : Ref sig .tc := ⟨.hbm, 146, rfl⟩
abbrev main_call12_v1 : Ref sig .tc := ⟨.hbm, 147, rfl⟩
abbrev main_v99 : Ref sig .tc := ⟨.hbm, 148, rfl⟩
abbrev main_v100_0 : Ref sig .tc := ⟨.hbm, 149, rfl⟩
abbrev main_v100_1 : Ref sig .tc := ⟨.hbm, 150, rfl⟩
abbrev main_v100_2 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c2_i32 : BitVec 32 := 2#32
  let v11 : BitVec 32 := Scalar.muli arg1 c2_i32
  let c0_i32_5 : BitVec 32 := 0#32
  let v12 : BitVec 32 := Scalar.addi v11 c0_i32_5
  let c512_i32 : BitVec 32 := 512#32
  let v13 : BitVec 32 := Scalar.muli v12 c512_i32
  v13
def k0_off1 (i : grid0.Coords) (c0_i32_5 : BitVec 32) : Fin 3 → Nat :=
  let c0_6 : Index := 0#32
  let arg1 : BitVec 32 := BitVec.ofNat 32 (i 1).val
  let c2_i32 : BitVec 32 := 2#32
  let v11 : BitVec 32 := Scalar.muli arg1 c2_i32
  let v12 : BitVec 32 := Scalar.addi v11 c0_i32_5
  let c512_i32 : BitVec 32 := 512#32
  let v13 : BitVec 32 := Scalar.muli v12 c512_i32
  let v14 : BitVec 32 := v13
  let v15 : Index := Scalar.indexCast v14
  let c0_7 : Index := 0#32
  ![0, v15.toNat, 0]
def k0_mult2 (i : grid0.Coords) : BitVec 32 :=
  let arg1 : BitVec 32 := BitVec.ofNat 32 (i 1).val
  let c2_i32_35 : BitVec 32 := 2#32
  let v59 : BitVec 32 := Scalar.muli arg1 c2_i32_35
  let c1_i32 : BitVec 32 := 1#32
  let v60 : BitVec 32 := Scalar.addi v59 c1_i32
  let c512_i32_36 : BitVec 32 := 512#32
  let v61 : BitVec 32 := Scalar.muli v60 c512_i32_36
  v61
@[reducible] def k0_t1_loop (i : grid0.Coords) : Scf.Loop 32 :=
  let arg1 : BitVec 32 := BitVec.ofNat 32 (i 1).val
  let c2_i32_66 : BitVec 32 := 2#32
  let v107 : BitVec 32 := Scalar.muli arg1 c2_i32_66
  let c2_i32_67 : BitVec 32 := 2#32
  let v108 : BitVec 32 := Scalar.addi v107 c2_i32_67
  let c16_i32 : BitVec 32 := 16#32
  let v109 : BitVec 32 := Scalar.subi c16_i32 v108
  let c1_i32_69 : BitVec 32 := 1#32
  let v111 : BitVec 32 := Scalar.divsi v109 c1_i32_69
  let v112 : BitVec 32 := Scalar.muli v111 c1_i32_69
  let v113 : BitVec 32 := Scalar.addi v108 v112
  let c1_i32_70 : BitVec 32 := 1#32
  ⟨v108, v113, c1_i32_70⟩
def k0_mult3 (i : grid0.Coords) (k0_t1 : Fin (k0_t1_loop i).trips) : BitVec 32 :=
  let arg1 : BitVec 32 := BitVec.ofNat 32 (i 1).val
  let c2_i32_66 : BitVec 32 := 2#32
  let v107 : BitVec 32 := Scalar.muli arg1 c2_i32_66
  let c2_i32_67 : BitVec 32 := 2#32
  let v108 : BitVec 32 := Scalar.addi v107 c2_i32_67
  let c1_i32_70 : BitVec 32 := 1#32
  let arg11 : BitVec 32 := Scf.iv v108 c1_i32_70 k0_t1
  let c512_i32_83 : BitVec 32 := 512#32
  let v125 : BitVec 32 := Scalar.muli arg11 c512_i32_83
  v125
def k0_off2 (i : grid0.Coords) (k0_t1 : Fin (k0_t1_loop i).trips) : Fin 3 → Nat :=
  let c0_84 : Index := 0#32
  let arg1 : BitVec 32 := BitVec.ofNat 32 (i 1).val
  let c2_i32_66 : BitVec 32 := 2#32
  let v107 : BitVec 32 := Scalar.muli arg1 c2_i32_66
  let c2_i32_67 : BitVec 32 := 2#32
  let v108 : BitVec 32 := Scalar.addi v107 c2_i32_67
  let c1_i32_70 : BitVec 32 := 1#32
  let arg11 : BitVec 32 := Scf.iv v108 c1_i32_70 k0_t1
  let c512_i32_83 : BitVec 32 := 512#32
  let v125 : BitVec 32 := Scalar.muli arg11 c512_i32_83
  let v126 : BitVec 32 := v125
  let v127 : Index := Scalar.indexCast v126
  let c0_85 : Index := 0#32
  ![0, v127.toNat, 0]
@[reducible] def k0_t2_loop (i : grid0.Coords) : Scf.Loop 32 :=
  let arg1 : BitVec 32 := BitVec.ofNat 32 (i 1).val
  let c2_i32_66 : BitVec 32 := 2#32
  let v107 : BitVec 32 := Scalar.muli arg1 c2_i32_66
  let c2_i32_67 : BitVec 32 := 2#32
  let v108 : BitVec 32 := Scalar.addi v107 c2_i32_67
  let c16_i32 : BitVec 32 := 16#32
  let v109 : BitVec 32 := Scalar.subi c16_i32 v108
  let c1_i32_69 : BitVec 32 := 1#32
  let v111 : BitVec 32 := Scalar.divsi v109 c1_i32_69
  let v112 : BitVec 32 := Scalar.muli v111 c1_i32_69
  let v113 : BitVec 32 := Scalar.addi v108 v112
  let v110 : BitVec 32 := Scalar.addi v108 v109
  let c1_i32_71 : BitVec 32 := 1#32
  ⟨v113, v110, c1_i32_71⟩
def k0_mult4 (i : grid0.Coords) (k0_t2 : Fin (k0_t2_loop i).trips) : BitVec 32 :=
  let arg1 : BitVec 32 := BitVec.ofNat 32 (i 1).val
  let c2_i32_66 : BitVec 32 := 2#32
  let v107 : BitVec 32 := Scalar.muli arg1 c2_i32_66
  let c2_i32_67 : BitVec 32 := 2#32
  let v108 : BitVec 32 := Scalar.addi v107 c2_i32_67
  let c16_i32 : BitVec 32 := 16#32
  let v109 : BitVec 32 := Scalar.subi c16_i32 v108
  let c1_i32_69 : BitVec 32 := 1#32
  let v111 : BitVec 32 := Scalar.divsi v109 c1_i32_69
  let v112 : BitVec 32 := Scalar.muli v111 c1_i32_69
  let v113 : BitVec 32 := Scalar.addi v108 v112
  let c1_i32_71 : BitVec 32 := 1#32
  let arg11 : BitVec 32 := Scf.iv v113 c1_i32_71 k0_t2
  let c512_i32_83 : BitVec 32 := 512#32
  let v125 : BitVec 32 := Scalar.muli arg11 c512_i32_83
  v125
def k0_off3 (i : grid0.Coords) (k0_t2 : Fin (k0_t2_loop i).trips) : Fin 3 → Nat :=
  let c0_84 : Index := 0#32
  let arg1 : BitVec 32 := BitVec.ofNat 32 (i 1).val
  let c2_i32_66 : BitVec 32 := 2#32
  let v107 : BitVec 32 := Scalar.muli arg1 c2_i32_66
  let c2_i32_67 : BitVec 32 := 2#32
  let v108 : BitVec 32 := Scalar.addi v107 c2_i32_67
  let c16_i32 : BitVec 32 := 16#32
  let v109 : BitVec 32 := Scalar.subi c16_i32 v108
  let c1_i32_69 : BitVec 32 := 1#32
  let v111 : BitVec 32 := Scalar.divsi v109 c1_i32_69
  let v112 : BitVec 32 := Scalar.muli v111 c1_i32_69
  let v113 : BitVec 32 := Scalar.addi v108 v112
  let c1_i32_71 : BitVec 32 := 1#32
  let arg11 : BitVec 32 := Scf.iv v113 c1_i32_71 k0_t2
  let c512_i32_83 : BitVec 32 := 512#32
  let v125 : BitVec 32 := Scalar.muli arg11 c512_i32_83
  let v126 : BitVec 32 := v125
  let v127 : Index := Scalar.indexCast v126
  let c0_85 : Index := 0#32
  ![0, v127.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8192x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel3Ideal.lean ====
variable {F : FTy → Type} [FloatOps F] [Named F]
def κ : String → Option EReal := fun
  | "mask" => some ⊥
  | _ => none
-- ==== Reference3Ideal.lean ====
abbrev S8x8192x192 : Shape := ⟨3, ![8, 8192, 192]⟩
abbrev S8x8192x128 : Shape := ⟨3, ![8, 8192, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩

abbrev nBuf : Space → Nat
  | .hbm => 85
  | .vmem => 0
  | .smem => 0
  | _ => 0

abbrev bufTy : (tb : Table) → Fin (tcTables nBuf tb) → BufTy
  | .hbm, ⟨0, _⟩ => ⟨S8x8192x192, .f32⟩
  | .hbm, ⟨1, _⟩ => ⟨S8x8192x192, .f32⟩
  | .hbm, ⟨2, _⟩ => ⟨S8x8192x128, .f32⟩
  | .hbm, ⟨3, _⟩ => ⟨S8x8192x128, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .i1⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S_, .f32⟩
  | .hbm, ⟨33, _⟩ => ⟨S8x8192, .f32⟩
  | .hbm, ⟨34, _⟩ => ⟨S8x8192, .i1⟩
  | .hbm, ⟨35, _⟩ => ⟨S_, .f32⟩
  | .hbm, ⟨36, _⟩ => ⟨S8x8192, .f32⟩
  | .hbm, ⟨37, _⟩ => ⟨S8x8192, .i1⟩
  | .hbm, ⟨38, _⟩ => ⟨S_, .f32⟩
  | .hbm, ⟨39, _⟩ => ⟨S8x8192, .f32⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S8x8192, .f32⟩
  | .hbm, ⟨45, _⟩ => ⟨S8x8192, .f32⟩
  | .hbm, ⟨46, _⟩ => ⟨S8x8192x1, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S_, .f32⟩
  | .hbm, ⟨51, _⟩ => ⟨S8x8192, .f32⟩
  | .hbm, ⟨52, _⟩ => ⟨S8x8192x1, .f32⟩
  | .hbm, ⟨53, _⟩ => ⟨S8x8192x8192, .f32⟩
  | .hbm, ⟨54, _⟩ => ⟨S8x8192x8192, .f32⟩
  | .hbm, ⟨55, _⟩ => ⟨S8x8192x1, .f32⟩
  | .hbm, ⟨56, _⟩ => ⟨S_, .f32⟩
  | .hbm, ⟨57, _⟩ => ⟨S8x8192x1, .f32⟩
  | .hbm, ⟨58, _⟩ => ⟨S8x8192x1, .f32⟩
  | .hbm, ⟨59, _⟩ => ⟨S8x8192x128, .f32⟩
  | .hbm, ⟨60, _⟩ => ⟨S8x128x8192, .f32⟩
  | .hbm, ⟨61, _⟩ => ⟨S8x8192x128, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S_, .f32⟩
  | .hbm, ⟨67, _⟩ => ⟨S8x8192, .f32⟩
  | .hbm, ⟨68, _⟩ => ⟨S8x8192x1, .f32⟩
  | .hbm, ⟨69, _⟩ => ⟨S8x8192x1, .f32⟩
  | .hbm, ⟨70, _⟩ => ⟨S8x8192x8192, .f32⟩
  | .hbm, ⟨71, _⟩ => ⟨S8x8192x8192, .f32⟩
  | .hbm, ⟨72, _⟩ => ⟨S_, .f32⟩
  | .hbm, ⟨73, _⟩ => ⟨S8x8192, .f32⟩
  | .hbm, ⟨74, _⟩ => ⟨S8x8192x8192, .f32⟩
  | .hbm, ⟨75, _⟩ => ⟨S8x8192x8192, .f32⟩
  | .hbm, ⟨76, _⟩ => ⟨S8x8192x8192, .f32⟩
  | .hbm, ⟨77, _⟩ => ⟨S_, .f32⟩
  | .hbm, ⟨78, _⟩ => ⟨S8x8192x8192, .f32⟩
  | .hbm, ⟨79, _⟩ => ⟨S8x8192x8192, .f32⟩
  | .hbm, ⟨80, _⟩ => ⟨S_, .f32⟩
  | .hbm, ⟨81, _⟩ => ⟨S8x8192x8192, .f32⟩
  | .hbm, ⟨82, _⟩ => ⟨S8x8192x8192, .f32⟩
  | .hbm, ⟨83, _⟩ => ⟨S8x8192x192, .f32⟩
  | .hbm, ⟨84, _⟩ => ⟨S8x8192x192, .f32⟩
  | _, _ => ⟨S8x8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_cst_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]
-- ==== Kernel4.lean ====
abbrev S16x8192x64 : Shape := ⟨3, ![16, 8192, 64]⟩
abbrev S16x8192 : Shape := ⟨2, ![16, 8192]⟩
abbrev S16x8192x8192 : Shape := ⟨3, ![16, 8192, 8192]⟩
abbrev S_ : Shape := ⟨0, ![]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192x1 : Shape := ⟨3, ![16, 8192, 1]⟩
abbrev S64 : Shape := ⟨1, ![64]⟩
abbrev S1x64 : Shape := ⟨2, ![1, 64]⟩
abbrev S3x64 : Shape := ⟨2, ![3, 64]⟩
abbrev S3x16x64 : Shape := ⟨3, ![3, 16, 64]⟩
abbrev S48x64 : Shape := ⟨2, ![48, 64]⟩
abbrev S48x8192x64 : Shape := ⟨3, ![48, 8192, 64]⟩
abbrev S48x1x64 : Shape := ⟨3, ![48, 1, 64]⟩
abbrev S48x8192x128 : Shape := ⟨3, ![48, 8192, 128]⟩
abbrev S16x8192x128 : Shape := ⟨3, ![16, 8192, 128]⟩
abbrev S1x1x128 : Shape := ⟨3, ![1, 1, 128]⟩
abbrev S8192x2048 : Shape := ⟨2, ![8192, 2048]⟩
abbrev S1x8192x128 : Shape := ⟨3, ![1, 8192, 128]⟩
abbrev S1x2048x128 : Shape := ⟨3, ![1, 2048, 128]⟩
abbrev S8192x128 : Shape := ⟨2, ![8192, 128]⟩
abbrev S2048x128 : Shape := ⟨2, ![2048, 128]⟩
abbrev S1x512x128 : Shape := ⟨3, ![1, 512, 128]⟩
abbrev S512x128 : Shape := ⟨2, ![512, 128]⟩
abbrev S512x512 : Shape := ⟨2, ![512, 512]⟩
abbrev S1x1024x128 : Shape := ⟨3, ![1, 1024, 128]⟩
abbrev S1024x128 : Shape := ⟨2, ![1024, 128]⟩
abbrev S1024x512 : Shape := ⟨2, ![1024, 512]⟩
abbrev S1x1536x128 : Shape := ⟨3, ![1, 1536, 128]⟩
abbrev S1536x128 : Shape := ⟨2, ![1536, 128]⟩
abbrev S1536x512 : Shape := ⟨2, ![1536, 512]⟩
abbrev S2048x512 : Shape := ⟨2, ![2048, 512]⟩
abbrev S8192x16x128 : Shape := ⟨3, ![8192, 16, 128]⟩

abbrev nBuf : Space → Nat
  | .hbm => 207
  | .vmem => 16
  | .smem => 0
  | _ => 0

abbrev hbmTy0_0 (i : Nat) : BufTy := match i % 128 with
  | 0 => ⟨S16x8192x64, .f32⟩
  | 1 => ⟨S16x8192x64, .f32⟩
  | 2 => ⟨S16x8192x64, .f32⟩
  | 3 => ⟨S16x8192, .f32⟩
  | 4 => ⟨S16x8192x64, .f32⟩
  | 5 => ⟨S16x8192x8192, .f32⟩
  | 6 => ⟨S_, .f32⟩
  | 7 => ⟨S16x8192x8192, .f32⟩
  | 8 => ⟨S16x8192x8192, .f32⟩
  | 9 => ⟨S16x1x8192, .f32⟩
  | 10 => ⟨S16x8192x8192, .f32⟩
  | 11 => ⟨S16x8192x8192, .f32⟩
  | 12 => ⟨S8192, .i32⟩
  | 13 => ⟨S1x8192, .i32⟩
  | 14 => ⟨S8192x1, .i32⟩
  | 15 => ⟨S8192x8192, .i32⟩
  | 16 => ⟨S8192x8192, .i32⟩
  | 17 => ⟨S8192x8192, .i1⟩
  | 18 => ⟨S_, .f32⟩
  | 19 => ⟨S_, .f32⟩
  | 20 => ⟨S16x8192x8192, .i1⟩
  | 21 => ⟨S16x8192x8192, .f32⟩
  | 22 => ⟨S16x8192x8192, .f32⟩
  | 23 => ⟨S_, .f32⟩
  | 24 => ⟨S16x8192, .f32⟩
  | 25 => ⟨S16x8192x1, .f32⟩
  | 26 => ⟨S16x8192x8192, .f32⟩
  | 27 => ⟨S16x8192x8192, .f32⟩
  | 28 => ⟨S16x8192x8192, .f32⟩
  | 29 => ⟨S_, .f32⟩
  | 30 => ⟨S16x8192, .f32⟩
  | 31 => ⟨S16x8192x1, .f32⟩
  | 32 => ⟨S16x8192x8192, .f32⟩
  | 33 => ⟨S16x8192x8192, .f32⟩
  | 34 => ⟨S16x8192x64, .f32⟩
  | 35 => ⟨S16x8192x1, .f32⟩
  | 36 => ⟨S16x8192x1, .f32⟩
  | 37 => ⟨S16x8192, .f32⟩
  | 38 => ⟨S64, .i32⟩
  | 39 => ⟨S_, .i32⟩
  | 40 => ⟨S64, .i32⟩
  | 41 => ⟨S64, .i1⟩
  | 42 => ⟨S64, .f32⟩
  | 43 => ⟨S_, .i32⟩
  | 44 => ⟨S64, .i32⟩
  | 45 => ⟨S64, .i1⟩
  | 46 => ⟨S_, .i32⟩
  | 47 => ⟨S64, .i32⟩
  | 48 => ⟨S64, .i1⟩
  | 49 => ⟨S64, .i1⟩
  | 50 => ⟨S64, .f32⟩
  | 51 => ⟨S_, .i32⟩
  | 52 => ⟨S64, .i32⟩
  | 53 => ⟨S64, .i1⟩
  | 54 => ⟨S64, .f32⟩
  | 55 => ⟨S_, .f32⟩
  | 56 => ⟨S64, .f32⟩
  | 57 => ⟨S64, .f32⟩
  | 58 => ⟨S64, .f32⟩
  | 59 => ⟨S1x64, .f32⟩
  | 60 => ⟨S1x64, .f32⟩
  | 61 => ⟨S1x64, .f32⟩
  | 62 => ⟨S3x64, .f32⟩
  | 63 => ⟨S3x16x64, .f32⟩
  | 64 => ⟨S48x64, .f32⟩
  | 65 => ⟨S_, .f32⟩
  | 66 => ⟨S16x8192x64, .f32⟩
  | 67 => ⟨S16x8192x64, .f32⟩
  | 68 => ⟨S48x8192x64, .f32⟩
  | 69 => ⟨S48x1x64, .f32⟩
  | 70 => ⟨S48x8192x64, .f32⟩
  | 71 => ⟨S48x8192x128, .f32⟩
  | 72 => ⟨S48x8192x128, .bf16⟩
  | 73 => ⟨S16x8192x128, .bf16⟩
  | 74 => ⟨S16x8192, .f32⟩
  | 75 => ⟨S16x8192, .bf16⟩
  | 76 => ⟨S16x8192, .f32⟩
  | 77 => ⟨S16x8192, .f32⟩
  | 78 => ⟨S16x8192, .bf16⟩
  | 79 => ⟨S16x8192, .f32⟩
  | 80 => ⟨S16x8192, .f32⟩
  | 81 => ⟨S16x8192, .bf16⟩
  | 82 => ⟨S16x8192, .f32⟩
  | 83 => ⟨S16x8192, .bf16⟩
  | 84 => ⟨S16x8192, .bf16⟩
  | 85 => ⟨S16x8192, .bf16⟩
  | 86 => ⟨S_, .i32⟩
  | 87 => ⟨S_, .bf16⟩
  | 88 => ⟨S16x8192x128, .bf16⟩
  | 89 => ⟨S1x1x128, .i32⟩
  | 90 => ⟨S_, .i32⟩
  | 91 => ⟨S1x1x128, .i32⟩
  | 92 => ⟨S1x1x128, .i1⟩
  | 93 => ⟨S16x8192x1, .bf16⟩
  | 94 => ⟨S16x8192x128, .i1⟩
  | 95 => ⟨S16x8192x128, .bf16⟩
  | 96 => ⟨S16x8192x128, .bf16⟩
  | 97 => ⟨S_, .i32⟩
  | 98 => ⟨S1x1x128, .i32⟩
  | 99 => ⟨S1x1x128, .i1⟩
  | 100 => ⟨S16x8192x1, .bf16⟩
  | 101 => ⟨S16x8192x128, .i1⟩
  | 102 => ⟨S16x8192x128, .bf16⟩
  | 103 => ⟨S16x8192x128, .bf16⟩
  | 104 => ⟨S_, .i32⟩
  | 105 => ⟨S1x1x128, .i32⟩
  | 106 => ⟨S1x1x128, .i1⟩
  | 107 => ⟨S16x8192x1, .bf16⟩
  | 108 => ⟨S16x8192x128, .i1⟩
  | 109 => ⟨S16x8192x128, .bf16⟩
  | 110 => ⟨S16x8192x128, .bf16⟩
  | 111 => ⟨S16x8192x64, .bf16⟩
  | 112 => ⟨S16x8192x64, .f32⟩
  | 113 => ⟨S16x8192x64, .f32⟩
  | 114 => ⟨S_, .f32⟩
  | 115 => ⟨S16x8192, .f32⟩
  | 116 => ⟨S16x8192x128, .bf16⟩
  | 117 => ⟨S16x8192, .f32⟩
  | 118 => ⟨S16x8192, .bf16⟩
  | 119 => ⟨S16x8192, .f32⟩
  | 120 => ⟨S16x8192, .f32⟩
  | 121 => ⟨S16x8192, .bf16⟩
  | 122 => ⟨S16x8192, .f32⟩
  | 123 => ⟨S16x8192, .f32⟩
  | 124 => ⟨S16x8192, .bf16⟩
  | 125 => ⟨S16x8192, .f32⟩
  | 126 => ⟨S16x8192, .bf16⟩
  | 127 => ⟨S16x8192, .bf16⟩
  | _ => ⟨S16x8192x64, .f32⟩

abbrev hbmTy0_1 (i : Nat) : BufTy := match i % 128 with
  | 0 => ⟨S16x8192, .bf16⟩
  | 1 => ⟨S_, .i32⟩
  | 2 => ⟨S_, .bf16⟩
  | 3 => ⟨S16x8192x128, .bf16⟩
  | 4 => ⟨S1x1x128, .i32⟩
  | 5 => ⟨S_, .i32⟩
  | 6 => ⟨S1x1x128, .i32⟩
  | 7 => ⟨S1x1x128, .i1⟩
  | 8 => ⟨S16x8192x1, .bf16⟩
  | 9 => ⟨S16x8192x128, .i1⟩
  | 10 => ⟨S16x8192x128, .bf16⟩
  | 11 => ⟨S16x8192x128, .bf16⟩
  | 12 => ⟨S_, .i32⟩
  | 13 => ⟨S1x1x128, .i32⟩
  | 14 => ⟨S1x1x128, .i1⟩
  | 15 => ⟨S16x8192x1, .bf16⟩
  | 16 => ⟨S16x8192x128, .i1⟩
  | 17 => ⟨S16x8192x128, .bf16⟩
  | 18 => ⟨S16x8192x128, .bf16⟩
  | 19 => ⟨S_, .i32⟩
  | 20 => ⟨S1x1x128, .i32⟩
  | 21 => ⟨S1x1x128, .i1⟩
  | 22 => ⟨S16x8192x1, .bf16⟩
  | 23 => ⟨S16x8192x128, .i1⟩
  | 24 => ⟨S16x8192x128, .bf16⟩
  | 25 => ⟨S16x8192x128, .bf16⟩
  | 26 => ⟨S16x8192, .f32⟩
  | 27 => ⟨S16x8192, .bf16⟩
  | 28 => ⟨S16x8192, .f32⟩
  | 29 => ⟨S16x8192, .f32⟩
  | 30 => ⟨S16x8192, .bf16⟩
  | 31 => ⟨S16x8192, .f32⟩
  | 32 => ⟨S16x8192, .f32⟩
  | 33 => ⟨S16x8192, .bf16⟩
  | 34 => ⟨S16x8192, .f32⟩
  | 35 => ⟨S16x8192, .bf16⟩
  | 36 => ⟨S16x8192, .bf16⟩
  | 37 => ⟨S16x8192, .bf16⟩
  | 38 => ⟨S_, .i32⟩
  | 39 => ⟨S_, .bf16⟩
  | 40 => ⟨S16x8192x128, .bf16⟩
  | 41 => ⟨S1x1x128, .i32⟩
  | 42 => ⟨S_, .i32⟩
  | 43 => ⟨S1x1x128, .i32⟩
  | 44 => ⟨S1x1x128, .i1⟩
  | 45 => ⟨S16x8192x1, .bf16⟩
  | 46 => ⟨S16x8192x128, .i1⟩
  | 47 => ⟨S16x8192x128, .bf16⟩
  | 48 => ⟨S16x8192x128, .bf16⟩
  | 49 => ⟨S_, .i32⟩
  | 50 => ⟨S1x1x128, .i32⟩
  | 51 => ⟨S1x1x128, .i1⟩
  | 52 => ⟨S16x8192x1, .bf16⟩
  | 53 => ⟨S16x8192x128, .i1⟩
  | 54 => ⟨S16x8192x128, .bf16⟩
  | 55 => ⟨S16x8192x128, .bf16⟩
  | 56 => ⟨S_, .i32⟩
  | 57 => ⟨S1x1x128, .i32⟩
  | 58 => ⟨S1x1x128, .i1⟩
  | 59 => ⟨S16x8192x1, .bf16⟩
  | 60 => ⟨S16x8192x128, .i1⟩
  | 61 => ⟨S16x8192x128, .bf16⟩
  | 62 => ⟨S16x8192x128, .bf16⟩
  | 63 => ⟨S8192x2048, .f32⟩
  | 64 => ⟨S8192x2048, .f32⟩
  | 65 => ⟨S8192x2048, .f32⟩
  | 66 => ⟨S8192x16x128, .f32⟩
  | 67 => ⟨S16x8192x128, .f32⟩
  | 68 => ⟨S8192x16x128, .f32⟩
  | 69 => ⟨S16x8192x128, .f32⟩
  | 70 => ⟨S8192x16x128, .f32⟩
  | 71 => ⟨S16x8192x128, .f32⟩
  | 72 => ⟨S16x8192x64, .f32⟩
  | 73 => ⟨S16x8192x64, .f32⟩
  | 74 => ⟨S16x8192x64, .f32⟩
  | 75 => ⟨S16x8192x1, .f32⟩
  | 76 => ⟨S16x8192, .f32⟩
  | 77 => ⟨S16x8192x1, .f32⟩
  | 78 => ⟨S16x8192, .f32⟩
  | _ => ⟨S16x8192x64, .f32⟩

abbrev hbmTy (i : Nat) : BufTy := match i / 128 with
  | 0 => hbmTy0_0 i
  | 1 => hbmTy0_1 i
  | _ => ⟨S16x8192x64, .f32⟩

abbrev bufTy : (tb : Table) → Fin (tcTables nBuf tb) → BufTy
  | .hbm, ⟨i, _⟩ => hbmTy i
  | .local _ .vmem, ⟨0, _⟩ => ⟨S1x8192x128, .bf16⟩
  | .local _ .vmem, ⟨1, _⟩ => ⟨S1x8192x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S8192x128, .f32⟩
  | .local _ .vmem, ⟨9, _⟩ => ⟨S8192x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_3 : Ref sig .tc := ⟨.hbm, 43, rfl⟩
abbrev main_v30 : Ref sig .tc := ⟨.hbm, 44, rfl⟩
abbrev main_v31 : Ref sig .tc := ⟨.hbm, 45, rfl⟩
abbrev main_c_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_c_8 : Ref sig .tc := ⟨.hbm, 86, rfl⟩
abbrev main_call1_v0 : Ref sig .tc := ⟨.hbm, 87, rfl⟩
abbrev main_v68 : Ref sig .tc := ⟨.hbm, 88, rfl⟩
abbrev main_v69 : Ref sig .tc := ⟨.hbm, 89, rfl⟩
abbrev main_c_9 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_call2_v0 : Ref sig .tc := ⟨.hbm, 94, rfl⟩
abbrev main_call2_v1 : Ref sig .tc := ⟨.hbm, 95, rfl⟩
abbrev main_v73 : Ref sig .tc := ⟨.hbm, 96, rfl⟩
abbrev main_c_10 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_call3_v0 : Ref sig .tc := ⟨.hbm, 101, rfl⟩
abbrev main_call3_v1 : Ref sig .tc := ⟨.hbm, 102, rfl⟩
abbrev main_v77 : Ref sig .tc := ⟨.hbm, 103, rfl⟩
abbrev main_c_11 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_call4_v0 : Ref sig .tc := ⟨.hbm, 108, rfl⟩
abbrev main_call4_v1 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_12 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_c_13 : Ref sig .tc := ⟨.hbm, 129, rfl⟩
abbrev main_call5_v0 : Ref sig .tc := ⟨.hbm, 130, rfl⟩
abbrev main_v99 : Ref sig .tc := ⟨.hbm, 131, rfl⟩
abbrev main_v100 : Ref sig .tc := ⟨.hbm, 132, rfl⟩
abbrev main_c_14 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_call6_v0 : Ref sig .tc := ⟨.hbm, 137, rfl⟩
abbrev main_call6_v1 : Ref sig .tc := ⟨.hbm, 138, rfl⟩
abbrev main_v104 : Ref sig .tc := ⟨.hbm, 139, rfl⟩
abbrev main_c_15 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_call7_v0 : Ref sig .tc := ⟨.hbm, 144, rfl⟩
abbrev main_call7_v1 : Ref sig .tc := ⟨.hbm, 145, rfl⟩
abbrev main_v108 : Ref sig .tc := ⟨.hbm, 146, rfl⟩
abbrev main_c_16 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_call8_v0 : Ref sig .tc := ⟨.hbm, 151, rfl⟩
abbrev main_call8_v1 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_c_17 : Ref sig .tc := ⟨.hbm, 166, rfl⟩
abbrev main_call9_v0 : Ref sig .tc := ⟨.hbm, 167, rfl⟩
abbrev main_v125 : Ref sig .tc := ⟨.hbm, 168, rfl⟩
abbrev main_v126 : Ref sig .tc := ⟨.hbm, 169, rfl⟩
abbrev main_c_18 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_call10_v0 : Ref sig .tc := ⟨.hbm, 174, rfl⟩
abbrev main_call10_v1 : Ref sig .tc := ⟨.hbm, 175, rfl⟩
abbrev main_v130 : Ref sig .tc := ⟨.hbm, 176, rfl⟩
abbrev main_c_19 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_call11_v0 : Ref sig .tc := ⟨.hbm, 181, rfl⟩
abbrev main_call11_v1 : Ref sig .tc := ⟨.hbm, 182, rfl⟩
abbrev main_v134 : Ref sig .tc := ⟨.hbm, 183, rfl⟩
abbrev main_c_20 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_call12_v0 : Ref sig .tc := ⟨.hbm, 188, rfl⟩
abbrev main_call12_v1 : Ref sig .tc := ⟨.hbm, 189, rfl⟩
abbrev main_v138 : Ref sig .tc := ⟨.hbm, 190, rfl⟩
abbrev main_v139_0 : Ref sig .tc := ⟨.hbm, 191, rfl⟩
abbrev main_v139_1 : Ref sig .tc := ⟨.hbm, 192, rfl⟩
abbrev main_v139_2 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c4_i32 : BitVec 32 := 4#32
  let v11 : BitVec 32 := Scalar.muli arg1 c4_i32
  let c0_i32_5 : BitVec 32 := 0#32
  let v12 : BitVec 32 := Scalar.addi v11 c0_i32_5
  let c512_i32 : BitVec 32 := 512#32
  let v13 : BitVec 32 := Scalar.muli v12 c512_i32
  v13
def k0_off1 (i : grid0.Coords) (c0_i32_5 : BitVec 32) : Fin 3 → Nat :=
  let c0_6 : Index := 0#32
  let arg1 : BitVec 32 := BitVec.ofNat 32 (i 1).val
  let c4_i32 : BitVec 32 := 4#32
  let v11 : BitVec 32 := Scalar.muli arg1 c4_i32
  let v12 : BitVec 32 := Scalar.addi v11 c0_i32_5
  let c512_i32 : BitVec 32 := 512#32
  let v13 : BitVec 32 := Scalar.muli v12 c512_i32
  let v14 : BitVec 32 := v13
  let v15 : Index := Scalar.indexCast v14
  let c0_7 : Index := 0#32
  ![0, v15.toNat, 0]
def k0_off2 (i : grid0.Coords) (c0_i32_5 : BitVec 32) : Fin 2 → Nat :=
  let arg1 : BitVec 32 := BitVec.ofNat 32 (i 1).val
  let c4_i32 : BitVec 32 := 4#32
  let v11 : BitVec 32 := Scalar.muli arg1 c4_i32
  let v12 : BitVec 32 := Scalar.addi v11 c0_i32_5
  let c512_i32 : BitVec 32 := 512#32
  let v13 : BitVec 32 := Scalar.muli v12 c512_i32
  let v14 : BitVec 32 := v13
  let v50 : Index := Scalar.indexCast v14
  let c0_30 : Index := 0#32
  ![v50.toNat, 0]
def k0_mult2 (i : grid0.Coords) : BitVec 32 :=
  let arg1 : BitVec 32 := BitVec.ofNat 32 (i 1).val
  let c4_i32_33 : BitVec 32 := 4#32
  let v57 : BitVec 32 := Scalar.muli arg1 c4_i32_33
  let c1_i32 : BitVec 32 := 1#32
  let v58 : BitVec 32 := Scalar.addi v57 c1_i32
  let c512_i32_34 : BitVec 32 := 512#32
  let v59 : BitVec 32 := Scalar.muli v58 c512_i32_34
  v59
def k0_mult3 (i : grid0.Coords) : BitVec 32 :=
  let arg1 : BitVec 32 := BitVec.ofNat 32 (i 1).val
  let c4_i32_62 : BitVec 32 := 4#32
  let v103 : BitVec 32 := Scalar.muli arg1 c4_i32_62
  let c2_i32 : BitVec 32 := 2#32
  let v104 : BitVec 32 := Scalar.addi v103 c2_i32
  let c512_i32_63 : BitVec 32 := 512#32
  let v105 : BitVec 32 := Scalar.muli v104 c512_i32_63
  v105
def k0_mult4 (i : grid0.Coords) : BitVec 32 :=
  let arg1 : BitVec 32 := BitVec.ofNat 32 (i 1).val
  let c4_i32_90 : BitVec 32 := 4#32
  let v149 : BitVec 32 := Scalar.muli arg1 c4_i32_90
  let c3_i32 : BitVec 32 := 3#32
  let v150 : BitVec 32 := Scalar.addi v149 c3_i32
  let c512_i32_91 : BitVec 32 := 512#32
  let v151 : BitVec 32 := Scalar.muli v150 c512_i32_91
  v151
@[reducible] def k0_t1_loop (i : grid0.Coords) : Scf.Loop 32 :=
  let arg1 : BitVec 32 := BitVec.ofNat 32 (i 1).val
  let c4_i32_118 : BitVec 32 := 4#32
  let v195 : BitVec 32 := Scalar.muli arg1 c4_i32_118
  let c4_i32_119 : BitVec 32 := 4#32
  let v196 : BitVec 32 := Scalar.addi v195 c4_i32_119
  let c16_i32 : BitVec 32 := 16#32
  let v197 : BitVec 32 := Scalar.subi c16_i32 v196
  let c1_i32_121 : BitVec 32 := 1#32
  let v199 : BitVec 32 := Scalar.divsi v197 c1_i32_121
  let v200 : BitVec 32 := Scalar.muli v199 c1_i32_121
  let v201 : BitVec 32 := Scalar.addi v196 v200
  let c1_i32_122 : BitVec 32 := 1#32
  ⟨v196, v201, c1_i32_122⟩
def k0_mult5 (i : grid0.Coords) (k0_t1 : Fin (k0_t1_loop i).trips) : BitVec 32 :=
  let arg1 : BitVec 32 := BitVec.ofNat 32 (i 1).val
  let c4_i32_118 : BitVec 32 := 4#32
  let v195 : BitVec 32 := Scalar.muli arg1 c4_i32_118
  let c4_i32_119 : BitVec 32 := 4#32
  let v196 : BitVec 32 := Scalar.addi v195 c4_i32_119
  let c1_i32_122 : BitVec 32 := 1#32
  let arg11 : BitVec 32 := Scf.iv v196 c1_i32_122 k0_t1
  let c512_i32_134 : BitVec 32 := 512#32
  let v209 : BitVec 32 := Scalar.muli arg11 c512_i32_134
  v209
def k0_off3 (i : grid0.Coords) (k0_t1 : Fin (k0_t1_loop i).trips) : Fin 3 → Nat :=
  let c0_135 : Index := 0#32
  let arg1 : BitVec 32 := BitVec.ofNat 32 (i 1).val
  let c4_i32_118 : BitVec 32 := 4#32
  let v195 : BitVec 32 := Scalar.muli arg1 c4_i32_118
  let c4_i32_119 : BitVec 32 := 4#32
  let v196 : BitVec 32 := Scalar.addi v195 c4_i32_119
  let c1_i32_122 : BitVec 32 := 1#32
  let arg11 : BitVec 32 := Scf.iv v196 c1_i32_122 k0_t1
  let c512_i32_134 : BitVec 32 := 512#32
  let v209 : BitVec 32 := Scalar.muli arg11 c512_i32_134
  let v210 : BitVec 32 := v209
  let v211 : Index := Scalar.indexCast v210
  let c0_136 : Index := 0#32
  ![0, v211.toNat, 0]
def k0_off4 (i : grid0.Coords) (k0_t1 : Fin (k0_t1_loop i).trips) : Fin 2 → Nat :=
  let arg1 : BitVec 32 := BitVec.ofNat 32 (i 1).val
  let c4_i32_118 : BitVec 32 := 4#32
  let v195 : BitVec 32 := Scalar.muli arg1 c4_i32_118
  let c4_i32_119 : BitVec 32 := 4#32
  let v196 : BitVec 32 := Scalar.addi v195 c4_i32_119
  let c1_i32_122 : BitVec 32 := 1#32
  let arg11 : BitVec 32 := Scf.iv v196 c1_i32_122 k0_t1
  let c512_i32_134 : BitVec 32 := 512#32
  let v209 : BitVec 32 := Scalar.muli arg11 c512_i32_134
  let v210 : BitVec 32 := v209
  let v239 : Index := Scalar.indexCast v210
  let c0_157 : Index := 0#32
  ![v239.toNat, 0]
@[reducible] def k0_t2_loop (i : grid0.Coords) : Scf.Loop 32 :=
  let arg1 : BitVec 32 := BitVec.ofNat 32 (i 1).val
  let c4_i32_118 : BitVec 32 := 4#32
  let v195 : BitVec 32 := Scalar.muli arg1 c4_i32_118
  let c4_i32_119 : BitVec 32 := 4#32
  let v196 : BitVec 32 := Scalar.addi v195 c4_i32_119
  let c16_i32 : BitVec 32 := 16#32
  let v197 : BitVec 32 := Scalar.subi c16_i32 v196
  let c1_i32_121 : BitVec 32 := 1#32
  let v199 : BitVec 32 := Scalar.divsi v197 c1_i32_121
  let v200 : BitVec 32 := Scalar.muli v199 c1_i32_121
  let v201 : BitVec 32 := Scalar.addi v196 v200
  let v198 : BitVec 32 := Scalar.addi v196 v197
  let c1_i32_123 : BitVec 32 := 1#32
  ⟨v201, v198, c1_i32_123⟩
def k0_mult6 (i : grid0.Coords) (k0_t2 : Fin (k0_t2_loop i).trips) : BitVec 32 :=
  let arg1 : BitVec 32 := BitVec.ofNat 32 (i 1).val
  let c4_i32_118 : BitVec 32 := 4#32
  let v195 : BitVec 32 := Scalar.muli arg1 c4_i32_118
  let c4_i32_119 : BitVec 32 := 4#32
  let v196 : BitVec 32 := Scalar.addi v195 c4_i32_119
  let c16_i32 : BitVec 32 := 16#32
  let v197 : BitVec 32 := Scalar.subi c16_i32 v196
  let c1_i32_121 : BitVec 32 := 1#32
  let v199 : BitVec 32 := Scalar.divsi v197 c1_i32_121
  let v200 : BitVec 32 := Scalar.muli v199 c1_i32_121
  let v201 : BitVec 32 := Scalar.addi v196 v200
  let c1_i32_123 : BitVec 32 := 1#32
  let arg11 : BitVec 32 := Scf.iv v201 c1_i32_123 k0_t2
  let c512_i32_134 : BitVec 32 := 512#32
  let v209 : BitVec 32 := Scalar.muli arg11 c512_i32_134
  v209
def k0_off5 (i : grid0.Coords) (k0_t2 : Fin (k0_t2_loop i).trips) : Fin 3 → Nat :=
  let c0_135 : Index := 0#32
  let arg1 : BitVec 32 := BitVec.ofNat 32 (i 1).val
  let c4_i32_118 : BitVec 32 := 4#32
  let v195 : BitVec 32 := Scalar.muli arg1 c4_i32_118
  let c4_i32_119 : BitVec 32 := 4#32
  let v196 : BitVec 32 := Scalar.addi v195 c4_i32_119
  let c16_i32 : BitVec 32 := 16#32
  let v197 : BitVec 32 := Scalar.subi c16_i32 v196
  let c1_i32_121 : BitVec 32 := 1#32
  let v199 : BitVec 32 := Scalar.divsi v197 c1_i32_121
  let v200 : BitVec 32 := Scalar.muli v199 c1_i32_121
  let v201 : BitVec 32 := Scalar.addi v196 v200
  let c1_i32_123 : BitVec 32 := 1#32
  let arg11 : BitVec 32 := Scf.iv v201 c1_i32_123 k0_t2
  let c512_i32_134 : BitVec 32 := 512#32
  let v209 : BitVec 32 := Scalar.muli arg11 c512_i32_134
  let v210 : BitVec 32 := v209
  let v211 : Index := Scalar.indexCast v210
  let c0_136 : Index := 0#32
  ![0, v211.toNat, 0]
def k0_off6 (i : grid0.Coords) (k0_t2 : Fin (k0_t2_loop i).trips) : Fin 2 → Nat :=
  let arg1 : BitVec 32 := BitVec.ofNat 32 (i 1).val
  let c4_i32_118 : BitVec 32 := 4#32
  let v195 : BitVec 32 := Scalar.muli arg1 c4_i32_118
  let c4_i32_119 : BitVec 32 := 4#32
  let v196 : BitVec 32 := Scalar.addi v195 c4_i32_119
  let c16_i32 : BitVec 32 := 16#32
  let v197 : BitVec 32 := Scalar.subi c16_i32 v196
  let c1_i32_121 : BitVec 32 := 1#32
  let v199 : BitVec 32 := Scalar.divsi v197 c1_i32_121
  let v200 : BitVec 32 := Scalar.muli v199 c1_i32_121
  let v201 : BitVec 32 := Scalar.addi v196 v200
  let c1_i32_123 : BitVec 32 := 1#32
  let arg11 : BitVec 32 := Scf.iv v201 c1_i32_123 k0_t2
  let c512_i32_134 : BitVec 32 := 512#32
  let v209 : BitVec 32 := Scalar.muli arg11 c512_i32_134
  let v210 : BitVec 32 := v209
  let v239 : Index := Scalar.indexCast v210
  let c0_157 : Index := 0#32
  ![v239.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi arg0 c32_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel4Ideal.lean ====
variable {F : FTy → Type} [FloatOps F] [Named F]
def κ : String → Option EReal := fun
  | "mask" => some ⊥
  | _ => none
-- ==== Reference4Ideal.lean ====
abbrev S16x8192x64 : Shape := ⟨3, ![16, 8192, 64]⟩
abbrev S16x8192 : Shape := ⟨2, ![16, 8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩

abbrev nBuf : Space → Nat
  | .hbm => 104
  | .vmem => 0
  | .smem => 0
  | _ => 0

abbrev bufTy : (tb : Table) → Fin (tcTables nBuf tb) → BufTy
  | .hbm, ⟨0, _⟩ => ⟨S16x8192x64, .f32⟩
  | .hbm, ⟨1, _⟩ => ⟨S16x8192x64, .f32⟩
  | .hbm, ⟨2, _⟩ => ⟨S16x8192x64, .f32⟩
  | .hbm, ⟨3, _⟩ => ⟨S16x8192, .f32⟩
  | .hbm, ⟨4, _⟩ => ⟨S16x8192x64, .f32⟩
  | .hbm, ⟨5, _⟩ => ⟨S16x8192x8192, .f32⟩
  | .hbm, ⟨6, _⟩ => ⟨S_, .f32⟩
  | .hbm, ⟨7, _⟩ => ⟨S16x8192x8192, .f32⟩
  | .hbm, ⟨8, _⟩ => ⟨S16x8192x8192, .f32⟩
  | .hbm, ⟨9, _⟩ => ⟨S16x8192x1, .f32⟩
  | .hbm, ⟨10, _⟩ => ⟨S16x8192x8192, .f32⟩
  | .hbm, ⟨11, _⟩ => ⟨S16x8192x8192, .f32⟩
  | .hbm, ⟨12, _⟩ => ⟨S16x1x8192, .f32⟩
  | .hbm, ⟨13, _⟩ => ⟨S16x8192x8192, .f32⟩
  | .hbm, ⟨14, _⟩ => ⟨S16x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S16x8192x8192, .i1⟩
  | .hbm, ⟨24, _⟩ => ⟨S16x8192x8192, .f32⟩
  | .hbm, ⟨25, _⟩ => ⟨S16x8192x8192, .f32⟩
  | .hbm, ⟨26, _⟩ => ⟨S_, .f32⟩
  | .hbm, ⟨27, _⟩ => ⟨S16x8192x8192, .f32⟩
  | .hbm, ⟨28, _⟩ => ⟨S_, .f32⟩
  | .hbm, ⟨29, _⟩ => ⟨S16x8192, .f32⟩
  | .hbm, ⟨30, _⟩ => ⟨S16x8192x1, .f32⟩
  | .hbm, ⟨31, _⟩ => ⟨S16x8192x8192, .f32⟩
  | .hbm, ⟨32, _⟩ => ⟨S16x8192x8192, .i1⟩
  | .hbm, ⟨33, _⟩ => ⟨S16x8192x8192, .f32⟩
  | .hbm, ⟨34, _⟩ => ⟨S_, .f32⟩
  | .hbm, ⟨35, _⟩ => ⟨S16x8192, .f32⟩
  | .hbm, ⟨36, _⟩ => ⟨S_, .f32⟩
  | .hbm, ⟨37, _⟩ => ⟨S16x8192, .f32⟩
  | .hbm, ⟨38, _⟩ => ⟨S16x8192, .f32⟩
  | .hbm, ⟨39, _⟩ => ⟨S_, .f32⟩
  | .hbm, ⟨40, _⟩ => ⟨S16x8192, .f32⟩
  | .hbm, ⟨41, _⟩ => ⟨S16x8192, .i1⟩
  | .hbm, ⟨42, _⟩ => ⟨S_, .f32⟩
  | .hbm, ⟨43, _⟩ => ⟨S16x8192, .f32⟩
  | .hbm, ⟨44, _⟩ => ⟨S16x8192, .i1⟩
  | .hbm, ⟨45, _⟩ => ⟨S_, .f32⟩
  | .hbm, ⟨46, _⟩ => ⟨S16x8192, .f32⟩
  | .hbm, ⟨47, _⟩ => ⟨S_, .f32⟩
  | .hbm, ⟨48, _⟩ => ⟨S16x8192, .f32⟩
  | .hbm, ⟨49, _⟩ => ⟨S_, .f32⟩
  | .hbm, ⟨50, _⟩ => ⟨S16x8192, .f32⟩
  | .hbm, ⟨51, _⟩ => ⟨S16x8192, .f32⟩
  | .hbm, ⟨52, _⟩ => ⟨S16x8192, .f32⟩
  | .hbm, ⟨53, _⟩ => ⟨S16x8192x1, .f32⟩
  | .hbm, ⟨54, _⟩ => ⟨S16x8192x8192, .f32⟩
  | .hbm, ⟨55, _⟩ => ⟨S16x8192x8192, .f32⟩
  | .hbm, ⟨56, _⟩ => ⟨S16x8192x8192, .f32⟩
  | .hbm, ⟨57, _⟩ => ⟨S_, .f32⟩
  | .hbm, ⟨58, _⟩ => ⟨S16x8192, .f32⟩
  | .hbm, ⟨59, _⟩ => ⟨S16x8192x1, .f32⟩
  | .hbm, ⟨60, _⟩ => ⟨S16x8192x8192, .f32⟩
  | .hbm, ⟨61, _⟩ => ⟨S16x8192x8192, .f32⟩
  | .hbm, ⟨62, _⟩ => ⟨S16x8192x1, .f32⟩
  | .hbm, ⟨63, _⟩ => ⟨S_, .f32⟩
  | .hbm, ⟨64, _⟩ => ⟨S16x8192x1, .f32⟩
  | .hbm, ⟨65, _⟩ => ⟨S16x8192x1, .f32⟩
  | .hbm, ⟨66, _⟩ => ⟨S16x8192x64, .f32⟩
  | .hbm, ⟨67, _⟩ => ⟨S16x64x8192, .f32⟩
  | .hbm, ⟨68, _⟩ => ⟨S16x8192x64, .f32⟩
  | .hbm, ⟨69, _⟩ => ⟨S16x8192x8192, .f32⟩
  | .hbm, ⟨70, _⟩ => ⟨S16x8192x8192, .f32⟩
  | .hbm, ⟨71, _⟩ => ⟨S16x8192x8192, .f32⟩
  | .hbm, ⟨72, _⟩ => ⟨S16x8192x8192, .f32⟩
  | .hbm, ⟨73, _⟩ => ⟨S_, .f32⟩
  | .hbm, ⟨74, _⟩ => ⟨S16x8192, .f32⟩
  | .hbm, ⟨75, _⟩ => ⟨S16x8192x1, .f32⟩
  | .hbm, ⟨76, _⟩ => ⟨S16x8192x1, .f32⟩
  | .hbm, ⟨77, _⟩ => ⟨S16x8192x8192, .f32⟩
  | .hbm, ⟨78, _⟩ => ⟨S16x8192x8192, .f32⟩
  | .hbm, ⟨79, _⟩ => ⟨S_, .f32⟩
  | .hbm, ⟨80, _⟩ => ⟨S16x8192, .f32⟩
  | .hbm, ⟨81, _⟩ => ⟨S16x8192x8192, .f32⟩
  | .hbm, ⟨82, _⟩ => ⟨S16x8192x8192, .f32⟩
  | .hbm, ⟨83, _⟩ => ⟨S16x8192x8192, .f32⟩
  | .hbm, ⟨84, _⟩ => ⟨S_, .f32⟩
  | .hbm, ⟨85, _⟩ => ⟨S16x8192x8192, .f32⟩
  | .hbm, ⟨86, _⟩ => ⟨S16x8192x8192, .f32⟩
  | .hbm, ⟨87, _⟩ => ⟨S16x8192x8192, .f32⟩
  | .hbm, ⟨88, _⟩ => ⟨S_, .f32⟩
  | .hbm, ⟨89, _⟩ => ⟨S16x8192, .f32⟩
  | .hbm, ⟨90, _⟩ => ⟨S16x1x8192, .f32⟩
  | .hbm, ⟨91, _⟩ => ⟨S_, .f32⟩
  | .hbm, ⟨92, _⟩ => ⟨S16x8192, .f32⟩
  | .hbm, ⟨93, _⟩ => ⟨S_, .f32⟩
  | .hbm, ⟨94, _⟩ => ⟨S16x8192, .f32⟩
  | .hbm, ⟨95, _⟩ => ⟨S16x8192x1, .f32⟩
  | .hbm, ⟨96, _⟩ => ⟨S_, .f32⟩
  | .hbm, ⟨97, _⟩ => ⟨S16x8192, .f32⟩
  | .hbm, ⟨98, _⟩ => ⟨S_, .f32⟩
  | .hbm, ⟨99, _⟩ => ⟨S16x8192x8192, .f32⟩
  | .hbm, ⟨100, _⟩ => ⟨S16x8192x8192, .f32⟩
  | .hbm, ⟨101, _⟩ => ⟨S16x8192x64, .f32⟩
  | .hbm, ⟨102, _⟩ => ⟨S16x8192x64, .f32⟩
  | .hbm, ⟨103, _⟩ => ⟨S16x8192, .f32⟩
  | _, _ => ⟨S16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_cst_16 : Ref sig .tc := ⟨.hbm, 96, rfl⟩
abbrev main_v67 : Ref sig .tc := ⟨.hbm, 97, rfl⟩
abbrev main_cst_17 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]
-- ==== Kernel5.lean ====
abbrev S8192x384 : Shape := ⟨2, ![8192, 384]⟩
abbrev S384 : Shape := ⟨1, ![384]⟩
abbrev S1x384 : Shape := ⟨2, ![1, 384]⟩
abbrev S512x384 : Shape := ⟨2, ![512, 384]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x384, .f32⟩
  | .hbm, ⟨1, _⟩ => ⟨S384, .f32⟩
  | .hbm, ⟨2, _⟩ => ⟨S8192x384, .f32⟩
  | .hbm, ⟨3, _⟩ => ⟨S1x384, .f32⟩
  | .hbm, ⟨4, _⟩ => ⟨S8192x384, .f32⟩
  | .hbm, ⟨5, _⟩ => ⟨S1x384, .f32⟩
  | .local _ .vmem, ⟨0, _⟩ => ⟨S512x384, .f32⟩
  | .local _ .vmem, ⟨1, _⟩ => ⟨S512x384, .f32⟩
  | .local _ .vmem, ⟨2, _⟩ => ⟨S1x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S1x384, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference5Ideal.lean ====
abbrev S8192x384 : Shape := ⟨2, ![8192, 384]⟩
abbrev S384 : Shape := ⟨1, ![384]⟩
abbrev S_ : Shape := ⟨0, ![]⟩
abbrev S8192 : Shape := ⟨1, ![8192]⟩
abbrev S8192x1 : Shape := ⟨2, ![8192, 1]⟩
abbrev S1x384 : Shape := ⟨2, ![1, 384]⟩

abbrev nBuf : Space → Nat
  | .hbm => 49
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384, .f32⟩
  | .hbm, ⟨2, _⟩ => ⟨S8192x384, .f32⟩
  | .hbm, ⟨3, _⟩ => ⟨S8192x384, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x384, .f32⟩
  | .hbm, ⟨19, _⟩ => ⟨S8192x384, .f32⟩
  | .hbm, ⟨20, _⟩ => ⟨S1x384, .f32⟩
  | .hbm, ⟨21, _⟩ => ⟨S8192x384, .f32⟩
  | .hbm, ⟨22, _⟩ => ⟨S8192x384, .f32⟩
  | .hbm, ⟨23, _⟩ => ⟨S8192x384, .f32⟩
  | .hbm, ⟨24, _⟩ => ⟨S_, .f32⟩
  | .hbm, ⟨25, _⟩ => ⟨S384, .f32⟩
  | .hbm, ⟨26, _⟩ => ⟨S1x384, .f32⟩
  | .hbm, ⟨27, _⟩ => ⟨S8192x384, .f32⟩
  | .hbm, ⟨28, _⟩ => ⟨S8192x384, .f32⟩
  | .hbm, ⟨29, _⟩ => ⟨S_, .f32⟩
  | .hbm, ⟨30, _⟩ => ⟨S384, .f32⟩
  | .hbm, ⟨31, _⟩ => ⟨S8192x384, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x384, .f32⟩
  | .hbm, ⟨36, _⟩ => ⟨S8192x384, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x384, .f32⟩
  | .hbm, ⟨44, _⟩ => ⟨S8192x384, .f32⟩
  | .hbm, ⟨45, _⟩ => ⟨S8192x384, .f32⟩
  | .hbm, ⟨46, _⟩ => ⟨S8192x384, .f32⟩
  | .hbm, ⟨47, _⟩ => ⟨S8192x384, .f32⟩
  | .hbm, ⟨48, _⟩ => ⟨S1x384, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel6.lean ====
abbrev S8192x256 : Shape := ⟨2, ![8192, 256]⟩
abbrev S256 : Shape := ⟨1, ![256]⟩
abbrev S1x256 : Shape := ⟨2, ![1, 256]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S256, .f32⟩
  | .hbm, ⟨2, _⟩ => ⟨S8192x256, .f32⟩
  | .hbm, ⟨3, _⟩ => ⟨S1x256, .f32⟩
  | .hbm, ⟨4, _⟩ => ⟨S8192x256, .f32⟩
  | .hbm, ⟨5, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S1x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference6Ideal.lean ====
abbrev S8192x256 : Shape := ⟨2, ![8192, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x256 : Shape := ⟨2, ![1, 256]⟩

abbrev nBuf : Space → Nat
  | .hbm => 49
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x256, .f32⟩
  | .hbm, ⟨19, _⟩ => ⟨S8192x256, .f32⟩
  | .hbm, ⟨20, _⟩ => ⟨S1x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S256, .f32⟩
  | .hbm, ⟨26, _⟩ => ⟨S1x256, .f32⟩
  | .hbm, ⟨27, _⟩ => ⟨S8192x256, .f32⟩
  | .hbm, ⟨28, _⟩ => ⟨S8192x256, .f32⟩
  | .hbm, ⟨29, _⟩ => ⟨S_, .f32⟩
  | .hbm, ⟨30, _⟩ => ⟨S256, .f32⟩
  | .hbm, ⟨31, _⟩ => ⟨S8192x256, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x256, .f32⟩
  | .hbm, ⟨36, _⟩ => ⟨S8192x256, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x256, .f32⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S8192x256, .f32⟩
  | .hbm, ⟨48, _⟩ => ⟨S1x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S1024x384 : Shape := ⟨2, ![1024, 384]⟩
abbrev S8192x384 : Shape := ⟨2, ![8192, 384]⟩
abbrev S1x1024 : Shape := ⟨2, ![1, 1024]⟩
abbrev S512x384 : Shape := ⟨2, ![512, 384]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x384, .f32⟩
  | .hbm, ⟨3, _⟩ => ⟨S8192x1024, .f32⟩
  | .hbm, ⟨4, _⟩ => ⟨S8192x384, .f32⟩
  | .hbm, ⟨5, _⟩ => ⟨S1024x384, .bf16⟩
  | .hbm, ⟨6, _⟩ => ⟨S1x1024, .f32⟩
  | .hbm, ⟨7, _⟩ => ⟨S8192x1024, .f32⟩
  | .hbm, ⟨8, _⟩ => ⟨S1x1024, .f32⟩
  | .local _ .vmem, ⟨0, _⟩ => ⟨S512x384, .f32⟩
  | .local _ .vmem, ⟨1, _⟩ => ⟨S512x384, .f32⟩
  | .local _ .vmem, ⟨2, _⟩ => ⟨S1024x384, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S8192x1024 : Shape := ⟨2, ![8192, 1024]⟩
abbrev S1024 : Shape := ⟨1, ![1024]⟩
abbrev S1024x384 : Shape := ⟨2, ![1024, 384]⟩
abbrev S8192x384 : Shape := ⟨2, ![8192, 384]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x384, .f32⟩
  | .hbm, ⟨3, _⟩ => ⟨S8192x1024, .f32⟩
  | .hbm, ⟨4, _⟩ => ⟨S8192x384, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x384, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x1024, .f32⟩
  | .hbm, ⟨4, _⟩ => ⟨S8192x4096, .f32⟩
  | .hbm, ⟨5, _⟩ => ⟨S8192x4096, .bf16⟩
  | .hbm, ⟨6, _⟩ => ⟨S1024x4096, .bf16⟩
  | .hbm, ⟨7, _⟩ => ⟨S1x1024, .f32⟩
  | .hbm, ⟨8, _⟩ => ⟨S8192x1024, .f32⟩
  | .hbm, ⟨9, _⟩ => ⟨S1x1024, .f32⟩
  | .hbm, ⟨10, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x1024, .f32⟩
  | .hbm, ⟨4, _⟩ => ⟨S8192x4096, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x1024, .f32⟩
  | .hbm, ⟨4, _⟩ => ⟨S8192x3072, .f32⟩
  | .hbm, ⟨5, _⟩ => ⟨S8192x1024, .f32⟩
  | .hbm, ⟨6, _⟩ => ⟨S8192x3072, .bf16⟩
  | .hbm, ⟨7, _⟩ => ⟨S1024x3072, .bf16⟩
  | .hbm, ⟨8, _⟩ => ⟨S1x1024, .f32⟩
  | .hbm, ⟨9, _⟩ => ⟨S8192x1024, .f32⟩
  | .hbm, ⟨10, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference9Ideal.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x1024, .f32⟩
  | .hbm, ⟨4, _⟩ => ⟨S8192x3072, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x3072, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel10.lean ====
abbrev S8192x1024 : Shape := ⟨2, ![8192, 1024]⟩
abbrev S1024 : Shape := ⟨1, ![1024]⟩
abbrev S1024x320 : Shape := ⟨2, ![1024, 320]⟩
abbrev S8192x320 : Shape := ⟨2, ![8192, 320]⟩
abbrev S_ : Shape := ⟨0, ![]⟩
abbrev S8192x384 : Shape := ⟨2, ![8192, 384]⟩
abbrev S1024x384 : Shape := ⟨2, ![1024, 384]⟩
abbrev S1x1024 : Shape := ⟨2, ![1, 1024]⟩
abbrev S512x384 : Shape := ⟨2, ![512, 384]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x320, .f32⟩
  | .hbm, ⟨3, _⟩ => ⟨S8192x1024, .f32⟩
  | .hbm, ⟨4, _⟩ => ⟨S8192x320, .f32⟩
  | .hbm, ⟨5, _⟩ => ⟨S_, .i32⟩
  | .hbm, ⟨6, _⟩ => ⟨S_, .f32⟩
  | .hbm, ⟨7, _⟩ => ⟨S8192x384, .f32⟩
  | .hbm, ⟨8, _⟩ => ⟨S1024x320, .bf16⟩
  | .hbm, ⟨9, _⟩ => ⟨S_, .i32⟩
  | .hbm, ⟨10, _⟩ => ⟨S_, .bf16⟩
  | .hbm, ⟨11, _⟩ => ⟨S1024x384, .bf16⟩
  | .hbm, ⟨12, _⟩ => ⟨S1x1024, .f32⟩
  | .hbm, ⟨13, _⟩ => ⟨S8192x1024, .f32⟩
  | .hbm, ⟨14, _⟩ => ⟨S1x1024, .f32⟩
  | .hbm, ⟨15, _⟩ => ⟨S8192x1024, .bf16⟩
  | .local _ .vmem, ⟨0, _⟩ => ⟨S512x384, .f32⟩
  | .local _ .vmem, ⟨1, _⟩ => ⟨S512x384, .f32⟩
  | .local _ .vmem, ⟨2, _⟩ => ⟨S1024x384, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S8192x1024 : Shape := ⟨2, ![8192, 1024]⟩
abbrev S1024 : Shape := ⟨1, ![1024]⟩
abbrev S1024x320 : Shape := ⟨2, ![1024, 320]⟩
abbrev S8192x320 : Shape := ⟨2, ![8192, 320]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x320, .f32⟩
  | .hbm, ⟨3, _⟩ => ⟨S8192x1024, .f32⟩
  | .hbm, ⟨4, _⟩ => ⟨S8192x320, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x320, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel11.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1x128, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S1x1024, .f32⟩
  | .hbm, ⟨71, _⟩ => ⟨S1x128, .f32⟩
  | .hbm, ⟨72, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_cst_8 : Ref sig .tc := ⟨.hbm, 35, rfl⟩
abbrev main_v23 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_10 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_11 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Kernel12.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x1024, .bf16⟩
  | .hbm, ⟨5, _⟩ => ⟨S1024x4096, .bf16⟩
  | .hbm, ⟨6, _⟩ => ⟨S8192x4096, .bf16⟩
  | .hbm, ⟨7, _⟩ => ⟨S8192x4096, .bf16⟩
  | .hbm, ⟨8, _⟩ => ⟨S8192x1024, .bf16⟩
  | .hbm, ⟨9, _⟩ => ⟨S4096x1024, .bf16⟩
  | .hbm, ⟨10, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== Reference12Ideal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel13.lean ====
abbrev S16x8192 : Shape := ⟨2, ![16, 8192]⟩
abbrev S16 : Shape := ⟨1, ![16]⟩
abbrev S16x1 : Shape := ⟨2, ![16, 1]⟩
abbrev S16x512 : Shape := ⟨2, ![16, 512]⟩
abbrev S512x512 : Shape := ⟨2, ![512, 512]⟩

abbrev nBuf : Space → Nat
  | .hbm => 7
  | .vmem => 11
  | .smem => 0
  | _ => 0

abbrev bufTy : (tb : Table) → Fin (tcTables nBuf tb) → BufTy
  | .hbm, ⟨0, _⟩ => ⟨S16x8192, .f32⟩
  | .hbm, ⟨1, _⟩ => ⟨S16x8192, .f32⟩
  | .hbm, ⟨2, _⟩ => ⟨S16x8192, .f32⟩
  | .hbm, ⟨3, _⟩ => ⟨S16, .f32⟩
  | .hbm, ⟨4, _⟩ => ⟨S16x1, .f32⟩
  | .hbm, ⟨5, _⟩ => ⟨S16x8192, .f32⟩
  | .hbm, ⟨6, _⟩ => ⟨S16x1, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x1, .f32⟩
  | .local _ .vmem, ⟨7, _⟩ => ⟨S16x512, .f32⟩
  | .local _ .vmem, ⟨8, _⟩ => ⟨S16x512, .f32⟩
  | .local _ .vmem, ⟨9, _⟩ => ⟨S16x1, .f32⟩
  | .local _ .vmem, ⟨10, _⟩ => ⟨S16x1, .f32⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference13Ideal.lean ====
abbrev S16x8192 : Shape := ⟨2, ![16, 8192]⟩
abbrev S16 : Shape := ⟨1, ![16]⟩
abbrev S16x1 : Shape := ⟨2, ![16, 1]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S16x8192, .f32⟩
  | .hbm, ⟨2, _⟩ => ⟨S16x8192, .f32⟩
  | .hbm, ⟨3, _⟩ => ⟨S16, .f32⟩
  | .hbm, ⟨4, _⟩ => ⟨S16x1, .f32⟩
  | .hbm, ⟨5, _⟩ => ⟨S16x8192, .f32⟩
  | .hbm, ⟨6, _⟩ => ⟨S16x8192, .f32⟩
  | .hbm, ⟨7, _⟩ => ⟨S16x8192, .f32⟩
  | .hbm, ⟨8, _⟩ => ⟨S_, .f32⟩
  | .hbm, ⟨9, _⟩ => ⟨S16x8192, .f32⟩
  | .hbm, ⟨10, _⟩ => ⟨S16x8192, .f32⟩
  | .hbm, ⟨11, _⟩ => ⟨S16x8192, .f32⟩
  | .hbm, ⟨12, _⟩ => ⟨S16x8192, .f32⟩
  | .hbm, ⟨13, _⟩ => ⟨S16x8192, .i1⟩
  | .hbm, ⟨14, _⟩ => ⟨S16x8192, .f32⟩
  | .hbm, ⟨15, _⟩ => ⟨S16x8192, .f32⟩
  | .hbm, ⟨16, _⟩ => ⟨S16x8192, .f32⟩
  | .hbm, ⟨17, _⟩ => ⟨S16x8192, .f32⟩
  | .hbm, ⟨18, _⟩ => ⟨S16x8192, .f32⟩
  | .hbm, ⟨19, _⟩ => ⟨S16x8192, .f32⟩
  | .hbm, ⟨20, _⟩ => ⟨S16x8192, .f32⟩
  | .hbm, ⟨21, _⟩ => ⟨S16x8192, .f32⟩
  | .hbm, ⟨22, _⟩ => ⟨S_, .f32⟩
  | .hbm, ⟨23, _⟩ => ⟨S16x8192, .f32⟩
  | .hbm, ⟨24, _⟩ => ⟨S16x8192, .i1⟩
  | .hbm, ⟨25, _⟩ => ⟨S_, .f32⟩
  | .hbm, ⟨26, _⟩ => ⟨S16x8192, .f32⟩
  | .hbm, ⟨27, _⟩ => ⟨S16x8192, .f32⟩
  | .hbm, ⟨28, _⟩ => ⟨S_, .f32⟩
  | .hbm, ⟨29, _⟩ => ⟨S16x8192, .f32⟩
  | .hbm, ⟨30, _⟩ => ⟨S16x8192, .i1⟩
  | .hbm, ⟨31, _⟩ => ⟨S_, .f32⟩
  | .hbm, ⟨32, _⟩ => ⟨S16x8192, .f32⟩
  | .hbm, ⟨33, _⟩ => ⟨S16x8192, .f32⟩
  | .hbm, ⟨34, _⟩ => ⟨S16x8192, .f32⟩
  | .hbm, ⟨35, _⟩ => ⟨S16x8192, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S16x8192, .f32⟩
  | .hbm, ⟨44, _⟩ => ⟨S16x8192, .i1⟩
  | .hbm, ⟨45, _⟩ => ⟨S_, .f32⟩
  | .hbm, ⟨46, _⟩ => ⟨S16x8192, .f32⟩
  | .hbm, ⟨47, _⟩ => ⟨S16x8192, .f32⟩
  | .hbm, ⟨48, _⟩ => ⟨S16x8192, .f32⟩
  | .hbm, ⟨49, _⟩ => ⟨S16x8192, .f32⟩
  | .hbm, ⟨50, _⟩ => ⟨S16x8192, .f32⟩
  | .hbm, ⟨51, _⟩ => ⟨S_, .f32⟩
  | .hbm, ⟨52, _⟩ => ⟨S16x8192, .f32⟩
  | .hbm, ⟨53, _⟩ => ⟨S16x8192, .f32⟩
  | .hbm, ⟨54, _⟩ => ⟨S16x8192, .f32⟩
  | .hbm, ⟨55, _⟩ => ⟨S_, .f32⟩
  | .hbm, ⟨56, _⟩ => ⟨S_, .f32⟩
  | .hbm, ⟨57, _⟩ => ⟨S16x8192, .f32⟩
  | .hbm, ⟨58, _⟩ => ⟨S16x8192, .f32⟩
  | .hbm, ⟨59, _⟩ => ⟨S16x8192, .f32⟩
  | .hbm, ⟨60, _⟩ => ⟨S16x8192, .f32⟩
  | .hbm, ⟨61, _⟩ => ⟨S_, .f32⟩
  | .hbm, ⟨62, _⟩ => ⟨S_, .f32⟩
  | .hbm, ⟨63, _⟩ => ⟨S16x8192, .f32⟩
  | .hbm, ⟨64, _⟩ => ⟨S16x8192, .f32⟩
  | .hbm, ⟨65, _⟩ => ⟨S16x8192, .f32⟩
  | .hbm, ⟨66, _⟩ => ⟨S16x8192, .f32⟩
  | .hbm, ⟨67, _⟩ => ⟨S_, .f32⟩
  | .hbm, ⟨68, _⟩ => ⟨S16, .f32⟩
  | .hbm, ⟨69, _⟩ => ⟨S16x1, .f32⟩
  | .hbm, ⟨70, _⟩ => ⟨S_, .f32⟩
  | .hbm, ⟨71, _⟩ => ⟨S16, .f32⟩
  | .hbm, ⟨72, _⟩ => ⟨S16x1, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v3_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v3_2 : Ref sig .tc := ⟨.hbm, 53, rfl⟩
abbrev main_v3_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_call2_call0_cst : Ref sig .tc := ⟨.hbm, 61, rfl⟩
abbrev main_call2_call0_v0 : Ref sig .tc := ⟨.hbm, 62, rfl⟩
abbrev main_v8 : Ref sig .tc := ⟨.hbm, 63, rfl⟩
abbrev main_call3_v0 : Ref sig .tc := ⟨.hbm, 64, rfl⟩
abbrev main_call3_v1 : Ref sig .tc := ⟨.hbm, 65, rfl⟩
abbrev main_v9 : Ref sig .tc := ⟨.hbm, 66, rfl⟩
abbrev main_cst : Ref sig .tc := ⟨.hbm, 67, rfl⟩
abbrev main_v10 : Ref sig .tc := ⟨.hbm, 68, rfl⟩
abbrev main_v11 : Ref sig .tc := ⟨.hbm, 69, rfl⟩
abbrev main_cst_0 : Ref sig .tc := ⟨.hbm, 70, rfl⟩
abbrev main_v12 : Ref sig .tc := ⟨.hbm, 71, rfl⟩
abbrev main_v13 : Ref sig .tc := ⟨.hbm, 72, rfl⟩

abbrev nD : Nat := 1
abbrev τ : Topo := Topo.v7x

variable {F : FTy → Type} [FloatOps F]
-- ==== Kernel14.lean ====
abbrev S8x8192x192 : Shape := ⟨3, ![8, 8192, 192]⟩
abbrev S8x8192x128 : Shape := ⟨3, ![8, 8192, 128]⟩
abbrev S_ : Shape := ⟨0, ![]⟩
abbrev S8x8192x256 : Shape := ⟨3, ![8, 8192, 256]⟩
abbrev S1x1x256 : Shape := ⟨3, ![1, 1, 256]⟩
abbrev S8x1x8192 : Shape := ⟨3, ![8, 1, 8192]⟩
abbrev S1x2048x192 : Shape := ⟨3, ![1, 2048, 192]⟩
abbrev S1x8192x192 : Shape := ⟨3, ![1, 8192, 192]⟩
abbrev S1x8192x256 : Shape := ⟨3, ![1, 8192, 256]⟩
abbrev S1x2048x128 : Shape := ⟨3, ![1, 2048, 128]⟩
abbrev S1x1x2048 : Shape := ⟨3, ![1, 1, 2048]⟩
abbrev S2048x128 : Shape := ⟨2, ![2048, 128]⟩
abbrev S2048x256 : Shape := ⟨2, ![2048, 256]⟩
abbrev S2048x192 : Shape := ⟨2, ![2048, 192]⟩
abbrev S1x512x192 : Shape := ⟨3, ![1, 512, 192]⟩
abbrev S512x192 : Shape := ⟨2, ![512, 192]⟩
abbrev S2048x512 : Shape := ⟨2, ![2048, 512]⟩
abbrev S2048 : Shape := ⟨1, ![2048]⟩
abbrev S2048x1 : Shape := ⟨2, ![2048, 1]⟩
abbrev S1x512x256 : Shape := ⟨3, ![1, 512, 256]⟩
abbrev S512x256 : Shape := ⟨2, ![512, 256]⟩
abbrev S1x1536x192 : Shape := ⟨3, ![1, 1536, 192]⟩
abbrev S1536x192 : Shape := ⟨2, ![1536, 192]⟩
abbrev S1536x512 : Shape := ⟨2, ![1536, 512]⟩
abbrev S1536x128 : Shape := ⟨2, ![1536, 128]⟩
abbrev S1536 : Shape := ⟨1, ![1536]⟩
abbrev S1536x1 : Shape := ⟨2, ![1536, 1]⟩
abbrev S1536x256 : Shape := ⟨2, ![1536, 256]⟩
abbrev S1x1024x192 : Shape := ⟨3, ![1, 1024, 192]⟩
abbrev S1024x192 : Shape := ⟨2, ![1024, 192]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S1024x256 : Shape := ⟨2, ![1024, 256]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128x2048 : Shape := ⟨2, ![128, 2048]⟩
abbrev S1x2048 : Shape := ⟨2, ![1, 2048]⟩
abbrev S8x8192 : Shape := ⟨2, ![8, 8192]⟩

abbrev nBuf : Space → Nat
  | .hbm => 27
  | .vmem => 12
  | .smem => 0
  | _ => 0

abbrev bufTy : (tb : Table) → Fin (tcTables nBuf tb) → BufTy
  | .hbm, ⟨0, _⟩ => ⟨S8x8192x192, .f32⟩
  | .hbm, ⟨1, _⟩ => ⟨S8x8192x192, .f32⟩
  | .hbm, ⟨2, _⟩ => ⟨S8x8192x128, .f32⟩
  | .hbm, ⟨3, _⟩ => ⟨S_, .f32⟩
  | .hbm, ⟨4, _⟩ => ⟨S8x8192x192, .f32⟩
  | .hbm, ⟨5, _⟩ => ⟨S8x8192x192, .f32⟩
  | .hbm, ⟨6, _⟩ => ⟨S8x8192x192, .bf16⟩
  | .hbm, ⟨7, _⟩ => ⟨S8x8192x192, .bf16⟩
  | .hbm, ⟨8, _⟩ => ⟨S8x8192x128, .bf16⟩
  | .hbm, ⟨9, _⟩ => ⟨S_, .i32⟩
  | .hbm, ⟨10, _⟩ => ⟨S_, .bf16⟩
  | .hbm, ⟨11, _⟩ => ⟨S8x8192x256, .bf16⟩
  | .hbm, ⟨12, _⟩ => ⟨S1x1x256, .i32⟩
  | .hbm, ⟨13, _⟩ => ⟨S_, .i32⟩
  | .hbm, ⟨14, _⟩ => ⟨S1x1x256, .i32⟩
  | .hbm, ⟨15, _⟩ => ⟨S1x1x256, .i1⟩
  | .hbm, ⟨16, _⟩ => ⟨S_, .i32⟩
  | .hbm, ⟨17, _⟩ => ⟨S1x1x256, .i32⟩
  | .hbm, ⟨18, _⟩ => ⟨S1x1x256, .i1⟩
  | .hbm, ⟨19, _⟩ => ⟨S1x1x256, .i1⟩
  | .hbm, ⟨20, _⟩ => ⟨S_, .bf16⟩
  | .hbm, ⟨21, _⟩ => ⟨S8x8192x256, .i1⟩
  | .hbm, ⟨22, _⟩ => ⟨S8x8192x256, .bf16⟩
  | .hbm, ⟨23, _⟩ => ⟨S8x8192x256, .bf16⟩
  | .hbm, ⟨24, _⟩ => ⟨S8x8192x128, .f32⟩
  | .hbm, ⟨25, _⟩ => ⟨S8x1x8192, .f32⟩
  | .hbm, ⟨26, _⟩ => ⟨S8x8192, .f32⟩
  | .local _ .vmem, ⟨0, _⟩ => ⟨S1x2048x192, .bf16⟩
  | .local _ .vmem, ⟨1, _⟩ => ⟨S1x2048x192, .bf16⟩
  | .local _ .vmem, ⟨2, _⟩ => ⟨S1x8192x192, .bf16⟩
  | .local _ .vmem, ⟨3, _⟩ => ⟨S1x8192x192, .bf16⟩
  | .local _ .vmem, ⟨4, _⟩ => ⟨S1x8192x256, .bf16⟩
  | .local _ .vmem, ⟨5, _⟩ => ⟨S1x8192x256, .bf16⟩
  | .local _ .vmem, ⟨6, _⟩ => ⟨S1x2048x128, .f32⟩
  | .local _ .vmem, ⟨7, _⟩ => ⟨S1x2048x128, .f32⟩
  | .local _ .vmem, ⟨8, _⟩ => ⟨S1x1x2048, .f32⟩
  | .local _ .vmem, ⟨9, _⟩ => ⟨S1x1x2048, .f32⟩
  | .local _ .vmem, ⟨10, _⟩ => ⟨S2048x128, .f32⟩
  | .local _ .vmem, ⟨11, _⟩ => ⟨S2048x256, .f32⟩
  | _, _ => ⟨S8x8192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_call1_v0 : Ref sig .tc := ⟨.hbm, 21, rfl⟩
abbrev main_call1_v1 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_4 : BitVec 32 := 0#32
  let arg1 : BitVec 32 := BitVec.ofNat 32 (i 1).val
  let c4_i32 : BitVec 32 := 4#32
  let v8 : BitVec 32 := Scalar.muli arg1 c4_i32
  let v9 : BitVec 32 := Scalar.subi v8 c0_i32_4
  let c1_i32 : BitVec 32 := 1#32
  let v11 : BitVec 32 := Scalar.divsi v9 c1_i32
  let v12 : BitVec 32 := Scalar.muli v11 c1_i32
  let v13 : BitVec 32 := Scalar.addi c0_i32_4 v12
  let c1_i32_5 : BitVec 32 := 1#32
  ⟨c0_i32_4, v13, c1_i32_5⟩
def k0_mult1 (i : grid0.Coords) (k0_t1 : Fin (k0_t1_loop i).trips) : BitVec 32 :=
  let c0_i32_4 : BitVec 32 := 0#32
  let c1_i32_5 : BitVec 32 := 1#32
  let arg9 : BitVec 32 := Scf.iv c0_i32_4 c1_i32_5 k0_t1
  let c512_i32_99 : BitVec 32 := 512#32
  let v192 : BitVec 32 := Scalar.muli arg9 c512_i32_99
  v192
def k0_off1 (i : grid0.Coords) (k0_t1 : Fin (k0_t1_loop i).trips) : Fin 3 → Nat :=
  let c0_103 : Index := 0#32
  let c0_i32_4 : BitVec 32 := 0#32
  let c1_i32_5 : BitVec 32 := 1#32
  let arg9 : BitVec 32 := Scf.iv c0_i32_4 c1_i32_5 k0_t1
  let c512_i32_99 : BitVec 32 := 512#32
  let v192 : BitVec 32 := Scalar.muli arg9 c512_i32_99
  let v193 : BitVec 32 := v192
  let v196 : Index := Scalar.indexCast v193
  let c0_104 : Index := 0#32
  ![0, v196.toNat, 0]
def k0_off2 (i : grid0.Coords) (k0_t1 : Fin (k0_t1_loop i).trips) : Fin 3 → Nat :=
  let c0_111 : Index := 0#32
  let c0_i32_4 : BitVec 32 := 0#32
  let c1_i32_5 : BitVec 32 := 1#32
  let arg9 : BitVec 32 := Scf.iv c0_i32_4 c1_i32_5 k0_t1
  let c512_i32_99 : BitVec 32 := 512#32
  let v192 : BitVec 32 := Scalar.muli arg9 c512_i32_99
  let v193 : BitVec 32 := v192
  let v214 : Index := Scalar.indexCast v193
  let c0_112 : Index := 0#32
  ![0, v214.toNat, 0]
@[reducible] def k0_t2_loop (i : grid0.Coords) : Scf.Loop 32 :=
  let c0_i32_4 : BitVec 32 := 0#32
  let arg1 : BitVec 32 := BitVec.ofNat 32 (i 1).val
  let c4_i32 : BitVec 32 := 4#32
  let v8 : BitVec 32 := Scalar.muli arg1 c4_i32
  let v9 : BitVec 32 := Scalar.subi v8 c0_i32_4
  let c1_i32 : BitVec 32 := 1#32
  let v11 : BitVec 32 := Scalar.divsi v9 c1_i32
  let v12 : BitVec 32 := Scalar.muli v11 c1_i32
  let v13 : BitVec 32 := Scalar.addi c0_i32_4 v12
  let v10 : BitVec 32 := Scalar.addi c0_i32_4 v9
  let c1_i32_6 : BitVec 32 := 1#32
  ⟨v13, v10, c1_i32_6⟩
def k0_mult2 (i : grid0.Coords) (k0_t2 : Fin (k0_t2_loop i).trips) : BitVec 32 :=
  let c0_i32_4 : BitVec 32 := 0#32
  let arg1 : BitVec 32 := BitVec.ofNat 32 (i 1).val
  let c4_i32 : BitVec 32 := 4#32
  let v8 : BitVec 32 := Scalar.muli arg1 c4_i32
  let v9 : BitVec 32 := Scalar.subi v8 c0_i32_4
  let c1_i32 : BitVec 32 := 1#32
  let v11 : BitVec 32 := Scalar.divsi v9 c1_i32
  let v12 : BitVec 32 := Scalar.muli v11 c1_i32
  let v13 : BitVec 32 := Scalar.addi c0_i32_4 v12
  let c1_i32_6 : BitVec 32 := 1#32
  let arg9 : BitVec 32 := Scf.iv v13 c1_i32_6 k0_t2
  let c512_i32_99 : BitVec 32 := 512#32
  let v192 : BitVec 32 := Scalar.muli arg9 c512_i32_99
  v192
def k0_off3 (i : grid0.Coords) (k0_t2 : Fin (k0_t2_loop i).trips) : Fin 3 → Nat :=
  let c0_103 : Index := 0#32
  let c0_i32_4 : BitVec 32 := 0#32
  let arg1 : BitVec 32 := BitVec.ofNat 32 (i 1).val
  let c4_i32 : BitVec 32 := 4#32
  let v8 : BitVec 32 := Scalar.muli arg1 c4_i32
  let v9 : BitVec 32 := Scalar.subi v8 c0_i32_4
  let c1_i32 : BitVec 32 := 1#32
  let v11 : BitVec 32 := Scalar.divsi v9 c1_i32
  let v12 : BitVec 32 := Scalar.muli v11 c1_i32
  let v13 : BitVec 32 := Scalar.addi c0_i32_4 v12
  let c1_i32_6 : BitVec 32 := 1#32
  let arg9 : BitVec 32 := Scf.iv v13 c1_i32_6 k0_t2
  let c512_i32_99 : BitVec 32 := 512#32
  let v192 : BitVec 32 := Scalar.muli arg9 c512_i32_99
  let v193 : BitVec 32 := v192
  let v196 : Index := Scalar.indexCast v193
  let c0_104 : Index := 0#32
  ![0, v196.toNat, 0]
def k0_off4 (i : grid0.Coords) (k0_t2 : Fin (k0_t2_loop i).trips) : Fin 3 → Nat :=
  let c0_111 : Index := 0#32
  let c0_i32_4 : BitVec 32 := 0#32
  let arg1 : BitVec 32 := BitVec.ofNat 32 (i 1).val
  let c4_i32 : BitVec 32 := 4#32
  let v8 : BitVec 32 := Scalar.muli arg1 c4_i32
  let v9 : BitVec 32 := Scalar.subi v8 c0_i32_4
  let c1_i32 : BitVec 32 := 1#32
  let v11 : BitVec 32 := Scalar.divsi v9 c1_i32
  let v12 : BitVec 32 := Scalar.muli v11 c1_i32
  let v13 : BitVec 32 := Scalar.addi c0_i32_4 v12
  let c1_i32_6 : BitVec 32 := 1#32
  let arg9 : BitVec 32 := Scf.iv v13 c1_i32_6 k0_t2
  let c512_i32_99 : BitVec 32 := 512#32
  let v192 : BitVec 32 := Scalar.muli arg9 c512_i32_99
  let v193 : BitVec 32 := v192
  let v214 : Index := Scalar.indexCast v193
  let c0_112 : Index := 0#32
  ![0, v214.toNat, 0]
def k0_mult3 (i : grid0.Coords) : BitVec 32 :=
  let arg1 : BitVec 32 := BitVec.ofNat 32 (i 1).val
  let c4_i32_7 : BitVec 32 := 4#32
  let v14 : BitVec 32 := Scalar.muli arg1 c4_i32_7
  let c0_i32_8 : BitVec 32 := 0#32
  let v15 : BitVec 32 := Scalar.addi v14 c0_i32_8
  let c512_i32 : BitVec 32 := 512#32
  let v16 : BitVec 32 := Scalar.muli v15 c512_i32
  v16
def k0_off5 (i : grid0.Coords) (c0_i32_8 : BitVec 32) : Fin 3 → Nat :=
  let c0_12 : Index := 0#32
  let arg1 : BitVec 32 := BitVec.ofNat 32 (i 1).val
  let c4_i32_7 : BitVec 32 := 4#32
  let v14 : BitVec 32 := Scalar.muli arg1 c4_i32_7
  let v15 : BitVec 32 := Scalar.addi v14 c0_i32_8
  let c512_i32 : BitVec 32 := 512#32
  let v16 : BitVec 32 := Scalar.muli v15 c512_i32
  let v17 : BitVec 32 := v16
  let v20 : Index := Scalar.indexCast v17
  let c0_13 : Index := 0#32
  ![0, v20.toNat, 0]
def k0_off6 (i : grid0.Coords) (c0_i32_8 : BitVec 32) : Fin 3 → Nat :=
  let c0_21 : Index := 0#32
  let arg1 : BitVec 32 := BitVec.ofNat 32 (i 1).val
  let c4_i32_7 : BitVec 32 := 4#32
  let v14 : BitVec 32 := Scalar.muli arg1 c4_i32_7
  let v15 : BitVec 32 := Scalar.addi v14 c0_i32_8
  let c512_i32 : BitVec 32 := 512#32
  let v16 : BitVec 32 := Scalar.muli v15 c512_i32
  let v17 : BitVec 32 := v16
  let v43 : Index := Scalar.indexCast v17
  let c0_22 : Index := 0#32
  ![0, v43.toNat, 0]
def k0_mult4 (i : grid0.Coords) : BitVec 32 :=
  let arg1 : BitVec 32 := BitVec.ofNat 32 (i 1).val
  let c4_i32_28 : BitVec 32 := 4#32
  let v54 : BitVec 32 := Scalar.muli arg1 c4_i32_28
  let c1_i32_29 : BitVec 32 := 1#32
  let v55 : BitVec 32 := Scalar.addi v54 c1_i32_29
  let c512_i32_30 : BitVec 32 := 512#32
  let v56 : BitVec 32 := Scalar.muli v55 c512_i32_30
  v56
def k0_mult5 (i : grid0.Coords) : BitVec 32 :=
  let arg1 : BitVec 32 := BitVec.ofNat 32 (i 1).val
  let c4_i32_49 : BitVec 32 := 4#32
  let v94 : BitVec 32 := Scalar.muli arg1 c4_i32_49
  let c2_i32 : BitVec 32 := 2#32
  let v95 : BitVec 32 := Scalar.addi v94 c2_i32
  let c512_i32_50 : BitVec 32 := 512#32
  let v96 : BitVec 32 := Scalar.muli v95 c512_i32_50
  v96
def k0_mult6 (i : grid0.Coords) : BitVec 32 :=
  let arg1 : BitVec 32 := BitVec.ofNat 32 (i 1).val
  let c4_i32_69 : BitVec 32 := 4#32
  let v134 : BitVec 32 := Scalar.muli arg1 c4_i32_69
  let c3_i32 : BitVec 32 := 3#32
  let v135 : BitVec 32 := Scalar.addi v134 c3_i32
  let c512_i32_70 : BitVec 32 := 512#32
  let v136 : BitVec 32 := Scalar.muli v135 c512_i32_70
  v136
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel14Ideal.lean ====
variable {F : FTy → Type} [FloatOps F] [Named F]
def κ : String → Option EReal := fun
  | "mask" => some ⊥
  | _ => none
-- ==== Reference14Ideal.lean ====
abbrev S8x8192x192 : Shape := ⟨3, ![8, 8192, 192]⟩
abbrev S8x8192x128 : Shape := ⟨3, ![8, 8192, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S8x8192x192, .f32⟩
  | .hbm, ⟨1, _⟩ => ⟨S8x8192x192, .f32⟩
  | .hbm, ⟨2, _⟩ => ⟨S8x8192x128, .f32⟩
  | .hbm, ⟨3, _⟩ => ⟨S8x8192x8192, .f32⟩
  | .hbm, ⟨4, _⟩ => ⟨S_, .f32⟩
  | .hbm, ⟨5, _⟩ => ⟨S8x8192x8192, .f32⟩
  | .hbm, ⟨6, _⟩ => ⟨S8x8192x8192, .f32⟩
  | .hbm, ⟨7, _⟩ => ⟨S8192, .i32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S_, .f32⟩
  | .hbm, ⟨15, _⟩ => ⟨S8x8192x8192, .i1⟩
  | .hbm, ⟨16, _⟩ => ⟨S8x8192x8192, .f32⟩
  | .hbm, ⟨17, _⟩ => ⟨S8x8192x8192, .f32⟩
  | .hbm, ⟨18, _⟩ => ⟨S_, .f32⟩
  | .hbm, ⟨19, _⟩ => ⟨S8x8192, .f32⟩
  | .hbm, ⟨20, _⟩ => ⟨S_, .f32⟩
  | .hbm, ⟨21, _⟩ => ⟨S8x8192, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .f32⟩
  | .hbm, ⟨32, _⟩ => ⟨S_, .f32⟩
  | .hbm, ⟨33, _⟩ => ⟨S8x8192, .f32⟩
  | .hbm, ⟨34, _⟩ => ⟨S8x8192x128, .f32⟩
  | .hbm, ⟨35, _⟩ => ⟨S8x8192x1, .f32⟩
  | .hbm, ⟨36, _⟩ => ⟨S8x8192x8192, .f32⟩
  | .hbm, ⟨37, _⟩ => ⟨S8x8192x8192, .f32⟩
  | .hbm, ⟨38, _⟩ => ⟨S8x8192x8192, .f32⟩
  | .hbm, ⟨39, _⟩ => ⟨S_, .f32⟩
  | .hbm, ⟨40, _⟩ => ⟨S8x8192, .f32⟩
  | .hbm, ⟨41, _⟩ => ⟨S8x8192, .f32⟩
  | .hbm, ⟨42, _⟩ => ⟨S8x8192, .f32⟩
  | _, _ => ⟨S8x8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel15.lean ====
abbrev S16x8192x64 : Shape := ⟨3, ![16, 8192, 64]⟩
abbrev S16x8192 : Shape := ⟨2, ![16, 8192]⟩
abbrev S64 : Shape := ⟨1, ![64]⟩
abbrev S_ : Shape := ⟨0, ![]⟩
abbrev S1x64 : Shape := ⟨2, ![1, 64]⟩
abbrev S3x64 : Shape := ⟨2, ![3, 64]⟩
abbrev S3x16x64 : Shape := ⟨3, ![3, 16, 64]⟩
abbrev S48x64 : Shape := ⟨2, ![48, 64]⟩
abbrev S48x8192x64 : Shape := ⟨3, ![48, 8192, 64]⟩
abbrev S48x1x64 : Shape := ⟨3, ![48, 1, 64]⟩
abbrev S48x8192x128 : Shape := ⟨3, ![48, 8192, 128]⟩
abbrev S16x8192x128 : Shape := ⟨3, ![16, 8192, 128]⟩
abbrev S1x1x128 : Shape := ⟨3, ![1, 1, 128]⟩
abbrev S16x8192x1 : Shape := ⟨3, ![16, 8192, 1]⟩
abbrev S16x1x8192 : Shape := ⟨3, ![16, 1, 8192]⟩
abbrev S1x2048x128 : Shape := ⟨3, ![1, 2048, 128]⟩
abbrev S1x8192x128 : Shape := ⟨3, ![1, 8192, 128]⟩
abbrev S1x2048x64 : Shape := ⟨3, ![1, 2048, 64]⟩
abbrev S1x1x2048 : Shape := ⟨3, ![1, 1, 2048]⟩
abbrev S2048x128 : Shape := ⟨2, ![2048, 128]⟩
abbrev S1x512x128 : Shape := ⟨3, ![1, 512, 128]⟩
abbrev S512x128 : Shape := ⟨2, ![512, 128]⟩
abbrev S2048x512 : Shape := ⟨2, ![2048, 512]⟩
abbrev S2048 : Shape := ⟨1, ![2048]⟩
abbrev S2048x1 : Shape := ⟨2, ![2048, 1]⟩
abbrev S1x1536x128 : Shape := ⟨3, ![1, 1536, 128]⟩
abbrev S1536x128 : Shape := ⟨2, ![1536, 128]⟩
abbrev S1536x512 : Shape := ⟨2, ![1536, 512]⟩
abbrev S1536 : Shape := ⟨1, ![1536]⟩
abbrev S1536x1 : Shape := ⟨2, ![1536, 1]⟩
abbrev S1x1024x128 : Shape := ⟨3, ![1, 1024, 128]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩
abbrev S512x512 : Shape := ⟨2, ![512, 512]⟩
abbrev S512 : Shape := ⟨1, ![512]⟩
abbrev S512x1 : Shape := ⟨2, ![512, 1]⟩
abbrev S2048x64 : Shape := ⟨2, ![2048, 64]⟩
abbrev S128x2048 : Shape := ⟨2, ![128, 2048]⟩
abbrev S1x2048 : Shape := ⟨2, ![1, 2048]⟩

abbrev nBuf : Space → Nat
  | .hbm => 80
  | .vmem => 12
  | .smem => 0
  | _ => 0

abbrev bufTy : (tb : Table) → Fin (tcTables nBuf tb) → BufTy
  | .hbm, ⟨0, _⟩ => ⟨S16x8192x64, .f32⟩
  | .hbm, ⟨1, _⟩ => ⟨S16x8192x64, .f32⟩
  | .hbm, ⟨2, _⟩ => ⟨S16x8192x64, .f32⟩
  | .hbm, ⟨3, _⟩ => ⟨S16x8192, .f32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S64, .f32⟩
  | .hbm, ⟨9, _⟩ => ⟨S_, .i32⟩
  | .hbm, ⟨10, _⟩ => ⟨S64, .i32⟩
  | .hbm, ⟨11, _⟩ => ⟨S64, .i1⟩
  | .hbm, ⟨12, _⟩ => ⟨S_, .i32⟩
  | .hbm, ⟨13, _⟩ => ⟨S64, .i32⟩
  | .hbm, ⟨14, _⟩ => ⟨S64, .i1⟩
  | .hbm, ⟨15, _⟩ => ⟨S64, .i1⟩
  | .hbm, ⟨16, _⟩ => ⟨S64, .f32⟩
  | .hbm, ⟨17, _⟩ => ⟨S_, .i32⟩
  | .hbm, ⟨18, _⟩ => ⟨S64, .i32⟩
  | .hbm, ⟨19, _⟩ => ⟨S64, .i1⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S3x64, .f32⟩
  | .hbm, ⟨29, _⟩ => ⟨S3x16x64, .f32⟩
  | .hbm, ⟨30, _⟩ => ⟨S48x64, .f32⟩
  | .hbm, ⟨31, _⟩ => ⟨S_, .f32⟩
  | .hbm, ⟨32, _⟩ => ⟨S16x8192x64, .f32⟩
  | .hbm, ⟨33, _⟩ => ⟨S16x8192x64, .f32⟩
  | .hbm, ⟨34, _⟩ => ⟨S48x8192x64, .f32⟩
  | .hbm, ⟨35, _⟩ => ⟨S48x1x64, .f32⟩
  | .hbm, ⟨36, _⟩ => ⟨S48x8192x64, .f32⟩
  | .hbm, ⟨37, _⟩ => ⟨S48x8192x128, .f32⟩
  | .hbm, ⟨38, _⟩ => ⟨S48x8192x128, .bf16⟩
  | .hbm, ⟨39, _⟩ => ⟨S16x8192x128, .bf16⟩
  | .hbm, ⟨40, _⟩ => ⟨S16x8192, .f32⟩
  | .hbm, ⟨41, _⟩ => ⟨S16x8192, .bf16⟩
  | .hbm, ⟨42, _⟩ => ⟨S16x8192, .f32⟩
  | .hbm, ⟨43, _⟩ => ⟨S16x8192, .f32⟩
  | .hbm, ⟨44, _⟩ => ⟨S16x8192, .bf16⟩
  | .hbm, ⟨45, _⟩ => ⟨S16x8192, .f32⟩
  | .hbm, ⟨46, _⟩ => ⟨S16x8192, .f32⟩
  | .hbm, ⟨47, _⟩ => ⟨S16x8192, .bf16⟩
  | .hbm, ⟨48, _⟩ => ⟨S16x8192, .f32⟩
  | .hbm, ⟨49, _⟩ => ⟨S16x8192, .bf16⟩
  | .hbm, ⟨50, _⟩ => ⟨S16x8192, .bf16⟩
  | .hbm, ⟨51, _⟩ => ⟨S16x8192, .bf16⟩
  | .hbm, ⟨52, _⟩ => ⟨S_, .i32⟩
  | .hbm, ⟨53, _⟩ => ⟨S_, .bf16⟩
  | .hbm, ⟨54, _⟩ => ⟨S16x8192x128, .bf16⟩
  | .hbm, ⟨55, _⟩ => ⟨S1x1x128, .i32⟩
  | .hbm, ⟨56, _⟩ => ⟨S_, .i32⟩
  | .hbm, ⟨57, _⟩ => ⟨S1x1x128, .i32⟩
  | .hbm, ⟨58, _⟩ => ⟨S1x1x128, .i1⟩
  | .hbm, ⟨59, _⟩ => ⟨S16x8192x1, .bf16⟩
  | .hbm, ⟨60, _⟩ => ⟨S16x8192x128, .i1⟩
  | .hbm, ⟨61, _⟩ => ⟨S16x8192x128, .bf16⟩
  | .hbm, ⟨62, _⟩ => ⟨S16x8192x128, .bf16⟩
  | .hbm, ⟨63, _⟩ => ⟨S_, .i32⟩
  | .hbm, ⟨64, _⟩ => ⟨S1x1x128, .i32⟩
  | .hbm, ⟨65, _⟩ => ⟨S1x1x128, .i1⟩
  | .hbm, ⟨66, _⟩ => ⟨S16x8192x1, .bf16⟩
  | .hbm, ⟨67, _⟩ => ⟨S16x8192x128, .i1⟩
  | .hbm, ⟨68, _⟩ => ⟨S16x8192x128, .bf16⟩
  | .hbm, ⟨69, _⟩ => ⟨S16x8192x128, .bf16⟩
  | .hbm, ⟨70, _⟩ => ⟨S_, .i32⟩
  | .hbm, ⟨71, _⟩ => ⟨S1x1x128, .i32⟩
  | .hbm, ⟨72, _⟩ => ⟨S1x1x128, .i1⟩
  | .hbm, ⟨73, _⟩ => ⟨S16x8192x1, .bf16⟩
  | .hbm, ⟨74, _⟩ => ⟨S16x8192x128, .i1⟩
  | .hbm, ⟨75, _⟩ => ⟨S16x8192x128, .bf16⟩
  | .hbm, ⟨76, _⟩ => ⟨S16x8192x128, .bf16⟩
  | .hbm, ⟨77, _⟩ => ⟨S16x8192x64, .f32⟩
  | .hbm, ⟨78, _⟩ => ⟨S16x1x8192, .f32⟩
  | .hbm, ⟨79, _⟩ => ⟨S16x8192, .f32⟩
  | .local _ .vmem, ⟨0, _⟩ => ⟨S1x2048x128, .bf16⟩
  | .local _ .vmem, ⟨1, _⟩ => ⟨S1x2048x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x2048x64, .f32⟩
  | .local _ .vmem, ⟨7, _⟩ => ⟨S1x2048x64, .f32⟩
  | .local _ .vmem, ⟨8, _⟩ => ⟨S1x1x2048, .f32⟩
  | .local _ .vmem, ⟨9, _⟩ => ⟨S1x1x2048, .f32⟩
  | .local _ .vmem, ⟨10, _⟩ => ⟨S2048x128, .f32⟩
  | .local _ .vmem, ⟨11, _⟩ => ⟨S2048x128, .f32⟩
  | _, _ => ⟨S16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_4 : Ref sig .tc := ⟨.hbm, 52, rfl⟩
abbrev main_call0_v0 : Ref sig .tc := ⟨.hbm, 53, rfl⟩
abbrev main_v42 : Ref sig .tc := ⟨.hbm, 54, rfl⟩
abbrev main_v43 : Ref sig .tc := ⟨.hbm, 55, rfl⟩
abbrev main_c_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_call1_v0 : Ref sig .tc := ⟨.hbm, 60, rfl⟩
abbrev main_call1_v1 : Ref sig .tc := ⟨.hbm, 61, rfl⟩
abbrev main_v47 : Ref sig .tc := ⟨.hbm, 62, rfl⟩
abbrev main_c_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_call2_v0 : Ref sig .tc := ⟨.hbm, 67, rfl⟩
abbrev main_call2_v1 : Ref sig .tc := ⟨.hbm, 68, rfl⟩
abbrev main_v51 : Ref sig .tc := ⟨.hbm, 69, rfl⟩
abbrev main_c_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call3_v0 : Ref sig .tc := ⟨.hbm, 74, rfl⟩
abbrev main_call3_v1 : Ref sig .tc := ⟨.hbm, 75, rfl⟩
abbrev main_v55 : Ref sig .tc := ⟨.hbm, 76, rfl⟩
abbrev main_v56_0 : Ref sig .tc := ⟨.hbm, 77, rfl⟩
abbrev main_v56_1 : Ref sig .tc := ⟨.hbm, 78, rfl⟩
abbrev main_v57 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

@[reducible] def k0_t1_loop (i : grid0.Coords) : Scf.Loop 32 :=
  let c0_i32_4 : BitVec 32 := 0#32
  let arg1 : BitVec 32 := BitVec.ofNat 32 (i 1).val
  let c4_i32 : BitVec 32 := 4#32
  let v8 : BitVec 32 := Scalar.muli arg1 c4_i32
  let v9 : BitVec 32 := Scalar.subi v8 c0_i32_4
  let c1_i32 : BitVec 32 := 1#32
  let v11 : BitVec 32 := Scalar.divsi v9 c1_i32
  let v12 : BitVec 32 := Scalar.muli v11 c1_i32
  let v13 : BitVec 32 := Scalar.addi c0_i32_4 v12
  let c1_i32_5 : BitVec 32 := 1#32
  ⟨c0_i32_4, v13, c1_i32_5⟩
def k0_mult1 (i : grid0.Coords) (k0_t1 : Fin (k0_t1_loop i).trips) : BitVec 32 :=
  let c0_i32_4 : BitVec 32 := 0#32
  let c1_i32_5 : BitVec 32 := 1#32
  let arg9 : BitVec 32 := Scf.iv c0_i32_4 c1_i32_5 k0_t1
  let c512_i32_99 : BitVec 32 := 512#32
  let v188 : BitVec 32 := Scalar.muli arg9 c512_i32_99
  v188
def k0_off1 (i : grid0.Coords) (k0_t1 : Fin (k0_t1_loop i).trips) : Fin 3 → Nat :=
  let c0_103 : Index := 0#32
  let c0_i32_4 : BitVec 32 := 0#32
  let c1_i32_5 : BitVec 32 := 1#32
  let arg9 : BitVec 32 := Scf.iv c0_i32_4 c1_i32_5 k0_t1
  let c512_i32_99 : BitVec 32 := 512#32
  let v188 : BitVec 32 := Scalar.muli arg9 c512_i32_99
  let v189 : BitVec 32 := v188
  let v192 : Index := Scalar.indexCast v189
  let c0_104 : Index := 0#32
  ![0, v192.toNat, 0]
@[reducible] def k0_t2_loop (i : grid0.Coords) : Scf.Loop 32 :=
  let c0_i32_4 : BitVec 32 := 0#32
  let arg1 : BitVec 32 := BitVec.ofNat 32 (i 1).val
  let c4_i32 : BitVec 32 := 4#32
  let v8 : BitVec 32 := Scalar.muli arg1 c4_i32
  let v9 : BitVec 32 := Scalar.subi v8 c0_i32_4
  let c1_i32 : BitVec 32 := 1#32
  let v11 : BitVec 32 := Scalar.divsi v9 c1_i32
  let v12 : BitVec 32 := Scalar.muli v11 c1_i32
  let v13 : BitVec 32 := Scalar.addi c0_i32_4 v12
  let v10 : BitVec 32 := Scalar.addi c0_i32_4 v9
  let c1_i32_6 : BitVec 32 := 1#32
  ⟨v13, v10, c1_i32_6⟩
def k0_mult2 (i : grid0.Coords) (k0_t2 : Fin (k0_t2_loop i).trips) : BitVec 32 :=
  let c0_i32_4 : BitVec 32 := 0#32
  let arg1 : BitVec 32 := BitVec.ofNat 32 (i 1).val
  let c4_i32 : BitVec 32 := 4#32
  let v8 : BitVec 32 := Scalar.muli arg1 c4_i32
  let v9 : BitVec 32 := Scalar.subi v8 c0_i32_4
  let c1_i32 : BitVec 32 := 1#32
  let v11 : BitVec 32 := Scalar.divsi v9 c1_i32
  let v12 : BitVec 32 := Scalar.muli v11 c1_i32
  let v13 : BitVec 32 := Scalar.addi c0_i32_4 v12
  let c1_i32_6 : BitVec 32 := 1#32
  let arg9 : BitVec 32 := Scf.iv v13 c1_i32_6 k0_t2
  let c512_i32_99 : BitVec 32 := 512#32
  let v188 : BitVec 32 := Scalar.muli arg9 c512_i32_99
  v188
def k0_off2 (i : grid0.Coords) (k0_t2 : Fin (k0_t2_loop i).trips) : Fin 3 → Nat :=
  let c0_103 : Index := 0#32
  let c0_i32_4 : BitVec 32 := 0#32
  let arg1 : BitVec 32 := BitVec.ofNat 32 (i 1).val
  let c4_i32 : BitVec 32 := 4#32
  let v8 : BitVec 32 := Scalar.muli arg1 c4_i32
  let v9 : BitVec 32 := Scalar.subi v8 c0_i32_4
  let c1_i32 : BitVec 32 := 1#32
  let v11 : BitVec 32 := Scalar.divsi v9 c1_i32
  let v12 : BitVec 32 := Scalar.muli v11 c1_i32
  let v13 : BitVec 32 := Scalar.addi c0_i32_4 v12
  let c1_i32_6 : BitVec 32 := 1#32
  let arg9 : BitVec 32 := Scf.iv v13 c1_i32_6 k0_t2
  let c512_i32_99 : BitVec 32 := 512#32
  let v188 : BitVec 32 := Scalar.muli arg9 c512_i32_99
  let v189 : BitVec 32 := v188
  let v192 : Index := Scalar.indexCast v189
  let c0_104 : Index := 0#32
  ![0, v192.toNat, 0]
def k0_mult3 (i : grid0.Coords) : BitVec 32 :=
  let arg1 : BitVec 32 := BitVec.ofNat 32 (i 1).val
  let c4_i32_7 : BitVec 32 := 4#32
  let v14 : BitVec 32 := Scalar.muli arg1 c4_i32_7
  let c0_i32_8 : BitVec 32 := 0#32
  let v15 : BitVec 32 := Scalar.addi v14 c0_i32_8
  let c512_i32 : BitVec 32 := 512#32
  let v16 : BitVec 32 := Scalar.muli v15 c512_i32
  v16
def k0_off3 (i : grid0.Coords) (c0_i32_8 : BitVec 32) : Fin 3 → Nat :=
  let c0_12 : Index := 0#32
  let arg1 : BitVec 32 := BitVec.ofNat 32 (i 1).val
  let c4_i32_7 : BitVec 32 := 4#32
  let v14 : BitVec 32 := Scalar.muli arg1 c4_i32_7
  let v15 : BitVec 32 := Scalar.addi v14 c0_i32_8
  let c512_i32 : BitVec 32 := 512#32
  let v16 : BitVec 32 := Scalar.muli v15 c512_i32
  let v17 : BitVec 32 := v16
  let v20 : Index := Scalar.indexCast v17
  let c0_13 : Index := 0#32
  ![0, v20.toNat, 0]
def k0_mult4 (i : grid0.Coords) : BitVec 32 :=
  let arg1 : BitVec 32 := BitVec.ofNat 32 (i 1).val
  let c4_i32_28 : BitVec 32 := 4#32
  let v53 : BitVec 32 := Scalar.muli arg1 c4_i32_28
  let c1_i32_29 : BitVec 32 := 1#32
  let v54 : BitVec 32 := Scalar.addi v53 c1_i32_29
  let c512_i32_30 : BitVec 32 := 512#32
  let v55 : BitVec 32 := Scalar.muli v54 c512_i32_30
  v55
def k0_mult5 (i : grid0.Coords) : BitVec 32 :=
  let arg1 : BitVec 32 := BitVec.ofNat 32 (i 1).val
  let c4_i32_49 : BitVec 32 := 4#32
  let v92 : BitVec 32 := Scalar.muli arg1 c4_i32_49
  let c2_i32 : BitVec 32 := 2#32
  let v93 : BitVec 32 := Scalar.addi v92 c2_i32
  let c512_i32_50 : BitVec 32 := 512#32
  let v94 : BitVec 32 := Scalar.muli v93 c512_i32_50
  v94
def k0_mult6 (i : grid0.Coords) : BitVec 32 :=
  let arg1 : BitVec 32 := BitVec.ofNat 32 (i 1).val
  let c4_i32_69 : BitVec 32 := 4#32
  let v131 : BitVec 32 := Scalar.muli arg1 c4_i32_69
  let c3_i32 : BitVec 32 := 3#32
  let v132 : BitVec 32 := Scalar.addi v131 c3_i32
  let c512_i32_70 : BitVec 32 := 512#32
  let v133 : BitVec 32 := Scalar.muli v132 c512_i32_70
  v133
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi arg0 c32_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel15Ideal.lean ====
variable {F : FTy → Type} [FloatOps F] [Named F]
def κ : String → Option EReal := fun
  | "mask" => some ⊥
  | _ => none
-- ==== Reference15Ideal.lean ====
abbrev S16x8192x64 : Shape := ⟨3, ![16, 8192, 64]⟩
abbrev S16x8192 : Shape := ⟨2, ![16, 8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 51
  | .vmem => 0
  | .smem => 0
  | _ => 0

abbrev bufTy : (tb : Table) → Fin (tcTables nBuf tb) → BufTy
  | .hbm, ⟨0, _⟩ => ⟨S16x8192x64, .f32⟩
  | .hbm, ⟨1, _⟩ => ⟨S16x8192x64, .f32⟩
  | .hbm, ⟨2, _⟩ => ⟨S16x8192x64, .f32⟩
  | .hbm, ⟨3, _⟩ => ⟨S16x8192, .f32⟩
  | .hbm, ⟨4, _⟩ => ⟨S16x8192x8192, .f32⟩
  | .hbm, ⟨5, _⟩ => ⟨S_, .f32⟩
  | .hbm, ⟨6, _⟩ => ⟨S16x8192x8192, .f32⟩
  | .hbm, ⟨7, _⟩ => ⟨S16x8192x8192, .f32⟩
  | .hbm, ⟨8, _⟩ => ⟨S16x8192x1, .f32⟩
  | .hbm, ⟨9, _⟩ => ⟨S16x8192x8192, .f32⟩
  | .hbm, ⟨10, _⟩ => ⟨S16x8192x8192, .f32⟩
  | .hbm, ⟨11, _⟩ => ⟨S16x1x8192, .f32⟩
  | .hbm, ⟨12, _⟩ => ⟨S16x8192x8192, .f32⟩
  | .hbm, ⟨13, _⟩ => ⟨S16x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S_, .f32⟩
  | .hbm, ⟨21, _⟩ => ⟨S_, .f32⟩
  | .hbm, ⟨22, _⟩ => ⟨S16x8192x8192, .i1⟩
  | .hbm, ⟨23, _⟩ => ⟨S16x8192x8192, .f32⟩
  | .hbm, ⟨24, _⟩ => ⟨S16x8192x8192, .f32⟩
  | .hbm, ⟨25, _⟩ => ⟨S_, .f32⟩
  | .hbm, ⟨26, _⟩ => ⟨S16x8192, .f32⟩
  | .hbm, ⟨27, _⟩ => ⟨S_, .f32⟩
  | .hbm, ⟨28, _⟩ => ⟨S16x8192, .f32⟩
  | .hbm, ⟨29, _⟩ => ⟨S16x8192, .f32⟩
  | .hbm, ⟨30, _⟩ => ⟨S16x8192x1, .f32⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S_, .f32⟩
  | .hbm, ⟨35, _⟩ => ⟨S16x8192, .f32⟩
  | .hbm, ⟨36, _⟩ => ⟨S16x8192x1, .f32⟩
  | .hbm, ⟨37, _⟩ => ⟨S16x8192x8192, .f32⟩
  | .hbm, ⟨38, _⟩ => ⟨S16x8192x8192, .f32⟩
  | .hbm, ⟨39, _⟩ => ⟨S_, .f32⟩
  | .hbm, ⟨40, _⟩ => ⟨S16x8192, .f32⟩
  | .hbm, ⟨41, _⟩ => ⟨S16x8192x1, .f32⟩
  | .hbm, ⟨42, _⟩ => ⟨S16x8192x8192, .f32⟩
  | .hbm, ⟨43, _⟩ => ⟨S16x8192x8192, .f32⟩
  | .hbm, ⟨44, _⟩ => ⟨S16x8192x8192, .f32⟩
  | .hbm, ⟨45, _⟩ => ⟨S_, .f32⟩
  | .hbm, ⟨46, _⟩ => ⟨S16x8192, .f32⟩
  | .hbm, ⟨47, _⟩ => ⟨S16x8192, .f32⟩
  | .hbm, ⟨48, _⟩ => ⟨S16x8192, .f32⟩
  | .hbm, ⟨49, _⟩ => ⟨S16x8192x64, .f32⟩
  | .hbm, ⟨50, _⟩ => ⟨S16x8192, .f32⟩
  | _, _ => ⟨S16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Proof.QRope.lean ====
module

public import proofs.«01_k».proof.Defs
public import proofs.«01_k».proof.Proof.Gen.KernelIdeal.Frame
public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-- The rotary angle of position `t` at frequency `k`, as both programs compute it. -/
def Cert.Rope.ang (t k : ℕ) : EReal :=
  FloatOps.sitofp (F := Ideal) FTy.f32 (BitVec.ofNat 32 t) *
    Ideal.div 1 (Ideal.pow (Ideal.ofBits FTy.f32 1176256512#32)
      (Ideal.div (Ideal.ofBits FTy.f32 1073741824#32 * FloatOps.sitofp (F := Ideal) FTy.f32 (BitVec.ofNat 32 k))
        (Ideal.ofBits FTy.f32 1115684864#32)))

namespace Cert.KernelIdeal.Rope

open Cert.KernelIdeal Cert.KernelIdeal.Gen Cert.Rope

variable (m : (ℓ : Loc nD τ sig) → Buf (Elt Ideal) ℓ)

theorem idx : ∀ t : Fin cfg0.N, win0_0.index t = ![t.val / 8, t.val % 8, 0] ∧ win0_1.index t = ![t.val % 8, 0]
    ∧ win0_2.index t = ![t.val % 8, 0] ∧ win0_3.index t = ![t.val / 8, t.val % 8, 0] :=
  (by decide +kernel : ∀ t : Fin grid0.N, _)

theorem tab_cos (c : Dev nD) (t : Fin 8192) (k : Fin 64) :
    V m c main_v19 (ix2 t k) = Ideal.cos (ang t.val (k.val % 32)) := by
  entry_read
  pointwise
  by_cases h : (k : ℕ) < 32
  · rw [dif_pos h, Nat.mod_eq_of_lt h]; rfl
  · rw [dif_neg h, show k.val % 32 = k.val - 32 by have := k.isLt; omega]; rfl

theorem tab_sin (c : Dev nD) (t : Fin 8192) (k : Fin 64) :
    V m c main_v21 (ix2 t k) = (if (k : ℕ) < 32 then -Ideal.sin (ang t.val (k.val % 32)) else Ideal.sin (ang t.val (k.val % 32)) : EReal) := by
  entry_read
  pointwise
  by_cases h : (k : ℕ) < 32
  · rw [dif_pos h, if_pos h, Nat.mod_eq_of_lt h]; rfl
  · rw [dif_neg h, if_neg h, show k.val % 32 = k.val - 32 by have := k.isLt; omega]; rfl

/-- What one step of the grid stores, at an index of its block. -/
theorem pay_at (x : FVec Ideal S1x1024x64 .f32) (co si : FVec Ideal S1024x64 .f32) (r : Fin 1024) (k : Fin 64) :
    k0_pay1 (F := Ideal) x co si (ix3 0 r k) = x (ix3 0 r k) * co (ix2 r k)
      + x (ix3 0 r ⟨(k.val + 32) % 64, Nat.mod_lt _ (by decide)⟩) * si (ix2 r ⟨(k.val + 32) % 64, Nat.mod_lt _ (by decide)⟩) := by
  have hk := k.isLt
  pointwise [k0_pay1]
  by_cases h : (k : ℕ) < 32
  · rw [dif_pos h]
    congr 1
    congr 2 <;> (congr 1; ext; simp; omega)
  · rw [dif_neg h]
    congr 1
    congr 2 <;> (congr 1; ext; simp; omega)

/-- The reference's result at an index. -/
theorem ref_at (m' : (ℓ : Loc ReferenceIdeal.nD ReferenceIdeal.τ ReferenceIdeal.sig) → Buf (Elt Ideal) ℓ) (c : Dev ReferenceIdeal.nD)
    (x : FVec Ideal S8x8192x64 .f32) (hx : m' (c.tc.loc ReferenceIdeal.main_arg0) = x)
    (h : Fin 8) (t : Fin 8192) (k : Fin 64) :
    ReferenceIdeal.Value.res_main_v51 m' c (ix3 h t k) = x (ix3 h t k) * Ideal.cos (ang t.val (k.val % 32))
      + x (ix3 h t ⟨(k.val + 32) % 64, Nat.mod_lt _ (by decide)⟩) *
        (if (k.val + 32) % 64 < 32 then -Ideal.sin (ang t.val (k.val % 32)) else Ideal.sin (ang t.val (k.val % 32))) := by
  have hk := k.isLt
  pointwise [ReferenceIdeal.Value.res_main_v51, hx]
  by_cases h1 : (k : ℕ) < 32
  · rw [dif_neg (by omega), dif_pos h1, zero_add, if_neg (by omega), Nat.mod_eq_of_lt h1, add_comm]
    congr 1
    congr 2
    congr 1; ext; simp; omega
  · rw [dif_pos (by omega), dif_neg h1, add_zero, if_pos (by omega), show k.val % 32 = k.val - 32 by omega, EReal.neg_mul, ← mul_neg]
    congr 1
    · congr 2; congr 1; ext; simp; omega
    · congr 2; congr 1; ext; simp; omega

theorem algebraic : Cert.algebraic_KernelIdeal_ReferenceIdeal := by
  pair_intro
  · run_from Cert.KernelIdeal.Gen.run_main m g
  · run_from Cert.ReferenceIdeal.Value.run m' g'
    symm
    refine (dats m 0 c).arrAt_eq_of_covers 3 _ (by decide +kernel) fun t _ y => ?_
    blk_simp
    rw [after0_3]; frame_out
    idx_vars y
    have ht : t.val < 64 := lt_of_lt_of_eq t.isLt N_0
    have hj : (((View.whole main_v22).slice (win0_3.rect t)).emb (ix3 y0 y1 y2))
      = ix3 (⟨t.val / 8, by omega⟩ : Fin 8) (⟨t.val % 8 * 1024 + y1.val, by omega⟩ : Fin 8192) (y2 : Fin 64) := by
      blk_ext [idx t]
    rw [hj]
    refine Eq.trans ?_ (ref_at m' c _ (hagree c) _ _ _).symm
    obtain rfl : y0 = 0 := Subsingleton.elim _ _
    refine (pay_at _ _ _ y1 y2).trans ?_
    have e0 : ∀ k : Fin 64, iblk m c 0 t (ix3 (0 : Fin 1) y1 k) = m (c.tc.loc main_arg0)
        (ix3 (⟨t.val / 8, by omega⟩ : Fin 8) (⟨t.val % 8 * 1024 + y1.val, by omega⟩ : Fin 8192) k) := fun k => by
      blk_point [iblk, V, idx t]
    have e1 : ∀ k : Fin 64, iblk m c 1 t (ix2 y1 k) = V m c main_v19 (ix2 (⟨t.val % 8 * 1024 + y1.val, by omega⟩ : Fin 8192) k) := fun k => by
      blk_point [iblk, idx t]
    have e2 : ∀ k : Fin 64, iblk m c 2 t (ix2 y1 k) = V m c main_v21 (ix2 (⟨t.val % 8 * 1024 + y1.val, by omega⟩ : Fin 8192) k) := fun k => by
      blk_point [iblk, idx t]
    rw [e0, e0, e1, e2, tab_cos, tab_sin]
    have hm : (y2.val + 32) % 64 % 32 = y2.val % 32 := by omega
    rw [hm]

end Cert.KernelIdeal.Rope

end
-- ==== Proof.KRope.lean ====
module

public import proofs.«01_k».proof.Proof.Gen.Kernel2Ideal.Frame
public import proofs.«01_k».proof.Proof.Gen.Reference2Ideal.Run
public import proofs.«01_k».proof.Proof.QRope

@[expose] public section

set_option maxRecDepth 16384

noncomputable section

open Idealize.ShloMosaic Idealize.ShloMosaic.TcCoe Idealize.SL.Sem
open Idealize.ShloMosaic.Pipeline (Dat)

namespace Cert.Kernel2Ideal.Rope

open Cert.Kernel2Ideal Cert.Kernel2Ideal.Gen Cert.Rope

variable (m : (ℓ : Loc nD τ sig) → Buf (Elt Ideal) ℓ)

theorem idx : ∀ t : Fin cfg0.N, win0_0.index t = ![0, t.val, 0] ∧ win0_1.index t = ![t.val, 0]
    ∧ win0_2.index t = ![t.val, 0] ∧ win0_3.index t = ![t.val, 0] :=
  (by decide +kernel : ∀ t : Fin grid0.N, _)

theorem tab_cos (c : Dev nD) (t : Fin 8192) (k : Fin 64) :
    V m c main_v19 (ix2 t k) = Ideal.cos (ang t.val (k.val % 32)) := by
  entry_read
  pointwise
  by_cases h : (k : ℕ) < 32
  · rw [dif_pos h, Nat.mod_eq_of_lt h]; rfl
  · rw [dif_neg h, show k.val % 32 = k.val - 32 by have := k.isLt; omega]; rfl

theorem tab_sin (c : Dev nD) (t : Fin 8192) (k : Fin 64) :
    V m c main_v21 (ix2 t k) = (if (k : ℕ) < 32 then -Ideal.sin (ang t.val (k.val % 32)) else Ideal.sin (ang t.val (k.val % 32)) : EReal) := by
  entry_read
  pointwise
  by_cases h : (k : ℕ) < 32
  · rw [dif_pos h, if_pos h, Nat.mod_eq_of_lt h]; rfl
  · rw [dif_neg h, if_neg h, show k.val % 32 = k.val - 32 by have := k.isLt; omega]; rfl

/-- The sum over the heads that one step of the grid forms. -/
def tot (x : FVec Ideal S8x1024x64 .f32) (r : Fin 1024) (k : Fin 64) : EReal :=
  ∑ h : Fin 8, x (ix3 h r k)

/-- The sum over the heads of a whole array. -/
def sumH (x : FVec Ideal S8x8192x64 .f32) (t : Fin 8192) (k : Fin 64) : EReal :=
  ∑ h : Fin 8, x (ix3 h t k)

set_option maxHeartbeats 1000000 in
/-- What one step of the grid stores, at an index of its block. -/
theorem pay_at (x : FVec Ideal S8x1024x64 .f32) (co si : FVec Ideal S1024x64 .f32) (r : Fin 1024) (k k' : Fin 64)
    (hk' : k'.val = (k.val + 32) % 64) :
    k0_pay1 (F := Ideal) x co si (ix2 r k) = tot x r k * co (ix2 r k) + tot x r k' * si (ix2 r k') := by
  have hk := k.isLt
  simp only [tot, Fin.sum_univ_eight]
  pointwise [k0_pay1]
  by_cases h : (k : ℕ) < 32
  · have e : (⟨32 + k.val, by omega⟩ : Fin 64) = k' := by ext; simp only; omega
    rw [dif_pos h, e]
  · have e : (⟨k.val - 32, by omega⟩ : Fin 64) = k' := by ext; simp only; omega
    rw [dif_neg h, e]

theorem algebraic : Cert.algebraic_Kernel2Ideal_Reference2Ideal := by
  pair_intro
  · run_from Cert.Kernel2Ideal.Gen.run_main m g
  · run_from Cert.Reference2Ideal.Value.run m' g'
    symm
    generalize hG : (addf _ _ : FVec Ideal S8192x64 .f32) = G
    have ref_at : ∀ (t : Fin 8192) (k : Fin 64), G (ix2 t k)
        = sumH (m (c.tc.loc main_arg0)) t k * Ideal.cos (ang t.val (k.val % 32))
          + sumH (m (c.tc.loc main_arg0)) t ⟨(k.val + 32) % 64, Nat.mod_lt _ (by decide)⟩ *
            (if (k.val + 32) % 64 < 32 then -Ideal.sin (ang t.val (k.val % 32)) else Ideal.sin (ang t.val (k.val % 32))) := by
      intro t k
      have hk := k.isLt
      subst hG
      pointwise [hagree c]
      by_cases h1 : (k : ℕ) < 32
      · have e : (⟨(k.val + 32) % 64, Nat.mod_lt _ (by decide)⟩ : Fin 64) = ⟨32 + k.val, by omega⟩ := by simp only [Fin.mk.injEq]; omega
        rw [dif_neg (by omega), dif_pos h1, zero_add, if_neg (by omega), Nat.mod_eq_of_lt h1, add_comm, e]
        rfl
      · have e : (⟨(k.val + 32) % 64, Nat.mod_lt _ (by decide)⟩ : Fin 64) = ⟨k.val - 32, by omega⟩ := by simp only [Fin.mk.injEq]; omega
        have e' : (⟨32 + (k.val - 32), by omega⟩ : Fin 64) = k := by ext; simp only; omega
        rw [dif_pos (by omega), dif_neg h1, add_zero, if_pos (by omega), show k.val % 32 = k.val - 32 by omega, EReal.neg_mul, ← mul_neg, e, e']
        rfl
    refine (dats m 0 c).arrAt_eq_of_covers 3 _ (by decide +kernel) fun t _ y => ?_
    blk_simp
    rw [after0_3]; frame_out
    idx_vars y
    have ht : t.val < 8 := lt_of_lt_of_eq t.isLt N_0
    have hj : (((View.whole main_v22).slice (win0_3.rect t)).emb (ix2 y0 y1))
      = ix2 (⟨t.val * 1024 + y0.val, by omega⟩ : Fin 8192) (y1 : Fin 64) := by
      blk_ext [idx t]
    rw [hj]
    refine Eq.trans ?_ (ref_at _ _).symm
    refine (pay_at _ _ _ y0 y1 ⟨(y1.val + 32) % 64, Nat.mod_lt _ (by decide)⟩ rfl).trans ?_
    have e0 : ∀ (h : Fin 8) (k : Fin 64), iblk m c 0 t (ix3 h y0 k) = m (c.tc.loc main_arg0)
        (ix3 h (⟨t.val * 1024 + y0.val, by omega⟩ : Fin 8192) k) := fun h k => by
      blk_point [iblk, V, idx t]
    have e1 : ∀ k : Fin 64, iblk m c 1 t (ix2 y0 k) = V m c main_v19 (ix2 (⟨t.val * 1024 + y0.val, by omega⟩ : Fin 8192) k) := fun k => by
      blk_point [iblk, idx t]
    have e2 : ∀ k : Fin 64, iblk m c 2 t (ix2 y0 k) = V m c main_v21 (ix2 (⟨t.val * 1024 + y0.val, by omega⟩ : Fin 8192) k) := fun k => by
      blk_point [iblk, idx t]
    simp only [tot, e0]
    rw [e1, e2, tab_cos, tab_sin]
    have hm : (y1.val + 32) % 64 % 32 = y1.val % 32 := by omega
    rw [hm]
    rfl

end Cert.Kernel2Ideal.Rope

end
-- ==== Proof.MlaModel.lean ====
module

public import proofs.«01_k».proof.Defs
public import proofs.«01_k».proof.Proof.Gen.Kernel3Ideal.Skeleton
public import Idealize.ShloMosaic.Lib.VecWindow

/-! What one grid point of the backward attention of the latent-attention mixer does to its blocks, written over
whole blocks: two steps on the diagonal, one step for each later block of query rows, the last scaling. -/

@[expose] public section

set_option maxRecDepth 16384

noncomputable section

namespace Cert.Kernel3Ideal.Mla

open Idealize.ShloMosaic Idealize.ShloMosaic.TcCoe
open Cert.Kernel3Ideal.Gen

variable {F : FTy → Type} [FloatOps F] [Named F]

/-- The three blocks the steps change: the gradient of the queries, of the keys, of the values. -/
abbrev Acc (F : FTy → Type) : Type := Vec F S1x8192x256 .f32 × Vec F S1024x256 .f32 × Vec F S1024x256 .f32

/-- Rows of a query-side block. -/
abbrev rowsQ {e : EltTy} (x : Vec F S1x8192x256 e) (off : Fin 3 → ℕ)
    (inb : ∀ a, off a + S1x512x256.size a ≤ S1x8192x256.size a) : Vec F S1x512x256 e :=
  VecWindow.window x off S1x512x256.size inb

/-- The whole of a key-side block. -/
abbrev allK {e : EltTy} (x : Vec F S1x1024x256 e) : Vec F S1x1024x256 e :=
  VecWindow.window x ![0, 0, 0] S1x1024x256.size inb_S1x1024x256_S1x1024x256_0_0_0

/-- The first half of the rows of a key-side block. -/
abbrev topK {e : EltTy} (x : Vec F S1x1024x256 e) : Vec F S1x512x256 e :=
  VecWindow.window x ![0, 0, 0] S1x512x256.size inb_S1x1024x256_S1x512x256_0_0_0

abbrev allA (x : Vec F S1024x256 .f32) : Vec F S1024x256 .f32 :=
  VecWindow.window x ![0, 0] S1024x256.size inb_S1024x256_S1024x256_0_0

abbrev topA (x : Vec F S1024x256 .f32) : Vec F S512x256 .f32 :=
  VecWindow.window x ![0, 0] S512x256.size inb_S1024x256_S512x256_0_0

/-- One later block of query rows. -/
def tripF (i : grid0.Coords) (x0 : Vec F S1x8192x256 .bf16) (x1 x2 : Vec F S1x1024x256 .bf16)
    (x3 : Vec F S1x8192x256 .bf16) (k : Fin (k0_t1_loop i).trips) (s : Acc F) : Acc F :=
  let a := rowsQ x0 (k0_off2 i k) (k0_off2_inb i k)
  let b := rowsQ x3 (k0_off2 i k) (k0_off2_inb i k)
  (VecWindow.put s.1 (k0_off2 i k) S1x512x256.size
      (k0_pay2 (k0_pay9 (allK x1)) (k0_pay12 a b (allK x1) (allK x2)) (rowsQ s.1 (k0_off2 i k) (k0_off2_inb i k))),
   k0_pay13 a b (allK x1) (allK x2) (allA s.2.1),
   k0_pay11 a b (allK x1) (allA s.2.2))

/-- The blocks after the first `n` later steps. -/
def stateF (i : grid0.Coords) (x0 : Vec F S1x8192x256 .bf16) (x1 x2 : Vec F S1x1024x256 .bf16)
    (x3 : Vec F S1x8192x256 .bf16) (s : Acc F) : ℕ → Acc F
  | 0 => s
  | n + 1 => if h : n < (k0_t1_loop i).trips then tripF i x0 x1 x2 x3 ⟨n, h⟩ (stateF i x0 x1 x2 x3 s n)
      else stateF i x0 x1 x2 x3 s n

theorem stateF_succ (i : grid0.Coords) (x0 : Vec F S1x8192x256 .bf16) (x1 x2 : Vec F S1x1024x256 .bf16)
    (x3 : Vec F S1x8192x256 .bf16) (s : Acc F) (k : Fin (k0_t1_loop i).trips) :
    stateF i x0 x1 x2 x3 s (k.val + 1) = tripF i x0 x1 x2 x3 k (stateF i x0 x1 x2 x3 s k.val) := by
  rw [stateF]; exact dif_pos k.isLt

theorem inbD (i : grid0.Coords) (r : Fin 2) :
    ∀ a, k0_off1 i (BitVec.ofNat 32 r.val) a + S1x512x256.size a ≤ S1x8192x256.size a := k0_off1_inb i r

/-- The first half of the diagonal block: the rows of the block's first half against the keys of its first half. -/
def diagF (i : grid0.Coords) (x0 : Vec F S1x8192x256 .bf16) (x1 x2 : Vec F S1x1024x256 .bf16)
    (x3 : Vec F S1x8192x256 .bf16) (dq : Vec F S1x8192x256 .f32) : Acc F :=
  let v16 := rowsQ x0 (k0_off1 i 0#32) (inbD i 0)
  let v20 := k0_pay25 (rowsQ x3 (k0_off1 i 0#32) (inbD i 0))
  let v31 := k0_pay27 v16 (topK x1)
  (VecWindow.put dq (k0_off1 i 0#32) S1x512x256.size
      (k0_pay31 v20 (k0_pay26 (topK x1)) v31 (topK x2) (rowsQ dq (k0_off1 i 0#32) (inbD i 0))),
   VecWindow.put k0_pay21 ![0, 0] S512x256.size (k0_pay30 (k0_pay24 v16) v20 v31 (topK x2) (topA k0_pay21)),
   VecWindow.put k0_pay22 ![0, 0] S512x256.size (k0_pay28 v20 v31 (topA k0_pay22)))

/-- The second half of the diagonal block. -/
def diagG (i : grid0.Coords) (x0 : Vec F S1x8192x256 .bf16) (x1 x2 : Vec F S1x1024x256 .bf16)
    (x3 : Vec F S1x8192x256 .bf16) (dq : Vec F S1x8192x256 .f32) (s : Acc F) : Acc F :=
  let v65 := k0_pay32 (rowsQ x0 (k0_off1 i 1#32) (inbD i 1))
  let v67 := rowsQ x3 (k0_off1 i 1#32) (inbD i 1)
  (VecWindow.put s.1 (k0_off1 i 1#32) S1x512x256.size
      (k0_pay1 (k0_pay34 (allK x1)) (k0_pay37 v65 v67 (allK x1) (allK x2))
        (k0_pay39 (rowsQ dq (k0_off1 i 1#32) (inbD i 1)))),
   k0_pay38 v65 v67 (allK x1) (allK x2) (allA s.2.1),
   k0_pay36 v65 v67 (allK x1) (allA s.2.2))

/-- The blocks after all steps of one grid point, the gradient of the queries having been `dq` before. -/
def pointF (i : grid0.Coords) (x0 : Vec F S1x8192x256 .bf16) (x1 x2 : Vec F S1x1024x256 .bf16)
    (x3 : Vec F S1x8192x256 .bf16) (dq : Vec F S1x8192x256 .f32) : Acc F :=
  stateF i x0 x1 x2 x3 (diagG i x0 x1 x2 x3 dq (diagF i x0 x1 x2 x3 dq)) (k0_t1_loop i).trips

abbrev allQ (x : Vec F S1x8192x256 .f32) : Vec F S1x8192x256 .f32 :=
  VecWindow.window x ![0, 0, 0] S1x8192x256.size inb_S1x8192x256_S1x8192x256_0_0_0

end Cert.Kernel3Ideal.Mla

end

end
-- ==== Proof.AttnSum.lean ====
module

public import Idealize.ShloMosaic.Lib.Pointwise
public import Idealize.ShloMosaic.Lib.VecWindow

/-! Sums taken block by block, and reads of windows at coordinates: what the two backward attentions share. -/

@[expose] public section

set_option maxRecDepth 16384

noncomputable section

open Idealize.ShloMosaic Idealize.ShloMosaic.TcCoe

namespace Cert.Attn

/-- The terms below `n + c` are those below `n` and the next `c`. -/
theorem sum_below_add {N : ℕ} (f : Fin N → EReal) (n c : ℕ) (h : n + c ≤ N) :
    (∑ t : Fin N, if t.val < n + c then f t else 0)
      = (∑ t : Fin N, if t.val < n then f t else 0) + ∑ u : Fin c, f ⟨n + u.val, by omega⟩ := by
  have e : (∑ u : Fin c, f ⟨n + u.val, by omega⟩) = ∑ t : Fin N, if n ≤ t.val ∧ t.val < n + c then f t else 0 := by
    rw [← Finset.sum_filter]
    refine Finset.sum_bij (fun (u : Fin c) _ => (⟨n + u.val, by omega⟩ : Fin N)) ?_ ?_ ?_ ?_
    · intro u _
      simp only [Finset.mem_filter, Finset.mem_univ, true_and]
      omega
    · intro a _ b _ hab
      have := congrArg Fin.val hab
      exact Fin.ext (by simpa using this)
    · intro t ht
      simp only [Finset.mem_filter, Finset.mem_univ, true_and] at ht
      exact ⟨⟨t.val - n, by omega⟩, Finset.mem_univ _, Fin.ext (by simp only; omega)⟩
    · intro u _; rfl
  rw [e, ← Finset.sum_add_distrib]
  refine Finset.sum_congr rfl fun t _ => ?_
  by_cases h1 : t.val < n
  · rw [if_pos (by omega), if_pos h1, if_neg (by omega), add_zero]
  · by_cases h2 : t.val < n + c
    · rw [if_pos h2, if_neg h1, if_pos (by omega), zero_add]
    · rw [if_neg h2, if_neg h1, if_neg (by omega), zero_add]

/-- A sum whose terms from `c` on are zero is the sum of the first `c`. -/
theorem sum_first {N : ℕ} (f : Fin N → EReal) (c : ℕ) (h : c ≤ N) (h0 : ∀ t : Fin N, c ≤ t.val → f t = 0) :
    (∑ t : Fin N, f t) = ∑ u : Fin c, f ⟨u.val, by omega⟩ := by
  have e := sum_below_add f 0 c (by omega)
  rw [show (∑ t : Fin N, f t) = ∑ t : Fin N, if t.val < 0 + c then f t else 0 from
    Finset.sum_congr rfl fun t _ => by
      by_cases ht : t.val < 0 + c
      · rw [if_pos ht]
      · rw [if_neg ht, h0 t (by omega)], e]
  simp only [Nat.not_lt_zero, if_false, Finset.sum_const_zero, zero_add]

/-- A sum of terms below `n`, all zero, is zero. -/
theorem sum_below_zero {N : ℕ} (f : Fin N → EReal) (n : ℕ) (h0 : ∀ t : Fin N, t.val < n → f t = 0) :
    (∑ t : Fin N, if t.val < n then f t else 0) = 0 :=
  Finset.sum_eq_zero fun t _ => by
    by_cases ht : t.val < n
    · rw [if_pos ht, h0 t ht]
    · rw [if_neg ht]

/-- A sum of the terms below the number of them is the whole sum. -/
theorem sum_below_all {N : ℕ} (f : Fin N → EReal) (n : ℕ) (h : N ≤ n) :
    (∑ t : Fin N, if t.val < n then f t else 0) = ∑ t : Fin N, f t :=
  Finset.sum_congr rfl fun t _ => if_pos (by have := t.isLt; omega)

/-- A window of rows of a block, at coordinates. -/
theorem window_rows {α : Type} {N D c : ℕ} (x : (⟨3, ![1, N, D]⟩ : Shape).Idx → α) (off : Fin 3 → ℕ) (n : ℕ) (ho : off = ![0, n, 0])
    (inb : ∀ a, off a + (⟨3, ![1, c, D]⟩ : Shape).size a ≤ (⟨3, ![1, N, D]⟩ : Shape).size a) (u : Fin c) (j : Fin D) (h : n + u.val < N) :
    VecWindow.window (s := ⟨3, ![1, N, D]⟩) x off (⟨3, ![1, c, D]⟩ : Shape).size inb (ix3 (0 : Fin 1) u j) = x (ix3 0 ⟨n + u.val, h⟩ j) := by
  subst ho
  refine congrArg x (funext fun a => ?_)
  refine Fin.ext ?_
  match a with
  | ⟨0, _⟩ => rfl
  | ⟨1, _⟩ => show n + 1 * u.val = n + u.val; omega
  | ⟨2, _⟩ => show 0 + 1 * j.val = j.val; omega

/-- A window of rows put over a block, at a row inside it. -/
theorem put_rows_in {α : Type} {N D c : ℕ} (x : (⟨3, ![1, N, D]⟩ : Shape).Idx → α) (off : Fin 3 → ℕ) (n : ℕ) (ho : off = ![0, n, 0])
    (w : (⟨3, ![1, c, D]⟩ : Shape).Idx → α) (t : Fin N) (j : Fin D) (u : Fin c) (hu : t.val = n + u.val) :
    VecWindow.put (s := ⟨3, ![1, N, D]⟩) x off (⟨3, ![1, c, D]⟩ : Shape).size w (ix3 0 t j) = w (ix3 0 u j) := by
  subst ho
  have hh : ∀ a : Fin 3, (![0, n, 0] : Fin 3 → ℕ) a ≤ ((ix3 0 t j : (⟨3, ![1, N, D]⟩ : Shape).Idx) a).val
      ∧ ((ix3 0 t j : (⟨3, ![1, N, D]⟩ : Shape).Idx) a).val < (![0, n, 0] : Fin 3 → ℕ) a + (⟨3, ![1, c, D]⟩ : Shape).size a := by
    intro a
    match a with
    | ⟨0, _⟩ => exact ⟨le_rfl, Nat.one_pos⟩
    | ⟨1, _⟩ => exact ⟨(show n ≤ t.val by omega), (show t.val < n + c by have := u.isLt; omega)⟩
    | ⟨2, _⟩ => exact ⟨Nat.zero_le _, (show j.val < 0 + D by have := j.isLt; omega)⟩
  refine (dif_pos hh).trans (congrArg w (funext fun a => Fin.ext ?_))
  match a with
  | ⟨0, _⟩ => rfl
  | ⟨1, _⟩ => show t.val - n = u.val; omega
  | ⟨2, _⟩ => show j.val - 0 = j.val; omega

/-- A window of rows put over a block, at a row outside it. -/
theorem put_rows_out {α : Type} {N D c : ℕ} (x : (⟨3, ![1, N, D]⟩ : Shape).Idx → α) (off : Fin 3 → ℕ) (n : ℕ) (ho : off = ![0, n, 0])
    (w : (⟨3, ![1, c, D]⟩ : Shape).Idx → α) (t : Fin N) (j : Fin D) (ht : t.val < n ∨ n + c ≤ t.val) :
    VecWindow.put (s := ⟨3, ![1, N, D]⟩) x off (⟨3, ![1, c, D]⟩ : Shape).size w (ix3 0 t j) = x (ix3 0 t j) := by
  subst ho
  refine dif_neg fun hh => ?_
  have h1 := hh (1 : Fin 3)
  have a1 : n ≤ t.val := h1.1
  have a2 : t.val < n + c := h1.2
  omega

/-- The first rows of an accumulator. -/
theorem window_top {α : Type} {N D c : ℕ} (x : (⟨2, ![N, D]⟩ : Shape).Idx → α)
    (inb : ∀ a, (![0, 0] : Fin 2 → ℕ) a + (⟨2, ![c, D]⟩ : Shape).size a ≤ (⟨2, ![N, D]⟩ : Shape).size a) (u : Fin c) (j : Fin D) (h : u.val < N) :
    VecWindow.window (s := ⟨2, ![N, D]⟩) x ![0, 0] (⟨2, ![c, D]⟩ : Shape).size inb (ix2 u j) = x (ix2 ⟨u.val, h⟩ j) := by
  refine congrArg x (funext fun a => Fin.ext ?_)
  match a with
  | ⟨0, _⟩ => show 0 + 1 * u.val = u.val; omega
  | ⟨1, _⟩ => show 0 + 1 * j.val = j.val; omega

/-- The first rows put over an accumulator. -/
theorem put_top_in {α : Type} {N D c : ℕ} (x : (⟨2, ![N, D]⟩ : Shape).Idx → α)
    (w : (⟨2, ![c, D]⟩ : Shape).Idx → α) (s : Fin N) (j : Fin D) (h : s.val < c) :
    VecWindow.put (s := ⟨2, ![N, D]⟩) x ![0, 0] (⟨2, ![c, D]⟩ : Shape).size w (ix2 s j) = w (ix2 ⟨s.val, h⟩ j) := by
  have hh : ∀ a : Fin 2, (![0, 0] : Fin 2 → ℕ) a ≤ ((ix2 s j : (⟨2, ![N, D]⟩ : Shape).Idx) a).val
      ∧ ((ix2 s j : (⟨2, ![N, D]⟩ : Shape).Idx) a).val < (![0, 0] : Fin 2 → ℕ) a + (⟨2, ![c, D]⟩ : Shape).size a := by
    intro a
    match a with
    | ⟨0, _⟩ => exact ⟨Nat.zero_le _, (show s.val < 0 + c by omega)⟩
    | ⟨1, _⟩ => exact ⟨Nat.zero_le _, (show j.val < 0 + D by have := j.isLt; omega)⟩
  refine (dif_pos hh).trans (congrArg w (funext fun a => Fin.ext ?_))
  match a with
  | ⟨0, _⟩ => show s.val - 0 = s.val; omega
  | ⟨1, _⟩ => show j.val - 0 = j.val; omega

theorem put_top_out {α : Type} {N D c : ℕ} (x : (⟨2, ![N, D]⟩ : Shape).Idx → α)
    (w : (⟨2, ![c, D]⟩ : Shape).Idx → α) (s : Fin N) (j : Fin D) (h : c ≤ s.val) :
    VecWindow.put (s := ⟨2, ![N, D]⟩) x ![0, 0] (⟨2, ![c, D]⟩ : Shape).size w (ix2 s j) = x (ix2 s j) := by
  refine dif_neg fun hh => ?_
  have h1 := (hh (0 : Fin 2)).2
  have a2 : s.val < 0 + c := h1
  omega

/-- Rows of an accumulator read, and put over it. -/
theorem win_rows {α : Type} {N D c : ℕ} (x : (⟨2, ![N, D]⟩ : Shape).Idx → α) (o : ℕ)
    (inb : ∀ a, (![o, 0] : Fin 2 → ℕ) a + (⟨2, ![c, D]⟩ : Shape).size a ≤ (⟨2, ![N, D]⟩ : Shape).size a) (u : Fin c) (j : Fin D) (h : o + u.val < N) :
    VecWindow.window (s := ⟨2, ![N, D]⟩) x ![o, 0] (⟨2, ![c, D]⟩ : Shape).size inb (ix2 u j) = x (ix2 ⟨o + u.val, h⟩ j) := by
  refine congrArg x (funext fun a => Fin.ext ?_)
  match a with
  | ⟨0, _⟩ => show o + 1 * u.val = o + u.val; omega
  | ⟨1, _⟩ => show 0 + 1 * j.val = j.val; omega

theorem put_in {α : Type} {N D c : ℕ} (x : (⟨2, ![N, D]⟩ : Shape).Idx → α) (o : ℕ)
    (w : (⟨2, ![c, D]⟩ : Shape).Idx → α) (s : Fin N) (j : Fin D) (u : Fin c) (h : s.val = o + u.val) :
    VecWindow.put (s := ⟨2, ![N, D]⟩) x ![o, 0] (⟨2, ![c, D]⟩ : Shape).size w (ix2 s j) = w (ix2 u j) := by
  have hh : ∀ a : Fin 2, (![o, 0] : Fin 2 → ℕ) a ≤ ((ix2 s j : (⟨2, ![N, D]⟩ : Shape).Idx) a).val
      ∧ ((ix2 s j : (⟨2, ![N, D]⟩ : Shape).Idx) a).val < (![o, 0] : Fin 2 → ℕ) a + (⟨2, ![c, D]⟩ : Shape).size a := by
    intro a
    match a with
    | ⟨0, _⟩ => exact ⟨(show o ≤ s.val by omega), (show s.val < o + c by have := u.isLt; omega)⟩
    | ⟨1, _⟩ => exact ⟨Nat.zero_le _, (show j.val < 0 + D by have := j.isLt; omega)⟩
  refine (dif_pos hh).trans (congrArg w (funext fun a => Fin.ext ?_))
  match a with
  | ⟨0, _⟩ => show s.val - o = u.val; omega
  | ⟨1, _⟩ => show j.val - 0 = j.val; omega

theorem put_out {α : Type} {N D c : ℕ} (x : (⟨2, ![N, D]⟩ : Shape).Idx → α) (o : ℕ)
    (w : (⟨2, ![c, D]⟩ : Shape).Idx → α) (s : Fin N) (j : Fin D) (h : s.val < o) :
    VecWindow.put (s := ⟨2, ![N, D]⟩) x ![o, 0] (⟨2, ![c, D]⟩ : Shape).size w (ix2 s j) = x (ix2 s j) := by
  refine dif_neg fun hh => ?_
  have h1 : o ≤ s.val := (hh (0 : Fin 2)).1
  omega

theorem neg_inf_bits : Ideal.ofBits .f32 0xFF800000#32 = ⊥ := by
  simp only [Ideal.ofBits]
  unfold Ideal.ieee
  rw [if_pos (by decide), if_pos (by decide), if_pos (by decide)]

theorem low_eq : Ideal.ofBits .f32 0xFF800000#32 = (⊥ : EReal) := neg_inf_bits

theorem bmod_small (a : ℕ) (h : a < 2 ^ 20) : Int.bmod (a : ℤ) (2 ^ 32) = a := by
  rw [Int.bmod_def]
  omega

/-- A score masked by comparing a key's number with a query's. -/
theorem masked (a b : ℕ) (ha : a < 2 ^ 20) (hb : b < 2 ^ 20) (x : EReal) :
    Scalar.select (IntOp.cmpi .sle (BitVec.ofNat 32 a) (BitVec.ofNat 32 b)) x ⊥ = if a ≤ b then x else ⊥ := by
  have h : IntOp.cmpi .sle (BitVec.ofNat 32 a) (BitVec.ofNat 32 b) = 1#1 ↔ a ≤ b := by
    show BitVec.ofBool ((BitVec.ofNat 32 a).sle (BitVec.ofNat 32 b)) = 1#1 ↔ _
    rw [BitVec.sle_eq_decide, BitVec.toInt_ofNat', BitVec.toInt_ofNat']
    have h1 : Int.bmod (a : ℤ) (2 ^ 32) = a := by rw [Int.bmod_def]; omega
    have h2 : Int.bmod (b : ℤ) (2 ^ 32) = b := by rw [Int.bmod_def]; omega
    rw [h1, h2]
    by_cases e : a ≤ b
    · simp only [e, iff_true]
      rw [decide_eq_true (by omega)]; rfl
    · simp only [e, iff_false]
      rw [decide_eq_false (by omega)]; decide
  show (if IntOp.cmpi .sle (BitVec.ofNat 32 a) (BitVec.ofNat 32 b) = 1#1 then x else ⊥) = _
  simp only [h]

/-- The exponential of a score masked by comparing a key's number with a query's. -/
theorem exp_masked (a b c : ℕ) (ha : a < 2 ^ 20) (hb : b < 2 ^ 20) (hc : c < 2 ^ 20) (x : EReal) :
    Ideal.exp (Scalar.select (IntOp.cmpi .sle (BitVec.ofNat 32 a) (IntOp.addi (BitVec.ofNat 32 b) (BitVec.ofNat 32 c))) x ⊥)
      = if a ≤ b + c then Ideal.exp x else 0 := by
  have h : IntOp.cmpi .sle (BitVec.ofNat 32 a) (IntOp.addi (BitVec.ofNat 32 b) (BitVec.ofNat 32 c)) = 1#1 ↔ a ≤ b + c := by
    show BitVec.ofBool ((BitVec.ofNat 32 a).sle (BitVec.ofNat 32 b + BitVec.ofNat 32 c)) = 1#1 ↔ _
    rw [← BitVec.ofNat_add, BitVec.sle_eq_decide, BitVec.toInt_ofNat', BitVec.toInt_ofNat']
    have h1 : Int.bmod (a : ℤ) (2 ^ 32) = a := by rw [Int.bmod_def]; omega
    have h2 : Int.bmod ((b + c : ℕ) : ℤ) (2 ^ 32) = (b + c : ℕ) := by rw [Int.bmod_def]; omega
    rw [h1, h2]
    by_cases e : a ≤ b + c
    · simp only [e, iff_true]
      rw [decide_eq_true (by omega)]; rfl
    · simp only [e, iff_false]
      rw [decide_eq_false (by omega)]; decide
  show Ideal.exp (if IntOp.cmpi .sle (BitVec.ofNat 32 a) (IntOp.addi (BitVec.ofNat 32 b) (BitVec.ofNat 32 c)) = 1#1 then x else ⊥) = _
  by_cases hh : a ≤ b + c
  · rw [if_pos (h.mpr hh), if_pos hh]
  · rw [if_neg (fun e => hh (h.mp e)), if_neg hh]; rfl

section
variable {n : ℕ} (M : FVec Ideal ⟨2, ![n, 128]⟩ .f32) (t : Fin n) (μ : EReal)

theorem row_const (hM : ∀ l : Fin 128, M (ix2 t l) = μ) (y : (⟨2, ![n, 128]⟩ : Shape).Idx) (h : (y 0).val = t.val) : M y = μ := by
  have e : y = ix2 t (y 1) := by
    funext a
    match a with
    | ⟨0, _⟩ => exact Fin.ext h
    | ⟨1, _⟩ => rfl
  rw [e]; exact hM _

/-- Copies of a block with constant rows side by side have constant rows. -/
theorem cat4 (h : Shape.Concatenates [⟨2, ![n, 128]⟩, ⟨2, ![n, 128]⟩, ⟨2, ![n, 128]⟩, ⟨2, ![n, 128]⟩] ⟨2, ![n, 512]⟩ 1)
    (hM : ∀ l : Fin 128, M (ix2 t l) = μ) (x : Fin 512) :
    concatenate ⟨2, ![n, 512]⟩ 1 [⟨⟨2, ![n, 128]⟩, M⟩, ⟨⟨2, ![n, 128]⟩, M⟩, ⟨⟨2, ![n, 128]⟩, M⟩, ⟨⟨2, ![n, 128]⟩, M⟩] h (ix2 t x) = μ := by
  pointwise []
  split_ifs <;> exact row_const M t μ hM _ rfl

end

end Cert.Attn

end

end
-- ==== Proof.MlaVal.lean ====
module

public import proofs.«01_k».proof.Proof.MlaModel
public import proofs.«01_k».proof.Proof.AttnSum

/-! What the stored blocks of the backward attention hold, at coordinates, over the extended reals. -/

@[expose] public section

set_option maxRecDepth 16384

noncomputable section

open Idealize.ShloMosaic Idealize.ShloMosaic.TcCoe

namespace Cert.Kernel3Ideal.Mla

open Cert.Kernel3Ideal.Gen Cert.Attn

/-- The mask is the lowest value. -/
theorem mask_eq : (Named.named κ "mask" 0xF149F2CA#32 : Ideal .f32) = (⊥ : EReal) := rfl

/-- The product of a row of keys and a row of queries. -/
def dotKQ {n : ℕ} (a : FVec Ideal ⟨3, ![1, n, 256]⟩ .bf16) (s : Fin n) {l : ℕ} (b : FVec Ideal ⟨3, ![1, l, 256]⟩ .bf16) (t : Fin l) : EReal :=
  ∑ j : Fin 256, a (ix3 0 s j) * b (ix3 0 t j)

theorem pay10_at (a : FVec Ideal S1x512x256 .bf16) (k : FVec Ideal S1x1024x256 .bf16) (s : Fin 1024) (u : Fin 512) :
    k0_pay10 (F := Ideal) a k (ix2 s u) = Ideal.exp (dotKQ k s a u) := by
  pointwise [k0_pay10, k0_pay9, k0_pay7, dotKQ]

theorem pay11_at (a b : FVec Ideal S1x512x256 .bf16) (k : FVec Ideal S1x1024x256 .bf16) (o : FVec Ideal S1024x256 .f32) (s : Fin 1024) (d : Fin 256) :
    k0_pay11 (F := Ideal) a b k o (ix2 s d) = o (ix2 s d) + ∑ u : Fin 512, Ideal.exp (dotKQ k s a u) * b (ix3 0 u d) := by
  pointwise [k0_pay11, k0_pay8, pay10_at]

theorem pay12_at (a b : FVec Ideal S1x512x256 .bf16) (k v : FVec Ideal S1x1024x256 .bf16) (s : Fin 1024) (u : Fin 512) :
    k0_pay12 (F := Ideal) a b k v (ix2 s u) = Ideal.exp (dotKQ k s a u) * dotKQ v s b u := by
  pointwise [k0_pay12, k0_pay8, pay10_at, dotKQ]

theorem pay13_at (a b : FVec Ideal S1x512x256 .bf16) (k v : FVec Ideal S1x1024x256 .bf16) (o : FVec Ideal S1024x256 .f32) (s : Fin 1024) (d : Fin 256) :
    k0_pay13 (F := Ideal) a b k v o (ix2 s d) = o (ix2 s d) + ∑ u : Fin 512, (Ideal.exp (dotKQ k s a u) * dotKQ v s b u) * a (ix3 0 u d) := by
  pointwise [k0_pay13, k0_pay7, pay12_at]

theorem pay2_at (k : FVec Ideal S1x1024x256 .bf16) (w : FVec Ideal S1024x512 .bf16) (o : FVec Ideal S1x512x256 .f32) (u : Fin 512) (d : Fin 256) :
    k0_pay2 (F := Ideal) (k0_pay9 k) w o (ix3 0 u d) = o (ix3 0 u d) + ∑ s : Fin 1024, w (ix2 s u) * k (ix3 0 s d) := by
  pointwise [k0_pay2, k0_pay9]

theorem pay27_at (a k : FVec Ideal S1x512x256 .bf16) (s u : Fin 512) :
    k0_pay27 (F := Ideal) a k (ix2 s u) = if s.val ≤ u.val then Ideal.exp (dotKQ k s a u) else 0 := by
  pointwise [k0_pay27, k0_pay24, k0_pay26, dotKQ, mask_eq]
  have h := exp_masked s.val u.val 0 (by omega) (by omega) (by omega) (∑ x : Fin 256, k (ix3 0 s x) * a (ix3 0 u x))
  rw [add_zero] at h
  exact h

theorem pay28_at (b : FVec Ideal S1x512x256 .bf16) (p : FVec Ideal S512x512 .f32) (o : FVec Ideal S512x256 .f32) (s : Fin 512) (d : Fin 256) :
    k0_pay28 (F := Ideal) (k0_pay25 b) p o (ix2 s d) = o (ix2 s d) + ∑ u : Fin 512, p (ix2 s u) * b (ix3 0 u d) := by
  pointwise [k0_pay28, k0_pay25]

theorem pay29_at (b v : FVec Ideal S1x512x256 .bf16) (p : FVec Ideal S512x512 .f32) (s u : Fin 512) :
    k0_pay29 (F := Ideal) (k0_pay25 b) p v (ix2 s u) = p (ix2 s u) * dotKQ v s b u := by
  pointwise [k0_pay29, k0_pay25, dotKQ]

theorem pay30_at (a b v : FVec Ideal S1x512x256 .bf16) (p : FVec Ideal S512x512 .f32) (o : FVec Ideal S512x256 .f32) (s : Fin 512) (d : Fin 256) :
    k0_pay30 (F := Ideal) (k0_pay24 a) (k0_pay25 b) p v o (ix2 s d)
      = o (ix2 s d) + ∑ u : Fin 512, (p (ix2 s u) * dotKQ v s b u) * a (ix3 0 u d) := by
  pointwise [k0_pay30, k0_pay24, pay29_at]

theorem pay31_at (b k v : FVec Ideal S1x512x256 .bf16) (p : FVec Ideal S512x512 .f32) (o : FVec Ideal S1x512x256 .f32) (u : Fin 512) (d : Fin 256) :
    k0_pay31 (F := Ideal) (k0_pay25 b) (k0_pay26 k) p v o (ix3 0 u d)
      = o (ix3 0 u d) + ∑ s : Fin 512, (p (ix2 s u) * dotKQ v s b u) * k (ix3 0 s d) := by
  pointwise [k0_pay31, k0_pay26, pay29_at]

theorem pay35_at (a : FVec Ideal S1x512x256 .bf16) (k : FVec Ideal S1x1024x256 .bf16) (s : Fin 1024) (u : Fin 512) :
    k0_pay35 (F := Ideal) (k0_pay32 a) k (ix2 s u) = if s.val ≤ u.val + 512 then Ideal.exp (dotKQ k s a u) else 0 := by
  pointwise [k0_pay35, k0_pay32, k0_pay34, dotKQ, mask_eq]
  exact exp_masked s.val u.val 512 (by omega) (by omega) (by omega) (∑ x : Fin 256, k (ix3 0 s x) * a (ix3 0 u x))

theorem pay36_at (a b : FVec Ideal S1x512x256 .bf16) (k : FVec Ideal S1x1024x256 .bf16) (o : FVec Ideal S1024x256 .f32) (s : Fin 1024) (d : Fin 256) :
    k0_pay36 (F := Ideal) (k0_pay32 a) b k o (ix2 s d)
      = o (ix2 s d) + ∑ u : Fin 512, (if s.val ≤ u.val + 512 then Ideal.exp (dotKQ k s a u) else 0) * b (ix3 0 u d) := by
  pointwise [k0_pay36, k0_pay33, pay35_at]

theorem pay37_at (a b : FVec Ideal S1x512x256 .bf16) (k v : FVec Ideal S1x1024x256 .bf16) (s : Fin 1024) (u : Fin 512) :
    k0_pay37 (F := Ideal) (k0_pay32 a) b k v (ix2 s u)
      = (if s.val ≤ u.val + 512 then Ideal.exp (dotKQ k s a u) else 0) * dotKQ v s b u := by
  pointwise [k0_pay37, k0_pay33, pay35_at, dotKQ]

theorem pay38_at (a b : FVec Ideal S1x512x256 .bf16) (k v : FVec Ideal S1x1024x256 .bf16) (o : FVec Ideal S1024x256 .f32) (s : Fin 1024) (d : Fin 256) :
    k0_pay38 (F := Ideal) (k0_pay32 a) b k v o (ix2 s d)
      = o (ix2 s d) + ∑ u : Fin 512, ((if s.val ≤ u.val + 512 then Ideal.exp (dotKQ k s a u) else 0) * dotKQ v s b u) * a (ix3 0 u d) := by
  have h := pay37_at a b k v
  simp only [k0_pay32] at h
  pointwise [k0_pay38, k0_pay32, h]

theorem pay1_at (k : FVec Ideal S1x1024x256 .bf16) (w : FVec Ideal S1024x512 .bf16) (o : FVec Ideal S1x512x256 .f32) (u : Fin 512) (d : Fin 256) :
    k0_pay1 (F := Ideal) (k0_pay34 k) w (k0_pay39 o) (ix3 0 u d) = o (ix3 0 u d) + ∑ s : Fin 1024, w (ix2 s u) * k (ix3 0 s d) := by
  pointwise [k0_pay1, k0_pay34, k0_pay39]

theorem pay21_at (s : Fin 1024) (d : Fin 256) : k0_pay21 (F := Ideal) (ix2 s d) = (0 : EReal) := by pointwise [k0_pay21]
theorem pay22_at (s : Fin 1024) (d : Fin 256) : k0_pay22 (F := Ideal) (ix2 s d) = (0 : EReal) := by pointwise [k0_pay22]
theorem pay23_at (t : Fin 8192) (d : Fin 256) : k0_pay23 (F := Ideal) (ix3 0 t d) = (0 : EReal) := by pointwise [k0_pay23]
theorem pay4_at (x : FVec Ideal S1024x256 .f32) (s : Fin 1024) (d : Fin 256) : k0_pay4 (F := Ideal) x (ix3 0 s d) = x (ix2 s d) := by pointwise [k0_pay4]
theorem pay5_at (x : FVec Ideal S1024x256 .f32) (s : Fin 1024) (d : Fin 256) : k0_pay5 (F := Ideal) x (ix3 0 s d) = x (ix2 s d) := by pointwise [k0_pay5]
theorem pay6_at (x : FVec Ideal S1x8192x256 .f32) (t : Fin 8192) (d : Fin 256) :
    k0_pay6 (F := Ideal) x (ix3 0 t d) = x (ix3 0 t d) * Ideal.ofBits .f32 0x3D93CD3A#32 := by pointwise [k0_pay6]

end Cert.Kernel3Ideal.Mla

end

end
-- ==== Proof.MlaState.lean ====
module

public import proofs.«01_k».proof.Proof.MlaVal

/-! The three blocks after each step of a grid point, as sums over the query rows met so far. -/

@[expose] public section

set_option maxRecDepth 16384

noncomputable section

open Idealize.ShloMosaic Idealize.ShloMosaic.TcCoe

namespace Cert.Kernel3Ideal.Mla

open Cert.Kernel3Ideal.Gen Cert.Attn

theorem off_diag0 (i : grid0.Coords) : k0_off1 i 0#32 = ![0, (i 1).val * 1024, 0] := by
  have h : ∀ j : Fin 8, ∀ i : grid0.Coords, (i 1).val = j.val → k0_off1 i 0#32 = ![0, (i 1).val * 1024, 0] := by
    intro j i hj
    dsimp only [k0_off1]
    rw [hj]
    clear hj i
    revert j
    decide +kernel
  exact h (i 1) i rfl

theorem off_diag1 (i : grid0.Coords) : k0_off1 i 1#32 = ![0, (i 1).val * 1024 + 512, 0] := by
  have h : ∀ j : Fin 8, ∀ i : grid0.Coords, (i 1).val = j.val → k0_off1 i 1#32 = ![0, (i 1).val * 1024 + 512, 0] := by
    intro j i hj
    dsimp only [k0_off1]
    rw [hj]
    clear hj i
    revert j
    decide +kernel
  exact h (i 1) i rfl

theorem trips_eq (i : grid0.Coords) : (k0_t1_loop i).trips = 14 - 2 * (i 1).val := by
  have h : ∀ j : Fin 8, ∀ i : grid0.Coords, (i 1).val = j.val → (k0_t1_loop i).trips = 14 - 2 * (i 1).val := by
    intro j i hj
    dsimp only [k0_t1_loop, Scf.Loop.trips]
    rw [hj]
    clear hj i
    revert j
    decide +kernel
  exact h (i 1) i rfl

theorem off_later (i : grid0.Coords) (k : Fin (k0_t1_loop i).trips) : k0_off2 i k = ![0, (i 1).val * 1024 + 1024 + k.val * 512, 0] := by
  have hk : k.val < 14 - 2 * (i 1).val := lt_of_lt_of_eq k.isLt (trips_eq i)
  have h : ∀ j : Fin 8, ∀ l : Fin 14, ∀ i : grid0.Coords, ∀ k : Fin (k0_t1_loop i).trips, (i 1).val = j.val → k.val = l.val → l.val < 14 - 2 * j.val →
      k0_off2 i k = ![0, (i 1).val * 1024 + 1024 + k.val * 512, 0] := by
    intro j l i k hj hl hlt
    dsimp only [k0_off2, Scf.iv]
    rw [hj, hl]
    clear hj hl i k
    revert j l
    decide +kernel
  exact h (i 1) ⟨k.val, by omega⟩ i k rfl rfl hk

theorem allK_eq (x : FVec Ideal S1x1024x256 .bf16) : allK (F := Ideal) (e := .bf16) x = x :=
  funext fun y => congrArg x (funext fun a => Fin.ext (by
    show (![0, 0, 0] : Fin 3 → ℕ) a + 1 * (y a).val = (y a).val
    match a with
    | ⟨0, _⟩ => show 0 + 1 * _ = _; omega
    | ⟨1, _⟩ => show 0 + 1 * _ = _; omega
    | ⟨2, _⟩ => show 0 + 1 * _ = _; omega))

theorem allQ_eq (x : FVec Ideal S1x8192x256 .f32) : allQ (F := Ideal) x = x :=
  funext fun y => congrArg x (funext fun a => Fin.ext (by
    show (![0, 0, 0] : Fin 3 → ℕ) a + 1 * (y a).val = (y a).val
    match a with
    | ⟨0, _⟩ => show 0 + 1 * _ = _; omega
    | ⟨1, _⟩ => show 0 + 1 * _ = _; omega
    | ⟨2, _⟩ => show 0 + 1 * _ = _; omega))

theorem allA_eq (x : FVec Ideal S1024x256 .f32) : allA (F := Ideal) x = x :=
  funext fun y => congrArg x (funext fun a => Fin.ext (by
    show (![0, 0] : Fin 2 → ℕ) a + 1 * (y a).val = (y a).val
    match a with
    | ⟨0, _⟩ => show 0 + 1 * _ = _; omega
    | ⟨1, _⟩ => show 0 + 1 * _ = _; omega))

theorem rowsQ_at (x : FVec Ideal S1x8192x256 .bf16) (off : Fin 3 → ℕ) (n : ℕ) (ho : off = ![0, n, 0]) (inb) (u : Fin 512) (j : Fin 256) (h : n + u.val < 8192) :
    rowsQ (F := Ideal) (e := .bf16) x off inb (ix3 0 u j) = x (ix3 0 ⟨n + u.val, h⟩ j) :=
  window_rows (c := 512) x off n ho inb u j h

theorem rowsQ32_at (x : FVec Ideal S1x8192x256 .f32) (off : Fin 3 → ℕ) (n : ℕ) (ho : off = ![0, n, 0]) (inb) (u : Fin 512) (j : Fin 256) (h : n + u.val < 8192) :
    rowsQ (F := Ideal) (e := .f32) x off inb (ix3 0 u j) = x (ix3 0 ⟨n + u.val, h⟩ j) :=
  window_rows (c := 512) x off n ho inb u j h

theorem topA_at (x : FVec Ideal S1024x256 .f32) (s : Fin 512) (d : Fin 256) : topA (F := Ideal) x (ix2 s d) = x (ix2 ⟨s.val, by omega⟩ d) :=
  window_top (c := 512) x inb_S1024x256_S512x256_0_0 s d (by omega)

theorem dot_rows {m : ℕ} (k : FVec Ideal ⟨3, ![1, m, 256]⟩ .bf16) (s : Fin m) (x : FVec Ideal S1x8192x256 .bf16) (off : Fin 3 → ℕ) (n : ℕ)
    (ho : off = ![0, n, 0]) (inb) (u : Fin 512) (h : n + u.val < 8192) :
    dotKQ k s (rowsQ (F := Ideal) (e := .bf16) x off inb) u = dotKQ k s x ⟨n + u.val, h⟩ :=
  Finset.sum_congr rfl fun j _ => by rw [rowsQ_at x off n ho inb u j h]

theorem topK_at (x : FVec Ideal S1x1024x256 .bf16) (s : Fin 512) (j : Fin 256) :
    topK (F := Ideal) (e := .bf16) x (ix3 0 s j) = x (ix3 0 ⟨s.val, by omega⟩ j) := by
  refine (window_rows (c := 512) x ![0, 0, 0] 0 rfl inb_S1x1024x256_S1x512x256_0_0_0 s j (by omega)).trans ?_
  exact congrArg x (by congr 1; exact Fin.ext (Nat.zero_add _))

theorem dot_top {m : ℕ} (x : FVec Ideal S1x1024x256 .bf16) (s : Fin 512) (b : FVec Ideal ⟨3, ![1, m, 256]⟩ .bf16) (u : Fin m) :
    dotKQ (topK (F := Ideal) (e := .bf16) x) s b u = dotKQ x ⟨s.val, by omega⟩ b u :=
  Finset.sum_congr rfl fun j _ => by rw [topK_at x s j]

/-- The weight of a key of a block for a query, and what its product with the weight's gradient is. -/
def wt (b : ℕ) (x0 : FVec Ideal S1x8192x256 .bf16) (x1 : FVec Ideal S1x1024x256 .bf16) (s : Fin 1024) (t : Fin 8192) : EReal :=
  if b + s.val ≤ t.val then Ideal.exp (dotKQ x1 s x0 t) else 0

def gs (b : ℕ) (x0 : FVec Ideal S1x8192x256 .bf16) (x1 x2 : FVec Ideal S1x1024x256 .bf16) (x3 : FVec Ideal S1x8192x256 .bf16)
    (s : Fin 1024) (t : Fin 8192) : EReal :=
  wt b x0 x1 s t * dotKQ x2 s x3 t

/-- The blocks when the query rows below `n` have been met. -/
structure Met (b : ℕ) (x0 : FVec Ideal S1x8192x256 .bf16) (x1 x2 : FVec Ideal S1x1024x256 .bf16) (x3 : FVec Ideal S1x8192x256 .bf16)
    (dq : FVec Ideal S1x8192x256 .f32) (n : ℕ) (X : Acc Ideal) : Prop where
  q : ∀ (t : Fin 8192) (d : Fin 256), X.1 (ix3 0 t d)
    = dq (ix3 0 t d) + if t.val < n then ∑ s : Fin 1024, gs b x0 x1 x2 x3 s t * x1 (ix3 0 s d) else 0
  k : ∀ (s : Fin 1024) (d : Fin 256), X.2.1 (ix2 s d) = ∑ t : Fin 8192, if t.val < n then gs b x0 x1 x2 x3 s t * x0 (ix3 0 t d) else 0
  v : ∀ (s : Fin 1024) (d : Fin 256), X.2.2 (ix2 s d) = ∑ t : Fin 8192, if t.val < n then wt b x0 x1 s t * x3 (ix3 0 t d) else 0

variable (x0 : FVec Ideal S1x8192x256 .bf16) (x1 x2 : FVec Ideal S1x1024x256 .bf16) (x3 : FVec Ideal S1x8192x256 .bf16)
  (dq : FVec Ideal S1x8192x256 .f32)

theorem wt_on (b : ℕ) (s : Fin 1024) (t : Fin 8192) (h : b + s.val ≤ t.val) : wt b x0 x1 s t = Ideal.exp (dotKQ x1 s x0 t) := if_pos h
theorem wt_off (b : ℕ) (s : Fin 1024) (t : Fin 8192) (h : t.val < b + s.val) : wt b x0 x1 s t = 0 := if_neg (by omega)
theorem gs_off (b : ℕ) (s : Fin 1024) (t : Fin 8192) (h : t.val < b + s.val) : gs b x0 x1 x2 x3 s t = 0 := by
  rw [gs, wt_off x0 x1 b s t h, zero_mul]

/-- One later step. -/
theorem met_trip (i : grid0.Coords) (b : ℕ) (hb : b = (i 1).val * 1024) (k : Fin (k0_t1_loop i).trips) (X : Acc Ideal)
    (h : Met b x0 x1 x2 x3 dq (b + 1024 + k.val * 512) X) :
    Met b x0 x1 x2 x3 dq (b + 1024 + k.val * 512 + 512) (tripF (F := Ideal) i x0 x1 x2 x3 k X) := by
  have hk : k.val < 14 - 2 * (i 1).val := lt_of_lt_of_eq k.isLt (trips_eq i)
  have hi : (i 1).val < 8 := (i 1).isLt
  have ho := off_later i k
  rw [← hb] at ho
  generalize hn : b + 1024 + k.val * 512 = n at h ho ⊢
  have hN : n + 512 ≤ 8192 := by omega
  have hw : ∀ (s : Fin 1024) (u : Fin 512), Ideal.exp (dotKQ x1 s (rowsQ (F := Ideal) (e := .bf16) x0 (k0_off2 i k) (k0_off2_inb i k)) u)
      = wt b x0 x1 s ⟨n + u.val, by omega⟩ := fun s u => by
    rw [dot_rows x1 s x0 _ n ho _ u (by omega), wt_on _ _ _ _ _ (by show b + s.val ≤ n + u.val; omega)]
  have hv : ∀ (s : Fin 1024) (u : Fin 512), dotKQ x2 s (rowsQ (F := Ideal) (e := .bf16) x3 (k0_off2 i k) (k0_off2_inb i k)) u
      = dotKQ x2 s x3 ⟨n + u.val, by omega⟩ := fun s u => dot_rows x2 s x3 _ n ho _ u (by omega)
  refine ⟨fun t d => ?_, fun s d => ?_, fun s d => ?_⟩
  · simp only [tripF]
    rw [allK_eq x1, allK_eq x2]
    by_cases ht : n ≤ t.val ∧ t.val < n + 512
    · obtain ⟨u, hu⟩ : ∃ u : Fin 512, t.val = n + u.val := ⟨⟨t.val - n, by omega⟩, by simp only; omega⟩
      have et : (⟨n + u.val, by omega⟩ : Fin 8192) = t := Fin.ext hu.symm
      refine (put_rows_in (c := 512) X.1 _ n ho _ t d u hu).trans ?_
      rw [pay2_at, rowsQ32_at X.1 _ n ho _ u d (by omega), et, h.q t d, if_neg (by omega), add_zero, if_pos ht.2]
      refine congrArg _ (Finset.sum_congr rfl fun s _ => ?_)
      rw [pay12_at, hw, hv, et]; rfl
    · refine (put_rows_out (c := 512) X.1 _ n ho _ t d (by omega)).trans ?_
      rw [h.q t d]
      by_cases h1 : t.val < n
      · rw [if_pos h1, if_pos (by omega)]
      · rw [if_neg h1, if_neg (by omega)]
  · simp only [tripF]
    rw [allK_eq x1, allK_eq x2, allA_eq X.2.1]
    rw [pay13_at, h.k s d, sum_below_add _ n 512 hN]
    refine congrArg _ (Finset.sum_congr rfl fun u _ => ?_)
    rw [hw, hv, rowsQ_at x0 _ n ho _ u d (by omega)]; rfl
  · simp only [tripF]
    rw [allK_eq x1, allA_eq X.2.2]
    rw [pay11_at, h.v s d, sum_below_add _ n 512 hN]
    refine congrArg _ (Finset.sum_congr rfl fun u _ => ?_)
    rw [hw, rowsQ_at x3 _ n ho _ u d (by omega)]

/-- The first half of the diagonal block. -/
theorem met_diag0 (i : grid0.Coords) (b : ℕ) (hb : b = (i 1).val * 1024) :
    Met b x0 x1 x2 x3 dq (b + 512) (diagF (F := Ideal) i x0 x1 x2 x3 dq) := by
  have hi : (i 1).val < 8 := (i 1).isLt
  have ho := off_diag0 i
  rw [← hb] at ho
  have hw : ∀ (s u : Fin 512), k0_pay27 (F := Ideal) (rowsQ (F := Ideal) (e := .bf16) x0 (k0_off1 i 0#32) (inbD i 0)) (topK (F := Ideal) (e := .bf16) x1) (ix2 s u)
      = wt b x0 x1 ⟨s.val, by omega⟩ ⟨b + u.val, by omega⟩ := fun s u => by
    rw [pay27_at, dot_rows _ s x0 _ b ho _ u (by omega), dot_top]
    by_cases h : s.val ≤ u.val
    · rw [if_pos h, wt_on _ _ _ _ _ (by show b + s.val ≤ b + u.val; omega)]
    · rw [if_neg h, wt_off _ _ _ _ _ (by show b + u.val < b + s.val; omega)]
  have hv : ∀ (s u : Fin 512), dotKQ (topK (F := Ideal) (e := .bf16) x2) s (rowsQ (F := Ideal) (e := .bf16) x3 (k0_off1 i 0#32) (inbD i 0)) u
      = dotKQ x2 ⟨s.val, by omega⟩ x3 ⟨b + u.val, by omega⟩ := fun s u => by
    rw [dot_rows _ s x3 _ b ho _ u (by omega), dot_top]
  refine ⟨fun t d => ?_, fun s d => ?_, fun s d => ?_⟩
  · simp only [diagF]
    by_cases ht : b ≤ t.val ∧ t.val < b + 512
    · obtain ⟨u, hu⟩ : ∃ u : Fin 512, t.val = b + u.val := ⟨⟨t.val - b, by omega⟩, by simp only; omega⟩
      have et : (⟨b + u.val, by omega⟩ : Fin 8192) = t := Fin.ext hu.symm
      refine (put_rows_in (c := 512) dq _ b ho _ t d u hu).trans ?_
      rw [pay31_at, rowsQ32_at dq _ b ho _ u d (by omega), et, if_pos ht.2,
        sum_first (fun s : Fin 1024 => gs b x0 x1 x2 x3 s t * x1 (ix3 0 s d)) 512 (by omega) (fun s hs => by
          rw [gs_off _ _ _ _ _ _ _ (by omega), zero_mul])]
      refine congrArg _ (Finset.sum_congr rfl fun s _ => ?_)
      rw [hw, hv, et, topK_at]; rfl
    · refine (put_rows_out (c := 512) dq _ b ho _ t d (by omega)).trans ?_
      by_cases h1 : t.val < b
      · rw [if_pos (by omega), Finset.sum_eq_zero fun s _ => by rw [gs_off _ _ _ _ _ _ _ (by omega), zero_mul], add_zero]
      · rw [if_neg (by omega), add_zero]
  · simp only [diagF]
    rw [sum_below_add _ b 512 (by omega), sum_below_zero _ b (fun t ht => by rw [gs_off _ _ _ _ _ _ _ (by omega), zero_mul]), zero_add]
    by_cases hs : s.val < 512
    · refine (put_top_in (c := 512) _ _ s d hs).trans ?_
      rw [pay30_at, topA_at, pay21_at, zero_add]
      refine Finset.sum_congr rfl fun u _ => ?_
      rw [hw, hv, rowsQ_at x0 _ b ho _ u d (by omega)]; rfl
    · refine (put_top_out (c := 512) _ _ s d (by omega)).trans ?_
      rw [pay21_at]
      refine (Finset.sum_eq_zero fun u _ => ?_).symm
      rw [gs_off _ _ _ _ _ _ _ (by show b + u.val < _; omega), zero_mul]
  · simp only [diagF]
    rw [sum_below_add _ b 512 (by omega), sum_below_zero _ b (fun t ht => by rw [wt_off _ _ _ _ _ (by omega), zero_mul]), zero_add]
    by_cases hs : s.val < 512
    · refine (put_top_in (c := 512) _ _ s d hs).trans ?_
      rw [pay28_at, topA_at, pay22_at, zero_add]
      refine Finset.sum_congr rfl fun u _ => ?_
      rw [hw, rowsQ_at x3 _ b ho _ u d (by omega)]
    · refine (put_top_out (c := 512) _ _ s d (by omega)).trans ?_
      rw [pay22_at]
      refine (Finset.sum_eq_zero fun u _ => ?_).symm
      rw [wt_off _ _ _ _ _ (by show b + u.val < _; omega), zero_mul]

/-- The second half of the diagonal block. -/
theorem met_diag1 (i : grid0.Coords) (b : ℕ) (hb : b = (i 1).val * 1024) (X : Acc Ideal) (h : Met b x0 x1 x2 x3 dq (b + 512) X) :
    Met b x0 x1 x2 x3 dq (b + 1024) (diagG (F := Ideal) i x0 x1 x2 x3 dq X) := by
  have hi : (i 1).val < 8 := (i 1).isLt
  have ho := off_diag1 i
  rw [← hb] at ho
  generalize hn : b + 512 = n at h ho
  rw [show b + 1024 = n + 512 by omega]
  have hN : n + 512 ≤ 8192 := by omega
  have hw : ∀ (s : Fin 1024) (u : Fin 512), (if s.val ≤ u.val + 512 then Ideal.exp (dotKQ x1 s (rowsQ (F := Ideal) (e := .bf16) x0 (k0_off1 i 1#32) (inbD i 1)) u) else 0)
      = wt b x0 x1 s ⟨n + u.val, by omega⟩ := fun s u => by
    rw [dot_rows x1 s x0 _ n ho _ u (by omega)]
    by_cases h : s.val ≤ u.val + 512
    · rw [if_pos h, wt_on _ _ _ _ _ (by show b + s.val ≤ n + u.val; omega)]
    · rw [if_neg h, wt_off _ _ _ _ _ (by show n + u.val < b + s.val; omega)]
  have hv : ∀ (s : Fin 1024) (u : Fin 512), dotKQ x2 s (rowsQ (F := Ideal) (e := .bf16) x3 (k0_off1 i 1#32) (inbD i 1)) u
      = dotKQ x2 s x3 ⟨n + u.val, by omega⟩ := fun s u => dot_rows x2 s x3 _ n ho _ u (by omega)
  refine ⟨fun t d => ?_, fun s d => ?_, fun s d => ?_⟩
  · simp only [diagG]
    rw [allK_eq x1, allK_eq x2]
    by_cases ht : n ≤ t.val ∧ t.val < n + 512
    · obtain ⟨u, hu⟩ : ∃ u : Fin 512, t.val = n + u.val := ⟨⟨t.val - n, by omega⟩, by simp only; omega⟩
      have et : (⟨n + u.val, by omega⟩ : Fin 8192) = t := Fin.ext hu.symm
      refine (put_rows_in (c := 512) X.1 _ n ho _ t d u hu).trans ?_
      rw [pay1_at, rowsQ32_at dq _ n ho _ u d (by omega), et, if_pos ht.2]
      refine congrArg _ (Finset.sum_congr rfl fun s _ => ?_)
      rw [pay37_at, hw, hv, et]; rfl
    · refine (put_rows_out (c := 512) X.1 _ n ho _ t d (by omega)).trans ?_
      rw [h.q t d]
      by_cases h1 : t.val < n
      · rw [if_pos h1, if_pos (by omega)]
      · rw [if_neg h1, if_neg (by omega)]
  · simp only [diagG]
    rw [allK_eq x1, allK_eq x2, allA_eq X.2.1]
    rw [pay38_at, h.k s d, sum_below_add _ n 512 hN]
    refine congrArg _ (Finset.sum_congr rfl fun u _ => ?_)
    rw [hw, hv, rowsQ_at x0 _ n ho _ u d (by omega)]; rfl
  · simp only [diagG]
    rw [allK_eq x1, allA_eq X.2.2]
    rw [pay36_at, h.v s d, sum_below_add _ n 512 hN]
    refine congrArg _ (Finset.sum_congr rfl fun u _ => ?_)
    rw [hw, rowsQ_at x3 _ n ho _ u d (by omega)]

/-- The whole of a point. -/
theorem met_point (i : grid0.Coords) (b : ℕ) (hb : b = (i 1).val * 1024) :
    Met b x0 x1 x2 x3 dq 8192 (pointF (F := Ideal) i x0 x1 x2 x3 dq) := by
  have hi : (i 1).val < 8 := (i 1).isLt
  have hs : ∀ n, n ≤ (k0_t1_loop i).trips → Met b x0 x1 x2 x3 dq (b + 1024 + n * 512)
      (stateF (F := Ideal) i x0 x1 x2 x3 (diagG (F := Ideal) i x0 x1 x2 x3 dq (diagF (F := Ideal) i x0 x1 x2 x3 dq)) n) := by
    intro n
    induction n with
    | zero =>
      intro _
      rw [Nat.zero_mul, Nat.add_zero]
      exact met_diag1 x0 x1 x2 x3 dq i b hb _ (met_diag0 x0 x1 x2 x3 dq i b hb)
    | succ n ih =>
      intro hn
      have h := met_trip x0 x1 x2 x3 dq i b hb ⟨n, hn⟩ _ (ih (by omega))
      rw [stateF_succ (F := Ideal) i x0 x1 x2 x3 _ ⟨n, hn⟩, show b + 1024 + (n + 1) * 512 = b + 1024 + n * 512 + 512 by omega]
      exact h
  have h := hs _ le_rfl
  rw [show b + 1024 + (k0_t1_loop i).trips * 512 = 8192 by rw [trips_eq]; omega] at h
  exact h

end Cert.Kernel3Ideal.Mla

end

end
-- ==== Proof.MlaLoop.lean ====
module

public import proofs.«01_k».proof.Proof.MlaModel
public import proofs.«01_k».proof.Proof.Gen.Kernel3Ideal.Frame
public import Idealize.ShloMosaic.Lib.WholeRead

/-! The two loops of the backward attention's body by their invariants: the first turns the blocks into
`stateF`, the second makes no trip. -/

@[expose] public section

set_option maxRecDepth 16384
set_option maxHeartbeats 1000000

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal.Gen

variable {F : FTy → Type} [FloatOps F] [Named F]

local notation "𝕄" => MT nD τ sig Unit (Elt F) ℕ (UR sig nD τ) ℕ

/-- The second loop makes no trip. -/
theorem no_second (i : grid0.Coords) : (k0_t2_loop i).trips = 0 := by
  have h : ∀ j : Fin 8, ∀ i : grid0.Coords, (i 1).val = j.val → (k0_t2_loop i).trips = 0 := by
    intro j i hj
    dsimp only [k0_t2_loop, Scf.Loop.trips]
    rw [hj]
    clear hj i
    revert j
    decide +kernel
  exact h (i 1) i rfl

variable (i : grid0.Coords) (arg2 : Memref sig .tc .vmem S1x8192x256 .bf16) (harg2 : arg2.IsWhole) (arg3 : Memref sig .tc .vmem S1x1024x256 .bf16) (harg3 : arg3.IsWhole)
    (arg4 : Memref sig .tc .vmem S1x1024x256 .bf16) (harg4 : arg4.IsWhole) (arg5 : Memref sig .tc .vmem S1x8192x256 .bf16) (harg5 : arg5.IsWhole)
    (arg6 : Memref sig .tc .vmem S1x8192x256 .f32) (harg6 : arg6.IsWhole) (arg7 : Memref sig .tc .vmem S1x1024x256 .f32) (harg7 : arg7.IsWhole)
    (arg8 : Memref sig .tc .vmem S1x1024x256 .f32) (harg8 : arg8.IsWhole) (arg9 : Memref sig .tc .vmem S1024x256 .f32) (harg9 : arg9.IsWhole)
    (arg10 : Memref sig .tc .vmem S1024x256 .f32) (harg10 : arg10.IsWhole)

/-- What the first loop holds before trip `k`, from the contents `G` it finds. -/
def inv1 (c : Dev nD) (X2 : BufTy.Contents (Elt F) arg2.view.ty) (X3 : BufTy.Contents (Elt F) arg3.view.ty)
    (X4 : BufTy.Contents (Elt F) arg4.view.ty) (X5 : BufTy.Contents (Elt F) arg5.view.ty)
    (G6 : BufTy.Contents (Elt F) arg6.view.ty) (G9 : BufTy.Contents (Elt F) arg9.view.ty)
    (G10 : BufTy.Contents (Elt F) arg10.view.ty) (k : ℕ) (_u : PUnit) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (∃ f, (arg6.view.loc (c : Thread nD τ) ↦[arg6.view.set]{fullShare} f)
        ∗ ⌜arg6.view.read (Elt F) f = (stateF i (arg2.view.read (Elt F) X2) (arg3.view.read (Elt F) X3) (arg4.view.read (Elt F) X4) (arg5.view.read (Elt F) X5)
            (arg6.view.read (Elt F) G6, arg9.view.read (Elt F) G9, arg10.view.read (Elt F) G10) k).1⌝)
    ∗ (∃ f, (arg9.view.loc (c : Thread nD τ) ↦[arg9.view.set]{fullShare} f)
        ∗ ⌜arg9.view.read (Elt F) f = (stateF i (arg2.view.read (Elt F) X2) (arg3.view.read (Elt F) X3) (arg4.view.read (Elt F) X4) (arg5.view.read (Elt F) X5)
            (arg6.view.read (Elt F) G6, arg9.view.read (Elt F) G9, arg10.view.read (Elt F) G10) k).2.1⌝)
    ∗ (∃ f, (arg10.view.loc (c : Thread nD τ) ↦[arg10.view.set]{fullShare} f)
        ∗ ⌜arg10.view.read (Elt F) f = (stateF i (arg2.view.read (Elt F) X2) (arg3.view.read (Elt F) X3) (arg4.view.read (Elt F) X4) (arg5.view.read (Elt F) X5)
            (arg6.view.read (Elt F) G6, arg9.view.read (Elt F) G9, arg10.view.read (Elt F) G10) k).2.2⌝))

set_option warn.classDefReducibility false in
@[sl_loop] def loop1 (c : Dev nD) (E : Set ℕ) (v108 : BitVec 32) (X2 : BufTy.Contents (Elt F) arg2.view.ty) (X3 : BufTy.Contents (Elt F) arg3.view.ty)
    (X4 : BufTy.Contents (Elt F) arg4.view.ty) (X5 : BufTy.Contents (Elt F) arg5.view.ty)
    (G6 : BufTy.Contents (Elt F) arg6.view.ty) (G9 : BufTy.Contents (Elt F) arg9.view.ty)
    (G10 : BufTy.Contents (Elt F) arg10.view.ty) :
    LoopInv (M := 𝕄) Idealize.ShloMosaic.frame (wpE defs₀ Variants.none (c : Thread nD τ) none) E
      (k0_t1_loop i).lb (k0_t1_loop i).ub (k0_t1_loop i).st (k0_t1_ok i) () (k0_t1_body (F := F) i arg2 harg2 arg3 harg3 arg4 harg4 arg5 harg5 arg6 harg6 arg7 harg7 arg8 harg8 arg9 harg9 arg10 harg10 v108) where
  inv := inv1 i arg2 arg3 arg4 arg5 arg6 arg9 arg10 c X2 X3 X4 X5 G6 G9 G10
  step k acc := by
    unfold inv1
    iintro ⟨H2, H3, H4, H5, ⟨%f6, H6, %h6⟩, ⟨%f9, H9, %h9⟩, ⟨%f10, H10, %h10⟩⟩
    unfold k0_t1_body
    sl_exec
    sl_step
    rw [stateF_succ]
    isplitl [H2]; · iexact H2
    isplitl [H3]; · iexact H3
    isplitl [H4]; · iexact H4
    isplitl [H5]; · iexact H5
    isplitl [H6]
    · iexists _; isplitl [H6]; · iexact H6
      ipureintro
      dsimp only [tripF]
      rw [← h6]
      exact View.read_writes_cons_put (h := rfl) ..
    isplitl [H9]
    · iexists _; isplitl [H9]; · iexact H9
      ipureintro
      dsimp only [tripF]
      rw [← h9]
      exact View.read_writes_full ..
    iexists _; isplitl [H10]; · iexact H10
    ipureintro
    dsimp only [tripF]
    rw [← h10]
    exact View.read_writes_full ..

set_option warn.classDefReducibility false in
@[sl_loop] def loop2 (c : Dev nD) (E : Set ℕ) (v113 : BitVec 32) :
    LoopInv (M := 𝕄) Idealize.ShloMosaic.frame (wpE defs₀ Variants.none (c : Thread nD τ) none) E
      (k0_t2_loop i).lb (k0_t2_loop i).ub (k0_t2_loop i).st (k0_t2_ok i) () (k0_t2_body (F := F) i arg2 harg2 arg3 harg3 arg4 harg4 arg5 harg5 arg6 harg6 arg7 harg7 arg8 harg8 arg9 harg9 arg10 harg10 v113) where
  inv := fun _ _ => iprop(emp)
  step k acc := by
    exact absurd k.isLt (fun h => absurd (lt_of_lt_of_eq h (no_second i)) (Nat.not_lt_zero _))

end Cert.Kernel3Ideal.Mla

end

end
-- ==== Proof.MlaBody.lean ====
module

public import proofs.«01_k».proof.Proof.MlaLoop

/-! The body of the backward attention at one grid point, from blocks to blocks. -/

@[expose] public section

set_option maxRecDepth 16384
set_option maxHeartbeats 1000000

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal.Gen

variable {F : FTy → Type} [FloatOps F] [Named F]

local notation "𝕄" => MT nD τ sig Unit (Elt F) ℕ (UR sig nD τ) ℕ

/-- The point is the first of its head. -/
abbrev isFirst (i : grid0.Coords) : Prop := Scalar.cmpi .ne (Scalar.extui (Scalar.cmpi .eq (BitVec.ofNat 32 (i 1).val) 0#32)) 0#32 = 1#1
/-- The point is the last of its head. -/
abbrev isLast (i : grid0.Coords) : Prop := Scalar.cmpi .ne (Scalar.extui (Scalar.cmpi .eq (BitVec.ofNat 32 (i 1).val) 7#32)) 0#32 = 1#1

/-- An accumulator cleared, its first half rewritten, then the whole of it. -/
theorem acc_read (v : View sig .tc .vmem S1024x256 .f32) (z : Vec F S1024x256 .f32)
    (f : Vec F S512x256 .f32 → Vec F S512x256 .f32) (g : Vec F S1024x256 .f32 → Vec F S1024x256 .f32) :
    let L1 : List (View.Piece (Elt F) S1024x256 .f32) := [⟨Rect.unit (s := S1024x256) ![0, 0] S1024x256.size inb_S1024x256_S1024x256_0_0, z⟩]
    let L2 : List (View.Piece (Elt F) S1024x256 .f32) := ⟨Rect.unit (s := S1024x256) ![0, 0] S512x256.size inb_S1024x256_S512x256_0_0,
      f (v.readCov L1 (Rect.unit (s := S1024x256) ![0, 0] S512x256.size inb_S1024x256_S512x256_0_0).toLoadRect)⟩ :: L1
    v.read (Elt F) (v.writes (Elt F) v.junk (⟨Rect.unit (s := S1024x256) ![0, 0] S1024x256.size inb_S1024x256_S1024x256_0_0,
        g (v.readCov L2 (Rect.unit ![0, 0] S1024x256.size inb_S1024x256_S1024x256_0_0).toLoadRect)⟩ :: L2))
      = g (allA (VecWindow.put z ![0, 0] S512x256.size (f (topA z)))) := by
  intro L1 L2
  have z1 : v.read (Elt F) (v.writes (Elt F) v.junk L1) = z := View.read_writes_full ..
  have z2 : v.read (Elt F) (v.writes (Elt F) v.junk L2) = VecWindow.put z ![0, 0] S512x256.size (f (topA z)) := by
    refine (View.read_writes_cons_put (h := rfl) ..).trans ?_
    show VecWindow.put (v.read (Elt F) (v.writes (Elt F) v.junk L1)) ![0, 0] S512x256.size
      (f (topA (v.read (Elt F) (v.writes (Elt F) v.junk L1)))) = _
    rw [z1]
  refine (View.read_writes_full ..).trans ?_
  show g (allA (v.read (Elt F) (v.writes (Elt F) v.junk L2))) = _
  rw [z2]

/-- Two blocks of rows of the gradient of the queries rewritten, one after the other. -/
theorem dq_read (v : View sig .tc .vmem S1x8192x256 .f32) (f : v.ty.Contents (Elt F)) (i : grid0.Coords) (w1 w0 : Vec F S1x512x256 .f32) :
    v.read (Elt F) (v.writes (Elt F) f [⟨Rect.unit (s := S1x8192x256) (k0_off1 i 1#32) S1x512x256.size (inbD i 1), w1⟩,
        ⟨Rect.unit (s := S1x8192x256) (k0_off1 i 0#32) S1x512x256.size (inbD i 0), w0⟩])
      = VecWindow.put (VecWindow.put (v.read (Elt F) f) (k0_off1 i 0#32) S1x512x256.size w0) (k0_off1 i 1#32) S1x512x256.size w1 := by
  refine (View.read_writes_cons_put (h := rfl) ..).trans ?_
  have h0 : v.read (Elt F) (v.writes (Elt F) f [⟨Rect.unit (s := S1x8192x256) (k0_off1 i 0#32) S1x512x256.size (inbD i 0), w0⟩])
      = VecWindow.put (v.read (Elt F) f) (k0_off1 i 0#32) S1x512x256.size w0 :=
    (View.read_writes_cons_put v f (inbD i 0) w0 [] rfl).trans (by rw [View.writes_nil]; try rfl)
  rw [h0]

/-- The diagonal's two blocks of rows, by their places. -/
theorem off_diag (i : grid0.Coords) (r : Fin 2) : k0_off1 i (BitVec.ofNat 32 r.val) = ![0, (i 1).val * 1024 + r.val * 512, 0] := by
  have h : ∀ j : Fin 8, ∀ r : Fin 2, ∀ i : grid0.Coords, (i 1).val = j.val →
      k0_off1 i (BitVec.ofNat 32 r.val) = ![0, (i 1).val * 1024 + r.val * 512, 0] := by
    intro j r i hj
    dsimp only [k0_off1]
    rw [hj]
    clear hj i
    revert j r
    decide +kernel
  exact h (i 1) r i rfl

theorem dq_first (v : View sig .tc .vmem S1x8192x256 .f32) (i : grid0.Coords) (z : Vec F S1x8192x256 .f32)
    (g1 g0 : Vec F S1x512x256 .f32 → Vec F S1x512x256 .f32) :
    let L1 : List (View.Piece (Elt F) S1x8192x256 .f32) := [⟨Rect.unit (s := S1x8192x256) ![0, 0, 0] S1x8192x256.size inb_S1x8192x256_S1x8192x256_0_0_0, z⟩]
    let L2 : List (View.Piece (Elt F) S1x8192x256 .f32) := ⟨Rect.unit (s := S1x8192x256) (k0_off1 i 0#32) S1x512x256.size (inbD i 0),
      g0 (v.readAt (Elt F) (Rect.unit (s := S1x8192x256) (k0_off1 i 0#32) S1x512x256.size (inbD i 0)).toLoadRect (v.writes (Elt F) v.junk L1))⟩ :: L1
    v.read (Elt F) (v.writes (Elt F) v.junk (⟨Rect.unit (s := S1x8192x256) (k0_off1 i 1#32) S1x512x256.size (inbD i 1),
        g1 (v.readAt (Elt F) (Rect.unit (s := S1x8192x256) (k0_off1 i 1#32) S1x512x256.size (inbD i 1)).toLoadRect (v.writes (Elt F) v.junk L2))⟩ :: L2))
      = VecWindow.put (VecWindow.put z (k0_off1 i 0#32) S1x512x256.size (g0 (rowsQ z (k0_off1 i 0#32) (inbD i 0))))
          (k0_off1 i 1#32) S1x512x256.size (g1 (rowsQ z (k0_off1 i 1#32) (inbD i 1))) := by
  intro L1 L2
  have z1 : v.read (Elt F) (v.writes (Elt F) v.junk L1) = z := View.read_writes_full ..
  have z2 : v.read (Elt F) (v.writes (Elt F) v.junk L2)
      = VecWindow.put z (k0_off1 i 0#32) S1x512x256.size (g0 (rowsQ z (k0_off1 i 0#32) (inbD i 0))) := by
    refine (View.read_writes_cons_put (h := rfl) ..).trans ?_
    show VecWindow.put (v.read (Elt F) (v.writes (Elt F) v.junk L1)) _ S1x512x256.size
      (g0 (rowsQ (v.read (Elt F) (v.writes (Elt F) v.junk L1)) _ _)) = _
    rw [z1]
  refine (View.read_writes_cons_put (h := rfl) ..).trans ?_
  show VecWindow.put (v.read (Elt F) (v.writes (Elt F) v.junk L2)) _ S1x512x256.size
      (g1 (rowsQ (v.read (Elt F) (v.writes (Elt F) v.junk L2)) (k0_off1 i 1#32) (inbD i 1))) = _
  rw [z2]
  have e0 : k0_off1 i 0#32 1 = (i 1).val * 1024 + 0 * 512 := congrFun (off_diag i 0) 1
  have e1 : k0_off1 i 1#32 1 = (i 1).val * 1024 + 1 * 512 := congrFun (off_diag i 1) 1
  have hs : S1x512x256.size 1 = 512 := rfl
  have hd : rowsQ (VecWindow.put z (k0_off1 i 0#32) S1x512x256.size (g0 (rowsQ z (k0_off1 i 0#32) (inbD i 0)))) (k0_off1 i 1#32) (inbD i 1)
      = rowsQ z (k0_off1 i 1#32) (inbD i 1) :=
    VecWindow.window_put_of_disjoint z (k0_off1 i 0#32) S1x512x256.size (k0_off1 i 1#32) S1x512x256.size (inbD i 1) _ 1
      (Or.inr (by rw [e0, e1, hs]))
  rw [hd]

variable (i : grid0.Coords) (arg2 : Memref sig .tc .vmem S1x8192x256 .bf16) (harg2 : arg2.IsWhole) (arg3 : Memref sig .tc .vmem S1x1024x256 .bf16) (harg3 : arg3.IsWhole)
    (arg4 : Memref sig .tc .vmem S1x1024x256 .bf16) (harg4 : arg4.IsWhole) (arg5 : Memref sig .tc .vmem S1x8192x256 .bf16) (harg5 : arg5.IsWhole)
    (arg6 : Memref sig .tc .vmem S1x8192x256 .f32) (harg6 : arg6.IsWhole) (arg7 : Memref sig .tc .vmem S1x1024x256 .f32) (harg7 : arg7.IsWhole)
    (arg8 : Memref sig .tc .vmem S1x1024x256 .f32) (harg8 : arg8.IsWhole) (arg9 : Memref sig .tc .vmem S1024x256 .f32) (harg9 : arg9.IsWhole)
    (arg10 : Memref sig .tc .vmem S1024x256 .f32) (harg10 : arg10.IsWhole)

/-- A point neither first nor last in its head adds to the gradient of the queries. -/
theorem body_mid (c : Dev nD) (hc0 : ¬isFirst i) (hc1 : ¬isLast i)
    (x0 : Vec F S1x8192x256 .bf16) (x1 x2 : Vec F S1x1024x256 .bf16) (x3 : Vec F S1x8192x256 .bf16) (d4 : Vec F S1x8192x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare d4 ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (pointF i x0 x1 x2 x3 d4).1 ∗ owns (c : Thread nD τ) arg7 fullShare (k0_pay4 (allA (pointF i x0 x1 x2 x3 d4).2.1))
            ∗ owns (c : Thread nD τ) arg8 fullShare (k0_pay5 (allA (pointF i x0 x1 x2 x3 d4).2.2))
            ∗ (∃ d, owns (c : Thread nD τ) arg9 fullShare d) ∗ (∃ d, owns (c : Thread nD τ) arg10 fullShare d)) -∗ K ⟨⟩))
      ⊢ wp frame (wpE (defs₀ (F := F)) Variants.none c none) E (cc0_mla_attn_bwd i arg2 harg2 arg3 harg3 arg4 harg4 arg5 harg5 arg6 harg6 arg7 harg7 arg8 harg8 arg9 harg9 arg10 harg10) K := by
  simp only [cc0_mla_attn_bwd_eq_skeleton]; unfold cc0_mla_attn_bwd_skel
  simp only [k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
  subst hf0 hf1 hf2 hf3 hf4
  sl_exec (disch := first | sl_exact hc0 | sl_exact hc1)
  sl_step
  have hs : ((_, _, _) : Acc F) = diagG i (arg2.view.read (Elt F) f0) (arg3.view.read (Elt F) f1) (arg4.view.read (Elt F) f2)
      (arg5.view.read (Elt F) f3) (arg6.view.read (Elt F) f4) (diagF i (arg2.view.read (Elt F) f0) (arg3.view.read (Elt F) f1)
        (arg4.view.read (Elt F) f2) (arg5.view.read (Elt F) f3) (arg6.view.read (Elt F) f4)) :=
    Prod.ext (dq_read arg6.view f4 i (k0_pay1 _ _ (k0_pay39 _)) (k0_pay31 _ _ _ _ _))
      (Prod.ext (acc_read arg9.view k0_pay21 (k0_pay30 _ _ _ _) (k0_pay38 _ _ _ _))
        (acc_read arg10.view k0_pay22 (k0_pay28 _ _) (k0_pay36 _ _ _)))
  iapply Hk
  isplitl [H0]; · iexists f0; isplitr [H0]; · ipureintro; rfl
                  iexact H0
  isplitl [H1]; · iexists f1; isplitr [H1]; · ipureintro; rfl
                  iexact H1
  isplitl [H2]; · iexists f2; isplitr [H2]; · ipureintro; rfl
                  iexact H2
  isplitl [H3]; · iexists f3; isplitr [H3]; · ipureintro; rfl
                  iexact H3
  isplitl [H4]
  · iexists fL0; isplitr [H4]
    · ipureintro
      exact hL5.trans (congrArg (fun s => (stateF i _ _ _ _ s _).1) hs)
    iexact H4
  isplitl [H5]
  · iexists (arg7.view.writes (Elt F) f5 [⟨Rect.unit (s := S1x1024x256) ![0, 0, 0] S1x1024x256.size inb_S1x1024x256_S1x1024x256_0_0_0,
        k0_pay4 (allA (arg9.view.read (Elt F) fL1))⟩]); isplitr [H5]
    · ipureintro
      refine (View.read_writes_full ..).trans ?_
      refine congrArg (fun x => k0_pay4 (allA x)) ?_
      exact hL7.trans (congrArg (fun s => (stateF i _ _ _ _ s _).2.1) hs)
    iexact H5
  isplitl [H6]
  · iexists (arg8.view.writes (Elt F) f6 [⟨Rect.unit (s := S1x1024x256) ![0, 0, 0] S1x1024x256.size inb_S1x1024x256_S1x1024x256_0_0_0,
        k0_pay5 (allA (arg10.view.read (Elt F) fL2))⟩]); isplitr [H6]
    · ipureintro
      refine (View.read_writes_full ..).trans ?_
      refine congrArg (fun x => k0_pay5 (allA x)) ?_
      exact hL9.trans (congrArg (fun s => (stateF i _ _ _ _ s _).2.2) hs)
    iexact H6
  isplitl [HS0]
  · iexists (arg9.view.read (Elt F) fL1); iexists fL1; isplitr [HS0]; · ipureintro; rfl
    iexact HS0
  iexists (arg10.view.read (Elt F) fL2); iexists fL2; isplitr [HS1]; · ipureintro; rfl
  iexact HS1

/-- The first point of a head clears the gradient of the queries and adds to it. -/
theorem body_first (c : Dev nD) (hc0 : isFirst i) (hc1 : ¬isLast i)
    (x0 : Vec F S1x8192x256 .bf16) (x1 x2 : Vec F S1x1024x256 .bf16) (x3 : Vec F S1x8192x256 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (pointF i x0 x1 x2 x3 k0_pay23).1 ∗ owns (c : Thread nD τ) arg7 fullShare (k0_pay4 (allA (pointF i x0 x1 x2 x3 k0_pay23).2.1))
            ∗ owns (c : Thread nD τ) arg8 fullShare (k0_pay5 (allA (pointF i x0 x1 x2 x3 k0_pay23).2.2))
            ∗ (∃ d, owns (c : Thread nD τ) arg9 fullShare d) ∗ (∃ d, owns (c : Thread nD τ) arg10 fullShare d)) -∗ K ⟨⟩))
      ⊢ wp frame (wpE (defs₀ (F := F)) Variants.none c none) E (cc0_mla_attn_bwd i arg2 harg2 arg3 harg3 arg4 harg4 arg5 harg5 arg6 harg6 arg7 harg7 arg8 harg8 arg9 harg9 arg10 harg10) K := by
  simp only [cc0_mla_attn_bwd_eq_skeleton]; unfold cc0_mla_attn_bwd_skel
  simp only [k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
  subst hf0 hf1 hf2 hf3
  sl_exec (disch := first | sl_exact hc0 | sl_exact hc1)
  sl_step
  have hs : ((_, _, _) : Acc F) = diagG i (arg2.view.read (Elt F) f0) (arg3.view.read (Elt F) f1) (arg4.view.read (Elt F) f2)
      (arg5.view.read (Elt F) f3) k0_pay23 (diagF i (arg2.view.read (Elt F) f0) (arg3.view.read (Elt F) f1)
        (arg4.view.read (Elt F) f2) (arg5.view.read (Elt F) f3) k0_pay23) :=
    Prod.ext (dq_first arg6.view i k0_pay23 (fun w => k0_pay1 _ _ (k0_pay39 w)) (k0_pay31 _ _ _ _))
      (Prod.ext (acc_read arg9.view k0_pay21 (k0_pay30 _ _ _ _) (k0_pay38 _ _ _ _))
        (acc_read arg10.view k0_pay22 (k0_pay28 _ _) (k0_pay36 _ _ _)))
  iapply Hk
  isplitl [H0]; · iexists f0; isplitr [H0]; · ipureintro; rfl
                  iexact H0
  isplitl [H1]; · iexists f1; isplitr [H1]; · ipureintro; rfl
                  iexact H1
  isplitl [H2]; · iexists f2; isplitr [H2]; · ipureintro; rfl
                  iexact H2
  isplitl [H3]; · iexists f3; isplitr [H3]; · ipureintro; rfl
                  iexact H3
  isplitl [H4]
  · iexists fL0; isplitr [H4]
    · ipureintro
      exact hL5.trans (congrArg (fun s => (stateF i _ _ _ _ s _).1) hs)
    iexact H4
  isplitl [H5]
  · iexists (arg7.view.writes (Elt F) f5 [⟨Rect.unit (s := S1x1024x256) ![0, 0, 0] S1x1024x256.size inb_S1x1024x256_S1x1024x256_0_0_0,
        k0_pay4 (allA (arg9.view.read (Elt F) fL1))⟩]); isplitr [H5]
    · ipureintro
      refine (View.read_writes_full ..).trans ?_
      refine congrArg (fun x => k0_pay4 (allA x)) ?_
      exact hL7.trans (congrArg (fun s => (stateF i _ _ _ _ s _).2.1) hs)
    iexact H5
  isplitl [H6]
  · iexists (arg8.view.writes (Elt F) f6 [⟨Rect.unit (s := S1x1024x256) ![0, 0, 0] S1x1024x256.size inb_S1x1024x256_S1x1024x256_0_0_0,
        k0_pay5 (allA (arg10.view.read (Elt F) fL2))⟩]); isplitr [H6]
    · ipureintro
      refine (View.read_writes_full ..).trans ?_
      refine congrArg (fun x => k0_pay5 (allA x)) ?_
      exact hL9.trans (congrArg (fun s => (stateF i _ _ _ _ s _).2.2) hs)
    iexact H6
  isplitl [HS0]
  · iexists (arg9.view.read (Elt F) fL1); iexists fL1; isplitr [HS0]; · ipureintro; rfl
    iexact HS0
  iexists (arg10.view.read (Elt F) fL2); iexists fL2; isplitr [HS1]; · ipureintro; rfl
  iexact HS1

/-- The last point of a head adds to the gradient of the queries and scales it. -/
theorem body_last (c : Dev nD) (hc0 : ¬isFirst i) (hc1 : isLast i)
    (x0 : Vec F S1x8192x256 .bf16) (x1 x2 : Vec F S1x1024x256 .bf16) (x3 : Vec F S1x8192x256 .bf16) (d4 : Vec F S1x8192x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare d4 ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay6 (allQ (pointF i x0 x1 x2 x3 d4).1)) ∗ owns (c : Thread nD τ) arg7 fullShare (k0_pay4 (allA (pointF i x0 x1 x2 x3 d4).2.1))
            ∗ owns (c : Thread nD τ) arg8 fullShare (k0_pay5 (allA (pointF i x0 x1 x2 x3 d4).2.2))
            ∗ (∃ d, owns (c : Thread nD τ) arg9 fullShare d) ∗ (∃ d, owns (c : Thread nD τ) arg10 fullShare d)) -∗ K ⟨⟩))
      ⊢ wp frame (wpE (defs₀ (F := F)) Variants.none c none) E (cc0_mla_attn_bwd i arg2 harg2 arg3 harg3 arg4 harg4 arg5 harg5 arg6 harg6 arg7 harg7 arg8 harg8 arg9 harg9 arg10 harg10) K := by
  simp only [cc0_mla_attn_bwd_eq_skeleton]; unfold cc0_mla_attn_bwd_skel
  simp only [k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
  subst hf0 hf1 hf2 hf3 hf4
  sl_exec (disch := first | sl_exact hc0 | sl_exact hc1)
  sl_step
  have hs : ((_, _, _) : Acc F) = diagG i (arg2.view.read (Elt F) f0) (arg3.view.read (Elt F) f1) (arg4.view.read (Elt F) f2)
      (arg5.view.read (Elt F) f3) (arg6.view.read (Elt F) f4) (diagF i (arg2.view.read (Elt F) f0) (arg3.view.read (Elt F) f1)
        (arg4.view.read (Elt F) f2) (arg5.view.read (Elt F) f3) (arg6.view.read (Elt F) f4)) :=
    Prod.ext (dq_read arg6.view f4 i (k0_pay1 _ _ (k0_pay39 _)) (k0_pay31 _ _ _ _ _))
      (Prod.ext (acc_read arg9.view k0_pay21 (k0_pay30 _ _ _ _) (k0_pay38 _ _ _ _))
        (acc_read arg10.view k0_pay22 (k0_pay28 _ _) (k0_pay36 _ _ _)))
  iapply Hk
  isplitl [H0]; · iexists f0; isplitr [H0]; · ipureintro; rfl
                  iexact H0
  isplitl [H1]; · iexists f1; isplitr [H1]; · ipureintro; rfl
                  iexact H1
  isplitl [H2]; · iexists f2; isplitr [H2]; · ipureintro; rfl
                  iexact H2
  isplitl [H3]; · iexists f3; isplitr [H3]; · ipureintro; rfl
                  iexact H3
  isplitl [H4]
  · iexists (arg6.view.writes (Elt F) fL0 [⟨Rect.unit (s := S1x8192x256) ![0, 0, 0] S1x8192x256.size inb_S1x8192x256_S1x8192x256_0_0_0,
        k0_pay6 (allQ (arg6.view.read (Elt F) fL0))⟩]); isplitr [H4]
    · ipureintro
      refine (View.read_writes_full ..).trans ?_
      refine congrArg (fun x => k0_pay6 (allQ x)) ?_
      exact hL5.trans (congrArg (fun s => (stateF i _ _ _ _ s _).1) hs)
    iexact H4
  isplitl [H5]
  · iexists (arg7.view.writes (Elt F) f5 [⟨Rect.unit (s := S1x1024x256) ![0, 0, 0] S1x1024x256.size inb_S1x1024x256_S1x1024x256_0_0_0,
        k0_pay4 (allA (arg9.view.read (Elt F) fL1))⟩]); isplitr [H5]
    · ipureintro
      refine (View.read_writes_full ..).trans ?_
      refine congrArg (fun x => k0_pay4 (allA x)) ?_
      exact hL7.trans (congrArg (fun s => (stateF i _ _ _ _ s _).2.1) hs)
    iexact H5
  isplitl [H6]
  · iexists (arg8.view.writes (Elt F) f6 [⟨Rect.unit (s := S1x1024x256) ![0, 0, 0] S1x1024x256.size inb_S1x1024x256_S1x1024x256_0_0_0,
        k0_pay5 (allA (arg10.view.read (Elt F) fL2))⟩]); isplitr [H6]
    · ipureintro
      refine (View.read_writes_full ..).trans ?_
      refine congrArg (fun x => k0_pay5 (allA x)) ?_
      exact hL9.trans (congrArg (fun s => (stateF i _ _ _ _ s _).2.2) hs)
    iexact H6
  isplitl [HS0]
  · iexists (arg9.view.read (Elt F) fL1); iexists fL1; isplitr [HS0]; · ipureintro; rfl
    iexact HS0
  iexists (arg10.view.read (Elt F) fL2); iexists fL2; isplitr [HS1]; · ipureintro; rfl
  iexact HS1

end Cert.Kernel3Ideal.Mla

end

end
-- ==== Proof.MlaRun.lean ====
module

public import proofs.«01_k».proof.Proof.MlaBody
public import Idealize.ShloMosaic.Lib.Pipeline.ValueKit

/-! The run of the backward attention: what each grid point leaves in the blocks, and the launch. -/

@[expose] public section

set_option maxRecDepth 16384
set_option maxHeartbeats 1000000

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal.Gen
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Which points are the first, which the last, of their heads. -/
theorem isFirst_iff : ∀ t : Fin cfg0.N, isFirst (grid0.coords t) ↔ t.val % 8 = 0 :=
  (fun t => by
    have ht : t.val < 64 := Nat.lt_of_lt_of_eq t.isLt N_0
    have e1 : (grid0.coords t 1).val = t.val / 1 % 8 := Pipeline.Grid.coords_val t 1 (by decide) rfl
    simp only [isFirst, e1]
    word_cmp
   : ∀ t : Fin grid0.N, isFirst (grid0.coords t) ↔ t.val % 8 = 0)
theorem isLast_iff : ∀ t : Fin cfg0.N, isLast (grid0.coords t) ↔ t.val % 8 = 7 :=
  (fun t => by
    have ht : t.val < 64 := Nat.lt_of_lt_of_eq t.isLt N_0
    have e1 : (grid0.coords t 1).val = t.val / 1 % 8 := Pipeline.Grid.coords_val t 1 (by decide) rfl
    simp only [isLast, e1]
    word_cmp
   : ∀ t : Fin grid0.N, isLast (grid0.coords t) ↔ t.val % 8 = 7)

/-- One point over its own blocks, the gradient of the queries having been `d` before. -/
abbrev pt (c : Dev nD) (t : Fin cfg0.N) (d : Vec F S1x8192x256 .f32) : Acc F :=
  pointF (grid0.coords t) (iblk m c 0 t) (iblk m c 1 t) (iblk m c 2 t) (iblk m c 3 t) d

/-- What the points up to `n` leave of the gradient of the queries (first) and of the two accumulators. -/
def accAt (c : Dev nD) : (n : ℕ) → n < cfg0.N → Acc F
  | 0, h => pt m c ⟨0, h⟩ k0_pay23
  | n + 1, h =>
    if (n + 1) % 8 = 0 then pt m c ⟨n + 1, h⟩ k0_pay23
    else pt m c ⟨n + 1, h⟩ (accAt c n (Nat.lt_of_succ_lt h)).1

theorem accAt_first (c : Dev nD) (t : Fin cfg0.N) (h0 : t.val % 8 = 0) : accAt m c t.val t.isLt = pt m c t k0_pay23 := by
  obtain ⟨n, hn⟩ := t
  cases n with
  | zero => rfl
  | succ n => exact (if_pos h0)

theorem accAt_next (c : Dev nD) (t : Fin cfg0.N) (h0 : ¬t.val % 8 = 0) :
    accAt m c t.val t.isLt = pt m c t (accAt m c (t.val - 1) (Nat.lt_of_le_of_lt (Nat.sub_le _ _) t.isLt)).1 := by
  obtain ⟨n, hn⟩ := t
  cases n with
  | zero => exact absurd (Nat.zero_mod _) h0
  | succ n => exact (if_neg h0)

/-- What a point leaves of the gradient of the queries: scaled, at the last point of a head. -/
def dqAt (c : Dev nD) (t : Fin cfg0.N) : Vec F S1x8192x256 .f32 :=
  if t.val % 8 = 7 then k0_pay6 (allQ (accAt m c t.val t.isLt).1) else (accAt m c t.val t.isLt).1

abbrev ms0_0 (t : Fin cfg0.N) : Memref sig .tc .vmem S1x8192x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8192x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x256 .f32 := win0_6.stage (cfg0.slots t 6)
abbrev hs0_6 (t : Fin cfg0.N) : (ms0_6 t).IsWhole := hstage0_6 ((cfg0.slots t 6).cast nbuf0_6)
abbrev scM0_0 : Memref sig .tc .vmem S1024x256 .f32 := Memref.whole cc0_scratch0
abbrev scM0_1 : Memref sig .tc .vmem S1024x256 .f32 := Memref.whole cc0_scratch1

/-- The invariant of the launch: the two accumulators and the generator register, at any contents. -/
theorem rest_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The proof data: each window's block before and after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dqAt m c t
    | ⟨5, _⟩ => k0_pay4 (allA (accAt m c t.val t.isLt).2.1)
    | ⟨6, _⟩ => k0_pay5 (allA (accAt m c t.val t.isLt).2.2)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = dqAt m c t := by dsimp only [dats]
theorem after0_5 (c : Dev nD) (t : Fin cfg0.N) : (dats m 0 c).after 5 t = k0_pay4 (allA (accAt m c t.val t.isLt).2.1) := by dsimp only [dats]
theorem after0_6 (c : Dev nD) (t : Fin cfg0.N) : (dats m 0 c).after 6 t = k0_pay5 (allA (accAt m c t.val t.isLt).2.2) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Away from the first point of a head the gradient of the queries is found as the point before left it. -/
theorem before0_4 (c : Dev nD) (t : Fin cfg0.N) (h0 : ¬t.val % 8 = 0) (d) :
    (dats m 0 c).before 4 t d = (accAt m c (t.val - 1) (Nat.lt_of_le_of_lt (Nat.sub_le _ _) t.isLt)).1 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]
  unfold dqAt
  exact if_neg (by dsimp only; omega)

/-- What the body is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, rest_eq]
  have hN : t.val < 64 := lt_of_lt_of_eq t.isLt (show cfg0.N = 64 from N_0)
  by_cases h0 : t.val % 8 = 0
  · rw [dqAt, if_neg (by omega), accAt_first m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (body_first (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) c ((isFirst_iff t).mpr h0) (fun h => absurd ((isLast_iff t).mp h) (by omega)) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before0_4 m c t h0]
    by_cases h1 : t.val % 8 = 7
    · rw [dqAt, if_pos h1, accAt_next m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (body_last (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) c (fun h => h0 ((isFirst_iff t).mp h)) ((isLast_iff t).mpr h1) (iblk m c 0 t) (iblk m c 1 t) (iblk m c 2 t) (iblk m c 3 t) (accAt m c (t.val - 1) (Nat.lt_of_le_of_lt (Nat.sub_le _ _) t.isLt)).1 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [dqAt, if_neg h1, accAt_next m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (body_mid (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) c (fun h => h0 ((isFirst_iff t).mp h)) (fun h => h1 ((isLast_iff t).mp h)) (iblk m c 0 t) (iblk m c 1 t) (iblk m c 2 t) (iblk m c 3 t) (accAt m c (t.val - 1) (Nat.lt_of_le_of_lt (Nat.sub_le _ _) t.isLt)).1 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every final state has the arrays at the proof data's contents and every counter at zero. -/
theorem run_quiet : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiet m ρ)

/-- The frame, at any values. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiet m ρ))

end Cert.Kernel3Ideal.Mla

end

end
-- ==== Proof.MlaHost.lean ====
module

public import proofs.«01_k».proof.Proof.MlaState
public import proofs.«01_k».proof.Proof.MlaRun
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel3Ideal.Mla

open Cert.Kernel3Ideal Cert.Kernel3Ideal.Gen Cert.Attn

variable (m : (ℓ : Loc nD τ sig) → Buf (Elt Ideal) ℓ)

/-- The buffers of the host line before the masked scores. -/
abbrev W1 (c : Dev nD) := StableHlo.after hostOps0_1 (StableHlo.after hostOps0 fun b => m (c, b))

/-- The buffers once the forward lines have run: scores, row log-sums, output and its products with the cotangent. -/
abbrev W2 (c : Dev nD) := StableHlo.after hostOps0_2 (W1 m c)

/-- The host operations between the forward lines and the kernel: the operands are widened and packed. -/
def lateOps : List (HloOp τ sig (Elt Ideal)) :=
    hostOps0_3 ++ hostOps0_4 ++ hostOps0_5 ++ hostOps0_6 ++ hostOps0_7 ++ hostOps0_8 ++ hostOps0_9 ++ hostOps0_10 ++
     hostOps0_11 ++ hostOps0_12 ++ hostOps0_13 ++ hostOps0_14 ++ hostOps0_15 ++ hostOps0_16 ++ hostOps0_17 ++
     hostOps0_18 ++ hostOps0_19 ++ hostOps0_20 ++ hostOps0_21 ++ hostOps0_22 ++ hostOps0_23 ++ hostOps0_24 ++
     hostOps0_25

theorem V_eq (c : Dev nD) (b) : V m c b = StableHlo.after lateOps (W2 m c) (Proc.devRef .tc b) := rfl

/-- Column `k` of a widened operand is set to one number per row. -/
def setCol (k : BitVec 32) (y : FVec Ideal S8x8192 .bf16) (x : FVec Ideal S8x8192x256 .bf16) : FVec Ideal S8x8192x256 .bf16 :=
  select (broadcastInDim S8x8192x256 ![0, 1, 2] bcast_S1x1x256_S8x8192x256_0_1_2
      (cmpi CmpIPredicate.eq (iotaInDim S1x1x256 32 2) (broadcastInDim S1x1x256 ![] bcast_S_S1x1x256 (constantI S_ 32 k))))
    (broadcastInDim S8x8192x256 ![0, 1, 2] bcast_S8x8192x1_S8x8192x256_0_1_2
      (broadcastInDim S8x8192x1 ![0, 1] bcast_S8x8192_S8x8192x1_0_1 y)) x

/-- The columns `a … b - 1` of a widened operand are set to one. -/
def setOnes (a b : BitVec 32) (x : FVec Ideal S8x8192x256 .bf16) : FVec Ideal S8x8192x256 .bf16 :=
  select (broadcastInDim S8x8192x256 ![0, 1, 2] bcast_S1x1x256_S8x8192x256_0_1_2
      (andi (cmpi CmpIPredicate.sge (iotaInDim S1x1x256 32 2) (broadcastInDim S1x1x256 ![] bcast_S_S1x1x256 (constantI S_ 32 a)))
        (cmpi CmpIPredicate.slt (iotaInDim S1x1x256 32 2) (broadcastInDim S1x1x256 ![] bcast_S_S1x1x256 (constantI S_ 32 b)))))
    (broadcastInDim S8x8192x256 ![] bcast_S_S8x8192x256 (constant S_ .bf16 0x3F80#16)) x

/-- A number's bf16 part, as the host line writes it. -/
def part (x : FVec Ideal S8x8192 .f32) : FVec Ideal S8x8192 .bf16 :=
  truncf .bf16 (extf .f32 (truncf .bf16 x bitsLt_bf16_f32) bitsLt_bf16_f32) bitsLt_bf16_f32

/-- What the bf16 part leaves. -/
def left (x : FVec Ideal S8x8192 .f32) : FVec Ideal S8x8192 .f32 :=
  subf x (extf .f32 (truncf .bf16 x bitsLt_bf16_f32) bitsLt_bf16_f32)

/-- Operands widened with zeros to 256 columns. -/
def wide192 (x : FVec Ideal S8x8192x192 .bf16) : FVec Ideal S8x8192x256 .bf16 :=
  pad S8x8192x256 ![0, 0, 0] ![0, 0, 64] ![0, 0, 0] x (sitofp .bf16 (constantI S_ 32 0#32)) pads_S8x8192x192_S8x8192x256_000_000_0640 h_S_
def wide128 (x : FVec Ideal S8x8192x128 .bf16) (z : IVec S_ 32) : FVec Ideal S8x8192x256 .bf16 :=
  pad S8x8192x256 ![0, 0, 0] ![0, 0, 128] ![0, 0, 0] x (sitofp .bf16 z) pads_S8x8192x128_S8x8192x256_000_000_01280 h_S_

theorem read_q (W : Valuation τ sig (Elt Ideal)) : StableHlo.after lateOps W (Proc.devRef .tc main_v65) =
    setCol 194#32 (part (left (left (Host.negf (F := Ideal) (s := S8x8192) (φ := .f32) (W (Proc.devRef .tc main_v22))))))
    (setCol 193#32 (part (left (Host.negf (F := Ideal) (s := S8x8192) (φ := .f32) (W (Proc.devRef .tc main_v22)))))
     (setCol 192#32 (part (Host.negf (F := Ideal) (s := S8x8192) (φ := .f32) (W (Proc.devRef .tc main_v22))))
      (wide192 (W (Proc.devRef .tc main_v25))))) := by
  unfold lateOps
  simp only [List.cons_append, List.nil_append, List.append_assoc]
  after_reads_simp
  simp only [StableHlo.TRef.ofBuf_toBuf]
  unfold setCol part left wide192
  rfl
theorem read_k (W : Valuation τ sig (Elt Ideal)) : StableHlo.after lateOps W (Proc.devRef .tc main_v73) =
    setOnes 192#32 195#32 (wide192 (W (Proc.devRef .tc main_v26))) := by
  unfold lateOps
  simp only [List.cons_append, List.nil_append, List.append_assoc]
  after_reads_simp
  simp only [StableHlo.TRef.ofBuf_toBuf]
  unfold setOnes wide192
  rfl

theorem read_v (W : Valuation τ sig (Elt Ideal)) : StableHlo.after lateOps W (Proc.devRef .tc main_v39) =
    setOnes 128#32 131#32 (wide128 (W (Proc.devRef .tc main_v27)) (W (Proc.devRef .tc main_c))) := by
  unfold lateOps
  simp only [List.cons_append, List.nil_append, List.append_assoc]
  after_reads_simp
  simp only [StableHlo.TRef.ofBuf_toBuf]
  unfold setOnes wide128
  rfl

theorem read_ct (W : Valuation τ sig (Elt Ideal)) : StableHlo.after lateOps W (Proc.devRef .tc main_v99) =
    setCol 130#32 (part (left (left (Host.negf (F := Ideal) (s := S8x8192) (φ := .f32) (W (Proc.devRef .tc main_v31))))))
    (setCol 129#32 (part (left (Host.negf (F := Ideal) (s := S8x8192) (φ := .f32) (W (Proc.devRef .tc main_v31)))))
     (setCol 128#32 (part (Host.negf (F := Ideal) (s := S8x8192) (φ := .f32) (W (Proc.devRef .tc main_v31))))
      (wide128 (W (Proc.devRef .tc main_v28)) (constantI S_ 32 0#32)))) := by
  unfold lateOps
  simp only [List.cons_append, List.nil_append, List.append_assoc]
  after_reads_simp
  simp only [StableHlo.TRef.ofBuf_toBuf]
  unfold setCol part left wide128
  rfl

theorem setCol_at (k : Nat) (hk : k < 256) (y x) (h : Fin 8) (t : Fin 8192) (j : Fin 256) :
    setCol (BitVec.ofNat 32 k) y x (ix3 h t j) = if j.val = k then y (ix2 h t) else x (ix3 h t j) := by
  unfold setCol
  pointwise
  have hj := j.isLt
  have : IntOp.cmpi CmpIPredicate.eq (BitVec.ofNat 32 j.val) (BitVec.ofNat 32 k) = BitVec.ofBool (decide (j.val = k)) := by
    word_cmp
  rw [this]
  by_cases e : j.val = k <;> simp only [e, decide_true, decide_false, if_true, if_false] <;> rfl

theorem setOnes_at (a b : Nat) (ha : a < 256) (hb : b < 256) (x) (h : Fin 8) (t : Fin 8192) (j : Fin 256) :
    setOnes (BitVec.ofNat 32 a) (BitVec.ofNat 32 b) x (ix3 h t j) = if a ≤ j.val ∧ j.val < b then (1 : EReal) else x (ix3 h t j) := by
  unfold setOnes
  pointwise
  have hj := j.isLt
  have e1 : IntOp.cmpi CmpIPredicate.sge (BitVec.ofNat 32 j.val) (BitVec.ofNat 32 a) = BitVec.ofBool (decide (a ≤ j.val)) := by
    word_cmp
  have e2 : IntOp.cmpi CmpIPredicate.slt (BitVec.ofNat 32 j.val) (BitVec.ofNat 32 b) = BitVec.ofBool (decide (j.val < b)) := by
    word_cmp
  rw [e1, e2]
  by_cases h1 : a ≤ j.val <;> by_cases h2 : j.val < b <;> simp only [h1, h2, decide_true, decide_false, and_true, and_false, true_and, if_true, if_false] <;> rfl

theorem wide192_at (x) (h : Fin 8) (t : Fin 8192) (j : Fin 256) :
    wide192 x (ix3 h t j) = if h1 : j.val < 192 then x (ix3 h t ⟨j.val, h1⟩) else (0 : EReal) := by
  unfold wide192
  pointwise
  split
  · rfl
  · show (((0#32 : BitVec 32).toInt : ℝ) : EReal) = 0
    simp

theorem wide128_at (x) (h : Fin 8) (t : Fin 8192) (j : Fin 256) :
    wide128 x (constantI S_ 32 0#32) (ix3 h t j) = if h1 : j.val < 128 then x (ix3 h t ⟨j.val, h1⟩) else (0 : EReal) := by
  unfold wide128
  pointwise
  split
  · rfl
  · show (((0#32 : BitVec 32).toInt : ℝ) : EReal) = 0
    simp

theorem part_at (x) (h : Fin 8) (t : Fin 8192) : part x (ix2 h t) = x (ix2 h t) := by
  unfold part
  pointwise

theorem left_at (x) (h : Fin 8) (t : Fin 8192) : left x (ix2 h t) = x (ix2 h t) - x (ix2 h t) := by
  unfold left
  pointwise

/-- Each row's maximum. -/
def rowMax (s : FVec Ideal S8x8192x8192 .f32) : FVec Ideal S8x8192x1 .f32 :=
  broadcastInDim S8x8192x1 ![0, 1] bcast_S8x8192_S8x8192x1_0_1
    (Host.reduce FloatOps.maximumf s (constant S_ .f32 0xFF800000#32) reducesTo_S8x8192x8192_S8x8192_d2 h_S_)

/-- The exponentials of a row against its maximum. -/
def rowExp (s : FVec Ideal S8x8192x8192 .f32) : FVec Ideal S8x8192x8192 .f32 :=
  Host.exp (subf s (broadcastInDim S8x8192x8192 ![0, 1, 2] bcast_S8x8192x1_S8x8192x8192_0_1_2 (rowMax s)))

/-- Their sum over the row. -/
def rowSum (s : FVec Ideal S8x8192x8192 .f32) : FVec Ideal S8x8192x1 .f32 :=
  broadcastInDim S8x8192x1 ![0, 1] bcast_S8x8192_S8x8192x1_0_1
    (Host.reduceAdd (rowExp s) (constant S_ .f32 0x00000000#32) reducesTo_S8x8192x8192_S8x8192_d2 h_S_)

/-- The row log-sum. -/
def rowLse (s : FVec Ideal S8x8192x8192 .f32) : FVec Ideal S8x8192 .f32 :=
  shapeCast S8x8192 (addf (rowMax s) (Host.log (rowSum s))) shapeCasts_S8x8192x1_S8x8192

/-- The attention's output. -/
def attnOut (s : FVec Ideal S8x8192x8192 .f32) (v : FVec Ideal S8x8192x128 .f32) : FVec Ideal S8x8192x128 .f32 :=
  Host.dotGeneral dot_S8x8192x8192_S8x8192x128_S8x8192x128_2_1_1_2_0_0 none
    (Host.divf (rowExp s) (broadcastInDim S8x8192x8192 ![0, 1, 2] bcast_S8x8192x1_S8x8192x8192_0_1_2 (rowSum s))) v

/-- The output's product with the cotangent, summed over a row. -/
def rowDot (s : FVec Ideal S8x8192x8192 .f32) (v ct : FVec Ideal S8x8192x128 .f32) : FVec Ideal S8x8192 .f32 :=
  Host.reduceAdd (mulf (attnOut s v) (extf .f32 (truncf .bf16 ct bitsLt_bf16_f32) bitsLt_bf16_f32))
    (constant S_ .f32 0x00000000#32) reducesTo_S8x8192x128_S8x8192_d2 h_S_

theorem read_lse (W : Valuation τ sig (Elt Ideal)) : StableHlo.after hostOps0_2 W (Proc.devRef .tc main_v22) =
    rowLse (W (Proc.devRef .tc main_v9)) := by
  after_reads_simp
  unfold rowLse rowSum rowExp rowMax
  rfl

theorem read_dot (W : Valuation τ sig (Elt Ideal)) : StableHlo.after hostOps0_2 W (Proc.devRef .tc main_v31) =
    rowDot (W (Proc.devRef .tc main_v9)) (W (Proc.devRef .tc main_arg2)) (W (Proc.devRef .tc main_arg3)) := by
  after_reads_simp
  unfold rowDot attnOut rowSum rowExp rowMax
  rfl

theorem read_v25 (W : Valuation τ sig (Elt Ideal)) : StableHlo.after hostOps0_2 W (Proc.devRef .tc main_v25) =
    truncf .bf16 (mulf (F := Ideal) (s := S8x8192x192) (φ := .f32) (W (Proc.devRef .tc main_arg0)) (broadcastInDim S8x8192x192 ![] bcast_S_S8x8192x192 (constant S_ .f32 0x3D93CD3A#32))) bitsLt_bf16_f32 := by
  after_reads_simp

theorem read_v26 (W : Valuation τ sig (Elt Ideal)) : StableHlo.after hostOps0_2 W (Proc.devRef .tc main_v26) =
    truncf (F := Ideal) (s := S8x8192x192) (φ := .f32) .bf16 (W (Proc.devRef .tc main_arg1)) bitsLt_bf16_f32 := by
  after_reads_simp

theorem read_v27 (W : Valuation τ sig (Elt Ideal)) : StableHlo.after hostOps0_2 W (Proc.devRef .tc main_v27) =
    truncf (F := Ideal) (s := S8x8192x128) (φ := .f32) .bf16 (W (Proc.devRef .tc main_arg2)) bitsLt_bf16_f32 := by
  after_reads_simp

theorem read_v28 (W : Valuation τ sig (Elt Ideal)) : StableHlo.after hostOps0_2 W (Proc.devRef .tc main_v28) =
    truncf (F := Ideal) (s := S8x8192x128) (φ := .f32) .bf16 (W (Proc.devRef .tc main_arg3)) bitsLt_bf16_f32 := by
  after_reads_simp

theorem read_c (W : Valuation τ sig (Elt Ideal)) : StableHlo.after hostOps0_2 W (Proc.devRef .tc main_c) =
    constantI S_ 32 0#32 := by
  after_reads_simp

theorem rowMax_at (s) (h : Fin 8) (t : Fin 8192) :
    rowMax s (ix3 h t 0) = Finset.fold max (⊥ : EReal) (fun x : Fin 8192 => s (ix3 h t x)) Finset.univ := by
  unfold rowMax
  pointwise
  rw [show Ideal.ofBits .f32 0xFF800000#32 = ⊥ from neg_inf_bits]

theorem rowExp_at (s) (h : Fin 8) (t x : Fin 8192) :
    rowExp s (ix3 h t x) = Ideal.exp (s (ix3 h t x) - rowMax s (ix3 h t 0)) := by
  unfold rowExp
  pointwise

theorem rowSum_at (s) (h : Fin 8) (t : Fin 8192) :
    rowSum s (ix3 h t 0) = ∑ x : Fin 8192, rowExp s (ix3 h t x) := by
  unfold rowSum
  pointwise

theorem rows_at (x : FVec Ideal S8x8192x1 .f32) (h : Fin 8) (t : Fin 8192) :
    shapeCast S8x8192 x shapeCasts_S8x8192x1_S8x8192 (ix2 h t) = x (ix3 h t 0) := by
  pointwise

theorem log_add_at (a b : FVec Ideal S8x8192x1 .f32) (i) : addf a (Host.log b) i = a i + Ideal.log (b i) := rfl

theorem rowLse_at (s) (h : Fin 8) (t : Fin 8192) :
    rowLse s (ix2 h t) = rowMax s (ix3 h t 0) + Ideal.log (rowSum s (ix3 h t 0)) :=
  (rows_at (addf (rowMax s) (Host.log (rowSum s))) h t).trans (log_add_at (rowMax s) (rowSum s) (ix3 h t 0))

theorem rowDot_at (s v ct) (h : Fin 8) (t : Fin 8192) :
    rowDot s v ct (ix2 h t) = ∑ d : Fin 128, (∑ x : Fin 8192, Ideal.div (rowExp s (ix3 h t x)) (rowSum s (ix3 h t 0)) * v (ix3 h x d)) * ct (ix3 h t d) := by
  unfold rowDot attnOut
  pointwise

/-- The masked scores. -/
def maskScore (q k : FVec Ideal S8x8192x192 .f32) : FVec Ideal S8x8192x8192 .f32 :=
  select (broadcastInDim S8x8192x8192 ![1, 2] bcast_S8192x8192_S8x8192x8192_1_2
      (cmpi .sle (broadcastInDim S8192x8192 ![0, 1] bcast_S1x8192_S8192x8192_0_1 (broadcastInDim S1x8192 ![1] bcast_S8192_S1x8192_1 (iotaInDim S8192 32 0)))
       (broadcastInDim S8192x8192 ![0, 1] bcast_S8192x1_S8192x8192_0_1 (broadcastInDim S8192x1 ![0] bcast_S8192_S8192x1_0 (iotaInDim S8192 32 0)))))
    (mulf (Host.dotGeneral dot_S8x8192x192_S8x8192x192_S8x8192x8192_2_2_1_1_0_0 none q k)
      (broadcastInDim S8x8192x8192 ![] bcast_S_S8x8192x8192 (constant S_ .f32 0x3D93CD3A#32)))
    (broadcastInDim S8x8192x8192 ![] bcast_S_S8x8192x8192 (constant S_ .f32 0xFF800000#32))

theorem read_score (W : Valuation τ sig (Elt Ideal)) :
    StableHlo.after hostOps0_1 (StableHlo.after hostOps0 W) (Proc.devRef .tc main_v9) =
    maskScore (W (Proc.devRef .tc main_arg0)) (W (Proc.devRef .tc main_arg1)) := by
  after_reads_simp
  simp only [StableHlo.TRef.ofBuf_toBuf]
  unfold maskScore
  rfl

theorem maskScore_at (q k) (h : Fin 8) (t x : Fin 8192) :
    maskScore q k (ix3 h t x) = if x.val ≤ t.val then (∑ d : Fin 192, q (ix3 h t d) * k (ix3 h x d)) * Ideal.ofBits .f32 0x3D93CD3A#32 else ⊥ := by
  unfold maskScore
  pointwise
  have hx := x.isLt
  have ht := t.isLt
  have : IntOp.cmpi CmpIPredicate.sle (BitVec.ofNat 32 x.val) (BitVec.ofNat 32 t.val) = BitVec.ofBool (decide (x.val ≤ t.val)) := by
    word_cmp
  rw [this, show Ideal.ofBits .f32 0xFF800000#32 = ⊥ from neg_inf_bits]
  by_cases e : x.val ≤ t.val <;> simp only [e, decide_true, decide_false, if_true, if_false] <;> rfl

theorem W1_arg0 (c : Dev nD) : W1 m c (Proc.devRef .tc main_arg0) = m (c.tc.loc main_arg0) := by
  unfold W1
  after_reads_simp

theorem W1_arg1 (c : Dev nD) : W1 m c (Proc.devRef .tc main_arg1) = m (c.tc.loc main_arg1) := by
  unfold W1
  after_reads_simp

theorem W1_arg2 (c : Dev nD) : W1 m c (Proc.devRef .tc main_arg2) = m (c.tc.loc main_arg2) := by
  unfold W1
  after_reads_simp

theorem W1_arg3 (c : Dev nD) : W1 m c (Proc.devRef .tc main_arg3) = m (c.tc.loc main_arg3) := by
  unfold W1
  after_reads_simp

end Cert.Kernel3Ideal.Mla
end
-- ==== Proof.MlaArr.lean ====
module

public import proofs.«01_k».proof.Proof.MlaState
public import proofs.«01_k».proof.Proof.MlaRun

@[expose] public section

set_option maxRecDepth 16384

noncomputable section

open Idealize.ShloMosaic Idealize.ShloMosaic.TcCoe Idealize.SL.Sem
open Idealize.ShloMosaic.Pipeline (Dat)

namespace Cert.Kernel3Ideal.Mla

open Cert.Kernel3Ideal Cert.Kernel3Ideal.Gen Cert.Attn

variable (m : (ℓ : Loc nD τ sig) → Buf (Elt Ideal) ℓ)

theorem idx : ∀ t : Fin cfg0.N, win0_0.index t = ![t.val / 8, 0, 0] ∧ win0_1.index t = ![t.val / 8, t.val % 8, 0]
    ∧ win0_2.index t = ![t.val / 8, t.val % 8, 0] ∧ win0_3.index t = ![t.val / 8, 0, 0] ∧ win0_4.index t = ![t.val / 8, 0, 0]
    ∧ win0_5.index t = ![t.val / 8, t.val % 8, 0] ∧ win0_6.index t = ![t.val / 8, t.val % 8, 0] :=
  (by decide +kernel : ∀ t : Fin grid0.N, _)

/-- The head and the key block of a point. -/
def hd (t : Fin cfg0.N) : Fin 8 := ⟨t.val / 8, by have := Nat.lt_of_lt_of_eq t.isLt N_0; omega⟩
def row (t : Fin cfg0.N) (s : Fin 1024) : Fin 8192 := ⟨t.val % 8 * 1024 + s.val, by have := s.isLt; omega⟩

variable (Q K V' D : FVec Ideal S8x8192x256 .bf16)

/-- The weight of key `s` for query `t`, and the gradient of its score. -/
def wgt (h : Fin 8) (s t : Fin 8192) : EReal :=
  if s.val ≤ t.val then Ideal.exp (∑ j : Fin 256, K (ix3 h s j) * Q (ix3 h t j)) else 0
def grd (h : Fin 8) (s t : Fin 8192) : EReal := wgt Q K h s t * ∑ j : Fin 256, V' (ix3 h s j) * D (ix3 h t j)

/-- One key block's part of a query's gradient, for the block's number. -/
def dqBlock (h : Fin 8) (t : Fin 8192) (d : Fin 256) (k : ℕ) : EReal :=
  if hk : k < 8 then ∑ s : Fin 1024, grd Q K V' D h ⟨k * 1024 + s.val, by have := s.isLt; omega⟩ t
    * K (ix3 h ⟨k * 1024 + s.val, by have := s.isLt; omega⟩ d) else 0

theorem blk0 (c : Dev nD) (t : Fin cfg0.N) (u : Fin 8192) (j : Fin 256) :
    iblk m c 0 t (ix3 (0 : Fin 1) u j) = V m c main_v65 (ix3 (hd t) u j) := by
  blk_point [iblk, idx t, hd]
theorem blk1 (c : Dev nD) (t : Fin cfg0.N) (s : Fin 1024) (j : Fin 256) :
    iblk m c 1 t (ix3 (0 : Fin 1) s j) = V m c main_v73 (ix3 (hd t) (row t s) j) := by
  blk_point [iblk, idx t, hd, row]
theorem blk2 (c : Dev nD) (t : Fin cfg0.N) (s : Fin 1024) (j : Fin 256) :
    iblk m c 2 t (ix3 (0 : Fin 1) s j) = V m c main_v39 (ix3 (hd t) (row t s) j) := by
  blk_point [iblk, idx t, hd, row]
theorem blk3 (c : Dev nD) (t : Fin cfg0.N) (u : Fin 8192) (j : Fin 256) :
    iblk m c 3 t (ix3 (0 : Fin 1) u j) = V m c main_v99 (ix3 (hd t) u j) := by
  blk_point [iblk, idx t, hd]

/-- A point's sums over its blocks are sums over the arrays. -/
theorem wt_blk (c : Dev nD) (t : Fin cfg0.N) (s : Fin 1024) (u : Fin 8192) :
    wt (t.val % 8 * 1024) (iblk m c 0 t) (iblk m c 1 t) s u = wgt (V m c main_v65) (V m c main_v73) (hd t) (row t s) u := by
  unfold wt wgt dotKQ
  simp only [blk0, blk1]
  rfl
theorem gs_blk (c : Dev nD) (t : Fin cfg0.N) (s : Fin 1024) (u : Fin 8192) :
    gs (t.val % 8 * 1024) (iblk m c 0 t) (iblk m c 1 t) (iblk m c 2 t) (iblk m c 3 t) s u
      = grd (V m c main_v65) (V m c main_v73) (V m c main_v39) (V m c main_v99) (hd t) (row t s) u := by
  unfold gs grd
  rw [wt_blk]
  unfold dotKQ
  simp only [blk2, blk3]

theorem met_pt (c : Dev nD) (t : Fin cfg0.N) (d) :
    Met (t.val % 8 * 1024) (iblk m c 0 t) (iblk m c 1 t) (iblk m c 2 t) (iblk m c 3 t) d 8192 (pt m c t d) := by
  have ht : t.val < 64 := Nat.lt_of_lt_of_eq t.isLt N_0
  have e1 : (grid0.coords t 1).val = t.val / 1 % 8 := Pipeline.Grid.coords_val t 1 (by decide) rfl
  exact met_point _ _ _ _ d (grid0.coords t) _ (by rw [e1, Nat.div_one])

theorem met_acc (c : Dev nD) (t : Fin cfg0.N) : ∃ d, accAt m c t.val t.isLt = pt m c t d := by
  by_cases h : t.val % 8 = 0
  · exact ⟨_, accAt_first m c t h⟩
  · exact ⟨_, accAt_next m c t h⟩

/-- A key block's gradients of keys and of values. -/
theorem dk_at (c : Dev nD) (t : Fin cfg0.N) (s : Fin 1024) (d : Fin 256) :
    (accAt m c t.val t.isLt).2.1 (ix2 s d) = ∑ u : Fin 8192,
      grd (V m c main_v65) (V m c main_v73) (V m c main_v39) (V m c main_v99) (hd t) (row t s) u * V m c main_v65 (ix3 (hd t) u d) := by
  obtain ⟨x, hx⟩ := met_acc m c t
  rw [hx, (met_pt m c t x).k s d]
  exact Finset.sum_congr rfl fun u _ => by rw [if_pos u.isLt, gs_blk, blk0]

theorem dv_at (c : Dev nD) (t : Fin cfg0.N) (s : Fin 1024) (d : Fin 256) :
    (accAt m c t.val t.isLt).2.2 (ix2 s d) = ∑ u : Fin 8192,
      wgt (V m c main_v65) (V m c main_v73) (hd t) (row t s) u * V m c main_v99 (ix3 (hd t) u d) := by
  obtain ⟨x, hx⟩ := met_acc m c t
  rw [hx, (met_pt m c t x).v s d]
  exact Finset.sum_congr rfl fun u _ => by rw [if_pos u.isLt, wt_blk, blk3]

theorem dqBlock_at (t : Fin cfg0.N) (u : Fin 8192) (d : Fin 256) : dqBlock Q K V' D (hd t) u d (t.val % 8)
    = ∑ s : Fin 1024, grd Q K V' D (hd t) (row t s) u * K (ix3 (hd t) (row t s) d) := by
  rw [dqBlock, dif_pos (by omega)]
  rfl

theorem pt_q (c : Dev nD) (t : Fin cfg0.N) (x) (u : Fin 8192) (d : Fin 256) :
    (pt m c t x).1 (ix3 0 u d) = x (ix3 0 u d)
      + dqBlock (V m c main_v65) (V m c main_v73) (V m c main_v39) (V m c main_v99) (hd t) u d (t.val % 8) := by
  rw [(met_pt m c t x).q u d, if_pos u.isLt, dqBlock_at]
  simp only [gs_blk, blk1]

/-- A query's gradient after the key blocks so far. -/
theorem dq_at (c : Dev nD) (n : ℕ) (hn : n < cfg0.N) (u : Fin 8192) (d : Fin 256) :
    (accAt m c n hn).1 (ix3 0 u d) = ∑ k ∈ Finset.range (n % 8 + 1),
      dqBlock (V m c main_v65) (V m c main_v73) (V m c main_v39) (V m c main_v99) (hd ⟨n, hn⟩) u d k := by
  induction n with
  | zero =>
    rw [accAt_first m c ⟨0, hn⟩ rfl, pt_q, pay23_at]
    simp
  | succ n ih =>
    have ht : n + 1 < 64 := Nat.lt_of_lt_of_eq hn N_0
    by_cases h : (n + 1) % 8 = 0
    · rw [accAt_first m c ⟨n + 1, hn⟩ h, pt_q, pay23_at]
      simp only [h]
      simp
    · rw [accAt_next m c ⟨n + 1, hn⟩ h, pt_q]
      simp only [Nat.add_sub_cancel]
      have e : hd ⟨n + 1, hn⟩ = hd ⟨n, Nat.lt_of_succ_lt hn⟩ := Fin.ext (by show (n + 1) / 8 = n / 8; omega)
      rw [ih (Nat.lt_of_succ_lt hn), e, show (n + 1) % 8 = n % 8 + 1 by omega]
      exact (Finset.sum_range_succ _ _).symm

/-- The key blocks together are all keys. -/
theorem blocks_all (h : Fin 8) (t : Fin 8192) (d : Fin 256) :
    ∑ k ∈ Finset.range 8, dqBlock Q K V' D h t d k = ∑ s : Fin 8192, grd Q K V' D h s t * K (ix3 h s d) := by
  rw [Finset.sum_range]
  refine Eq.trans ?_ (Fin.sum_univ_tiles 8 1024 (by rfl) _).symm
  exact Finset.sum_congr rfl fun k _ => by rw [dqBlock, dif_pos k.isLt]

/-- The three arrays the region leaves. -/
def dqArr : FVec Ideal S8x8192x256 .f32 := fun y =>
  (∑ s : Fin 8192, grd Q K V' D (y 0) s (y 1) * K (ix3 (y 0) s (y 2))) * Ideal.ofBits .f32 0x3D93CD3A#32
def dkArr : FVec Ideal S8x8192x256 .f32 := fun y => ∑ u : Fin 8192, grd Q K V' D (y 0) (y 1) u * Q (ix3 (y 0) u (y 2))
def dvArr : FVec Ideal S8x8192x256 .f32 := fun y => ∑ u : Fin 8192, wgt Q K (y 0) (y 1) u * D (ix3 (y 0) u (y 2))

theorem arr_k (c : Dev nD) : (dats m 0 c).arrAt 5 cfg0.N = dkArr (V m c main_v65) (V m c main_v73) (V m c main_v39) (V m c main_v99) := by
  refine (dats m 0 c).arrAt_eq_of_covers 5 _ (by decide +kernel) fun t _ y => ?_
  blk_simp
  rw [after0_5, allA_eq]
  idx_vars y
  obtain rfl : y0 = 0 := Subsingleton.elim _ _
  have hj : (((View.whole main_v100_1).slice (win0_5.rect t)).emb (ix3 0 y1 y2)) = ix3 (hd t) (row t y1) y2 := by
    blk_ext [idx t, hd, row]
  rw [hj]
  refine (pay4_at _ y1 y2).trans ?_
  exact dk_at m c t y1 y2

theorem arr_v (c : Dev nD) : (dats m 0 c).arrAt 6 cfg0.N = dvArr (V m c main_v65) (V m c main_v73) (V m c main_v99) := by
  refine (dats m 0 c).arrAt_eq_of_covers 6 _ (by decide +kernel) fun t _ y => ?_
  blk_simp
  rw [after0_6, allA_eq]
  idx_vars y
  obtain rfl : y0 = 0 := Subsingleton.elim _ _
  have hj : (((View.whole main_v100_2).slice (win0_6.rect t)).emb (ix3 0 y1 y2)) = ix3 (hd t) (row t y1) y2 := by
    blk_ext [idx t, hd, row]
  rw [hj]
  refine (pay5_at _ y1 y2).trans ?_
  exact dv_at m c t y1 y2

theorem arr_q (c : Dev nD) : (dats m 0 c).arrAt 4 cfg0.N = dqArr (V m c main_v65) (V m c main_v73) (V m c main_v39) (V m c main_v99) := by
  refine (dats m 0 c).arrAt_eq_of_covers 4 _ (by decide +kernel) fun t hf y => ?_
  have h7 : t.val % 8 = 7 := (flush0_4 t).mp hf
  blk_simp
  rw [after0_4, dqAt, if_pos h7, allQ_eq]
  idx_vars y
  obtain rfl : y0 = 0 := Subsingleton.elim _ _
  have hj : (((View.whole main_v100_0).slice (win0_4.rect t)).emb (ix3 0 y1 y2)) = ix3 (hd t) y1 y2 := by
    blk_ext [idx t, hd]
  rw [hj]
  refine (pay6_at _ y1 y2).trans ?_
  rw [dq_at m c t.val t.isLt, h7, blocks_all]
  rfl

end Cert.Kernel3Ideal.Mla
end
-- ==== Proof.NormRow.lean ====
module

public import Idealize.ShloMosaic.Lib.Pointwise

/-! One row of the gradient of a root-mean-square norm: as the version writes it out by hand, as the derivative of the
 forward lines gives it, and that the two agree on rows of real numbers. -/

@[expose] public section

noncomputable section

namespace Cert.Norm

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (x : ℝ) {y : ℝ} (h : y ≠ 0) : Ideal.div (x : EReal) (y : EReal) = ((x / y : ℝ) : EReal) := by
  rw [Ideal.div_coe h, ← EReal.coe_mul]
  congr 1
  field_simp

theorem real_of_lt (x : EReal) (h : Ideal.cmp .olt (max x (-x)) (Ideal.ofBits .f32 0x7F800000#32) = 1#1) : x = (x.toReal : EReal) := by
  have hb : Ideal.ofBits .f32 0x7F800000#32 = ⊤ := by
    simp only [Ideal.ofBits]; unfold Ideal.ieee; simp
  rw [hb] at h
  induction x using EReal.rec with
  | bot => simp [Ideal.cmp] at h
  | top => simp [Ideal.cmp] at h
  | coe r => rfl

/-- A finite array is an array of real numbers. -/
theorem real_of_ones {s : Shape} (x : FVec Ideal s .f32) (z : FVec Ideal s .f32) (hz : ∀ i, z i = Ideal.ofBits .f32 0x7F800000#32)
    (h : cmpf .olt (Host.absf x) z = fun _ => 1#1) (i : s.Idx) : x i = ((x i).toReal : EReal) := by
  refine real_of_lt (x i) ?_
  have e := congrFun h i
  rw [← hz i]
  exact e

/-- The constants as the programs write them: the small one, a half, and the width of the stream. -/
def eps : EReal := Ideal.ofBits .f32 0x358637BD#32
def half : EReal := Ideal.ofBits .f32 0xBF000000#32
def wid : EReal := Ideal.ofBits .f32 0x44800000#32

theorem eps_real : ∃ e : ℝ, 0 < e ∧ eps = (e : EReal) := by
  unfold eps; simp only [Ideal.ofBits]; unfold Ideal.ieee; simp; rw [← EReal.coe_mul]
  exact ⟨_, by norm_num, rfl⟩

theorem half_real : half = ((-(1 / 2) : ℝ) : EReal) := by
  unfold half; simp only [Ideal.ofBits]; unfold Ideal.ieee; simp; rw [← EReal.coe_mul]; norm_num

theorem wid_real : wid = ((1024 : ℝ) : EReal) := by
  unfold wid; simp only [Ideal.ofBits]; unfold Ideal.ieee; simp; rw [← EReal.coe_mul]; norm_num

variable {D : ℕ}

/-- The mean square of a row, and the small constant beside it. -/
def sq (n e : EReal) (x : Fin D → EReal) : EReal := Ideal.div (∑ j, x j * x j) n + e

/-- What the norm multiplies a row by. -/
def rr (n e : EReal) (x : Fin D → EReal) : EReal := Ideal.rsqrt (sq n e x)

/-- A row of the gradient, by hand: `p` is the cotangent times the gain. -/
def handDx (n e : EReal) (x p : Fin D → EReal) (j : Fin D) : EReal :=
  rr n e x * (p j - x j * rr n e x * Ideal.div (∑ k, p k * (x k * rr n e x)) n)

/-- What the derivative of the root adds, once for each of the two factors of the square. -/
def side (n e h : EReal) (x p : Fin D → EReal) : EReal :=
  Ideal.div ((∑ k, x k * p k) * (h * Ideal.div (rr n e x) (sq n e x))) n

/-- A row of the gradient, as the derivative of the forward lines. -/
def diffDx (n e h : EReal) (x p : Fin D → EReal) (j : Fin D) : EReal :=
  p j * rr n e x + x j * side n e h x p + side n e h x p * x j

variable {n e : ℝ} (hn : 0 < n) (he : 0 < e) (x p : Fin D → ℝ)

/-- The mean square over the reals. -/
def sqR (n e : ℝ) (x : Fin D → ℝ) : ℝ := (∑ j, x j * x j) / n + e

include hn he in
theorem sqR_pos : 0 < sqR n e x := by
  unfold sqR
  have : 0 ≤ ∑ j, x j * x j := Finset.sum_nonneg fun j _ => mul_self_nonneg _
  positivity

include hn in
theorem sq_real : sq (n : EReal) (e : EReal) (fun j => (x j : EReal)) = (sqR n e x : EReal) := by
  unfold sq sqR
  simp only [← EReal.coe_mul]
  rw [← coe_sum, div_real _ hn.ne', ← EReal.coe_add]

include hn he in
theorem rr_real : ∃ r : ℝ, rr (n : EReal) (e : EReal) (fun j => (x j : EReal)) = (r : EReal) ∧ r * r * sqR n e x = 1 := by
  have hp := sqR_pos hn he x
  refine ⟨(Real.sqrt (sqR n e x))⁻¹, ?_, ?_⟩
  · unfold rr
    rw [sq_real hn, Ideal.rsqrt_coe, if_neg (not_lt.mpr hp.le), if_neg hp.ne']
  · rw [← mul_inv, Real.mul_self_sqrt hp.le]
    exact inv_mul_cancel₀ hp.ne'

include hn he in
theorem hand_real (j : Fin D) : ∃ z : ℝ, handDx (n : EReal) (e : EReal) (fun j => (x j : EReal)) (fun j => (p j : EReal)) j = (z : EReal) := by
  obtain ⟨r, hr, -⟩ := rr_real hn he x
  unfold handDx
  rw [hr]
  simp only [← EReal.coe_mul]
  rw [← coe_sum, div_real _ hn.ne', ← EReal.coe_mul, ← EReal.coe_sub, ← EReal.coe_mul]
  exact ⟨_, rfl⟩

include hn he in
/-- The two rows agree over the reals. -/
theorem dx_eq (j : Fin D) : handDx (n : EReal) (e : EReal) (fun j => (x j : EReal)) (fun j => (p j : EReal)) j
    = diffDx (n : EReal) (e : EReal) ((-(1 / 2) : ℝ) : EReal) (fun j => (x j : EReal)) (fun j => (p j : EReal)) j := by
  obtain ⟨r, hr, hrr⟩ := rr_real hn he x
  have hv := (sqR_pos hn he x).ne'
  unfold handDx diffDx side
  rw [hr, sq_real hn]
  simp only [← EReal.coe_mul]
  rw [← coe_sum, ← coe_sum, div_real _ hn.ne', div_real _ hv]
  simp only [← EReal.coe_mul]
  rw [div_real _ hn.ne']
  simp only [← EReal.coe_mul, ← EReal.coe_sub, ← EReal.coe_add]
  congr 1
  have hs : ∑ k, p k * (x k * r) = (∑ k, x k * p k) * r := by
    rw [Finset.sum_mul]; exact Finset.sum_congr rfl fun k _ => by ring
  rw [hs]
  have hi : r / sqR n e x = r * (r * r) := by
    rw [div_eq_iff hv]; linear_combination -r * hrr
  rw [hi]
  ring

end Cert.Norm
-- ==== Proof.AttnReal.lean ====
module

public import proofs.«01_k».proof.Proof.NormRow
public import proofs.«01_k».proof.Proof.AttnSum

/-! Softmax attention with a causal mask over the reals: the row maximum, the exponentials against it, their sum and the
 weights, and the extended-real expressions the programs compute them by. -/

@[expose] public section

noncomputable section

namespace Cert.Attn

open Idealize.ShloMosaic

export Cert.Norm (coe_sum div_real real_of_ones)

/-- A sum over `a + (r + 1)` columns of which only the first `a` and the next count. -/
theorem sum_cols (a r : ℕ) (f : Fin (a + (r + 1)) → EReal) (g : Fin a → EReal) (c : EReal)
    (hg : ∀ j : Fin a, f ⟨j.val, by have := j.isLt; omega⟩ = g j) (hc : f ⟨a, by omega⟩ = c)
    (h0 : ∀ j : Fin (a + (r + 1)), a < j.val → f j = 0) : ∑ j, f j = (∑ j, g j) + c := by
  rw [Fin.sum_univ_add, Fin.sum_univ_succ]
  congr 1
  · exact Finset.sum_congr rfl fun j _ => hg j
  · rw [Finset.sum_eq_zero (fun j _ => h0 _ (by simp)), add_zero]
    exact hc

variable {n : ℕ} (σ : Fin n → Fin n → ℝ)

/-- The largest score of query `t` among the keys up to it. -/
def top (t : Fin n) : ℝ := (Finset.univ.filter fun s : Fin n => s.val ≤ t.val).sup' ⟨t, by simp⟩ (σ t)

/-- The exponentials against it, zero at the later keys. -/
def ex (t s : Fin n) : ℝ := if s.val ≤ t.val then Real.exp (σ t s - top σ t) else 0

/-- Their sum. -/
def tot (t : Fin n) : ℝ := ∑ s, ex σ t s

/-- The attention weights. -/
def wts (t s : Fin n) : ℝ := ex σ t s / tot σ t

theorem ex_nonneg (t s : Fin n) : 0 ≤ ex σ t s := by
  unfold ex; split
  · exact (Real.exp_pos _).le
  · exact le_refl _

theorem tot_pos (t : Fin n) : 0 < tot σ t := by
  refine Finset.sum_pos' (fun s _ => ex_nonneg σ t s) ⟨t, Finset.mem_univ _, ?_⟩
  rw [ex, if_pos (le_refl _)]
  exact Real.exp_pos _

theorem tot_ne (t : Fin n) : tot σ t ≠ 0 := (tot_pos σ t).ne'

/-- The masked scores. -/
def msk (t s : Fin n) : EReal := if s.val ≤ t.val then (σ t s : EReal) else ⊥

theorem fold_top (t : Fin n) : Finset.fold max (⊥ : EReal) (fun s => msk σ t s) Finset.univ = (top σ t : EReal) := by
  show Finset.univ.sup (fun s => msk σ t s) = _
  apply le_antisymm
  · refine Finset.sup_le fun s _ => ?_
    unfold msk; split
    · next h => exact EReal.coe_le_coe_iff.2 (Finset.le_sup' (σ t) (Finset.mem_filter.2 ⟨Finset.mem_univ _, h⟩))
    · exact bot_le
  · obtain ⟨s, hs, e⟩ := Finset.exists_mem_eq_sup' (s := Finset.univ.filter fun s : Fin n => s.val ≤ t.val) ⟨t, by simp⟩ (σ t)
    rw [top, e]
    have hs' : s.val ≤ t.val := by simpa using hs
    have : msk σ t s = (σ t s : EReal) := if_pos hs'
    rw [← this]
    exact Finset.le_sup (f := fun s => msk σ t s) (Finset.mem_univ s)

theorem exp_msk (t s : Fin n) : Ideal.exp (msk σ t s - (top σ t : EReal)) = (ex σ t s : EReal) := by
  unfold msk ex
  split
  · rw [← EReal.coe_sub]; rfl
  · rw [EReal.bot_sub]; rfl

theorem sum_ex (t : Fin n) : ∑ s, (ex σ t s : EReal) = (tot σ t : EReal) := (coe_sum _ _).symm

theorem div_ex (t s : Fin n) : Ideal.div (ex σ t s : EReal) (tot σ t : EReal) = (wts σ t s : EReal) := div_real _ (tot_ne σ t)

/-- The row log-sum. -/
def lse (t : Fin n) : ℝ := top σ t + Real.log (tot σ t)

theorem lse_eq (t : Fin n) : (top σ t : EReal) + Ideal.log (tot σ t : EReal) = (lse σ t : EReal) := by
  rw [Ideal.log_coe, if_neg (not_le.2 (tot_pos σ t)), ← EReal.coe_add]
  rfl

/-- The weights from the row log-sum. -/
theorem exp_lse (t s : Fin n) (h : s.val ≤ t.val) : Ideal.exp ((σ t s : EReal) + -(lse σ t : EReal)) = (wts σ t s : EReal) := by
  rw [← EReal.coe_neg, ← EReal.coe_add, Ideal.exp_coe, wts, ex, if_pos h, lse]
  congr 1
  rw [show σ t s + -(top σ t + Real.log (tot σ t)) = (σ t s - top σ t) - Real.log (tot σ t) by ring, Real.exp_sub,
    Real.exp_log (tot_pos σ t)]

theorem wts_off (t s : Fin n) (h : ¬s.val ≤ t.val) : wts σ t s = 0 := by rw [wts, ex, if_neg h, zero_div]

variable (p' : Fin n → Fin n → ℝ)

/-- The weights' mean of the products `dp` in a row. -/
def mean (t : Fin n) : ℝ := ∑ s, wts σ t s * p' t s

/-- The gradient of a score. -/
def dsc (t s : Fin n) : ℝ := wts σ t s * (p' t s - mean σ p' t)

/-- The same gradient in the form differentiation gives it. -/
theorem dsc_eq (t s : Fin n) :
    (p' t s / tot σ t + (-∑ x, p' t x * (1 / (tot σ t * tot σ t)) * ex σ t x)) * ex σ t s = dsc σ p' t s := by
  have h := tot_ne σ t
  have e : ∑ x, p' t x * (1 / (tot σ t * tot σ t)) * ex σ t x = mean σ p' t / tot σ t := by
    rw [mean, Finset.sum_div]
    refine Finset.sum_congr rfl fun x _ => ?_
    rw [wts]; field_simp
  rw [e, dsc, wts]
  field_simp
  ring

theorem dsc_off (t s : Fin n) (h : ¬s.val ≤ t.val) : dsc σ p' t s = 0 := by rw [dsc, wts_off σ t s h, zero_mul]

variable {h d : ℕ}

/-- The scores of a head and the products of its cotangent and values. -/
def sg (q k : Fin h → Fin n → Fin d → ℝ) (c : ℝ) (a : Fin h) (t s : Fin n) : ℝ := (∑ x, q a t x * k a s x) * c
def dp (v g : Fin h → Fin n → Fin d → ℝ) (a : Fin h) (t s : Fin n) : ℝ := ∑ x, g a t x * v a s x

/-- A number whose size is below infinity is real. -/
theorem real_of_finite (x : EReal) (hx : Ideal.cmp .olt (max x (-x)) (Ideal.ofBits .f32 0x7F800000#32) = 1#1) :
    x = (x.toReal : EReal) := by
  have htop : Ideal.ofBits .f32 0x7F800000#32 = ⊤ := by simp [Ideal.ofBits, Ideal.ieee]
  rw [htop] at hx
  refine (EReal.coe_toReal ?_ ?_).symm
  · rintro rfl; revert hx; simp [Ideal.cmp]
  · rintro rfl; revert hx; simp [Ideal.cmp]

/-- The scale of the scores is a real number. -/
theorem scale_real : Ideal.ofBits .f32 0x3D93CD3A#32 = ((Ideal.ofBits .f32 0x3D93CD3A#32).toReal : EReal) := by
  refine (EReal.coe_toReal ?_ ?_).symm
  all_goals
    simp only [Ideal.ofBits]
    unfold Ideal.ieee
    rw [if_neg (by decide)]
    split
    all_goals first | exact EReal.coe_ne_top _ | exact EReal.coe_ne_bot _

end Cert.Attn

end
-- ==== Proof.MlaReal.lean ====
module

public import proofs.«01_k».proof.Proof.MlaHost
public import proofs.«01_k».proof.Proof.MlaArr
public import proofs.«01_k».proof.Proof.AttnReal

@[expose] public section

set_option maxRecDepth 16384

noncomputable section

open Idealize.ShloMosaic Idealize.ShloMosaic.TcCoe Idealize.SL.Sem
open Idealize.ShloMosaic.Pipeline (Dat)

namespace Cert.Kernel3Ideal.Mla

open Cert.Kernel3Ideal Cert.Kernel3Ideal.Gen Cert.Attn

variable (m : (ℓ : Loc nD τ sig) → Buf (Elt Ideal) ℓ)

variable {rq rk : Fin 8 → Fin 8192 → Fin 192 → ℝ} {rv rg : Fin 8 → Fin 8192 → Fin 128 → ℝ} {r : ℝ}

section Rows
variable {q k : FVec Ideal S8x8192x192 .f32} {v ct : FVec Ideal S8x8192x128 .f32}
  (hc : Ideal.ofBits .f32 0x3D93CD3A#32 = (r : EReal))
  (hq : ∀ h t d, q (ix3 h t d) = (rq h t d : EReal)) (hk : ∀ h t d, k (ix3 h t d) = (rk h t d : EReal))
  (hv : ∀ h t d, v (ix3 h t d) = (rv h t d : EReal)) (hg : ∀ h t d, ct (ix3 h t d) = (rg h t d : EReal))

include hc hq hk in
theorem maskScore_real (h : Fin 8) (t x : Fin 8192) : maskScore q k (ix3 h t x) = msk (sg rq rk r h) t x := by
  rw [maskScore_at, msk]
  split
  · rw [hc, sg, EReal.coe_mul, coe_sum]
    congr 1
    exact Finset.sum_congr rfl fun d _ => by rw [hq, hk, EReal.coe_mul]
  · rfl

include hc hq hk in
theorem rowMax_real (h : Fin 8) (t : Fin 8192) : rowMax (maskScore q k) (ix3 h t 0) = (top (sg rq rk r h) t : EReal) := by
  rw [rowMax_at, ← fold_top]
  simp only [maskScore_real hc hq hk]

include hc hq hk in
theorem rowExp_real (h : Fin 8) (t x : Fin 8192) : rowExp (maskScore q k) (ix3 h t x) = (ex (sg rq rk r h) t x : EReal) := by
  rw [rowExp_at, rowMax_real hc hq hk, maskScore_real hc hq hk, exp_msk]

include hc hq hk in
theorem rowSum_real (h : Fin 8) (t : Fin 8192) : rowSum (maskScore q k) (ix3 h t 0) = (tot (sg rq rk r h) t : EReal) := by
  rw [rowSum_at, ← sum_ex]
  simp only [rowExp_real hc hq hk]

include hc hq hk in
theorem rowLse_real (h : Fin 8) (t : Fin 8192) : rowLse (maskScore q k) (ix2 h t) = (lse (sg rq rk r h) t : EReal) := by
  rw [rowLse_at, rowMax_real hc hq hk, rowSum_real hc hq hk, lse_eq]

include hc hq hk hv hg in
theorem rowDot_real (h : Fin 8) (t : Fin 8192) : rowDot (maskScore q k) v ct (ix2 h t) = (mean (sg rq rk r h) (dp rv rg h) t : EReal) := by
  have e : mean (sg rq rk r h) (dp rv rg h) t = ∑ d : Fin 128, (∑ x, wts (sg rq rk r h) t x * rv h x d) * rg h t d := by
    unfold mean dp
    simp only [Finset.mul_sum, Finset.sum_mul]
    rw [Finset.sum_comm]
    exact Finset.sum_congr rfl fun d _ => Finset.sum_congr rfl fun x _ => by ring
  rw [rowDot_at, e, coe_sum]
  refine Finset.sum_congr rfl fun d _ => ?_
  rw [EReal.coe_mul, coe_sum, hg]
  refine congrArg (fun z : EReal => z * (rg h t d : EReal)) (Finset.sum_congr rfl fun x _ => ?_)
  rw [rowExp_real hc hq hk, rowSum_real hc hq hk, div_ex, hv, EReal.coe_mul]

end Rows

theorem scaled_at (x : FVec Ideal S8x8192x192 .f32) (h : Fin 8) (t : Fin 8192) (d : Fin 192) :
    truncf .bf16 (mulf x (broadcastInDim S8x8192x192 ![] bcast_S_S8x8192x192 (constant S_ .f32 0x3D93CD3A#32))) bitsLt_bf16_f32 (ix3 h t d)
      = x (ix3 h t d) * Ideal.ofBits .f32 0x3D93CD3A#32 := by
  pointwise

theorem W1_score (c : Dev nD) : W1 m c (Proc.devRef .tc main_v9) = maskScore (m (c.tc.loc main_arg0)) (m (c.tc.loc main_arg1)) :=
  read_score _

/-- The three columns that carry a row's number: the number, then what rounding left of it, nothing here. -/
def cols (a b e : BitVec 32) (y : FVec Ideal S8x8192 .f32) (x : FVec Ideal S8x8192x256 .bf16) : FVec Ideal S8x8192x256 .bf16 :=
  setCol e (part (left (left (Host.negf y)))) (setCol b (part (left (Host.negf y))) (setCol a (part (Host.negf y)) x))

theorem cols_at (a : ℕ) (ha : a < 200) (y : FVec Ideal S8x8192 .f32) (x) (h : Fin 8) (t : Fin 8192) (z : ℝ) (hy : y (ix2 h t) = (z : EReal)) (j : Fin 256) :
    cols (BitVec.ofNat 32 a) (BitVec.ofNat 32 (a + 1)) (BitVec.ofNat 32 (a + 2)) y x (ix3 h t j)
      = if j.val = a + 2 then 0 else if j.val = a + 1 then 0 else if j.val = a then ((-z : ℝ) : EReal) else x (ix3 h t j) := by
  have hn : Host.negf y (ix2 h t) = ((-z : ℝ) : EReal) := by
    show -(y (ix2 h t)) = _
    rw [hy, EReal.coe_neg]
  unfold cols
  rw [setCol_at _ (by omega), setCol_at _ (by omega), setCol_at _ (by omega)]
  simp only [part_at, left_at, hn, ← EReal.coe_sub, sub_self, EReal.coe_zero, sub_zero]

section Arrays
variable (c : Dev nD) (hc : Ideal.ofBits .f32 0x3D93CD3A#32 = (r : EReal))
  (hq : ∀ h t d, (m (c.tc.loc main_arg0) : FVec Ideal S8x8192x192 .f32) (ix3 h t d) = (rq h t d : EReal))
  (hk : ∀ h t d, (m (c.tc.loc main_arg1) : FVec Ideal S8x8192x192 .f32) (ix3 h t d) = (rk h t d : EReal))
  (hv : ∀ h t d, (m (c.tc.loc main_arg2) : FVec Ideal S8x8192x128 .f32) (ix3 h t d) = (rv h t d : EReal))
  (hg : ∀ h t d, (m (c.tc.loc main_arg3) : FVec Ideal S8x8192x128 .f32) (ix3 h t d) = (rg h t d : EReal))

include hc hq hk in
theorem q_at (h : Fin 8) (t : Fin 8192) (j : Fin 256) : (V m c main_v65 : FVec Ideal S8x8192x256 .bf16) (ix3 h t j)
    = if j.val = 194 then 0 else if j.val = 193 then 0 else if j.val = 192 then ((-lse (sg rq rk r h) t : ℝ) : EReal)
      else if h1 : j.val < 192 then ((rq h t ⟨j.val, h1⟩ * r : ℝ) : EReal) else 0 := by
  rw [V_eq, read_q]
  simp only [W2]
  refine (cols_at 192 (by omega) _ _ h t (lse (sg rq rk r h) t) ?_ j).trans ?_
  · rw [read_lse, W1_score, rowLse_real hc hq hk]
  · rw [wide192_at, read_v25, W1_arg0]
    congr 3
    split
    · rw [scaled_at, hq, hc, EReal.coe_mul]
    · rfl

include hk in
theorem k_at (h : Fin 8) (t : Fin 8192) (j : Fin 256) : (V m c main_v73 : FVec Ideal S8x8192x256 .bf16) (ix3 h t j)
    = if 192 ≤ j.val ∧ j.val < 195 then 1 else if h1 : j.val < 192 then ((rk h t ⟨j.val, h1⟩ : ℝ) : EReal) else 0 := by
  rw [V_eq, read_k]
  simp only [W2]
  refine (setOnes_at 192 195 (by omega) (by omega) _ h t j).trans ?_
  rw [wide192_at, read_v26, W1_arg1]
  congr 1
  split
  · exact hk _ _ _
  · rfl

include hv in
theorem v_at (h : Fin 8) (t : Fin 8192) (j : Fin 256) : (V m c main_v39 : FVec Ideal S8x8192x256 .bf16) (ix3 h t j)
    = if 128 ≤ j.val ∧ j.val < 131 then 1 else if h1 : j.val < 128 then ((rv h t ⟨j.val, h1⟩ : ℝ) : EReal) else 0 := by
  rw [V_eq, read_v]
  simp only [W2]
  refine (setOnes_at 128 131 (by omega) (by omega) _ h t j).trans ?_
  rw [read_c, wide128_at, read_v27, W1_arg2]
  congr 1
  split
  · exact hv _ _ _
  · rfl

include hc hq hk hv hg in
theorem ct_at (h : Fin 8) (t : Fin 8192) (j : Fin 256) : (V m c main_v99 : FVec Ideal S8x8192x256 .bf16) (ix3 h t j)
    = if j.val = 130 then 0 else if j.val = 129 then 0 else if j.val = 128 then ((-mean (sg rq rk r h) (dp rv rg h) t : ℝ) : EReal)
      else if h1 : j.val < 128 then ((rg h t ⟨j.val, h1⟩ : ℝ) : EReal) else 0 := by
  rw [V_eq, read_ct]
  simp only [W2]
  refine (cols_at 128 (by omega) _ _ h t (mean (sg rq rk r h) (dp rv rg h) t) ?_ j).trans ?_
  · rw [read_dot, W1_score, W1_arg2, W1_arg3, rowDot_real hc hq hk hv hg]
  · rw [wide128_at, read_v28, W1_arg3]
    congr 3
    split
    · exact hg _ _ _
    · rfl

end Arrays

end Cert.Kernel3Ideal.Mla
-- ==== Proof.MlaRef.lean ====
module

public import proofs.«01_k».proof.Defs

public import proofs.«01_k».proof.Proof.AttnReal
public import proofs.«01_k».proof.Proof.Gen.Reference3Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference3Ideal.Mla

open Cert.Reference3Ideal Cert.Reference3Ideal.Gen Cert.Attn

/-- The mask of later keys. -/
def mask : IVec S8x8192x8192 1 :=
  broadcastInDim S8x8192x8192 ![1, 2] bcast_S8192x8192_S8x8192x8192_1_2
    (cmpi .sle (broadcastInDim S8192x8192 ![0, 1] bcast_S1x8192_S8192x8192_0_1 (broadcastInDim S1x8192 ![1] bcast_S8192_S1x8192_1 (iotaInDim S8192 32 0)))
     (broadcastInDim S8192x8192 ![0, 1] bcast_S8192x1_S8192x8192_0_1 (broadcastInDim S8192x1 ![0] bcast_S8192_S8192x1_0 (iotaInDim S8192 32 0))))

/-- The masked scores. -/
def score (q k : FVec Ideal S8x8192x192 .f32) : FVec Ideal S8x8192x8192 .f32 :=
  select mask (mulf (Host.dotGeneral dot_S8x8192x192_S8x8192x192_S8x8192x8192_2_2_1_1_0_0 none q k)
      (broadcastInDim S8x8192x8192 ![] bcast_S_S8x8192x8192 (constant S_ .f32 0x3D93CD3A#32)))
    (broadcastInDim S8x8192x8192 ![] bcast_S_S8x8192x8192 (id (constant S_ .f32 0xFF800000#32)))

/-- A row's maximum. -/
def redTop (s : FVec Ideal S8x8192x8192 .f32) : FVec Ideal S8x8192 .f32 :=
  Host.reduce FloatOps.maximumf s (constant S_ .f32 0xFF800000#32) reducesTo_S8x8192x8192_S8x8192_d2 h_S_
def rowTop (s : FVec Ideal S8x8192x8192 .f32) : FVec Ideal S8x8192 .f32 :=
  maximumf (broadcastInDim S8x8192 ![] bcast_S_S8x8192 (constant S_ .f32 0xFF800000#32)) (redTop s)

/-- Rows and columns of one number each. -/
def col (x : FVec Ideal S8x8192 .f32) : FVec Ideal S8x8192x1 .f32 :=
  broadcastInDim S8x8192x1 ![0, 1] bcast_S8x8192_S8x8192x1_0_1 x
def spread (x : FVec Ideal S8x8192x1 .f32) : FVec Ideal S8x8192x8192 .f32 :=
  broadcastInDim S8x8192x8192 ![0, 1, 2] bcast_S8x8192x1_S8x8192x8192_0_1_2 x

/-- The exponentials and their sums. -/
def expo (s : FVec Ideal S8x8192x8192 .f32) : FVec Ideal S8x8192x8192 .f32 :=
  Host.exp (subf s (spread (col (rowTop s))))
def total (e : FVec Ideal S8x8192x8192 .f32) : FVec Ideal S8x8192x1 .f32 :=
  col (Host.reduceAdd e (constant S_ .f32 0x00000000#32) reducesTo_S8x8192x8192_S8x8192_d2 h_S_)

/-- The products of the cotangent and the values. -/
def prod (v ct : FVec Ideal S8x8192x128 .f32) : FVec Ideal S8x8192x8192 .f32 :=
  Host.dotGeneral dot_S8x8192x128_S8x8192x128_S8x8192x8192_2_2_1_1_0_0 none ct v

/-- The sum the quotient's gradient takes over a row. -/
def inner (e p : FVec Ideal S8x8192x8192 .f32) : FVec Ideal S8x8192 .f32 :=
  Host.reduceAdd (Host.negf (shapeCast S8x8192x1 (Host.reduceAdd (mulf (mulf p (spread
      (Host.divf (broadcastInDim S8x8192x1 ![] bcast_S_S8x8192x1 (constant S_ .f32 0x3F800000#32)) (mulf (total e) (total e))))) e)
      (constant S_ .f32 0x00000000#32) reducesTo_S8x8192x8192_S8x8192_d2 h_S_) shapeCasts_S8x8192_S8x8192x1))
    (constant S_ .f32 0x00000000#32) reducesTo_S8x8192x1_S8x8192_d2 h_S_

/-- The gradient of the scores. -/
def dscore (e p : FVec Ideal S8x8192x8192 .f32) : FVec Ideal S8x8192x8192 .f32 :=
  mulf (select mask (mulf (addf (Host.divf p (spread (total e)))
      (broadcastInDim S8x8192x8192 ![0, 1] bcast_S8x8192_S8x8192x8192_0_1 (inner e p))) e)
    (broadcastInDim S8x8192x8192 ![] bcast_S_S8x8192x8192 (constant S_ .f32 0x00000000#32)))
    (broadcastInDim S8x8192x8192 ![] bcast_S_S8x8192x8192 (constant S_ .f32 0x3D93CD3A#32))

variable (m : (ℓ : Loc nD τ sig) → Buf (Elt Ideal) ℓ) (c : Dev nD)

abbrev sc := score (m (c.tc.loc main_arg0)) (m (c.tc.loc main_arg1))
abbrev pr := prod (m (c.tc.loc main_arg2)) (m (c.tc.loc main_arg3))

theorem dv_eq : Value.res_main_v40 m c = transpose S8x8192x128 [0, 2, 1]
    (Host.dotGeneral dot_S8x8192x128_S8x8192x8192_S8x128x8192_1_1_2_2_0_0 none (φ₁ := .f32) (m (c.tc.loc main_arg3))
      (Host.divf (expo (sc m c)) (spread (total (expo (sc m c)))))) transposes_S8x128x8192_S8x8192x128_0_2_1 := by
  unfold Value.res_main_v40 sc spread total col expo spread col rowTop redTop score mask
  rfl

theorem dk_eq : Value.res_main_v57 m c = Host.dotGeneral dot_S8x8192x8192_S8x8192x192_S8x8192x192_1_1_2_2_0_0 none (φ₂ := .f32)
    (dscore (expo (sc m c)) (pr m c)) (m (c.tc.loc main_arg0)) := by
  unfold Value.res_main_v57 sc pr dscore inner prod spread total col expo spread col rowTop redTop score mask
  rfl

theorem dq_eq : Value.res_main_v58 m c = Host.dotGeneral dot_S8x8192x8192_S8x8192x192_S8x8192x192_2_1_1_2_0_0 none (φ₂ := .f32)
    (dscore (expo (sc m c)) (pr m c)) (m (c.tc.loc main_arg1)) := by
  unfold Value.res_main_v58 sc pr dscore inner prod spread total col expo spread col rowTop redTop score mask
  rfl

end Cert.Reference3Ideal.Mla
-- ==== Proof.MlaRefAt.lean ====
module

public import proofs.«01_k».proof.Proof.MlaRef

@[expose] public section

set_option maxRecDepth 16384

noncomputable section

open Idealize.ShloMosaic Idealize.ShloMosaic.TcCoe Idealize.SL.Sem
open Idealize.ShloMosaic.Pipeline (Dat)

namespace Cert.Reference3Ideal.Mla

open Cert.Reference3Ideal Cert.Reference3Ideal.Gen Cert.Attn

theorem mask_at (h : Fin 8) (t x : Fin 8192) : mask (ix3 h t x) = BitVec.ofBool (decide (x.val ≤ t.val)) := by
  unfold mask
  pointwise
  have hx := x.isLt
  have ht := t.isLt
  show BitVec.ofBool (BitVec.sle (BitVec.ofNat 32 x.val) (BitVec.ofNat 32 t.val)) = _
  rw [BitVec.sle_eq_decide, BitVec.toInt_ofNat', BitVec.toInt_ofNat', bmod_small _ (by omega), bmod_small _ (by omega)]
  simp only [Nat.cast_le]

theorem select_mask (h : Fin 8) (t x : Fin 8192) (a b : FVec Ideal S8x8192x8192 .f32) :
    select mask a b (ix3 h t x) = if x.val ≤ t.val then a (ix3 h t x) else b (ix3 h t x) := by
  show Scalar.select (mask (ix3 h t x)) (a (ix3 h t x)) (b (ix3 h t x)) = _
  rw [mask_at]
  by_cases e : x.val ≤ t.val <;> simp only [e, decide_true, decide_false, if_true, if_false] <;> rfl

theorem score_at (q k) (h : Fin 8) (t x : Fin 8192) :
    score q k (ix3 h t x) = if x.val ≤ t.val then (∑ d : Fin 192, q (ix3 h t d) * k (ix3 h x d)) * Ideal.ofBits .f32 0x3D93CD3A#32 else ⊥ := by
  unfold score
  rw [select_mask]
  congr 1
  pointwise

theorem redTop_at (s) (h : Fin 8) (t : Fin 8192) :
    redTop s (ix2 h t) = Finset.fold max (⊥ : EReal) (fun x : Fin 8192 => s (ix3 h t x)) Finset.univ := by
  unfold redTop
  pointwise
  rw [neg_inf_bits]

theorem max_bot (z : FVec Ideal S8x8192 .f32) (h : Fin 8) (t : Fin 8192) :
    maximumf (broadcastInDim S8x8192 ![] bcast_S_S8x8192 (constant S_ .f32 0xFF800000#32)) z (ix2 h t) = z (ix2 h t) := by
  show max (Ideal.ofBits .f32 0xFF800000#32) (z (ix2 h t)) = z (ix2 h t)
  rw [neg_inf_bits]
  exact max_eq_right bot_le

theorem rowTop_at (s) (h : Fin 8) (t : Fin 8192) :
    rowTop s (ix2 h t) = Finset.fold max (⊥ : EReal) (fun x : Fin 8192 => s (ix3 h t x)) Finset.univ :=
  (max_bot (redTop s) h t).trans (redTop_at s h t)

theorem spread_col (x) (h : Fin 8) (t s : Fin 8192) : spread (col x) (ix3 h t s) = x (ix2 h t) := by
  unfold spread col
  pointwise

theorem spread_at (x) (h : Fin 8) (t s : Fin 8192) : spread x (ix3 h t s) = x (ix3 h t 0) := by
  unfold spread
  pointwise

theorem expo_at (s) (h : Fin 8) (t x : Fin 8192) :
    expo s (ix3 h t x) = Ideal.exp (s (ix3 h t x) - rowTop s (ix2 h t)) := by
  unfold expo
  generalize rowTop s = z
  pointwise [spread_col]

theorem total_at (e) (h : Fin 8) (t : Fin 8192) : total e (ix3 h t 0) = ∑ x : Fin 8192, e (ix3 h t x) := by
  unfold total col
  pointwise

theorem prod_at (v ct) (h : Fin 8) (t s : Fin 8192) : prod v ct (ix3 h t s) = ∑ d : Fin 128, ct (ix3 h t d) * v (ix3 h s d) := by
  unfold prod
  pointwise

theorem inner_at (e p) (h : Fin 8) (t : Fin 8192) :
    inner e p (ix2 h t) = -∑ x : Fin 8192, p (ix3 h t x) * Ideal.div 1 (total e (ix3 h t 0) * total e (ix3 h t 0)) * e (ix3 h t x) := by
  unfold inner
  generalize total e = L
  pointwise [spread_at]
  simp only [Finset.univ_unique, Finset.sum_const, Finset.card_singleton, one_smul]

theorem dscore_at (e p) (h : Fin 8) (t s : Fin 8192) :
    dscore e p (ix3 h t s) = (if s.val ≤ t.val then (Ideal.div (p (ix3 h t s)) (total e (ix3 h t 0)) + inner e p (ix2 h t)) * e (ix3 h t s) else 0) * Ideal.ofBits .f32 0x3D93CD3A#32 := by
  unfold dscore
  generalize total e = L
  generalize inner e p = I
  pointwise [spread_at, select_mask]

end Cert.Reference3Ideal.Mla
end
-- ==== Proof.MlaRefReal.lean ====
module

public import proofs.«01_k».proof.Proof.MlaRefAt

@[expose] public section

set_option maxRecDepth 16384

noncomputable section

open Idealize.ShloMosaic Idealize.ShloMosaic.TcCoe Idealize.SL.Sem
open Idealize.ShloMosaic.Pipeline (Dat)

namespace Cert.Reference3Ideal.Mla

open Cert.Reference3Ideal Cert.Reference3Ideal.Gen Cert.Attn

variable {q k : FVec Ideal S8x8192x192 .f32} {v ct : FVec Ideal S8x8192x128 .f32}
  {rq rk : Fin 8 → Fin 8192 → Fin 192 → ℝ} {rv rg : Fin 8 → Fin 8192 → Fin 128 → ℝ} {c : ℝ}
  (hc : Ideal.ofBits .f32 0x3D93CD3A#32 = (c : EReal))
  (hq : ∀ h t d, q (ix3 h t d) = (rq h t d : EReal)) (hk : ∀ h t d, k (ix3 h t d) = (rk h t d : EReal))
  (hv : ∀ h t d, v (ix3 h t d) = (rv h t d : EReal)) (hg : ∀ h t d, ct (ix3 h t d) = (rg h t d : EReal))

include hc hq hk in
theorem score_real (h : Fin 8) (t x : Fin 8192) : score q k (ix3 h t x) = msk (sg rq rk c h) t x := by
  rw [score_at, msk]
  split
  · rw [hc, sg, EReal.coe_mul, coe_sum]
    congr 1
    exact Finset.sum_congr rfl fun d _ => by rw [hq, hk, EReal.coe_mul]
  · rfl

include hc hq hk in
theorem rowTop_real (h : Fin 8) (t : Fin 8192) : rowTop (score q k) (ix2 h t) = (top (sg rq rk c h) t : EReal) := by
  rw [rowTop_at, ← fold_top]
  simp only [score_real hc hq hk]

include hc hq hk in
theorem expo_real (h : Fin 8) (t x : Fin 8192) : expo (score q k) (ix3 h t x) = (ex (sg rq rk c h) t x : EReal) := by
  rw [expo_at, rowTop_real hc hq hk, score_real hc hq hk, exp_msk]

include hc hq hk in
theorem total_real (h : Fin 8) (t : Fin 8192) : total (expo (score q k)) (ix3 h t 0) = (tot (sg rq rk c h) t : EReal) := by
  rw [total_at, ← sum_ex]
  simp only [expo_real hc hq hk]

include hv hg in
theorem prod_real (h : Fin 8) (t s : Fin 8192) : prod v ct (ix3 h t s) = (dp rv rg h t s : EReal) := by
  rw [prod_at, dp, coe_sum]
  exact Finset.sum_congr rfl fun d _ => by rw [hv, hg, EReal.coe_mul]

include hc hq hk hv hg in
theorem inner_real (h : Fin 8) (t : Fin 8192) : inner (expo (score q k)) (prod v ct) (ix2 h t)
    = ((-∑ x, dp rv rg h t x * (1 / (tot (sg rq rk c h) t * tot (sg rq rk c h) t)) * ex (sg rq rk c h) t x : ℝ) : EReal) := by
  have e : Ideal.div 1 ((tot (sg rq rk c h) t : EReal) * (tot (sg rq rk c h) t : EReal))
      = ((1 / (tot (sg rq rk c h) t * tot (sg rq rk c h) t) : ℝ) : EReal) := by
    rw [← EReal.coe_mul, ← EReal.coe_one, div_real _ (mul_ne_zero (tot_ne _ t) (tot_ne _ t))]
  rw [inner_at, EReal.coe_neg, coe_sum]
  simp only [total_real hc hq hk, prod_real hv hg, expo_real hc hq hk, e, EReal.coe_mul]

include hc hq hk hv hg in
theorem dscore_real (h : Fin 8) (t s : Fin 8192) : dscore (expo (score q k)) (prod v ct) (ix3 h t s)
    = ((dsc (sg rq rk c h) (dp rv rg h) t s * c : ℝ) : EReal) := by
  rw [dscore_at, inner_real hc hq hk hv hg, total_real hc hq hk, prod_real hv hg, expo_real hc hq hk, hc,
    div_real _ (tot_ne _ t), EReal.coe_mul]
  congr 1
  split
  · rw [← dsc_eq, EReal.coe_mul, EReal.coe_add]
  · next e => rw [dsc_off _ _ _ _ e]; rfl

theorem dv_dot (w : FVec Ideal S8x8192x8192 .f32) (g : FVec Ideal S8x8192x128 .f32) (h : Fin 8) (s : Fin 8192) (d : Fin 128) :
    transpose S8x8192x128 [0, 2, 1] (Host.dotGeneral dot_S8x8192x128_S8x8192x8192_S8x128x8192_1_1_2_2_0_0 none (φ₁ := .f32) g w)
      transposes_S8x128x8192_S8x8192x128_0_2_1 (ix3 h s d) = ∑ t : Fin 8192, g (ix3 h t d) * w (ix3 h t s) := by
  pointwise

theorem dk_dot (w : FVec Ideal S8x8192x8192 .f32) (x : FVec Ideal S8x8192x192 .f32) (h : Fin 8) (s : Fin 8192) (d : Fin 192) :
    Host.dotGeneral dot_S8x8192x8192_S8x8192x192_S8x8192x192_1_1_2_2_0_0 none (φ₂ := .f32) w x (ix3 h s d)
      = ∑ t : Fin 8192, w (ix3 h t s) * x (ix3 h t d) := by
  pointwise

theorem dq_dot (w : FVec Ideal S8x8192x8192 .f32) (x : FVec Ideal S8x8192x192 .f32) (h : Fin 8) (t : Fin 8192) (d : Fin 192) :
    Host.dotGeneral dot_S8x8192x8192_S8x8192x192_S8x8192x192_2_1_1_2_0_0 none (φ₂ := .f32) w x (ix3 h t d)
      = ∑ s : Fin 8192, w (ix3 h t s) * x (ix3 h s d) := by
  pointwise

theorem quot_at (e : FVec Ideal S8x8192x8192 .f32) (z : FVec Ideal S8x8192x1 .f32) (h : Fin 8) (t s : Fin 8192) :
    Host.divf e (spread z) (ix3 h t s) = Ideal.div (e (ix3 h t s)) (z (ix3 h t 0)) := by
  pointwise [spread_at]

include hc hq hk hg in
theorem dv_real (h : Fin 8) (s : Fin 8192) (d : Fin 128) :
    transpose S8x8192x128 [0, 2, 1] (Host.dotGeneral dot_S8x8192x128_S8x8192x8192_S8x128x8192_1_1_2_2_0_0 none (φ₁ := .f32) ct
      (Host.divf (expo (score q k)) (spread (total (expo (score q k)))))) transposes_S8x128x8192_S8x8192x128_0_2_1 (ix3 h s d)
    = ((∑ t, rg h t d * wts (sg rq rk c h) t s : ℝ) : EReal) := by
  rw [dv_dot, coe_sum]
  refine Finset.sum_congr rfl fun t _ => ?_
  rw [quot_at, expo_real hc hq hk, total_real hc hq hk, div_ex, hg, EReal.coe_mul]

include hc hq hk hv hg in
theorem dk_real (h : Fin 8) (s : Fin 8192) (d : Fin 192) :
    Host.dotGeneral dot_S8x8192x8192_S8x8192x192_S8x8192x192_1_1_2_2_0_0 none (φ₂ := .f32) (dscore (expo (score q k)) (prod v ct)) q (ix3 h s d)
    = ((∑ t, dsc (sg rq rk c h) (dp rv rg h) t s * c * rq h t d : ℝ) : EReal) := by
  rw [dk_dot, coe_sum]
  refine Finset.sum_congr rfl fun t _ => ?_
  rw [dscore_real hc hq hk hv hg, hq, ← EReal.coe_mul]

include hc hq hk hv hg in
theorem dq_real (h : Fin 8) (t : Fin 8192) (d : Fin 192) :
    Host.dotGeneral dot_S8x8192x8192_S8x8192x192_S8x8192x192_2_1_1_2_0_0 none (φ₂ := .f32) (dscore (expo (score q k)) (prod v ct)) k (ix3 h t d)
    = ((∑ s, dsc (sg rq rk c h) (dp rv rg h) t s * c * rk h s d : ℝ) : EReal) := by
  rw [dq_dot, coe_sum]
  refine Finset.sum_congr rfl fun s _ => ?_
  rw [dscore_real hc hq hk hv hg, hk, ← EReal.coe_mul]

end Cert.Reference3Ideal.Mla
-- ==== Proof.MlaGrad.lean ====
module

public import proofs.«01_k».proof.Proof.MlaReal
public import proofs.«01_k».proof.Proof.MlaRefReal

@[expose] public section

set_option maxRecDepth 16384

noncomputable section

open Idealize.ShloMosaic Idealize.ShloMosaic.TcCoe Idealize.SL.Sem
open Idealize.ShloMosaic.Pipeline (Dat)

namespace Cert.Kernel3Ideal.Mla

open Cert.Kernel3Ideal Cert.Kernel3Ideal.Gen Cert.Attn

variable (m : (ℓ : Loc nD τ sig) → Buf (Elt Ideal) ℓ)

variable {rq rk : Fin 8 → Fin 8192 → Fin 192 → ℝ} {rv rg : Fin 8 → Fin 8192 → Fin 128 → ℝ} {r : ℝ}
  (c : Dev nD) (hc : Ideal.ofBits .f32 0x3D93CD3A#32 = (r : EReal))
  (hq : ∀ h t d, (m (c.tc.loc main_arg0) : FVec Ideal S8x8192x192 .f32) (ix3 h t d) = (rq h t d : EReal))
  (hk : ∀ h t d, (m (c.tc.loc main_arg1) : FVec Ideal S8x8192x192 .f32) (ix3 h t d) = (rk h t d : EReal))
  (hv : ∀ h t d, (m (c.tc.loc main_arg2) : FVec Ideal S8x8192x128 .f32) (ix3 h t d) = (rv h t d : EReal))
  (hg : ∀ h t d, (m (c.tc.loc main_arg3) : FVec Ideal S8x8192x128 .f32) (ix3 h t d) = (rg h t d : EReal))

/-- The product of two rows of 256 entries. -/
def dot256 (x y : FVec Ideal S8x8192x256 .bf16) (h : Fin 8) (s t : Fin 8192) : EReal := ∑ j : Fin 256, x (ix3 h s j) * y (ix3 h t j)

theorem dot_cols192 (x y : FVec Ideal S8x8192x256 .bf16) (h : Fin 8) (s t : Fin 8192) (g : Fin 192 → EReal) (z : EReal)
    (hg : ∀ d : Fin 192, x (ix3 h s ⟨d.val, by omega⟩) * y (ix3 h t ⟨d.val, by omega⟩) = g d)
    (hz : x (ix3 h s ⟨192, by omega⟩) * y (ix3 h t ⟨192, by omega⟩) = z)
    (h0 : ∀ j : Fin 256, 192 < j.val → x (ix3 h s j) * y (ix3 h t j) = 0) : dot256 x y h s t = (∑ d, g d) + z :=
  sum_cols 192 63 (fun j => x (ix3 h s j) * y (ix3 h t j)) g z hg hz h0

theorem dot_cols128 (x y : FVec Ideal S8x8192x256 .bf16) (h : Fin 8) (s t : Fin 8192) (g : Fin 128 → EReal) (z : EReal)
    (hg : ∀ d : Fin 128, x (ix3 h s ⟨d.val, by omega⟩) * y (ix3 h t ⟨d.val, by omega⟩) = g d)
    (hz : x (ix3 h s ⟨128, by omega⟩) * y (ix3 h t ⟨128, by omega⟩) = z)
    (h0 : ∀ j : Fin 256, 128 < j.val → x (ix3 h s j) * y (ix3 h t j) = 0) : dot256 x y h s t = (∑ d, g d) + z :=
  sum_cols 128 127 (fun j => x (ix3 h s j) * y (ix3 h t j)) g z hg hz h0

include hc hq hk in
theorem kq_sum (h : Fin 8) (s t : Fin 8192) :
    dot256 (V m c main_v73) (V m c main_v65) h s t
      = (sg rq rk r h t s : EReal) + -(lse (sg rq rk r h) t : EReal) := by
  refine (dot_cols192 _ _ h s t (fun d => ((rk h s d * (rq h t d * r) : ℝ) : EReal)) (-(lse (sg rq rk r h) t : EReal)) ?_ ?_ ?_).trans ?_
  · intro d
    have := d.isLt
    rw [q_at m c hc hq hk, k_at m c hk, if_neg (by simp <;> omega), dif_pos this, if_neg (by simp <;> omega), if_neg (by simp <;> omega),
      if_neg (by simp <;> omega), dif_pos this, ← EReal.coe_mul]
  · rw [q_at m c hc hq hk, k_at m c hk, if_pos (by simp), if_neg (by simp), if_neg (by simp), if_pos rfl, one_mul, EReal.coe_neg]
  · intro j hj
    rw [q_at m c hc hq hk]
    split
    · exact mul_zero _
    · split
      · exact mul_zero _
      · rw [if_neg (by omega), dif_neg (by omega), mul_zero]
  · rw [← coe_sum]
    congr 2
    unfold sg
    rw [Finset.sum_mul]
    exact Finset.sum_congr rfl fun d _ => by ring

include hc hq hk in
theorem wgt_real (h : Fin 8) (s t : Fin 8192) :
    wgt (V m c main_v65) (V m c main_v73) h s t = (wts (sg rq rk r h) t s : EReal) := by
  show (if s.val ≤ t.val then Ideal.exp (dot256 (V m c main_v73) (V m c main_v65) h s t) else 0) = _
  split
  · next e => rw [kq_sum m c hc hq hk, exp_lse _ _ _ e]
  · next e => rw [wts_off _ _ _ e]; rfl

include hc hq hk hv hg in
theorem vd_sum (h : Fin 8) (s t : Fin 8192) :
    dot256 (V m c main_v39) (V m c main_v99) h s t
      = ((dp rv rg h t s - mean (sg rq rk r h) (dp rv rg h) t : ℝ) : EReal) := by
  refine (dot_cols128 _ _ h s t (fun d => ((rv h s d * rg h t d : ℝ) : EReal)) ((-mean (sg rq rk r h) (dp rv rg h) t : ℝ) : EReal) ?_ ?_ ?_).trans ?_
  · intro d
    have := d.isLt
    rw [ct_at m c hc hq hk hv hg, v_at m c hv, if_neg (by simp <;> omega), dif_pos this, if_neg (by simp <;> omega), if_neg (by simp <;> omega),
      if_neg (by simp <;> omega), dif_pos this, EReal.coe_mul]
  · rw [ct_at m c hc hq hk hv hg, v_at m c hv, if_pos (by simp), if_neg (by simp), if_neg (by simp), if_pos rfl, one_mul]
  · intro j hj
    rw [ct_at m c hc hq hk hv hg]
    split
    · exact mul_zero _
    · split
      · exact mul_zero _
      · rw [if_neg (by omega), dif_neg (by omega), mul_zero]
  · rw [← coe_sum, ← EReal.coe_add, sub_eq_add_neg]
    congr 2
    unfold dp
    exact Finset.sum_congr rfl fun d _ => by ring

include hc hq hk hv hg in
theorem grd_real (h : Fin 8) (s t : Fin 8192) :
    grd (V m c main_v65) (V m c main_v73) (V m c main_v39) (V m c main_v99) h s t = (dsc (sg rq rk r h) (dp rv rg h) t s : EReal) := by
  show wgt (V m c main_v65) (V m c main_v73) h s t * dot256 (V m c main_v39) (V m c main_v99) h s t = _
  rw [wgt_real m c hc hq hk, vd_sum m c hc hq hk hv hg, ← EReal.coe_mul]
  rfl

include hc hq hk hv hg in
theorem dv_real (h : Fin 8) (s : Fin 8192) (d : Fin 128) :
    (∑ u : Fin 8192, wgt (V m c main_v65) (V m c main_v73) h s u * (V m c main_v99 : FVec Ideal S8x8192x256 .bf16) (ix3 h u ⟨d.val, by omega⟩))
      = ((∑ t, rg h t d * wts (sg rq rk r h) t s : ℝ) : EReal) := by
  rw [coe_sum]
  refine Finset.sum_congr rfl fun t _ => ?_
  have := d.isLt
  rw [wgt_real m c hc hq hk, ct_at m c hc hq hk hv hg, if_neg (by simp <;> omega), if_neg (by simp <;> omega), if_neg (by simp <;> omega),
    dif_pos this, EReal.coe_mul, mul_comm]

include hc hq hk hv hg in
theorem dk_real (h : Fin 8) (s : Fin 8192) (d : Fin 192) :
    (∑ u : Fin 8192, grd (V m c main_v65) (V m c main_v73) (V m c main_v39) (V m c main_v99) h s u
        * (V m c main_v65 : FVec Ideal S8x8192x256 .bf16) (ix3 h u ⟨d.val, by omega⟩))
      = ((∑ t, dsc (sg rq rk r h) (dp rv rg h) t s * r * rq h t d : ℝ) : EReal) := by
  rw [coe_sum]
  refine Finset.sum_congr rfl fun t _ => ?_
  have := d.isLt
  rw [grd_real m c hc hq hk hv hg, q_at m c hc hq hk, if_neg (by simp <;> omega), if_neg (by simp <;> omega), if_neg (by simp <;> omega),
    dif_pos this, ← EReal.coe_mul]
  congr 1
  ring

include hc hq hk hv hg in
theorem dq_real (h : Fin 8) (t : Fin 8192) (d : Fin 192) :
    (∑ s : Fin 8192, grd (V m c main_v65) (V m c main_v73) (V m c main_v39) (V m c main_v99) h s t
        * (V m c main_v73 : FVec Ideal S8x8192x256 .bf16) (ix3 h s ⟨d.val, by omega⟩)) * Ideal.ofBits .f32 0x3D93CD3A#32
      = ((∑ s, dsc (sg rq rk r h) (dp rv rg h) t s * r * rk h s d : ℝ) : EReal) := by
  have e : ∑ s, dsc (sg rq rk r h) (dp rv rg h) t s * r * rk h s d = (∑ s, dsc (sg rq rk r h) (dp rv rg h) t s * rk h s d) * r := by
    rw [Finset.sum_mul]
    exact Finset.sum_congr rfl fun s _ => by ring
  rw [e, hc, EReal.coe_mul, coe_sum]
  refine congrArg (fun z : EReal => z * (r : EReal)) (Finset.sum_congr rfl fun s _ => ?_)
  have := d.isLt
  rw [grd_real m c hc hq hk hv hg, k_at m c hk, if_neg (by simp <;> omega), dif_pos this, ← EReal.coe_mul]

end Cert.Kernel3Ideal.Mla
-- ==== Proof.MlaRes.lean ====
module

public import proofs.«01_k».proof.Proof.MlaGrad

@[expose] public section

set_option maxRecDepth 16384

noncomputable section

open Idealize.ShloMosaic Idealize.ShloMosaic.TcCoe Idealize.SL.Sem
open Idealize.ShloMosaic.Pipeline (Dat)

namespace Cert.Kernel3Ideal.Mla

open Cert.Kernel3Ideal Cert.Kernel3Ideal.Gen Cert.Attn

variable (m : (ℓ : Loc nD τ sig) → Buf (Elt Ideal) ℓ)

theorem arr_inj : Function.Injective (Pipeline.arrRef spec0) := by decide

theorem read_v101 (W : Valuation τ sig (Elt Ideal)) : StableHlo.after [hostOps1].flatten W (Proc.devRef .tc main_v101) =
    extractStridedSlice (s := S8x8192x256) (α := Ideal .f32) S8x8192x192 ![0, 0, 0] (W (Proc.devRef .tc main_v100_0)) slices_S8x8192x256_S8x8192x192_0_0_0 := by
  simp only [List.flatten_cons, List.flatten_nil, List.append_nil]
  after_reads_simp

theorem res_v101 (c : Dev nD) : Pipeline.afterTail₀ cfgs (dats m) 0 (V0 m) [hostOps1] c main_v101 =
    extractStridedSlice S8x8192x192 ![0, 0, 0] (dqArr (V m c main_v65) (V m c main_v73) (V m c main_v39) (V m c main_v99)) slices_S8x8192x256_S8x8192x192_0_0_0 :=
  (read_v101 _).trans (congrArg (fun x => extractStridedSlice (s := S8x8192x256) (α := Ideal .f32) S8x8192x192 ![0, 0, 0] x slices_S8x8192x256_S8x8192x192_0_0_0)
    ((Pipeline.withArrays_arr spec0 arr_inj c _ _ 4).trans (arr_q m c)))

theorem slicev101 (x : FVec Ideal S8x8192x256 .f32) (h : Fin 8) (t : Fin 8192) (d : Fin 192) :
    extractStridedSlice S8x8192x192 ![0, 0, 0] x slices_S8x8192x256_S8x8192x192_0_0_0 (ix3 h t d) = x (ix3 h t ⟨d.val, by omega⟩) := by
  pointwise

theorem read_v102 (W : Valuation τ sig (Elt Ideal)) : StableHlo.after [hostOps1].flatten W (Proc.devRef .tc main_v102) =
    extractStridedSlice (s := S8x8192x256) (α := Ideal .f32) S8x8192x192 ![0, 0, 0] (W (Proc.devRef .tc main_v100_1)) slices_S8x8192x256_S8x8192x192_0_0_0 := by
  simp only [List.flatten_cons, List.flatten_nil, List.append_nil]
  after_reads_simp

theorem res_v102 (c : Dev nD) : Pipeline.afterTail₀ cfgs (dats m) 0 (V0 m) [hostOps1] c main_v102 =
    extractStridedSlice S8x8192x192 ![0, 0, 0] (dkArr (V m c main_v65) (V m c main_v73) (V m c main_v39) (V m c main_v99)) slices_S8x8192x256_S8x8192x192_0_0_0 :=
  (read_v102 _).trans (congrArg (fun x => extractStridedSlice (s := S8x8192x256) (α := Ideal .f32) S8x8192x192 ![0, 0, 0] x slices_S8x8192x256_S8x8192x192_0_0_0)
    ((Pipeline.withArrays_arr spec0 arr_inj c _ _ 5).trans (arr_k m c)))

theorem slicev102 (x : FVec Ideal S8x8192x256 .f32) (h : Fin 8) (t : Fin 8192) (d : Fin 192) :
    extractStridedSlice S8x8192x192 ![0, 0, 0] x slices_S8x8192x256_S8x8192x192_0_0_0 (ix3 h t d) = x (ix3 h t ⟨d.val, by omega⟩) := by
  pointwise

theorem read_v103 (W : Valuation τ sig (Elt Ideal)) : StableHlo.after [hostOps1].flatten W (Proc.devRef .tc main_v103) =
    extractStridedSlice (s := S8x8192x256) (α := Ideal .f32) S8x8192x128 ![0, 0, 0] (W (Proc.devRef .tc main_v100_2)) slices_S8x8192x256_S8x8192x128_0_0_0 := by
  simp only [List.flatten_cons, List.flatten_nil, List.append_nil]
  after_reads_simp

theorem res_v103 (c : Dev nD) : Pipeline.afterTail₀ cfgs (dats m) 0 (V0 m) [hostOps1] c main_v103 =
    extractStridedSlice S8x8192x128 ![0, 0, 0] (dvArr (V m c main_v65) (V m c main_v73) (V m c main_v99)) slices_S8x8192x256_S8x8192x128_0_0_0 :=
  (read_v103 _).trans (congrArg (fun x => extractStridedSlice (s := S8x8192x256) (α := Ideal .f32) S8x8192x128 ![0, 0, 0] x slices_S8x8192x256_S8x8192x128_0_0_0)
    ((Pipeline.withArrays_arr spec0 arr_inj c _ _ 6).trans (arr_v m c)))

theorem slicev103 (x : FVec Ideal S8x8192x256 .f32) (h : Fin 8) (t : Fin 8192) (d : Fin 128) :
    extractStridedSlice S8x8192x128 ![0, 0, 0] x slices_S8x8192x256_S8x8192x128_0_0_0 (ix3 h t d) = x (ix3 h t ⟨d.val, by omega⟩) := by
  pointwise

end Cert.Kernel3Ideal.Mla
-- ==== Proof.MlaFrame.lean ====
/- The frame of the backward attention with its constant rounded, from the run of the kernel at any values. -/
module

public import proofs.«01_k».proof.Proof.MlaRun
public import proofs.«01_k».proof.Proof.Gen.Kernel3

@[expose] public section

noncomputable section

namespace Cert.Kernel3Ideal.Mla

open Idealize.ShloMosaic Idealize.SL.Sem

/-- At words a named constant is the word it stands for. -/
local instance wordNamed : Named Bits where
  named _ _ {φ} bits := FloatOps.ofBits φ bits

theorem frame_rounded [hK : Cert.Kernel3.Facts] : Cert.quiescent_Kernel3 := fun m ρ _ =>
  cast (by sl_kernel_rfl) (frame_all (F := Bits) m ρ)

theorem frame_ideal [hK : Cert.Kernel3Ideal.Facts] : Cert.quiescent_Kernel3Ideal := fun m ρ _ =>
  frame_all (F := Ideal) m ρ

end Cert.Kernel3Ideal.Mla

end

end
-- ==== Proof.MlaPair.lean ====
module

public import proofs.«01_k».proof.Proof.MlaRes
public import proofs.«01_k».proof.Proof.MlaFrame

@[expose] public section

set_option maxRecDepth 16384

noncomputable section

open Idealize.ShloMosaic Idealize.ShloMosaic.TcCoe Idealize.SL.Sem
open Idealize.ShloMosaic.Pipeline (Dat)

namespace Cert.Kernel3Ideal.Mla

open Cert.Kernel3Ideal Cert.Kernel3Ideal.Gen Cert.Attn

variable (m : (ℓ : Loc nD τ sig) → Buf (Elt Ideal) ℓ)

variable (m' : (ℓ : Loc Reference3Ideal.nD Reference3Ideal.τ Reference3Ideal.sig) → Buf (Elt Ideal) ℓ)

/-- The three gradients agree, on finite arguments. -/
theorem grads_eq [hP : Cert.Pre_mla_finite.Facts] (hpre : Cert.Pre_Kernel3Ideal_mla_finite m) (c : Dev nD)
    (e0 : m' (c.tc.loc Reference3Ideal.main_arg0) = m (c.tc.loc main_arg0)) (e1 : m' (c.tc.loc Reference3Ideal.main_arg1) = m (c.tc.loc main_arg1))
    (e2 : m' (c.tc.loc Reference3Ideal.main_arg2) = m (c.tc.loc main_arg2)) (e3 : m' (c.tc.loc Reference3Ideal.main_arg3) = m (c.tc.loc main_arg3)) :
    Reference3Ideal.Value.res_main_v58 m' c = Pipeline.afterTail₀ cfgs (dats m) 0 (V0 m) [hostOps1] c main_v101
    ∧ Reference3Ideal.Value.res_main_v57 m' c = Pipeline.afterTail₀ cfgs (dats m) 0 (V0 m) [hostOps1] c main_v102
    ∧ Reference3Ideal.Value.res_main_v40 m' c = Pipeline.afterTail₀ cfgs (dats m) 0 (V0 m) [hostOps1] c main_v103 := by
  obtain ⟨p0, p1, p2, p3⟩ := hpre c
  have hq := fun h t d => real_of_ones (m (c.tc.loc main_arg0) : FVec Ideal S8x8192x192 .f32) _ (fun _ => rfl) p0 (ix3 h t d)
  have hk := fun h t d => real_of_ones (m (c.tc.loc main_arg1) : FVec Ideal S8x8192x192 .f32) _ (fun _ => rfl) p1 (ix3 h t d)
  have hv := fun h t d => real_of_ones (m (c.tc.loc main_arg2) : FVec Ideal S8x8192x128 .f32) _ (fun _ => rfl) p2 (ix3 h t d)
  have hg := fun h t d => real_of_ones (m (c.tc.loc main_arg3) : FVec Ideal S8x8192x128 .f32) _ (fun _ => rfl) p3 (ix3 h t d)
  rw [res_v101, res_v102, res_v103, Reference3Ideal.Mla.dq_eq, Reference3Ideal.Mla.dk_eq, Reference3Ideal.Mla.dv_eq]
  simp only [Reference3Ideal.Mla.sc, Reference3Ideal.Mla.pr]
  rw [e0, e1, e2, e3]
  refine ⟨?_, ?_, ?_⟩
  · funext y
    idx_vars y
    exact (Reference3Ideal.Mla.dq_real scale_real hq hk hv hg y0 y1 y2).trans
      ((slicev101 _ y0 y1 y2).trans (dq_real m c scale_real hq hk hv hg y0 y1 y2)).symm
  · funext y
    idx_vars y
    exact (Reference3Ideal.Mla.dk_real scale_real hq hk hv hg y0 y1 y2).trans
      ((slicev102 _ y0 y1 y2).trans (dk_real m c scale_real hq hk hv hg y0 y1 y2)).symm
  · funext y
    idx_vars y
    exact (Reference3Ideal.Mla.dv_real scale_real hq hk hg y0 y1 y2).trans
      ((slicev103 _ y0 y1 y2).trans (dv_real m c scale_real hq hk hv hg y0 y1 y2)).symm

instance preFacts : Cert.Pre_mla_finite.Facts := ⟨by decide, by decide⟩

theorem preserves : Cert.preserves_Kernel3_Kernel3Ideal :=
  IdealRules.named_const.statement Cert.Kernel3Ideal.κ "mask" .f32 0xF149F2CA#32 ⊥ rfl

theorem algebraic [hP : Cert.Pre_mla_finite.Facts] : Cert.algebraic_Kernel3Ideal_Reference3Ideal_pre_mla_finite := by
  intro m g m' g' hpre hagree
  refine ⟨fun c => Pipeline.afterTail₀ cfgs (dats m) 0 (V0 m) [hostOps1] c main_v101, fun c => Pipeline.afterTail₀ cfgs (dats m) 0 (V0 m) [hostOps1] c main_v102,
    fun c => Pipeline.afterTail₀ cfgs (dats m) 0 (V0 m) [hostOps1] c main_v103, ?_, ?_⟩
  · refine θ_run_mono (θ_run_and (run_main m g) (frame_all m g)) fun r h c => ?_
    exact ⟨(h.1 c).2 main_v101 (by decide), (h.1 c).2 main_v102 (by decide), (h.1 c).2 main_v103 (by decide), h.2.1 c⟩
  · refine θ_run_mono (Reference3Ideal.Value.run m' g') fun r h c => ?_
    have e := grads_eq m m' hpre c (hagree c).1 (hagree c).2.1 (hagree c).2.2.1 (hagree c).2.2.2
    exact ⟨(h c).1.trans e.1, (h c).2.1.trans e.2.1, (h c).2.2.1.trans e.2.2, (h c).2.2.2⟩

end Cert.Kernel3Ideal.Mla
-- ==== Proof.QANorm.lean ====
module

public import proofs.«01_k».proof.Defs
public import proofs.«01_k».proof.Proof.Gen.Kernel5Ideal.Frame
public import proofs.«01_k».proof.Proof.Gen.Reference5Ideal.Run
public import proofs.«01_k».proof.Proof.NormRow
public import Idealize.ShloMosaic.Lib.StableHlo.RunRead
public import Idealize.ShloMosaic.Lib.Pipeline.ValueKit

/-! The gradient of the norm of the compressed queries: the values of the call are those of the derivative. -/

@[expose] public section

set_option maxRecDepth 16384

noncomputable section

open Idealize.ShloMosaic Idealize.ShloMosaic.TcCoe Idealize.SL.Sem
open Idealize.ShloMosaic.Pipeline (Dat)

namespace Cert.Kernel5Ideal.NormGrad

open Cert.Kernel5Ideal Cert.Kernel5Ideal.Gen Cert.Norm

variable (m : (ℓ : Loc nD τ sig) → Buf (Elt Ideal) ℓ)

theorem idx : ∀ t : Fin cfg0.N, win0_0.index t = ![t.val, 0] ∧ win0_1.index t = ![0, 0]
    ∧ win0_2.index t = ![t.val, 0] ∧ win0_3.index t = ![t.val, 0] ∧ win0_4.index t = ![0, 0] :=
  (by decide +kernel : ∀ t : Fin grid0.N, _)

/-- The width as the programs write it, and the small constant. -/
def wid : EReal := Ideal.ofBits .f32 0x43C00000#32
theorem wid_real : wid = ((384 : ℝ) : EReal) := by
  unfold wid; simp only [Ideal.ofBits]; unfold Ideal.ieee; simp; rw [← EReal.coe_mul]; norm_num

/-- A row of an array, and of the cotangent times the gain. -/
def row (x : FVec Ideal S8192x384 .f32) (t : Fin 8192) (k : Fin 384) : EReal := x (ix2 t k)
def cg (ct : FVec Ideal S8192x384 .f32) (g : FVec Ideal S384 .f32) (t : Fin 8192) (k : Fin 384) : EReal := ct (ix2 t k) * g (ix1 k)

/-- What one step of the grid stores of the row gradient. -/
theorem dx_at (x ct : FVec Ideal S512x384 .f32) (g : FVec Ideal S1x384 .f32) (r : Fin 512) (j : Fin 384) :
    k0_pay4 (F := Ideal) x ct g (ix2 r j)
      = handDx wid eps (fun k => x (ix2 r k)) (fun k => ct (ix2 r k) * g (ix2 (0 : Fin 1) k)) j := by
  pointwise [k0_pay4, k0_pay3, k0_pay2]
  rfl

/-- One row's part of the gain's gradient. -/
def part (x ct : FVec Ideal S512x384 .f32) (r : Fin 512) (j : Fin 384) : EReal :=
  ct (ix2 r j) * (x (ix2 r j) * rr wid eps (fun k => x (ix2 r k)))

theorem dg_at (x ct : FVec Ideal S512x384 .f32) (acc : FVec Ideal S1x384 .f32) (z : Fin 1) (j : Fin 384) :
    k0_pay5 (F := Ideal) x ct acc (ix2 z j) = acc (ix2 z j) + ∑ r : Fin 512, part x ct r j := by
  pointwise [k0_pay5, k0_pay3, k0_pay2]
  rfl

/-- The second coordinate of an index of one row. -/
def col (j : S1x384.Idx) : Fin 384 := j 1

theorem dg_step (x ct : FVec Ideal S512x384 .f32) (acc : FVec Ideal S1x384 .f32) (j : S1x384.Idx) :
    k0_pay5 (F := Ideal) x ct acc j = acc j + ∑ r : Fin 512, part x ct r (col j) := by
  idx_vars j
  exact dg_at x ct acc j0 j1

theorem zero_at (j) : k0_pay1 (F := Ideal) j = 0 := by pointwise [k0_pay1]

/-- The gain's gradient: a sum over all rows. -/
def gain (x ct : FVec Ideal S8192x384 .f32) (j : Fin 384) : EReal :=
  ∑ t : Fin 8192, ct (ix2 t j) * (x (ix2 t j) * rr wid eps (row x t))

/-- The same with the factors the other way round. -/
def gain' (x ct : FVec Ideal S8192x384 .f32) (j : Fin 384) : EReal :=
  ∑ t : Fin 8192, x (ix2 t j) * rr wid eps (row x t) * ct (ix2 t j)

theorem gain_comm (x ct : FVec Ideal S8192x384 .f32) (j : Fin 384) : gain' x ct j = gain x ct j :=
  Finset.sum_congr rfl fun t _ => mul_comm _ _

/-- On real rows the two gradients are the same. -/
theorem row_eq (x ct : FVec Ideal S8192x384 .f32) (g : FVec Ideal S384 .f32) (hx : ∀ i, x i = ((x i).toReal : EReal))
    (hg : ∀ i, g i = ((g i).toReal : EReal)) (hc : ∀ i, ct i = ((ct i).toReal : EReal)) (t : Fin 8192) (j : Fin 384) :
    handDx wid eps (row x t) (cg ct g t) j = diffDx wid eps half (row x t) (cg ct g t) j := by
  obtain ⟨e, he, hE⟩ := eps_real
  have h1 : row x t = fun k => ((x (ix2 t k)).toReal : EReal) := funext fun k => hx _
  have h2 : cg ct g t = fun k => (((ct (ix2 t k)).toReal * (g (ix1 k)).toReal : ℝ) : EReal) := funext fun k => by
    rw [EReal.coe_mul, ← hc, ← hg]; rfl
  rw [h1, h2, wid_real, half_real, hE]
  exact dx_eq (by norm_num) he _ _ j

theorem gain_at (c : Dev nD) (k : Fin 384) : V m c main_v0 (ix2 (0 : Fin 1) k) = m (c.tc.loc main_arg1) (ix1 k) := by
  entry_read
  pointwise

/-- Either case of the first output stores the same value. -/
theorem out_dx (c : Dev nD) (t : Fin cfg0.N) : (outsAt0 m c t.val t.isLt).1 = k0_pay4 (F := Ideal) (iblk m c 0 t) (iblk m c 2 t) (iblk m c 1 t) := by
  by_cases h : t.val % 16 = 0
  · rw [outsAt0_A m c t h]; frame_out
  · rw [outsAt0_B m c t h]; frame_out

theorem blk_x (c : Dev nD) (t : Fin cfg0.N) (r : Fin 512) (k : Fin 384) (u : Fin 8192) (hu : u.val = t.val * 512 + r.val) :
    iblk m c 0 t (ix2 r k) = row (m (c.tc.loc main_arg0)) u k := by
  have ht : t.val < 16 := lt_of_lt_of_eq t.isLt N_0
  rw [Fin.ext hu (a := u) (b := ⟨t.val * 512 + r.val, by omega⟩)]
  blk_point [iblk, V, idx t]

theorem blk_ct (c : Dev nD) (t : Fin cfg0.N) (r : Fin 512) (k : Fin 384) (u : Fin 8192) (hu : u.val = t.val * 512 + r.val) :
    iblk m c 2 t (ix2 r k) = row (m (c.tc.loc main_arg2)) u k := by
  have ht : t.val < 16 := lt_of_lt_of_eq t.isLt N_0
  rw [Fin.ext hu (a := u) (b := ⟨t.val * 512 + r.val, by omega⟩)]
  blk_point [iblk, V, idx t]

theorem blk_g (c : Dev nD) (t : Fin cfg0.N) (k : Fin 384) :
    iblk m c 1 t (ix2 (0 : Fin 1) k) = (m (c.tc.loc main_arg1) : FVec Ideal S384 .f32) (ix1 k) := by
  refine Eq.trans ?_ (gain_at m c k)
  blk_point [iblk, idx t]

theorem part_eq (c : Dev nD) (t : Fin cfg0.N) (r : Fin 512) (j : Fin 384) (u : Fin 8192) (hu : u.val = t.val * 512 + r.val) :
    part (iblk m c 0 t) (iblk m c 2 t) r j = row (m (c.tc.loc main_arg2)) u j
      * (row (m (c.tc.loc main_arg0)) u j * rr wid eps (row (m (c.tc.loc main_arg0)) u)) := by
  unfold part
  simp only [blk_x m c t r _ u hu, blk_ct m c t r _ u hu]

instance preFacts : Cert.Pre_q_a_norm_finite.Facts := by constructor <;> decide

set_option maxHeartbeats 1600000 in
theorem algebraic [hP : Cert.Pre_q_a_norm_finite.Facts] : Cert.algebraic_Kernel5Ideal_Reference5Ideal_pre_q_a_norm_finite := by
  pair_intro
  · run_from Cert.Kernel5Ideal.Gen.run_main m g
  · run_from Cert.Reference5Ideal.Value.run m' g'
    · symm
      generalize hG : (addf _ _ : FVec Ideal S8192x384 .f32) = G
      have ref_at : ∀ (t : Fin 8192) (j : Fin 384), G (ix2 t j)
          = diffDx wid eps half (row (m (c.tc.loc main_arg0)) t) (cg (m (c.tc.loc main_arg2)) (m (c.tc.loc main_arg1)) t) j := by
        intro t j
        subst hG
        pointwise [hagree c]
        simp only [Finset.univ_unique, Finset.sum_const, Finset.card_singleton, one_smul]
        rfl
      refine (dats m 0 c).arrAt_eq_of_covers 3 _ (by decide +kernel) fun t _ y => ?_
      blk_simp
      rw [after0_3, out_dx m c t]
      idx_vars y
      have ht : t.val < 16 := lt_of_lt_of_eq t.isLt N_0
      have hj : (((View.whole main_v1_0).slice (win0_3.rect t)).emb (ix2 y0 y1))
        = ix2 (⟨t.val * 512 + y0.val, by omega⟩ : Fin 8192) (y1 : Fin 384) := by
        blk_ext [idx t]
      rw [hj]
      refine Eq.trans ?_ (ref_at _ _).symm
      refine (dx_at _ _ _ y0 y1).trans ?_
      simp only [blk_g m c t, blk_x m c t y0 _ (⟨t.val * 512 + y0.val, by omega⟩ : Fin 8192) rfl, blk_ct m c t y0 _ (⟨t.val * 512 + y0.val, by omega⟩ : Fin 8192) rfl]
      obtain ⟨p0, p1, p2⟩ := hpre c
      exact row_eq _ _ _ (real_of_ones _ _ (fun _ => rfl) p0) (real_of_ones _ _ (fun _ => rfl) p1) (real_of_ones _ _ (fun _ => rfl) p2) _ _
    · symm
      generalize hG : (shapeCast _ (Host.reduceAdd _ _ _ _) _ : FVec Ideal S1x384 .f32) = G
      have ref_at : ∀ (z : Fin 1) (j : Fin 384), G (ix2 z j) = gain (m (c.tc.loc main_arg0)) (m (c.tc.loc main_arg2)) j := by
        intro z j
        refine Eq.trans ?_ (gain_comm _ _ _)
        subst hG
        pointwise [hagree c]
        simp only [Finset.univ_unique, Finset.sum_const, Finset.card_singleton, one_smul]
        rfl
      refine (dats m 0 c).arrAt_eq_of_covers 4 _ (by decide +kernel) fun t hf y => ?_
      blk_simp
      idx_vars y
      have hj : (((View.whole main_v1_1).slice (win0_4.rect t)).emb (ix2 y0 y1)) = ix2 (y0 : Fin 1) (y1 : Fin 384) := by
        blk_ext [idx t]
      rw [hj, ref_at]
      rw [after0_4, Pipeline.eq_sum_fin_of_reset_step_apply_of_flush (fun n h => (outsAt0 m c n h).2) 16 (fun _ => 0) _
        (fun t h j => by rw [outsAt0_A m c t h]; frame_out; rw [dg_step, zero_at])
        (fun t h j => by rw [outsAt0_B m c t h]; frame_out; rw [dg_step])
        t ((flush0_4 t).mp hf) _, zero_add]
      have ht : t.val < 16 := lt_of_lt_of_eq t.isLt N_0
      refine Fin.sum_mul_add_congr fun s k hl => ?_
      refine (part_eq m c _ k _ ⟨s.val * 512 + k.val, hl⟩ ?_).trans rfl
      have hs : 16 * (t.val / 16) + s.val = s.val := by omega
      simp only [hs]

end Cert.Kernel5Ideal.NormGrad
-- ==== Proof.KvANorm.lean ====
module

public import proofs.«01_k».proof.Defs
public import proofs.«01_k».proof.Proof.Gen.Kernel6Ideal.Frame
public import proofs.«01_k».proof.Proof.Gen.Reference6Ideal.Run
public import proofs.«01_k».proof.Proof.NormRow
public import Idealize.ShloMosaic.Lib.StableHlo.RunRead
public import Idealize.ShloMosaic.Lib.Pipeline.ValueKit

/-! The gradient of the norm of the compressed keys and values. -/

@[expose] public section

set_option maxRecDepth 16384

noncomputable section

open Idealize.ShloMosaic Idealize.ShloMosaic.TcCoe Idealize.SL.Sem
open Idealize.ShloMosaic.Pipeline (Dat)

namespace Cert.Kernel6Ideal.NormGrad

open Cert.Kernel6Ideal Cert.Kernel6Ideal.Gen Cert.Norm

variable (m : (ℓ : Loc nD τ sig) → Buf (Elt Ideal) ℓ)

theorem idx : ∀ t : Fin cfg0.N, win0_0.index t = ![t.val, 0] ∧ win0_1.index t = ![0, 0]
    ∧ win0_2.index t = ![t.val, 0] ∧ win0_3.index t = ![t.val, 0] ∧ win0_4.index t = ![0, 0] :=
  (by decide +kernel : ∀ t : Fin grid0.N, _)

/-- The width as the programs write it, and the small constant. -/
def wid : EReal := Ideal.ofBits .f32 0x43800000#32
theorem wid_real : wid = ((256 : ℝ) : EReal) := by
  unfold wid; simp only [Ideal.ofBits]; unfold Ideal.ieee; simp; rw [← EReal.coe_mul]; norm_num

/-- A row of an array, and of the cotangent times the gain. -/
def row (x : FVec Ideal S8192x256 .f32) (t : Fin 8192) (k : Fin 256) : EReal := x (ix2 t k)
def cg (ct : FVec Ideal S8192x256 .f32) (g : FVec Ideal S256 .f32) (t : Fin 8192) (k : Fin 256) : EReal := ct (ix2 t k) * g (ix1 k)

/-- What one step of the grid stores of the row gradient. -/
theorem dx_at (x ct : FVec Ideal S512x256 .f32) (g : FVec Ideal S1x256 .f32) (r : Fin 512) (j : Fin 256) :
    k0_pay4 (F := Ideal) x ct g (ix2 r j)
      = handDx wid eps (fun k => x (ix2 r k)) (fun k => ct (ix2 r k) * g (ix2 (0 : Fin 1) k)) j := by
  pointwise [k0_pay4, k0_pay3, k0_pay2]
  rfl

/-- One row's part of the gain's gradient. -/
def part (x ct : FVec Ideal S512x256 .f32) (r : Fin 512) (j : Fin 256) : EReal :=
  ct (ix2 r j) * (x (ix2 r j) * rr wid eps (fun k => x (ix2 r k)))

theorem dg_at (x ct : FVec Ideal S512x256 .f32) (acc : FVec Ideal S1x256 .f32) (z : Fin 1) (j : Fin 256) :
    k0_pay5 (F := Ideal) x ct acc (ix2 z j) = acc (ix2 z j) + ∑ r : Fin 512, part x ct r j := by
  pointwise [k0_pay5, k0_pay3, k0_pay2]
  rfl

/-- The second coordinate of an index of one row. -/
def col (j : S1x256.Idx) : Fin 256 := j 1

theorem dg_step (x ct : FVec Ideal S512x256 .f32) (acc : FVec Ideal S1x256 .f32) (j : S1x256.Idx) :
    k0_pay5 (F := Ideal) x ct acc j = acc j + ∑ r : Fin 512, part x ct r (col j) := by
  idx_vars j
  exact dg_at x ct acc j0 j1

theorem zero_at (j) : k0_pay1 (F := Ideal) j = 0 := by pointwise [k0_pay1]

/-- The gain's gradient: a sum over all rows. -/
def gain (x ct : FVec Ideal S8192x256 .f32) (j : Fin 256) : EReal :=
  ∑ t : Fin 8192, ct (ix2 t j) * (x (ix2 t j) * rr wid eps (row x t))

/-- The same with the factors the other way round. -/
def gain' (x ct : FVec Ideal S8192x256 .f32) (j : Fin 256) : EReal :=
  ∑ t : Fin 8192, x (ix2 t j) * rr wid eps (row x t) * ct (ix2 t j)

theorem gain_comm (x ct : FVec Ideal S8192x256 .f32) (j : Fin 256) : gain' x ct j = gain x ct j :=
  Finset.sum_congr rfl fun t _ => mul_comm _ _

/-- On real rows the two gradients are the same. -/
theorem row_eq (x ct : FVec Ideal S8192x256 .f32) (g : FVec Ideal S256 .f32) (hx : ∀ i, x i = ((x i).toReal : EReal))
    (hg : ∀ i, g i = ((g i).toReal : EReal)) (hc : ∀ i, ct i = ((ct i).toReal : EReal)) (t : Fin 8192) (j : Fin 256) :
    handDx wid eps (row x t) (cg ct g t) j = diffDx wid eps half (row x t) (cg ct g t) j := by
  obtain ⟨e, he, hE⟩ := eps_real
  have h1 : row x t = fun k => ((x (ix2 t k)).toReal : EReal) := funext fun k => hx _
  have h2 : cg ct g t = fun k => (((ct (ix2 t k)).toReal * (g (ix1 k)).toReal : ℝ) : EReal) := funext fun k => by
    rw [EReal.coe_mul, ← hc, ← hg]; rfl
  rw [h1, h2, wid_real, half_real, hE]
  exact dx_eq (by norm_num) he _ _ j

theorem gain_at (c : Dev nD) (k : Fin 256) : V m c main_v0 (ix2 (0 : Fin 1) k) = m (c.tc.loc main_arg1) (ix1 k) := by
  entry_read
  pointwise

/-- Either case of the first output stores the same value. -/
theorem out_dx (c : Dev nD) (t : Fin cfg0.N) : (outsAt0 m c t.val t.isLt).1 = k0_pay4 (F := Ideal) (iblk m c 0 t) (iblk m c 2 t) (iblk m c 1 t) := by
  by_cases h : t.val % 16 = 0
  · rw [outsAt0_A m c t h]; frame_out
  · rw [outsAt0_B m c t h]; frame_out

theorem blk_x (c : Dev nD) (t : Fin cfg0.N) (r : Fin 512) (k : Fin 256) (u : Fin 8192) (hu : u.val = t.val * 512 + r.val) :
    iblk m c 0 t (ix2 r k) = row (m (c.tc.loc main_arg0)) u k := by
  have ht : t.val < 16 := lt_of_lt_of_eq t.isLt N_0
  rw [Fin.ext hu (a := u) (b := ⟨t.val * 512 + r.val, by omega⟩)]
  blk_point [iblk, V, idx t]

theorem blk_ct (c : Dev nD) (t : Fin cfg0.N) (r : Fin 512) (k : Fin 256) (u : Fin 8192) (hu : u.val = t.val * 512 + r.val) :
    iblk m c 2 t (ix2 r k) = row (m (c.tc.loc main_arg2)) u k := by
  have ht : t.val < 16 := lt_of_lt_of_eq t.isLt N_0
  rw [Fin.ext hu (a := u) (b := ⟨t.val * 512 + r.val, by omega⟩)]
  blk_point [iblk, V, idx t]

theorem blk_g (c : Dev nD) (t : Fin cfg0.N) (k : Fin 256) :
    iblk m c 1 t (ix2 (0 : Fin 1) k) = (m (c.tc.loc main_arg1) : FVec Ideal S256 .f32) (ix1 k) := by
  refine Eq.trans ?_ (gain_at m c k)
  blk_point [iblk, idx t]

theorem part_eq (c : Dev nD) (t : Fin cfg0.N) (r : Fin 512) (j : Fin 256) (u : Fin 8192) (hu : u.val = t.val * 512 + r.val) :
    part (iblk m c 0 t) (iblk m c 2 t) r j = row (m (c.tc.loc main_arg2)) u j
      * (row (m (c.tc.loc main_arg0)) u j * rr wid eps (row (m (c.tc.loc main_arg0)) u)) := by
  unfold part
  simp only [blk_x m c t r _ u hu, blk_ct m c t r _ u hu]

instance preFacts : Cert.Pre_kv_a_norm_finite.Facts := by constructor <;> decide

set_option maxHeartbeats 1600000 in
theorem algebraic [hP : Cert.Pre_kv_a_norm_finite.Facts] : Cert.algebraic_Kernel6Ideal_Reference6Ideal_pre_kv_a_norm_finite := by
  pair_intro
  · run_from Cert.Kernel6Ideal.Gen.run_main m g
  · run_from Cert.Reference6Ideal.Value.run m' g'
    · symm
      generalize hG : (addf _ _ : FVec Ideal S8192x256 .f32) = G
      have ref_at : ∀ (t : Fin 8192) (j : Fin 256), G (ix2 t j)
          = diffDx wid eps half (row (m (c.tc.loc main_arg0)) t) (cg (m (c.tc.loc main_arg2)) (m (c.tc.loc main_arg1)) t) j := by
        intro t j
        subst hG
        pointwise [hagree c]
        simp only [Finset.univ_unique, Finset.sum_const, Finset.card_singleton, one_smul]
        rfl
      refine (dats m 0 c).arrAt_eq_of_covers 3 _ (by decide +kernel) fun t _ y => ?_
      blk_simp
      rw [after0_3, out_dx m c t]
      idx_vars y
      have ht : t.val < 16 := lt_of_lt_of_eq t.isLt N_0
      have hj : (((View.whole main_v1_0).slice (win0_3.rect t)).emb (ix2 y0 y1))
        = ix2 (⟨t.val * 512 + y0.val, by omega⟩ : Fin 8192) (y1 : Fin 256) := by
        blk_ext [idx t]
      rw [hj]
      refine Eq.trans ?_ (ref_at _ _).symm
      refine (dx_at _ _ _ y0 y1).trans ?_
      simp only [blk_g m c t, blk_x m c t y0 _ (⟨t.val * 512 + y0.val, by omega⟩ : Fin 8192) rfl, blk_ct m c t y0 _ (⟨t.val * 512 + y0.val, by omega⟩ : Fin 8192) rfl]
      obtain ⟨p0, p1, p2⟩ := hpre c
      exact row_eq _ _ _ (real_of_ones _ _ (fun _ => rfl) p0) (real_of_ones _ _ (fun _ => rfl) p1) (real_of_ones _ _ (fun _ => rfl) p2) _ _
    · symm
      generalize hG : (shapeCast _ (Host.reduceAdd _ _ _ _) _ : FVec Ideal S1x256 .f32) = G
      have ref_at : ∀ (z : Fin 1) (j : Fin 256), G (ix2 z j) = gain (m (c.tc.loc main_arg0)) (m (c.tc.loc main_arg2)) j := by
        intro z j
        refine Eq.trans ?_ (gain_comm _ _ _)
        subst hG
        pointwise [hagree c]
        simp only [Finset.univ_unique, Finset.sum_const, Finset.card_singleton, one_smul]
        rfl
      refine (dats m 0 c).arrAt_eq_of_covers 4 _ (by decide +kernel) fun t hf y => ?_
      blk_simp
      idx_vars y
      have hj : (((View.whole main_v1_1).slice (win0_4.rect t)).emb (ix2 y0 y1)) = ix2 (y0 : Fin 1) (y1 : Fin 256) := by
        blk_ext [idx t]
      rw [hj, ref_at]
      rw [after0_4, Pipeline.eq_sum_fin_of_reset_step_apply_of_flush (fun n h => (outsAt0 m c n h).2) 16 (fun _ => 0) _
        (fun t h j => by rw [outsAt0_A m c t h]; frame_out; rw [dg_step, zero_at])
        (fun t h j => by rw [outsAt0_B m c t h]; frame_out; rw [dg_step])
        t ((flush0_4 t).mp hf) _, zero_add]
      have ht : t.val < 16 := lt_of_lt_of_eq t.isLt N_0
      refine Fin.sum_mul_add_congr fun s k hl => ?_
      refine (part_eq m c _ k _ ⟨s.val * 512 + k.val, hl⟩ ?_).trans rfl
      have hs : 16 * (t.val / 16) + s.val = s.val := by omega
      simp only [hs]

end Cert.Kernel6Ideal.NormGrad
-- ==== Proof.NormMm.lean ====
module

public import proofs.«01_k».proof.Proof.NormRow

/-! The gradient of a norm over rows of 1024 behind a product: the rows, the gain's gradient, and that both ways of
 writing the row gradient agree on real numbers. -/

@[expose] public section

noncomputable section

namespace Cert.Norm

open Idealize.ShloMosaic

variable {K : ℕ}

/-- A row of an array, of the cotangent behind the product, and of that times the gain. -/
def row (x : FVec Ideal ⟨2, ![8192, 1024]⟩ .f32) (t : Fin 8192) (k : Fin 1024) : EReal := x (ix2 t k)
def dy (a : FVec Ideal ⟨2, ![8192, K]⟩ .f32) (w : FVec Ideal ⟨2, ![1024, K]⟩ .f32) (t : Fin 8192) (j : Fin 1024) : EReal :=
  ∑ k : Fin K, a (ix2 t k) * w (ix2 j k)
def cg (a : FVec Ideal ⟨2, ![8192, K]⟩ .f32) (w : FVec Ideal ⟨2, ![1024, K]⟩ .f32) (g : FVec Ideal ⟨1, ![1024]⟩ .f32) (t : Fin 8192) (k : Fin 1024) : EReal :=
  dy a w t k * g (ix1 k)

/-- The product that one step of the grid forms. -/
def dyB (a : (⟨2, ![512, K]⟩ : Shape).Idx → EReal) (w : (⟨2, ![1024, K]⟩ : Shape).Idx → EReal) (r : Fin 512) (j : Fin 1024) : EReal :=
  ∑ k : Fin K, a (ix2 r k) * w (ix2 j k)

/-- One row's part of the gain's gradient. -/
def part (y x : FVec Ideal ⟨2, ![512, 1024]⟩ .f32) (r : Fin 512) (j : Fin 1024) : EReal :=
  y (ix2 r j) * (x (ix2 r j) * rr wid eps (fun k => x (ix2 r k)))

/-- The second coordinate of an index of one row. -/
def col (j : (⟨2, ![1, 1024]⟩ : Shape).Idx) : Fin 1024 := j 1

/-- The gain's gradient: a sum over all rows. -/
def gain (a : FVec Ideal ⟨2, ![8192, K]⟩ .f32) (w : FVec Ideal ⟨2, ![1024, K]⟩ .f32) (x : FVec Ideal ⟨2, ![8192, 1024]⟩ .f32) (j : Fin 1024) : EReal :=
  ∑ t : Fin 8192, dy a w t j * (row x t j * rr wid eps (row x t))

/-- The same with the factors the other way round. -/
def gain' (a : FVec Ideal ⟨2, ![8192, K]⟩ .f32) (w : FVec Ideal ⟨2, ![1024, K]⟩ .f32) (x : FVec Ideal ⟨2, ![8192, 1024]⟩ .f32) (j : Fin 1024) : EReal :=
  ∑ t : Fin 8192, x (ix2 t j) * rr wid eps (row x t) * dy a w t j

theorem gain_comm (a : FVec Ideal ⟨2, ![8192, K]⟩ .f32) (w : FVec Ideal ⟨2, ![1024, K]⟩ .f32) (x : FVec Ideal ⟨2, ![8192, 1024]⟩ .f32) (j : Fin 1024) :
    gain' a w x j = gain a w x j :=
  Finset.sum_congr rfl fun t _ => mul_comm _ _

/-- On real rows the two gradients are the same. -/
theorem row_eq (a : FVec Ideal ⟨2, ![8192, K]⟩ .f32) (w : FVec Ideal ⟨2, ![1024, K]⟩ .f32) (x : FVec Ideal ⟨2, ![8192, 1024]⟩ .f32) (g : FVec Ideal ⟨1, ![1024]⟩ .f32)
    (hx : ∀ i, x i = ((x i).toReal : EReal)) (hg : ∀ i, g i = ((g i).toReal : EReal)) (hw : ∀ i, w i = ((w i).toReal : EReal))
    (ha : ∀ i, a i = ((a i).toReal : EReal)) (t : Fin 8192) (j : Fin 1024) :
    handDx wid eps (row x t) (cg a w g t) j = diffDx wid eps half (row x t) (cg a w g t) j := by
  obtain ⟨e, he, hE⟩ := eps_real
  have h1 : row x t = fun k => ((x (ix2 t k)).toReal : EReal) := funext fun k => hx _
  have h2 : cg a w g t = fun k => (((∑ l : Fin K, (a (ix2 t l)).toReal * (w (ix2 k l)).toReal) * (g (ix1 k)).toReal : ℝ) : EReal) := funext fun k => by
    rw [EReal.coe_mul, coe_sum, ← hg]
    simp only [EReal.coe_mul, ← ha, ← hw]
    rfl
  rw [h1, h2, wid_real, half_real, hE]
  exact dx_eq (by norm_num) he _ _ j

end Cert.Norm
-- ==== Proof.QADx.lean ====
module

public import proofs.«01_k».proof.Defs
public import proofs.«01_k».proof.Proof.Gen.Kernel7Ideal.Frame
public import proofs.«01_k».proof.Proof.Gen.Reference7Ideal.Run
public import proofs.«01_k».proof.Proof.NormMm
public import Idealize.ShloMosaic.Lib.StableHlo.RunRead
public import Idealize.ShloMosaic.Lib.Pipeline.ValueKit

/-! The gradient of the norm before the compressed queries, fused with the product that brings its cotangent. -/

@[expose] public section

set_option maxRecDepth 16384

noncomputable section

open Idealize.ShloMosaic Idealize.ShloMosaic.TcCoe Idealize.SL.Sem
open Idealize.ShloMosaic.Pipeline (Dat)

namespace Cert.Kernel7Ideal.MmNorm

open Cert.Kernel7Ideal Cert.Kernel7Ideal.Gen Cert.Norm

variable (m : (ℓ : Loc nD τ sig) → Buf (Elt Ideal) ℓ)

theorem idx : ∀ t : Fin cfg0.N, win0_0.index t = ![t.val, 0] ∧ win0_1.index t = ![0, 0]
    ∧ win0_2.index t = ![t.val, 0] ∧ win0_3.index t = ![0, 0] ∧ win0_4.index t = ![t.val, 0]
    ∧ win0_5.index t = ![t.val, 0] ∧ win0_6.index t = ![0, 0] :=
  (by decide +kernel : ∀ t : Fin grid0.N, _)

theorem dyB_at (a : FVec Ideal S512x384 .f32) (w : FVec Ideal S1024x384 .bf16) (r : Fin 512) (j : Fin 1024) :
    k0_pay3 (F := Ideal) a w (ix2 r j) = dyB a w r j := by
  pointwise [k0_pay3]
  rfl

/-- What one step of the grid stores of the row gradient. -/
theorem dx_at (a : FVec Ideal S512x384 .f32) (w : FVec Ideal S1024x384 .bf16) (x : FVec Ideal S512x1024 .f32) (g : FVec Ideal S1x1024 .f32) (d : FVec Ideal S512x1024 .f32)
    (r : Fin 512) (j : Fin 1024) : k0_pay6 (F := Ideal) a w x g d (ix2 r j)
      = handDx wid eps (fun k => x (ix2 r k)) (fun k => dyB a w r k * g (ix2 (0 : Fin 1) k)) j + d (ix2 r j) := by
  simp only [← dyB_at]
  generalize hp : k0_pay3 (F := Ideal) a w = p
  pointwise [k0_pay6, k0_pay5, k0_pay4, hp]
  rfl

theorem dg_at (y x : FVec Ideal S512x1024 .f32) (acc : FVec Ideal S1x1024 .f32) (z : Fin 1) (j : Fin 1024) :
    k0_pay1 (F := Ideal) y (k0_pay5 x) acc (ix2 z j) = acc (ix2 z j) + ∑ r : Fin 512, part y x r j := by
  pointwise [k0_pay1, k0_pay5, k0_pay4]
  rfl

theorem dg_step (y x : FVec Ideal S512x1024 .f32) (acc : FVec Ideal S1x1024 .f32) (j : S1x1024.Idx) :
    k0_pay1 (F := Ideal) y (k0_pay5 x) acc j = acc j + ∑ r : Fin 512, part y x r (col j) := by
  idx_vars j
  exact dg_at y x acc j0 j1

theorem zero_at (j) : k0_pay2 (F := Ideal) j = 0 := by pointwise [k0_pay2]

theorem gain_at (c : Dev nD) (k : Fin 1024) : V m c main_v1 (ix2 (0 : Fin 1) k) = m (c.tc.loc main_arg1) (ix1 k) := by
  entry_read
  pointwise

theorem w_at (c : Dev nD) (j : Fin 1024) (k : Fin 384) : V m c main_v0 (ix2 j k) = m (c.tc.loc main_arg2) (ix2 j k) := by
  entry_read
  pointwise

/-- Either case of the first output stores the same value. -/
theorem out_dx (c : Dev nD) (t : Fin cfg0.N) : (outsAt0 m c t.val t.isLt).1
    = k0_pay6 (F := Ideal) (iblk m c 0 t) (iblk m c 1 t) (iblk m c 2 t) (iblk m c 3 t) (iblk m c 4 t) := by
  by_cases h : t.val % 16 = 0
  · rw [outsAt0_A m c t h]; frame_out
  · rw [outsAt0_B m c t h]; frame_out

theorem blk_a (c : Dev nD) (t : Fin cfg0.N) (r : Fin 512) (k : Fin 384) (u : Fin 8192) (hu : u.val = t.val * 512 + r.val) :
    iblk m c 0 t (ix2 r k) = (m (c.tc.loc main_arg4) : FVec Ideal S8192x384 .f32) (ix2 u k) := by
  have ht : t.val < 16 := lt_of_lt_of_eq t.isLt N_0
  rw [Fin.ext hu (a := u) (b := ⟨t.val * 512 + r.val, by omega⟩)]
  blk_point [iblk, V, idx t]

theorem blk_w (c : Dev nD) (t : Fin cfg0.N) (j : Fin 1024) (k : Fin 384) :
    iblk m c 1 t (ix2 j k) = (m (c.tc.loc main_arg2) : FVec Ideal S1024x384 .f32) (ix2 j k) := by
  refine Eq.trans ?_ (w_at m c j k)
  blk_point [iblk, idx t]

theorem blk_x (c : Dev nD) (t : Fin cfg0.N) (r : Fin 512) (k : Fin 1024) (u : Fin 8192) (hu : u.val = t.val * 512 + r.val) :
    iblk m c 2 t (ix2 r k) = row (m (c.tc.loc main_arg0)) u k := by
  have ht : t.val < 16 := lt_of_lt_of_eq t.isLt N_0
  rw [Fin.ext hu (a := u) (b := ⟨t.val * 512 + r.val, by omega⟩)]
  blk_point [iblk, V, idx t]

theorem blk_g (c : Dev nD) (t : Fin cfg0.N) (k : Fin 1024) :
    iblk m c 3 t (ix2 (0 : Fin 1) k) = (m (c.tc.loc main_arg1) : FVec Ideal S1024 .f32) (ix1 k) := by
  refine Eq.trans ?_ (gain_at m c k)
  blk_point [iblk, idx t]

theorem blk_d (c : Dev nD) (t : Fin cfg0.N) (r : Fin 512) (k : Fin 1024) (u : Fin 8192) (hu : u.val = t.val * 512 + r.val) :
    iblk m c 4 t (ix2 r k) = row (m (c.tc.loc main_arg3)) u k := by
  have ht : t.val < 16 := lt_of_lt_of_eq t.isLt N_0
  rw [Fin.ext hu (a := u) (b := ⟨t.val * 512 + r.val, by omega⟩)]
  blk_point [iblk, V, idx t]

theorem blk_dy (c : Dev nD) (t : Fin cfg0.N) (r : Fin 512) (j : Fin 1024) (u : Fin 8192) (hu : u.val = t.val * 512 + r.val) :
    dyB (iblk m c 0 t) (iblk m c 1 t) r j = dy (m (c.tc.loc main_arg4)) (m (c.tc.loc main_arg2)) u j := by
  unfold dyB dy
  simp only [blk_a m c t r _ u hu, blk_w m c t]

/-- The row gradient that the call leaves, whole. -/
theorem dx_val (c : Dev nD) (t : Fin cfg0.N) (r : Fin 512) (j : Fin 1024) (u : Fin 8192) (hu : u.val = t.val * 512 + r.val) :
    (outsAt0 m c t.val t.isLt).1 (ix2 r j) = handDx wid eps (row (m (c.tc.loc main_arg0)) u)
      (cg (m (c.tc.loc main_arg4)) (m (c.tc.loc main_arg2)) (m (c.tc.loc main_arg1)) u) j + row (m (c.tc.loc main_arg3)) u j := by
  rw [out_dx m c t]
  refine (dx_at _ _ _ _ _ r j).trans ?_
  simp only [blk_g m c t, blk_x m c t r _ u hu, blk_d m c t r _ u hu, blk_dy m c t r _ u hu]
  rfl

theorem part_eq (c : Dev nD) (t : Fin cfg0.N) (r : Fin 512) (j : Fin 1024) (u : Fin 8192) (hu : u.val = t.val * 512 + r.val) :
    part (k0_pay3 (F := Ideal) (iblk m c 0 t) (iblk m c 1 t)) (iblk m c 2 t) r j = dy (m (c.tc.loc main_arg4)) (m (c.tc.loc main_arg2)) u j
      * (row (m (c.tc.loc main_arg0)) u j * rr wid eps (row (m (c.tc.loc main_arg0)) u)) := by
  unfold part
  refine (congrArg (· * _) (dyB_at _ _ r j)).trans ?_
  simp only [blk_x m c t r _ u hu, blk_dy m c t r _ u hu]

/-- The reference's row gradient. -/
theorem ref_dx (m' : (ℓ : Loc Reference7Ideal.nD Reference7Ideal.τ Reference7Ideal.sig) → Buf (Elt Ideal) ℓ) (c : Dev nD) (t : Fin 8192) (j : Fin 1024) :
    Reference7Ideal.Value.res_main_v38 m' c (ix2 t j) = diffDx wid eps half (row (m' (c.tc.loc Reference7Ideal.main_arg0)) t)
      (cg (m' (c.tc.loc Reference7Ideal.main_arg4)) (m' (c.tc.loc Reference7Ideal.main_arg2)) (m' (c.tc.loc Reference7Ideal.main_arg1)) t) j
      + row (m' (c.tc.loc Reference7Ideal.main_arg3)) t j := by
  generalize hX : cg (m' (c.tc.loc Reference7Ideal.main_arg4)) (m' (c.tc.loc Reference7Ideal.main_arg2)) (m' (c.tc.loc Reference7Ideal.main_arg1)) = X
  pointwise [Reference7Ideal.Value.res_main_v38]
  simp only [Finset.univ_unique, Finset.sum_const, Finset.card_singleton, one_smul]
  refine Eq.trans (b := row (m' (c.tc.loc Reference7Ideal.main_arg3)) t j + X t j * rr wid eps (row (m' (c.tc.loc Reference7Ideal.main_arg0)) t)
    + row (m' (c.tc.loc Reference7Ideal.main_arg0)) t j * side wid eps half (row (m' (c.tc.loc Reference7Ideal.main_arg0)) t) (X t)
    + side wid eps half (row (m' (c.tc.loc Reference7Ideal.main_arg0)) t) (X t) * row (m' (c.tc.loc Reference7Ideal.main_arg0)) t j) ?_ ?_
  · subst hX; rfl
  · unfold diffDx
    rw [add_comm _ (row (m' (c.tc.loc Reference7Ideal.main_arg3)) t j)]
    simp only [add_assoc]

instance preFacts : Cert.Pre_q_a_dx_finite.Facts := by constructor <;> decide

set_option maxHeartbeats 1600000 in
theorem algebraic [hP : Cert.Pre_q_a_dx_finite.Facts] : Cert.algebraic_Kernel7Ideal_Reference7Ideal_pre_q_a_dx_finite := by
  pair_intro
  · run_from Cert.Kernel7Ideal.Gen.run_main m g
  · run_from Cert.Reference7Ideal.Value.run m' g'
    · symm
      generalize hG : Reference7Ideal.Value.res_main_v38 m' c = G
      have ref_at := fun t j => congrFun hG (ix2 t j) ▸ ref_dx m' c t j
      simp only [hagree c] at ref_at
      refine (dats m 0 c).arrAt_eq_of_covers 5 _ (by decide +kernel) fun t _ y => ?_
      blk_simp
      rw [after0_5]
      idx_vars y
      have ht : t.val < 16 := lt_of_lt_of_eq t.isLt N_0
      have hj : (((View.whole main_v2_0).slice (win0_5.rect t)).emb (ix2 y0 y1))
        = ix2 (⟨t.val * 512 + y0.val, by omega⟩ : Fin 8192) (y1 : Fin 1024) := by
        blk_ext [idx t]
      rw [hj]
      refine Eq.trans ?_ (ref_at _ _).symm
      refine (dx_val m c t y0 y1 (⟨t.val * 512 + y0.val, by omega⟩ : Fin 8192) rfl).trans ?_
      obtain ⟨p0, p1, p2, p3⟩ := hpre c
      exact congrArg (· + _) (row_eq _ _ _ _ (real_of_ones _ _ (fun _ => rfl) p0) (real_of_ones _ _ (fun _ => rfl) p1)
        (real_of_ones _ _ (fun _ => rfl) p2) (real_of_ones _ _ (fun _ => rfl) p3) _ _)
    · symm
      generalize hG : (shapeCast _ (Host.reduceAdd _ _ _ _) _ : FVec Ideal S1x1024 .f32) = G
      have ref_at : ∀ (z : Fin 1) (j : Fin 1024), G (ix2 z j) = gain (m (c.tc.loc main_arg4)) (m (c.tc.loc main_arg2)) (m (c.tc.loc main_arg0)) j := by
        intro z j
        refine Eq.trans ?_ (gain_comm _ _ _ _)
        subst hG
        pointwise [hagree c]
        simp only [Finset.univ_unique, Finset.sum_const, Finset.card_singleton, one_smul]
        rfl
      refine (dats m 0 c).arrAt_eq_of_covers 6 _ (by decide +kernel) fun t hf y => ?_
      blk_simp
      idx_vars y
      have hj : (((View.whole main_v2_1).slice (win0_6.rect t)).emb (ix2 y0 y1)) = ix2 (y0 : Fin 1) (y1 : Fin 1024) := by
        blk_ext [idx t]
      rw [hj, ref_at]
      rw [after0_6, Pipeline.eq_sum_fin_of_reset_step_apply_of_flush (fun n h => (outsAt0 m c n h).2) 16 (fun _ => 0) _
        (fun t h j => by rw [outsAt0_A m c t h]; frame_out; rw [dg_step, zero_at])
        (fun t h j => by rw [outsAt0_B m c t h]; frame_out; rw [dg_step])
        t ((flush0_6 t).mp hf) _, zero_add]
      have ht : t.val < 16 := lt_of_lt_of_eq t.isLt N_0
      refine Fin.sum_mul_add_congr fun s k hl => ?_
      refine (part_eq m c _ k _ ⟨s.val * 512 + k.val, hl⟩ ?_).trans rfl
      have hs : 16 * (t.val / 16) + s.val = s.val := by omega
      simp only [hs]

end Cert.Kernel7Ideal.MmNorm
-- ==== Proof.FfnNorm.lean ====
module

public import proofs.«01_k».proof.Defs
public import proofs.«01_k».proof.Proof.Gen.Kernel8Ideal.Frame
public import proofs.«01_k».proof.Proof.Gen.Reference8Ideal.Run
public import proofs.«01_k».proof.Proof.NormMm
public import Idealize.ShloMosaic.Lib.StableHlo.RunRead
public import Idealize.ShloMosaic.Lib.Pipeline.ValueKit

/-! The gradient of the norm before a feed-forward layer, fused with the product that brings its cotangent. -/

@[expose] public section

set_option maxRecDepth 16384

noncomputable section

open Idealize.ShloMosaic Idealize.ShloMosaic.TcCoe Idealize.SL.Sem
open Idealize.ShloMosaic.Pipeline (Dat)

namespace Cert.Kernel8Ideal.MmNorm

open Cert.Kernel8Ideal Cert.Kernel8Ideal.Gen Cert.Norm

variable (m : (ℓ : Loc nD τ sig) → Buf (Elt Ideal) ℓ)

theorem idx : ∀ t : Fin cfg0.N, win0_0.index t = ![t.val, 0] ∧ win0_1.index t = ![0, 0]
    ∧ win0_2.index t = ![t.val, 0] ∧ win0_3.index t = ![0, 0] ∧ win0_4.index t = ![t.val, 0]
    ∧ win0_5.index t = ![t.val, 0] ∧ win0_6.index t = ![0, 0]
    ∧ win0_7.index t = ![t.val, 0] :=
  (by decide +kernel : ∀ t : Fin grid0.N, _)

theorem dyB_at (a : FVec Ideal S512x4096 .bf16) (w : FVec Ideal S1024x4096 .bf16) (r : Fin 512) (j : Fin 1024) :
    k0_pay3 (F := Ideal) a w (ix2 r j) = dyB a w r j := by
  pointwise [k0_pay3]
  rfl

/-- What one step of the grid stores of the row gradient. -/
theorem dx_at (a : FVec Ideal S512x4096 .bf16) (w : FVec Ideal S1024x4096 .bf16) (x : FVec Ideal S512x1024 .f32) (g : FVec Ideal S1x1024 .f32) (d : FVec Ideal S512x1024 .f32)
    (r : Fin 512) (j : Fin 1024) : k0_pay6 (F := Ideal) a w x g d (ix2 r j)
      = handDx wid eps (fun k => x (ix2 r k)) (fun k => dyB a w r k * g (ix2 (0 : Fin 1) k)) j + d (ix2 r j) := by
  simp only [← dyB_at]
  generalize hp : k0_pay3 (F := Ideal) a w = p
  pointwise [k0_pay6, k0_pay5, k0_pay4, hp]
  rfl

theorem dg_at (y x : FVec Ideal S512x1024 .f32) (acc : FVec Ideal S1x1024 .f32) (z : Fin 1) (j : Fin 1024) :
    k0_pay1 (F := Ideal) y (k0_pay5 x) acc (ix2 z j) = acc (ix2 z j) + ∑ r : Fin 512, part y x r j := by
  pointwise [k0_pay1, k0_pay5, k0_pay4]
  rfl

theorem dg_step (y x : FVec Ideal S512x1024 .f32) (acc : FVec Ideal S1x1024 .f32) (j : S1x1024.Idx) :
    k0_pay1 (F := Ideal) y (k0_pay5 x) acc j = acc j + ∑ r : Fin 512, part y x r (col j) := by
  idx_vars j
  exact dg_at y x acc j0 j1

theorem zero_at (j) : k0_pay2 (F := Ideal) j = 0 := by pointwise [k0_pay2]

theorem gain_at (c : Dev nD) (k : Fin 1024) : V m c main_v2 (ix2 (0 : Fin 1) k) = m (c.tc.loc main_arg1) (ix1 k) := by
  entry_read
  pointwise

theorem w_at (c : Dev nD) (j : Fin 1024) (k : Fin 4096) : V m c main_v1 (ix2 j k) = m (c.tc.loc main_arg2) (ix2 j k) := by
  entry_read
  pointwise

theorem a_at (c : Dev nD) (t : Fin 8192) (k : Fin 4096) : V m c main_v0 (ix2 t k) = m (c.tc.loc main_arg4) (ix2 t k) := by
  entry_read
  pointwise

/-- Either case of the first output stores the same value. -/
theorem out_dx (c : Dev nD) (t : Fin cfg0.N) : (outsAt0 m c t.val t.isLt).1
    = k0_pay6 (F := Ideal) (iblk m c 0 t) (iblk m c 1 t) (iblk m c 2 t) (iblk m c 3 t) (iblk m c 4 t) := by
  by_cases h : t.val % 16 = 0
  · rw [outsAt0_A m c t h]; frame_out
  · rw [outsAt0_B m c t h]; frame_out

theorem blk_a (c : Dev nD) (t : Fin cfg0.N) (r : Fin 512) (k : Fin 4096) (u : Fin 8192) (hu : u.val = t.val * 512 + r.val) :
    iblk m c 0 t (ix2 r k) = (m (c.tc.loc main_arg4) : FVec Ideal S8192x4096 .f32) (ix2 u k) := by
  have ht : t.val < 16 := lt_of_lt_of_eq t.isLt N_0
  rw [Fin.ext hu (a := u) (b := ⟨t.val * 512 + r.val, by omega⟩)]
  refine Eq.trans ?_ (a_at m c _ k)
  blk_point [iblk, idx t]

theorem blk_w (c : Dev nD) (t : Fin cfg0.N) (j : Fin 1024) (k : Fin 4096) :
    iblk m c 1 t (ix2 j k) = (m (c.tc.loc main_arg2) : FVec Ideal S1024x4096 .f32) (ix2 j k) := by
  refine Eq.trans ?_ (w_at m c j k)
  blk_point [iblk, idx t]

theorem blk_x (c : Dev nD) (t : Fin cfg0.N) (r : Fin 512) (k : Fin 1024) (u : Fin 8192) (hu : u.val = t.val * 512 + r.val) :
    iblk m c 2 t (ix2 r k) = row (m (c.tc.loc main_arg0)) u k := by
  have ht : t.val < 16 := lt_of_lt_of_eq t.isLt N_0
  rw [Fin.ext hu (a := u) (b := ⟨t.val * 512 + r.val, by omega⟩)]
  blk_point [iblk, V, idx t]

theorem blk_g (c : Dev nD) (t : Fin cfg0.N) (k : Fin 1024) :
    iblk m c 3 t (ix2 (0 : Fin 1) k) = (m (c.tc.loc main_arg1) : FVec Ideal S1024 .f32) (ix1 k) := by
  refine Eq.trans ?_ (gain_at m c k)
  blk_point [iblk, idx t]

theorem blk_d (c : Dev nD) (t : Fin cfg0.N) (r : Fin 512) (k : Fin 1024) (u : Fin 8192) (hu : u.val = t.val * 512 + r.val) :
    iblk m c 4 t (ix2 r k) = row (m (c.tc.loc main_arg3)) u k := by
  have ht : t.val < 16 := lt_of_lt_of_eq t.isLt N_0
  rw [Fin.ext hu (a := u) (b := ⟨t.val * 512 + r.val, by omega⟩)]
  blk_point [iblk, V, idx t]

theorem blk_dy (c : Dev nD) (t : Fin cfg0.N) (r : Fin 512) (j : Fin 1024) (u : Fin 8192) (hu : u.val = t.val * 512 + r.val) :
    dyB (iblk m c 0 t) (iblk m c 1 t) r j = dy (m (c.tc.loc main_arg4)) (m (c.tc.loc main_arg2)) u j := by
  unfold dyB dy
  simp only [blk_a m c t r _ u hu, blk_w m c t]

/-- The row gradient that the call leaves, whole. -/
theorem dx_val (c : Dev nD) (t : Fin cfg0.N) (r : Fin 512) (j : Fin 1024) (u : Fin 8192) (hu : u.val = t.val * 512 + r.val) :
    (outsAt0 m c t.val t.isLt).1 (ix2 r j) = handDx wid eps (row (m (c.tc.loc main_arg0)) u)
      (cg (m (c.tc.loc main_arg4)) (m (c.tc.loc main_arg2)) (m (c.tc.loc main_arg1)) u) j + row (m (c.tc.loc main_arg3)) u j := by
  rw [out_dx m c t]
  refine (dx_at _ _ _ _ _ r j).trans ?_
  simp only [blk_g m c t, blk_x m c t r _ u hu, blk_d m c t r _ u hu, blk_dy m c t r _ u hu]
  rfl

/-- The second copy of it, in the narrow type. -/
theorem dx16_val (c : Dev nD) (t : Fin cfg0.N) (r : Fin 512) (j : Fin 1024) (u : Fin 8192) (hu : u.val = t.val * 512 + r.val) :
    (outsAt0 m c t.val t.isLt).2.2 (ix2 r j) = handDx wid eps (row (m (c.tc.loc main_arg0)) u)
      (cg (m (c.tc.loc main_arg4)) (m (c.tc.loc main_arg2)) (m (c.tc.loc main_arg1)) u) j + row (m (c.tc.loc main_arg3)) u j := by
  have e : (outsAt0 m c t.val t.isLt).2.2 = k0_pay7 (F := Ideal) (iblk m c 0 t) (iblk m c 1 t) (iblk m c 2 t) (iblk m c 3 t) (iblk m c 4 t) := by
    by_cases h : t.val % 16 = 0
    · rw [outsAt0_A m c t h]; frame_out
    · rw [outsAt0_B m c t h]; frame_out
  refine Eq.trans ?_ (dx_val m c t r j u hu)
  rw [e, out_dx m c t]
  rfl

theorem part_eq (c : Dev nD) (t : Fin cfg0.N) (r : Fin 512) (j : Fin 1024) (u : Fin 8192) (hu : u.val = t.val * 512 + r.val) :
    part (k0_pay3 (F := Ideal) (iblk m c 0 t) (iblk m c 1 t)) (iblk m c 2 t) r j = dy (m (c.tc.loc main_arg4)) (m (c.tc.loc main_arg2)) u j
      * (row (m (c.tc.loc main_arg0)) u j * rr wid eps (row (m (c.tc.loc main_arg0)) u)) := by
  unfold part
  refine (congrArg (· * _) (dyB_at _ _ r j)).trans ?_
  simp only [blk_x m c t r _ u hu, blk_dy m c t r _ u hu]

/-- The reference's row gradient. -/
theorem ref_dx (m' : (ℓ : Loc Reference8Ideal.nD Reference8Ideal.τ Reference8Ideal.sig) → Buf (Elt Ideal) ℓ) (c : Dev nD) (t : Fin 8192) (j : Fin 1024) :
    Reference8Ideal.Value.res_main_v38 m' c (ix2 t j) = diffDx wid eps half (row (m' (c.tc.loc Reference8Ideal.main_arg0)) t)
      (cg (m' (c.tc.loc Reference8Ideal.main_arg4)) (m' (c.tc.loc Reference8Ideal.main_arg2)) (m' (c.tc.loc Reference8Ideal.main_arg1)) t) j
      + row (m' (c.tc.loc Reference8Ideal.main_arg3)) t j := by
  generalize hX : cg (m' (c.tc.loc Reference8Ideal.main_arg4)) (m' (c.tc.loc Reference8Ideal.main_arg2)) (m' (c.tc.loc Reference8Ideal.main_arg1)) = X
  pointwise [Reference8Ideal.Value.res_main_v38]
  simp only [Finset.univ_unique, Finset.sum_const, Finset.card_singleton, one_smul]
  refine Eq.trans (b := row (m' (c.tc.loc Reference8Ideal.main_arg3)) t j + X t j * rr wid eps (row (m' (c.tc.loc Reference8Ideal.main_arg0)) t)
    + row (m' (c.tc.loc Reference8Ideal.main_arg0)) t j * side wid eps half (row (m' (c.tc.loc Reference8Ideal.main_arg0)) t) (X t)
    + side wid eps half (row (m' (c.tc.loc Reference8Ideal.main_arg0)) t) (X t) * row (m' (c.tc.loc Reference8Ideal.main_arg0)) t j) ?_ ?_
  · subst hX; rfl
  · unfold diffDx
    rw [add_comm _ (row (m' (c.tc.loc Reference8Ideal.main_arg3)) t j)]
    simp only [add_assoc]

instance preFacts : Cert.Pre_ffn_norm_finite.Facts := by constructor <;> decide

set_option maxHeartbeats 1600000 in
theorem algebraic [hP : Cert.Pre_ffn_norm_finite.Facts] : Cert.algebraic_Kernel8Ideal_Reference8Ideal_pre_ffn_norm_finite := by
  pair_intro
  · run_from Cert.Kernel8Ideal.Gen.run_main m g
  · run_from Cert.Reference8Ideal.Value.run m' g'
    · symm
      generalize hG : Reference8Ideal.Value.res_main_v38 m' c = G
      have ref_at := fun t j => congrFun hG (ix2 t j) ▸ ref_dx m' c t j
      simp only [hagree c] at ref_at
      refine (dats m 0 c).arrAt_eq_of_covers 5 _ (by decide +kernel) fun t _ y => ?_
      blk_simp
      rw [after0_5]
      idx_vars y
      have ht : t.val < 16 := lt_of_lt_of_eq t.isLt N_0
      have hj : (((View.whole main_v3_0).slice (win0_5.rect t)).emb (ix2 y0 y1))
        = ix2 (⟨t.val * 512 + y0.val, by omega⟩ : Fin 8192) (y1 : Fin 1024) := by
        blk_ext [idx t]
      rw [hj]
      refine Eq.trans ?_ (ref_at _ _).symm
      refine (dx_val m c t y0 y1 (⟨t.val * 512 + y0.val, by omega⟩ : Fin 8192) rfl).trans ?_
      obtain ⟨p0, p1, p2, p3⟩ := hpre c
      exact congrArg (· + _) (row_eq _ _ _ _ (real_of_ones _ _ (fun _ => rfl) p0) (real_of_ones _ _ (fun _ => rfl) p1)
        (real_of_ones _ _ (fun _ => rfl) p2) (real_of_ones _ _ (fun _ => rfl) p3) _ _)
    · symm
      generalize hG : (shapeCast _ (Host.reduceAdd _ _ _ _) _ : FVec Ideal S1x1024 .f32) = G
      have ref_at : ∀ (z : Fin 1) (j : Fin 1024), G (ix2 z j) = gain (m (c.tc.loc main_arg4)) (m (c.tc.loc main_arg2)) (m (c.tc.loc main_arg0)) j := by
        intro z j
        refine Eq.trans ?_ (gain_comm _ _ _ _)
        subst hG
        pointwise [hagree c]
        simp only [Finset.univ_unique, Finset.sum_const, Finset.card_singleton, one_smul]
        rfl
      refine (dats m 0 c).arrAt_eq_of_covers 6 _ (by decide +kernel) fun t hf y => ?_
      blk_simp
      idx_vars y
      have hj : (((View.whole main_v3_1).slice (win0_6.rect t)).emb (ix2 y0 y1)) = ix2 (y0 : Fin 1) (y1 : Fin 1024) := by
        blk_ext [idx t]
      rw [hj, ref_at]
      rw [after0_6, Pipeline.eq_sum_fin_of_reset_step_apply_of_flush (fun n h => (outsAt0 m c n h).2.1) 16 (fun _ => 0) _
        (fun t h j => by rw [outsAt0_A m c t h]; frame_out; rw [dg_step, zero_at])
        (fun t h j => by rw [outsAt0_B m c t h]; frame_out; rw [dg_step])
        t ((flush0_6 t).mp hf) _, zero_add]
      have ht : t.val < 16 := lt_of_lt_of_eq t.isLt N_0
      refine Fin.sum_mul_add_congr fun s k hl => ?_
      refine (part_eq m c _ k _ ⟨s.val * 512 + k.val, hl⟩ ?_).trans rfl
      have hs : 16 * (t.val / 16) + s.val = s.val := by omega
      simp only [hs]
    · symm
      generalize hG : Reference8Ideal.Value.res_main_v40 m' c = G
      have ref_at := fun t j => (congrFun hG (ix2 t j)).symm.trans (ref_dx m' c t j)
      simp only [hagree c] at ref_at
      refine (dats m 0 c).arrAt_eq_of_covers 7 _ (by decide +kernel) fun t _ y => ?_
      blk_simp
      rw [after0_7]
      idx_vars y
      have ht : t.val < 16 := lt_of_lt_of_eq t.isLt N_0
      have hj : (((View.whole main_v3_2).slice (win0_7.rect t)).emb (ix2 y0 y1))
        = ix2 (⟨t.val * 512 + y0.val, by omega⟩ : Fin 8192) (y1 : Fin 1024) := by
        blk_ext [idx t]
      rw [hj]
      refine Eq.trans ?_ (ref_at _ _).symm
      refine (dx16_val m c t y0 y1 (⟨t.val * 512 + y0.val, by omega⟩ : Fin 8192) rfl).trans ?_
      obtain ⟨p0, p1, p2, p3⟩ := hpre c
      exact congrArg (· + _) (row_eq _ _ _ _ (real_of_ones _ _ (fun _ => rfl) p0) (real_of_ones _ _ (fun _ => rfl) p1)
        (real_of_ones _ _ (fun _ => rfl) p2) (real_of_ones _ _ (fun _ => rfl) p3) _ _)

end Cert.Kernel8Ideal.MmNorm
-- ==== Proof.QkvDx.lean ====
module

public import proofs.«01_k».proof.Defs
public import proofs.«01_k».proof.Proof.Gen.Kernel9Ideal.Frame
public import proofs.«01_k».proof.Proof.Gen.Reference9Ideal.Run
public import proofs.«01_k».proof.Proof.NormMm
public import Idealize.ShloMosaic.Lib.StableHlo.RunRead
public import Idealize.ShloMosaic.Lib.Pipeline.ValueKit

/-! The gradient of the norm before the first mixer, fused with the product that brings its cotangent. -/

@[expose] public section

set_option maxRecDepth 16384

noncomputable section

open Idealize.ShloMosaic Idealize.ShloMosaic.TcCoe Idealize.SL.Sem
open Idealize.ShloMosaic.Pipeline (Dat)

namespace Cert.Kernel9Ideal.MmNorm

open Cert.Kernel9Ideal Cert.Kernel9Ideal.Gen Cert.Norm

variable (m : (ℓ : Loc nD τ sig) → Buf (Elt Ideal) ℓ)

theorem idx : ∀ t : Fin cfg0.N, win0_0.index t = ![t.val, 0] ∧ win0_1.index t = ![0, 0]
    ∧ win0_2.index t = ![t.val, 0] ∧ win0_3.index t = ![0, 0] ∧ win0_4.index t = ![t.val, 0] ∧ win0_5.index t = ![t.val, 0]
    ∧ win0_6.index t = ![t.val, 0] ∧ win0_7.index t = ![0, 0] :=
  (by decide +kernel : ∀ t : Fin grid0.N, _)

def dy (a : FVec Ideal S8192x3072 .f32) (w : FVec Ideal S1024x3072 .f32) (s : FVec Ideal S8192x1024 .f32) (t : Fin 8192) (j : Fin 1024) : EReal :=
  s (ix2 t j) + ∑ k : Fin 3072, a (ix2 t k) * w (ix2 j k)
def cg (a : FVec Ideal S8192x3072 .f32) (w : FVec Ideal S1024x3072 .f32) (s : FVec Ideal S8192x1024 .f32) (g : FVec Ideal S1024 .f32) (t : Fin 8192) (k : Fin 1024) : EReal :=
  dy a w s t k * g (ix1 k)

/-- The product that one step of the grid forms. -/
def dyB (a : FVec Ideal S512x3072 .bf16) (w : FVec Ideal S1024x3072 .bf16) (s : FVec Ideal S512x1024 .f32) (r : Fin 512) (j : Fin 1024) : EReal :=
  (∑ k : Fin 3072, a (ix2 r k) * w (ix2 j k)) + s (ix2 r j)

theorem dyB_at (a : FVec Ideal S512x3072 .bf16) (w : FVec Ideal S1024x3072 .bf16) (s : FVec Ideal S512x1024 .f32) (r : Fin 512) (j : Fin 1024) :
    k0_pay3 (F := Ideal) a w s (ix2 r j) = dyB a w s r j := by
  pointwise [k0_pay3]
  rfl

/-- What one step of the grid stores of the row gradient. -/
theorem dx_at (a : FVec Ideal S512x3072 .bf16) (w : FVec Ideal S1024x3072 .bf16) (s : FVec Ideal S512x1024 .f32) (x : FVec Ideal S512x1024 .f32) (g : FVec Ideal S1x1024 .f32) (d : FVec Ideal S512x1024 .f32)
    (r : Fin 512) (j : Fin 1024) : k0_pay6 (F := Ideal) a w s x g d (ix2 r j)
      = handDx wid eps (fun k => x (ix2 r k)) (fun k => dyB a w s r k * g (ix2 (0 : Fin 1) k)) j + d (ix2 r j) := by
  simp only [← dyB_at]
  generalize hp : k0_pay3 (F := Ideal) a w s = p
  pointwise [k0_pay6, k0_pay5, k0_pay4, hp]
  rfl

theorem dg_at (y x : FVec Ideal S512x1024 .f32) (acc : FVec Ideal S1x1024 .f32) (z : Fin 1) (j : Fin 1024) :
    k0_pay1 (F := Ideal) y (k0_pay5 x) acc (ix2 z j) = acc (ix2 z j) + ∑ r : Fin 512, part y x r j := by
  pointwise [k0_pay1, k0_pay5, k0_pay4]
  rfl

theorem dg_step (y x : FVec Ideal S512x1024 .f32) (acc : FVec Ideal S1x1024 .f32) (j : S1x1024.Idx) :
    k0_pay1 (F := Ideal) y (k0_pay5 x) acc j = acc j + ∑ r : Fin 512, part y x r (col j) := by
  idx_vars j
  exact dg_at y x acc j0 j1

theorem zero_at (j) : k0_pay2 (F := Ideal) j = 0 := by pointwise [k0_pay2]

/-- The gain's gradient: a sum over all rows. -/
def gain (a : FVec Ideal S8192x3072 .f32) (w : FVec Ideal S1024x3072 .f32) (s : FVec Ideal S8192x1024 .f32) (x : FVec Ideal S8192x1024 .f32) (j : Fin 1024) : EReal :=
  ∑ t : Fin 8192, dy a w s t j * (row x t j * rr wid eps (row x t))

/-- The same with the factors the other way round. -/
def gain' (a : FVec Ideal S8192x3072 .f32) (w : FVec Ideal S1024x3072 .f32) (s : FVec Ideal S8192x1024 .f32) (x : FVec Ideal S8192x1024 .f32) (j : Fin 1024) : EReal :=
  ∑ t : Fin 8192, x (ix2 t j) * rr wid eps (row x t) * dy a w s t j

theorem gain_comm (a : FVec Ideal S8192x3072 .f32) (w : FVec Ideal S1024x3072 .f32) (s : FVec Ideal S8192x1024 .f32) (x : FVec Ideal S8192x1024 .f32) (j : Fin 1024) :
    gain' a w s x j = gain a w s x j :=
  Finset.sum_congr rfl fun t _ => mul_comm _ _

/-- On real rows the two gradients are the same. -/
theorem row_eq (a : FVec Ideal S8192x3072 .f32) (w : FVec Ideal S1024x3072 .f32) (s : FVec Ideal S8192x1024 .f32) (x : FVec Ideal S8192x1024 .f32) (g : FVec Ideal S1024 .f32)
    (hs : ∀ i, s i = ((s i).toReal : EReal)) (hx : ∀ i, x i = ((x i).toReal : EReal)) (hg : ∀ i, g i = ((g i).toReal : EReal)) (hw : ∀ i, w i = ((w i).toReal : EReal))
    (ha : ∀ i, a i = ((a i).toReal : EReal)) (t : Fin 8192) (j : Fin 1024) :
    handDx wid eps (row x t) (cg a w s g t) j = diffDx wid eps half (row x t) (cg a w s g t) j := by
  obtain ⟨e, he, hE⟩ := eps_real
  have h1 : row x t = fun k => ((x (ix2 t k)).toReal : EReal) := funext fun k => hx _
  have h2 : cg a w s g t = fun k => ((((s (ix2 t k)).toReal + ∑ l : Fin 3072, (a (ix2 t l)).toReal * (w (ix2 k l)).toReal) * (g (ix1 k)).toReal : ℝ) : EReal) := funext fun k => by
    rw [EReal.coe_mul, EReal.coe_add, coe_sum, ← hg, ← hs]
    simp only [EReal.coe_mul, ← ha, ← hw]
    rfl
  rw [h1, h2, wid_real, half_real, hE]
  exact dx_eq (by norm_num) he _ _ j

theorem gain_at (c : Dev nD) (k : Fin 1024) : V m c main_v2 (ix2 (0 : Fin 1) k) = m (c.tc.loc main_arg1) (ix1 k) := by
  entry_read
  pointwise

theorem w_at (c : Dev nD) (j : Fin 1024) (k : Fin 3072) : V m c main_v1 (ix2 j k) = m (c.tc.loc main_arg2) (ix2 j k) := by
  entry_read
  pointwise

theorem a_at (c : Dev nD) (t : Fin 8192) (k : Fin 3072) : V m c main_v0 (ix2 t k) = m (c.tc.loc main_arg4) (ix2 t k) := by
  entry_read
  pointwise

/-- Either case of the first output stores the same value. -/
theorem out_dx (c : Dev nD) (t : Fin cfg0.N) : (outsAt0 m c t.val t.isLt).1
    = k0_pay6 (F := Ideal) (iblk m c 0 t) (iblk m c 1 t) (iblk m c 5 t) (iblk m c 2 t) (iblk m c 3 t) (iblk m c 4 t) := by
  by_cases h : t.val % 16 = 0
  · rw [outsAt0_A m c t h]; frame_out
  · rw [outsAt0_B m c t h]; frame_out

theorem blk_a (c : Dev nD) (t : Fin cfg0.N) (r : Fin 512) (k : Fin 3072) (u : Fin 8192) (hu : u.val = t.val * 512 + r.val) :
    iblk m c 0 t (ix2 r k) = (m (c.tc.loc main_arg4) : FVec Ideal S8192x3072 .f32) (ix2 u k) := by
  have ht : t.val < 16 := lt_of_lt_of_eq t.isLt N_0
  rw [Fin.ext hu (a := u) (b := ⟨t.val * 512 + r.val, by omega⟩)]
  refine Eq.trans ?_ (a_at m c _ k)
  blk_point [iblk, idx t]

theorem blk_w (c : Dev nD) (t : Fin cfg0.N) (j : Fin 1024) (k : Fin 3072) :
    iblk m c 1 t (ix2 j k) = (m (c.tc.loc main_arg2) : FVec Ideal S1024x3072 .f32) (ix2 j k) := by
  refine Eq.trans ?_ (w_at m c j k)
  blk_point [iblk, idx t]

theorem blk_x (c : Dev nD) (t : Fin cfg0.N) (r : Fin 512) (k : Fin 1024) (u : Fin 8192) (hu : u.val = t.val * 512 + r.val) :
    iblk m c 2 t (ix2 r k) = row (m (c.tc.loc main_arg0)) u k := by
  have ht : t.val < 16 := lt_of_lt_of_eq t.isLt N_0
  rw [Fin.ext hu (a := u) (b := ⟨t.val * 512 + r.val, by omega⟩)]
  blk_point [iblk, V, idx t]

theorem blk_g (c : Dev nD) (t : Fin cfg0.N) (k : Fin 1024) :
    iblk m c 3 t (ix2 (0 : Fin 1) k) = (m (c.tc.loc main_arg1) : FVec Ideal S1024 .f32) (ix1 k) := by
  refine Eq.trans ?_ (gain_at m c k)
  blk_point [iblk, idx t]

theorem blk_d (c : Dev nD) (t : Fin cfg0.N) (r : Fin 512) (k : Fin 1024) (u : Fin 8192) (hu : u.val = t.val * 512 + r.val) :
    iblk m c 4 t (ix2 r k) = row (m (c.tc.loc main_arg3)) u k := by
  have ht : t.val < 16 := lt_of_lt_of_eq t.isLt N_0
  rw [Fin.ext hu (a := u) (b := ⟨t.val * 512 + r.val, by omega⟩)]
  blk_point [iblk, V, idx t]

theorem blk_s (c : Dev nD) (t : Fin cfg0.N) (r : Fin 512) (k : Fin 1024) (u : Fin 8192) (hu : u.val = t.val * 512 + r.val) :
    iblk m c 5 t (ix2 r k) = (m (c.tc.loc main_arg5) : FVec Ideal S8192x1024 .f32) (ix2 u k) := by
  have ht : t.val < 16 := lt_of_lt_of_eq t.isLt N_0
  rw [Fin.ext hu (a := u) (b := ⟨t.val * 512 + r.val, by omega⟩)]
  blk_point [iblk, V, idx t]

theorem blk_dy (c : Dev nD) (t : Fin cfg0.N) (r : Fin 512) (j : Fin 1024) (u : Fin 8192) (hu : u.val = t.val * 512 + r.val) :
    dyB (iblk m c 0 t) (iblk m c 1 t) (iblk m c 5 t) r j = dy (m (c.tc.loc main_arg4)) (m (c.tc.loc main_arg2)) (m (c.tc.loc main_arg5)) u j := by
  unfold dyB dy
  simp only [blk_a m c t r _ u hu, blk_w m c t, blk_s m c t r _ u hu]
  exact add_comm _ _

/-- The row gradient that the call leaves, whole. -/
theorem dx_val (c : Dev nD) (t : Fin cfg0.N) (r : Fin 512) (j : Fin 1024) (u : Fin 8192) (hu : u.val = t.val * 512 + r.val) :
    (outsAt0 m c t.val t.isLt).1 (ix2 r j) = handDx wid eps (row (m (c.tc.loc main_arg0)) u)
      (cg (m (c.tc.loc main_arg4)) (m (c.tc.loc main_arg2)) (m (c.tc.loc main_arg5)) (m (c.tc.loc main_arg1)) u) j + row (m (c.tc.loc main_arg3)) u j := by
  rw [out_dx m c t]
  refine (dx_at _ _ _ _ _ _ r j).trans ?_
  simp only [blk_g m c t, blk_x m c t r _ u hu, blk_d m c t r _ u hu, blk_dy m c t r _ u hu]
  rfl

theorem part_eq (c : Dev nD) (t : Fin cfg0.N) (r : Fin 512) (j : Fin 1024) (u : Fin 8192) (hu : u.val = t.val * 512 + r.val) :
    part (k0_pay3 (F := Ideal) (iblk m c 0 t) (iblk m c 1 t) (iblk m c 5 t)) (iblk m c 2 t) r j = dy (m (c.tc.loc main_arg4)) (m (c.tc.loc main_arg2)) (m (c.tc.loc main_arg5)) u j
      * (row (m (c.tc.loc main_arg0)) u j * rr wid eps (row (m (c.tc.loc main_arg0)) u)) := by
  unfold part
  refine (congrArg (· * _) (dyB_at _ _ _ r j)).trans ?_
  simp only [blk_x m c t r _ u hu, blk_dy m c t r _ u hu]

/-- The reference's row gradient. -/
theorem ref_dx (m' : (ℓ : Loc Reference9Ideal.nD Reference9Ideal.τ Reference9Ideal.sig) → Buf (Elt Ideal) ℓ) (c : Dev nD) (t : Fin 8192) (j : Fin 1024) :
    Reference9Ideal.Value.res_main_v39 m' c (ix2 t j) = diffDx wid eps half (row (m' (c.tc.loc Reference9Ideal.main_arg0)) t)
      (cg (m' (c.tc.loc Reference9Ideal.main_arg4)) (m' (c.tc.loc Reference9Ideal.main_arg2)) (m' (c.tc.loc Reference9Ideal.main_arg5)) (m' (c.tc.loc Reference9Ideal.main_arg1)) t) j
      + row (m' (c.tc.loc Reference9Ideal.main_arg3)) t j := by
  generalize hX : cg (m' (c.tc.loc Reference9Ideal.main_arg4)) (m' (c.tc.loc Reference9Ideal.main_arg2)) (m' (c.tc.loc Reference9Ideal.main_arg5)) (m' (c.tc.loc Reference9Ideal.main_arg1)) = X
  pointwise [Reference9Ideal.Value.res_main_v39]
  simp only [Finset.univ_unique, Finset.sum_const, Finset.card_singleton, one_smul]
  refine Eq.trans (b := row (m' (c.tc.loc Reference9Ideal.main_arg3)) t j + X t j * rr wid eps (row (m' (c.tc.loc Reference9Ideal.main_arg0)) t)
    + row (m' (c.tc.loc Reference9Ideal.main_arg0)) t j * side wid eps half (row (m' (c.tc.loc Reference9Ideal.main_arg0)) t) (X t)
    + side wid eps half (row (m' (c.tc.loc Reference9Ideal.main_arg0)) t) (X t) * row (m' (c.tc.loc Reference9Ideal.main_arg0)) t j) ?_ ?_
  · subst hX; rfl
  · unfold diffDx
    rw [add_comm _ (row (m' (c.tc.loc Reference9Ideal.main_arg3)) t j)]
    simp only [add_assoc]

instance preFacts : Cert.Pre_qkv_dx_finite.Facts := by constructor <;> decide

set_option maxHeartbeats 1600000 in
theorem algebraic [hP : Cert.Pre_qkv_dx_finite.Facts] : Cert.algebraic_Kernel9Ideal_Reference9Ideal_pre_qkv_dx_finite := by
  pair_intro
  · run_from Cert.Kernel9Ideal.Gen.run_main m g
  · run_from Cert.Reference9Ideal.Value.run m' g'
    · symm
      generalize hG : Reference9Ideal.Value.res_main_v39 m' c = G
      have ref_at := fun t j => congrFun hG (ix2 t j) ▸ ref_dx m' c t j
      simp only [hagree c] at ref_at
      refine (dats m 0 c).arrAt_eq_of_covers 6 _ (by decide +kernel) fun t _ y => ?_
      blk_simp
      rw [after0_6]
      idx_vars y
      have ht : t.val < 16 := lt_of_lt_of_eq t.isLt N_0
      have hj : (((View.whole main_v3_0).slice (win0_6.rect t)).emb (ix2 y0 y1))
        = ix2 (⟨t.val * 512 + y0.val, by omega⟩ : Fin 8192) (y1 : Fin 1024) := by
        blk_ext [idx t]
      rw [hj]
      refine Eq.trans ?_ (ref_at _ _).symm
      refine (dx_val m c t y0 y1 (⟨t.val * 512 + y0.val, by omega⟩ : Fin 8192) rfl).trans ?_
      obtain ⟨p0, p1, p2, p3, p4⟩ := hpre c
      exact congrArg (· + _) (row_eq _ _ _ _ _ (real_of_ones _ _ (fun _ => rfl) p4) (real_of_ones _ _ (fun _ => rfl) p0) (real_of_ones _ _ (fun _ => rfl) p1)
        (real_of_ones _ _ (fun _ => rfl) p2) (real_of_ones _ _ (fun _ => rfl) p3) _ _)
    · symm
      generalize hG : (shapeCast _ (Host.reduceAdd _ _ _ _) _ : FVec Ideal S1x1024 .f32) = G
      have ref_at : ∀ (z : Fin 1) (j : Fin 1024), G (ix2 z j) = gain (m (c.tc.loc main_arg4)) (m (c.tc.loc main_arg2)) (m (c.tc.loc main_arg5)) (m (c.tc.loc main_arg0)) j := by
        intro z j
        refine Eq.trans ?_ (gain_comm _ _ _ _ _)
        subst hG
        pointwise [hagree c]
        simp only [Finset.univ_unique, Finset.sum_const, Finset.card_singleton, one_smul]
        rfl
      refine (dats m 0 c).arrAt_eq_of_covers 7 _ (by decide +kernel) fun t hf y => ?_
      blk_simp
      idx_vars y
      have hj : (((View.whole main_v3_1).slice (win0_7.rect t)).emb (ix2 y0 y1)) = ix2 (y0 : Fin 1) (y1 : Fin 1024) := by
        blk_ext [idx t]
      rw [hj, ref_at]
      rw [after0_7, Pipeline.eq_sum_fin_of_reset_step_apply_of_flush (fun n h => (outsAt0 m c n h).2) 16 (fun _ => 0) _
        (fun t h j => by rw [outsAt0_A m c t h]; frame_out; rw [dg_step, zero_at])
        (fun t h j => by rw [outsAt0_B m c t h]; frame_out; rw [dg_step])
        t ((flush0_7 t).mp hf) _, zero_add]
      have ht : t.val < 16 := lt_of_lt_of_eq t.isLt N_0
      refine Fin.sum_mul_add_congr fun s k hl => ?_
      refine (part_eq m c _ k _ ⟨s.val * 512 + k.val, hl⟩ ?_).trans rfl
      have hs : 16 * (t.val / 16) + s.val = s.val := by omega
      simp only [hs]

end Cert.Kernel9Ideal.MmNorm
-- ==== Proof.KvADx.lean ====
module

public import proofs.«01_k».proof.Defs
public import proofs.«01_k».proof.Proof.Gen.Kernel10Ideal.Frame
public import proofs.«01_k».proof.Proof.Gen.Reference10Ideal.Run
public import proofs.«01_k».proof.Proof.NormMm
public import Idealize.ShloMosaic.Lib.StableHlo.RunRead
public import Idealize.ShloMosaic.Lib.Pipeline.ValueKit

/-! The gradient of the norm before the compressed keys and values, fused with the product that brings its cotangent. -/

@[expose] public section

set_option maxRecDepth 16384

noncomputable section

open Idealize.ShloMosaic Idealize.ShloMosaic.TcCoe Idealize.SL.Sem
open Idealize.ShloMosaic.Pipeline (Dat)

namespace Cert.Kernel10Ideal.MmNorm

open Cert.Kernel10Ideal Cert.Kernel10Ideal.Gen Cert.Norm

variable (m : (ℓ : Loc nD τ sig) → Buf (Elt Ideal) ℓ)

theorem idx : ∀ t : Fin cfg0.N, win0_0.index t = ![t.val, 0] ∧ win0_1.index t = ![0, 0]
    ∧ win0_2.index t = ![t.val, 0] ∧ win0_3.index t = ![0, 0] ∧ win0_4.index t = ![t.val, 0]
    ∧ win0_5.index t = ![t.val, 0] ∧ win0_6.index t = ![0, 0]
    ∧ win0_7.index t = ![t.val, 0] :=
  (by decide +kernel : ∀ t : Fin grid0.N, _)

theorem dyB_at (a : FVec Ideal S512x384 .f32) (w : FVec Ideal S1024x384 .bf16) (r : Fin 512) (j : Fin 1024) :
    k0_pay4 (F := Ideal) a w (ix2 r j) = dyB a w r j := by
  pointwise [k0_pay4]
  rfl

/-- What one step of the grid stores of the row gradient. -/
theorem dx_at (a : FVec Ideal S512x384 .f32) (w : FVec Ideal S1024x384 .bf16) (x : FVec Ideal S512x1024 .f32) (g : FVec Ideal S1x1024 .f32) (d : FVec Ideal S512x1024 .f32)
    (r : Fin 512) (j : Fin 1024) : k0_pay7 (F := Ideal) a w x g d (ix2 r j)
      = handDx wid eps (fun k => x (ix2 r k)) (fun k => dyB a w r k * g (ix2 (0 : Fin 1) k)) j + d (ix2 r j) := by
  simp only [← dyB_at]
  generalize hp : k0_pay4 (F := Ideal) a w = p
  pointwise [k0_pay7, k0_pay6, k0_pay5, hp]
  rfl

theorem dg_at (y x : FVec Ideal S512x1024 .f32) (acc : FVec Ideal S1x1024 .f32) (z : Fin 1) (j : Fin 1024) :
    k0_pay2 (F := Ideal) y (k0_pay6 x) acc (ix2 z j) = acc (ix2 z j) + ∑ r : Fin 512, part y x r j := by
  pointwise [k0_pay2, k0_pay6, k0_pay5]
  rfl

theorem dg_step (y x : FVec Ideal S512x1024 .f32) (acc : FVec Ideal S1x1024 .f32) (j : S1x1024.Idx) :
    k0_pay2 (F := Ideal) y (k0_pay6 x) acc j = acc j + ∑ r : Fin 512, part y x r (col j) := by
  idx_vars j
  exact dg_at y x acc j0 j1

theorem zero_at (j) : k0_pay3 (F := Ideal) j = 0 := by pointwise [k0_pay3]

/-- The rows of the unpadded arrays. -/
def colsA (a : FVec Ideal S8192x320 .f32) (t : Fin 8192) (k : Fin 320) : EReal := a (ix2 t k)
def colsW (w : FVec Ideal S1024x320 .f32) (j : Fin 1024) (k : Fin 320) : EReal := w (ix2 j k)

def wideA (x : FVec Ideal S8192x320 .f32) : FVec Ideal S8192x384 .f32 :=
  pad S8192x384 ![0, 0] ![0, 64] ![0, 0] x (sitofp .f32 (constantI S_ 32 0#32)) pads_S8192x320_S8192x384_000_0640 h_S_
def wideW (x : FVec Ideal S1024x320 .f32) : FVec Ideal S1024x384 .bf16 :=
  pad S1024x384 ![0, 0] ![0, 64] ![0, 0] (truncf .bf16 x bitsLt_bf16_f32) (sitofp .bf16 (constantI S_ 32 0#32)) pads_S1024x320_S1024x384_000_0640 h_S_

abbrev pre : List (HloOp τ sig (Elt Ideal)) := [hostOps0, hostOps0_1, hostOps0_2, hostOps0_3, hostOps0_4].flatten

theorem read_a (W : Valuation τ sig (Elt Ideal)) : StableHlo.after pre W (Proc.devRef .tc main_v0) = wideA (W (Proc.devRef .tc main_arg4)) := by
  unfold pre
  simp only [List.flatten_cons, List.flatten_nil, List.cons_append, List.nil_append, List.append_nil]
  after_reads_simp
  simp only [StableHlo.TRef.ofBuf_toBuf]
  unfold wideA
  rfl

theorem read_w (W : Valuation τ sig (Elt Ideal)) : StableHlo.after pre W (Proc.devRef .tc main_v2) = wideW (W (Proc.devRef .tc main_arg2)) := by
  unfold pre
  simp only [List.flatten_cons, List.flatten_nil, List.cons_append, List.nil_append, List.append_nil]
  after_reads_simp
  simp only [StableHlo.TRef.ofBuf_toBuf]
  unfold wideW
  rfl

theorem read_g (W : Valuation τ sig (Elt Ideal)) : StableHlo.after pre W (Proc.devRef .tc main_v3)
    = shapeCast S1x1024 (W (Proc.devRef .tc main_arg1)) shapeCasts_S1024_S1x1024 := by
  unfold pre
  simp only [List.flatten_cons, List.flatten_nil, List.cons_append, List.nil_append, List.append_nil]
  after_reads_simp
  rfl

theorem read_arg (W : Valuation τ sig (Elt Ideal)) :
    StableHlo.after pre W (Proc.devRef .tc main_arg0) = W (Proc.devRef .tc main_arg0)
    ∧ StableHlo.after pre W (Proc.devRef .tc main_arg1) = W (Proc.devRef .tc main_arg1)
    ∧ StableHlo.after pre W (Proc.devRef .tc main_arg2) = W (Proc.devRef .tc main_arg2)
    ∧ StableHlo.after pre W (Proc.devRef .tc main_arg3) = W (Proc.devRef .tc main_arg3)
    ∧ StableHlo.after pre W (Proc.devRef .tc main_arg4) = W (Proc.devRef .tc main_arg4) := by
  unfold pre
  simp only [List.flatten_cons, List.flatten_nil, List.cons_append, List.nil_append, List.append_nil]
  refine ⟨?_, ?_, ?_, ?_, ?_⟩ <;> after_reads_simp

theorem wideA_at (x : FVec Ideal S8192x320 .f32) (t : Fin 8192) (k : Fin 384) : wideA x (ix2 t k)
    = if h : k.val < 320 then colsA x t ⟨k.val, h⟩ else (0 : EReal) := by
  unfold wideA colsA
  pointwise
  rw [show FloatOps.sitofp (F := Ideal) FTy.f32 0#32 = (0 : EReal) from by show (((0#32 : BitVec 32).toInt : ℝ) : EReal) = 0; simp]

theorem wideW_at (x : FVec Ideal S1024x320 .f32) (t : Fin 1024) (k : Fin 384) : wideW x (ix2 t k)
    = if h : k.val < 320 then colsW x t ⟨k.val, h⟩ else (0 : EReal) := by
  unfold wideW colsW
  pointwise
  rw [show FloatOps.sitofp (F := Ideal) FTy.bf16 0#32 = (0 : EReal) from by show (((0#32 : BitVec 32).toInt : ℝ) : EReal) = 0; simp]

theorem a_at (c : Dev nD) (t : Fin 8192) (k : Fin 384) : (V m c main_v0 : FVec Ideal S8192x384 .f32) (ix2 t k)
    = if h : k.val < 320 then colsA (m (c.tc.loc main_arg4)) t ⟨k.val, h⟩ else (0 : EReal) :=
  (congrFun (read_a _) _).trans (wideA_at _ t k)

theorem w_at (c : Dev nD) (j : Fin 1024) (k : Fin 384) : (V m c main_v2 : FVec Ideal S1024x384 .bf16) (ix2 j k)
    = if h : k.val < 320 then colsW (m (c.tc.loc main_arg2)) j ⟨k.val, h⟩ else (0 : EReal) :=
  (congrFun (read_w _) _).trans (wideW_at _ j k)

theorem gain_at (c : Dev nD) (k : Fin 1024) : (V m c main_v3 : FVec Ideal S1x1024 .f32) (ix2 (0 : Fin 1) k) = m (c.tc.loc main_arg1) (ix1 k) := by
  refine (congrFun (read_g _) _).trans ?_
  pointwise

/-- Columns of zeros add nothing to a product. -/
theorem sum_pad (f g : Fin 320 → EReal) :
    ∑ k : Fin 384, (if h : k.val < 320 then f ⟨k.val, h⟩ else 0) * (if h : k.val < 320 then g ⟨k.val, h⟩ else 0) = ∑ k, f k * g k := by
  rw [show (384 : ℕ) = 320 + 64 from rfl, Fin.sum_univ_add]
  have h0 : ∀ i : Fin 64, ¬ (Fin.natAdd 320 i).val < 320 := fun i => by simp
  simp only [h0, dif_neg, not_false_eq_true, mul_zero, Finset.sum_const_zero, add_zero, Fin.val_castAdd, Fin.is_lt, dif_pos]

/-- Either case of the first output stores the same value. -/
theorem out_dx (c : Dev nD) (t : Fin cfg0.N) : (outsAt0 m c t.val t.isLt).1
    = k0_pay7 (F := Ideal) (iblk m c 0 t) (iblk m c 1 t) (iblk m c 2 t) (iblk m c 3 t) (iblk m c 4 t) := by
  by_cases h : t.val % 16 = 0
  · rw [outsAt0_A m c t h]; frame_out
  · rw [outsAt0_B m c t h]; frame_out

theorem blk_a (c : Dev nD) (t : Fin cfg0.N) (r : Fin 512) (k : Fin 384) (u : Fin 8192) (hu : u.val = t.val * 512 + r.val) :
    iblk m c 0 t (ix2 r k) = if h : k.val < 320 then colsA (m (c.tc.loc main_arg4)) u ⟨k.val, h⟩ else (0 : EReal) := by
  have ht : t.val < 16 := lt_of_lt_of_eq t.isLt N_0
  rw [Fin.ext hu (a := u) (b := ⟨t.val * 512 + r.val, by omega⟩)]
  refine Eq.trans ?_ (a_at m c _ k)
  blk_point [iblk, idx t]

theorem blk_w (c : Dev nD) (t : Fin cfg0.N) (j : Fin 1024) (k : Fin 384) :
    iblk m c 1 t (ix2 j k) = if h : k.val < 320 then colsW (m (c.tc.loc main_arg2)) j ⟨k.val, h⟩ else (0 : EReal) := by
  refine Eq.trans ?_ (w_at m c j k)
  blk_point [iblk, idx t]

theorem blk_x (c : Dev nD) (t : Fin cfg0.N) (r : Fin 512) (k : Fin 1024) (u : Fin 8192) (hu : u.val = t.val * 512 + r.val) :
    iblk m c 2 t (ix2 r k) = row (m (c.tc.loc main_arg0)) u k := by
  have ht : t.val < 16 := lt_of_lt_of_eq t.isLt N_0
  rw [Fin.ext hu (a := u) (b := ⟨t.val * 512 + r.val, by omega⟩)]
  blk_point [iblk, V, idx t]

theorem blk_g (c : Dev nD) (t : Fin cfg0.N) (k : Fin 1024) :
    iblk m c 3 t (ix2 (0 : Fin 1) k) = (m (c.tc.loc main_arg1) : FVec Ideal S1024 .f32) (ix1 k) := by
  refine Eq.trans ?_ (gain_at m c k)
  blk_point [iblk, idx t]

theorem blk_d (c : Dev nD) (t : Fin cfg0.N) (r : Fin 512) (k : Fin 1024) (u : Fin 8192) (hu : u.val = t.val * 512 + r.val) :
    iblk m c 4 t (ix2 r k) = row (m (c.tc.loc main_arg3)) u k := by
  have ht : t.val < 16 := lt_of_lt_of_eq t.isLt N_0
  rw [Fin.ext hu (a := u) (b := ⟨t.val * 512 + r.val, by omega⟩)]
  blk_point [iblk, V, idx t]

theorem blk_dy (c : Dev nD) (t : Fin cfg0.N) (r : Fin 512) (j : Fin 1024) (u : Fin 8192) (hu : u.val = t.val * 512 + r.val) :
    dyB (iblk m c 0 t) (iblk m c 1 t) r j = dy (m (c.tc.loc main_arg4)) (m (c.tc.loc main_arg2)) u j := by
  unfold dyB dy
  simp only [blk_a m c t r _ u hu, blk_w m c t]
  exact sum_pad (colsA (m (c.tc.loc main_arg4)) u) (colsW (m (c.tc.loc main_arg2)) j)

/-- The row gradient that the call leaves, whole. -/
theorem dx_val (c : Dev nD) (t : Fin cfg0.N) (r : Fin 512) (j : Fin 1024) (u : Fin 8192) (hu : u.val = t.val * 512 + r.val) :
    (outsAt0 m c t.val t.isLt).1 (ix2 r j) = handDx wid eps (row (m (c.tc.loc main_arg0)) u)
      (cg (m (c.tc.loc main_arg4)) (m (c.tc.loc main_arg2)) (m (c.tc.loc main_arg1)) u) j + row (m (c.tc.loc main_arg3)) u j := by
  rw [out_dx m c t]
  refine (dx_at _ _ _ _ _ r j).trans ?_
  simp only [blk_g m c t, blk_x m c t r _ u hu, blk_d m c t r _ u hu, blk_dy m c t r _ u hu]
  rfl

/-- The second copy of it, in the narrow type. -/
theorem dx16_val (c : Dev nD) (t : Fin cfg0.N) (r : Fin 512) (j : Fin 1024) (u : Fin 8192) (hu : u.val = t.val * 512 + r.val) :
    (outsAt0 m c t.val t.isLt).2.2 (ix2 r j) = handDx wid eps (row (m (c.tc.loc main_arg0)) u)
      (cg (m (c.tc.loc main_arg4)) (m (c.tc.loc main_arg2)) (m (c.tc.loc main_arg1)) u) j + row (m (c.tc.loc main_arg3)) u j := by
  have e : (outsAt0 m c t.val t.isLt).2.2 = k0_pay1 (k0_pay7 (F := Ideal) (iblk m c 0 t) (iblk m c 1 t) (iblk m c 2 t) (iblk m c 3 t) (iblk m c 4 t)) := by
    by_cases h : t.val % 16 = 0
    · rw [outsAt0_A m c t h]; frame_out
    · rw [outsAt0_B m c t h]; frame_out
  refine Eq.trans ?_ (dx_val m c t r j u hu)
  rw [e, out_dx m c t]
  rfl

theorem part_eq (c : Dev nD) (t : Fin cfg0.N) (r : Fin 512) (j : Fin 1024) (u : Fin 8192) (hu : u.val = t.val * 512 + r.val) :
    part (k0_pay4 (F := Ideal) (iblk m c 0 t) (iblk m c 1 t)) (iblk m c 2 t) r j = dy (m (c.tc.loc main_arg4)) (m (c.tc.loc main_arg2)) u j
      * (row (m (c.tc.loc main_arg0)) u j * rr wid eps (row (m (c.tc.loc main_arg0)) u)) := by
  unfold part
  refine (congrArg (· * _) (dyB_at _ _ r j)).trans ?_
  simp only [blk_x m c t r _ u hu, blk_dy m c t r _ u hu]

/-- The reference's row gradient. -/
theorem ref_dx (m' : (ℓ : Loc Reference10Ideal.nD Reference10Ideal.τ Reference10Ideal.sig) → Buf (Elt Ideal) ℓ) (c : Dev nD) (t : Fin 8192) (j : Fin 1024) :
    Reference10Ideal.Value.res_main_v38 m' c (ix2 t j) = diffDx wid eps half (row (m' (c.tc.loc Reference10Ideal.main_arg0)) t)
      (cg (m' (c.tc.loc Reference10Ideal.main_arg4)) (m' (c.tc.loc Reference10Ideal.main_arg2)) (m' (c.tc.loc Reference10Ideal.main_arg1)) t) j
      + row (m' (c.tc.loc Reference10Ideal.main_arg3)) t j := by
  generalize hX : cg (m' (c.tc.loc Reference10Ideal.main_arg4)) (m' (c.tc.loc Reference10Ideal.main_arg2)) (m' (c.tc.loc Reference10Ideal.main_arg1)) = X
  pointwise [Reference10Ideal.Value.res_main_v38]
  simp only [Finset.univ_unique, Finset.sum_const, Finset.card_singleton, one_smul]
  refine Eq.trans (b := row (m' (c.tc.loc Reference10Ideal.main_arg3)) t j + X t j * rr wid eps (row (m' (c.tc.loc Reference10Ideal.main_arg0)) t)
    + row (m' (c.tc.loc Reference10Ideal.main_arg0)) t j * side wid eps half (row (m' (c.tc.loc Reference10Ideal.main_arg0)) t) (X t)
    + side wid eps half (row (m' (c.tc.loc Reference10Ideal.main_arg0)) t) (X t) * row (m' (c.tc.loc Reference10Ideal.main_arg0)) t j) ?_ ?_
  · subst hX; rfl
  · unfold diffDx
    rw [add_comm _ (row (m' (c.tc.loc Reference10Ideal.main_arg3)) t j)]
    simp only [add_assoc]

instance preFacts : Cert.Pre_kv_a_dx_finite.Facts := by constructor <;> decide

set_option maxHeartbeats 1600000 in
theorem algebraic [hP : Cert.Pre_kv_a_dx_finite.Facts] : Cert.algebraic_Kernel10Ideal_Reference10Ideal_pre_kv_a_dx_finite := by
  pair_intro
  · run_from Cert.Kernel10Ideal.Gen.run_main m g
    · exact (read_arg _).2.1
    · exact (read_arg _).2.2.1
    · exact (read_arg _).2.2.2.2
  · run_from Cert.Reference10Ideal.Value.run m' g'
    · symm
      generalize hG : Reference10Ideal.Value.res_main_v38 m' c = G
      have ref_at := fun t j => congrFun hG (ix2 t j) ▸ ref_dx m' c t j
      simp only [hagree c] at ref_at
      refine (dats m 0 c).arrAt_eq_of_covers 5 _ (by decide +kernel) fun t _ y => ?_
      blk_simp
      rw [after0_5]
      idx_vars y
      have ht : t.val < 16 := lt_of_lt_of_eq t.isLt N_0
      have hj : (((View.whole main_v4_0).slice (win0_5.rect t)).emb (ix2 y0 y1))
        = ix2 (⟨t.val * 512 + y0.val, by omega⟩ : Fin 8192) (y1 : Fin 1024) := by
        blk_ext [idx t]
      rw [hj]
      refine Eq.trans ?_ (ref_at _ _).symm
      refine (dx_val m c t y0 y1 (⟨t.val * 512 + y0.val, by omega⟩ : Fin 8192) rfl).trans ?_
      obtain ⟨p0, p1, p2, p3⟩ := hpre c
      exact congrArg (· + _) (row_eq _ _ _ _ (real_of_ones _ _ (fun _ => rfl) p0) (real_of_ones _ _ (fun _ => rfl) p1)
        (real_of_ones _ _ (fun _ => rfl) p2) (real_of_ones _ _ (fun _ => rfl) p3) _ _)
    · symm
      generalize hG : (shapeCast _ (Host.reduceAdd _ _ _ _) _ : FVec Ideal S1x1024 .f32) = G
      have ref_at : ∀ (z : Fin 1) (j : Fin 1024), G (ix2 z j) = gain (m (c.tc.loc main_arg4)) (m (c.tc.loc main_arg2)) (m (c.tc.loc main_arg0)) j := by
        intro z j
        refine Eq.trans ?_ (gain_comm _ _ _ _)
        subst hG
        pointwise [hagree c]
        simp only [Finset.univ_unique, Finset.sum_const, Finset.card_singleton, one_smul]
        rfl
      refine (dats m 0 c).arrAt_eq_of_covers 6 _ (by decide +kernel) fun t hf y => ?_
      blk_simp
      idx_vars y
      have hj : (((View.whole main_v4_1).slice (win0_6.rect t)).emb (ix2 y0 y1)) = ix2 (y0 : Fin 1) (y1 : Fin 1024) := by
        blk_ext [idx t]
      rw [hj, ref_at]
      rw [after0_6, Pipeline.eq_sum_fin_of_reset_step_apply_of_flush (fun n h => (outsAt0 m c n h).2.1) 16 (fun _ => 0) _
        (fun t h j => by rw [outsAt0_A m c t h]; frame_out; rw [dg_step, zero_at])
        (fun t h j => by rw [outsAt0_B m c t h]; frame_out; rw [dg_step])
        t ((flush0_6 t).mp hf) _, zero_add]
      have ht : t.val < 16 := lt_of_lt_of_eq t.isLt N_0
      refine Fin.sum_mul_add_congr fun s k hl => ?_
      refine (part_eq m c _ k _ ⟨s.val * 512 + k.val, hl⟩ ?_).trans rfl
      have hs : 16 * (t.val / 16) + s.val = s.val := by omega
      simp only [hs]
    · symm
      generalize hG : Reference10Ideal.Value.res_main_v40 m' c = G
      have ref_at := fun t j => (congrFun hG (ix2 t j)).symm.trans (ref_dx m' c t j)
      simp only [hagree c] at ref_at
      refine (dats m 0 c).arrAt_eq_of_covers 7 _ (by decide +kernel) fun t _ y => ?_
      blk_simp
      rw [after0_7]
      idx_vars y
      have ht : t.val < 16 := lt_of_lt_of_eq t.isLt N_0
      have hj : (((View.whole main_v4_2).slice (win0_7.rect t)).emb (ix2 y0 y1))
        = ix2 (⟨t.val * 512 + y0.val, by omega⟩ : Fin 8192) (y1 : Fin 1024) := by
        blk_ext [idx t]
      rw [hj]
      refine Eq.trans ?_ (ref_at _ _).symm
      refine (dx16_val m c t y0 y1 (⟨t.val * 512 + y0.val, by omega⟩ : Fin 8192) rfl).trans ?_
      obtain ⟨p0, p1, p2, p3⟩ := hpre c
      exact congrArg (· + _) (row_eq _ _ _ _ (real_of_ones _ _ (fun _ => rfl) p0) (real_of_ones _ _ (fun _ => rfl) p1)
        (real_of_ones _ _ (fun _ => rfl) p2) (real_of_ones _ _ (fun _ => rfl) p3) _ _)

end Cert.Kernel10Ideal.MmNorm
-- ==== Proof.LossHead.lean ====
module

public import proofs.«01_k».proof.Defs
public import proofs.«01_k».proof.Proof.Gen.Kernel11Ideal.Frame
public import proofs.«01_k».proof.Proof.Gen.Reference11Ideal.Run
public import proofs.«01_k».proof.Proof.NormRow
public import Idealize.ShloMosaic.Lib.StableHlo.RunRead
public import Idealize.ShloMosaic.Lib.Pipeline.ValueKit

/-! The squared error behind the last norm: its value and its gradients. -/

@[expose] public section

set_option maxRecDepth 16384

noncomputable section

open Idealize.ShloMosaic Idealize.ShloMosaic.TcCoe Idealize.SL.Sem
open Idealize.ShloMosaic.Pipeline (Dat)

namespace Cert.Kernel11Ideal.Loss

open Cert.Kernel11Ideal Cert.Kernel11Ideal.Gen Cert.Norm

variable (m : (ℓ : Loc nD τ sig) → Buf (Elt Ideal) ℓ)

theorem idx : ∀ t : Fin cfg0.N, win0_0.index t = ![t.val, 0] ∧ win0_1.index t = ![0, 0]
    ∧ win0_2.index t = ![t.val, 0] ∧ win0_3.index t = ![t.val, 0] ∧ win0_4.index t = ![0, 0]
    ∧ win0_5.index t = ![0, 0] ∧ win0_6.index t = ![t.val, 0] :=
  (by decide +kernel : ∀ t : Fin grid0.N, _)

def inv : EReal := Ideal.ofBits .f32 0x3A800000#32
def hlf : EReal := Ideal.ofBits .f32 0x3F000000#32
def one : EReal := Ideal.ofBits .f32 0x3F800000#32

theorem inv_real : inv = ((1 / 1024 : ℝ) : EReal) := by
  unfold inv; simp only [Ideal.ofBits]; unfold Ideal.ieee; simp; rw [← EReal.coe_mul]; norm_num

theorem hlf_real : hlf = ((1 / 2 : ℝ) : EReal) := by
  unfold hlf; simp only [Ideal.ofBits]; unfold Ideal.ieee; simp; rw [← EReal.coe_mul]; norm_num

theorem one_real : one = ((1 : ℝ) : EReal) := by
  unfold one; simp only [Ideal.ofBits]; unfold Ideal.ieee; simp; rw [← EReal.coe_mul]; norm_num

/-- A row of an array, and a row of the error of the normed rows. -/
def row (x : FVec Ideal S8192x1024 .f32) (t : Fin 8192) (k : Fin 1024) : EReal := x (ix2 t k)
def err (x : FVec Ideal S8192x1024 .f32) (g : FVec Ideal S1024 .f32) (y : FVec Ideal S8192x1024 .f32) (t : Fin 8192) (k : Fin 1024) : EReal :=
  row x t k * rr wid eps (row x t) * g (ix1 k) - row y t k

/-- The error that one step of the grid forms. -/
def errB (x : FVec Ideal S512x1024 .f32) (g : FVec Ideal S1x1024 .f32) (y : FVec Ideal S512x1024 .f32) (r : Fin 512) (k : Fin 1024) : EReal :=
  x (ix2 r k) * rr wid eps (fun k => x (ix2 r k)) * g (ix2 (0 : Fin 1) k) - y (ix2 r k)

theorem errB_at (x : FVec Ideal S512x1024 .f32) (g : FVec Ideal S1x1024 .f32) (y : FVec Ideal S512x1024 .f32) (r : Fin 512) (k : Fin 1024) :
    k0_pay9 (F := Ideal) x g y (ix2 r k) = errB x g y r k := by
  pointwise [k0_pay9, k0_pay8, k0_pay7, k0_pay6]
  rfl

/-- What one step of the grid stores of the row gradient. -/
theorem dx_at (x : FVec Ideal S512x1024 .f32) (g : FVec Ideal S1x1024 .f32) (y : FVec Ideal S512x1024 .f32)
    (r : Fin 512) (j : Fin 1024) : k0_pay1 (F := Ideal) (k0_pay6 x) (k0_pay7 x) (k0_pay11 x g y) (k0_pay12 g) (ix2 r j)
      = handDx wid eps (fun k => x (ix2 r k)) (fun k => errB x g y r k * inv * g (ix2 (0 : Fin 1) k)) j := by
  simp only [← errB_at]
  unfold k0_pay11
  generalize hp : k0_pay9 (F := Ideal) x g y = p
  pointwise [k0_pay1, k0_pay12, k0_pay8, k0_pay7, k0_pay6]
  rfl

/-- One row's part of the gain's gradient. -/
def part (e : Fin 512 → Fin 1024 → EReal) (x : FVec Ideal S512x1024 .f32) (r : Fin 512) (j : Fin 1024) : EReal :=
  e r j * inv * (x (ix2 r j) * rr wid eps (fun k => x (ix2 r k)))

theorem dg_at (x : FVec Ideal S512x1024 .f32) (g : FVec Ideal S1x1024 .f32) (y : FVec Ideal S512x1024 .f32) (acc : FVec Ideal S1x1024 .f32) (z : Fin 1) (j : Fin 1024) :
    k0_pay3 (F := Ideal) (k0_pay7 x) (k0_pay11 x g y) acc (ix2 z j) = acc (ix2 z j) + ∑ r : Fin 512, part (errB x g y) x r j := by
  unfold part
  simp only [← errB_at]
  unfold k0_pay11
  generalize hp : k0_pay9 (F := Ideal) x g y = p
  pointwise [k0_pay3, k0_pay7, k0_pay6]
  rfl

/-- The second coordinate of an index of one row. -/
def col (j : S1x1024.Idx) : Fin 1024 := j 1

theorem dg_step (x : FVec Ideal S512x1024 .f32) (g : FVec Ideal S1x1024 .f32) (y : FVec Ideal S512x1024 .f32) (acc : FVec Ideal S1x1024 .f32) (j : S1x1024.Idx) :
    k0_pay3 (F := Ideal) (k0_pay7 x) (k0_pay11 x g y) acc j = acc j + ∑ r : Fin 512, part (errB x g y) x r (col j) := by
  idx_vars j
  exact dg_at x g y acc j0 j1

theorem zero_at (j) : k0_pay4 (F := Ideal) j = 0 := by pointwise [k0_pay4]

/-- One row's loss. -/
def lossRow (e : Fin 1024 → EReal) : EReal := Ideal.div (∑ k, e k * e k) wid

theorem loss_step (x : FVec Ideal S512x1024 .f32) (g : FVec Ideal S1x1024 .f32) (y : FVec Ideal S512x1024 .f32) (acc : FVec Ideal S1x128 .f32) (j : S1x128.Idx) :
    k0_pay10 (F := Ideal) x g y acc j = acc j + hlf * ∑ r : Fin 512, lossRow (errB x g y r) := by
  idx_vars j
  unfold lossRow
  simp only [← errB_at]
  generalize hp : k0_pay9 (F := Ideal) x g y = p
  pointwise [k0_pay10, hp]
  rfl

theorem loss_zero (j) : k0_pay5 (F := Ideal) j = 0 := by pointwise [k0_pay5]

/-- The cotangent of the normed rows, as each program writes it. -/
def cotK (x : FVec Ideal S8192x1024 .f32) (g : FVec Ideal S1024 .f32) (y : FVec Ideal S8192x1024 .f32) (t : Fin 8192) (k : Fin 1024) : EReal :=
  err x g y t k * inv * g (ix1 k)
def cotR (x : FVec Ideal S8192x1024 .f32) (g : FVec Ideal S1024 .f32) (y : FVec Ideal S8192x1024 .f32) (t : Fin 8192) (k : Fin 1024) : EReal :=
  (err x g y t k * Ideal.div hlf wid + Ideal.div hlf wid * err x g y t k) * g (ix1 k)

/-- An array of real numbers. -/
def Reals {s : Shape} (x : FVec Ideal s .f32) : Prop := ∀ i, x i = ((x i).toReal : EReal)

theorem err_real (x : FVec Ideal S8192x1024 .f32) (g : FVec Ideal S1024 .f32) (y : FVec Ideal S8192x1024 .f32)
    (hx : Reals x) (hg : Reals g) (hy : Reals y) (t : Fin 8192) : ∃ E : Fin 1024 → ℝ, ∀ k, err x g y t k = (E k : EReal) := by
  obtain ⟨e, he, hE⟩ := eps_real
  have h1 : row x t = fun k => ((x (ix2 t k)).toReal : EReal) := funext fun k => hx _
  obtain ⟨r, hr, -⟩ := rr_real (n := 1024) (by norm_num) he (fun k => (x (ix2 t k)).toReal)
  refine ⟨fun k => (x (ix2 t k)).toReal * r * (g (ix1 k)).toReal - (y (ix2 t k)).toReal, fun k => ?_⟩
  rw [EReal.coe_sub, EReal.coe_mul, EReal.coe_mul, ← hx, ← hg, ← hy, ← hr, ← wid_real, ← hE, ← h1]
  rfl

theorem twice : Ideal.div hlf wid = ((1 / 2 / 1024 : ℝ) : EReal) := by
  rw [hlf_real, wid_real, div_real _ (by norm_num)]

theorem weight_eq (E : ℝ) : (E : EReal) * Ideal.div hlf wid + Ideal.div hlf wid * (E : EReal) = E * inv := by
  rw [twice, inv_real, ← EReal.coe_mul, ← EReal.coe_mul, ← EReal.coe_add, ← EReal.coe_mul]
  congr 1
  ring

theorem cot_eq (x : FVec Ideal S8192x1024 .f32) (g : FVec Ideal S1024 .f32) (y : FVec Ideal S8192x1024 .f32)
    (hx : Reals x) (hg : Reals g) (hy : Reals y) (t : Fin 8192) : cotR x g y t = cotK x g y t := by
  obtain ⟨E, hE⟩ := err_real x g y hx hg hy t
  funext k
  unfold cotR cotK
  rw [hE k, weight_eq]

theorem row_eq (x : FVec Ideal S8192x1024 .f32) (g : FVec Ideal S1024 .f32) (y : FVec Ideal S8192x1024 .f32)
    (hx : Reals x) (hg : Reals g) (hy : Reals y) (t : Fin 8192) (j : Fin 1024) :
    handDx wid eps (row x t) (cotK x g y t) j = diffDx wid eps half (row x t) (cotR x g y t) j := by
  rw [cot_eq x g y hx hg hy]
  obtain ⟨E, hE⟩ := err_real x g y hx hg hy t
  obtain ⟨e, he, hE'⟩ := eps_real
  have h1 : row x t = fun k => ((x (ix2 t k)).toReal : EReal) := funext fun k => hx _
  have h2 : cotK x g y t = fun k => ((E k * (1 / 1024) * (g (ix1 k)).toReal : ℝ) : EReal) := funext fun k => by
    rw [EReal.coe_mul, EReal.coe_mul, ← hg, ← inv_real, ← hE]
    rfl
  rw [h1, h2, wid_real, half_real, hE']
  exact dx_eq (by norm_num) he _ _ j

/-- The reference's row gradient. -/
theorem ref_dx (m' : (ℓ : Loc Reference11Ideal.nD Reference11Ideal.τ Reference11Ideal.sig) → Buf (Elt Ideal) ℓ) (c : Dev nD) (t : Fin 8192) (j : Fin 1024) :
    Reference11Ideal.Value.res_main_v50 m' c (ix2 t j) = diffDx wid eps half (row (m' (c.tc.loc Reference11Ideal.main_arg0)) t)
      (cotR (m' (c.tc.loc Reference11Ideal.main_arg0)) (m' (c.tc.loc Reference11Ideal.main_arg1)) (m' (c.tc.loc Reference11Ideal.main_arg2)) t) j := by
  pointwise [Reference11Ideal.Value.res_main_v50]
  simp only [Finset.univ_unique, Finset.sum_const, Finset.card_singleton, one_smul]
  rfl

/-- The gain's gradient: a sum over all rows, in the two orders of the factors. -/
def gain (x : FVec Ideal S8192x1024 .f32) (g : FVec Ideal S1024 .f32) (y : FVec Ideal S8192x1024 .f32) (j : Fin 1024) : EReal :=
  ∑ t : Fin 8192, err x g y t j * inv * (row x t j * rr wid eps (row x t))
def gainR (x : FVec Ideal S8192x1024 .f32) (g : FVec Ideal S1024 .f32) (y : FVec Ideal S8192x1024 .f32) (j : Fin 1024) : EReal :=
  ∑ t : Fin 8192, row x t j * rr wid eps (row x t) * (err x g y t j * Ideal.div hlf wid + Ideal.div hlf wid * err x g y t j)

theorem gain_eq (x : FVec Ideal S8192x1024 .f32) (g : FVec Ideal S1024 .f32) (y : FVec Ideal S8192x1024 .f32)
    (hx : Reals x) (hg : Reals g) (hy : Reals y) (j : Fin 1024) : gainR x g y j = gain x g y j :=
  Finset.sum_congr rfl fun t _ => by
    obtain ⟨E, hE⟩ := err_real x g y hx hg hy t
    rw [hE j, weight_eq, mul_comm]

/-- The loss, with the half taken inside the sum. -/
theorem half_sum {n : ℕ} (f : Fin n → EReal) (F : Fin n → ℝ) (h : ∀ k, f k = (F k : EReal)) : hlf * ∑ k, f k = ∑ k, hlf * f k := by
  simp only [h, hlf_real]
  rw [← coe_sum, ← EReal.coe_mul, Finset.mul_sum, coe_sum]
  simp only [EReal.coe_mul]

theorem lossRow_real (e : Fin 1024 → EReal) (E : Fin 1024 → ℝ) (h : ∀ k, e k = (E k : EReal)) : lossRow e = (((∑ k, E k * E k) / 1024 : ℝ) : EReal) := by
  unfold lossRow
  simp only [h, wid_real, ← EReal.coe_mul]
  rw [← coe_sum, div_real _ (by norm_num)]

theorem gain_at (c : Dev nD) (k : Fin 1024) : V m c main_v0 (ix2 (0 : Fin 1) k) = m (c.tc.loc main_arg1) (ix1 k) := by
  entry_read
  pointwise

theorem blk_x (c : Dev nD) (t : Fin cfg0.N) (r : Fin 512) (k : Fin 1024) (u : Fin 8192) (hu : u.val = t.val * 512 + r.val) :
    iblk m c 0 t (ix2 r k) = row (m (c.tc.loc main_arg0)) u k := by
  have ht : t.val < 16 := lt_of_lt_of_eq t.isLt N_0
  rw [Fin.ext hu (a := u) (b := ⟨t.val * 512 + r.val, by omega⟩)]
  blk_point [iblk, V, idx t]

theorem blk_y (c : Dev nD) (t : Fin cfg0.N) (r : Fin 512) (k : Fin 1024) (u : Fin 8192) (hu : u.val = t.val * 512 + r.val) :
    iblk m c 2 t (ix2 r k) = row (m (c.tc.loc main_arg2)) u k := by
  have ht : t.val < 16 := lt_of_lt_of_eq t.isLt N_0
  rw [Fin.ext hu (a := u) (b := ⟨t.val * 512 + r.val, by omega⟩)]
  blk_point [iblk, V, idx t]

theorem blk_g (c : Dev nD) (t : Fin cfg0.N) (k : Fin 1024) :
    iblk m c 1 t (ix2 (0 : Fin 1) k) = (m (c.tc.loc main_arg1) : FVec Ideal S1024 .f32) (ix1 k) := by
  refine Eq.trans ?_ (gain_at m c k)
  blk_point [iblk, idx t]

theorem blk_err (c : Dev nD) (t : Fin cfg0.N) (r : Fin 512) (u : Fin 8192) (hu : u.val = t.val * 512 + r.val) :
    errB (iblk m c 0 t) (iblk m c 1 t) (iblk m c 2 t) r = err (m (c.tc.loc main_arg0)) (m (c.tc.loc main_arg1)) (m (c.tc.loc main_arg2)) u := by
  funext k
  unfold errB err
  simp only [blk_x m c t r _ u hu, blk_y m c t r _ u hu, blk_g m c t]

/-- The row gradient that the call leaves. -/
theorem dx_val (c : Dev nD) (t : Fin cfg0.N) (r : Fin 512) (j : Fin 1024) (u : Fin 8192) (hu : u.val = t.val * 512 + r.val) :
    (outsAt0 m c t.val t.isLt).1 (ix2 r j) = handDx wid eps (row (m (c.tc.loc main_arg0)) u)
      (cotK (m (c.tc.loc main_arg0)) (m (c.tc.loc main_arg1)) (m (c.tc.loc main_arg2)) u) j := by
  have e : (outsAt0 m c t.val t.isLt).1 = k0_pay1 (F := Ideal) (k0_pay6 (iblk m c 0 t)) (k0_pay7 (iblk m c 0 t))
      (k0_pay11 (iblk m c 0 t) (iblk m c 1 t) (iblk m c 2 t)) (k0_pay12 (iblk m c 1 t)) := by
    by_cases h : t.val % 16 = 0
    · rw [outsAt0_A m c t h]; frame_out
    · rw [outsAt0_B m c t h]; frame_out
  rw [e]
  refine (dx_at _ _ _ r j).trans ?_
  simp only [blk_g m c t, blk_x m c t r _ u hu, blk_err m c t r u hu]
  rfl

/-- The second copy of it, in the narrow type. -/
theorem dx16_val (c : Dev nD) (t : Fin cfg0.N) (r : Fin 512) (j : Fin 1024) (u : Fin 8192) (hu : u.val = t.val * 512 + r.val) :
    (outsAt0 m c t.val t.isLt).2.2.2 (ix2 r j) = handDx wid eps (row (m (c.tc.loc main_arg0)) u)
      (cotK (m (c.tc.loc main_arg0)) (m (c.tc.loc main_arg1)) (m (c.tc.loc main_arg2)) u) j := by
  have e : (outsAt0 m c t.val t.isLt).2.2.2 = k0_pay2 (F := Ideal) (k0_pay6 (iblk m c 0 t)) (k0_pay7 (iblk m c 0 t))
      (k0_pay11 (iblk m c 0 t) (iblk m c 1 t) (iblk m c 2 t)) (k0_pay12 (iblk m c 1 t)) := by
    by_cases h : t.val % 16 = 0
    · rw [outsAt0_A m c t h]; frame_out
    · rw [outsAt0_B m c t h]; frame_out
  rw [e]
  refine Eq.trans (b := k0_pay1 (F := Ideal) (k0_pay6 (iblk m c 0 t)) (k0_pay7 (iblk m c 0 t))
      (k0_pay11 (iblk m c 0 t) (iblk m c 1 t) (iblk m c 2 t)) (k0_pay12 (iblk m c 1 t)) (ix2 r j)) rfl ?_
  refine (dx_at _ _ _ r j).trans ?_
  simp only [blk_g m c t, blk_x m c t r _ u hu, blk_err m c t r u hu]
  rfl

theorem part_eq (c : Dev nD) (t : Fin cfg0.N) (r : Fin 512) (j : Fin 1024) (u : Fin 8192) (hu : u.val = t.val * 512 + r.val) :
    part (errB (iblk m c 0 t) (iblk m c 1 t) (iblk m c 2 t)) (iblk m c 0 t) r j
      = err (m (c.tc.loc main_arg0)) (m (c.tc.loc main_arg1)) (m (c.tc.loc main_arg2)) u j * inv
      * (row (m (c.tc.loc main_arg0)) u j * rr wid eps (row (m (c.tc.loc main_arg0)) u)) := by
  unfold part
  simp only [blk_x m c t r _ u hu, blk_err m c t r u hu]

instance preFacts : Cert.Pre_loss_finite.Facts := by constructor <;> decide

set_option maxHeartbeats 1600000 in
theorem algebraic [hP : Cert.Pre_loss_finite.Facts] : Cert.algebraic_Kernel11Ideal_Reference11Ideal_pre_loss_finite := by
  pair_intro
  · run_from Cert.Kernel11Ideal.Gen.run_main m g
  · have real3 : ∀ c : Dev nD, Reals (s := S8192x1024) (m (c.tc.loc main_arg0)) ∧ Reals (s := S1024) (m (c.tc.loc main_arg1))
        ∧ Reals (s := S8192x1024) (m (c.tc.loc main_arg2)) := fun c => by
      obtain ⟨p0, p1, p2⟩ := hpre c
      exact ⟨real_of_ones _ _ (fun _ => rfl) p0, real_of_ones _ _ (fun _ => rfl) p1, real_of_ones _ _ (fun _ => rfl) p2⟩
    run_from Cert.Reference11Ideal.Value.run m' g'
    · symm
      generalize hG : Reference11Ideal.Value.res_main_v50 m' c = G
      have ref_at := fun t j => (congrFun hG (ix2 t j)).symm.trans (ref_dx m' c t j)
      simp only [hagree c] at ref_at
      refine (dats m 0 c).arrAt_eq_of_covers 3 _ (by decide +kernel) fun t _ y => ?_
      blk_simp
      rw [after0_3]
      idx_vars y
      have ht : t.val < 16 := lt_of_lt_of_eq t.isLt N_0
      have hj : (((View.whole main_v1_0).slice (win0_3.rect t)).emb (ix2 y0 y1))
        = ix2 (⟨t.val * 512 + y0.val, by omega⟩ : Fin 8192) (y1 : Fin 1024) := by
        blk_ext [idx t]
      rw [hj]
      refine Eq.trans ?_ (ref_at _ _).symm
      refine (dx_val m c t y0 y1 (⟨t.val * 512 + y0.val, by omega⟩ : Fin 8192) rfl).trans ?_
      exact row_eq _ _ _ (real3 c).1 (real3 c).2.1 (real3 c).2.2 _ _
    · symm
      generalize hG : (shapeCast _ (Host.reduceAdd _ _ _ _) _ : FVec Ideal S1x1024 .f32) = G
      have ref_at : ∀ (z : Fin 1) (j : Fin 1024), G (ix2 z j) = gain (m (c.tc.loc main_arg0)) (m (c.tc.loc main_arg1)) (m (c.tc.loc main_arg2)) j := by
        intro z j
        refine Eq.trans ?_ (gain_eq _ _ _ (real3 c).1 (real3 c).2.1 (real3 c).2.2 _)
        subst hG
        pointwise [hagree c]
        simp only [Finset.univ_unique, Finset.sum_const, Finset.card_singleton, one_smul]
        rfl
      refine (dats m 0 c).arrAt_eq_of_covers 4 _ (by decide +kernel) fun t hf y => ?_
      blk_simp
      idx_vars y
      have hj : (((View.whole main_v1_1).slice (win0_4.rect t)).emb (ix2 y0 y1)) = ix2 (y0 : Fin 1) (y1 : Fin 1024) := by
        blk_ext [idx t]
      rw [hj, ref_at]
      rw [after0_4, Pipeline.eq_sum_fin_of_reset_step_apply_of_flush (fun n h => (outsAt0 m c n h).2.1) 16 (fun _ => 0) _
        (fun t h j => by rw [outsAt0_A m c t h]; frame_out; rw [dg_step, zero_at])
        (fun t h j => by rw [outsAt0_B m c t h]; frame_out; rw [dg_step])
        t ((flush0_4 t).mp hf) _, zero_add]
      have ht : t.val < 16 := lt_of_lt_of_eq t.isLt N_0
      refine Fin.sum_mul_add_congr fun s k hl => ?_
      refine (part_eq m c _ k _ ⟨s.val * 512 + k.val, hl⟩ ?_).trans rfl
      have hs : 16 * (t.val / 16) + s.val = s.val := by omega
      simp only [hs]
    · symm
      have fin3 := real3 c
      generalize hG : (broadcastInDim _ _ _ _ : FVec Ideal S1x128 .f32) = G
      have rows : ∀ u : Fin 8192, ∃ q : ℝ, lossRow (err (m (c.tc.loc main_arg0)) (m (c.tc.loc main_arg1)) (m (c.tc.loc main_arg2)) u) = (q : EReal) := fun u => by
        obtain ⟨E, hE⟩ := err_real _ _ _ fin3.1 fin3.2.1 fin3.2.2 u
        exact ⟨_, lossRow_real _ E hE⟩
      choose Q hQ using rows
      have ref_at : ∀ (z : Fin 1) (j : Fin 128), G (ix2 z j)
          = ∑ u : Fin 8192, hlf * lossRow (err (m (c.tc.loc main_arg0)) (m (c.tc.loc main_arg1)) (m (c.tc.loc main_arg2)) u) := by
        intro z j
        refine Eq.trans ?_ (half_sum _ Q hQ)
        subst hG
        pointwise [hagree c]
        try simp only [Finset.univ_unique, Finset.sum_const, Finset.card_singleton, one_smul]
        rfl
      refine (dats m 0 c).arrAt_eq_of_covers 5 _ (by decide +kernel) fun t hf y => ?_
      blk_simp
      idx_vars y
      have hj : (((View.whole main_v1_2).slice (win0_5.rect t)).emb (ix2 y0 y1)) = ix2 (y0 : Fin 1) (y1 : Fin 128) := by
        blk_ext [idx t]
      rw [hj, ref_at]
      rw [after0_5, Pipeline.eq_sum_fin_of_reset_step_apply_of_flush (fun n h => (outsAt0 m c n h).2.2.1) 16 (fun _ => 0) _
        (fun t h j => by rw [outsAt0_A m c t h]; frame_out; rw [loss_step, loss_zero])
        (fun t h j => by rw [outsAt0_B m c t h]; frame_out; rw [loss_step])
        t ((flush0_5 t).mp hf) _, zero_add]
      have ht : t.val < 16 := lt_of_lt_of_eq t.isLt N_0
      have step : ∀ (s : Fin cfg0.N), hlf * ∑ r : Fin 512, lossRow (errB (iblk m c 0 s) (iblk m c 1 s) (iblk m c 2 s) r)
          = ∑ r : Fin 512, hlf * lossRow (err (m (c.tc.loc main_arg0)) (m (c.tc.loc main_arg1)) (m (c.tc.loc main_arg2))
            ⟨s.val * 512 + r.val, by have := lt_of_lt_of_eq s.isLt N_0; omega⟩) := fun s => by
        have e : ∀ r : Fin 512, errB (iblk m c 0 s) (iblk m c 1 s) (iblk m c 2 s) r = _ := fun r =>
          blk_err m c s r ⟨s.val * 512 + r.val, by have := lt_of_lt_of_eq s.isLt N_0; omega⟩ rfl
        simp only [e]
        exact half_sum _ _ fun r => hQ _
      simp only [step]
      refine Fin.sum_mul_add_congr fun s k hl => ?_
      have hs : 16 * (t.val / 16) + s.val = s.val := by omega
      simp only [hs]
    · symm
      generalize hG : Reference11Ideal.Value.res_main_v53 m' c = G
      have ref_at := fun t j => (congrFun hG (ix2 t j)).symm.trans (ref_dx m' c t j)
      simp only [hagree c] at ref_at
      refine (dats m 0 c).arrAt_eq_of_covers 6 _ (by decide +kernel) fun t _ y => ?_
      blk_simp
      rw [after0_6]
      idx_vars y
      have ht : t.val < 16 := lt_of_lt_of_eq t.isLt N_0
      have hj : (((View.whole main_v1_3).slice (win0_6.rect t)).emb (ix2 y0 y1))
        = ix2 (⟨t.val * 512 + y0.val, by omega⟩ : Fin 8192) (y1 : Fin 1024) := by
        blk_ext [idx t]
      rw [hj]
      refine Eq.trans ?_ (ref_at _ _).symm
      refine (dx16_val m c t y0 y1 (⟨t.val * 512 + y0.val, by omega⟩ : Fin 8192) rfl).trans ?_
      exact row_eq _ _ _ (real3 c).1 (real3 c).2.1 (real3 c).2.2 _ _

end Cert.Kernel11Ideal.Loss
-- ==== Proof.FfnDu.lean ====
module

public import proofs.«01_k».proof.Defs
public import proofs.«01_k».proof.Proof.Gen.Kernel12Ideal.Frame
public import proofs.«01_k».proof.Proof.Gen.Reference12Ideal.Run
public import proofs.«01_k».proof.Proof.NormRow
public import Idealize.ShloMosaic.Lib.StableHlo.RunRead
public import Idealize.ShloMosaic.Lib.Pipeline.ValueKit

/-! The gradient of the squared rectifier, fused with the product that brings its cotangent. -/

@[expose] public section

set_option maxRecDepth 16384

noncomputable section

open Idealize.ShloMosaic Idealize.ShloMosaic.TcCoe Idealize.SL.Sem
open Idealize.ShloMosaic.Pipeline (Dat)

namespace Cert.Kernel12Ideal.FfnDu

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel12Ideal Cert.Kernel12Ideal.Gen

local notation "𝕄" => MT nD τ sig Unit (Elt Ideal) ℕ (UR sig nD τ) ℕ

section
variable (m : (ℓ : Loc nD τ sig) → Buf (Elt Ideal) ℓ) (ρ : Dev nD → PrngReg)

set_option backward.isDefEq.respectTransparency.types false in
/-- What the two calls leave: the array of the second call's output, and the arguments. -/
theorem run_out : θ_run defs (onTc (τ := τ) (main (F := Ideal))) ⟨m, fun _ => 0, ρ⟩ (fun r => ∀ c : Dev nD,
      r.2.mem ((c.tc : Thread nD τ).loc main_v5) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v5 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)
end

/-- Which block each window is at, step by step. -/
theorem idx0 : ∀ t : Fin cfg0.N, win0_0.index t = ![t.val / 4, 0] ∧ win0_1.index t = ![0, t.val % 4]
    ∧ win0_2.index t = ![t.val / 4, t.val % 4] :=
  (by decide +kernel : ∀ t : Fin grid0.N, _)
theorem idx1 : ∀ t : Fin cfg1.N, win1_0.index t = ![t.val / 4, 0] ∧ win1_1.index t = ![t.val % 4, 0]
    ∧ win1_2.index t = ![t.val / 4, t.val % 4] ∧ win1_3.index t = ![t.val / 4, t.val % 4] :=
  (by decide +kernel : ∀ t : Fin grid1.N, _)

/-- An entry of a product, of a product with the second operand transposed, and of the fused gradient. -/
def prod (h : FVec Ideal S8192x1024 .f32) (w : FVec Ideal S1024x4096 .f32) (t : Fin 8192) (j : Fin 4096) : EReal :=
  ∑ k : Fin 1024, h (ix2 t k) * w (ix2 k j)
def prodT (h : FVec Ideal S8192x1024 .f32) (w : FVec Ideal S4096x1024 .f32) (t : Fin 8192) (j : Fin 4096) : EReal :=
  ∑ k : Fin 1024, h (ix2 t k) * w (ix2 j k)
def two : EReal := Ideal.ofBits .f32 0x40000000#32

theorem u_at (a w : FVec Ideal S1024x1024 .bf16) (r j : Fin 1024) :
    k0_pay2 (F := Ideal) a w (ix2 r j) = ∑ k : Fin 1024, a (ix2 r k) * w (ix2 k j) := by
  pointwise [k0_pay2, k0_pay1]

theorem du_at (a w u : FVec Ideal S1024x1024 .bf16) (r j : Fin 1024) :
    k1_pay1 (F := Ideal) a w u (ix2 r j) = (∑ k : Fin 1024, a (ix2 r k) * w (ix2 j k)) * (two * max (u (ix2 r j)) 0) := by
  pointwise [k1_pay1]
  rfl

/-- The derivative of the squared rectifier, with and without the case split. -/
theorem relu_eq (u d : EReal) : (if 0 < u then d * (two * max u 0) else 0) = d * (two * max u 0) := by
  split
  · rfl
  · rename_i h
    rw [max_eq_right (not_lt.mp h), mul_zero, mul_zero]

variable (m : (ℓ : Loc nD τ sig) → Buf (Elt Ideal) ℓ) (ρ : Dev nD → PrngReg)

theorem v0_at (c : Dev nD) : (V1 m ρ c main_v0 : FVec Ideal S8192x1024 .bf16) = (fun i => (m (c.tc.loc main_arg0) : FVec Ideal S8192x1024 .f32) i) := by
  show StableHlo.after hostOps0 (W0 m ρ c) (Proc.devRef .tc main_v0) = _
  unfold hostOps0
  after_reads_simp
  rfl
theorem v1_at (c : Dev nD) : (V1 m ρ c main_v1 : FVec Ideal S1024x4096 .bf16) = (fun i => (m (c.tc.loc main_arg1) : FVec Ideal S1024x4096 .f32) i) := by
  show StableHlo.after hostOps0 (W0 m ρ c) (Proc.devRef .tc main_v1) = _
  unfold hostOps0
  after_reads_simp
  rfl
theorem v3_at (c : Dev nD) : (V3 m ρ c main_v3 : FVec Ideal S8192x1024 .bf16) = (fun i => (m (c.tc.loc main_arg3) : FVec Ideal S8192x1024 .f32) i) := by
  rw [← W2_args m ρ c main_arg3 (by decide)]
  show StableHlo.after hostOps1 (W2 m ρ c) (Proc.devRef .tc main_v3) = _
  unfold hostOps1
  after_reads_simp
  rfl
theorem v4_at (c : Dev nD) : (V3 m ρ c main_v4 : FVec Ideal S4096x1024 .bf16) = (fun i => (m (c.tc.loc main_arg2) : FVec Ideal S4096x1024 .f32) i) := by
  rw [← W2_args m ρ c main_arg2 (by decide)]
  show StableHlo.after hostOps1 (W2 m ρ c) (Proc.devRef .tc main_v4) = _
  unfold hostOps1
  after_reads_simp
  rfl
theorem v2_at (c : Dev nD) : V3 m ρ c main_v2_0 = (dat0 (V1 m ρ) c).arrAt 2 cfg0.N :=
  (W3_of m ρ c main_v2_0 (by decide)).trans (W2_arr m ρ c 2)

theorem blk0_h (V) (c : Dev nD) (t : Fin cfg0.N) (r k : Fin 1024) (u : Fin 8192) (hu : u.val = t.val / 4 * 1024 + r.val) :
    iblk0 (F := Ideal) V c 0 t (ix2 r k) = (V c main_v0 : FVec Ideal S8192x1024 .bf16) (ix2 u k) := by
  have ht : t.val < 32 := lt_of_lt_of_eq t.isLt N_0
  rw [Fin.ext hu (a := u) (b := ⟨t.val / 4 * 1024 + r.val, by omega⟩)]
  blk_point [iblk0, idx0 t]
theorem blk0_w (V) (c : Dev nD) (t : Fin cfg0.N) (k r : Fin 1024) (u : Fin 4096) (hu : u.val = t.val % 4 * 1024 + r.val) :
    iblk0 (F := Ideal) V c 1 t (ix2 k r) = (V c main_v1 : FVec Ideal S1024x4096 .bf16) (ix2 k u) := by
  have ht : t.val < 32 := lt_of_lt_of_eq t.isLt N_0
  rw [Fin.ext hu (a := u) (b := ⟨t.val % 4 * 1024 + r.val, by omega⟩)]
  blk_point [iblk0, idx0 t]
theorem blk1_d (V) (c : Dev nD) (t : Fin cfg1.N) (r k : Fin 1024) (u : Fin 8192) (hu : u.val = t.val / 4 * 1024 + r.val) :
    iblk1 (F := Ideal) V c 0 t (ix2 r k) = (V c main_v3 : FVec Ideal S8192x1024 .bf16) (ix2 u k) := by
  have ht : t.val < 32 := lt_of_lt_of_eq t.isLt N_1
  rw [Fin.ext hu (a := u) (b := ⟨t.val / 4 * 1024 + r.val, by omega⟩)]
  blk_point [iblk1, idx1 t]
theorem blk1_w (V) (c : Dev nD) (t : Fin cfg1.N) (r k : Fin 1024) (u : Fin 4096) (hu : u.val = t.val % 4 * 1024 + r.val) :
    iblk1 (F := Ideal) V c 1 t (ix2 r k) = (V c main_v4 : FVec Ideal S4096x1024 .bf16) (ix2 u k) := by
  have ht : t.val < 32 := lt_of_lt_of_eq t.isLt N_1
  rw [Fin.ext hu (a := u) (b := ⟨t.val % 4 * 1024 + r.val, by omega⟩)]
  blk_point [iblk1, idx1 t]
theorem blk1_u (V) (c : Dev nD) (t : Fin cfg1.N) (r k : Fin 1024) (u : Fin 8192) (hu : u.val = t.val / 4 * 1024 + r.val)
    (v : Fin 4096) (hv : v.val = t.val % 4 * 1024 + k.val) :
    iblk1 (F := Ideal) V c 2 t (ix2 r k) = (V c main_v2_0 : FVec Ideal S8192x4096 .bf16) (ix2 u v) := by
  have ht : t.val < 32 := lt_of_lt_of_eq t.isLt N_1
  rw [Fin.ext hu (a := u) (b := ⟨t.val / 4 * 1024 + r.val, by omega⟩), Fin.ext hv (a := v) (b := ⟨t.val % 4 * 1024 + k.val, by omega⟩)]
  blk_point [iblk1, idx1 t]

/-- The first call leaves the product. -/
theorem u_arr (c : Dev nD) (G : FVec Ideal S8192x4096 .bf16)
    (hG : ∀ t j, G (ix2 t j) = prod (m (c.tc.loc main_arg0)) (m (c.tc.loc main_arg1)) t j) : (dat0 (V1 m ρ) c).arrAt 2 cfg0.N = G := by
  refine (dat0 (V1 m ρ) c).arrAt_eq_of_covers 2 _ (by decide +kernel) fun t _ y => ?_
  blk_simp
  rw [after0_2]
  idx_vars y
  have ht : t.val < 32 := lt_of_lt_of_eq t.isLt N_0
  have hj : (((View.whole main_v2_0).slice (win0_2.rect t)).emb (ix2 y0 y1))
    = ix2 (⟨t.val / 4 * 1024 + y0.val, by omega⟩ : Fin 8192) (⟨t.val % 4 * 1024 + y1.val, by omega⟩ : Fin 4096) := by
    blk_ext [idx0 t]
  rw [hj]
  refine Eq.trans ?_ (hG _ _).symm
  have e : out0_2 (iblk0 (V1 m ρ) c 0 t) (iblk0 (V1 m ρ) c 1 t) = k0_pay2 (F := Ideal) (iblk0 (V1 m ρ) c 0 t) (iblk0 (V1 m ρ) c 1 t) := by
    unfold out0_2; frame_out
  rw [e]
  refine (u_at _ _ y0 y1).trans ?_
  refine Finset.sum_congr rfl fun k _ => ?_
  rw [blk0_h _ c t y0 k ⟨t.val / 4 * 1024 + y0.val, by omega⟩ rfl, blk0_w _ c t k y1 ⟨t.val % 4 * 1024 + y1.val, by omega⟩ rfl, v0_at, v1_at]

set_option maxHeartbeats 1600000 in
theorem algebraic : Cert.algebraic_Kernel12Ideal_Reference12Ideal := by
  pair_intro
  · run_from Cert.Kernel12Ideal.FfnDu.run_out m g
  · run_from Cert.Reference12Ideal.Value.run m' g'
    generalize hG : (truncf _ _ _ : FVec Ideal S8192x4096 .bf16) = G
    have ref_at : ∀ (t : Fin 8192) (j : Fin 4096), G (ix2 t j) = prodT (m (c.tc.loc main_arg3)) (m (c.tc.loc main_arg2)) t j
        * (two * max (prod (m (c.tc.loc main_arg0)) (m (c.tc.loc main_arg1)) t j) 0) := by
      intro t j
      refine Eq.trans ?_ (relu_eq _ _)
      subst hG
      pointwise [hagree c]
      rfl
    symm
    refine (dat1 (V3 m g) c).arrAt_eq_of_covers 3 _ (by decide +kernel) fun t _ y => ?_
    blk_simp
    rw [after1_3]
    idx_vars y
    have ht : t.val < 32 := lt_of_lt_of_eq t.isLt N_1
    have hj : (((View.whole main_v5).slice (win1_3.rect t)).emb (ix2 y0 y1))
      = ix2 (⟨t.val / 4 * 1024 + y0.val, by omega⟩ : Fin 8192) (⟨t.val % 4 * 1024 + y1.val, by omega⟩ : Fin 4096) := by
      blk_ext [idx1 t]
    rw [hj]
    refine Eq.trans ?_ (ref_at _ _).symm
    have e : out1_3 (iblk1 (V3 m g) c 0 t) (iblk1 (V3 m g) c 1 t) (iblk1 (V3 m g) c 2 t)
        = k1_pay1 (F := Ideal) (iblk1 (V3 m g) c 0 t) (iblk1 (V3 m g) c 1 t) (iblk1 (V3 m g) c 2 t) := by
      unfold out1_3; frame_out
    rw [e]
    refine (du_at _ _ _ y0 y1).trans ?_
    rw [blk1_u _ c t y0 y1 ⟨t.val / 4 * 1024 + y0.val, by omega⟩ rfl ⟨t.val % 4 * 1024 + y1.val, by omega⟩ rfl, v2_at,
      u_arr m g c (fun i => prod (m (c.tc.loc main_arg0)) (m (c.tc.loc main_arg1)) (i 0) (i 1)) (fun _ _ => rfl)]
    refine congrArg (· * _) (Finset.sum_congr rfl fun k _ => ?_)
    rw [blk1_d _ c t y0 k ⟨t.val / 4 * 1024 + y0.val, by omega⟩ rfl, blk1_w _ c t y1 k ⟨t.val % 4 * 1024 + y1.val, by omega⟩ rfl, v3_at, v4_at]

end Cert.Kernel12Ideal.FfnDu
-- ==== Proof.GateScan.lean ====
module

public import proofs.«01_k».proof.Defs
public import proofs.«01_k».proof.Proof.Gen.Kernel13Ideal.Frame
public import proofs.«01_k».proof.Proof.Gen.Reference13Ideal.Run
public import proofs.«01_k».proof.Proof.NormRow
public import Idealize.ShloMosaic.Lib.StableHlo.RunRead
public import Idealize.ShloMosaic.Lib.Pipeline.ValueKit

/-! The gradient of the gates: suffix sums of the decays, times the derivative of the log-sigmoid. -/

@[expose] public section

set_option maxRecDepth 16384

noncomputable section

open Idealize.ShloMosaic Idealize.ShloMosaic.TcCoe Idealize.SL.Sem
open Idealize.ShloMosaic.Pipeline (Dat)

namespace Cert.Kernel13Ideal.Gate

open Cert.Kernel13Ideal Cert.Kernel13Ideal.Gen Cert.Norm

/-- The sum over the positions a window of full length holds, from `j` on, is the sum over the positions not before `j`. -/
theorem suffix_sum {n : ℕ} (f : Fin n → EReal) (j : Fin n) :
    (∑ k : Fin n, if h : j.val + k.val < n then f ⟨j.val + k.val, h⟩ else 0) = ∑ t : Fin n, if j ≤ t then f t else 0 := by
  have hj := j.isLt
  let g : ℕ → EReal := fun i => if h : i < n then f ⟨i, h⟩ else 0
  have hl : (∑ k : Fin n, if h : j.val + k.val < n then f ⟨j.val + k.val, h⟩ else 0) = ∑ k ∈ Finset.range n, g (j.val + k) :=
    Fin.sum_univ_eq_sum_range (fun k => g (j.val + k)) n
  have hr : (∑ t : Fin n, if j ≤ t then f t else 0) = ∑ t ∈ Finset.range n, if j.val ≤ t then g t else 0 := by
    rw [← Fin.sum_univ_eq_sum_range (fun t => if j.val ≤ t then g t else 0) n]
    refine Finset.sum_congr rfl fun t _ => ?_
    simp only [g, t.isLt, dif_pos, Fin.le_def]
  rw [hl, hr, ← Finset.sum_filter]
  have e := Finset.sum_Ico_eq_sum_range g j.val (j.val + n)
  rw [Nat.add_sub_cancel_left] at e
  rw [← e]
  symm
  refine Finset.sum_subset (fun t ht => ?_) fun t _ ht => ?_
  · simp only [Finset.mem_filter, Finset.mem_range, Finset.mem_Ico] at ht ⊢; omega
  · simp only [Finset.mem_filter, Finset.mem_range, Finset.mem_Ico] at *
    exact dif_neg fun h => by omega

theorem foldl_add {α : Type} (l : List α) (f : α → EReal) (v : EReal) : l.foldl (fun r n => r + f n) v = v + (l.map f).sum := by
  induction l generalizing v with
  | nil => simp
  | cons a l ih => simp only [List.foldl_cons, List.map_cons, List.sum_cons, ih, add_assoc]

/-- The sum of windows that reach from a position to the row's end. -/
theorem window_gen (a n m : ℕ) (x : FVec Ideal ⟨2, ![a, n]⟩ .f32) (hw) (h : Fin a) (j : Fin n) :
    Ideal.hostReduceWindowAdd (s := ⟨2, ![a, n]⟩) ![1, n] ![1, 1] ![0, 0] ![0, m] (t := ⟨2, ![a, n]⟩) hw x 0 (ix2 h j)
      = ∑ t : Fin n, if j ≤ t then x (ix2 h t) else (0 : EReal) := by
  rw [← suffix_sum (fun t => x (ix2 h t)) j]
  unfold Ideal.hostReduceWindowAdd Host.reduceWindow
  refine (foldl_add _ _ _).trans ?_
  rw [zero_add, ← Fin.sum_univ_def]
  refine (Fintype.sum_equiv (Shape.rowMajor _).symm _ (fun i : (⟨2, ![1, n]⟩ : Shape).Idx => if hk : j.val + (i 1).val < n then x (ix2 h ⟨j.val + (i 1).val, hk⟩) else (0 : EReal)) fun q => ?_).trans ?_
  · let i : (⟨2, ![1, n]⟩ : Shape).Idx := (Shape.rowMajor (⟨2, ![1, n]⟩ : Shape)).symm q
    have h0 : (i 0).val = 0 := by have := (i 0).isLt; change (i 0).val < 1 at this; omega
    show _ = if hk : j.val + (i 1).val < n then x (ix2 h ⟨j.val + (i 1).val, hk⟩) else (0 : EReal)
    by_cases hk : j.val + (i 1).val < n
    · rw [dif_pos hk, dif_pos]
      · refine congrArg x (funext fun b => Fin.ext ?_)
        fin_cases b
        · show h.val * 1 + (i 0).val - 0 = h.val
          omega
        · show j.val * 1 + (i 1).val - 0 = j.val + (i 1).val
          omega
      · intro b
        fin_cases b
        · show 0 ≤ h.val * 1 + (i 0).val ∧ h.val * 1 + (i 0).val - 0 < a
          have := h.isLt
          omega
        · show 0 ≤ j.val * 1 + (i 1).val ∧ j.val * 1 + (i 1).val - 0 < n
          omega
    · rw [dif_neg hk, dif_neg]
      intro hc
      have := (hc 1).2
      change j.val * 1 + (i 1).val - 0 < n at this
      omega
  · symm
    refine Fintype.sum_equiv (⟨fun k : Fin n => (ix2 (0 : Fin 1) k : (⟨2, ![1, n]⟩ : Shape).Idx), fun i => i 1, fun k => rfl, fun i => ?_⟩ : Fin n ≃ (⟨2, ![1, n]⟩ : Shape).Idx) _ _ fun k => rfl
    refine funext fun b => ?_
    fin_cases b
    · exact Fin.ext (by have := (i 0).isLt; change (i 0).val < 1 at this; show 0 = (i 0).val; omega)
    · rfl

theorem window_at (x : FVec Ideal Reference13Ideal.S16x8192 .f32) (v : FVec Ideal Reference13Ideal.S_ .f32) (hv : ∀ i, v i = (0 : EReal))
    (hw) (hu) (h : Fin 16) (j : Fin 8192) :
    Host.reduceWindowAdd ![1, 8192] ![1, 1] ![0, 0] ![0, 8191] x v hw hu (ix2 h j) = ∑ t : Fin 8192, if j ≤ t then x (ix2 h t) else (0 : EReal) := by
  refine Eq.trans ?_ (window_gen 16 8192 8191 x hw h j)
  unfold Host.reduceWindowAdd
  rw [hv]
  rfl

/-- A column at or below which the weight is one: the product with the triangle of ones is the sum over the rows not before it. -/
theorem tri_eq (k j : Fin 512) : FloatOps.sitofp (F := Ideal) FTy.f32
    (BitVec.setWidth 32 (IntOp.cmpi CmpIPredicate.sge (BitVec.ofNat 32 k.val) (BitVec.ofNat 32 j.val))) = if j ≤ k then (1 : EReal) else 0 := by
  have hk := k.isLt
  have hj := j.isLt
  have : IntOp.cmpi CmpIPredicate.sge (BitVec.ofNat 32 k.val) (BitVec.ofNat 32 j.val) = BitVec.ofBool (decide (j.val ≤ k.val)) := by word_cmp
  rw [this]
  by_cases h : j ≤ k
  · rw [if_pos h, decide_eq_true (Fin.le_def.mp h)]
    show ((((BitVec.ofBool true).setWidth 32).toInt : ℝ) : EReal) = 1
    have e : ((BitVec.ofBool true).setWidth 32).toInt = 1 := by decide
    rw [e]; simp
  · rw [if_neg h, decide_eq_false (fun q => h (Fin.le_def.mpr q))]
    show ((((BitVec.ofBool false).setWidth 32).toInt : ℝ) : EReal) = 0
    have e : ((BitVec.ofBool false).setWidth 32).toInt = 0 := by decide
    rw [e]; simp

/-- The derivative of the log-sigmoid, as the kernel has it. -/
def sg (f b : EReal) : EReal := Ideal.div 1 (1 + Ideal.exp (f + b))

theorem pay5_at (p q : FVec Ideal S16x512 .f32) (cr : FVec Ideal S16x1 .f32) (f : FVec Ideal S16x512 .f32) (b : FVec Ideal S16x1 .f32) (h : Fin 16) (j : Fin 512) :
   k0_pay5 (F := Ideal) p q cr f b (ix2 h j) = ((∑ k : Fin 512, if j ≤ k then (p (ix2 h k) - q (ix2 h k) : EReal) else 0) + cr (ix2 h 0)) * sg (f (ix2 h j)) (b (ix2 h 0)) := by
  pointwise [k0_pay5, k0_pay4]
  unfold sg
  congr 2
  refine Finset.sum_congr rfl fun k _ => ?_
  rw [tri_eq]
  by_cases h : j ≤ k
  · rw [if_pos h, if_pos h, mul_one]
  · rw [if_neg h, if_neg h, mul_zero]

theorem pay1_at (d : FVec Ideal S16x512 .f32) (cr : FVec Ideal S16x1 .f32) (h : Fin 16) :
   k0_pay1 (F := Ideal) d cr (ix2 h 0) = (cr (ix2 h 0) + ∑ k : Fin 512, d (ix2 h k) : EReal) := by
  pointwise [k0_pay1]

theorem sg_coe (f b : ℝ) : sg f b = ((1 / (1 + Real.exp (f + b)) : ℝ) : EReal) := by
  have h : (1 : ℝ) + Real.exp (f + b) ≠ 0 := by positivity
  unfold sg
  rw [← EReal.coe_add, Ideal.exp_coe, show (1 : EReal) = ((1 : ℝ) : EReal) from rfl, ← EReal.coe_add, Ideal.div_coe h]
  exact one_mul _

/-- What the reference multiplies the suffix sums by: the exponential of `y` less the soft maximum of `y` and zero. -/
theorem rfac (y : ℝ) : Real.exp (y - (max y 0 + Real.log (1 + Real.exp (-|y|)))) = 1 / (1 + Real.exp (-y)) := by
  rw [Real.exp_sub, Real.exp_add, Real.exp_log (by positivity)]
  rcases le_total 0 y with h | h
  · rw [max_eq_left h, abs_of_nonneg h]
    field_simp
  · rw [max_eq_right h, abs_of_nonpos h, neg_neg, Real.exp_zero, one_mul, Real.exp_neg]
    field_simp
    ring

theorem ref_fac (f b : ℝ) (top : EReal) (ht : top = ⊤) :
    Ideal.exp ((if -((f : EReal) + b) = top then 0 else -((f : EReal) + b))
      - if (if -((f : EReal) + b) ≠ -((f : EReal) + b) then -((f : EReal) + b)
            else max (-((f : EReal) + b)) 0 + Ideal.log1p (Ideal.exp (-FloatOps.absf (F := Ideal) (φ := .f32) (-((f : EReal) + b))))) = top then 0
        else if -((f : EReal) + b) ≠ -((f : EReal) + b) then -((f : EReal) + b)
            else max (-((f : EReal) + b)) 0 + Ideal.log1p (Ideal.exp (-FloatOps.absf (F := Ideal) (φ := .f32) (-((f : EReal) + b))))) = sg f b := by
  subst ht
  have hy : -((f : EReal) + b) = ((-(f + b) : ℝ) : EReal) := by rw [← EReal.coe_add, ← EReal.coe_neg]
  generalize he : -(f + b) = y at hy
  have ha : FloatOps.absf (F := Ideal) (φ := .f32) ((y : ℝ) : EReal) = ((|y| : ℝ) : EReal) := by
    show max ((y : ℝ) : EReal) (-((y : ℝ) : EReal)) = _
    rw [← EReal.coe_neg, abs_eq_max_neg]
    exact (EReal.coe_strictMono.monotone.map_max).symm
  have hl : Ideal.log1p ((Real.exp (-|y|) : ℝ) : EReal) = ((Real.log (1 + Real.exp (-|y|)) : ℝ) : EReal) := by
    unfold Ideal.log1p
    rw [show (1 : EReal) = ((1 : ℝ) : EReal) from rfl, ← EReal.coe_add, Ideal.log_coe]
    rw [if_neg (by have := Real.exp_pos (-|y|); linarith)]
  have hm : max ((y : ℝ) : EReal) 0 = ((max y 0 : ℝ) : EReal) := (EReal.coe_strictMono.monotone.map_max (a := y) (b := 0)).symm
  rw [hy]
  simp only [ne_eq, not_true_eq_false, if_false]
  rw [ha, ← EReal.coe_neg, Ideal.exp_coe, hl, hm, ← EReal.coe_add, if_neg (EReal.coe_ne_top _), if_neg (EReal.coe_ne_top _), ← EReal.coe_sub, Ideal.exp_coe, sg_coe, rfac, ← he, neg_neg]

variable (m : (ℓ : Loc nD τ sig) → Buf (Elt Ideal) ℓ)

theorem idx : ∀ t : Fin cfg0.N, win0_0.index t = ![0, 15 - t.val] ∧ win0_1.index t = ![0, 15 - t.val]
    ∧ win0_2.index t = ![0, 15 - t.val] ∧ win0_3.index t = ![0, 0] ∧ win0_4.index t = ![0, 15 - t.val] ∧ win0_5.index t = ![0, 0] :=
  (by decide +kernel : ∀ t : Fin grid0.N, _)

/-- The position in the whole row of column `k` of the block taken at step `s`: the blocks are taken from the last. -/
def pos (s : ℕ) (k : Fin 512) : Fin 8192 := ⟨(15 - s) * 512 + k.val, by omega⟩

theorem sum_blocks (g : Fin 8192 → EReal) : ∑ u, g u = ∑ s ∈ Finset.range 16, ∑ k : Fin 512, g (pos s k) := by
  rw [← Fin.sum_univ_eq_sum_range (fun s => ∑ k : Fin 512, g (pos s k)) 16, ← Equiv.sum_comp Fin.revPerm (fun s : Fin 16 => ∑ k : Fin 512, g (pos s.val k))]
  symm
  refine Fin.sum_mul_add_congr fun s k hl => ?_
  refine congrArg g (Fin.ext ?_)
  show (15 - (Fin.rev s).val) * 512 + k.val = s.val * 512 + k.val
  rw [Fin.val_rev]
  omega

/-- The sum over the positions not before one of them, block by block from the last. -/
theorem tail_sum (d : Fin 8192 → EReal) (n : ℕ) (hn : n < 16) (j : Fin 512) :
    (∑ u, if pos n j ≤ u then d u else 0)
      = (∑ k : Fin 512, if j ≤ k then d (pos n k) else 0) + ∑ s ∈ Finset.range n, ∑ k : Fin 512, d (pos s k) := by
  rw [sum_blocks, ← Finset.sum_subset (s₁ := Finset.range (n + 1)) (Finset.range_mono (by omega))]
  · rw [Finset.sum_range_succ, add_comm]
    refine congrArg₂ _ (Finset.sum_congr rfl fun k _ => ?_) (Finset.sum_congr rfl fun s hs => Finset.sum_congr rfl fun k _ => if_pos ?_)
    · refine if_congr ?_ rfl rfl
      simp only [pos, Fin.le_def]
      omega
    · have := Finset.mem_range.mp hs
      simp only [pos, Fin.le_def]
      omega
  · intro s hs hq
    have h1 := Finset.mem_range.mp hs
    have h2 : ¬ s < n + 1 := fun h => hq (Finset.mem_range.mpr h)
    refine Finset.sum_eq_zero fun k _ => if_neg ?_
    simp only [pos, Fin.le_def]
    omega

/-- A difference at a position. -/
def sub2 (p q : FVec Ideal S16x8192 .f32) (h : Fin 16) (u : Fin 8192) : EReal := p (ix2 h u) - q (ix2 h u)

/-- The gradient of the running sums' argument: query side less key side. -/
def dd (c : Dev nD) (h : Fin 16) (u : Fin 8192) : EReal := sub2 (m (c.tc.loc main_arg0)) (m (c.tc.loc main_arg1)) h u

/-- The gradient of the gates' logits. -/
def gl (c : Dev nD) (h : Fin 16) (u : Fin 8192) : EReal :=
  (∑ t, if u ≤ t then dd m c h t else 0) * sg ((m (c.tc.loc main_arg2) : FVec Ideal S16x8192 .f32) (ix2 h u)) ((m (c.tc.loc main_arg3) : FVec Ideal S16 .f32) (ix1 h))

theorem blk0 (c : Dev nD) (t : Fin cfg0.N) (h : Fin 16) (k : Fin 512) :
    iblk m c 0 t (ix2 h k) = (m (c.tc.loc main_arg0) : FVec Ideal S16x8192 .f32) (ix2 h (pos t.val k)) := by
  have ht : t.val < 16 := lt_of_lt_of_eq t.isLt N_0
  unfold pos
  blk_point [iblk, V, idx t]

theorem blk1 (c : Dev nD) (t : Fin cfg0.N) (h : Fin 16) (k : Fin 512) :
    iblk m c 1 t (ix2 h k) = (m (c.tc.loc main_arg1) : FVec Ideal S16x8192 .f32) (ix2 h (pos t.val k)) := by
  have ht : t.val < 16 := lt_of_lt_of_eq t.isLt N_0
  unfold pos
  blk_point [iblk, V, idx t]

theorem blk2 (c : Dev nD) (t : Fin cfg0.N) (h : Fin 16) (k : Fin 512) :
    iblk m c 2 t (ix2 h k) = (m (c.tc.loc main_arg2) : FVec Ideal S16x8192 .f32) (ix2 h (pos t.val k)) := by
  have ht : t.val < 16 := lt_of_lt_of_eq t.isLt N_0
  unfold pos
  blk_point [iblk, V, idx t]

theorem bias_at (c : Dev nD) (h : Fin 16) : (V m c main_v0 : FVec Ideal S16x1 .f32) (ix2 h (0 : Fin 1)) = (m (c.tc.loc main_arg3) : FVec Ideal S16 .f32) (ix1 h) := by
  entry_read
  pointwise

theorem blk3 (c : Dev nD) (t : Fin cfg0.N) (h : Fin 16) :
    iblk m c 3 t (ix2 h (0 : Fin 1)) = (m (c.tc.loc main_arg3) : FVec Ideal S16 .f32) (ix1 h) := by
  refine Eq.trans ?_ (bias_at m c h)
  blk_point [iblk, idx t]

theorem pay6_at (p q : FVec Ideal S16x512 .f32) (cr : FVec Ideal S16x1 .f32) (f : FVec Ideal S16x512 .f32) (b a : FVec Ideal S16x1 .f32) (h : Fin 16) :
   k0_pay6 (F := Ideal) p q cr f b a (ix2 h (0 : Fin 1)) = (a (ix2 h (0 : Fin 1)) + ∑ k : Fin 512, k0_pay5 (F := Ideal) p q cr f b (ix2 h k) : EReal) := by
  unfold k0_pay6
  generalize k0_pay5 (F := Ideal) p q cr f b = P
  pointwise []

theorem zero2 (h : Fin 16) : k0_pay2 (F := Ideal) (ix2 h (0 : Fin 1)) = (0 : EReal) := by pointwise [k0_pay2]
theorem zero3 (h : Fin 16) : k0_pay3 (F := Ideal) (ix2 h (0 : Fin 1)) = (0 : EReal) := by pointwise [k0_pay3]

theorem diff_at (p q : FVec Ideal S16x512 .f32) (h : Fin 16) (k : Fin 512) : k0_pay4 (F := Ideal) p q (ix2 h k) = (p (ix2 h k) - q (ix2 h k) : EReal) := rfl

/-- One step: the gradient of the block's logits, when the carry holds the sum of the later blocks. -/
theorem step_eq (c : Dev nD) (t : Fin cfg0.N) (cr : FVec Ideal S16x1 .f32) (h : Fin 16)
    (hc : cr (ix2 h (0 : Fin 1)) = (∑ s ∈ Finset.range t.val, ∑ k : Fin 512, dd m c h (pos s k) : EReal)) (j : Fin 512) :
    k0_pay5 (F := Ideal) (iblk m c 0 t) (iblk m c 1 t) cr (iblk m c 2 t) (iblk m c 3 t) (ix2 h j) = gl m c h (pos t.val j) := by
  rw [pay5_at]
  unfold gl
  rw [tail_sum _ _ (lt_of_lt_of_eq t.isLt N_0), hc]
  simp only [blk0, blk1, blk2, blk3]
  rfl

theorem carry_eq (c : Dev nD) (t : Fin cfg0.N) (cr : FVec Ideal S16x1 .f32) (h : Fin 16)
    (hc : cr (ix2 h (0 : Fin 1)) = (∑ s ∈ Finset.range t.val, ∑ k : Fin 512, dd m c h (pos s k) : EReal)) :
    k0_pay1 (F := Ideal) (k0_pay4 (F := Ideal) (iblk m c 0 t) (iblk m c 1 t)) cr (ix2 h (0 : Fin 1)) = ∑ s ∈ Finset.range (t.val + 1), ∑ k : Fin 512, dd m c h (pos s k) := by
  rw [pay1_at, hc, Finset.sum_range_succ]
  simp only [diff_at, blk0, blk1]
  rfl

theorem acc_eq (c : Dev nD) (t : Fin cfg0.N) (cr a : FVec Ideal S16x1 .f32) (h : Fin 16)
    (hc : cr (ix2 h (0 : Fin 1)) = (∑ s ∈ Finset.range t.val, ∑ k : Fin 512, dd m c h (pos s k) : EReal))
    (ha : a (ix2 h (0 : Fin 1)) = (∑ s ∈ Finset.range t.val, ∑ k : Fin 512, gl m c h (pos s k) : EReal)) :
    k0_pay6 (F := Ideal) (iblk m c 0 t) (iblk m c 1 t) cr (iblk m c 2 t) (iblk m c 3 t) a (ix2 h (0 : Fin 1)) = ∑ s ∈ Finset.range (t.val + 1), ∑ k : Fin 512, gl m c h (pos s k) := by
  rw [pay6_at, ha, Finset.sum_range_succ]
  simp only [step_eq m c t cr h hc]

theorem state (c : Dev nD) : ∀ (n : ℕ) (hn : n < cfg0.N),
    (∀ h : Fin 16, (outsAt0 m c n hn).2.2 (ix2 h (0 : Fin 1)) = (∑ s ∈ Finset.range (n + 1), ∑ k : Fin 512, dd m c h (pos s k) : EReal))
    ∧ (∀ h : Fin 16, (outsAt0 m c n hn).2.1 (ix2 h (0 : Fin 1)) = (∑ s ∈ Finset.range (n + 1), ∑ k : Fin 512, gl m c h (pos s k) : EReal))
    ∧ ∀ (h : Fin 16) (j : Fin 512), (outsAt0 m c n hn).1 (ix2 h j) = gl m c h (pos n j)
  | 0, hn => by
    have e := outsAt0_A m c ⟨0, hn⟩ rfl
    change outsAt0 m c 0 hn = _ at e
    refine ⟨fun h => ?_, fun h => ?_, fun h j => ?_⟩
    · rw [e]; frame_out
      exact carry_eq m c ⟨0, hn⟩ _ h (zero2 h)
    · rw [e]; frame_out
      exact acc_eq m c ⟨0, hn⟩ _ _ h (zero2 h) (zero3 h)
    · rw [e]; frame_out
      exact step_eq m c ⟨0, hn⟩ _ h (zero2 h) j
  | n + 1, hn => by
    have hN : n + 1 < 16 := lt_of_lt_of_eq hn N_0
    obtain ⟨i0, i1, -⟩ := state c n (by omega)
    have e := outsAt0_B m c ⟨n + 1, hn⟩ (by show ¬ (n + 1) % 16 = 0; omega)
    change outsAt0 m c (n + 1) hn = _ at e
    refine ⟨fun h => ?_, fun h => ?_, fun h j => ?_⟩
    · rw [e]; frame_out
      exact carry_eq m c ⟨n + 1, hn⟩ _ h ((congrFun ((Memref.isWhole_whole cc0_scratch0).read_unread _) _).trans (i0 h))
    · rw [e]; frame_out
      exact acc_eq m c ⟨n + 1, hn⟩ _ _ h ((congrFun ((Memref.isWhole_whole cc0_scratch0).read_unread _) _).trans (i0 h)) (i1 h)
    · rw [e]; frame_out
      exact step_eq m c ⟨n + 1, hn⟩ _ h ((congrFun ((Memref.isWhole_whole cc0_scratch0).read_unread _) _).trans (i0 h)) j

theorem negmul (s g : EReal) : -(-s * g) = s * g := by rw [EReal.neg_mul, neg_neg]

set_option maxHeartbeats 1600000 in
theorem ref9 (m' : (ℓ : Loc Reference13Ideal.nD Reference13Ideal.τ Reference13Ideal.sig) → Buf (Elt Ideal) ℓ) (c : Dev nD) (hq : ∀ i, ∃ r : ℝ, (m' (c.tc.loc Reference13Ideal.main_arg2) : FVec Ideal S16x8192 .f32) i = (r : EReal)) (hb : ∀ i, ∃ r : ℝ, (m' (c.tc.loc Reference13Ideal.main_arg3) : FVec Ideal S16 .f32) i = (r : EReal)) (h : Fin 16) (j : Fin 8192) :
    Reference13Ideal.Value.res_main_v9 m' c (ix2 h j)
      = (∑ t, if j ≤ t then sub2 (m' (c.tc.loc Reference13Ideal.main_arg0)) (m' (c.tc.loc Reference13Ideal.main_arg1)) h t else 0)
        * sg ((m' (c.tc.loc Reference13Ideal.main_arg2) : FVec Ideal S16x8192 .f32) (ix2 h j)) ((m' (c.tc.loc Reference13Ideal.main_arg3) : FVec Ideal S16 .f32) (ix1 h)) := by
  unfold Reference13Ideal.Value.res_main_v9
  generalize hA : (Host.reduceWindowAdd _ _ _ _ _ _ _ _ : FVec Ideal Reference13Ideal.S16x8192 .f32) = A
  have hAt : A (ix2 h j) = ∑ t, if j ≤ t then sub2 (m' (c.tc.loc Reference13Ideal.main_arg0)) (m' (c.tc.loc Reference13Ideal.main_arg1)) h t else 0 := by
    subst hA
    refine (window_at _ _ (fun i => by pointwise []) _ _ h j).trans ?_
    refine Finset.sum_congr rfl fun t _ => ?_
    congr 1
  obtain ⟨f, hf⟩ := hq (ix2 h j)
  obtain ⟨b, hb⟩ := hb (ix1 h)
  refine Eq.trans ?_ (negmul _ _)
  rw [hf, hb, ← hAt, ← ref_fac f b (Ideal.ofBits FTy.f32 2139095040#32) (by simp only [Ideal.ofBits]; unfold Ideal.ieee; simp)]
  pointwise []
  rw [hf, hb]

instance preFacts : Cert.Pre_gate_finite.Facts := by constructor <;> decide

set_option maxHeartbeats 1600000 in
theorem algebraic [hP : Cert.Pre_gate_finite.Facts] : Cert.algebraic_Kernel13Ideal_Reference13Ideal_pre_gate_finite := by
  pair_intro
  · run_from Cert.Kernel13Ideal.Gen.run_main m g
  · have reals : ∀ c : Dev nD, (∀ i, ∃ r : ℝ, (m' (c.tc.loc Reference13Ideal.main_arg2) : FVec Ideal S16x8192 .f32) i = (r : EReal)) ∧ (∀ i, ∃ r : ℝ, (m' (c.tc.loc Reference13Ideal.main_arg3) : FVec Ideal S16 .f32) i = (r : EReal)) := by
      intro c
      obtain ⟨p0, p1⟩ := hpre c
      refine ⟨fun i => ?_, fun i => ?_⟩
      · rw [(hagree c).2.2.1]; exact ⟨_, real_of_ones _ _ (fun _ => rfl) p0 i⟩
      · rw [(hagree c).2.2.2]; exact ⟨_, real_of_ones _ _ (fun _ => rfl) p1 i⟩
    refine θ_run_mono (Reference13Ideal.Value.run m' g') fun r h c => ⟨(h c).1.trans ?_, (h c).2.1.trans ?_, (h c).2.2⟩
    · symm
      have ref_at := fun (h : Fin 16) (j : Fin 8192) => ref9 m' c (reals c).1 (reals c).2 h j
      simp only [hagree c] at ref_at
      generalize hG : Reference13Ideal.Value.res_main_v9 m' c = G at ref_at ⊢
      refine (dats m 0 c).arrAt_eq_of_covers 4 _ (by decide +kernel) fun t _ y => ?_
      blk_simp
      rw [after0_4]
      idx_vars y
      have hj : (((View.whole main_v1_0).slice (win0_4.rect t)).emb (ix2 y0 y1)) = ix2 (y0 : Fin 16) (pos t.val y1) := by
        have ht : t.val < 16 := lt_of_lt_of_eq t.isLt N_0
        unfold pos
        blk_ext [idx t]
      rw [hj]
      refine Eq.trans ?_ (ref_at _ _).symm
      exact (state m c t.val t.isLt).2.2 y0 y1
    · symm
      have ref_9 := fun (h : Fin 16) (j : Fin 8192) => ref9 m' c (reals c).1 (reals c).2 h j
      simp only [hagree c] at ref_9
      have ref_at : ∀ h : Fin 16, (Reference13Ideal.Value.res_main_v13 m' c : FVec Ideal S16x1 .f32) (ix2 h (0 : Fin 1)) = (∑ u, gl m c h u : EReal) := by
        intro h
        unfold Reference13Ideal.Value.res_main_v13
        change (broadcastInDim _ _ _ (Host.reduceAdd (shapeCast _ (Host.reduceAdd (Reference13Ideal.Value.res_main_v9 m' c) _ _ _) _) _ _ _) : FVec Ideal S16x1 .f32) _ = _
        generalize hG : Reference13Ideal.Value.res_main_v9 m' c = G at ref_9 ⊢
        pointwise
        simp only [Finset.univ_unique, Finset.sum_const, Finset.card_singleton, one_smul]
        exact Finset.sum_congr rfl fun u _ => ref_9 _ _
      refine (dats m 0 c).arrAt_eq_of_covers 5 _ (by decide +kernel) fun t hf y => ?_
      blk_simp
      rw [after0_5]
      idx_vars y
      obtain rfl : y1 = (0 : Fin 1) := Subsingleton.elim _ _
      have hj : (((View.whole main_v1_1).slice (win0_5.rect t)).emb (ix2 y0 (0 : Fin 1))) = ix2 (y0 : Fin 16) (0 : Fin 1) := by
        blk_ext [idx t]
      rw [hj]
      refine Eq.trans ?_ (ref_at _).symm
      rw [sum_blocks]
      have ht : t.val = 15 := by
        have h1 := (flush0_5 t).mp hf
        have h2 : t.val < 16 := lt_of_lt_of_eq t.isLt N_0
        omega
      refine ((state m c t.val t.isLt).2.1 y0).trans ?_
      rw [ht]

end Cert.Kernel13Ideal.Gate
-- ==== Proof.MlaFwd.lean ====
module

public import proofs.«01_k».proof.Defs
public import proofs.«01_k».proof.Proof.Gen.Kernel14Ideal.Frame
public import Idealize.ShloMosaic.Lib.VecWindow
public import Idealize.ShloMosaic.Lib.Pipeline.ValueKit

/-! The latent attention forward: what a point of the grid leaves, as its four diagonal steps after the loop of earlier keys. -/

@[expose] public section

set_option maxRecDepth 16384

noncomputable section

open Idealize.ShloMosaic Idealize.ShloMosaic.TcCoe Idealize.SL.Sem
open Idealize.ShloMosaic.Pipeline (Dat)

namespace Cert.Kernel14Ideal.MlaFwd

open Cert.Kernel14Ideal Cert.Kernel14Ideal.Gen

variable {F : FTy → Type} [FloatOps F] [Named F]

/-- The row maxima and the weighted sums. -/
abbrev Acc (F : FTy → Type) : Type := Vec F S2048x128 .f32 × Vec F S2048x256 .f32

abbrev keys (x : Vec F S1x8192x192 .bf16) (off : Fin 3 → ℕ) (inb : ∀ a, off a + S1x512x192.size a ≤ S1x8192x192.size a) :
    Vec F S1x512x192 .bf16 := VecWindow.window x off S1x512x192.size inb

abbrev vals (x : Vec F S1x8192x256 .bf16) (off : Fin 3 → ℕ) (inb : ∀ a, off a + S1x512x256.size a ≤ S1x8192x256.size a) :
    Vec F S1x512x256 .bf16 := VecWindow.window x off S1x512x256.size inb

/-- One earlier block of keys. -/
def tripF (i : grid0.Coords) (x0 : Vec F S1x2048x192 .bf16) (x1 : Vec F S1x8192x192 .bf16) (x2 : Vec F S1x8192x256 .bf16)
    (k : Fin (k0_t1_loop i).trips) (s : Acc F) : Acc F :=
  (k0_pay8 x0 (keys x1 (k0_off1 i k) (k0_off1_inb i k)) s.1,
   k0_pay7 x0 (keys x1 (k0_off1 i k) (k0_off1_inb i k)) s.1 s.2 (vals x2 (k0_off2 i k) (k0_off2_inb i k)))

/-- The two blocks after the first `n` earlier blocks of keys. -/
def stateF (i : grid0.Coords) (x0 : Vec F S1x2048x192 .bf16) (x1 : Vec F S1x8192x192 .bf16) (x2 : Vec F S1x8192x256 .bf16)
    (s : Acc F) : ℕ → Acc F
  | 0 => s
  | n + 1 => if h : n < (k0_t1_loop i).trips then tripF i x0 x1 x2 ⟨n, h⟩ (stateF i x0 x1 x2 s n) else stateF i x0 x1 x2 s n

theorem stateF_succ (i : grid0.Coords) (x0 : Vec F S1x2048x192 .bf16) (x1 : Vec F S1x8192x192 .bf16) (x2 : Vec F S1x8192x256 .bf16)
    (s : Acc F) (k : Fin (k0_t1_loop i).trips) :
    stateF i x0 x1 x2 s (k.val + 1) = tripF i x0 x1 x2 k (stateF i x0 x1 x2 s k.val) := by
  rw [stateF]; exact dif_pos k.isLt

/-- The second loop makes no trip. -/
theorem no_second (i : grid0.Coords) : (k0_t2_loop i).trips = 0 := by
  have h : ∀ j : Fin 4, ∀ i : grid0.Coords, (i 1).val = j.val → (k0_t2_loop i).trips = 0 := by
    intro j i hj
    dsimp only [k0_t2_loop, Scf.Loop.trips]
    rw [hj]
    clear hj i
    revert j
    decide +kernel
  exact h (i 1) i rfl

section
variable (c : Dev nD) (i : grid0.Coords) (arg2 : Memref sig .tc .vmem S1x2048x192 .bf16) (harg2 : arg2.IsWhole) (arg3 : Memref sig .tc .vmem S1x8192x192 .bf16) (harg3 : arg3.IsWhole)
    (arg4 : Memref sig .tc .vmem S1x8192x256 .bf16) (harg4 : arg4.IsWhole) (arg5 : Memref sig .tc .vmem S1x2048x128 .f32) (harg5 : arg5.IsWhole)
    (arg6 : Memref sig .tc .vmem S1x1x2048 .f32) (harg6 : arg6.IsWhole) (arg7 : Memref sig .tc .vmem S2048x128 .f32) (harg7 : arg7.IsWhole)
    (arg8 : Memref sig .tc .vmem S2048x256 .f32) (harg8 : arg8.IsWhole)
    (X2 : BufTy.Contents (Elt F) arg2.view.ty) (X3 : BufTy.Contents (Elt F) arg3.view.ty) (X4 : BufTy.Contents (Elt F) arg4.view.ty)

theorem trip_read (k : Fin (k0_t1_loop i).trips) (f7 : BufTy.Contents (Elt F) arg7.view.ty) (f8 : BufTy.Contents (Elt F) arg8.view.ty) :
    let L := tripL_k0_t1 (F := F) Variants.none c none i arg2 harg2 arg3 harg3 arg4 harg4 arg5 harg5 arg6 harg6 arg7 harg7 arg8 harg8 X2 X3 X4 k f7 f8
    let T := tripF i (arg2.view.read (Elt F) X2) (arg3.view.read (Elt F) X3) (arg4.view.read (Elt F) X4) k (arg7.view.read (Elt F) f7, arg8.view.read (Elt F) f8)
    arg7.view.read (Elt F) (arg7.view.writes (Elt F) f7 L.1) = T.1 ∧ arg8.view.read (Elt F) (arg8.view.writes (Elt F) f8 L.2) = T.2 := by
  intro L T
  constructor
  · show arg7.view.read (Elt F) (arg7.view.writes (Elt F) f7 (tripL_k0_t1 (F := F) Variants.none c none i arg2 harg2 arg3 harg3 arg4 harg4 arg5 harg5 arg6 harg6 arg7 harg7 arg8 harg8 X2 X3 X4 k f7 f8).1) = _
    unfold tripL_k0_t1 trip_k0_t1
    refine (View.read_writes_full ..).trans ?_
    show k0_pay8 _ _ _ = k0_pay8 _ _ _
    congr 1
    · exact View.readAt_full ..
    · exact View.readAt_full ..
  · show arg8.view.read (Elt F) (arg8.view.writes (Elt F) f8 (tripL_k0_t1 (F := F) Variants.none c none i arg2 harg2 arg3 harg3 arg4 harg4 arg5 harg5 arg6 harg6 arg7 harg7 arg8 harg8 X2 X3 X4 k f7 f8).2) = _
    unfold tripL_k0_t1 trip_k0_t1
    refine (View.read_writes_full ..).trans ?_
    show k0_pay7 _ _ _ _ _ = k0_pay7 _ _ _ _ _
    congr 1
    · exact View.readAt_full ..
    · exact View.readAt_full ..
    · exact View.readAt_full ..

theorem loop_read (G7 : BufTy.Contents (Elt F) arg7.view.ty) (G8 : BufTy.Contents (Elt F) arg8.view.ty) (n : ℕ) (hn : n ≤ (k0_t1_loop i).trips) :
    let L := pb_k0_t1 (F := F) Variants.none c none i arg2 harg2 arg3 harg3 arg4 harg4 arg5 harg5 arg6 harg6 arg7 harg7 arg8 harg8 X2 X3 X4 G7 G8 n
    let T := stateF i (arg2.view.read (Elt F) X2) (arg3.view.read (Elt F) X3) (arg4.view.read (Elt F) X4) (arg7.view.read (Elt F) G7, arg8.view.read (Elt F) G8) n
    arg7.view.read (Elt F) (arg7.view.writes (Elt F) G7 L.1) = T.1 ∧ arg8.view.read (Elt F) (arg8.view.writes (Elt F) G8 L.2) = T.2 := by
  induction n with
  | zero => exact ⟨rfl, rfl⟩
  | succ n ih =>
    have h := ih (by omega)
    intro L T
    have hL : L = _ := pb_k0_t1_succ (F := F) Variants.none c none i arg2 harg2 arg3 harg3 arg4 harg4 arg5 harg5 arg6 harg6 arg7 harg7 arg8 harg8 X2 X3 X4 G7 G8 ⟨n, hn⟩
    have hT : T = _ := stateF_succ i (arg2.view.read (Elt F) X2) (arg3.view.read (Elt F) X3) (arg4.view.read (Elt F) X4) (arg7.view.read (Elt F) G7, arg8.view.read (Elt F) G8) ⟨n, hn⟩
    have t := trip_read c i arg2 harg2 arg3 harg3 arg4 harg4 arg5 harg5 arg6 harg6 arg7 harg7 arg8 harg8 X2 X3 X4 ⟨n, hn⟩
      (arg7.view.writes (Elt F) G7 (pb_k0_t1 (F := F) Variants.none c none i arg2 harg2 arg3 harg3 arg4 harg4 arg5 harg5 arg6 harg6 arg7 harg7 arg8 harg8 X2 X3 X4 G7 G8 n).1)
      (arg8.view.writes (Elt F) G8 (pb_k0_t1 (F := F) Variants.none c none i arg2 harg2 arg3 harg3 arg4 harg4 arg5 harg5 arg6 harg6 arg7 harg7 arg8 harg8 X2 X3 X4 G7 G8 n).2)
    have e : ∀ (a b : _), a = (stateF i (arg2.view.read (Elt F) X2) (arg3.view.read (Elt F) X3) (arg4.view.read (Elt F) X4) (arg7.view.read (Elt F) G7, arg8.view.read (Elt F) G8) n).1 →
      b = (stateF i (arg2.view.read (Elt F) X2) (arg3.view.read (Elt F) X3) (arg4.view.read (Elt F) X4) (arg7.view.read (Elt F) G7, arg8.view.read (Elt F) G8) n).2 →
      (a, b) = stateF i (arg2.view.read (Elt F) X2) (arg3.view.read (Elt F) X3) (arg4.view.read (Elt F) X4) (arg7.view.read (Elt F) G7, arg8.view.read (Elt F) G8) n := by
      intro a b h1 h2; rw [h1, h2]
    have e2 := e _ _ h.1 h.2
    rw [hL, hT, View.writes_append, View.writes_append, ← e2]
    exact t

theorem no_pieces (G7 : BufTy.Contents (Elt F) arg7.view.ty) (G8 : BufTy.Contents (Elt F) arg8.view.ty) (n : ℕ) (hn : n = 0) :
    pb_k0_t2 (F := F) Variants.none c none i arg2 harg2 arg3 harg3 arg4 harg4 arg5 harg5 arg6 harg6 arg7 harg7 arg8 harg8 X2 X3 X4 G7 G8 n = ([], []) := by
  subst hn; rfl

end

theorem cov_eq {s : Shape} {e : EltTy} (v : View sig .tc .vmem s e) (L : List (View.Piece (Elt F) s e)) {off size : Fin s.rank → ℕ}
    (inb : ∀ a, off a + size a ≤ s.size a) :
    v.readCov L (Rect.unit off size inb).toLoadRect = VecWindow.window (v.read (Elt F) (v.writes (Elt F) v.junk L)) off size inb := rfl

theorem put_eq {s : Shape} {e : EltTy} (v : View sig .tc .vmem s e) (f) (L : List (View.Piece (Elt F) s e)) {off size : Fin s.rank → ℕ}
    (inb : ∀ a, off a + size a ≤ s.size a) (w) :
    v.read (Elt F) (v.writes (Elt F) f (⟨Rect.unit off size inb, w⟩ :: L)) = VecWindow.put (v.read (Elt F) (v.writes (Elt F) f L)) off size w :=
  View.read_writes_cons_put (h := rfl) ..

theorem full_eq {s : Shape} {e : EltTy} (x : s.Idx → Elt F e) {off : Fin s.rank → ℕ} (inb : ∀ a, off a + s.size a ≤ s.size a) :
    VecWindow.window x off s.size inb = x :=
  funext fun y => congrArg x (funext fun a => Fin.ext (by
    show off a + 1 * (y a).val = (y a).val
    have := inb a; omega))

abbrev inbK (i : grid0.Coords) (r : Fin 4) : ∀ a, k0_off5 i (BitVec.ofNat 32 r.val) a + S1x512x192.size a ≤ S1x8192x192.size a := k0_off5_inb i r
abbrev inbV (i : grid0.Coords) (r : Fin 4) : ∀ a, k0_off6 i (BitVec.ofNat 32 r.val) a + S1x512x256.size a ≤ S1x8192x256.size a := k0_off6_inb i r

/-- The four blocks of keys on the diagonal. -/
def diag0 (i : grid0.Coords) (x0 : Vec F S1x2048x192 .bf16) (x1 : Vec F S1x8192x192 .bf16) (x2 : Vec F S1x8192x256 .bf16) (s : Acc F) : Acc F :=
  let p := k0_pay13 x0 (keys x1 (k0_off5 i 0#32) (inbK i 0))
  let a := VecWindow.window s.1 ![0, 0] S2048x128.size inb_S2048x128_S2048x128_0_0
  let b := VecWindow.window s.2 ![0, 0] S2048x256.size inb_S2048x256_S2048x256_0_0
  (VecWindow.put s.1 ![0, 0] S2048x128.size (k0_pay16 p a),
   VecWindow.put s.2 ![0, 0] S2048x256.size (k0_pay15 p a b (vals x2 (k0_off6 i 0#32) (inbV i 0))))

def diag1 (i : grid0.Coords) (x0 : Vec F S1x2048x192 .bf16) (x1 : Vec F S1x8192x192 .bf16) (x2 : Vec F S1x8192x256 .bf16) (s : Acc F) : Acc F :=
  let p := k0_pay17 (VecWindow.window x0 ![0, 512, 0] S1x1536x192.size inb_S1x2048x192_S1x1536x192_0_512_0) (keys x1 (k0_off5 i 1#32) (inbK i 1))
  let a := VecWindow.window s.1 ![512, 0] S1536x128.size inb_S2048x128_S1536x128_512_0
  let b := VecWindow.window s.2 ![512, 0] S1536x256.size inb_S2048x256_S1536x256_512_0
  (VecWindow.put s.1 ![512, 0] S1536x128.size (k0_pay23 p k0_pay18 k0_pay19 a),
   VecWindow.put s.2 ![512, 0] S1536x256.size (k0_pay22 p k0_pay18 k0_pay19 a b (vals x2 (k0_off6 i 1#32) (inbV i 1))))

def diag2 (i : grid0.Coords) (x0 : Vec F S1x2048x192 .bf16) (x1 : Vec F S1x8192x192 .bf16) (x2 : Vec F S1x8192x256 .bf16) (s : Acc F) : Acc F :=
  let p := k0_pay24 (VecWindow.window x0 ![0, 1024, 0] S1x1024x192.size inb_S1x2048x192_S1x1024x192_0_1024_0) (keys x1 (k0_off5 i 2#32) (inbK i 2))
  let q := iota Kind.tc S1024x512 32 [0] iota_S1024x512_d0_w32
  let a := VecWindow.window s.1 ![1024, 0] S1024x128.size inb_S2048x128_S1024x128_1024_0
  let b := VecWindow.window s.2 ![1024, 0] S1024x256.size inb_S2048x256_S1024x256_1024_0
  (VecWindow.put s.1 ![1024, 0] S1024x128.size (k0_pay28 p q a),
   VecWindow.put s.2 ![1024, 0] S1024x256.size (k0_pay27 p q a b (vals x2 (k0_off6 i 2#32) (inbV i 2))))

def diag3 (i : grid0.Coords) (x0 : Vec F S1x2048x192 .bf16) (x1 : Vec F S1x8192x192 .bf16) (x2 : Vec F S1x8192x256 .bf16) (s : Acc F) : Acc F :=
  let p := k0_pay29 (VecWindow.window x0 ![0, 1536, 0] S1x512x192.size inb_S1x2048x192_S1x512x192_0_1536_0)
  let q := keys x1 (k0_off5 i 3#32) (inbK i 3)
  let a := VecWindow.window s.1 ![1536, 0] S512x128.size inb_S2048x128_S512x128_1536_0
  let b := VecWindow.window s.2 ![1536, 0] S512x256.size inb_S2048x256_S512x256_1536_0
  (VecWindow.put s.1 ![1536, 0] S512x128.size (k0_pay33 p q a),
   VecWindow.put s.2 ![1536, 0] S512x256.size (k0_pay32 p q a b (vals x2 (k0_off6 i 3#32) (inbV i 3))))

/-- The blocks at the end of one grid point. -/
def pointF (i : grid0.Coords) (x0 : Vec F S1x2048x192 .bf16) (x1 : Vec F S1x8192x192 .bf16) (x2 : Vec F S1x8192x256 .bf16) : Acc F :=
  diag3 i x0 x1 x2 (diag2 i x0 x1 x2 (diag1 i x0 x1 x2 (diag0 i x0 x1 x2 (stateF i x0 x1 x2 (k0_pay3, k0_pay4) (k0_t1_loop i).trips))))

variable (m : (ℓ : Loc nD τ sig) → Buf (Elt F) ℓ)

theorem start_read (c : Dev nD) (i : grid0.Coords) (arg2 : Memref sig .tc .vmem S1x2048x192 .bf16) (harg2 : arg2.IsWhole) (arg3 : Memref sig .tc .vmem S1x8192x192 .bf16) (harg3 : arg3.IsWhole)
    (arg4 : Memref sig .tc .vmem S1x8192x256 .bf16) (harg4 : arg4.IsWhole) (arg5 : Memref sig .tc .vmem S1x2048x128 .f32) (harg5 : arg5.IsWhole)
    (arg6 : Memref sig .tc .vmem S1x1x2048 .f32) (harg6 : arg6.IsWhole) (arg7 : Memref sig .tc .vmem S2048x128 .f32) (harg7 : arg7.IsWhole)
    (arg8 : Memref sig .tc .vmem S2048x256 .f32) (harg8 : arg8.IsWhole) (x0 : Vec F S1x2048x192 .bf16) (x1 : Vec F S1x8192x192 .bf16) (x2 : Vec F S1x8192x256 .bf16) :
    let G7 := arg7.view.writes (Elt F) arg7.view.junk [⟨Rect.unit (s := S2048x128) ![0, 0] S2048x128.size inb_S2048x128_S2048x128_0_0, k0_pay3⟩]
    let G8 := arg8.view.writes (Elt F) arg8.view.junk [⟨Rect.unit (s := S2048x256) ![0, 0] S2048x256.size inb_S2048x256_S2048x256_0_0, k0_pay4⟩]
    let L := pb_k0_t1 (F := F) Variants.none c none i arg2 harg2 arg3 harg3 arg4 harg4 arg5 harg5 arg6 harg6 arg7 harg7 arg8 harg8
      (harg2.unread x0) (harg3.unread x1) (harg4.unread x2) G7 G8 (k0_t1_loop i).trips
    arg7.view.read (Elt F) (arg7.view.writes (Elt F) G7 L.1) = (stateF i x0 x1 x2 (k0_pay3, k0_pay4) (k0_t1_loop i).trips).1
      ∧ arg8.view.read (Elt F) (arg8.view.writes (Elt F) G8 L.2) = (stateF i x0 x1 x2 (k0_pay3, k0_pay4) (k0_t1_loop i).trips).2 := by
  intro G7 G8 L
  have h := loop_read c i arg2 harg2 arg3 harg3 arg4 harg4 arg5 harg5 arg6 harg6 arg7 harg7 arg8 harg8 (harg2.unread x0) (harg3.unread x1) (harg4.unread x2) G7 G8
    (k0_t1_loop i).trips le_rfl
  have h7 : arg7.view.read (Elt F) G7 = k0_pay3 := View.read_writes_full ..
  have h8 : arg8.view.read (Elt F) G8 = k0_pay4 := View.read_writes_full ..
  rw [h7, h8, harg2.read_unread, harg3.read_unread, harg4.read_unread] at h
  exact h

theorem ld_eq {s : Shape} {e : EltTy} (x : s.Idx → Elt F e) {off size : Fin s.rank → ℕ} (inb : ∀ a, off a + size a ≤ s.size a) :
    View.ld x (Rect.unit off size inb) = VecWindow.window x off size inb := rfl

/-- The blocks a grid point ends with. -/
abbrev ends (c : Dev nD) (t : Fin cfg0.N) : Acc F := pointF (grid0.coords t) (iblk m c 0 t) (iblk m c 1 t) (iblk m c 2 t)

set_option maxHeartbeats 1000000 in
theorem outs (c : Dev nD) (t : Fin cfg0.N) : outsAt0 m c t
    = (k0_pay1 (k0_pay35 (VecWindow.window (ends m c t).2 ![0, 0] S2048x256.size inb_S2048x256_S2048x256_0_0)),
      k0_pay2 (k0_pay34 (VecWindow.window (ends m c t).2 ![0, 0] S2048x256.size inb_S2048x256_S2048x256_0_0))
        (VecWindow.window (ends m c t).1 ![0, 0] S2048x1.size inb_S2048x128_S2048x1_0_0)) := by
  unfold outsAt0
  frame_out
  rw [no_pieces (hn := no_second _)]
  simp only [List.nil_append, cov_eq, put_eq, View.writes_append, ld_eq]
  generalize hL : pb_k0_t1 (F := F) _ _ _ _ _ _ _ _ _ _ _ _ _ _ _ _ _ _ _ _ _ _ _ _ = L
  have h : (View.whole cc0_scratch0).read (Elt F) ((View.whole cc0_scratch0).writes (Elt F) ((View.whole cc0_scratch0).writes (Elt F) (View.whole cc0_scratch0).junk
        [⟨Rect.unit (s := S2048x128) ![0, 0] S2048x128.size inb_S2048x128_S2048x128_0_0, k0_pay3⟩]) L.1)
      = (stateF (grid0.coords t) (iblk m c 0 t) (iblk m c 1 t) (iblk m c 2 t) (k0_pay3, k0_pay4) (k0_t1_loop (grid0.coords t)).trips).1
      ∧ (View.whole cc0_scratch1).read (Elt F) ((View.whole cc0_scratch1).writes (Elt F) ((View.whole cc0_scratch1).writes (Elt F) (View.whole cc0_scratch1).junk
        [⟨Rect.unit (s := S2048x256) ![0, 0] S2048x256.size inb_S2048x256_S2048x256_0_0, k0_pay4⟩]) L.2)
      = (stateF (grid0.coords t) (iblk m c 0 t) (iblk m c 1 t) (iblk m c 2 t) (k0_pay3, k0_pay4) (k0_t1_loop (grid0.coords t)).trips).2 := by
    subst hL
    exact start_read (F := F) c (grid0.coords t) (ms0_0 t) _ (ms0_1 t) _ (ms0_2 t) _ (ms0_3 t) _ (ms0_4 t) _ scM0_0 _ scM0_1 _ _ _ _
  generalize hX : stateF (grid0.coords t) (iblk m c 0 t) (iblk m c 1 t) (iblk m c 2 t) (k0_pay3, k0_pay4) (k0_t1_loop (grid0.coords t)).trips = X at h
  unfold ends pointF
  rw [hX]
  clear hX hL
  generalize (View.whole cc0_scratch0).read (Elt F) ((View.whole cc0_scratch0).writes (Elt F) ((View.whole cc0_scratch0).writes (Elt F) (View.whole cc0_scratch0).junk
        [⟨Rect.unit (s := S2048x128) ![0, 0] S2048x128.size inb_S2048x128_S2048x128_0_0, k0_pay3⟩]) L.1) = a at h ⊢
  generalize (View.whole cc0_scratch1).read (Elt F) ((View.whole cc0_scratch1).writes (Elt F) ((View.whole cc0_scratch1).writes (Elt F) (View.whole cc0_scratch1).junk
        [⟨Rect.unit (s := S2048x256) ![0, 0] S2048x256.size inb_S2048x256_S2048x256_0_0, k0_pay4⟩]) L.2) = b at h ⊢
  obtain ⟨rfl, rfl⟩ := h
  generalize iblk m c 0 t = x0
  generalize iblk m c 1 t = x1
  generalize iblk m c 2 t = x2
  dsimp only [diag3, diag2, diag1, diag0]

end Cert.Kernel14Ideal.MlaFwd
-- ==== Proof.MlaFwdVal.lean ====
module

public import proofs.«01_k».proof.Defs
public import proofs.«01_k».proof.Proof.Gen.Kernel14Ideal.Frame
public import proofs.«01_k».proof.Proof.AttnSum
public import Idealize.ShloMosaic.Lib.Pipeline.ValueKit

/-! The latent attention forward: the values of the expressions of a point, entry by entry. -/

@[expose] public section

set_option maxRecDepth 16384

noncomputable section

open Idealize.ShloMosaic Idealize.ShloMosaic.TcCoe Idealize.SL.Sem
open Idealize.ShloMosaic.Pipeline (Dat)

namespace Cert.Kernel14Ideal.MlaFwd

open Cert.Kernel14Ideal Cert.Kernel14Ideal.Gen Cert.Attn

theorem mask_eq : (Named.named κ "mask" 0xF149F2CA#32 : Ideal .f32) = (⊥ : EReal) := rfl

/-- The product of a row of queries and a row of keys. -/
def dotQK {n : ℕ} (a : FVec Ideal ⟨3, ![1, n, 192]⟩ .bf16) (t : Fin n) {l : ℕ} (b : FVec Ideal ⟨3, ![1, l, 192]⟩ .bf16) (s : Fin l) : EReal :=
  ∑ j : Fin 192, a (ix3 0 t j) * b (ix3 0 s j)

section
variable {n : ℕ} (M : FVec Ideal ⟨2, ![n, 128]⟩ .f32) (t : Fin n) (μ : EReal)

theorem cat2 (h : Shape.Concatenates [⟨2, ![n, 128]⟩, ⟨2, ![n, 128]⟩] ⟨2, ![n, 256]⟩ 1)
    (hM : ∀ l : Fin 128, M (ix2 t l) = μ) (x : Fin 256) :
    concatenate ⟨2, ![n, 256]⟩ 1 [⟨⟨2, ![n, 128]⟩, M⟩, ⟨⟨2, ![n, 128]⟩, M⟩] h (ix2 t x) = μ := by
  pointwise []
  split_ifs <;> exact row_const M t μ hM _ rfl

end

theorem pay5_at (q : FVec Ideal S1x2048x192 .bf16) (k : FVec Ideal S1x512x192 .bf16) (t : Fin 2048) (u : Fin 512) :
    k0_pay5 (F := Ideal) q k (ix2 t u) = dotQK q t k u := by
  pointwise [k0_pay5, dotQK]

theorem pay6_at (q : FVec Ideal S1x2048x192 .bf16) (k : FVec Ideal S1x512x192 .bf16) (M : FVec Ideal S2048x128 .f32) (t : Fin 2048) (l : Fin 128) :
    k0_pay6 (F := Ideal) q k M (ix2 t l) = max (M (ix2 t l)) (Finset.univ.fold max ⊥ fun u : Fin 512 => dotQK q t k u) := by
  pointwise [k0_pay6, pay5_at, low_eq]

theorem pay7_at (q : FVec Ideal S1x2048x192 .bf16) (k : FVec Ideal S1x512x192 .bf16) (M : FVec Ideal S2048x128 .f32) (A : FVec Ideal S2048x256 .f32)
    (v : FVec Ideal S1x512x256 .bf16) (t : Fin 2048) (d : Fin 256) (μ μ' : EReal) (h : ∀ l : Fin 128, M (ix2 t l) = μ)
    (h' : ∀ l : Fin 128, k0_pay6 (F := Ideal) q k M (ix2 t l) = μ') :
    k0_pay7 (F := Ideal) q k M A v (ix2 t d) = Ideal.exp (μ - μ') * A (ix2 t d) + ∑ u : Fin 512, Ideal.exp (dotQK q t k u - μ') * v (ix3 0 u d) := by
  unfold k0_pay7
  have c4 := cat4 (k0_pay6 (F := Ideal) q k M) t μ' concatenates_S2048x128_S2048x128_S2048x128_S2048x128_S2048x512_d1 h'
  have c2 := cat2 (exp (subf M (k0_pay6 (F := Ideal) q k M))) t (Ideal.exp (μ - μ')) concatenates_S2048x128_S2048x128_S2048x256_d1
    (fun l => by show Ideal.exp (M (ix2 t l) - k0_pay6 (F := Ideal) q k M (ix2 t l)) = _; rw [h, h'])
  generalize concatenate ⟨2, ![2048, 512]⟩ 1 _ _ = C4 at c4 ⊢
  generalize concatenate ⟨2, ![2048, 256]⟩ 1 _ _ = C2 at c2 ⊢
  pointwise [c4, c2, pay5_at]

theorem pay13_at (q : FVec Ideal S1x2048x192 .bf16) (k : FVec Ideal S1x512x192 .bf16) (t : Fin 2048) (u : Fin 512) :
    k0_pay13 (F := Ideal) q k (ix2 t u) = if u.val ≤ t.val then dotQK q t k u else ⊥ := by
  pointwise [k0_pay13, dotQK, mask_eq]
  exact masked _ _ (by omega) (by omega) _
theorem pay14_at (s : FVec Ideal S2048x512 .f32) (M : FVec Ideal S2048x128 .f32) (t : Fin 2048) (l : Fin 128) :
    k0_pay14 (F := Ideal) s M (ix2 t l) = max (M (ix2 t l)) (Finset.univ.fold max ⊥ fun u : Fin 512 => s (ix2 t u)) := by
  pointwise [k0_pay14, low_eq]

theorem pay15_at (s : FVec Ideal S2048x512 .f32) (M : FVec Ideal S2048x128 .f32) (A : FVec Ideal S2048x256 .f32)
    (v : FVec Ideal S1x512x256 .bf16) (t : Fin 2048) (d : Fin 256) (μ μ' : EReal) (h : ∀ l : Fin 128, M (ix2 t l) = μ)
    (h' : ∀ l : Fin 128, k0_pay14 (F := Ideal) s M (ix2 t l) = μ') :
    k0_pay15 (F := Ideal) s M A v (ix2 t d)
      = Ideal.exp (μ - μ') * A (ix2 t d) + ∑ u : Fin 512, Ideal.exp (s (ix2 t u) - μ') * v (ix3 0 u d) := by
  unfold k0_pay15
  have c4 := cat4 (k0_pay14 (F := Ideal) s M) t μ' concatenates_S2048x128_S2048x128_S2048x128_S2048x128_S2048x512_d1 h'
  have c2 := cat2 (exp (subf M (k0_pay14 (F := Ideal) s M))) t (Ideal.exp (μ - μ')) concatenates_S2048x128_S2048x128_S2048x256_d1
    (fun l => by show Ideal.exp (M (ix2 t l) - k0_pay14 (F := Ideal) s M (ix2 t l)) = _; rw [h, h'])
  generalize concatenate ⟨2, ![2048, 512]⟩ 1 _ _ = C4 at c4 ⊢
  generalize concatenate ⟨2, ![2048, 256]⟩ 1 _ _ = C2 at c2 ⊢
  pointwise [c4, c2]

theorem pay21_at (p : FVec Ideal S1536x512 .f32) (q : IVec S1536x512 1) (r : FVec Ideal S1536x512 .f32) (M : FVec Ideal S1536x128 .f32) (t : Fin 1536) (l : Fin 128) :
    k0_pay21 (F := Ideal) p q r M (ix2 t l) = max (M (ix2 t l)) (Finset.univ.fold max ⊥ fun u : Fin 512 => k0_pay20 (F := Ideal) p q r (ix2 t u)) := by
  pointwise [k0_pay21, low_eq]

theorem pay22_at (p : FVec Ideal S1536x512 .f32) (q : IVec S1536x512 1) (r : FVec Ideal S1536x512 .f32) (M : FVec Ideal S1536x128 .f32) (A : FVec Ideal S1536x256 .f32)
    (v : FVec Ideal S1x512x256 .bf16) (t : Fin 1536) (d : Fin 256) (μ μ' : EReal) (h : ∀ l : Fin 128, M (ix2 t l) = μ)
    (h' : ∀ l : Fin 128, k0_pay21 (F := Ideal) p q r M (ix2 t l) = μ') :
    k0_pay22 (F := Ideal) p q r M A v (ix2 t d)
      = Ideal.exp (μ - μ') * A (ix2 t d) + ∑ u : Fin 512, Ideal.exp (k0_pay20 (F := Ideal) p q r (ix2 t u) - μ') * v (ix3 0 u d) := by
  unfold k0_pay22
  have c4 := cat4 (k0_pay21 (F := Ideal) p q r M) t μ' concatenates_S1536x128_S1536x128_S1536x128_S1536x128_S1536x512_d1 h'
  have c2 := cat2 (exp (subf M (k0_pay21 (F := Ideal) p q r M))) t (Ideal.exp (μ - μ')) concatenates_S1536x128_S1536x128_S1536x256_d1
    (fun l => by show Ideal.exp (M (ix2 t l) - k0_pay21 (F := Ideal) p q r M (ix2 t l)) = _; rw [h, h'])
  generalize concatenate ⟨2, ![1536, 512]⟩ 1 _ _ = C4 at c4 ⊢
  generalize concatenate ⟨2, ![1536, 256]⟩ 1 _ _ = C2 at c2 ⊢
  pointwise [c4, c2]

theorem pay26_at (p : FVec Ideal S1024x512 .f32) (q : IVec S1024x512 32) (M : FVec Ideal S1024x128 .f32) (t : Fin 1024) (l : Fin 128) :
    k0_pay26 (F := Ideal) p q M (ix2 t l) = max (M (ix2 t l)) (Finset.univ.fold max ⊥ fun u : Fin 512 => k0_pay25 (F := Ideal) p q (ix2 t u)) := by
  pointwise [k0_pay26, low_eq]

theorem pay27_at (p : FVec Ideal S1024x512 .f32) (q : IVec S1024x512 32) (M : FVec Ideal S1024x128 .f32) (A : FVec Ideal S1024x256 .f32)
    (v : FVec Ideal S1x512x256 .bf16) (t : Fin 1024) (d : Fin 256) (μ μ' : EReal) (h : ∀ l : Fin 128, M (ix2 t l) = μ)
    (h' : ∀ l : Fin 128, k0_pay26 (F := Ideal) p q M (ix2 t l) = μ') :
    k0_pay27 (F := Ideal) p q M A v (ix2 t d)
      = Ideal.exp (μ - μ') * A (ix2 t d) + ∑ u : Fin 512, Ideal.exp (k0_pay25 (F := Ideal) p q (ix2 t u) - μ') * v (ix3 0 u d) := by
  unfold k0_pay27
  have c4 := cat4 (k0_pay26 (F := Ideal) p q M) t μ' concatenates_S1024x128_S1024x128_S1024x128_S1024x128_S1024x512_d1 h'
  have c2 := cat2 (exp (subf M (k0_pay26 (F := Ideal) p q M))) t (Ideal.exp (μ - μ')) concatenates_S1024x128_S1024x128_S1024x256_d1
    (fun l => by show Ideal.exp (M (ix2 t l) - k0_pay26 (F := Ideal) p q M (ix2 t l)) = _; rw [h, h'])
  generalize concatenate ⟨2, ![1024, 512]⟩ 1 _ _ = C4 at c4 ⊢
  generalize concatenate ⟨2, ![1024, 256]⟩ 1 _ _ = C2 at c2 ⊢
  pointwise [c4, c2]

theorem pay31_at (p : FVec Ideal S512x192 .bf16) (q : FVec Ideal S1x512x192 .bf16) (M : FVec Ideal S512x128 .f32) (t : Fin 512) (l : Fin 128) :
    k0_pay31 (F := Ideal) p q M (ix2 t l) = max (M (ix2 t l)) (Finset.univ.fold max ⊥ fun u : Fin 512 => k0_pay30 (F := Ideal) p q (ix2 t u)) := by
  pointwise [k0_pay31, low_eq]

theorem pay32_at (p : FVec Ideal S512x192 .bf16) (q : FVec Ideal S1x512x192 .bf16) (M : FVec Ideal S512x128 .f32) (A : FVec Ideal S512x256 .f32)
    (v : FVec Ideal S1x512x256 .bf16) (t : Fin 512) (d : Fin 256) (μ μ' : EReal) (h : ∀ l : Fin 128, M (ix2 t l) = μ)
    (h' : ∀ l : Fin 128, k0_pay31 (F := Ideal) p q M (ix2 t l) = μ') :
    k0_pay32 (F := Ideal) p q M A v (ix2 t d)
      = Ideal.exp (μ - μ') * A (ix2 t d) + ∑ u : Fin 512, Ideal.exp (k0_pay30 (F := Ideal) p q (ix2 t u) - μ') * v (ix3 0 u d) := by
  unfold k0_pay32
  have c4 := cat4 (k0_pay31 (F := Ideal) p q M) t μ' concatenates_S512x128_S512x128_S512x128_S512x128_S512x512_d1 h'
  have c2 := cat2 (exp (subf M (k0_pay31 (F := Ideal) p q M))) t (Ideal.exp (μ - μ')) concatenates_S512x128_S512x128_S512x256_d1
    (fun l => by show Ideal.exp (M (ix2 t l) - k0_pay31 (F := Ideal) p q M (ix2 t l)) = _; rw [h, h'])
  generalize concatenate ⟨2, ![512, 512]⟩ 1 _ _ = C4 at c4 ⊢
  generalize concatenate ⟨2, ![512, 256]⟩ 1 _ _ = C2 at c2 ⊢
  pointwise [c4, c2]

theorem pay20_at (q : FVec Ideal S1x1536x192 .bf16) (k : FVec Ideal S1x512x192 .bf16) (t : Fin 1536) (u : Fin 512) :
    k0_pay20 (F := Ideal) (k0_pay17 (F := Ideal) q k) k0_pay18 (k0_pay19 (F := Ideal)) (ix2 t u) = if u.val ≤ t.val then dotQK q t k u else ⊥ := by
  pointwise [k0_pay20, k0_pay17, k0_pay18, k0_pay19, dotQK, mask_eq]
  exact masked _ _ (by omega) (by omega) _

theorem pay25_at (q : FVec Ideal S1x1024x192 .bf16) (k : FVec Ideal S1x512x192 .bf16) (t : Fin 1024) (u : Fin 512) :
    k0_pay25 (F := Ideal) (k0_pay24 (F := Ideal) q k) (iota Kind.tc S1024x512 32 [0] iota_S1024x512_d0_w32) (ix2 t u)
      = if u.val ≤ t.val then dotQK q t k u else ⊥ := by
  pointwise [k0_pay25, k0_pay24, dotQK, mask_eq]
  exact masked _ _ (by omega) (by omega) _

theorem pay30_at (q k : FVec Ideal S1x512x192 .bf16) (t u : Fin 512) :
    k0_pay30 (F := Ideal) (k0_pay29 (F := Ideal) q) k (ix2 t u) = if u.val ≤ t.val then dotQK q t k u else ⊥ := by
  pointwise [k0_pay30, k0_pay29, dotQK, mask_eq]
  exact masked _ _ (by omega) (by omega) _

theorem pay3_at (t : Fin 2048) (l : Fin 128) : k0_pay3 (F := Ideal) (ix2 t l) = ⊥ := by pointwise [k0_pay3, mask_eq]
theorem pay4_at (t : Fin 2048) (d : Fin 256) : k0_pay4 (F := Ideal) (ix2 t d) = (0 : EReal) := by pointwise [k0_pay4]
theorem pay8_eq (q : FVec Ideal S1x2048x192 .bf16) (k : FVec Ideal S1x512x192 .bf16) (M : FVec Ideal S2048x128 .f32) (t : Fin 2048) (l : Fin 128) :
    k0_pay8 (F := Ideal) q k M (ix2 t l) = k0_pay6 (F := Ideal) q k M (ix2 t l) := by pointwise [k0_pay8]
theorem pay16_eq (s : FVec Ideal S2048x512 .f32) (M : FVec Ideal S2048x128 .f32) (t : Fin 2048) (l : Fin 128) :
    k0_pay16 (F := Ideal) s M (ix2 t l) = k0_pay14 (F := Ideal) s M (ix2 t l) := by pointwise [k0_pay16]
theorem pay23_eq (p : FVec Ideal S1536x512 .f32) (q : IVec S1536x512 1) (r : FVec Ideal S1536x512 .f32) (M : FVec Ideal S1536x128 .f32) (t : Fin 1536) (l : Fin 128) :
    k0_pay23 (F := Ideal) p q r M (ix2 t l) = k0_pay21 (F := Ideal) p q r M (ix2 t l) := by pointwise [k0_pay23]
theorem pay28_eq (p : FVec Ideal S1024x512 .f32) (q : IVec S1024x512 32) (M : FVec Ideal S1024x128 .f32) (t : Fin 1024) (l : Fin 128) :
    k0_pay28 (F := Ideal) p q M (ix2 t l) = k0_pay26 (F := Ideal) p q M (ix2 t l) := by pointwise [k0_pay28]
theorem pay33_eq (p : FVec Ideal S512x192 .bf16) (q : FVec Ideal S1x512x192 .bf16) (M : FVec Ideal S512x128 .f32) (t : Fin 512) (l : Fin 128) :
    k0_pay33 (F := Ideal) p q M (ix2 t l) = k0_pay31 (F := Ideal) p q M (ix2 t l) := by pointwise [k0_pay33]

/-- What a grid point writes. -/
theorem out_at (A : FVec Ideal S2048x256 .f32) (t : Fin 2048) (d : Fin 128) :
    k0_pay1 (F := Ideal) (k0_pay35 (F := Ideal) A) (ix3 0 t d) = Ideal.div (A (ix2 t ⟨d.val, by omega⟩)) (A (ix2 t ⟨128, by omega⟩)) := by
  pointwise [k0_pay1, k0_pay35, k0_pay34]

theorem lse_at (A : FVec Ideal S2048x256 .f32) (M : FVec Ideal S2048x1 .f32) (t : Fin 2048) :
    k0_pay2 (F := Ideal) (k0_pay34 (F := Ideal) A) M (ix3 0 0 t) = M (ix2 t 0) + Ideal.log (A (ix2 t ⟨128, by omega⟩)) := by
  pointwise [k0_pay2, k0_pay34]

end Cert.Kernel14Ideal.MlaFwd
-- ==== Proof.AttnRun.lean ====
module

public import proofs.«01_k».proof.Proof.AttnReal

/-! Softmax attention taken block of keys by block of keys: the largest score met so far, and the weighted sum against
 it, which is scaled when a larger score is met. -/

@[expose] public section

noncomputable section

namespace Cert.Attn

open Idealize.ShloMosaic

/-- A real factor that is not negative goes into a sum of extended reals. -/
theorem mul_sum {ι : Type} (s : Finset ι) (f : ι → EReal) (c : ℝ) (hc : 0 ≤ c) : (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top _), ih]

variable {N : ℕ} (σ : Fin N → Fin N → ℝ) (t : Fin N)

/-- The largest score among the keys below `n`. -/
def seenMax (n : ℕ) : EReal := Finset.univ.fold max ⊥ fun s : Fin N => if s.val < n then msk σ t s else ⊥

/-- The sum of the values of the keys below `n`, weighted by the exponentials against it. -/
def seenSum (V : Fin N → EReal) (n : ℕ) : EReal := ∑ s : Fin N, if s.val < n then Ideal.exp (msk σ t s - seenMax σ t n) * V s else 0

theorem seenMax_zero : seenMax σ t 0 = ⊥ := by
  show Finset.univ.sup _ = _
  exact (Finset.sup_eq_bot_iff _ _).2 fun s _ => if_neg (Nat.not_lt_zero _)

theorem seenSum_zero (V : Fin N → EReal) : seenSum σ t V 0 = 0 := Finset.sum_eq_zero fun s _ => if_neg (Nat.not_lt_zero _)

theorem seenMax_real (n : ℕ) (h : 0 < n) : ∃ r : ℝ, seenMax σ t n = (r : EReal) := by
  have hlt : seenMax σ t n < ⊤ := by
    show Finset.univ.sup _ < _
    refine (Finset.sup_lt_iff bot_lt_top).2 fun s _ => ?_
    split_ifs
    · unfold msk; split_ifs
      · exact EReal.coe_lt_top _
      · exact bot_lt_top
    · exact bot_lt_top
  have hge : (σ t ⟨0, t.pos⟩ : EReal) ≤ seenMax σ t n := by
    have := Finset.le_sup (f := fun s : Fin N => if s.val < n then msk σ t s else ⊥) (Finset.mem_univ (⟨0, t.pos⟩ : Fin N))
    refine le_trans (le_of_eq ?_) this
    simp only [h, if_true]
    exact (if_pos (Nat.zero_le _)).symm
  refine ⟨(seenMax σ t n).toReal, (EReal.coe_toReal hlt.ne fun e => ?_).symm⟩
  rw [e] at hge
  exact absurd (le_bot_iff.1 hge) (EReal.coe_ne_bot _)

theorem seenMax_add (n c : ℕ) (h : n + c ≤ N) :
    max (seenMax σ t n) (Finset.univ.fold max ⊥ fun u : Fin c => msk σ t ⟨n + u.val, by omega⟩) = seenMax σ t (n + c) := by
  show max (Finset.univ.sup _) (Finset.univ.sup _) = Finset.univ.sup _
  apply le_antisymm
  · refine max_le (Finset.sup_le fun s _ => ?_) (Finset.sup_le fun u _ => ?_)
    · refine le_trans ?_ (Finset.le_sup (Finset.mem_univ s))
      split_ifs
      · exact le_rfl
      · omega
      · exact bot_le
      · exact bot_le
    · refine le_trans (le_of_eq ?_) (Finset.le_sup (Finset.mem_univ (⟨n + u.val, by omega⟩ : Fin N)))
      exact (if_pos (show n + u.val < n + c by omega)).symm
  · refine Finset.sup_le fun s _ => ?_
    by_cases h1 : s.val < n
    · rw [if_pos (by omega)]
      refine le_max_of_le_left (le_trans (le_of_eq ?_) (Finset.le_sup (Finset.mem_univ s)))
      exact (if_pos h1).symm
    · by_cases h2 : s.val < n + c
      · rw [if_pos h2]
        refine le_max_of_le_right (le_trans (le_of_eq ?_) (Finset.le_sup (Finset.mem_univ (⟨s.val - n, by omega⟩ : Fin c))))
        congr 1
        exact Fin.ext (show s.val = n + (s.val - n) by omega)
      · rw [if_neg h2]; exact bot_le

theorem exp_step (a b : ℝ) (s : Fin N) :
    Ideal.exp ((a : EReal) - (b : EReal)) * Ideal.exp (msk σ t s - (a : EReal)) = Ideal.exp (msk σ t s - (b : EReal)) := by
  unfold msk
  split_ifs
  · rw [← EReal.coe_sub, ← EReal.coe_sub, ← EReal.coe_sub, Ideal.exp_coe, Ideal.exp_coe, Ideal.exp_coe, ← EReal.coe_mul, ← Real.exp_add]
    congr 2; ring
  · rw [EReal.bot_sub, EReal.bot_sub]
    exact mul_zero _

theorem seenSum_add (V : Fin N → EReal) (n c : ℕ) (h : n + c ≤ N) (hc : 0 < c) :
    Ideal.exp (seenMax σ t n - seenMax σ t (n + c)) * seenSum σ t V n
      + ∑ u : Fin c, Ideal.exp (msk σ t ⟨n + u.val, by omega⟩ - seenMax σ t (n + c)) * V ⟨n + u.val, by omega⟩ = seenSum σ t V (n + c) := by
  unfold seenSum
  rw [sum_below_add (fun s => Ideal.exp (msk σ t s - seenMax σ t (n + c)) * V s) n c h]
  congr 1
  rcases Nat.eq_zero_or_pos n with rfl | hn
  · simp only [Nat.not_lt_zero, if_false, Finset.sum_const_zero, mul_zero]
  · obtain ⟨a, ha⟩ := seenMax_real σ t n hn
    obtain ⟨b, hb⟩ := seenMax_real σ t (n + c) (by omega)
    rw [ha, hb, ← EReal.coe_sub, Ideal.exp_coe, mul_sum _ _ _ (Real.exp_pos _).le]
    refine Finset.sum_congr rfl fun s _ => ?_
    split_ifs
    · rw [← mul_assoc, ← Ideal.exp_coe, EReal.coe_sub, exp_step]
    · exact mul_zero _

/-- With the keys up to the query met, the largest score and the weighted sum are those of the whole row. -/
theorem seenMax_all (n : ℕ) (h : t.val < n) : seenMax σ t n = (top σ t : EReal) := by
  rw [← fold_top σ t]
  unfold seenMax
  congr 1
  funext s
  split_ifs with e
  · rfl
  · exact (if_neg (by omega)).symm

theorem seenSum_all (V : Fin N → EReal) (n : ℕ) (h : t.val < n) : seenSum σ t V n = ∑ s, (ex σ t s : EReal) * V s := by
  unfold seenSum
  rw [seenMax_all σ t n h]
  refine Finset.sum_congr rfl fun s _ => ?_
  rw [exp_msk]
  split_ifs with e
  · rfl
  · rw [ex, if_neg (by omega), EReal.coe_zero, zero_mul]

/-- The values weighted and divided by the sum are the values under the attention weights. -/
theorem seen_div (V : Fin N → EReal) : Ideal.div (∑ s, (ex σ t s : EReal) * V s) (tot σ t : EReal) = ∑ s, (wts σ t s : EReal) * V s := by
  rw [Ideal.div_coe (tot_ne σ t), one_div, mul_comm, mul_sum _ _ _ (inv_nonneg.2 (tot_pos σ t).le)]
  refine Finset.sum_congr rfl fun s _ => ?_
  rw [← mul_assoc, ← EReal.coe_mul, wts, div_eq_inv_mul]

end Cert.Attn

end
-- ==== Proof.AttnMet.lean ====
module

public import proofs.«01_k».proof.Proof.AttnRun

/-! A block of query rows and the keys that its rows have met: one more block of keys, in one row and on the diagonal. -/

@[expose] public section

noncomputable section

namespace Cert.Attn

open Idealize.ShloMosaic

theorem lt_query {b : ℕ} (hb : b + 2048 ≤ 8192) (r : Fin 2048) : b + r.val < 8192 := by omega
theorem lt_key {n : ℕ} (hn : n + 512 ≤ 8192) (u : Fin 512) : n + u.val < 8192 := by omega
theorem lt_row {o c : ℕ} (hoc : o + c = 2048) (w : Fin c) : o + w.val < 2048 := by omega
theorem lt_diag {b o : ℕ} (hb : b + 2048 ≤ 8192) (ho : o + 512 ≤ 2048) (u : Fin 512) : b + o + u.val < 8192 := by omega

/-- The row maxima and the weighted sums. -/
abbrev Rows (D : ℕ) : Type := FVec Ideal ⟨2, ![2048, 128]⟩ .f32 × FVec Ideal ⟨2, ![2048, D]⟩ .f32

variable {K D : ℕ} (σ : Fin 8192 → Fin 8192 → ℝ) (x0 : FVec Ideal ⟨3, ![1, 2048, K]⟩ .bf16) (x1 : FVec Ideal ⟨3, ![1, 8192, K]⟩ .bf16)
  (x2 : FVec Ideal ⟨3, ![1, 8192, D]⟩ .bf16)

/-- A row of the two blocks, for its query, when the keys below `n` have been met. -/
structure Met (s : Rows D) (r : Fin 2048) (t : Fin 8192) (n : ℕ) : Prop where
  big : ∀ l : Fin 128, s.1 (ix2 r l) = seenMax σ t n
  acc : ∀ d : Fin D, s.2 (ix2 r d) = seenSum σ t (fun u => x2 (ix3 0 u d)) n

/-- One block of keys in one row. -/
theorem met_step (s s' : Rows D) (r : Fin 2048) (t : Fin 8192) (n : ℕ) (hn : n + 512 ≤ 8192) (S : Fin 512 → EReal)
    (hS : ∀ u : Fin 512, S u = msk σ t ⟨n + u.val, lt_key hn u⟩)
    (h1 : ∀ l : Fin 128, s'.1 (ix2 r l) = max (s.1 (ix2 r l)) (Finset.univ.fold max ⊥ S))
    (h2 : ∀ (d : Fin D) (μ μ' : EReal), (∀ l : Fin 128, s.1 (ix2 r l) = μ) → (∀ l : Fin 128, s'.1 (ix2 r l) = μ') →
      s'.2 (ix2 r d) = Ideal.exp (μ - μ') * s.2 (ix2 r d) + ∑ u : Fin 512, Ideal.exp (S u - μ') * x2 (ix3 0 ⟨n + u.val, lt_key hn u⟩ d))
    (h : Met σ x2 s r t n) : Met σ x2 s' r t (n + 512) := by
  obtain rfl : S = fun u : Fin 512 => msk σ t ⟨n + u.val, lt_key hn u⟩ := funext hS
  have hb : ∀ l : Fin 128, s'.1 (ix2 r l) = seenMax σ t (n + 512) := fun l => by rw [h1, h.big, seenMax_add σ t n 512 hn]
  refine ⟨hb, fun d => ?_⟩
  rw [h2 d _ _ h.big hb, h.acc]
  exact seenSum_add σ t (fun u => x2 (ix3 0 u d)) n 512 hn (by omega)

variable (b : ℕ) (hb : b + 2048 ≤ 8192)
  (hs : ∀ (r : Fin 2048) (u : Fin 8192), ∑ j : Fin K, x0 (ix3 0 r j) * x1 (ix3 0 u j) = (σ ⟨b + r.val, lt_query hb r⟩ u : EReal))

include hs in
/-- One block of keys on the diagonal, for the rows from `o` on. -/
theorem met_diag (s s' : Rows D) (o c : ℕ) (hoc : o + c = 2048) (ho : o + 512 ≤ 2048) (mn : FVec Ideal ⟨2, ![c, 128]⟩ .f32) (an : FVec Ideal ⟨2, ![c, D]⟩ .f32)
    (P : Fin c → Fin 512 → EReal)
    (hP : ∀ w u, P w u = if u.val ≤ w.val then ∑ j : Fin K, x0 (ix3 0 ⟨o + w.val, lt_row hoc w⟩ j) * x1 (ix3 0 ⟨b + o + u.val, lt_diag hb ho u⟩ j) else ⊥)
    (e1 : s'.1 = VecWindow.put (s := ⟨2, ![2048, 128]⟩) s.1 ![o, 0] (⟨2, ![c, 128]⟩ : Shape).size mn)
    (e2 : s'.2 = VecWindow.put (s := ⟨2, ![2048, D]⟩) s.2 ![o, 0] (⟨2, ![c, D]⟩ : Shape).size an)
    (h1 : ∀ (w : Fin c) (l : Fin 128), mn (ix2 w l) = max (s.1 (ix2 ⟨o + w.val, lt_row hoc w⟩ l)) (Finset.univ.fold max ⊥ (P w)))
    (h2 : ∀ (w : Fin c) (d : Fin D) (μ μ' : EReal), (∀ l : Fin 128, s.1 (ix2 ⟨o + w.val, lt_row hoc w⟩ l) = μ) → (∀ l : Fin 128, mn (ix2 w l) = μ') →
      an (ix2 w d) = Ideal.exp (μ - μ') * s.2 (ix2 ⟨o + w.val, lt_row hoc w⟩ d) + ∑ u : Fin 512, Ideal.exp (P w u - μ') * x2 (ix3 0 ⟨b + o + u.val, lt_diag hb ho u⟩ d)) :
    (∀ (r : Fin 2048) n, r.val < o → Met σ x2 s r ⟨b + r.val, lt_query hb r⟩ n → Met σ x2 s' r ⟨b + r.val, lt_query hb r⟩ n)
      ∧ (∀ r : Fin 2048, o ≤ r.val → Met σ x2 s r ⟨b + r.val, lt_query hb r⟩ (b + o) → Met σ x2 s' r ⟨b + r.val, lt_query hb r⟩ (b + o + 512)) := by
  constructor
  · intro r n hr h
    refine ⟨fun l => ?_, fun d => ?_⟩
    · rw [e1]; exact (put_out (N := 2048) (D := 128) s.1 o mn r l hr).trans (h.big l)
    · rw [e2]; exact (put_out (N := 2048) (D := D) s.2 o an r d hr).trans (h.acc d)
  · intro r hr h
    obtain ⟨w, hw⟩ : ∃ w : Fin c, o + w.val = r.val := ⟨⟨r.val - o, by omega⟩, by show o + (r.val - o) = r.val; omega⟩
    obtain ⟨r, hr2⟩ := r
    simp only at hw
    subst hw
    have p1 : ∀ l : Fin 128, s'.1 (ix2 ⟨o + w.val, lt_row hoc w⟩ l) = mn (ix2 w l) := fun l => by
      rw [e1]; exact put_in (N := 2048) (D := 128) s.1 o mn _ l w rfl
    have p2 : ∀ d : Fin D, s'.2 (ix2 ⟨o + w.val, lt_row hoc w⟩ d) = an (ix2 w d) := fun d => by
      rw [e2]; exact put_in (N := 2048) (D := D) s.2 o an _ d w rfl
    refine met_step σ x2 s s' _ _ (b + o) (by omega) (P w) (fun u => ?_) (fun l => by rw [p1, h1]) (fun d μ μ' hμ hμ' => ?_) h
    · rw [hP, msk]
      by_cases hu : u.val ≤ w.val
      · rw [if_pos hu, if_pos (by show b + o + u.val ≤ b + (o + w.val); omega), hs]
      · rw [if_neg hu, if_neg (by show ¬(b + o + u.val ≤ b + (o + w.val)); omega)]
    · rw [p2]; exact h2 w d μ μ' hμ (fun l => by rw [← p1]; exact hμ' l)

end Cert.Attn
-- ==== Proof.MlaFwdRow.lean ====
module

public import proofs.«01_k».proof.Proof.MlaFwd
public import proofs.«01_k».proof.Proof.MlaFwdVal
public import proofs.«01_k».proof.Proof.AttnMet

/-! The latent attention forward: the keys a row has met, through one step and through the loop. -/

@[expose] public section

set_option maxRecDepth 16384

noncomputable section

open Idealize.ShloMosaic Idealize.ShloMosaic.TcCoe Idealize.SL.Sem
open Idealize.ShloMosaic.Pipeline (Dat)

namespace Cert.Kernel14Ideal.MlaFwd

open Cert.Kernel14Ideal Cert.Kernel14Ideal.Gen Cert.Attn

theorem trips_eq (i : grid0.Coords) : (k0_t1_loop i).trips = 4 * (i 1).val := by
  have h : ∀ j : Fin 4, ∀ i : grid0.Coords, (i 1).val = j.val → (k0_t1_loop i).trips = 4 * (i 1).val := by
    intro j i hj
    dsimp only [k0_t1_loop, Scf.Loop.trips]
    rw [hj]
    clear hj i
    revert j
    decide +kernel
  exact h (i 1) i rfl

theorem off_loop (i : grid0.Coords) (k : Fin (k0_t1_loop i).trips) : k0_off1 i k = ![0, 512 * k.val, 0] ∧ k0_off2 i k = ![0, 512 * k.val, 0] := by
  have hk : k.val < 4 * (i 1).val := lt_of_lt_of_eq k.isLt (trips_eq i)
  have hi : (i 1).val < 4 := (i 1).isLt
  have h : ∀ j : Fin 4, ∀ l : Fin 12, ∀ i : grid0.Coords, ∀ k : Fin (k0_t1_loop i).trips, (i 1).val = j.val → k.val = l.val → l.val < 4 * j.val →
      k0_off1 i k = ![0, 512 * k.val, 0] ∧ k0_off2 i k = ![0, 512 * k.val, 0] := by
    intro j l i k hj hl hlt
    dsimp only [k0_off1, k0_off2, Scf.iv]
    rw [hl]
    clear hj hl i k
    revert j l
    decide +kernel
  exact h (i 1) ⟨k.val, by omega⟩ i k rfl rfl hk

theorem off_diag (i : grid0.Coords) (r : Fin 4) : k0_off5 i (BitVec.ofNat 32 r.val) = ![0, 2048 * (i 1).val + 512 * r.val, 0]
    ∧ k0_off6 i (BitVec.ofNat 32 r.val) = ![0, 2048 * (i 1).val + 512 * r.val, 0] := by
  have h : ∀ j : Fin 4, ∀ r : Fin 4, ∀ i : grid0.Coords, (i 1).val = j.val →
      k0_off5 i (BitVec.ofNat 32 r.val) = ![0, 2048 * (i 1).val + 512 * r.val, 0]
        ∧ k0_off6 i (BitVec.ofNat 32 r.val) = ![0, 2048 * (i 1).val + 512 * r.val, 0] := by
    intro j r i hj
    dsimp only [k0_off5, k0_off6]
    rw [hj]
    clear hj i
    revert j r
    decide +kernel
  exact h (i 1) r i rfl

section
variable (σ : Fin 8192 → Fin 8192 → ℝ) (x0 : FVec Ideal S1x2048x192 .bf16) (x1 : FVec Ideal S1x8192x192 .bf16) (x2 : FVec Ideal S1x8192x256 .bf16)

variable (b : ℕ) (hb : b + 2048 ≤ 8192)

theorem scores_on {c : ℕ} (q : FVec Ideal ⟨3, ![1, c, 192]⟩ .bf16) (off : Fin 3 → ℕ) (n : ℕ) (ho : off = ![0, n, 0])
    (inb : ∀ a, off a + S1x512x192.size a ≤ S1x8192x192.size a) (w : Fin c) (u : Fin 512) (h : n + u.val < 8192) :
    dotQK q w (keys (F := Ideal) x1 off inb) u = ∑ j : Fin 192, q (ix3 0 w j) * x1 (ix3 0 ⟨n + u.val, h⟩ j) := by
  unfold dotQK
  exact Finset.sum_congr rfl fun j _ => congrArg _ (window_rows (N := 8192) (D := 192) (c := 512) x1 off n ho inb u j h)

theorem vals_on (off : Fin 3 → ℕ) (n : ℕ) (ho : off = ![0, n, 0]) (inb : ∀ a, off a + S1x512x256.size a ≤ S1x8192x256.size a)
    (u : Fin 512) (d : Fin 256) (h : n + u.val < 8192) : vals (F := Ideal) x2 off inb (ix3 0 u d) = x2 (ix3 0 ⟨n + u.val, h⟩ d) :=
  window_rows (N := 8192) (D := 256) (c := 512) x2 off n ho inb u d h

variable (hs : ∀ (r : Fin 2048) (u : Fin 8192), ∑ j : Fin 192, x0 (ix3 0 r j) * x1 (ix3 0 u j) = (σ ⟨b + r.val, lt_query hb r⟩ u : EReal))

include hs in
theorem met_loop (i : grid0.Coords) (hi : b = 2048 * (i 1).val) (r : Fin 2048) (n : ℕ) (hn : n ≤ (k0_t1_loop i).trips) :
    Met σ x2 (stateF (F := Ideal) i x0 x1 x2 (k0_pay3 (F := Ideal), k0_pay4 (F := Ideal)) n) r ⟨b + r.val, lt_query hb r⟩ (512 * n) := by
  induction n with
  | zero =>
    refine ⟨fun l => ?_, fun d => ?_⟩
    · exact (pay3_at r l).trans (seenMax_zero σ _).symm
    · exact (pay4_at r d).trans (seenSum_zero σ _ _).symm
  | succ n ih =>
    have ht := trips_eq i
    have h := ih (by omega)
    have hst : stateF (F := Ideal) i x0 x1 x2 (k0_pay3 (F := Ideal), k0_pay4 (F := Ideal)) (n + 1) = _ := stateF_succ (F := Ideal) i x0 x1 x2 (k0_pay3 (F := Ideal), k0_pay4 (F := Ideal)) ⟨n, hn⟩
    rw [hst]
    have o := off_loop i ⟨n, hn⟩
    simp only at o ⊢
    generalize stateF (F := Ideal) i x0 x1 x2 (k0_pay3 (F := Ideal), k0_pay4 (F := Ideal)) n = s at h
    have e : ∀ u : Fin 512, dotQK x0 r (keys (F := Ideal) x1 (k0_off1 i ⟨n, hn⟩) (k0_off1_inb i ⟨n, hn⟩)) u
        = (σ ⟨b + r.val, lt_query hb r⟩ ⟨512 * n + u.val, by omega⟩ : EReal) := fun u => by
      rw [scores_on x1 x0 _ (512 * n) o.1 _ r u (by omega), hs]
    have := met_step σ x2 s (tripF (F := Ideal) i x0 x1 x2 ⟨n, hn⟩ s) r ⟨b + r.val, lt_query hb r⟩ (512 * n) (by omega)
      (fun u => dotQK x0 r (keys (F := Ideal) x1 (k0_off1 i ⟨n, hn⟩) (k0_off1_inb i ⟨n, hn⟩)) u)
      (fun u => by rw [e u, msk, if_pos (by show 512 * n + u.val ≤ b + r.val; omega)])
      (fun l => by simp only [tripF]; rw [pay8_eq, pay6_at])
      (fun d μ μ' hμ hμ' => by
        simp only [tripF] at hμ' ⊢
        rw [pay7_at _ _ _ _ _ r d μ μ' hμ (fun l => by rw [← pay8_eq]; exact hμ' l)]
        congr 1
        exact Finset.sum_congr rfl fun u _ => by rw [vals_on x2 _ (512 * n) o.2 _ u d (by omega)])
      h
    exact this

end

end Cert.Kernel14Ideal.MlaFwd
-- ==== Proof.MlaFwdEnd.lean ====
module

public import proofs.«01_k».proof.Proof.MlaFwdRow

/-! The latent attention forward: after its diagonal steps a row has met all its keys. -/

@[expose] public section

set_option maxRecDepth 16384

noncomputable section

open Idealize.ShloMosaic Idealize.ShloMosaic.TcCoe Idealize.SL.Sem
open Idealize.ShloMosaic.Pipeline (Dat)

namespace Cert.Kernel14Ideal.MlaFwd

open Cert.Kernel14Ideal Cert.Kernel14Ideal.Gen Cert.Attn

/-- What one block on the diagonal does to the rows before it and to those from it on. -/
abbrev Step (σ : Fin 8192 → Fin 8192 → ℝ) (x2 : FVec Ideal S1x8192x256 .bf16) (b : ℕ) (hb : b + 2048 ≤ 8192) (s s' : Acc Ideal) (o : ℕ) : Prop :=
  (∀ (r : Fin 2048) n, r.val < o → Met σ x2 s r ⟨b + r.val, lt_query hb r⟩ n → Met σ x2 s' r ⟨b + r.val, lt_query hb r⟩ n)
    ∧ (∀ r : Fin 2048, o ≤ r.val → Met σ x2 s r ⟨b + r.val, lt_query hb r⟩ (b + o) → Met σ x2 s' r ⟨b + r.val, lt_query hb r⟩ (b + o + 512))

variable (σ : Fin 8192 → Fin 8192 → ℝ) (x0 : FVec Ideal S1x2048x192 .bf16) (x1 : FVec Ideal S1x8192x192 .bf16) (x2 : FVec Ideal S1x8192x256 .bf16)
  (b : ℕ) (hb : b + 2048 ≤ 8192)
  (hs : ∀ (r : Fin 2048) (u : Fin 8192), ∑ j : Fin 192, x0 (ix3 0 r j) * x1 (ix3 0 u j) = (σ ⟨b + r.val, lt_query hb r⟩ u : EReal))
  (i : grid0.Coords) (hi : b = 2048 * (i 1).val)

theorem offs (hi : b = 2048 * (i 1).val) (r : Fin 4) (o : ℕ) (ho : o = 512 * r.val) : k0_off5 i (BitVec.ofNat 32 r.val) = ![0, b + o, 0]
    ∧ k0_off6 i (BitVec.ofNat 32 r.val) = ![0, b + o, 0] := by
  rw [hi, ho]; exact off_diag i r

include hs hi in
theorem step0 (s : Acc Ideal) : Step σ x2 b hb s (diag0 (F := Ideal) i x0 x1 x2 s) 0 := by
  have off : k0_off5 i 0#32 = ![0, b + 0, 0] ∧ k0_off6 i 0#32 = ![0, b + 0, 0] := offs b i hi 0 0 rfl
  refine met_diag σ x0 x1 x2 b hb hs s _ 0 2048 rfl (by decide) _ _ (fun w u => k0_pay13 (F := Ideal) x0 (keys x1 (k0_off5 i 0#32) (inbK i 0)) (ix2 w u)) (fun w u => ?_) rfl rfl (fun w l => ?_) (fun w d μ μ' hμ hμ' => ?_)
  · refine (pay13_at _ _ w u).trans ?_
    congr 1
    rw [scores_on x1 _ _ (b + 0) off.1 _ w u (by omega)]
    exact Finset.sum_congr rfl fun j _ => congrArg (fun z : EReal => z * _) (congrArg x0 (by congr 1; exact Fin.ext (by show w.val = 0 + w.val; omega)))
  · rw [pay16_eq, pay14_at]
    congr 1
    exact win_rows (N := 2048) (D := 128) (c := 2048) s.1 0 _ w l (by omega)
  · rw [pay15_at _ _ _ _ w d μ μ' (fun l => (win_rows (N := 2048) (D := 128) (c := 2048) s.1 0 _ w l (by omega)).trans (hμ l)) (fun l => by rw [← pay16_eq]; exact hμ' l)]
    refine congrArg₂ (fun y z : EReal => y + z) (congrArg _ (win_rows (N := 2048) (D := 256) (c := 2048) s.2 0 _ w d (by omega))) ?_
    exact Finset.sum_congr rfl fun u _ => congrArg _ (vals_on x2 _ (b + 0) off.2 _ u d (by omega))

include hs hi in
theorem step1 (s : Acc Ideal) : Step σ x2 b hb s (diag1 (F := Ideal) i x0 x1 x2 s) 512 := by
  have off : k0_off5 i 1#32 = ![0, b + 512, 0] ∧ k0_off6 i 1#32 = ![0, b + 512, 0] := offs b i hi 1 512 rfl
  refine met_diag σ x0 x1 x2 b hb hs s _ 512 1536 rfl (by decide) _ _ (fun w u => k0_pay20 (F := Ideal) (k0_pay17 (F := Ideal) (VecWindow.window (s := S1x2048x192) x0 ![0, 512, 0] S1x1536x192.size inb_S1x2048x192_S1x1536x192_0_512_0) (keys x1 (k0_off5 i 1#32) (inbK i 1))) k0_pay18 (k0_pay19 (F := Ideal)) (ix2 w u)) (fun w u => ?_) rfl rfl (fun w l => ?_) (fun w d μ μ' hμ hμ' => ?_)
  · refine (pay20_at _ _ w u).trans ?_
    congr 1
    rw [scores_on x1 _ _ (b + 512) off.1 _ w u (by omega)]
    exact Finset.sum_congr rfl fun j _ => congrArg (fun z : EReal => z * _) (window_rows (N := 2048) (D := 192) (c := 1536) x0 ![0, 512, 0] 512 rfl _ w j (by omega))
  · rw [pay23_eq, pay21_at]
    congr 1
    exact win_rows (N := 2048) (D := 128) (c := 1536) s.1 512 _ w l (by omega)
  · rw [pay22_at _ _ _ _ _ _ w d μ μ' (fun l => (win_rows (N := 2048) (D := 128) (c := 1536) s.1 512 _ w l (by omega)).trans (hμ l)) (fun l => by rw [← pay23_eq]; exact hμ' l)]
    refine congrArg₂ (fun y z : EReal => y + z) (congrArg _ (win_rows (N := 2048) (D := 256) (c := 1536) s.2 512 _ w d (by omega))) ?_
    exact Finset.sum_congr rfl fun u _ => congrArg _ (vals_on x2 _ (b + 512) off.2 _ u d (by omega))

include hs hi in
theorem step2 (s : Acc Ideal) : Step σ x2 b hb s (diag2 (F := Ideal) i x0 x1 x2 s) 1024 := by
  have off : k0_off5 i 2#32 = ![0, b + 1024, 0] ∧ k0_off6 i 2#32 = ![0, b + 1024, 0] := offs b i hi 2 1024 rfl
  refine met_diag σ x0 x1 x2 b hb hs s _ 1024 1024 rfl (by decide) _ _ (fun w u => k0_pay25 (F := Ideal) (k0_pay24 (F := Ideal) (VecWindow.window (s := S1x2048x192) x0 ![0, 1024, 0] S1x1024x192.size inb_S1x2048x192_S1x1024x192_0_1024_0) (keys x1 (k0_off5 i 2#32) (inbK i 2))) (iota Kind.tc S1024x512 32 [0] iota_S1024x512_d0_w32) (ix2 w u)) (fun w u => ?_) rfl rfl (fun w l => ?_) (fun w d μ μ' hμ hμ' => ?_)
  · refine (pay25_at _ _ w u).trans ?_
    congr 1
    rw [scores_on x1 _ _ (b + 1024) off.1 _ w u (by omega)]
    exact Finset.sum_congr rfl fun j _ => congrArg (fun z : EReal => z * _) (window_rows (N := 2048) (D := 192) (c := 1024) x0 ![0, 1024, 0] 1024 rfl _ w j (by omega))
  · rw [pay28_eq, pay26_at]
    congr 1
    exact win_rows (N := 2048) (D := 128) (c := 1024) s.1 1024 _ w l (by omega)
  · rw [pay27_at _ _ _ _ _ w d μ μ' (fun l => (win_rows (N := 2048) (D := 128) (c := 1024) s.1 1024 _ w l (by omega)).trans (hμ l)) (fun l => by rw [← pay28_eq]; exact hμ' l)]
    refine congrArg₂ (fun y z : EReal => y + z) (congrArg _ (win_rows (N := 2048) (D := 256) (c := 1024) s.2 1024 _ w d (by omega))) ?_
    exact Finset.sum_congr rfl fun u _ => congrArg _ (vals_on x2 _ (b + 1024) off.2 _ u d (by omega))

include hs hi in
theorem step3 (s : Acc Ideal) : Step σ x2 b hb s (diag3 (F := Ideal) i x0 x1 x2 s) 1536 := by
  have off : k0_off5 i 3#32 = ![0, b + 1536, 0] ∧ k0_off6 i 3#32 = ![0, b + 1536, 0] := offs b i hi 3 1536 rfl
  refine met_diag σ x0 x1 x2 b hb hs s _ 1536 512 rfl (by decide) _ _ (fun w u => k0_pay30 (F := Ideal) (k0_pay29 (F := Ideal) (VecWindow.window (s := S1x2048x192) x0 ![0, 1536, 0] S1x512x192.size inb_S1x2048x192_S1x512x192_0_1536_0)) (keys x1 (k0_off5 i 3#32) (inbK i 3)) (ix2 w u)) (fun w u => ?_) rfl rfl (fun w l => ?_) (fun w d μ μ' hμ hμ' => ?_)
  · refine (pay30_at _ _ w u).trans ?_
    congr 1
    rw [scores_on x1 _ _ (b + 1536) off.1 _ w u (by omega)]
    exact Finset.sum_congr rfl fun j _ => congrArg (fun z : EReal => z * _) (window_rows (N := 2048) (D := 192) (c := 512) x0 ![0, 1536, 0] 1536 rfl _ w j (by omega))
  · rw [pay33_eq, pay31_at]
    congr 1
    exact win_rows (N := 2048) (D := 128) (c := 512) s.1 1536 _ w l (by omega)
  · rw [pay32_at _ _ _ _ _ w d μ μ' (fun l => (win_rows (N := 2048) (D := 128) (c := 512) s.1 1536 _ w l (by omega)).trans (hμ l)) (fun l => by rw [← pay33_eq]; exact hμ' l)]
    refine congrArg₂ (fun y z : EReal => y + z) (congrArg _ (win_rows (N := 2048) (D := 256) (c := 512) s.2 1536 _ w d (by omega))) ?_
    exact Finset.sum_congr rfl fun u _ => congrArg _ (vals_on x2 _ (b + 1536) off.2 _ u d (by omega))

include hs hi in
/-- A grid point ends with every row having met the keys up to its query. -/
theorem met_point (r : Fin 2048) : ∃ n, b + r.val < n ∧ Met σ x2 (pointF (F := Ideal) i x0 x1 x2) r ⟨b + r.val, lt_query hb r⟩ n := by
  have h0 := met_loop σ x0 x1 x2 b hb hs i hi r (k0_t1_loop i).trips le_rfl
  rw [trips_eq, show 512 * (4 * (i 1).val) = b by omega, ← trips_eq] at h0
  unfold pointF
  generalize stateF (F := Ideal) i x0 x1 x2 (k0_pay3 (F := Ideal), k0_pay4 (F := Ideal)) (k0_t1_loop i).trips = s at h0 ⊢
  have a0 := step0 σ x0 x1 x2 b hb hs i hi s
  have a1 := step1 σ x0 x1 x2 b hb hs i hi (diag0 (F := Ideal) i x0 x1 x2 s)
  have a2 := step2 σ x0 x1 x2 b hb hs i hi (diag1 (F := Ideal) i x0 x1 x2 (diag0 (F := Ideal) i x0 x1 x2 s))
  have a3 := step3 σ x0 x1 x2 b hb hs i hi (diag2 (F := Ideal) i x0 x1 x2 (diag1 (F := Ideal) i x0 x1 x2 (diag0 (F := Ideal) i x0 x1 x2 s)))
  have h1 := a0.2 r (Nat.zero_le _) h0
  by_cases c1 : r.val < 512
  · exact ⟨_, by omega, a3.1 r _ (by omega) (a2.1 r _ (by omega) (a1.1 r _ c1 h1))⟩
  have h2 := a1.2 r (by omega) h1
  by_cases c2 : r.val < 1024
  · exact ⟨_, by omega, a3.1 r _ (by omega) (a2.1 r _ c2 h2)⟩
  have h3 := a2.2 r (by omega) h2
  by_cases c3 : r.val < 1536
  · exact ⟨_, by omega, a3.1 r _ c3 h3⟩
  have h4 := a3.2 r (by omega) h3
  exact ⟨_, by omega, h4⟩

end Cert.Kernel14Ideal.MlaFwd
-- ==== Proof.MlaFwdArr.lean ====
module

public import proofs.«01_k».proof.Proof.MlaFwdEnd
public import Idealize.ShloMosaic.Lib.StableHlo.RunRead

/-! The latent attention forward: the operands the host prepares, and the two arrays left. -/

@[expose] public section

set_option maxRecDepth 16384

noncomputable section

open Idealize.ShloMosaic Idealize.ShloMosaic.TcCoe Idealize.SL.Sem
open Idealize.ShloMosaic.Pipeline (Dat)

namespace Cert.Kernel14Ideal.MlaFwd

open Cert.Kernel14Ideal Cert.Kernel14Ideal.Gen Cert.Attn

variable (m : (ℓ : Loc nD τ sig) → Buf (Elt Ideal) ℓ)

theorem idx : ∀ t : Fin cfg0.N, win0_0.index t = ![t.val / 4, t.val % 4, 0] ∧ win0_1.index t = ![t.val / 4, 0, 0]
    ∧ win0_2.index t = ![t.val / 4, 0, 0] ∧ win0_3.index t = ![t.val / 4, t.val % 4, 0] ∧ win0_4.index t = ![t.val / 4, 0, t.val % 4] :=
  (by decide +kernel : ∀ t : Fin grid0.N, _)

theorem lt_rows (t : Fin cfg0.N) : 2048 * (t.val % 4) + 2048 ≤ 8192 := by omega

/-- The head and the queries of a point. -/
def hd (t : Fin cfg0.N) : Fin 8 := ⟨t.val / 4, by have := Nat.lt_of_lt_of_eq t.isLt N_0; omega⟩
def row (t : Fin cfg0.N) (r : Fin 2048) : Fin 8192 := ⟨2048 * (t.val % 4) + r.val, lt_query (lt_rows t) r⟩

/-- The query and key blocks of a point. -/
abbrev blkQ (c : Dev nD) (t : Fin cfg0.N) : FVec Ideal S1x2048x192 .bf16 := iblk m c 0 t
abbrev blkK (c : Dev nD) (t : Fin cfg0.N) : FVec Ideal S1x8192x192 .bf16 := iblk m c 1 t

theorem blk0 (c : Dev nD) (t : Fin cfg0.N) (r : Fin 2048) (j : Fin 192) :
    iblk m c 0 t (ix3 (0 : Fin 1) r j) = V m c main_v2 (ix3 (hd t) (row t r) j) := by
  blk_point [iblk, idx t, hd, row]
theorem blk1 (c : Dev nD) (t : Fin cfg0.N) (s : Fin 8192) (j : Fin 192) :
    iblk m c 1 t (ix3 (0 : Fin 1) s j) = V m c main_v3 (ix3 (hd t) s j) := by
  blk_point [iblk, idx t, hd]
theorem blk2 (c : Dev nD) (t : Fin cfg0.N) (s : Fin 8192) (j : Fin 256) :
    iblk m c 2 t (ix3 (0 : Fin 1) s j) = V m c main_v12 (ix3 (hd t) s j) := by
  blk_point [iblk, idx t, hd]

theorem q_eq (c : Dev nD) : V m c main_v2 = truncf (F := Ideal) (s := S8x8192x192) (φ := .f32) .bf16
    (mulf (m (c.tc.loc main_arg0)) (broadcastInDim S8x8192x192 ![] bcast_S_S8x8192x192 (constant S_ .f32 0x3D93CD3A#32))) bitsLt_bf16_f32 := by
  show StableHlo.after (hostOps0 ++ hostOps0_1 ++ hostOps0_2 ++ hostOps0_3) (fun b => m (c, b)) (Proc.devRef .tc main_v2) = _
  simp only [List.cons_append, List.nil_append, List.append_assoc]
  after_reads_simp
theorem k_eq (c : Dev nD) : V m c main_v3 = truncf (F := Ideal) (s := S8x8192x192) (φ := .f32) .bf16 (m (c.tc.loc main_arg1)) bitsLt_bf16_f32 := by
  show StableHlo.after (hostOps0 ++ hostOps0_1 ++ hostOps0_2 ++ hostOps0_3) (fun b => m (c, b)) (Proc.devRef .tc main_v3) = _
  simp only [List.cons_append, List.nil_append, List.append_assoc]
  after_reads_simp

section
variable (c : Dev nD) {rq rk : Fin 8 → Fin 8192 → Fin 192 → ℝ} {z : ℝ}
  (hc : Ideal.ofBits .f32 0x3D93CD3A#32 = (z : EReal))
  (hq : ∀ h t d, (m (c.tc.loc main_arg0) : FVec Ideal S8x8192x192 .f32) (ix3 h t d) = (rq h t d : EReal))
  (hk : ∀ h t d, (m (c.tc.loc main_arg1) : FVec Ideal S8x8192x192 .f32) (ix3 h t d) = (rk h t d : EReal))

theorem scaled (x : FVec Ideal S8x8192x192 .f32) (h : Fin 8) (t : Fin 8192) (j : Fin 192) :
    (truncf (F := Ideal) (s := S8x8192x192) (φ := .f32) .bf16
      (mulf x (broadcastInDim S8x8192x192 ![] bcast_S_S8x8192x192 (constant S_ .f32 0x3D93CD3A#32))) bitsLt_bf16_f32) (ix3 h t j)
      = x (ix3 h t j) * Ideal.ofBits .f32 0x3D93CD3A#32 := by
  pointwise

include hc hq in
theorem q_at (h : Fin 8) (t : Fin 8192) (j : Fin 192) : V m c main_v2 (ix3 h t j) = ((rq h t j * z : ℝ) : EReal) := by
  rw [q_eq, scaled, hq, hc, ← EReal.coe_mul]
include hk in
theorem k_at (h : Fin 8) (t : Fin 8192) (j : Fin 192) : V m c main_v3 (ix3 h t j) = (rk h t j : EReal) := by
  rw [k_eq]
  exact hk h t j

end

/-- The columns from 128 to 130 are set to one. -/
def setOnes (x : FVec Ideal S8x8192x256 .bf16) : FVec Ideal S8x8192x256 .bf16 :=
  select (broadcastInDim S8x8192x256 ![0, 1, 2] bcast_S1x1x256_S8x8192x256_0_1_2
      (andi (cmpi CmpIPredicate.sge (iotaInDim S1x1x256 32 2) (broadcastInDim S1x1x256 ![] bcast_S_S1x1x256 (constantI S_ 32 128#32)))
        (cmpi CmpIPredicate.slt (iotaInDim S1x1x256 32 2) (broadcastInDim S1x1x256 ![] bcast_S_S1x1x256 (constantI S_ 32 131#32)))))
    (broadcastInDim S8x8192x256 ![] bcast_S_S8x8192x256 (constant S_ .bf16 0x3F80#16)) x

/-- Values widened to 256 columns. -/
def wide (x : FVec Ideal S8x8192x128 .bf16) : FVec Ideal S8x8192x256 .bf16 :=
  pad S8x8192x256 ![0, 0, 0] ![0, 0, 128] ![0, 0, 0] x (sitofp .bf16 (constantI S_ 32 0#32)) pads_S8x8192x128_S8x8192x256_000_000_01280 h_S_

theorem setOnes_at (x) (h : Fin 8) (t : Fin 8192) (j : Fin 256) :
    setOnes x (ix3 h t j) = if 128 ≤ j.val ∧ j.val < 131 then (1 : EReal) else x (ix3 h t j) := by
  unfold setOnes
  pointwise
  have hj := j.isLt
  have e1 : IntOp.cmpi CmpIPredicate.sge (BitVec.ofNat 32 j.val) 128#32 = BitVec.ofBool (decide (128 ≤ j.val)) := by
    word_cmp
  have e2 : IntOp.cmpi CmpIPredicate.slt (BitVec.ofNat 32 j.val) 131#32 = BitVec.ofBool (decide (j.val < 131)) := by
    word_cmp
  rw [e1, e2]
  by_cases h1 : 128 ≤ j.val <;> by_cases h2 : j.val < 131 <;> simp only [h1, h2, decide_true, decide_false, and_true, and_false, true_and, if_true, if_false]
  all_goals rfl

theorem wide_at (x) (h : Fin 8) (t : Fin 8192) (j : Fin 128) : wide x (ix3 h t ⟨j.val, by omega⟩) = x (ix3 h t j) := by
  unfold wide
  pointwise

theorem v_eq (c : Dev nD) : V m c main_v12 = setOnes (wide (truncf (F := Ideal) (s := S8x8192x128) (φ := .f32) .bf16 (m (c.tc.loc main_arg2)) bitsLt_bf16_f32)) := by
  show StableHlo.after (hostOps0 ++ hostOps0_1 ++ hostOps0_2 ++ hostOps0_3) (fun b => m (c, b)) (Proc.devRef .tc main_v12) = _
  simp only [List.cons_append, List.nil_append, List.append_assoc]
  after_reads_simp
  simp only [StableHlo.TRef.ofBuf_toBuf]
  unfold setOnes wide
  rfl

theorem v_at (c : Dev nD) (h : Fin 8) (s : Fin 8192) (d : Fin 128) :
    V m c main_v12 (ix3 h s (⟨d.val, by omega⟩ : Fin 256)) = m (c.tc.loc main_arg2) (ix3 h s d) := by
  rw [v_eq, setOnes_at, if_neg (by show ¬(128 ≤ d.val ∧ d.val < 131); omega), wide_at]
  rfl
theorem one_at (c : Dev nD) (h : Fin 8) (s : Fin 8192) : V m c main_v12 (ix3 h s (⟨128, by omega⟩ : Fin 256)) = (1 : EReal) := by
  rw [v_eq, setOnes_at, if_pos (by decide)]

/-- The weighted sum of the values, and the row log-sum, as arrays. -/
def outArr (σ : Fin 8 → Fin 8192 → Fin 8192 → ℝ) (v : FVec Ideal S8x8192x128 .f32) : FVec Ideal S8x8192x128 .f32 :=
  fun y => ∑ s : Fin 8192, (wts (σ (y 0)) (y 1) s : EReal) * v (ix3 (y 0) s (y 2))
def logArr (σ : Fin 8 → Fin 8192 → Fin 8192 → ℝ) : FVec Ideal S8x1x8192 .f32 := fun y => (lse (σ (y 0)) (y 2) : EReal)

theorem outArr_at (σ v) (h : Fin 8) (t : Fin 8192) (d : Fin 128) : outArr σ v (ix3 h t d) = ∑ s : Fin 8192, (wts (σ h) t s : EReal) * v (ix3 h s d) := rfl
theorem logArr_at (σ) (h : Fin 8) (u : Fin 1) (t : Fin 8192) : logArr σ (ix3 h u t) = (lse (σ h) t : EReal) := rfl

theorem col0 (x : FVec Ideal S2048x128 .f32) (inb) (u : Fin 2048) :
    VecWindow.window (s := S2048x128) x ![0, 0] S2048x1.size inb (ix2 u (0 : Fin 1)) = x (ix2 u (0 : Fin 128)) := by
  refine congrArg x (funext fun a => Fin.ext ?_)
  match a with
  | ⟨0, _⟩ => show 0 + 1 * u.val = u.val; omega
  | ⟨1, _⟩ => rfl

section
variable (c : Dev nD) {rq rk : Fin 8 → Fin 8192 → Fin 192 → ℝ} {z : ℝ}
  (hc : Ideal.ofBits .f32 0x3D93CD3A#32 = (z : EReal))
  (hq : ∀ h t d, (m (c.tc.loc main_arg0) : FVec Ideal S8x8192x192 .f32) (ix3 h t d) = (rq h t d : EReal))
  (hk : ∀ h t d, (m (c.tc.loc main_arg1) : FVec Ideal S8x8192x192 .f32) (ix3 h t d) = (rk h t d : EReal))

include hc hq hk

theorem scores (t : Fin cfg0.N) (r : Fin 2048) (u : Fin 8192) :
    ∑ j : Fin 192, blkQ m c t (ix3 (0 : Fin 1) r j) * blkK m c t (ix3 (0 : Fin 1) u j)
      = (sg rq rk z (hd t) (row t r) u : EReal) := by
  rw [sg, Finset.sum_mul, coe_sum]
  refine Finset.sum_congr rfl fun j _ => ?_
  have e0 : blkQ m c t (ix3 (0 : Fin 1) r j) = _ := (blk0 m c t r j).trans (q_at m c hc hq _ _ _)
  have e1 : blkK m c t (ix3 (0 : Fin 1) u j) = _ := (blk1 m c t u j).trans (k_at m c hk _ _ _)
  rw [e0, e1, ← EReal.coe_mul]
  congr 1
  ring

/-- A point's rows, once all its keys are met. -/
theorem met_end (t : Fin cfg0.N) (r : Fin 2048) :
    (∀ l : Fin 128, (ends m c t).1 (ix2 r l) = (top (sg rq rk z (hd t)) (row t r) : EReal))
      ∧ ∀ d : Fin 256, (ends m c t).2 (ix2 r d) = ∑ s : Fin 8192, (ex (sg rq rk z (hd t)) (row t r) s : EReal) * V m c main_v12 (ix3 (hd t) s d) := by
  have e1 : (grid0.coords t 1).val = t.val / 1 % 4 := Pipeline.Grid.coords_val t 1 (by decide) rfl
  obtain ⟨n, hn, M⟩ := met_point (sg rq rk z (hd t)) (iblk m c 0 t) (iblk m c 1 t) (iblk m c 2 t) (2048 * (t.val % 4)) (lt_rows t)
    (fun r u => scores m c hc hq hk t r u) (grid0.coords t) (by rw [e1, Nat.div_one]) r
  refine ⟨fun l => (M.big l).trans (seenMax_all _ _ n hn), fun d => (M.acc d).trans ((seenSum_all _ _ _ n hn).trans ?_)⟩
  exact Finset.sum_congr rfl fun s _ => by rw [blk2]; rfl

theorem tot_end (t : Fin cfg0.N) (r : Fin 2048) : (ends m c t).2 (ix2 r ⟨128, by omega⟩) = (tot (sg rq rk z (hd t)) (row t r) : EReal) := by
  rw [(met_end m c hc hq hk t r).2, ← sum_ex]
  exact Finset.sum_congr rfl fun s _ => by rw [one_at, mul_one]

/-- The two arrays the region leaves. -/
theorem arr_o : (dats m 0 c).arrAt 3 cfg0.N = outArr (fun h => sg rq rk z h) (m (c.tc.loc main_arg2)) := by
  refine (dats m 0 c).arrAt_eq_of_covers 3 _ (by decide +kernel) fun t _ y => ?_
  blk_simp
  rw [after0_3, outs]
  idx_vars y
  obtain rfl : y0 = 0 := Subsingleton.elim _ _
  have hj : (((View.whole main_v13_0).slice (win0_3.rect t)).emb (ix3 0 y1 y2)) = ix3 (hd t) (row t y1) y2 := by
    blk_ext [idx t, hd, row]
  rw [hj]
  refine (out_at _ y1 y2).trans (Eq.trans ?_ (outArr_at _ _ _ _ _).symm)
  rw [full_eq, tot_end m c hc hq hk, (met_end m c hc hq hk t y1).2]
  refine Eq.trans ?_ (seen_div (sg rq rk z (hd t)) (row t y1) fun s => m (c.tc.loc main_arg2) (ix3 (hd t) s y2))
  exact congrArg (fun x : EReal => Ideal.div x _) (Finset.sum_congr rfl fun s _ => by rw [v_at])

theorem arr_l : (dats m 0 c).arrAt 4 cfg0.N = logArr (fun h => sg rq rk z h) := by
  refine (dats m 0 c).arrAt_eq_of_covers 4 _ (by decide +kernel) fun t _ y => ?_
  blk_simp
  rw [after0_4, outs]
  idx_vars y
  obtain rfl : y0 = 0 := Subsingleton.elim _ _
  obtain rfl : y1 = 0 := Subsingleton.elim _ _
  have hj : (((View.whole main_v13_1).slice (win0_4.rect t)).emb (ix3 0 0 y2)) = ix3 (hd t) (0 : Fin 1) (row t y2) := by
    blk_ext [idx t, hd, row]
  rw [hj]
  refine (lse_at _ _ y2).trans (Eq.trans ?_ (logArr_at _ _ _ _).symm)
  rw [full_eq, tot_end m c hc hq hk, ← lse_eq]
  exact congrArg (fun x : EReal => x + _) ((col0 _ _ y2).trans ((met_end m c hc hq hk t y2).1 0))

end

end Cert.Kernel14Ideal.MlaFwd
-- ==== Proof.MlaFwdRef.lean ====
module

public import proofs.«01_k».proof.Defs
public import proofs.«01_k».proof.Proof.Gen.Reference14Ideal
public import proofs.«01_k».proof.Proof.MlaRefAt
public import Idealize.ShloMosaic.Lib.VecWindow
public import Idealize.ShloMosaic.Lib.Pipeline.ValueKit

/-! The latent attention forward: the reference on real scores. -/

@[expose] public section

set_option maxRecDepth 16384

noncomputable section

open Idealize.ShloMosaic Idealize.ShloMosaic.TcCoe Idealize.SL.Sem
open Idealize.ShloMosaic.Pipeline (Dat)

namespace Cert.Reference14Ideal.MlaFwd

open Cert.Reference14Ideal Cert.Reference14Ideal.Gen Cert.Attn
open Cert.Reference3Ideal.Mla (score mask redTop rowTop score_at redTop_at max_bot)

/-- A number per row, at every entry of the row. -/
def spread (x : FVec Ideal S8x8192 .f32) : FVec Ideal S8x8192x8192 .f32 :=
  broadcastInDim S8x8192x8192 ![0, 1, 2] bcast_S8x8192x1_S8x8192x8192_0_1_2 (broadcastInDim S8x8192x1 ![0, 1] bcast_S8x8192_S8x8192x1_0_1 x)

/-- The exponentials of a row against a number, and their sum. -/
def expo (s : FVec Ideal S8x8192x8192 .f32) (x : FVec Ideal S8x8192 .f32) : FVec Ideal S8x8192x8192 .f32 := Host.exp (subf s (spread x))
def total (e : FVec Ideal S8x8192x8192 .f32) : FVec Ideal S8x8192 .f32 :=
  Host.reduceAdd e (constant S_ .f32 0x00000000#32) reducesTo_S8x8192x8192_S8x8192_d2 h_S_

/-- The two results. -/
def outp (q k : FVec Ideal S8x8192x192 .f32) (v : FVec Ideal S8x8192x128 .f32) : FVec Ideal S8x8192x128 .f32 :=
  Host.dotGeneral dot_S8x8192x8192_S8x8192x128_S8x8192x128_2_1_1_2_0_0 none
    (Host.divf (expo (score q k) (rowTop (score q k))) (spread (total (expo (score q k) (rowTop (score q k)))))) v
def logs (q k : FVec Ideal S8x8192x192 .f32) : FVec Ideal S8x8192 .f32 :=
  addf (redTop (score q k)) (Host.log (total (expo (score q k) (redTop (score q k)))))

theorem rowTop_at (s) (h : Fin 8) (t : Fin 8192) : rowTop s (ix2 h t) = redTop s (ix2 h t) := max_bot (redTop s) h t

theorem add_log (a b : FVec Ideal S8x8192 .f32) (h : Fin 8) (t : Fin 8192) :
    addf a (Host.log b) (ix2 h t) = a (ix2 h t) + Ideal.log (b (ix2 h t)) := rfl

theorem spread_at (x) (h : Fin 8) (t s : Fin 8192) : spread x (ix3 h t s) = x (ix2 h t) := by
  unfold spread
  pointwise

theorem expo_at (s z) (h : Fin 8) (t x : Fin 8192) : expo s z (ix3 h t x) = Ideal.exp (s (ix3 h t x) - z (ix2 h t)) := by
  unfold expo
  pointwise [spread_at]

theorem total_at (e) (h : Fin 8) (t : Fin 8192) : total e (ix2 h t) = ∑ x : Fin 8192, e (ix3 h t x) := by
  unfold total
  pointwise

section
variable {q k : FVec Ideal S8x8192x192 .f32} {rq rk : Fin 8 → Fin 8192 → Fin 192 → ℝ} {r : ℝ}
  (hc : Ideal.ofBits .f32 0x3D93CD3A#32 = (r : EReal))
  (hq : ∀ h t d, q (ix3 h t d) = (rq h t d : EReal)) (hk : ∀ h t d, k (ix3 h t d) = (rk h t d : EReal))

include hc hq hk

theorem score_real (h : Fin 8) (t x : Fin 8192) : score q k (ix3 h t x) = msk (sg rq rk r h) t x := by
  rw [score_at, msk]
  split
  · rw [hc, sg, EReal.coe_mul, coe_sum]
    congr 1
    exact Finset.sum_congr rfl fun d _ => by rw [hq, hk, EReal.coe_mul]
  · rfl

theorem redTop_real (h : Fin 8) (t : Fin 8192) : redTop (score q k) (ix2 h t) = (top (sg rq rk r h) t : EReal) := by
  rw [redTop_at, ← fold_top]
  simp only [score_real hc hq hk]

theorem expo_real (z) (h : Fin 8) (t x : Fin 8192) (hz : z (ix2 h t) = redTop (score q k) (ix2 h t)) :
    expo (score q k) z (ix3 h t x) = (ex (sg rq rk r h) t x : EReal) := by
  rw [expo_at, hz, redTop_real hc hq hk, score_real hc hq hk, exp_msk]

theorem total_real (z) (h : Fin 8) (t : Fin 8192) (hz : z (ix2 h t) = redTop (score q k) (ix2 h t)) :
    total (expo (score q k) z) (ix2 h t) = (tot (sg rq rk r h) t : EReal) := by
  rw [total_at, ← sum_ex]
  exact Finset.sum_congr rfl fun x _ => expo_real hc hq hk z h t x hz

theorem logs_real (h : Fin 8) (t : Fin 8192) : logs q k (ix2 h t) = (lse (sg rq rk r h) t : EReal) := by
  unfold logs
  rw [add_log, total_real hc hq hk _ h t rfl, redTop_real hc hq hk, lse_eq]

omit hc hq hk in
theorem soft_at (E : FVec Ideal S8x8192x8192 .f32) (z : FVec Ideal S8x8192 .f32) (v : FVec Ideal S8x8192x128 .f32) (h : Fin 8) (t : Fin 8192) (d : Fin 128) :
    Host.dotGeneral dot_S8x8192x8192_S8x8192x128_S8x8192x128_2_1_1_2_0_0 none (Host.divf E (spread z)) v (ix3 h t d)
      = ∑ s : Fin 8192, Ideal.div (E (ix3 h t s)) (z (ix2 h t)) * v (ix3 h s d) := by
  pointwise [spread_at]

theorem outp_real (v : FVec Ideal S8x8192x128 .f32) (h : Fin 8) (t : Fin 8192) (d : Fin 128) :
    outp q k v (ix3 h t d) = ∑ s, (wts (sg rq rk r h) t s : EReal) * v (ix3 h s d) := by
  unfold outp
  rw [soft_at]
  refine Finset.sum_congr rfl fun s _ => ?_
  rw [total_real hc hq hk _ h t (rowTop_at _ h t), expo_real hc hq hk _ h t s (rowTop_at _ h t), div_ex]

end

end Cert.Reference14Ideal.MlaFwd
-- ==== Proof.MlaFwdPair.lean ====
module

public import proofs.«01_k».proof.Proof.MlaFwdArr
public import proofs.«01_k».proof.Proof.MlaFwdRef
public import proofs.«01_k».proof.Proof.Gen.Reference14Ideal.Run

/-! The latent attention forward: the two results agree on finite queries and keys. -/

@[expose] public section

set_option maxRecDepth 16384

noncomputable section

open Idealize.ShloMosaic Idealize.ShloMosaic.TcCoe Idealize.SL.Sem
open Idealize.ShloMosaic.Pipeline (Dat)

namespace Cert.Kernel14Ideal.MlaFwd

open Cert.Kernel14Ideal Cert.Kernel14Ideal.Gen Cert.Attn

variable (m : (ℓ : Loc nD τ sig) → Buf (Elt Ideal) ℓ)

theorem arr_inj : Function.Injective (Pipeline.arrRef spec0) := by decide

theorem read_v14 (W : Valuation τ sig (Elt Ideal)) : StableHlo.after [hostOps1].flatten W (Proc.devRef .tc main_v14) =
    shapeCast (s := S8x1x8192) (α := Ideal .f32) S8x8192 (W (Proc.devRef .tc main_v13_1)) shapeCasts_S8x1x8192_S8x8192 := by
  simp only [List.flatten_cons, List.flatten_nil, List.append_nil]
  after_reads_simp
  rfl

theorem flat_at (x : FVec Ideal S8x1x8192 .f32) (h : Fin 8) (t : Fin 8192) :
    shapeCast S8x8192 x shapeCasts_S8x1x8192_S8x8192 (ix2 h t) = x (ix3 h (0 : Fin 1) t) := by
  pointwise

section
variable [hP : Cert.Pre_mla_fwd_finite.Facts] (hpre : Cert.Pre_Kernel14Ideal_mla_fwd_finite m) (c : Dev nD)

include hpre

/-- The two results are the reference's, on finite queries and keys. -/
theorem out_eq : Cert.Reference14Ideal.MlaFwd.outp (m (c.tc.loc main_arg0)) (m (c.tc.loc main_arg1)) (m (c.tc.loc main_arg2)) = (dats m 0 c).arrAt 3 cfg0.N := by
  obtain ⟨p0, p1⟩ := hpre c
  have hq := fun h t d => real_of_ones (m (c.tc.loc main_arg0) : FVec Ideal S8x8192x192 .f32) _ (fun _ => rfl) p0 (ix3 h t d)
  have hk := fun h t d => real_of_ones (m (c.tc.loc main_arg1) : FVec Ideal S8x8192x192 .f32) _ (fun _ => rfl) p1 (ix3 h t d)
  refine Eq.trans ?_ (arr_o m c scale_real hq hk).symm
  funext y
  idx_vars y
  exact (Cert.Reference14Ideal.MlaFwd.outp_real scale_real hq hk _ y0 y1 y2).trans (outArr_at _ _ _ _ _).symm

theorem logs_eq : Cert.Reference14Ideal.MlaFwd.logs (m (c.tc.loc main_arg0)) (m (c.tc.loc main_arg1))
    = Pipeline.afterTail₀ cfgs (dats m) 0 (V0 m) [hostOps1] c main_v14 := by
  obtain ⟨p0, p1⟩ := hpre c
  have hq := fun h t d => real_of_ones (m (c.tc.loc main_arg0) : FVec Ideal S8x8192x192 .f32) _ (fun _ => rfl) p0 (ix3 h t d)
  have hk := fun h t d => real_of_ones (m (c.tc.loc main_arg1) : FVec Ideal S8x8192x192 .f32) _ (fun _ => rfl) p1 (ix3 h t d)
  refine Eq.trans ?_ ((read_v14 _).trans (congrArg (fun x => shapeCast (s := S8x1x8192) (α := Ideal .f32) S8x8192 x shapeCasts_S8x1x8192_S8x8192)
    ((Pipeline.withArrays_arr spec0 arr_inj c _ _ 4).trans (arr_l m c scale_real hq hk)))).symm
  funext y
  idx_vars y
  exact (Cert.Reference14Ideal.MlaFwd.logs_real scale_real hq hk y0 y1).trans ((flat_at _ y0 y1).trans (logArr_at _ _ _ _)).symm

end

instance preFacts : Cert.Pre_mla_fwd_finite.Facts := ⟨by decide, by decide⟩

theorem preserves : Cert.preserves_Kernel14_Kernel14Ideal :=
  IdealRules.named_const.statement Cert.Kernel14Ideal.κ "mask" .f32 0xF149F2CA#32 ⊥ rfl

theorem algebraic [hP : Cert.Pre_mla_fwd_finite.Facts] : Cert.algebraic_Kernel14Ideal_Reference14Ideal_pre_mla_fwd_finite := by
  intro m g m' g' hpre hagree
  refine ⟨fun c => (dats m 0 c).arrAt 3 cfg0.N, fun c => Pipeline.afterTail₀ cfgs (dats m) 0 (V0 m) [hostOps1] c main_v14, ?_, ?_⟩
  · refine θ_run_mono (θ_run_and (run_main m g) (unchanged m g)) fun r h c => ?_
    exact ⟨(h.1 c).1 3, (h.1 c).2 main_v14 (by decide), h.2 c⟩
  · refine θ_run_mono (Reference14Ideal.Value.run m' g') fun r h c => ?_
    have e := out_eq m hpre c
    have e' := logs_eq m hpre c
    rw [← (hagree c).1, ← (hagree c).2.1, ← (hagree c).2.2] at e
    rw [← (hagree c).1, ← (hagree c).2.1] at e'
    exact ⟨(h c).1.trans e, (h c).2.1.trans e', (h c).2.2⟩

end Cert.Kernel14Ideal.MlaFwd
-- ==== Proof.FoxFwd.lean ====
module

public import proofs.«01_k».proof.Defs
public import proofs.«01_k».proof.Proof.Gen.Kernel15Ideal.Frame
public import Idealize.ShloMosaic.Lib.VecWindow
public import Idealize.ShloMosaic.Lib.Pipeline.ValueKit

/-! The attention with forget gates, forward: what a point of the grid leaves, as its four diagonal steps after the loop of earlier keys. -/

@[expose] public section

set_option maxRecDepth 16384

noncomputable section

open Idealize.ShloMosaic Idealize.ShloMosaic.TcCoe Idealize.SL.Sem
open Idealize.ShloMosaic.Pipeline (Dat)

namespace Cert.Kernel15Ideal.FoxFwd

open Cert.Kernel15Ideal Cert.Kernel15Ideal.Gen

variable {F : FTy → Type} [FloatOps F] [Named F]

/-- The row maxima and the weighted sums. -/
abbrev Acc (F : FTy → Type) : Type := Vec F S2048x128 .f32 × Vec F S2048x128 .f32

abbrev keys (x : Vec F S1x8192x128 .bf16) (off : Fin 3 → ℕ) (inb : ∀ a, off a + S1x512x128.size a ≤ S1x8192x128.size a) :
    Vec F S1x512x128 .bf16 := VecWindow.window x off S1x512x128.size inb

abbrev vals (x : Vec F S1x8192x128 .bf16) (off : Fin 3 → ℕ) (inb : ∀ a, off a + S1x512x128.size a ≤ S1x8192x128.size a) :
    Vec F S1x512x128 .bf16 := VecWindow.window x off S1x512x128.size inb

/-- One earlier block of keys. -/
def tripF (i : grid0.Coords) (x0 : Vec F S1x2048x128 .bf16) (x1 : Vec F S1x8192x128 .bf16) (x2 : Vec F S1x8192x128 .bf16)
    (k : Fin (k0_t1_loop i).trips) (s : Acc F) : Acc F :=
  (k0_pay7 x0 (keys x1 (k0_off1 i k) (k0_off1_inb i k)) s.1,
   k0_pay6 x0 (keys x1 (k0_off1 i k) (k0_off1_inb i k)) s.1 s.2 (vals x2 (k0_off1 i k) (k0_off1_inb i k)))

/-- The two blocks after the first `n` earlier blocks of keys. -/
def stateF (i : grid0.Coords) (x0 : Vec F S1x2048x128 .bf16) (x1 : Vec F S1x8192x128 .bf16) (x2 : Vec F S1x8192x128 .bf16)
    (s : Acc F) : ℕ → Acc F
  | 0 => s
  | n + 1 => if h : n < (k0_t1_loop i).trips then tripF i x0 x1 x2 ⟨n, h⟩ (stateF i x0 x1 x2 s n) else stateF i x0 x1 x2 s n

theorem stateF_succ (i : grid0.Coords) (x0 : Vec F S1x2048x128 .bf16) (x1 : Vec F S1x8192x128 .bf16) (x2 : Vec F S1x8192x128 .bf16)
    (s : Acc F) (k : Fin (k0_t1_loop i).trips) :
    stateF i x0 x1 x2 s (k.val + 1) = tripF i x0 x1 x2 k (stateF i x0 x1 x2 s k.val) := by
  rw [stateF]; exact dif_pos k.isLt

/-- The second loop makes no trip. -/
theorem no_second (i : grid0.Coords) : (k0_t2_loop i).trips = 0 := by
  have h : ∀ j : Fin 4, ∀ i : grid0.Coords, (i 1).val = j.val → (k0_t2_loop i).trips = 0 := by
    intro j i hj
    dsimp only [k0_t2_loop, Scf.Loop.trips]
    rw [hj]
    clear hj i
    revert j
    decide +kernel
  exact h (i 1) i rfl

section
variable (c : Dev nD) (i : grid0.Coords) (arg2 : Memref sig .tc .vmem S1x2048x128 .bf16) (harg2 : arg2.IsWhole) (arg3 : Memref sig .tc .vmem S1x8192x128 .bf16) (harg3 : arg3.IsWhole)
    (arg4 : Memref sig .tc .vmem S1x8192x128 .bf16) (harg4 : arg4.IsWhole) (arg5 : Memref sig .tc .vmem S1x2048x64 .f32) (harg5 : arg5.IsWhole)
    (arg6 : Memref sig .tc .vmem S1x1x2048 .f32) (harg6 : arg6.IsWhole) (arg7 : Memref sig .tc .vmem S2048x128 .f32) (harg7 : arg7.IsWhole)
    (arg8 : Memref sig .tc .vmem S2048x128 .f32) (harg8 : arg8.IsWhole)
    (X2 : BufTy.Contents (Elt F) arg2.view.ty) (X3 : BufTy.Contents (Elt F) arg3.view.ty) (X4 : BufTy.Contents (Elt F) arg4.view.ty)

theorem trip_read (k : Fin (k0_t1_loop i).trips) (f7 : BufTy.Contents (Elt F) arg7.view.ty) (f8 : BufTy.Contents (Elt F) arg8.view.ty) :
    let L := tripL_k0_t1 (F := F) Variants.none c none i arg2 harg2 arg3 harg3 arg4 harg4 arg5 harg5 arg6 harg6 arg7 harg7 arg8 harg8 X2 X3 X4 k f7 f8
    let T := tripF i (arg2.view.read (Elt F) X2) (arg3.view.read (Elt F) X3) (arg4.view.read (Elt F) X4) k (arg7.view.read (Elt F) f7, arg8.view.read (Elt F) f8)
    arg7.view.read (Elt F) (arg7.view.writes (Elt F) f7 L.1) = T.1 ∧ arg8.view.read (Elt F) (arg8.view.writes (Elt F) f8 L.2) = T.2 := by
  intro L T
  constructor
  · show arg7.view.read (Elt F) (arg7.view.writes (Elt F) f7 (tripL_k0_t1 (F := F) Variants.none c none i arg2 harg2 arg3 harg3 arg4 harg4 arg5 harg5 arg6 harg6 arg7 harg7 arg8 harg8 X2 X3 X4 k f7 f8).1) = _
    unfold tripL_k0_t1 trip_k0_t1
    refine (View.read_writes_full ..).trans ?_
    show k0_pay7 _ _ _ = k0_pay7 _ _ _
    congr 1
    · exact View.readAt_full ..
    · exact View.readAt_full ..
  · show arg8.view.read (Elt F) (arg8.view.writes (Elt F) f8 (tripL_k0_t1 (F := F) Variants.none c none i arg2 harg2 arg3 harg3 arg4 harg4 arg5 harg5 arg6 harg6 arg7 harg7 arg8 harg8 X2 X3 X4 k f7 f8).2) = _
    unfold tripL_k0_t1 trip_k0_t1
    refine (View.read_writes_full ..).trans ?_
    show k0_pay6 _ _ _ _ _ = k0_pay6 _ _ _ _ _
    congr 1
    · exact View.readAt_full ..
    · exact View.readAt_full ..
    · exact View.readAt_full ..

theorem loop_read (G7 : BufTy.Contents (Elt F) arg7.view.ty) (G8 : BufTy.Contents (Elt F) arg8.view.ty) (n : ℕ) (hn : n ≤ (k0_t1_loop i).trips) :
    let L := pb_k0_t1 (F := F) Variants.none c none i arg2 harg2 arg3 harg3 arg4 harg4 arg5 harg5 arg6 harg6 arg7 harg7 arg8 harg8 X2 X3 X4 G7 G8 n
    let T := stateF i (arg2.view.read (Elt F) X2) (arg3.view.read (Elt F) X3) (arg4.view.read (Elt F) X4) (arg7.view.read (Elt F) G7, arg8.view.read (Elt F) G8) n
    arg7.view.read (Elt F) (arg7.view.writes (Elt F) G7 L.1) = T.1 ∧ arg8.view.read (Elt F) (arg8.view.writes (Elt F) G8 L.2) = T.2 := by
  induction n with
  | zero => exact ⟨rfl, rfl⟩
  | succ n ih =>
    have h := ih (by omega)
    intro L T
    have hL : L = _ := pb_k0_t1_succ (F := F) Variants.none c none i arg2 harg2 arg3 harg3 arg4 harg4 arg5 harg5 arg6 harg6 arg7 harg7 arg8 harg8 X2 X3 X4 G7 G8 ⟨n, hn⟩
    have hT : T = _ := stateF_succ i (arg2.view.read (Elt F) X2) (arg3.view.read (Elt F) X3) (arg4.view.read (Elt F) X4) (arg7.view.read (Elt F) G7, arg8.view.read (Elt F) G8) ⟨n, hn⟩
    have t := trip_read c i arg2 harg2 arg3 harg3 arg4 harg4 arg5 harg5 arg6 harg6 arg7 harg7 arg8 harg8 X2 X3 X4 ⟨n, hn⟩
      (arg7.view.writes (Elt F) G7 (pb_k0_t1 (F := F) Variants.none c none i arg2 harg2 arg3 harg3 arg4 harg4 arg5 harg5 arg6 harg6 arg7 harg7 arg8 harg8 X2 X3 X4 G7 G8 n).1)
      (arg8.view.writes (Elt F) G8 (pb_k0_t1 (F := F) Variants.none c none i arg2 harg2 arg3 harg3 arg4 harg4 arg5 harg5 arg6 harg6 arg7 harg7 arg8 harg8 X2 X3 X4 G7 G8 n).2)
    have e : ∀ (a b : _), a = (stateF i (arg2.view.read (Elt F) X2) (arg3.view.read (Elt F) X3) (arg4.view.read (Elt F) X4) (arg7.view.read (Elt F) G7, arg8.view.read (Elt F) G8) n).1 →
      b = (stateF i (arg2.view.read (Elt F) X2) (arg3.view.read (Elt F) X3) (arg4.view.read (Elt F) X4) (arg7.view.read (Elt F) G7, arg8.view.read (Elt F) G8) n).2 →
      (a, b) = stateF i (arg2.view.read (Elt F) X2) (arg3.view.read (Elt F) X3) (arg4.view.read (Elt F) X4) (arg7.view.read (Elt F) G7, arg8.view.read (Elt F) G8) n := by
      intro a b h1 h2; rw [h1, h2]
    have e2 := e _ _ h.1 h.2
    rw [hL, hT, View.writes_append, View.writes_append, ← e2]
    exact t

theorem no_pieces (G7 : BufTy.Contents (Elt F) arg7.view.ty) (G8 : BufTy.Contents (Elt F) arg8.view.ty) (n : ℕ) (hn : n = 0) :
    pb_k0_t2 (F := F) Variants.none c none i arg2 harg2 arg3 harg3 arg4 harg4 arg5 harg5 arg6 harg6 arg7 harg7 arg8 harg8 X2 X3 X4 G7 G8 n = ([], []) := by
  subst hn; rfl

end

theorem cov_eq {s : Shape} {e : EltTy} (v : View sig .tc .vmem s e) (L : List (View.Piece (Elt F) s e)) {off size : Fin s.rank → ℕ}
    (inb : ∀ a, off a + size a ≤ s.size a) :
    v.readCov L (Rect.unit off size inb).toLoadRect = VecWindow.window (v.read (Elt F) (v.writes (Elt F) v.junk L)) off size inb := rfl

theorem put_eq {s : Shape} {e : EltTy} (v : View sig .tc .vmem s e) (f) (L : List (View.Piece (Elt F) s e)) {off size : Fin s.rank → ℕ}
    (inb : ∀ a, off a + size a ≤ s.size a) (w) :
    v.read (Elt F) (v.writes (Elt F) f (⟨Rect.unit off size inb, w⟩ :: L)) = VecWindow.put (v.read (Elt F) (v.writes (Elt F) f L)) off size w :=
  View.read_writes_cons_put (h := rfl) ..

theorem full_eq {s : Shape} {e : EltTy} (x : s.Idx → Elt F e) {off : Fin s.rank → ℕ} (inb : ∀ a, off a + s.size a ≤ s.size a) :
    VecWindow.window x off s.size inb = x :=
  funext fun y => congrArg x (funext fun a => Fin.ext (by
    show off a + 1 * (y a).val = (y a).val
    have := inb a; omega))

abbrev inbK (i : grid0.Coords) (r : Fin 4) : ∀ a, k0_off3 i (BitVec.ofNat 32 r.val) a + S1x512x128.size a ≤ S1x8192x128.size a := k0_off3_inb i r
abbrev inbV (i : grid0.Coords) (r : Fin 4) : ∀ a, k0_off3 i (BitVec.ofNat 32 r.val) a + S1x512x128.size a ≤ S1x8192x128.size a := k0_off3_inb i r

/-- The four blocks of keys on the diagonal. -/
def diag0 (i : grid0.Coords) (x0 : Vec F S1x2048x128 .bf16) (x1 : Vec F S1x8192x128 .bf16) (x2 : Vec F S1x8192x128 .bf16) (s : Acc F) : Acc F :=
  let p := k0_pay12 x0 (keys x1 (k0_off3 i 0#32) (inbK i 0))
  let a := VecWindow.window s.1 ![0, 0] S2048x128.size inb_S2048x128_S2048x128_0_0
  let b := VecWindow.window s.2 ![0, 0] S2048x128.size inb_S2048x128_S2048x128_0_0
  (VecWindow.put s.1 ![0, 0] S2048x128.size (k0_pay15 p a),
   VecWindow.put s.2 ![0, 0] S2048x128.size (k0_pay14 p a b (vals x2 (k0_off3 i 0#32) (inbV i 0))))

def diag1 (i : grid0.Coords) (x0 : Vec F S1x2048x128 .bf16) (x1 : Vec F S1x8192x128 .bf16) (x2 : Vec F S1x8192x128 .bf16) (s : Acc F) : Acc F :=
  let p := k0_pay16 (VecWindow.window x0 ![0, 512, 0] S1x1536x128.size inb_S1x2048x128_S1x1536x128_0_512_0) (keys x1 (k0_off3 i 1#32) (inbK i 1))
  let a := VecWindow.window s.1 ![512, 0] S1536x128.size inb_S2048x128_S1536x128_512_0
  let b := VecWindow.window s.2 ![512, 0] S1536x128.size inb_S2048x128_S1536x128_512_0
  (VecWindow.put s.1 ![512, 0] S1536x128.size (k0_pay19 p a),
   VecWindow.put s.2 ![512, 0] S1536x128.size (k0_pay18 p a b (vals x2 (k0_off3 i 1#32) (inbV i 1))))

def diag2 (i : grid0.Coords) (x0 : Vec F S1x2048x128 .bf16) (x1 : Vec F S1x8192x128 .bf16) (x2 : Vec F S1x8192x128 .bf16) (s : Acc F) : Acc F :=
  let p := k0_pay20 (VecWindow.window x0 ![0, 1024, 0] S1x1024x128.size inb_S1x2048x128_S1x1024x128_0_1024_0) (keys x1 (k0_off3 i 2#32) (inbK i 2))
  let q := k0_pay21
  let a := VecWindow.window s.1 ![1024, 0] S1024x128.size inb_S2048x128_S1024x128_1024_0
  let b := VecWindow.window s.2 ![1024, 0] S1024x128.size inb_S2048x128_S1024x128_1024_0
  (VecWindow.put s.1 ![1024, 0] S1024x128.size (k0_pay25 p q a),
   VecWindow.put s.2 ![1024, 0] S1024x128.size (k0_pay24 p q a b (vals x2 (k0_off3 i 2#32) (inbV i 2))))

def diag3 (i : grid0.Coords) (x0 : Vec F S1x2048x128 .bf16) (x1 : Vec F S1x8192x128 .bf16) (x2 : Vec F S1x8192x128 .bf16) (s : Acc F) : Acc F :=
  let p := k0_pay26 (VecWindow.window x0 ![0, 1536, 0] S1x512x128.size inb_S1x2048x128_S1x512x128_0_1536_0) (keys x1 (k0_off3 i 3#32) (inbK i 3))
  let a := VecWindow.window s.1 ![1536, 0] S512x128.size inb_S2048x128_S512x128_1536_0
  let b := VecWindow.window s.2 ![1536, 0] S512x128.size inb_S2048x128_S512x128_1536_0
  (VecWindow.put s.1 ![1536, 0] S512x128.size (k0_pay30 p a),
   VecWindow.put s.2 ![1536, 0] S512x128.size (k0_pay29 p a b (vals x2 (k0_off3 i 3#32) (inbV i 3))))

/-- The blocks at the end of one grid point. -/
def pointF (i : grid0.Coords) (x0 : Vec F S1x2048x128 .bf16) (x1 : Vec F S1x8192x128 .bf16) (x2 : Vec F S1x8192x128 .bf16) : Acc F :=
  diag3 i x0 x1 x2 (diag2 i x0 x1 x2 (diag1 i x0 x1 x2 (diag0 i x0 x1 x2 (stateF i x0 x1 x2 (k0_pay2, k0_pay3) (k0_t1_loop i).trips))))

variable (m : (ℓ : Loc nD τ sig) → Buf (Elt F) ℓ)

theorem start_read (c : Dev nD) (i : grid0.Coords) (arg2 : Memref sig .tc .vmem S1x2048x128 .bf16) (harg2 : arg2.IsWhole) (arg3 : Memref sig .tc .vmem S1x8192x128 .bf16) (harg3 : arg3.IsWhole)
    (arg4 : Memref sig .tc .vmem S1x8192x128 .bf16) (harg4 : arg4.IsWhole) (arg5 : Memref sig .tc .vmem S1x2048x64 .f32) (harg5 : arg5.IsWhole)
    (arg6 : Memref sig .tc .vmem S1x1x2048 .f32) (harg6 : arg6.IsWhole) (arg7 : Memref sig .tc .vmem S2048x128 .f32) (harg7 : arg7.IsWhole)
    (arg8 : Memref sig .tc .vmem S2048x128 .f32) (harg8 : arg8.IsWhole) (x0 : Vec F S1x2048x128 .bf16) (x1 : Vec F S1x8192x128 .bf16) (x2 : Vec F S1x8192x128 .bf16) :
    let G7 := arg7.view.writes (Elt F) arg7.view.junk [⟨Rect.unit (s := S2048x128) ![0, 0] S2048x128.size inb_S2048x128_S2048x128_0_0, k0_pay2⟩]
    let G8 := arg8.view.writes (Elt F) arg8.view.junk [⟨Rect.unit (s := S2048x128) ![0, 0] S2048x128.size inb_S2048x128_S2048x128_0_0, k0_pay3⟩]
    let L := pb_k0_t1 (F := F) Variants.none c none i arg2 harg2 arg3 harg3 arg4 harg4 arg5 harg5 arg6 harg6 arg7 harg7 arg8 harg8
      (harg2.unread x0) (harg3.unread x1) (harg4.unread x2) G7 G8 (k0_t1_loop i).trips
    arg7.view.read (Elt F) (arg7.view.writes (Elt F) G7 L.1) = (stateF i x0 x1 x2 (k0_pay2, k0_pay3) (k0_t1_loop i).trips).1
      ∧ arg8.view.read (Elt F) (arg8.view.writes (Elt F) G8 L.2) = (stateF i x0 x1 x2 (k0_pay2, k0_pay3) (k0_t1_loop i).trips).2 := by
  intro G7 G8 L
  have h := loop_read c i arg2 harg2 arg3 harg3 arg4 harg4 arg5 harg5 arg6 harg6 arg7 harg7 arg8 harg8 (harg2.unread x0) (harg3.unread x1) (harg4.unread x2) G7 G8
    (k0_t1_loop i).trips le_rfl
  have h7 : arg7.view.read (Elt F) G7 = k0_pay2 := View.read_writes_full ..
  have h8 : arg8.view.read (Elt F) G8 = k0_pay3 := View.read_writes_full ..
  rw [h7, h8, harg2.read_unread, harg3.read_unread, harg4.read_unread] at h
  exact h

theorem ld_eq {s : Shape} {e : EltTy} (x : s.Idx → Elt F e) {off size : Fin s.rank → ℕ} (inb : ∀ a, off a + size a ≤ s.size a) :
    View.ld x (Rect.unit off size inb) = VecWindow.window x off size inb := rfl

/-- The blocks a grid point ends with. -/
abbrev ends (c : Dev nD) (t : Fin cfg0.N) : Acc F := pointF (grid0.coords t) (iblk m c 0 t) (iblk m c 1 t) (iblk m c 2 t)

set_option maxHeartbeats 1000000 in
theorem outs (c : Dev nD) (t : Fin cfg0.N) : outsAt0 m c t
    = (k0_pay32 (VecWindow.window (ends m c t).2 ![0, 0] S2048x128.size inb_S2048x128_S2048x128_0_0),
      k0_pay1 (k0_pay31 (VecWindow.window (ends m c t).2 ![0, 0] S2048x128.size inb_S2048x128_S2048x128_0_0))
        (VecWindow.window (ends m c t).1 ![0, 0] S2048x1.size inb_S2048x128_S2048x1_0_0)) := by
  unfold outsAt0
  frame_out
  rw [no_pieces (hn := no_second _)]
  simp only [List.nil_append, cov_eq, put_eq, View.writes_append, ld_eq]
  generalize hL : pb_k0_t1 (F := F) _ _ _ _ _ _ _ _ _ _ _ _ _ _ _ _ _ _ _ _ _ _ _ _ = L
  have h : (View.whole cc0_scratch0).read (Elt F) ((View.whole cc0_scratch0).writes (Elt F) ((View.whole cc0_scratch0).writes (Elt F) (View.whole cc0_scratch0).junk
        [⟨Rect.unit (s := S2048x128) ![0, 0] S2048x128.size inb_S2048x128_S2048x128_0_0, k0_pay2⟩]) L.1)
      = (stateF (grid0.coords t) (iblk m c 0 t) (iblk m c 1 t) (iblk m c 2 t) (k0_pay2, k0_pay3) (k0_t1_loop (grid0.coords t)).trips).1
      ∧ (View.whole cc0_scratch1).read (Elt F) ((View.whole cc0_scratch1).writes (Elt F) ((View.whole cc0_scratch1).writes (Elt F) (View.whole cc0_scratch1).junk
        [⟨Rect.unit (s := S2048x128) ![0, 0] S2048x128.size inb_S2048x128_S2048x128_0_0, k0_pay3⟩]) L.2)
      = (stateF (grid0.coords t) (iblk m c 0 t) (iblk m c 1 t) (iblk m c 2 t) (k0_pay2, k0_pay3) (k0_t1_loop (grid0.coords t)).trips).2 := by
    subst hL
    exact start_read (F := F) c (grid0.coords t) (ms0_0 t) _ (ms0_1 t) _ (ms0_2 t) _ (ms0_3 t) _ (ms0_4 t) _ scM0_0 _ scM0_1 _ _ _ _
  generalize hX : stateF (grid0.coords t) (iblk m c 0 t) (iblk m c 1 t) (iblk m c 2 t) (k0_pay2, k0_pay3) (k0_t1_loop (grid0.coords t)).trips = X at h
  unfold ends pointF
  rw [hX]
  clear hX hL
  generalize (View.whole cc0_scratch0).read (Elt F) ((View.whole cc0_scratch0).writes (Elt F) ((View.whole cc0_scratch0).writes (Elt F) (View.whole cc0_scratch0).junk
        [⟨Rect.unit (s := S2048x128) ![0, 0] S2048x128.size inb_S2048x128_S2048x128_0_0, k0_pay2⟩]) L.1) = a at h ⊢
  generalize (View.whole cc0_scratch1).read (Elt F) ((View.whole cc0_scratch1).writes (Elt F) ((View.whole cc0_scratch1).writes (Elt F) (View.whole cc0_scratch1).junk
        [⟨Rect.unit (s := S2048x128) ![0, 0] S2048x128.size inb_S2048x128_S2048x128_0_0, k0_pay3⟩]) L.2) = b at h ⊢
  obtain ⟨rfl, rfl⟩ := h
  generalize iblk m c 0 t = x0
  generalize iblk m c 1 t = x1
  generalize iblk m c 2 t = x2
  dsimp only [diag3, diag2, diag1, diag0]

end Cert.Kernel15Ideal.FoxFwd
-- ==== Proof.FoxFwdVal.lean ====
module

public import proofs.«01_k».proof.Defs
public import proofs.«01_k».proof.Proof.Gen.Kernel15Ideal.Frame
public import proofs.«01_k».proof.Proof.AttnSum
public import Idealize.ShloMosaic.Lib.Pipeline.ValueKit

/-! The attention with forget gates, forward: the values of the expressions of a point, entry by entry. -/

@[expose] public section

set_option maxRecDepth 16384

noncomputable section

open Idealize.ShloMosaic Idealize.ShloMosaic.TcCoe Idealize.SL.Sem
open Idealize.ShloMosaic.Pipeline (Dat)

namespace Cert.Kernel15Ideal.FoxFwd

open Cert.Kernel15Ideal Cert.Kernel15Ideal.Gen Cert.Attn

theorem mask_eq : (Named.named κ "mask" 0xF149F2CA#32 : Ideal .f32) = (⊥ : EReal) := rfl

/-- The product of a row of queries and a row of keys. -/
def dotQK {n : ℕ} (a : FVec Ideal ⟨3, ![1, n, 128]⟩ .bf16) (t : Fin n) {l : ℕ} (b : FVec Ideal ⟨3, ![1, l, 128]⟩ .bf16) (s : Fin l) : EReal :=
  ∑ j : Fin 128, a (ix3 0 t j) * b (ix3 0 s j)

section
variable {n : ℕ} (M : FVec Ideal ⟨2, ![n, 128]⟩ .f32) (t : Fin n) (μ : EReal)

end

theorem pay4_at (q : FVec Ideal S1x2048x128 .bf16) (k : FVec Ideal S1x512x128 .bf16) (t : Fin 2048) (u : Fin 512) :
    k0_pay4 (F := Ideal) q k (ix2 t u) = dotQK q t k u := by
  pointwise [k0_pay4, dotQK]

theorem pay5_at (q : FVec Ideal S1x2048x128 .bf16) (k : FVec Ideal S1x512x128 .bf16) (M : FVec Ideal S2048x128 .f32) (t : Fin 2048) (l : Fin 128) :
    k0_pay5 (F := Ideal) q k M (ix2 t l) = max (M (ix2 t l)) (Finset.univ.fold max ⊥ fun u : Fin 512 => dotQK q t k u) := by
  pointwise [k0_pay5, pay4_at, low_eq]

theorem pay6_at (q : FVec Ideal S1x2048x128 .bf16) (k : FVec Ideal S1x512x128 .bf16) (M : FVec Ideal S2048x128 .f32) (A : FVec Ideal S2048x128 .f32)
    (v : FVec Ideal S1x512x128 .bf16) (t : Fin 2048) (d : Fin 128) (μ μ' : EReal) (h : ∀ l : Fin 128, M (ix2 t l) = μ)
    (h' : ∀ l : Fin 128, k0_pay5 (F := Ideal) q k M (ix2 t l) = μ') :
    k0_pay6 (F := Ideal) q k M A v (ix2 t d) = Ideal.exp (μ - μ') * A (ix2 t d) + ∑ u : Fin 512, Ideal.exp (dotQK q t k u - μ') * v (ix3 0 u d) := by
  unfold k0_pay6
  have c4 := cat4 (k0_pay5 (F := Ideal) q k M) t μ' concatenates_S2048x128_S2048x128_S2048x128_S2048x128_S2048x512_d1 h'
  have c2 : ∀ l : Fin 128, exp (subf M (k0_pay5 (F := Ideal) q k M)) (ix2 t l) = Ideal.exp (μ - μ') := fun l => by show Ideal.exp (M (ix2 t l) - k0_pay5 (F := Ideal) q k M (ix2 t l)) = _; rw [h, h']
  generalize concatenate ⟨2, ![2048, 512]⟩ 1 _ _ = C4 at c4 ⊢
  generalize exp (subf M (k0_pay5 (F := Ideal) q k M)) = C2 at c2 ⊢
  pointwise [c4, c2, pay4_at]

theorem pay12_at (q : FVec Ideal S1x2048x128 .bf16) (k : FVec Ideal S1x512x128 .bf16) (t : Fin 2048) (u : Fin 512) :
    k0_pay12 (F := Ideal) q k (ix2 t u) = if u.val ≤ t.val then dotQK q t k u else ⊥ := by
  pointwise [k0_pay12, dotQK, mask_eq]
  exact masked _ _ (by omega) (by omega) _
theorem pay13_at (s : FVec Ideal S2048x512 .f32) (M : FVec Ideal S2048x128 .f32) (t : Fin 2048) (l : Fin 128) :
    k0_pay13 (F := Ideal) s M (ix2 t l) = max (M (ix2 t l)) (Finset.univ.fold max ⊥ fun u : Fin 512 => s (ix2 t u)) := by
  pointwise [k0_pay13, low_eq]

theorem pay14_at (s : FVec Ideal S2048x512 .f32) (M : FVec Ideal S2048x128 .f32) (A : FVec Ideal S2048x128 .f32)
    (v : FVec Ideal S1x512x128 .bf16) (t : Fin 2048) (d : Fin 128) (μ μ' : EReal) (h : ∀ l : Fin 128, M (ix2 t l) = μ)
    (h' : ∀ l : Fin 128, k0_pay13 (F := Ideal) s M (ix2 t l) = μ') :
    k0_pay14 (F := Ideal) s M A v (ix2 t d)
      = Ideal.exp (μ - μ') * A (ix2 t d) + ∑ u : Fin 512, Ideal.exp (s (ix2 t u) - μ') * v (ix3 0 u d) := by
  unfold k0_pay14
  have c4 := cat4 (k0_pay13 (F := Ideal) s M) t μ' concatenates_S2048x128_S2048x128_S2048x128_S2048x128_S2048x512_d1 h'
  have c2 : ∀ l : Fin 128, exp (subf M (k0_pay13 (F := Ideal) s M)) (ix2 t l) = Ideal.exp (μ - μ') := fun l => by show Ideal.exp (M (ix2 t l) - k0_pay13 (F := Ideal) s M (ix2 t l)) = _; rw [h, h']
  generalize concatenate ⟨2, ![2048, 512]⟩ 1 _ _ = C4 at c4 ⊢
  generalize exp (subf M (k0_pay13 (F := Ideal) s M)) = C2 at c2 ⊢
  pointwise [c4, c2]

theorem pay17_at (p : FVec Ideal S1536x512 .f32) (M : FVec Ideal S1536x128 .f32) (t : Fin 1536) (l : Fin 128) :
    k0_pay17 (F := Ideal) p M (ix2 t l) = max (M (ix2 t l)) (Finset.univ.fold max ⊥ fun u : Fin 512 => p (ix2 t u)) := by
  pointwise [k0_pay17, low_eq]

theorem pay18_at (p : FVec Ideal S1536x512 .f32) (M : FVec Ideal S1536x128 .f32) (A : FVec Ideal S1536x128 .f32)
    (v : FVec Ideal S1x512x128 .bf16) (t : Fin 1536) (d : Fin 128) (μ μ' : EReal) (h : ∀ l : Fin 128, M (ix2 t l) = μ)
    (h' : ∀ l : Fin 128, k0_pay17 (F := Ideal) p M (ix2 t l) = μ') :
    k0_pay18 (F := Ideal) p M A v (ix2 t d)
      = Ideal.exp (μ - μ') * A (ix2 t d) + ∑ u : Fin 512, Ideal.exp (p (ix2 t u) - μ') * v (ix3 0 u d) := by
  unfold k0_pay18
  have c4 := cat4 (k0_pay17 (F := Ideal) p M) t μ' concatenates_S1536x128_S1536x128_S1536x128_S1536x128_S1536x512_d1 h'
  have c2 : ∀ l : Fin 128, exp (subf M (k0_pay17 (F := Ideal) p M)) (ix2 t l) = Ideal.exp (μ - μ') := fun l => by show Ideal.exp (M (ix2 t l) - k0_pay17 (F := Ideal) p M (ix2 t l)) = _; rw [h, h']
  generalize concatenate ⟨2, ![1536, 512]⟩ 1 _ _ = C4 at c4 ⊢
  generalize exp (subf M (k0_pay17 (F := Ideal) p M)) = C2 at c2 ⊢
  pointwise [c4, c2]

theorem pay23_at (p : FVec Ideal S1024x512 .f32) (q : IVec S1024x512 1) (M : FVec Ideal S1024x128 .f32) (t : Fin 1024) (l : Fin 128) :
    k0_pay23 (F := Ideal) p q M (ix2 t l) = max (M (ix2 t l)) (Finset.univ.fold max ⊥ fun u : Fin 512 => k0_pay22 (F := Ideal) p q (ix2 t u)) := by
  pointwise [k0_pay23, low_eq]

theorem pay24_at (p : FVec Ideal S1024x512 .f32) (q : IVec S1024x512 1) (M : FVec Ideal S1024x128 .f32) (A : FVec Ideal S1024x128 .f32)
    (v : FVec Ideal S1x512x128 .bf16) (t : Fin 1024) (d : Fin 128) (μ μ' : EReal) (h : ∀ l : Fin 128, M (ix2 t l) = μ)
    (h' : ∀ l : Fin 128, k0_pay23 (F := Ideal) p q M (ix2 t l) = μ') :
    k0_pay24 (F := Ideal) p q M A v (ix2 t d)
      = Ideal.exp (μ - μ') * A (ix2 t d) + ∑ u : Fin 512, Ideal.exp (k0_pay22 (F := Ideal) p q (ix2 t u) - μ') * v (ix3 0 u d) := by
  unfold k0_pay24
  have c4 := cat4 (k0_pay23 (F := Ideal) p q M) t μ' concatenates_S1024x128_S1024x128_S1024x128_S1024x128_S1024x512_d1 h'
  have c2 : ∀ l : Fin 128, exp (subf M (k0_pay23 (F := Ideal) p q M)) (ix2 t l) = Ideal.exp (μ - μ') := fun l => by show Ideal.exp (M (ix2 t l) - k0_pay23 (F := Ideal) p q M (ix2 t l)) = _; rw [h, h']
  generalize concatenate ⟨2, ![1024, 512]⟩ 1 _ _ = C4 at c4 ⊢
  generalize exp (subf M (k0_pay23 (F := Ideal) p q M)) = C2 at c2 ⊢
  pointwise [c4, c2]

theorem pay28_at (p : FVec Ideal S512x512 .f32) (M : FVec Ideal S512x128 .f32) (t : Fin 512) (l : Fin 128) :
    k0_pay28 (F := Ideal) p M (ix2 t l) = max (M (ix2 t l)) (Finset.univ.fold max ⊥ fun u : Fin 512 => k0_pay27 (F := Ideal) p (ix2 t u)) := by
  pointwise [k0_pay28, low_eq]

theorem pay29_at (p : FVec Ideal S512x512 .f32) (M : FVec Ideal S512x128 .f32) (A : FVec Ideal S512x128 .f32)
    (v : FVec Ideal S1x512x128 .bf16) (t : Fin 512) (d : Fin 128) (μ μ' : EReal) (h : ∀ l : Fin 128, M (ix2 t l) = μ)
    (h' : ∀ l : Fin 128, k0_pay28 (F := Ideal) p M (ix2 t l) = μ') :
    k0_pay29 (F := Ideal) p M A v (ix2 t d)
      = Ideal.exp (μ - μ') * A (ix2 t d) + ∑ u : Fin 512, Ideal.exp (k0_pay27 (F := Ideal) p (ix2 t u) - μ') * v (ix3 0 u d) := by
  unfold k0_pay29
  have c4 := cat4 (k0_pay28 (F := Ideal) p M) t μ' concatenates_S512x128_S512x128_S512x128_S512x128_S512x512_d1 h'
  have c2 : ∀ l : Fin 128, exp (subf M (k0_pay28 (F := Ideal) p M)) (ix2 t l) = Ideal.exp (μ - μ') := fun l => by show Ideal.exp (M (ix2 t l) - k0_pay28 (F := Ideal) p M (ix2 t l)) = _; rw [h, h']
  generalize concatenate ⟨2, ![512, 512]⟩ 1 _ _ = C4 at c4 ⊢
  generalize exp (subf M (k0_pay28 (F := Ideal) p M)) = C2 at c2 ⊢
  pointwise [c4, c2]

theorem pay16_at (q : FVec Ideal S1x1536x128 .bf16) (k : FVec Ideal S1x512x128 .bf16) (t : Fin 1536) (u : Fin 512) :
    k0_pay16 (F := Ideal) q k (ix2 t u) = if u.val ≤ t.val then dotQK q t k u else ⊥ := by
  pointwise [k0_pay16, dotQK, mask_eq]
  exact masked _ _ (by omega) (by omega) _

theorem pay22_at (q : FVec Ideal S1x1024x128 .bf16) (k : FVec Ideal S1x512x128 .bf16) (t : Fin 1024) (u : Fin 512) :
    k0_pay22 (F := Ideal) (k0_pay20 (F := Ideal) q k) (k0_pay21) (ix2 t u)
      = if u.val ≤ t.val then dotQK q t k u else ⊥ := by
  pointwise [k0_pay22, k0_pay20, k0_pay21, dotQK, mask_eq]
  exact masked _ _ (by omega) (by omega) _

theorem pay27_at (q k : FVec Ideal S1x512x128 .bf16) (t u : Fin 512) :
    k0_pay27 (F := Ideal) (k0_pay26 (F := Ideal) q k) (ix2 t u) = if u.val ≤ t.val then dotQK q t k u else ⊥ := by
  pointwise [k0_pay27, k0_pay26, dotQK, mask_eq]
  exact masked _ _ (by omega) (by omega) _

theorem pay2_at (t : Fin 2048) (l : Fin 128) : k0_pay2 (F := Ideal) (ix2 t l) = ⊥ := by pointwise [k0_pay2, mask_eq]
theorem pay3_at (t : Fin 2048) (d : Fin 128) : k0_pay3 (F := Ideal) (ix2 t d) = (0 : EReal) := by pointwise [k0_pay3]
theorem pay7_eq (q : FVec Ideal S1x2048x128 .bf16) (k : FVec Ideal S1x512x128 .bf16) (M : FVec Ideal S2048x128 .f32) (t : Fin 2048) (l : Fin 128) :
    k0_pay7 (F := Ideal) q k M (ix2 t l) = k0_pay5 (F := Ideal) q k M (ix2 t l) := by pointwise [k0_pay7]
theorem pay15_eq (s : FVec Ideal S2048x512 .f32) (M : FVec Ideal S2048x128 .f32) (t : Fin 2048) (l : Fin 128) :
    k0_pay15 (F := Ideal) s M (ix2 t l) = k0_pay13 (F := Ideal) s M (ix2 t l) := by pointwise [k0_pay15]
theorem pay19_eq (p : FVec Ideal S1536x512 .f32) (M : FVec Ideal S1536x128 .f32) (t : Fin 1536) (l : Fin 128) :
    k0_pay19 (F := Ideal) p M (ix2 t l) = k0_pay17 (F := Ideal) p M (ix2 t l) := by pointwise [k0_pay19]
theorem pay25_eq (p : FVec Ideal S1024x512 .f32) (q : IVec S1024x512 1) (M : FVec Ideal S1024x128 .f32) (t : Fin 1024) (l : Fin 128) :
    k0_pay25 (F := Ideal) p q M (ix2 t l) = k0_pay23 (F := Ideal) p q M (ix2 t l) := by pointwise [k0_pay25]
theorem pay30_eq (p : FVec Ideal S512x512 .f32) (M : FVec Ideal S512x128 .f32) (t : Fin 512) (l : Fin 128) :
    k0_pay30 (F := Ideal) p M (ix2 t l) = k0_pay28 (F := Ideal) p M (ix2 t l) := by pointwise [k0_pay30]

/-- What a grid point writes. -/
theorem out_at (A : FVec Ideal S2048x128 .f32) (t : Fin 2048) (d : Fin 64) :
    k0_pay32 (F := Ideal) A (ix3 0 t d) = Ideal.div (A (ix2 t ⟨d.val, by omega⟩)) (A (ix2 t ⟨64, by omega⟩)) := by
  pointwise [k0_pay32, k0_pay31]

theorem lse_at (A : FVec Ideal S2048x128 .f32) (M : FVec Ideal S2048x1 .f32) (t : Fin 2048) :
    k0_pay1 (F := Ideal) (k0_pay31 (F := Ideal) A) M (ix3 0 0 t) = M (ix2 t 0) + Ideal.log (A (ix2 t ⟨64, by omega⟩)) := by
  pointwise [k0_pay1, k0_pay31]

end Cert.Kernel15Ideal.FoxFwd
-- ==== Proof.FoxFwdRow.lean ====
module

public import proofs.«01_k».proof.Proof.FoxFwd
public import proofs.«01_k».proof.Proof.FoxFwdVal
public import proofs.«01_k».proof.Proof.AttnMet

/-! The attention with forget gates, forward: the keys a row has met, through one step and through the loop. -/

@[expose] public section

set_option maxRecDepth 16384

noncomputable section

open Idealize.ShloMosaic Idealize.ShloMosaic.TcCoe Idealize.SL.Sem
open Idealize.ShloMosaic.Pipeline (Dat)

namespace Cert.Kernel15Ideal.FoxFwd

open Cert.Kernel15Ideal Cert.Kernel15Ideal.Gen Cert.Attn

theorem trips_eq (i : grid0.Coords) : (k0_t1_loop i).trips = 4 * (i 1).val := by
  have h : ∀ j : Fin 4, ∀ i : grid0.Coords, (i 1).val = j.val → (k0_t1_loop i).trips = 4 * (i 1).val := by
    intro j i hj
    dsimp only [k0_t1_loop, Scf.Loop.trips]
    rw [hj]
    clear hj i
    revert j
    decide +kernel
  exact h (i 1) i rfl

theorem off_loop (i : grid0.Coords) (k : Fin (k0_t1_loop i).trips) : k0_off1 i k = ![0, 512 * k.val, 0] ∧ k0_off1 i k = ![0, 512 * k.val, 0] := by
  have hk : k.val < 4 * (i 1).val := lt_of_lt_of_eq k.isLt (trips_eq i)
  have hi : (i 1).val < 4 := (i 1).isLt
  have h : ∀ j : Fin 4, ∀ l : Fin 12, ∀ i : grid0.Coords, ∀ k : Fin (k0_t1_loop i).trips, (i 1).val = j.val → k.val = l.val → l.val < 4 * j.val →
      k0_off1 i k = ![0, 512 * k.val, 0] ∧ k0_off1 i k = ![0, 512 * k.val, 0] := by
    intro j l i k hj hl hlt
    dsimp only [k0_off1, k0_off1, Scf.iv]
    rw [hl]
    clear hj hl i k
    revert j l
    decide +kernel
  exact h (i 1) ⟨k.val, by omega⟩ i k rfl rfl hk

theorem off_diag (i : grid0.Coords) (r : Fin 4) : k0_off3 i (BitVec.ofNat 32 r.val) = ![0, 2048 * (i 1).val + 512 * r.val, 0]
    ∧ k0_off3 i (BitVec.ofNat 32 r.val) = ![0, 2048 * (i 1).val + 512 * r.val, 0] := by
  have h : ∀ j : Fin 4, ∀ r : Fin 4, ∀ i : grid0.Coords, (i 1).val = j.val →
      k0_off3 i (BitVec.ofNat 32 r.val) = ![0, 2048 * (i 1).val + 512 * r.val, 0]
        ∧ k0_off3 i (BitVec.ofNat 32 r.val) = ![0, 2048 * (i 1).val + 512 * r.val, 0] := by
    intro j r i hj
    dsimp only [k0_off3, k0_off3]
    rw [hj]
    clear hj i
    revert j r
    decide +kernel
  exact h (i 1) r i rfl

section
variable (σ : Fin 8192 → Fin 8192 → ℝ) (x0 : FVec Ideal S1x2048x128 .bf16) (x1 : FVec Ideal S1x8192x128 .bf16) (x2 : FVec Ideal S1x8192x128 .bf16)

variable (b : ℕ) (hb : b + 2048 ≤ 8192)

theorem scores_on {c : ℕ} (q : FVec Ideal ⟨3, ![1, c, 128]⟩ .bf16) (off : Fin 3 → ℕ) (n : ℕ) (ho : off = ![0, n, 0])
    (inb : ∀ a, off a + S1x512x128.size a ≤ S1x8192x128.size a) (w : Fin c) (u : Fin 512) (h : n + u.val < 8192) :
    dotQK q w (keys (F := Ideal) x1 off inb) u = ∑ j : Fin 128, q (ix3 0 w j) * x1 (ix3 0 ⟨n + u.val, h⟩ j) := by
  unfold dotQK
  exact Finset.sum_congr rfl fun j _ => congrArg _ (window_rows (N := 8192) (D := 128) (c := 512) x1 off n ho inb u j h)

theorem vals_on (off : Fin 3 → ℕ) (n : ℕ) (ho : off = ![0, n, 0]) (inb : ∀ a, off a + S1x512x128.size a ≤ S1x8192x128.size a)
    (u : Fin 512) (d : Fin 128) (h : n + u.val < 8192) : vals (F := Ideal) x2 off inb (ix3 0 u d) = x2 (ix3 0 ⟨n + u.val, h⟩ d) :=
  window_rows (N := 8192) (D := 128) (c := 512) x2 off n ho inb u d h

variable (hs : ∀ (r : Fin 2048) (u : Fin 8192), ∑ j : Fin 128, x0 (ix3 0 r j) * x1 (ix3 0 u j) = (σ ⟨b + r.val, lt_query hb r⟩ u : EReal))

include hs in
theorem met_loop (i : grid0.Coords) (hi : b = 2048 * (i 1).val) (r : Fin 2048) (n : ℕ) (hn : n ≤ (k0_t1_loop i).trips) :
    Met σ x2 (stateF (F := Ideal) i x0 x1 x2 (k0_pay2 (F := Ideal), k0_pay3 (F := Ideal)) n) r ⟨b + r.val, lt_query hb r⟩ (512 * n) := by
  induction n with
  | zero =>
    refine ⟨fun l => ?_, fun d => ?_⟩
    · exact (pay2_at r l).trans (seenMax_zero σ _).symm
    · exact (pay3_at r d).trans (seenSum_zero σ _ _).symm
  | succ n ih =>
    have ht := trips_eq i
    have h := ih (by omega)
    have hst : stateF (F := Ideal) i x0 x1 x2 (k0_pay2 (F := Ideal), k0_pay3 (F := Ideal)) (n + 1) = _ := stateF_succ (F := Ideal) i x0 x1 x2 (k0_pay2 (F := Ideal), k0_pay3 (F := Ideal)) ⟨n, hn⟩
    rw [hst]
    have o := off_loop i ⟨n, hn⟩
    simp only at o ⊢
    generalize stateF (F := Ideal) i x0 x1 x2 (k0_pay2 (F := Ideal), k0_pay3 (F := Ideal)) n = s at h
    have e : ∀ u : Fin 512, dotQK x0 r (keys (F := Ideal) x1 (k0_off1 i ⟨n, hn⟩) (k0_off1_inb i ⟨n, hn⟩)) u
        = (σ ⟨b + r.val, lt_query hb r⟩ ⟨512 * n + u.val, by omega⟩ : EReal) := fun u => by
      rw [scores_on x1 x0 _ (512 * n) o.1 _ r u (by omega), hs]
    have := met_step σ x2 s (tripF (F := Ideal) i x0 x1 x2 ⟨n, hn⟩ s) r ⟨b + r.val, lt_query hb r⟩ (512 * n) (by omega)
      (fun u => dotQK x0 r (keys (F := Ideal) x1 (k0_off1 i ⟨n, hn⟩) (k0_off1_inb i ⟨n, hn⟩)) u)
      (fun u => by rw [e u, msk, if_pos (by show 512 * n + u.val ≤ b + r.val; omega)])
      (fun l => by simp only [tripF]; rw [pay7_eq, pay5_at])
      (fun d μ μ' hμ hμ' => by
        simp only [tripF] at hμ' ⊢
        rw [pay6_at _ _ _ _ _ r d μ μ' hμ (fun l => by rw [← pay7_eq]; exact hμ' l)]
        congr 1
        exact Finset.sum_congr rfl fun u _ => by rw [vals_on x2 _ (512 * n) o.2 _ u d (by omega)])
      h
    exact this

end

end Cert.Kernel15Ideal.FoxFwd
-- ==== Proof.FoxFwdEnd.lean ====
module

public import proofs.«01_k».proof.Proof.FoxFwdRow

/-! The attention with forget gates, forward: after its diagonal steps a row has met all its keys. -/

@[expose] public section

set_option maxRecDepth 16384

noncomputable section

open Idealize.ShloMosaic Idealize.ShloMosaic.TcCoe Idealize.SL.Sem
open Idealize.ShloMosaic.Pipeline (Dat)

namespace Cert.Kernel15Ideal.FoxFwd

open Cert.Kernel15Ideal Cert.Kernel15Ideal.Gen Cert.Attn

/-- What one block on the diagonal does to the rows before it and to those from it on. -/
abbrev Step (σ : Fin 8192 → Fin 8192 → ℝ) (x2 : FVec Ideal S1x8192x128 .bf16) (b : ℕ) (hb : b + 2048 ≤ 8192) (s s' : Acc Ideal) (o : ℕ) : Prop :=
  (∀ (r : Fin 2048) n, r.val < o → Met σ x2 s r ⟨b + r.val, lt_query hb r⟩ n → Met σ x2 s' r ⟨b + r.val, lt_query hb r⟩ n)
    ∧ (∀ r : Fin 2048, o ≤ r.val → Met σ x2 s r ⟨b + r.val, lt_query hb r⟩ (b + o) → Met σ x2 s' r ⟨b + r.val, lt_query hb r⟩ (b + o + 512))

variable (σ : Fin 8192 → Fin 8192 → ℝ) (x0 : FVec Ideal S1x2048x128 .bf16) (x1 : FVec Ideal S1x8192x128 .bf16) (x2 : FVec Ideal S1x8192x128 .bf16)
  (b : ℕ) (hb : b + 2048 ≤ 8192)
  (hs : ∀ (r : Fin 2048) (u : Fin 8192), ∑ j : Fin 128, x0 (ix3 0 r j) * x1 (ix3 0 u j) = (σ ⟨b + r.val, lt_query hb r⟩ u : EReal))
  (i : grid0.Coords) (hi : b = 2048 * (i 1).val)

theorem offs (hi : b = 2048 * (i 1).val) (r : Fin 4) (o : ℕ) (ho : o = 512 * r.val) : k0_off3 i (BitVec.ofNat 32 r.val) = ![0, b + o, 0]
    ∧ k0_off3 i (BitVec.ofNat 32 r.val) = ![0, b + o, 0] := by
  rw [hi, ho]; exact off_diag i r

include hs hi in
theorem step0 (s : Acc Ideal) : Step σ x2 b hb s (diag0 (F := Ideal) i x0 x1 x2 s) 0 := by
  have off : k0_off3 i 0#32 = ![0, b + 0, 0] ∧ k0_off3 i 0#32 = ![0, b + 0, 0] := offs b i hi 0 0 rfl
  refine met_diag σ x0 x1 x2 b hb hs s _ 0 2048 rfl (by decide) _ _ (fun w u => k0_pay12 (F := Ideal) x0 (keys x1 (k0_off3 i 0#32) (inbK i 0)) (ix2 w u)) (fun w u => ?_) rfl rfl (fun w l => ?_) (fun w d μ μ' hμ hμ' => ?_)
  · refine (pay12_at _ _ w u).trans ?_
    congr 1
    rw [scores_on x1 _ _ (b + 0) off.1 _ w u (by omega)]
    exact Finset.sum_congr rfl fun j _ => congrArg (fun z : EReal => z * _) (congrArg x0 (by congr 1; exact Fin.ext (by show w.val = 0 + w.val; omega)))
  · rw [pay15_eq, pay13_at]
    congr 1
    exact win_rows (N := 2048) (D := 128) (c := 2048) s.1 0 _ w l (by omega)
  · rw [pay14_at _ _ _ _ w d μ μ' (fun l => (win_rows (N := 2048) (D := 128) (c := 2048) s.1 0 _ w l (by omega)).trans (hμ l)) (fun l => by rw [← pay15_eq]; exact hμ' l)]
    refine congrArg₂ (fun y z : EReal => y + z) (congrArg _ (win_rows (N := 2048) (D := 128) (c := 2048) s.2 0 _ w d (by omega))) ?_
    exact Finset.sum_congr rfl fun u _ => congrArg _ (vals_on x2 _ (b + 0) off.2 _ u d (by omega))

include hs hi in
theorem step1 (s : Acc Ideal) : Step σ x2 b hb s (diag1 (F := Ideal) i x0 x1 x2 s) 512 := by
  have off : k0_off3 i 1#32 = ![0, b + 512, 0] ∧ k0_off3 i 1#32 = ![0, b + 512, 0] := offs b i hi 1 512 rfl
  refine met_diag σ x0 x1 x2 b hb hs s _ 512 1536 rfl (by decide) _ _ (fun w u => (k0_pay16 (F := Ideal) (VecWindow.window (s := S1x2048x128) x0 ![0, 512, 0] S1x1536x128.size inb_S1x2048x128_S1x1536x128_0_512_0) (keys x1 (k0_off3 i 1#32) (inbK i 1))) (ix2 w u)) (fun w u => ?_) rfl rfl (fun w l => ?_) (fun w d μ μ' hμ hμ' => ?_)
  · refine (pay16_at _ _ w u).trans ?_
    congr 1
    rw [scores_on x1 _ _ (b + 512) off.1 _ w u (by omega)]
    exact Finset.sum_congr rfl fun j _ => congrArg (fun z : EReal => z * _) (window_rows (N := 2048) (D := 128) (c := 1536) x0 ![0, 512, 0] 512 rfl _ w j (by omega))
  · rw [pay19_eq, pay17_at]
    congr 1
    exact win_rows (N := 2048) (D := 128) (c := 1536) s.1 512 _ w l (by omega)
  · rw [pay18_at _ _ _ _ w d μ μ' (fun l => (win_rows (N := 2048) (D := 128) (c := 1536) s.1 512 _ w l (by omega)).trans (hμ l)) (fun l => by rw [← pay19_eq]; exact hμ' l)]
    refine congrArg₂ (fun y z : EReal => y + z) (congrArg _ (win_rows (N := 2048) (D := 128) (c := 1536) s.2 512 _ w d (by omega))) ?_
    exact Finset.sum_congr rfl fun u _ => congrArg _ (vals_on x2 _ (b + 512) off.2 _ u d (by omega))

include hs hi in
theorem step2 (s : Acc Ideal) : Step σ x2 b hb s (diag2 (F := Ideal) i x0 x1 x2 s) 1024 := by
  have off : k0_off3 i 2#32 = ![0, b + 1024, 0] ∧ k0_off3 i 2#32 = ![0, b + 1024, 0] := offs b i hi 2 1024 rfl
  refine met_diag σ x0 x1 x2 b hb hs s _ 1024 1024 rfl (by decide) _ _ (fun w u => k0_pay22 (F := Ideal) (k0_pay20 (F := Ideal) (VecWindow.window (s := S1x2048x128) x0 ![0, 1024, 0] S1x1024x128.size inb_S1x2048x128_S1x1024x128_0_1024_0) (keys x1 (k0_off3 i 2#32) (inbK i 2))) (k0_pay21) (ix2 w u)) (fun w u => ?_) rfl rfl (fun w l => ?_) (fun w d μ μ' hμ hμ' => ?_)
  · refine (pay22_at _ _ w u).trans ?_
    congr 1
    rw [scores_on x1 _ _ (b + 1024) off.1 _ w u (by omega)]
    exact Finset.sum_congr rfl fun j _ => congrArg (fun z : EReal => z * _) (window_rows (N := 2048) (D := 128) (c := 1024) x0 ![0, 1024, 0] 1024 rfl _ w j (by omega))
  · rw [pay25_eq, pay23_at]
    congr 1
    exact win_rows (N := 2048) (D := 128) (c := 1024) s.1 1024 _ w l (by omega)
  · rw [pay24_at _ _ _ _ _ w d μ μ' (fun l => (win_rows (N := 2048) (D := 128) (c := 1024) s.1 1024 _ w l (by omega)).trans (hμ l)) (fun l => by rw [← pay25_eq]; exact hμ' l)]
    refine congrArg₂ (fun y z : EReal => y + z) (congrArg _ (win_rows (N := 2048) (D := 128) (c := 1024) s.2 1024 _ w d (by omega))) ?_
    exact Finset.sum_congr rfl fun u _ => congrArg _ (vals_on x2 _ (b + 1024) off.2 _ u d (by omega))

include hs hi in
theorem step3 (s : Acc Ideal) : Step σ x2 b hb s (diag3 (F := Ideal) i x0 x1 x2 s) 1536 := by
  have off : k0_off3 i 3#32 = ![0, b + 1536, 0] ∧ k0_off3 i 3#32 = ![0, b + 1536, 0] := offs b i hi 3 1536 rfl
  refine met_diag σ x0 x1 x2 b hb hs s _ 1536 512 rfl (by decide) _ _ (fun w u => k0_pay27 (F := Ideal) (k0_pay26 (F := Ideal) (VecWindow.window (s := S1x2048x128) x0 ![0, 1536, 0] S1x512x128.size inb_S1x2048x128_S1x512x128_0_1536_0) (keys x1 (k0_off3 i 3#32) (inbK i 3))) (ix2 w u)) (fun w u => ?_) rfl rfl (fun w l => ?_) (fun w d μ μ' hμ hμ' => ?_)
  · refine (pay27_at _ _ w u).trans ?_
    congr 1
    rw [scores_on x1 _ _ (b + 1536) off.1 _ w u (by omega)]
    exact Finset.sum_congr rfl fun j _ => congrArg (fun z : EReal => z * _) (window_rows (N := 2048) (D := 128) (c := 512) x0 ![0, 1536, 0] 1536 rfl _ w j (by omega))
  · rw [pay30_eq, pay28_at]
    congr 1
    exact win_rows (N := 2048) (D := 128) (c := 512) s.1 1536 _ w l (by omega)
  · rw [pay29_at _ _ _ _ w d μ μ' (fun l => (win_rows (N := 2048) (D := 128) (c := 512) s.1 1536 _ w l (by omega)).trans (hμ l)) (fun l => by rw [← pay30_eq]; exact hμ' l)]
    refine congrArg₂ (fun y z : EReal => y + z) (congrArg _ (win_rows (N := 2048) (D := 128) (c := 512) s.2 1536 _ w d (by omega))) ?_
    exact Finset.sum_congr rfl fun u _ => congrArg _ (vals_on x2 _ (b + 1536) off.2 _ u d (by omega))

include hs hi in
/-- A grid point ends with every row having met the keys up to its query. -/
theorem met_point (r : Fin 2048) : ∃ n, b + r.val < n ∧ Met σ x2 (pointF (F := Ideal) i x0 x1 x2) r ⟨b + r.val, lt_query hb r⟩ n := by
  have h0 := met_loop σ x0 x1 x2 b hb hs i hi r (k0_t1_loop i).trips le_rfl
  rw [trips_eq, show 512 * (4 * (i 1).val) = b by omega, ← trips_eq] at h0
  unfold pointF
  generalize stateF (F := Ideal) i x0 x1 x2 (k0_pay2 (F := Ideal), k0_pay3 (F := Ideal)) (k0_t1_loop i).trips = s at h0 ⊢
  have a0 := step0 σ x0 x1 x2 b hb hs i hi s
  have a1 := step1 σ x0 x1 x2 b hb hs i hi (diag0 (F := Ideal) i x0 x1 x2 s)
  have a2 := step2 σ x0 x1 x2 b hb hs i hi (diag1 (F := Ideal) i x0 x1 x2 (diag0 (F := Ideal) i x0 x1 x2 s))
  have a3 := step3 σ x0 x1 x2 b hb hs i hi (diag2 (F := Ideal) i x0 x1 x2 (diag1 (F := Ideal) i x0 x1 x2 (diag0 (F := Ideal) i x0 x1 x2 s)))
  have h1 := a0.2 r (Nat.zero_le _) h0
  by_cases c1 : r.val < 512
  · exact ⟨_, by omega, a3.1 r _ (by omega) (a2.1 r _ (by omega) (a1.1 r _ c1 h1))⟩
  have h2 := a1.2 r (by omega) h1
  by_cases c2 : r.val < 1024
  · exact ⟨_, by omega, a3.1 r _ (by omega) (a2.1 r _ c2 h2)⟩
  have h3 := a2.2 r (by omega) h2
  by_cases c3 : r.val < 1536
  · exact ⟨_, by omega, a3.1 r _ c3 h3⟩
  have h4 := a3.2 r (by omega) h3
  exact ⟨_, by omega, h4⟩

end Cert.Kernel15Ideal.FoxFwd
-- ==== Proof.FoxModel.lean ====
module

public import proofs.«01_k».proof.Defs
public import proofs.«01_k».proof.Proof.Gen.Kernel4Ideal.Skeleton
public import Idealize.ShloMosaic.Lib.VecWindow

/-! What one grid point of the backward attention of the latent-attention mixer does to its blocks, written over
whole blocks: two steps on the diagonal, one step for each later block of query rows, the last scaling. -/

@[expose] public section

set_option maxRecDepth 16384

noncomputable section

namespace Cert.Kernel4Ideal.Fox

open Idealize.ShloMosaic Idealize.ShloMosaic.TcCoe
open Cert.Kernel4Ideal.Gen

variable {F : FTy → Type} [FloatOps F] [Named F]

/-- The three blocks the steps change: the gradient of the queries, of the keys, of the values. -/
abbrev Acc (F : FTy → Type) : Type := Vec F S8192x128 .f32 × Vec F S2048x128 .f32 × Vec F S2048x128 .f32

/-- Rows of a query-side block. -/
abbrev rowsQ {e : EltTy} (x : Vec F S1x8192x128 e) (off : Fin 3 → ℕ)
    (inb : ∀ a, off a + S1x512x128.size a ≤ S1x8192x128.size a) : Vec F S1x512x128 e :=
  VecWindow.window x off S1x512x128.size inb

/-- Rows of the gradient of the queries. -/
abbrev rowsD (x : Vec F S8192x128 .f32) (off : Fin 2 → ℕ)
    (inb : ∀ a, off a + S512x128.size a ≤ S8192x128.size a) : Vec F S512x128 .f32 :=
  VecWindow.window x off S512x128.size inb

/-- The first rows of a key-side block: a quarter, a half, three quarters, all. -/
abbrev keys1 {e : EltTy} (x : Vec F S1x2048x128 e) : Vec F S1x512x128 e :=
  VecWindow.window x ![0, 0, 0] S1x512x128.size inb_S1x2048x128_S1x512x128_0_0_0
abbrev keys2 {e : EltTy} (x : Vec F S1x2048x128 e) : Vec F S1x1024x128 e :=
  VecWindow.window x ![0, 0, 0] S1x1024x128.size inb_S1x2048x128_S1x1024x128_0_0_0
abbrev keys3 {e : EltTy} (x : Vec F S1x2048x128 e) : Vec F S1x1536x128 e :=
  VecWindow.window x ![0, 0, 0] S1x1536x128.size inb_S1x2048x128_S1x1536x128_0_0_0
abbrev keys4 {e : EltTy} (x : Vec F S1x2048x128 e) : Vec F S1x2048x128 e :=
  VecWindow.window x ![0, 0, 0] S1x2048x128.size inb_S1x2048x128_S1x2048x128_0_0_0

/-- The first rows of an accumulator. -/
abbrev acc1 (x : Vec F S2048x128 .f32) : Vec F S512x128 .f32 := VecWindow.window x ![0, 0] S512x128.size inb_S2048x128_S512x128_0_0
abbrev acc2 (x : Vec F S2048x128 .f32) : Vec F S1024x128 .f32 := VecWindow.window x ![0, 0] S1024x128.size inb_S2048x128_S1024x128_0_0
abbrev acc3 (x : Vec F S2048x128 .f32) : Vec F S1536x128 .f32 := VecWindow.window x ![0, 0] S1536x128.size inb_S2048x128_S1536x128_0_0
abbrev acc4 (x : Vec F S2048x128 .f32) : Vec F S2048x128 .f32 := VecWindow.window x ![0, 0] S2048x128.size inb_S2048x128_S2048x128_0_0

/-- One later block of query rows. -/
def tripF (i : grid0.Coords) (x0 : Vec F S1x8192x128 .bf16) (x1 x2 : Vec F S1x2048x128 .bf16)
    (x3 : Vec F S1x8192x128 .bf16) (k : Fin (k0_t1_loop i).trips) (s : Acc F) : Acc F :=
  let a := rowsQ x0 (k0_off3 i k) (k0_off3_inb i k)
  let b := rowsQ x3 (k0_off3 i k) (k0_off3_inb i k)
  (VecWindow.put s.1 (k0_off4 i k) S512x128.size
      (k0_pay54 (k0_pay4 (keys4 x1)) (k0_pay7 a b (keys4 x1) (keys4 x2)) (k0_pay9 (rowsD s.1 (k0_off4 i k) (k0_off4_inb i k)))),
   k0_pay8 a b (keys4 x1) (keys4 x2) (acc4 s.2.1),
   k0_pay6 a b (keys4 x1) (acc4 s.2.2))

/-- The blocks after the first `n` later steps. -/
def stateF (i : grid0.Coords) (x0 : Vec F S1x8192x128 .bf16) (x1 x2 : Vec F S1x2048x128 .bf16)
    (x3 : Vec F S1x8192x128 .bf16) (s : Acc F) : ℕ → Acc F
  | 0 => s
  | n + 1 => if h : n < (k0_t1_loop i).trips then tripF i x0 x1 x2 x3 ⟨n, h⟩ (stateF i x0 x1 x2 x3 s n)
      else stateF i x0 x1 x2 x3 s n

theorem stateF_succ (i : grid0.Coords) (x0 : Vec F S1x8192x128 .bf16) (x1 x2 : Vec F S1x2048x128 .bf16)
    (x3 : Vec F S1x8192x128 .bf16) (s : Acc F) (k : Fin (k0_t1_loop i).trips) :
    stateF i x0 x1 x2 x3 s (k.val + 1) = tripF i x0 x1 x2 x3 k (stateF i x0 x1 x2 x3 s k.val) := by
  rw [stateF]; exact dif_pos k.isLt

theorem inbD (i : grid0.Coords) (r : Fin 4) :
    ∀ a, k0_off1 i (BitVec.ofNat 32 r.val) a + S1x512x128.size a ≤ S1x8192x128.size a := k0_off1_inb i r

theorem inbR (i : grid0.Coords) (r : Fin 4) :
    ∀ a, k0_off2 i (BitVec.ofNat 32 r.val) a + S512x128.size a ≤ S8192x128.size a := k0_off2_inb i r

variable (i : grid0.Coords) (x0 : Vec F S1x8192x128 .bf16) (x1 x2 : Vec F S1x2048x128 .bf16) (x3 : Vec F S1x8192x128 .bf16)

/-- The rows of the diagonal's first quarter. -/
abbrev rowA1 (x : Vec F S1x8192x128 .bf16) : Vec F S1x512x128 .bf16 := rowsQ x (k0_off1 i 0#32) (inbD i 0)
abbrev rowA2 (x : Vec F S1x8192x128 .bf16) : Vec F S1x512x128 .bf16 := rowsQ x (k0_off1 i 1#32) (inbD i 1)
abbrev rowA3 (x : Vec F S1x8192x128 .bf16) : Vec F S1x512x128 .bf16 := rowsQ x (k0_off1 i 2#32) (inbD i 2)
abbrev rowA4 (x : Vec F S1x8192x128 .bf16) : Vec F S1x512x128 .bf16 := rowsQ x (k0_off1 i 3#32) (inbD i 3)

/-- What the diagonal's quarters make of the rows of the gradient of the queries. -/
abbrev dq1 (o : Vec F S512x128 .f32) : Vec F S512x128 .f32 :=
  k0_pay28 (k0_pay22 (rowA1 i x3)) (k0_pay23 (keys1 x1)) (k0_pay24 (rowA1 i x0) (keys1 x1)) (keys1 x2) o
abbrev dq2 (o : Vec F S512x128 .f32) : Vec F S512x128 .f32 :=
  k0_pay36 (k0_pay29 (rowA2 i x0)) (k0_pay30 (rowA2 i x3)) (keys2 x1) (keys2 x2) o
abbrev dq3 (o : Vec F S512x128 .f32) : Vec F S512x128 .f32 :=
  k0_pay44 (k0_pay39 (keys3 x1)) (k0_pay42 (rowA3 i x0) (rowA3 i x3) (keys3 x1) (keys3 x2)) o
abbrev dq4 (o : Vec F S512x128 .f32) : Vec F S512x128 .f32 :=
  k0_pay53 (k0_pay46 (rowA4 i x3)) (k0_pay47 (keys4 x1)) (k0_pay48 (rowA4 i x0) (keys4 x1)) (keys4 x2) o

/-- What they make of the gradient of the keys. -/
abbrev dk1 (o : Vec F S512x128 .f32) : Vec F S512x128 .f32 :=
  k0_pay27 (k0_pay21 (rowA1 i x0)) (k0_pay22 (rowA1 i x3)) (k0_pay24 (rowA1 i x0) (keys1 x1)) (keys1 x2) o
abbrev dk2 (o : Vec F S1024x128 .f32) : Vec F S1024x128 .f32 :=
  k0_pay35 (k0_pay29 (rowA2 i x0)) (k0_pay30 (rowA2 i x3)) (keys2 x1) (keys2 x2) o
abbrev dk3 (o : Vec F S1536x128 .f32) : Vec F S1536x128 .f32 :=
  k0_pay43 (k0_pay37 (rowA3 i x0)) (k0_pay42 (rowA3 i x0) (rowA3 i x3) (keys3 x1) (keys3 x2)) o
abbrev dk4 (o : Vec F S2048x128 .f32) : Vec F S2048x128 .f32 :=
  k0_pay52 (k0_pay45 (rowA4 i x0)) (k0_pay46 (rowA4 i x3)) (k0_pay48 (rowA4 i x0) (keys4 x1)) (keys4 x2) o

/-- What they make of the gradient of the values. -/
abbrev dv1 (o : Vec F S512x128 .f32) : Vec F S512x128 .f32 :=
  k0_pay25 (k0_pay22 (rowA1 i x3)) (k0_pay24 (rowA1 i x0) (keys1 x1)) o
abbrev dv2 (o : Vec F S1024x128 .f32) : Vec F S1024x128 .f32 :=
  k0_pay33 (k0_pay29 (rowA2 i x0)) (k0_pay30 (rowA2 i x3)) (keys2 x1) o
abbrev dv3 (o : Vec F S1536x128 .f32) : Vec F S1536x128 .f32 :=
  k0_pay41 (rowA3 i x0) (rowA3 i x3) (keys3 x1) o
abbrev dv4 (o : Vec F S2048x128 .f32) : Vec F S2048x128 .f32 :=
  k0_pay50 (k0_pay46 (rowA4 i x3)) o (k0_pay49 (rowA4 i x0) (keys4 x1)) (constant S2048x128 .f32 0x00000000#32)

/-- The four quarters of the diagonal, each over the blocks the one before it left. -/
def diag1 (s : Acc F) : Acc F :=
  (VecWindow.put s.1 (k0_off2 i 0#32) S512x128.size (dq1 i x0 x1 x2 x3 (rowsD s.1 (k0_off2 i 0#32) (inbR i 0))),
   VecWindow.put s.2.1 ![0, 0] S512x128.size (dk1 i x0 x1 x2 x3 (acc1 s.2.1)),
   VecWindow.put s.2.2 ![0, 0] S512x128.size (dv1 i x0 x1 x3 (acc1 s.2.2)))
def diag2 (s : Acc F) : Acc F :=
  (VecWindow.put s.1 (k0_off2 i 1#32) S512x128.size (dq2 i x0 x1 x2 x3 (rowsD s.1 (k0_off2 i 1#32) (inbR i 1))),
   VecWindow.put s.2.1 ![0, 0] S1024x128.size (dk2 i x0 x1 x2 x3 (acc2 s.2.1)),
   VecWindow.put s.2.2 ![0, 0] S1024x128.size (dv2 i x0 x1 x3 (acc2 s.2.2)))
def diag3 (s : Acc F) : Acc F :=
  (VecWindow.put s.1 (k0_off2 i 2#32) S512x128.size (dq3 i x0 x1 x2 x3 (rowsD s.1 (k0_off2 i 2#32) (inbR i 2))),
   VecWindow.put s.2.1 ![0, 0] S1536x128.size (dk3 i x0 x1 x2 x3 (acc3 s.2.1)),
   VecWindow.put s.2.2 ![0, 0] S1536x128.size (dv3 i x0 x1 x3 (acc3 s.2.2)))
def diag4 (s : Acc F) : Acc F :=
  (VecWindow.put s.1 (k0_off2 i 3#32) S512x128.size (dq4 i x0 x1 x2 x3 (rowsD s.1 (k0_off2 i 3#32) (inbR i 3))),
   dk4 i x0 x1 x2 x3 (acc4 s.2.1),
   dv4 i x0 x1 x3 (acc4 s.2.2))

/-- The blocks after the diagonal, the gradient of the queries having been `dq` before. -/
def diagF (dq : Vec F S8192x128 .f32) : Acc F :=
  diag4 i x0 x1 x2 x3 (diag3 i x0 x1 x2 x3 (diag2 i x0 x1 x2 x3 (diag1 i x0 x1 x2 x3 (dq, k0_pay18, k0_pay19))))

/-- The blocks after all steps of one grid point, the gradient of the queries having been `dq` before. -/
def pointF (dq : Vec F S8192x128 .f32) : Acc F :=
  stateF i x0 x1 x2 x3 (diagF i x0 x1 x2 x3 dq) (k0_t1_loop i).trips

abbrev allQ (x : Vec F S8192x128 .f32) : Vec F S8192x128 .f32 :=
  VecWindow.window x ![0, 0] S8192x128.size inb_S8192x128_S8192x128_0_0

end Cert.Kernel4Ideal.Fox

end

end
-- ==== Proof.FoxVal.lean ====
module

public import proofs.«01_k».proof.Proof.FoxModel
public import proofs.«01_k».proof.Proof.AttnSum

/-! What the stored blocks of the backward attention hold, at coordinates, over the extended reals. -/

@[expose] public section

set_option maxRecDepth 16384

noncomputable section

open Idealize.ShloMosaic Idealize.ShloMosaic.TcCoe

namespace Cert.Kernel4Ideal.Fox

open Cert.Kernel4Ideal.Gen Cert.Attn

/-- The mask is the lowest value. -/
theorem mask_eq : (Named.named κ "mask" 0xF149F2CA#32 : Ideal .f32) = (⊥ : EReal) := rfl

/-- The product of a row of keys and a row of queries. -/
def dotKQ {n : ℕ} (a : FVec Ideal ⟨3, ![1, n, 128]⟩ .bf16) (s : Fin n) {l : ℕ} (b : FVec Ideal ⟨3, ![1, l, 128]⟩ .bf16) (t : Fin l) : EReal :=
  ∑ j : Fin 128, a (ix3 0 s j) * b (ix3 0 t j)

/-- The weight of a key for a query when the query's block begins `o` rows after the key's, and its product with the weight's gradient. -/
def wtAt {n : ℕ} (o : ℕ) (k : FVec Ideal ⟨3, ![1, n, 128]⟩ .bf16) (a : FVec Ideal S1x512x128 .bf16) (s : Fin n) (u : Fin 512) : EReal :=
  if s.val ≤ u.val + o then Ideal.exp (dotKQ k s a u) else 0

def gsAt {n : ℕ} (o : ℕ) (k v : FVec Ideal ⟨3, ![1, n, 128]⟩ .bf16) (a b : FVec Ideal S1x512x128 .bf16) (s : Fin n) (u : Fin 512) : EReal :=
  wtAt o k a s u * dotKQ v s b u

theorem wt1_at (a : FVec Ideal S1x512x128 .bf16) (k : FVec Ideal S1x512x128 .bf16) (s : Fin 512) (u : Fin 512) :
    k0_pay24 (F := Ideal) a k (ix2 s u) = wtAt 0 k a s u := by
  pointwise [k0_pay24, k0_pay23, k0_pay21, wtAt, dotKQ, mask_eq, add_zero]
  have h := exp_masked s.val u.val 0 (by omega) (by omega) (by omega) (∑ x : Fin 128, k (ix3 0 s x) * a (ix3 0 u x))
  rw [add_zero] at h
  exact h

theorem wt2_at (a : FVec Ideal S1x512x128 .bf16) (k : FVec Ideal S1x1024x128 .bf16) (s : Fin 1024) (u : Fin 512) :
    k0_pay32 (F := Ideal) (k0_pay29 a) k (ix2 s u) = wtAt 512 k a s u := by
  pointwise [k0_pay32, k0_pay31, k0_pay29, wtAt, dotKQ, mask_eq]
  exact exp_masked s.val u.val 512 (by omega) (by omega) (by omega) (∑ x : Fin 128, k (ix3 0 s x) * a (ix3 0 u x))

theorem wt3_at (a : FVec Ideal S1x512x128 .bf16) (k : FVec Ideal S1x1536x128 .bf16) (s : Fin 1536) (u : Fin 512) :
    k0_pay40 (F := Ideal) a k (ix2 s u) = wtAt 1024 k a s u := by
  pointwise [k0_pay40, k0_pay39, k0_pay37, wtAt, dotKQ, mask_eq]
  exact exp_masked s.val u.val 1024 (by omega) (by omega) (by omega) (∑ x : Fin 128, k (ix3 0 s x) * a (ix3 0 u x))

theorem wt4_at (a : FVec Ideal S1x512x128 .bf16) (k : FVec Ideal S1x2048x128 .bf16) (s : Fin 2048) (u : Fin 512) :
    k0_pay48 (F := Ideal) a k (ix2 s u) = wtAt 1536 k a s u := by
  pointwise [k0_pay48, k0_pay47, k0_pay45, wtAt, dotKQ, mask_eq]
  exact exp_masked s.val u.val 1536 (by omega) (by omega) (by omega) (∑ x : Fin 128, k (ix3 0 s x) * a (ix3 0 u x))

theorem gs1_at (a b : FVec Ideal S1x512x128 .bf16) (k v : FVec Ideal S1x512x128 .bf16) (s : Fin 512) (u : Fin 512) :
    k0_pay26 (F := Ideal) (k0_pay22 b) (k0_pay24 a k) v (ix2 s u) = gsAt 0 k v a b s u := by
  pointwise [k0_pay26, k0_pay22, wt1_at, gsAt, dotKQ]

theorem gs2_at (a b : FVec Ideal S1x512x128 .bf16) (k v : FVec Ideal S1x1024x128 .bf16) (s : Fin 1024) (u : Fin 512) :
    k0_pay34 (F := Ideal) (k0_pay29 a) (k0_pay30 b) k v (ix2 s u) = gsAt 512 k v a b s u := by
  pointwise [k0_pay34, k0_pay30, wt2_at, gsAt, dotKQ]

theorem gs3_at (a b : FVec Ideal S1x512x128 .bf16) (k v : FVec Ideal S1x1536x128 .bf16) (s : Fin 1536) (u : Fin 512) :
    k0_pay42 (F := Ideal) a b k v (ix2 s u) = gsAt 1024 k v a b s u := by
  pointwise [k0_pay42, k0_pay38, wt3_at, gsAt, dotKQ]

theorem gs4_at (a b : FVec Ideal S1x512x128 .bf16) (k v : FVec Ideal S1x2048x128 .bf16) (s : Fin 2048) (u : Fin 512) :
    k0_pay51 (F := Ideal) (k0_pay46 b) (k0_pay48 a k) v (ix2 s u) = gsAt 1536 k v a b s u := by
  pointwise [k0_pay51, k0_pay46, wt4_at, gsAt, dotKQ]

theorem dv1_at (a b : FVec Ideal S1x512x128 .bf16) (k : FVec Ideal S1x512x128 .bf16) (o : FVec Ideal S512x128 .f32) (s : Fin 512) (d : Fin 128) :
    (k0_pay25 (k0_pay22 b) (k0_pay24 a k) o : FVec Ideal S512x128 .f32) (ix2 s d) = o (ix2 s d) + ∑ u : Fin 512, wtAt 0 k a s u * b (ix3 0 u d) := by
  pointwise [k0_pay25, k0_pay22, wt1_at]

theorem dk1_at (a b : FVec Ideal S1x512x128 .bf16) (k v : FVec Ideal S1x512x128 .bf16) (o : FVec Ideal S512x128 .f32) (s : Fin 512) (d : Fin 128) :
    (k0_pay27 (k0_pay21 a) (k0_pay22 b) (k0_pay24 a k) v o : FVec Ideal S512x128 .f32) (ix2 s d) = o (ix2 s d) + ∑ u : Fin 512, gsAt 0 k v a b s u * a (ix3 0 u d) := by
  pointwise [k0_pay27, k0_pay21, gs1_at]

theorem dq1_at (a b : FVec Ideal S1x512x128 .bf16) (k v : FVec Ideal S1x512x128 .bf16) (o : FVec Ideal S512x128 .f32) (u : Fin 512) (d : Fin 128) :
    (k0_pay28 (k0_pay22 b) (k0_pay23 k) (k0_pay24 a k) v o : FVec Ideal S512x128 .f32) (ix2 u d) = o (ix2 u d) + ∑ s : Fin 512, gsAt 0 k v a b s u * k (ix3 0 s d) := by
  pointwise [k0_pay28, k0_pay23, gs1_at]

theorem dv2_at (a b : FVec Ideal S1x512x128 .bf16) (k : FVec Ideal S1x1024x128 .bf16) (o : FVec Ideal S1024x128 .f32) (s : Fin 1024) (d : Fin 128) :
    (k0_pay33 (k0_pay29 a) (k0_pay30 b) k o : FVec Ideal S1024x128 .f32) (ix2 s d) = o (ix2 s d) + ∑ u : Fin 512, wtAt 512 k a s u * b (ix3 0 u d) := by
  pointwise [k0_pay33, k0_pay30, wt2_at]

theorem dk2_at (a b : FVec Ideal S1x512x128 .bf16) (k v : FVec Ideal S1x1024x128 .bf16) (o : FVec Ideal S1024x128 .f32) (s : Fin 1024) (d : Fin 128) :
    (k0_pay35 (k0_pay29 a) (k0_pay30 b) k v o : FVec Ideal S1024x128 .f32) (ix2 s d) = o (ix2 s d) + ∑ u : Fin 512, gsAt 512 k v a b s u * a (ix3 0 u d) := by
  have h := gs2_at a b k v
  simp only [k0_pay29] at h
  pointwise [k0_pay35, k0_pay29, h]

theorem dq2_at (a b : FVec Ideal S1x512x128 .bf16) (k v : FVec Ideal S1x1024x128 .bf16) (o : FVec Ideal S512x128 .f32) (u : Fin 512) (d : Fin 128) :
    (k0_pay36 (k0_pay29 a) (k0_pay30 b) k v o : FVec Ideal S512x128 .f32) (ix2 u d) = o (ix2 u d) + ∑ s : Fin 1024, gsAt 512 k v a b s u * k (ix3 0 s d) := by
  pointwise [k0_pay36, k0_pay31, gs2_at]

theorem dv3_at (a b : FVec Ideal S1x512x128 .bf16) (k : FVec Ideal S1x1536x128 .bf16) (o : FVec Ideal S1536x128 .f32) (s : Fin 1536) (d : Fin 128) :
    (k0_pay41 a b k o : FVec Ideal S1536x128 .f32) (ix2 s d) = o (ix2 s d) + ∑ u : Fin 512, wtAt 1024 k a s u * b (ix3 0 u d) := by
  pointwise [k0_pay41, k0_pay38, wt3_at]

theorem dk3_at (a b : FVec Ideal S1x512x128 .bf16) (k v : FVec Ideal S1x1536x128 .bf16) (o : FVec Ideal S1536x128 .f32) (s : Fin 1536) (d : Fin 128) :
    (k0_pay43 (k0_pay37 a) (k0_pay42 a b k v) o : FVec Ideal S1536x128 .f32) (ix2 s d) = o (ix2 s d) + ∑ u : Fin 512, gsAt 1024 k v a b s u * a (ix3 0 u d) := by
  pointwise [k0_pay43, k0_pay37, gs3_at]

theorem dq3_at (a b : FVec Ideal S1x512x128 .bf16) (k v : FVec Ideal S1x1536x128 .bf16) (o : FVec Ideal S512x128 .f32) (u : Fin 512) (d : Fin 128) :
    (k0_pay44 (k0_pay39 k) (k0_pay42 a b k v) o : FVec Ideal S512x128 .f32) (ix2 u d) = o (ix2 u d) + ∑ s : Fin 1536, gsAt 1024 k v a b s u * k (ix3 0 s d) := by
  pointwise [k0_pay44, k0_pay39, gs3_at]

theorem dv4_at (a b : FVec Ideal S1x512x128 .bf16) (k : FVec Ideal S1x2048x128 .bf16) (o : FVec Ideal S2048x128 .f32) (s : Fin 2048) (d : Fin 128) :
    (k0_pay50 (k0_pay46 b) o (k0_pay49 a k) (constant S2048x128 .f32 0x00000000#32) : FVec Ideal S2048x128 .f32) (ix2 s d) = o (ix2 s d) + ∑ u : Fin 512, wtAt 1536 k a s u * b (ix3 0 u d) := by
  pointwise [k0_pay50, k0_pay46, k0_pay49, wt4_at]

theorem dk4_at (a b : FVec Ideal S1x512x128 .bf16) (k v : FVec Ideal S1x2048x128 .bf16) (o : FVec Ideal S2048x128 .f32) (s : Fin 2048) (d : Fin 128) :
    (k0_pay52 (k0_pay45 a) (k0_pay46 b) (k0_pay48 a k) v o : FVec Ideal S2048x128 .f32) (ix2 s d) = o (ix2 s d) + ∑ u : Fin 512, gsAt 1536 k v a b s u * a (ix3 0 u d) := by
  pointwise [k0_pay52, k0_pay45, gs4_at]

theorem dq4_at (a b : FVec Ideal S1x512x128 .bf16) (k v : FVec Ideal S1x2048x128 .bf16) (o : FVec Ideal S512x128 .f32) (u : Fin 512) (d : Fin 128) :
    (k0_pay53 (k0_pay46 b) (k0_pay47 k) (k0_pay48 a k) v o : FVec Ideal S512x128 .f32) (ix2 u d) = o (ix2 u d) + ∑ s : Fin 2048, gsAt 1536 k v a b s u * k (ix3 0 s d) := by
  pointwise [k0_pay53, k0_pay47, gs4_at]

theorem pay5_at (a : FVec Ideal S1x512x128 .bf16) (k : FVec Ideal S1x2048x128 .bf16) (s : Fin 2048) (u : Fin 512) :
    k0_pay5 (F := Ideal) a k (ix2 s u) = Ideal.exp (dotKQ k s a u) := by
  pointwise [k0_pay5, k0_pay4, k0_pay2, dotKQ]

theorem pay6_at (a b : FVec Ideal S1x512x128 .bf16) (k : FVec Ideal S1x2048x128 .bf16) (o : FVec Ideal S2048x128 .f32) (s : Fin 2048) (d : Fin 128) :
    k0_pay6 (F := Ideal) a b k o (ix2 s d) = o (ix2 s d) + ∑ u : Fin 512, Ideal.exp (dotKQ k s a u) * b (ix3 0 u d) := by
  pointwise [k0_pay6, k0_pay3, pay5_at]

theorem pay7_at (a b : FVec Ideal S1x512x128 .bf16) (k v : FVec Ideal S1x2048x128 .bf16) (s : Fin 2048) (u : Fin 512) :
    k0_pay7 (F := Ideal) a b k v (ix2 s u) = Ideal.exp (dotKQ k s a u) * dotKQ v s b u := by
  pointwise [k0_pay7, k0_pay3, pay5_at, dotKQ]

theorem pay8_at (a b : FVec Ideal S1x512x128 .bf16) (k v : FVec Ideal S1x2048x128 .bf16) (o : FVec Ideal S2048x128 .f32) (s : Fin 2048) (d : Fin 128) :
    k0_pay8 (F := Ideal) a b k v o (ix2 s d) = o (ix2 s d) + ∑ u : Fin 512, (Ideal.exp (dotKQ k s a u) * dotKQ v s b u) * a (ix3 0 u d) := by
  pointwise [k0_pay8, k0_pay2, pay7_at]

theorem pay54_at (k : FVec Ideal S1x2048x128 .bf16) (w : FVec Ideal S2048x512 .bf16) (o : FVec Ideal S512x128 .f32) (u : Fin 512) (d : Fin 128) :
    k0_pay54 (F := Ideal) (k0_pay4 k) w (k0_pay9 o) (ix2 u d) = o (ix2 u d) + ∑ s : Fin 2048, w (ix2 s u) * k (ix3 0 s d) := by
  pointwise [k0_pay54, k0_pay4, k0_pay9]

theorem pay18_at (s : Fin 2048) (d : Fin 128) : k0_pay18 (F := Ideal) (ix2 s d) = (0 : EReal) := by pointwise [k0_pay18]
theorem pay19_at (s : Fin 2048) (d : Fin 128) : k0_pay19 (F := Ideal) (ix2 s d) = (0 : EReal) := by pointwise [k0_pay19]
theorem pay20_at (t : Fin 8192) (d : Fin 128) : k0_pay20 (F := Ideal) (ix2 t d) = (0 : EReal) := by pointwise [k0_pay20]
theorem pay1_at (x : FVec Ideal S8192x128 .f32) (t : Fin 8192) (d : Fin 128) :
    k0_pay1 (F := Ideal) x (ix2 t d) = x (ix2 t d) * Ideal.ofBits .f32 0x3E000000#32 := by pointwise [k0_pay1]

end Cert.Kernel4Ideal.Fox

end

end
-- ==== Proof.FoxLoop.lean ====
module

public import proofs.«01_k».proof.Proof.FoxModel
public import proofs.«01_k».proof.Proof.Gen.Kernel4Ideal.Frame
public import Idealize.ShloMosaic.Lib.WholeRead

/-! The two loops of the backward attention's body by their invariants: the first turns the blocks into
`stateF`, the second makes no trip. -/

@[expose] public section

set_option maxRecDepth 16384
set_option maxHeartbeats 1000000

noncomputable section

namespace Cert.Kernel4Ideal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen

variable {F : FTy → Type} [FloatOps F] [Named F]

local notation "𝕄" => MT nD τ sig Unit (Elt F) ℕ (UR sig nD τ) ℕ

/-- The second loop makes no trip. -/
theorem no_second (i : grid0.Coords) : (k0_t2_loop i).trips = 0 := by
  have h : ∀ j : Fin 4, ∀ i : grid0.Coords, (i 1).val = j.val → (k0_t2_loop i).trips = 0 := by
    intro j i hj
    dsimp only [k0_t2_loop, Scf.Loop.trips]
    rw [hj]
    clear hj i
    revert j
    decide +kernel
  exact h (i 1) i rfl

variable (i : grid0.Coords) (arg2 : Memref sig .tc .vmem S1x8192x128 .bf16) (harg2 : arg2.IsWhole) (arg3 : Memref sig .tc .vmem S1x2048x128 .bf16) (harg3 : arg3.IsWhole)
    (arg4 : Memref sig .tc .vmem S1x2048x128 .bf16) (harg4 : arg4.IsWhole) (arg5 : Memref sig .tc .vmem S1x8192x128 .bf16) (harg5 : arg5.IsWhole)
    (arg6 : Memref sig .tc .vmem S8192x128 .f32) (harg6 : arg6.IsWhole) (arg7 : Memref sig .tc .vmem S2048x128 .f32) (harg7 : arg7.IsWhole)
    (arg8 : Memref sig .tc .vmem S2048x128 .f32) (harg8 : arg8.IsWhole) (arg9 : Memref sig .tc .vmem S2048x128 .f32) (harg9 : arg9.IsWhole)
    (arg10 : Memref sig .tc .vmem S2048x128 .f32) (harg10 : arg10.IsWhole)

/-- What the first loop holds before trip `k`, from the contents `G` it finds. -/
def inv1 (c : Dev nD) (X2 : BufTy.Contents (Elt F) arg2.view.ty) (X3 : BufTy.Contents (Elt F) arg3.view.ty)
    (X4 : BufTy.Contents (Elt F) arg4.view.ty) (X5 : BufTy.Contents (Elt F) arg5.view.ty)
    (G6 : BufTy.Contents (Elt F) arg6.view.ty) (G9 : BufTy.Contents (Elt F) arg9.view.ty)
    (G10 : BufTy.Contents (Elt F) arg10.view.ty) (k : ℕ) (_u : PUnit) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (∃ f, (arg6.view.loc (c : Thread nD τ) ↦[arg6.view.set]{fullShare} f)
        ∗ ⌜arg6.view.read (Elt F) f = (stateF i (arg2.view.read (Elt F) X2) (arg3.view.read (Elt F) X3) (arg4.view.read (Elt F) X4) (arg5.view.read (Elt F) X5)
            (arg6.view.read (Elt F) G6, arg9.view.read (Elt F) G9, arg10.view.read (Elt F) G10) k).1⌝)
    ∗ (∃ f, (arg9.view.loc (c : Thread nD τ) ↦[arg9.view.set]{fullShare} f)
        ∗ ⌜arg9.view.read (Elt F) f = (stateF i (arg2.view.read (Elt F) X2) (arg3.view.read (Elt F) X3) (arg4.view.read (Elt F) X4) (arg5.view.read (Elt F) X5)
            (arg6.view.read (Elt F) G6, arg9.view.read (Elt F) G9, arg10.view.read (Elt F) G10) k).2.1⌝)
    ∗ (∃ f, (arg10.view.loc (c : Thread nD τ) ↦[arg10.view.set]{fullShare} f)
        ∗ ⌜arg10.view.read (Elt F) f = (stateF i (arg2.view.read (Elt F) X2) (arg3.view.read (Elt F) X3) (arg4.view.read (Elt F) X4) (arg5.view.read (Elt F) X5)
            (arg6.view.read (Elt F) G6, arg9.view.read (Elt F) G9, arg10.view.read (Elt F) G10) k).2.2⌝))

set_option warn.classDefReducibility false in
@[sl_loop] def loop1 (c : Dev nD) (E : Set ℕ) (arg1 : BitVec 32) (v152 : BitVec 32) (v155 : FVec F S512x128 .bf16) (v158 : FVec F S512x128 .bf16) (v160 : FVec F S2048x128 .bf16) (v169 : FVec F S2048x512 .f32) (v170 : Vec F S2048x128 .f32) (v171 : FVec F S2048x512 .bf16) (cst_103 : FVec F S2048x128 .f32) (v196 : BitVec 32) (X2 : BufTy.Contents (Elt F) arg2.view.ty) (X3 : BufTy.Contents (Elt F) arg3.view.ty)
    (X4 : BufTy.Contents (Elt F) arg4.view.ty) (X5 : BufTy.Contents (Elt F) arg5.view.ty)
    (G6 : BufTy.Contents (Elt F) arg6.view.ty) (G9 : BufTy.Contents (Elt F) arg9.view.ty)
    (G10 : BufTy.Contents (Elt F) arg10.view.ty) :
    LoopInv (M := 𝕄) Idealize.ShloMosaic.frame (wpE defs₀ Variants.none (c : Thread nD τ) none) E
      (k0_t1_loop i).lb (k0_t1_loop i).ub (k0_t1_loop i).st (k0_t1_ok i) () (k0_t1_body (F := F) i arg2 harg2 arg3 harg3 arg4 harg4 arg5 harg5 arg6 harg6 arg7 harg7 arg8 harg8 arg9 harg9 arg10 harg10 arg1 v152 v155 v158 v160 v169 v170 v171 cst_103 v196) where
  inv := inv1 i arg2 arg3 arg4 arg5 arg6 arg9 arg10 c X2 X3 X4 X5 G6 G9 G10
  step k acc := by
    unfold inv1
    iintro ⟨H2, H3, H4, H5, ⟨%f6, H6, %h6⟩, ⟨%f9, H9, %h9⟩, ⟨%f10, H10, %h10⟩⟩
    unfold k0_t1_body
    sl_exec
    sl_step
    rw [stateF_succ]
    isplitl [H2]; · iexact H2
    isplitl [H3]; · iexact H3
    isplitl [H4]; · iexact H4
    isplitl [H5]; · iexact H5
    isplitl [H6]
    · iexists _; isplitl [H6]; · iexact H6
      ipureintro
      dsimp only [tripF]
      rw [← h6]
      exact View.read_writes_cons_put (h := rfl) ..
    isplitl [H9]
    · iexists _; isplitl [H9]; · iexact H9
      ipureintro
      dsimp only [tripF]
      rw [← h9]
      exact View.read_writes_full ..
    iexists _; isplitl [H10]; · iexact H10
    ipureintro
    dsimp only [tripF]
    rw [← h10]
    exact View.read_writes_full ..

set_option warn.classDefReducibility false in
@[sl_loop] def loop2 (c : Dev nD) (E : Set ℕ) (arg1 : BitVec 32) (v152 : BitVec 32) (v155 : FVec F S512x128 .bf16) (v158 : FVec F S512x128 .bf16) (v160 : FVec F S2048x128 .bf16) (v169 : FVec F S2048x512 .f32) (v170 : Vec F S2048x128 .f32) (v171 : FVec F S2048x512 .bf16) (cst_103 : FVec F S2048x128 .f32) (v201 : BitVec 32) :
    LoopInv (M := 𝕄) Idealize.ShloMosaic.frame (wpE defs₀ Variants.none (c : Thread nD τ) none) E
      (k0_t2_loop i).lb (k0_t2_loop i).ub (k0_t2_loop i).st (k0_t2_ok i) () (k0_t2_body (F := F) i arg2 harg2 arg3 harg3 arg4 harg4 arg5 harg5 arg6 harg6 arg7 harg7 arg8 harg8 arg9 harg9 arg10 harg10 arg1 v152 v155 v158 v160 v169 v170 v171 cst_103 v201) where
  inv := fun _ _ => iprop(emp)
  step k acc := by
    exact absurd k.isLt (fun h => absurd (lt_of_lt_of_eq h (no_second i)) (Nat.not_lt_zero _))

end Cert.Kernel4Ideal.Fox

end

end
-- ==== Proof.FoxRead.lean ====
module

public import proofs.«01_k».proof.Proof.FoxLoop

/-! The body of the backward attention at one grid point, from blocks to blocks. -/

@[expose] public section

set_option maxRecDepth 16384
set_option maxHeartbeats 1000000

noncomputable section

namespace Cert.Kernel4Ideal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen

variable {F : FTy → Type} [FloatOps F] [Named F]

local notation "𝕄" => MT nD τ sig Unit (Elt F) ℕ (UR sig nD τ) ℕ

/-- The point is the first of its head. -/
abbrev isFirst (i : grid0.Coords) : Prop := Scalar.cmpi .ne (Scalar.extui (Scalar.cmpi .eq (BitVec.ofNat 32 (i 1).val) 0#32)) 0#32 = 1#1
/-- The point is the last of its head. -/
abbrev isLast (i : grid0.Coords) : Prop := Scalar.cmpi .ne (Scalar.extui (Scalar.cmpi .eq (BitVec.ofNat 32 (i 1).val) 3#32)) 0#32 = 1#1

/-- An accumulator cleared, then its first quarter, half, three quarters and the whole of it rewritten. -/
theorem acc_read (v : View sig .tc .vmem S2048x128 .f32) (z : Vec F S2048x128 .f32)
    (f1 : Vec F S512x128 .f32 → Vec F S512x128 .f32) (f2 : Vec F S1024x128 .f32 → Vec F S1024x128 .f32)
    (f3 : Vec F S1536x128 .f32 → Vec F S1536x128 .f32) (g : Vec F S2048x128 .f32 → Vec F S2048x128 .f32) :
    let L1 : List (View.Piece (Elt F) S2048x128 .f32) := [⟨Rect.unit (s := S2048x128) ![0, 0] S2048x128.size inb_S2048x128_S2048x128_0_0, z⟩]
    let L2 : List (View.Piece (Elt F) S2048x128 .f32) := ⟨Rect.unit (s := S2048x128) ![0, 0] S512x128.size inb_S2048x128_S512x128_0_0,
      f1 (v.readCov L1 (Rect.unit (s := S2048x128) ![0, 0] S512x128.size inb_S2048x128_S512x128_0_0).toLoadRect)⟩ :: L1
    let L3 : List (View.Piece (Elt F) S2048x128 .f32) := ⟨Rect.unit (s := S2048x128) ![0, 0] S1024x128.size inb_S2048x128_S1024x128_0_0,
      f2 (v.readCov L2 (Rect.unit (s := S2048x128) ![0, 0] S1024x128.size inb_S2048x128_S1024x128_0_0).toLoadRect)⟩ :: L2
    let L4 : List (View.Piece (Elt F) S2048x128 .f32) := ⟨Rect.unit (s := S2048x128) ![0, 0] S1536x128.size inb_S2048x128_S1536x128_0_0,
      f3 (v.readCov L3 (Rect.unit (s := S2048x128) ![0, 0] S1536x128.size inb_S2048x128_S1536x128_0_0).toLoadRect)⟩ :: L3
    let y1 := VecWindow.put z ![0, 0] S512x128.size (f1 (acc1 z))
    let y2 := VecWindow.put y1 ![0, 0] S1024x128.size (f2 (acc2 y1))
    let y3 := VecWindow.put y2 ![0, 0] S1536x128.size (f3 (acc3 y2))
    v.read (Elt F) (v.writes (Elt F) v.junk (⟨Rect.unit (s := S2048x128) ![0, 0] S2048x128.size inb_S2048x128_S2048x128_0_0,
        g (v.readCov L4 (Rect.unit ![0, 0] S2048x128.size inb_S2048x128_S2048x128_0_0).toLoadRect)⟩ :: L4))
      = g (acc4 y3) := by
  intro L1 L2 L3 L4 y1 y2 y3
  have z1 : v.read (Elt F) (v.writes (Elt F) v.junk L1) = z := View.read_writes_full ..
  have z2 : v.read (Elt F) (v.writes (Elt F) v.junk L2) = y1 := by
    refine (View.read_writes_cons_put (h := rfl) ..).trans ?_
    show VecWindow.put (v.read (Elt F) (v.writes (Elt F) v.junk L1)) ![0, 0] S512x128.size
      (f1 (acc1 (v.read (Elt F) (v.writes (Elt F) v.junk L1)))) = _
    rw [z1]
  have z3 : v.read (Elt F) (v.writes (Elt F) v.junk L3) = y2 := by
    refine (View.read_writes_cons_put (h := rfl) ..).trans ?_
    show VecWindow.put (v.read (Elt F) (v.writes (Elt F) v.junk L2)) ![0, 0] S1024x128.size
      (f2 (acc2 (v.read (Elt F) (v.writes (Elt F) v.junk L2)))) = _
    rw [z2]
  have z4 : v.read (Elt F) (v.writes (Elt F) v.junk L4) = y3 := by
    refine (View.read_writes_cons_put (h := rfl) ..).trans ?_
    show VecWindow.put (v.read (Elt F) (v.writes (Elt F) v.junk L3)) ![0, 0] S1536x128.size
      (f3 (acc3 (v.read (Elt F) (v.writes (Elt F) v.junk L3)))) = _
    rw [z3]
  refine (View.read_writes_full ..).trans ?_
  show g (acc4 (v.read (Elt F) (v.writes (Elt F) v.junk L4))) = _
  rw [z4]

/-- The diagonal's blocks of rows, by their places. -/
theorem off_rows (i : grid0.Coords) (r : Fin 4) : k0_off2 i (BitVec.ofNat 32 r.val) = ![(i 1).val * 2048 + r.val * 512, 0] := by
  have h : ∀ j : Fin 4, ∀ r : Fin 4, ∀ i : grid0.Coords, (i 1).val = j.val →
      k0_off2 i (BitVec.ofNat 32 r.val) = ![(i 1).val * 2048 + r.val * 512, 0] := by
    intro j r i hj
    dsimp only [k0_off2]
    rw [hj]
    clear hj i
    revert j r
    decide +kernel
  exact h (i 1) r i rfl

/-- A block of rows rewritten leaves the rows of an other one. -/
theorem rows_put (i : grid0.Coords) (r q : Fin 4) (h : r ≠ q) (z : Vec F S8192x128 .f32) (w : Vec F S512x128 .f32) :
    rowsD (VecWindow.put z (k0_off2 i (BitVec.ofNat 32 r.val)) S512x128.size w) (k0_off2 i (BitVec.ofNat 32 q.val)) (inbR i q)
      = rowsD z (k0_off2 i (BitVec.ofNat 32 q.val)) (inbR i q) := by
  have e0 : k0_off2 i (BitVec.ofNat 32 r.val) 0 = (i 1).val * 2048 + r.val * 512 := congrFun (off_rows i r) 0
  have e1 : k0_off2 i (BitVec.ofNat 32 q.val) 0 = (i 1).val * 2048 + q.val * 512 := congrFun (off_rows i q) 0
  have hs : S512x128.size 0 = 512 := rfl
  have hne : r.val ≠ q.val := fun e => h (Fin.ext e)
  exact VecWindow.window_put_of_disjoint z (k0_off2 i (BitVec.ofNat 32 r.val)) S512x128.size (k0_off2 i (BitVec.ofNat 32 q.val)) S512x128.size (inbR i q) _ 0
      (by rw [e0, e1, hs]; omega)

/-- Four blocks of rows of the gradient of the queries rewritten, one after the other. -/
theorem dq_read (v : View sig .tc .vmem S8192x128 .f32) (f : v.ty.Contents (Elt F)) (i : grid0.Coords)
    (g1 g2 g3 g4 : Vec F S512x128 .f32 → Vec F S512x128 .f32) :
    let y0 := v.read (Elt F) f
    let y1 := VecWindow.put y0 (k0_off2 i 0#32) S512x128.size (g1 (rowsD y0 (k0_off2 i 0#32) (inbR i 0)))
    let y2 := VecWindow.put y1 (k0_off2 i 1#32) S512x128.size (g2 (rowsD y1 (k0_off2 i 1#32) (inbR i 1)))
    let y3 := VecWindow.put y2 (k0_off2 i 2#32) S512x128.size (g3 (rowsD y2 (k0_off2 i 2#32) (inbR i 2)))
    v.read (Elt F) (v.writes (Elt F) f [⟨Rect.unit (s := S8192x128) (k0_off2 i 3#32) S512x128.size (inbR i 3), g4 (rowsD y0 (k0_off2 i 3#32) (inbR i 3))⟩,
        ⟨Rect.unit (s := S8192x128) (k0_off2 i 2#32) S512x128.size (inbR i 2), g3 (rowsD y0 (k0_off2 i 2#32) (inbR i 2))⟩,
        ⟨Rect.unit (s := S8192x128) (k0_off2 i 1#32) S512x128.size (inbR i 1), g2 (rowsD y0 (k0_off2 i 1#32) (inbR i 1))⟩,
        ⟨Rect.unit (s := S8192x128) (k0_off2 i 0#32) S512x128.size (inbR i 0), g1 (rowsD y0 (k0_off2 i 0#32) (inbR i 0))⟩])
      = VecWindow.put y3 (k0_off2 i 3#32) S512x128.size (g4 (rowsD y3 (k0_off2 i 3#32) (inbR i 3))) := by
  intro y0 y1 y2 y3
  have r1 : rowsD y1 (k0_off2 i 1#32) (inbR i 1) = rowsD y0 (k0_off2 i 1#32) (inbR i 1) := rows_put i 0 1 (by decide) y0 _
  have r2 : rowsD y2 (k0_off2 i 2#32) (inbR i 2) = rowsD y0 (k0_off2 i 2#32) (inbR i 2) :=
    (rows_put i 1 2 (by decide) y1 _).trans (rows_put i 0 2 (by decide) y0 _)
  have r3 : rowsD y3 (k0_off2 i 3#32) (inbR i 3) = rowsD y0 (k0_off2 i 3#32) (inbR i 3) :=
    (rows_put i 2 3 (by decide) y2 _).trans ((rows_put i 1 3 (by decide) y1 _).trans (rows_put i 0 3 (by decide) y0 _))
  have w1 : v.read (Elt F) (v.writes (Elt F) f [⟨Rect.unit (s := S8192x128) (k0_off2 i 0#32) S512x128.size (inbR i 0), g1 (rowsD y0 (k0_off2 i 0#32) (inbR i 0))⟩]) = y1 :=
    (View.read_writes_cons_put v f (inbR i 0) _ _ rfl).trans (by rw [View.writes_nil]; rfl)
  have w2 : v.read (Elt F) (v.writes (Elt F) f [⟨Rect.unit (s := S8192x128) (k0_off2 i 1#32) S512x128.size (inbR i 1), g2 (rowsD y0 (k0_off2 i 1#32) (inbR i 1))⟩,
      ⟨Rect.unit (s := S8192x128) (k0_off2 i 0#32) S512x128.size (inbR i 0), g1 (rowsD y0 (k0_off2 i 0#32) (inbR i 0))⟩]) = y2 :=
    (View.read_writes_cons_put v f (inbR i 1) _ _ rfl).trans (by rw [← r1, w1]; rfl)
  have w3 : v.read (Elt F) (v.writes (Elt F) f [⟨Rect.unit (s := S8192x128) (k0_off2 i 2#32) S512x128.size (inbR i 2), g3 (rowsD y0 (k0_off2 i 2#32) (inbR i 2))⟩,
      ⟨Rect.unit (s := S8192x128) (k0_off2 i 1#32) S512x128.size (inbR i 1), g2 (rowsD y0 (k0_off2 i 1#32) (inbR i 1))⟩,
      ⟨Rect.unit (s := S8192x128) (k0_off2 i 0#32) S512x128.size (inbR i 0), g1 (rowsD y0 (k0_off2 i 0#32) (inbR i 0))⟩]) = y3 :=
    (View.read_writes_cons_put v f (inbR i 2) _ _ rfl).trans (by rw [← r2, w2]; rfl)
  exact (View.read_writes_cons_put v f (inbR i 3) _ _ rfl).trans (by rw [← r3, w3]; rfl)

/-- The gradient of the queries cleared, then four blocks of its rows rewritten. -/
theorem dq_first (v : View sig .tc .vmem S8192x128 .f32) (i : grid0.Coords) (z : Vec F S8192x128 .f32)
    (g1 g2 g3 g4 : Vec F S512x128 .f32 → Vec F S512x128 .f32) :
    let L1 : List (View.Piece (Elt F) S8192x128 .f32) := [⟨Rect.unit (s := S8192x128) ![0, 0] S8192x128.size inb_S8192x128_S8192x128_0_0, z⟩]
    let L2 : List (View.Piece (Elt F) S8192x128 .f32) := ⟨Rect.unit (s := S8192x128) (k0_off2 i 0#32) S512x128.size (inbR i 0),
      g1 (v.readAt (Elt F) (Rect.unit (s := S8192x128) (k0_off2 i 0#32) S512x128.size (inbR i 0)).toLoadRect (v.writes (Elt F) v.junk L1))⟩ :: L1
    let L3 : List (View.Piece (Elt F) S8192x128 .f32) := ⟨Rect.unit (s := S8192x128) (k0_off2 i 1#32) S512x128.size (inbR i 1),
      g2 (v.readAt (Elt F) (Rect.unit (s := S8192x128) (k0_off2 i 1#32) S512x128.size (inbR i 1)).toLoadRect (v.writes (Elt F) v.junk L2))⟩ :: L2
    let L4 : List (View.Piece (Elt F) S8192x128 .f32) := ⟨Rect.unit (s := S8192x128) (k0_off2 i 2#32) S512x128.size (inbR i 2),
      g3 (v.readAt (Elt F) (Rect.unit (s := S8192x128) (k0_off2 i 2#32) S512x128.size (inbR i 2)).toLoadRect (v.writes (Elt F) v.junk L3))⟩ :: L3
    let y1 := VecWindow.put z (k0_off2 i 0#32) S512x128.size (g1 (rowsD z (k0_off2 i 0#32) (inbR i 0)))
    let y2 := VecWindow.put y1 (k0_off2 i 1#32) S512x128.size (g2 (rowsD y1 (k0_off2 i 1#32) (inbR i 1)))
    let y3 := VecWindow.put y2 (k0_off2 i 2#32) S512x128.size (g3 (rowsD y2 (k0_off2 i 2#32) (inbR i 2)))
    v.read (Elt F) (v.writes (Elt F) v.junk (⟨Rect.unit (s := S8192x128) (k0_off2 i 3#32) S512x128.size (inbR i 3),
        g4 (v.readAt (Elt F) (Rect.unit (s := S8192x128) (k0_off2 i 3#32) S512x128.size (inbR i 3)).toLoadRect (v.writes (Elt F) v.junk L4))⟩ :: L4))
      = VecWindow.put y3 (k0_off2 i 3#32) S512x128.size (g4 (rowsD y3 (k0_off2 i 3#32) (inbR i 3))) := by
  intro L1 L2 L3 L4 y1 y2 y3
  have step : ∀ (L : List (View.Piece (Elt F) S8192x128 .f32)) (r : Fin 4) (g : Vec F S512x128 .f32 → Vec F S512x128 .f32) (y : Vec F S8192x128 .f32),
      v.read (Elt F) (v.writes (Elt F) v.junk L) = y →
      v.read (Elt F) (v.writes (Elt F) v.junk (⟨Rect.unit (s := S8192x128) (k0_off2 i (BitVec.ofNat 32 r.val)) S512x128.size (inbR i r),
        g (v.readAt (Elt F) (Rect.unit (s := S8192x128) (k0_off2 i (BitVec.ofNat 32 r.val)) S512x128.size (inbR i r)).toLoadRect (v.writes (Elt F) v.junk L))⟩ :: L))
      = VecWindow.put y (k0_off2 i (BitVec.ofNat 32 r.val)) S512x128.size (g (rowsD y (k0_off2 i (BitVec.ofNat 32 r.val)) (inbR i r))) := by
    intro L r g y h
    refine (View.read_writes_cons_put (h := rfl) ..).trans ?_
    show VecWindow.put (v.read (Elt F) (v.writes (Elt F) v.junk L)) _ S512x128.size (g (rowsD (v.read (Elt F) (v.writes (Elt F) v.junk L)) _ _)) = _
    rw [h]
  exact step L4 3 g4 y3 (step L3 2 g3 y2 (step L2 1 g2 y1 (step L1 0 g1 z (View.read_writes_full ..))))

end Cert.Kernel4Ideal.Fox

end

end
-- ==== Proof.FoxState.lean ====
module

public import proofs.«01_k».proof.Proof.FoxVal
public import proofs.«01_k».proof.Proof.FoxRead

/-! The three blocks after each step of a grid point, as sums over the query rows met so far. -/

@[expose] public section

set_option maxRecDepth 16384

noncomputable section

open Idealize.ShloMosaic Idealize.ShloMosaic.TcCoe

namespace Cert.Kernel4Ideal.Fox

open Cert.Kernel4Ideal.Gen Cert.Attn

/-- A window of rows of an array of two axes, at coordinates. -/
theorem window_rows2 {α : Type} {N D c : ℕ} (x : (⟨2, ![N, D]⟩ : Shape).Idx → α) (off : Fin 2 → ℕ) (n : ℕ) (ho : off = ![n, 0])
    (inb : ∀ a, off a + (⟨2, ![c, D]⟩ : Shape).size a ≤ (⟨2, ![N, D]⟩ : Shape).size a) (u : Fin c) (j : Fin D) (t : Fin N) (h : t.val = n + u.val) :
    VecWindow.window (s := ⟨2, ![N, D]⟩) x off (⟨2, ![c, D]⟩ : Shape).size inb (ix2 u j) = x (ix2 t j) := by
  subst ho
  exact (win_rows x n inb u j (h ▸ t.isLt)).trans (congrArg (fun t => x (ix2 t j)) (Fin.ext h.symm))

/-- A window of rows put over an array of two axes, at a row inside it. -/
theorem put_rows2_in {α : Type} {N D c : ℕ} (x : (⟨2, ![N, D]⟩ : Shape).Idx → α) (off : Fin 2 → ℕ) (n : ℕ) (ho : off = ![n, 0])
    (w : (⟨2, ![c, D]⟩ : Shape).Idx → α) (t : Fin N) (j : Fin D) (u : Fin c) (hu : t.val = n + u.val) :
    VecWindow.put (s := ⟨2, ![N, D]⟩) x off (⟨2, ![c, D]⟩ : Shape).size w (ix2 t j) = w (ix2 u j) := by
  subst ho
  exact put_in x n w t j u hu

/-- The same at a row outside it. -/
theorem put_rows2_out {α : Type} {N D c : ℕ} (x : (⟨2, ![N, D]⟩ : Shape).Idx → α) (off : Fin 2 → ℕ) (n : ℕ) (ho : off = ![n, 0])
    (w : (⟨2, ![c, D]⟩ : Shape).Idx → α) (t : Fin N) (j : Fin D) (ht : t.val < n ∨ n + c ≤ t.val) :
    VecWindow.put (s := ⟨2, ![N, D]⟩) x off (⟨2, ![c, D]⟩ : Shape).size w (ix2 t j) = x (ix2 t j) := by
  subst ho
  refine dif_neg fun hh => ?_
  have h1 := hh (0 : Fin 2)
  have a1 : n ≤ t.val := h1.1
  have a2 : t.val < n + c := h1.2
  omega

/-- The diagonal's blocks of rows of the query side, by their places. -/
theorem off_diag (i : grid0.Coords) (r : Fin 4) : k0_off1 i (BitVec.ofNat 32 r.val) = ![0, (i 1).val * 2048 + r.val * 512, 0] := by
  have h : ∀ j : Fin 4, ∀ r : Fin 4, ∀ i : grid0.Coords, (i 1).val = j.val →
      k0_off1 i (BitVec.ofNat 32 r.val) = ![0, (i 1).val * 2048 + r.val * 512, 0] := by
    intro j r i hj
    dsimp only [k0_off1]
    rw [hj]
    clear hj i
    revert j r
    decide +kernel
  exact h (i 1) r i rfl

theorem trips_eq (i : grid0.Coords) : (k0_t1_loop i).trips = 12 - 4 * (i 1).val := by
  have h : ∀ j : Fin 4, ∀ i : grid0.Coords, (i 1).val = j.val → (k0_t1_loop i).trips = 12 - 4 * (i 1).val := by
    intro j i hj
    dsimp only [k0_t1_loop, Scf.Loop.trips]
    rw [hj]
    clear hj i
    revert j
    decide +kernel
  exact h (i 1) i rfl

theorem off_later (i : grid0.Coords) (k : Fin (k0_t1_loop i).trips) : k0_off3 i k = ![0, (i 1).val * 2048 + 2048 + k.val * 512, 0] := by
  have hk : k.val < 12 - 4 * (i 1).val := lt_of_lt_of_eq k.isLt (trips_eq i)
  have h : ∀ j : Fin 4, ∀ l : Fin 12, ∀ i : grid0.Coords, ∀ k : Fin (k0_t1_loop i).trips, (i 1).val = j.val → k.val = l.val → l.val < 12 - 4 * j.val →
      k0_off3 i k = ![0, (i 1).val * 2048 + 2048 + k.val * 512, 0] := by
    intro j l i k hj hl hlt
    dsimp only [k0_off3, Scf.iv]
    rw [hj, hl]
    clear hj hl i k
    revert j l
    decide +kernel
  exact h (i 1) ⟨k.val, by omega⟩ i k rfl rfl hk

theorem off_laterD (i : grid0.Coords) (k : Fin (k0_t1_loop i).trips) : k0_off4 i k = ![(i 1).val * 2048 + 2048 + k.val * 512, 0] := by
  have hk : k.val < 12 - 4 * (i 1).val := lt_of_lt_of_eq k.isLt (trips_eq i)
  have h : ∀ j : Fin 4, ∀ l : Fin 12, ∀ i : grid0.Coords, ∀ k : Fin (k0_t1_loop i).trips, (i 1).val = j.val → k.val = l.val → l.val < 12 - 4 * j.val →
      k0_off4 i k = ![(i 1).val * 2048 + 2048 + k.val * 512, 0] := by
    intro j l i k hj hl hlt
    dsimp only [k0_off4, Scf.iv]
    rw [hj, hl]
    clear hj hl i k
    revert j l
    decide +kernel
  exact h (i 1) ⟨k.val, by omega⟩ i k rfl rfl hk

theorem allQ_eq (x : FVec Ideal S8192x128 .f32) : allQ (F := Ideal) x = x :=
  funext fun y => congrArg x (funext fun a => Fin.ext (by
    show (![0, 0] : Fin 2 → ℕ) a + 1 * (y a).val = (y a).val
    match a with
    | ⟨0, _⟩ => show 0 + 1 * _ = _; omega
    | ⟨1, _⟩ => show 0 + 1 * _ = _; omega))

theorem acc4_eq (x : FVec Ideal S2048x128 .f32) : acc4 (F := Ideal) x = x :=
  funext fun y => congrArg x (funext fun a => Fin.ext (by
    show (![0, 0] : Fin 2 → ℕ) a + 1 * (y a).val = (y a).val
    match a with
    | ⟨0, _⟩ => show 0 + 1 * _ = _; omega
    | ⟨1, _⟩ => show 0 + 1 * _ = _; omega))

theorem keys4_eq (x : FVec Ideal S1x2048x128 .bf16) : keys4 (F := Ideal) (e := .bf16) x = x :=
  funext fun y => congrArg x (funext fun a => Fin.ext (by
    show (![0, 0, 0] : Fin 3 → ℕ) a + 1 * (y a).val = (y a).val
    match a with
    | ⟨0, _⟩ => show 0 + 1 * _ = _; omega
    | ⟨1, _⟩ => show 0 + 1 * _ = _; omega
    | ⟨2, _⟩ => show 0 + 1 * _ = _; omega))

theorem rowsQ_at (x : FVec Ideal S1x8192x128 .bf16) (off : Fin 3 → ℕ) (n : ℕ) (ho : off = ![0, n, 0]) (inb) (u : Fin 512) (j : Fin 128) (h : n + u.val < 8192) :
    rowsQ (F := Ideal) (e := .bf16) x off inb (ix3 0 u j) = x (ix3 0 ⟨n + u.val, h⟩ j) :=
  window_rows (c := 512) x off n ho inb u j h

theorem rowsD_at (x : FVec Ideal S8192x128 .f32) (off : Fin 2 → ℕ) (n : ℕ) (ho : off = ![n, 0]) (inb) (u : Fin 512) (j : Fin 128) (t : Fin 8192) (h : t.val = n + u.val) :
    rowsD (F := Ideal) x off inb (ix2 u j) = x (ix2 t j) :=
  window_rows2 (c := 512) x off n ho inb u j t h

/-- The first rows of a block of keys. -/
theorem keys_at {L : ℕ} (x : FVec Ideal S1x2048x128 .bf16) (hL : L ≤ 2048)
    (inb : ∀ a, (![0, 0, 0] : Fin 3 → ℕ) a + (⟨3, ![1, L, 128]⟩ : Shape).size a ≤ S1x2048x128.size a) (s : Fin L) (j : Fin 128) :
    VecWindow.window (s := S1x2048x128) x ![0, 0, 0] (⟨3, ![1, L, 128]⟩ : Shape).size inb (ix3 0 s j) = x (ix3 0 ⟨s.val, by omega⟩ j) := by
  refine (window_rows (c := L) x ![0, 0, 0] 0 rfl inb s j (by omega)).trans ?_
  exact congrArg x (by congr 1; exact Fin.ext (Nat.zero_add _))

/-- The weight of a key of a block for a query, and what its product with the weight's gradient is. -/
def wt (b : ℕ) (x0 : FVec Ideal S1x8192x128 .bf16) (x1 : FVec Ideal S1x2048x128 .bf16) (s : Fin 2048) (t : Fin 8192) : EReal :=
  if b + s.val ≤ t.val then Ideal.exp (dotKQ x1 s x0 t) else 0

def gs (b : ℕ) (x0 : FVec Ideal S1x8192x128 .bf16) (x1 x2 : FVec Ideal S1x2048x128 .bf16) (x3 : FVec Ideal S1x8192x128 .bf16)
    (s : Fin 2048) (t : Fin 8192) : EReal :=
  wt b x0 x1 s t * dotKQ x2 s x3 t

/-- The blocks when the query rows below `n` have been met. -/
structure Met (b : ℕ) (x0 : FVec Ideal S1x8192x128 .bf16) (x1 x2 : FVec Ideal S1x2048x128 .bf16) (x3 : FVec Ideal S1x8192x128 .bf16)
    (dq : FVec Ideal S8192x128 .f32) (n : ℕ) (X : Acc Ideal) : Prop where
  q : ∀ (t : Fin 8192) (d : Fin 128), X.1 (ix2 t d)
    = dq (ix2 t d) + if t.val < n then ∑ s : Fin 2048, gs b x0 x1 x2 x3 s t * x1 (ix3 0 s d) else 0
  k : ∀ (s : Fin 2048) (d : Fin 128), X.2.1 (ix2 s d) = ∑ t : Fin 8192, if t.val < n then gs b x0 x1 x2 x3 s t * x0 (ix3 0 t d) else 0
  v : ∀ (s : Fin 2048) (d : Fin 128), X.2.2 (ix2 s d) = ∑ t : Fin 8192, if t.val < n then wt b x0 x1 s t * x3 (ix3 0 t d) else 0

variable (x0 : FVec Ideal S1x8192x128 .bf16) (x1 x2 : FVec Ideal S1x2048x128 .bf16) (x3 : FVec Ideal S1x8192x128 .bf16)
  (dq : FVec Ideal S8192x128 .f32)

theorem wt_on (b : ℕ) (s : Fin 2048) (t : Fin 8192) (h : b + s.val ≤ t.val) : wt b x0 x1 s t = Ideal.exp (dotKQ x1 s x0 t) := if_pos h
theorem wt_off (b : ℕ) (s : Fin 2048) (t : Fin 8192) (h : t.val < b + s.val) : wt b x0 x1 s t = 0 := if_neg (by omega)
theorem gs_off (b : ℕ) (s : Fin 2048) (t : Fin 8192) (h : t.val < b + s.val) : gs b x0 x1 x2 x3 s t = 0 := by
  rw [gs, wt_off x0 x1 b s t h, zero_mul]

/-- One step over 512 query rows from row `n` on, for the first `L` keys of the block; the later keys come after all these rows. -/
theorem met_step {b n L : ℕ} (hL : L ≤ 2048) (hN : n + 512 ≤ 8192) (hs : L < 2048 → n + 512 ≤ b + L)
    (w : Fin L → Fin 512 → EReal) (g : Fin L → Fin 512 → EReal)
    (hw : ∀ s u, w s u = wt b x0 x1 ⟨s.val, by omega⟩ ⟨n + u.val, by omega⟩)
    (hg : ∀ s u, g s u = gs b x0 x1 x2 x3 ⟨s.val, by omega⟩ ⟨n + u.val, by omega⟩)
    (X Y : Acc Ideal)
    (hq : ∀ (t : Fin 8192) (d : Fin 128) (u : Fin 512), t.val = n + u.val → Y.1 (ix2 t d) = X.1 (ix2 t d) + ∑ s : Fin L, g s u * x1 (ix3 0 ⟨s.val, by omega⟩ d))
    (hq' : ∀ (t : Fin 8192) (d : Fin 128), t.val < n ∨ n + 512 ≤ t.val → Y.1 (ix2 t d) = X.1 (ix2 t d))
    (hk : ∀ (s : Fin 2048) (d : Fin 128) (h : s.val < L), Y.2.1 (ix2 s d) = X.2.1 (ix2 s d) + ∑ u : Fin 512, g ⟨s.val, h⟩ u * x0 (ix3 0 ⟨n + u.val, by omega⟩ d))
    (hk' : ∀ (s : Fin 2048) (d : Fin 128), L ≤ s.val → Y.2.1 (ix2 s d) = X.2.1 (ix2 s d))
    (hv : ∀ (s : Fin 2048) (d : Fin 128) (h : s.val < L), Y.2.2 (ix2 s d) = X.2.2 (ix2 s d) + ∑ u : Fin 512, w ⟨s.val, h⟩ u * x3 (ix3 0 ⟨n + u.val, by omega⟩ d))
    (hv' : ∀ (s : Fin 2048) (d : Fin 128), L ≤ s.val → Y.2.2 (ix2 s d) = X.2.2 (ix2 s d))
    (h : Met b x0 x1 x2 x3 dq n X) : Met b x0 x1 x2 x3 dq (n + 512) Y := by
  refine ⟨fun t d => ?_, fun s d => ?_, fun s d => ?_⟩
  · by_cases ht : n ≤ t.val ∧ t.val < n + 512
    · obtain ⟨u, hu⟩ : ∃ u : Fin 512, t.val = n + u.val := ⟨⟨t.val - n, by omega⟩, by simp only; omega⟩
      have et : (⟨n + u.val, by omega⟩ : Fin 8192) = t := Fin.ext hu.symm
      rw [hq t d u hu, h.q t d, if_neg (by omega), add_zero, if_pos ht.2,
        sum_first (fun s : Fin 2048 => gs b x0 x1 x2 x3 s t * x1 (ix3 0 s d)) L hL (fun s hs' => by
          have := hs (by omega)
          rw [gs_off _ _ _ _ _ _ _ (by omega), zero_mul])]
      refine congrArg _ (Finset.sum_congr rfl fun s _ => ?_)
      rw [hg, et]
    · rw [hq' t d (by omega), h.q t d]
      by_cases h1 : t.val < n
      · rw [if_pos h1, if_pos (by omega)]
      · rw [if_neg h1, if_neg (by omega)]
  · rw [sum_below_add _ n 512 hN]
    by_cases h1 : s.val < L
    · rw [hk s d h1, h.k s d]
      refine congrArg _ (Finset.sum_congr rfl fun u _ => ?_)
      rw [hg]
    · have := hs (by omega)
      rw [hk' s d (by omega), h.k s d, Finset.sum_eq_zero (fun u _ => by
        rw [gs_off _ _ _ _ _ _ _ (by show n + u.val < b + s.val; omega), zero_mul] : ∀ u ∈ (Finset.univ : Finset (Fin 512)), _ = (0 : EReal)), add_zero]
  · rw [sum_below_add _ n 512 hN]
    by_cases h1 : s.val < L
    · rw [hv s d h1, h.v s d]
      refine congrArg _ (Finset.sum_congr rfl fun u _ => ?_)
      rw [hw]
    · have := hs (by omega)
      rw [hv' s d (by omega), h.v s d, Finset.sum_eq_zero (fun u _ => by
        rw [wt_off _ _ _ _ _ (by show n + u.val < b + s.val; omega), zero_mul] : ∀ u ∈ (Finset.univ : Finset (Fin 512)), _ = (0 : EReal)), add_zero]

theorem dot_eq {L : ℕ} (hL : L ≤ 2048) {n : ℕ} (hN : n + 512 ≤ 8192) (x : FVec Ideal S1x2048x128 .bf16) (y : FVec Ideal S1x8192x128 .bf16)
    (k : FVec Ideal ⟨3, ![1, L, 128]⟩ .bf16) (a : FVec Ideal S1x512x128 .bf16)
    (hk : ∀ s j, k (ix3 0 s j) = x (ix3 0 ⟨s.val, by omega⟩ j)) (ha : ∀ u j, a (ix3 0 u j) = y (ix3 0 ⟨n + u.val, by omega⟩ j)) (s : Fin L) (u : Fin 512) :
    dotKQ k s a u = dotKQ x ⟨s.val, by omega⟩ y ⟨n + u.val, by omega⟩ :=
  Finset.sum_congr rfl fun j _ => by rw [hk, ha]

theorem wtAt_eq {L o b n : ℕ} (hL : L ≤ 2048) (hn : n = b + o) (hN : n + 512 ≤ 8192)
    (k : FVec Ideal ⟨3, ![1, L, 128]⟩ .bf16) (a : FVec Ideal S1x512x128 .bf16)
    (hk : ∀ s j, k (ix3 0 s j) = x1 (ix3 0 ⟨s.val, by omega⟩ j)) (ha : ∀ u j, a (ix3 0 u j) = x0 (ix3 0 ⟨n + u.val, by omega⟩ j)) (s : Fin L) (u : Fin 512) :
    wtAt o k a s u = wt b x0 x1 ⟨s.val, by omega⟩ ⟨n + u.val, by omega⟩ := by
  rw [wtAt, dot_eq hL hN x1 x0 k a hk ha]
  by_cases h : s.val ≤ u.val + o
  · rw [if_pos h, wt_on _ _ _ _ _ (by show b + s.val ≤ n + u.val; omega)]
  · rw [if_neg h, wt_off _ _ _ _ _ (by show n + u.val < b + s.val; omega)]

theorem met_diag1 (i : grid0.Coords) (b : ℕ) (hb : b = (i 1).val * 2048) (X : Acc Ideal) (h : Met b x0 x1 x2 x3 dq (b + 0) X) :
    Met b x0 x1 x2 x3 dq (b + 0 + 512) (diag1 (F := Ideal) i x0 x1 x2 x3 X) := by
  have hi : (i 1).val < 4 := (i 1).isLt
  have ho : k0_off1 i 0#32 = _ := off_diag i 0
  have hr : k0_off2 i 0#32 = _ := off_rows i 0
  replace ho := ho.trans (show _ = ![0, b + 0, 0] by rw [hb]; rfl)
  replace hr := hr.trans (show _ = ![b + 0, 0] by rw [hb]; rfl)
  have hN : b + 0 + 512 ≤ 8192 := by omega
  have hk1 : ∀ (s : Fin 512) (j : Fin 128), keys1 (F := Ideal) (e := .bf16) x1 (ix3 0 s j) = x1 (ix3 0 ⟨s.val, by omega⟩ j) := keys_at (L := 512) x1 (by omega) _
  have hk2 : ∀ (s : Fin 512) (j : Fin 128), keys1 (F := Ideal) (e := .bf16) x2 (ix3 0 s j) = x2 (ix3 0 ⟨s.val, by omega⟩ j) := keys_at (L := 512) x2 (by omega) _
  have ha : ∀ (u : Fin 512) (j : Fin 128), rowA1 (F := Ideal) i x0 (ix3 0 u j) = x0 (ix3 0 ⟨b + 0 + u.val, by omega⟩ j) := fun u j => rowsQ_at x0 _ _ ho _ u j _
  have hb3 : ∀ (u : Fin 512) (j : Fin 128), rowA1 (F := Ideal) i x3 (ix3 0 u j) = x3 (ix3 0 ⟨b + 0 + u.val, by omega⟩ j) := fun u j => rowsQ_at x3 _ _ ho _ u j _
  have hw := wtAt_eq (L := 512) (o := 0) (b := b) x0 x1 (by omega) rfl hN (keys1 (F := Ideal) (e := .bf16) x1) (rowA1 (F := Ideal) i x0) hk1 ha
  refine met_step (L := 512) x0 x1 x2 x3 dq (by omega) hN (by omega) _ _ hw (fun s u => ?_ : ∀ s u, gsAt 0 (keys1 (F := Ideal) (e := .bf16) x1) (keys1 (F := Ideal) (e := .bf16) x2) (rowA1 (F := Ideal) i x0) (rowA1 (F := Ideal) i x3) s u = _) X _
    (fun t d u hu => ?_) (fun t d ht => ?_) (fun s d hs => ?_) (fun s d hs => ?_) (fun s d hs => ?_) (fun s d hs => ?_) h
  · rw [gsAt, hw, dot_eq (L := 512) (by omega) hN x2 x3 _ _ hk2 hb3, gs]
    rfl
  · refine (put_rows2_in (c := 512) X.1 _ _ hr _ t d u hu).trans ?_
    refine (dq1_at _ _ _ _ _ u d).trans ?_
    rw [rowsD_at X.1 _ _ hr _ u d t hu]
    exact congrArg _ (Finset.sum_congr rfl fun s _ => by rw [hk1])
  · exact put_rows2_out (c := 512) X.1 _ _ hr _ t d ht
  · refine (put_top_in (c := 512) _ _ s d hs).trans ?_
    refine (dk1_at _ _ _ _ _ ⟨s.val, hs⟩ d).trans ?_
    rw [show acc1 (F := Ideal) X.2.1 (ix2 ⟨s.val, hs⟩ d) = X.2.1 (ix2 s d) from window_top (c := 512) X.2.1 inb_S2048x128_S512x128_0_0 ⟨s.val, hs⟩ d s.isLt]
    exact congrArg _ (Finset.sum_congr rfl fun u _ => by rw [ha]; rfl)
  · exact put_top_out (c := 512) _ _ s d hs
  · refine (put_top_in (c := 512) _ _ s d hs).trans ?_
    refine (dv1_at _ _ _ _ ⟨s.val, hs⟩ d).trans ?_
    rw [show acc1 (F := Ideal) X.2.2 (ix2 ⟨s.val, hs⟩ d) = X.2.2 (ix2 s d) from window_top (c := 512) X.2.2 inb_S2048x128_S512x128_0_0 ⟨s.val, hs⟩ d s.isLt]
    exact congrArg _ (Finset.sum_congr rfl fun u _ => by rw [hb3]; rfl)
  · exact put_top_out (c := 512) _ _ s d hs

theorem met_diag2 (i : grid0.Coords) (b : ℕ) (hb : b = (i 1).val * 2048) (X : Acc Ideal) (h : Met b x0 x1 x2 x3 dq (b + 512) X) :
    Met b x0 x1 x2 x3 dq (b + 512 + 512) (diag2 (F := Ideal) i x0 x1 x2 x3 X) := by
  have hi : (i 1).val < 4 := (i 1).isLt
  have ho : k0_off1 i 1#32 = _ := off_diag i 1
  have hr : k0_off2 i 1#32 = _ := off_rows i 1
  replace ho := ho.trans (show _ = ![0, b + 512, 0] by rw [hb]; rfl)
  replace hr := hr.trans (show _ = ![b + 512, 0] by rw [hb]; rfl)
  have hN : b + 512 + 512 ≤ 8192 := by omega
  have hk1 : ∀ (s : Fin 1024) (j : Fin 128), keys2 (F := Ideal) (e := .bf16) x1 (ix3 0 s j) = x1 (ix3 0 ⟨s.val, by omega⟩ j) := keys_at (L := 1024) x1 (by omega) _
  have hk2 : ∀ (s : Fin 1024) (j : Fin 128), keys2 (F := Ideal) (e := .bf16) x2 (ix3 0 s j) = x2 (ix3 0 ⟨s.val, by omega⟩ j) := keys_at (L := 1024) x2 (by omega) _
  have ha : ∀ (u : Fin 512) (j : Fin 128), rowA2 (F := Ideal) i x0 (ix3 0 u j) = x0 (ix3 0 ⟨b + 512 + u.val, by omega⟩ j) := fun u j => rowsQ_at x0 _ _ ho _ u j _
  have hb3 : ∀ (u : Fin 512) (j : Fin 128), rowA2 (F := Ideal) i x3 (ix3 0 u j) = x3 (ix3 0 ⟨b + 512 + u.val, by omega⟩ j) := fun u j => rowsQ_at x3 _ _ ho _ u j _
  have hw := wtAt_eq (L := 1024) (o := 512) (b := b) x0 x1 (by omega) rfl hN (keys2 (F := Ideal) (e := .bf16) x1) (rowA2 (F := Ideal) i x0) hk1 ha
  refine met_step (L := 1024) x0 x1 x2 x3 dq (by omega) hN (by omega) _ _ hw (fun s u => ?_ : ∀ s u, gsAt 512 (keys2 (F := Ideal) (e := .bf16) x1) (keys2 (F := Ideal) (e := .bf16) x2) (rowA2 (F := Ideal) i x0) (rowA2 (F := Ideal) i x3) s u = _) X _
    (fun t d u hu => ?_) (fun t d ht => ?_) (fun s d hs => ?_) (fun s d hs => ?_) (fun s d hs => ?_) (fun s d hs => ?_) h
  · rw [gsAt, hw, dot_eq (L := 1024) (by omega) hN x2 x3 _ _ hk2 hb3, gs]
  · refine (put_rows2_in (c := 512) X.1 _ _ hr _ t d u hu).trans ?_
    refine (dq2_at _ _ _ _ _ u d).trans ?_
    rw [rowsD_at X.1 _ _ hr _ u d t hu]
    exact congrArg _ (Finset.sum_congr rfl fun s _ => by rw [hk1])
  · exact put_rows2_out (c := 512) X.1 _ _ hr _ t d ht
  · refine (put_top_in (c := 1024) _ _ s d hs).trans ?_
    refine (dk2_at _ _ _ _ _ ⟨s.val, hs⟩ d).trans ?_
    rw [show acc2 (F := Ideal) X.2.1 (ix2 ⟨s.val, hs⟩ d) = X.2.1 (ix2 s d) from window_top (c := 1024) X.2.1 inb_S2048x128_S1024x128_0_0 ⟨s.val, hs⟩ d s.isLt]
    exact congrArg _ (Finset.sum_congr rfl fun u _ => by rw [ha])
  · exact put_top_out (c := 1024) _ _ s d hs
  · refine (put_top_in (c := 1024) _ _ s d hs).trans ?_
    refine (dv2_at _ _ _ _ ⟨s.val, hs⟩ d).trans ?_
    rw [show acc2 (F := Ideal) X.2.2 (ix2 ⟨s.val, hs⟩ d) = X.2.2 (ix2 s d) from window_top (c := 1024) X.2.2 inb_S2048x128_S1024x128_0_0 ⟨s.val, hs⟩ d s.isLt]
    exact congrArg _ (Finset.sum_congr rfl fun u _ => by rw [hb3])
  · exact put_top_out (c := 1024) _ _ s d hs

theorem met_diag3 (i : grid0.Coords) (b : ℕ) (hb : b = (i 1).val * 2048) (X : Acc Ideal) (h : Met b x0 x1 x2 x3 dq (b + 1024) X) :
    Met b x0 x1 x2 x3 dq (b + 1024 + 512) (diag3 (F := Ideal) i x0 x1 x2 x3 X) := by
  have hi : (i 1).val < 4 := (i 1).isLt
  have ho : k0_off1 i 2#32 = _ := off_diag i 2
  have hr : k0_off2 i 2#32 = _ := off_rows i 2
  replace ho := ho.trans (show _ = ![0, b + 1024, 0] by rw [hb]; rfl)
  replace hr := hr.trans (show _ = ![b + 1024, 0] by rw [hb]; rfl)
  have hN : b + 1024 + 512 ≤ 8192 := by omega
  have hk1 : ∀ (s : Fin 1536) (j : Fin 128), keys3 (F := Ideal) (e := .bf16) x1 (ix3 0 s j) = x1 (ix3 0 ⟨s.val, by omega⟩ j) := keys_at (L := 1536) x1 (by omega) _
  have hk2 : ∀ (s : Fin 1536) (j : Fin 128), keys3 (F := Ideal) (e := .bf16) x2 (ix3 0 s j) = x2 (ix3 0 ⟨s.val, by omega⟩ j) := keys_at (L := 1536) x2 (by omega) _
  have ha : ∀ (u : Fin 512) (j : Fin 128), rowA3 (F := Ideal) i x0 (ix3 0 u j) = x0 (ix3 0 ⟨b + 1024 + u.val, by omega⟩ j) := fun u j => rowsQ_at x0 _ _ ho _ u j _
  have hb3 : ∀ (u : Fin 512) (j : Fin 128), rowA3 (F := Ideal) i x3 (ix3 0 u j) = x3 (ix3 0 ⟨b + 1024 + u.val, by omega⟩ j) := fun u j => rowsQ_at x3 _ _ ho _ u j _
  have hw := wtAt_eq (L := 1536) (o := 1024) (b := b) x0 x1 (by omega) rfl hN (keys3 (F := Ideal) (e := .bf16) x1) (rowA3 (F := Ideal) i x0) hk1 ha
  refine met_step (L := 1536) x0 x1 x2 x3 dq (by omega) hN (by omega) _ _ hw (fun s u => ?_ : ∀ s u, gsAt 1024 (keys3 (F := Ideal) (e := .bf16) x1) (keys3 (F := Ideal) (e := .bf16) x2) (rowA3 (F := Ideal) i x0) (rowA3 (F := Ideal) i x3) s u = _) X _
    (fun t d u hu => ?_) (fun t d ht => ?_) (fun s d hs => ?_) (fun s d hs => ?_) (fun s d hs => ?_) (fun s d hs => ?_) h
  · rw [gsAt, hw, dot_eq (L := 1536) (by omega) hN x2 x3 _ _ hk2 hb3, gs]
  · refine (put_rows2_in (c := 512) X.1 _ _ hr _ t d u hu).trans ?_
    refine (dq3_at _ _ _ _ _ u d).trans ?_
    rw [rowsD_at X.1 _ _ hr _ u d t hu]
    exact congrArg _ (Finset.sum_congr rfl fun s _ => by rw [hk1])
  · exact put_rows2_out (c := 512) X.1 _ _ hr _ t d ht
  · refine (put_top_in (c := 1536) _ _ s d hs).trans ?_
    refine (dk3_at _ _ _ _ _ ⟨s.val, hs⟩ d).trans ?_
    rw [show acc3 (F := Ideal) X.2.1 (ix2 ⟨s.val, hs⟩ d) = X.2.1 (ix2 s d) from window_top (c := 1536) X.2.1 inb_S2048x128_S1536x128_0_0 ⟨s.val, hs⟩ d s.isLt]
    exact congrArg _ (Finset.sum_congr rfl fun u _ => by rw [ha])
  · exact put_top_out (c := 1536) _ _ s d hs
  · refine (put_top_in (c := 1536) _ _ s d hs).trans ?_
    refine (dv3_at _ _ _ _ ⟨s.val, hs⟩ d).trans ?_
    rw [show acc3 (F := Ideal) X.2.2 (ix2 ⟨s.val, hs⟩ d) = X.2.2 (ix2 s d) from window_top (c := 1536) X.2.2 inb_S2048x128_S1536x128_0_0 ⟨s.val, hs⟩ d s.isLt]
    exact congrArg _ (Finset.sum_congr rfl fun u _ => by rw [hb3])
  · exact put_top_out (c := 1536) _ _ s d hs

theorem met_diag4 (i : grid0.Coords) (b : ℕ) (hb : b = (i 1).val * 2048) (X : Acc Ideal) (h : Met b x0 x1 x2 x3 dq (b + 1536) X) :
    Met b x0 x1 x2 x3 dq (b + 1536 + 512) (diag4 (F := Ideal) i x0 x1 x2 x3 X) := by
  have hi : (i 1).val < 4 := (i 1).isLt
  have ho : k0_off1 i 3#32 = _ := off_diag i 3
  have hr : k0_off2 i 3#32 = _ := off_rows i 3
  replace ho := ho.trans (show _ = ![0, b + 1536, 0] by rw [hb]; rfl)
  replace hr := hr.trans (show _ = ![b + 1536, 0] by rw [hb]; rfl)
  have hN : b + 1536 + 512 ≤ 8192 := by omega
  have hk1 : ∀ (s : Fin 2048) (j : Fin 128), keys4 (F := Ideal) (e := .bf16) x1 (ix3 0 s j) = x1 (ix3 0 ⟨s.val, by omega⟩ j) := keys_at (L := 2048) x1 (by omega) _
  have hk2 : ∀ (s : Fin 2048) (j : Fin 128), keys4 (F := Ideal) (e := .bf16) x2 (ix3 0 s j) = x2 (ix3 0 ⟨s.val, by omega⟩ j) := keys_at (L := 2048) x2 (by omega) _
  have ha : ∀ (u : Fin 512) (j : Fin 128), rowA4 (F := Ideal) i x0 (ix3 0 u j) = x0 (ix3 0 ⟨b + 1536 + u.val, by omega⟩ j) := fun u j => rowsQ_at x0 _ _ ho _ u j _
  have hb3 : ∀ (u : Fin 512) (j : Fin 128), rowA4 (F := Ideal) i x3 (ix3 0 u j) = x3 (ix3 0 ⟨b + 1536 + u.val, by omega⟩ j) := fun u j => rowsQ_at x3 _ _ ho _ u j _
  have hw := wtAt_eq (L := 2048) (o := 1536) (b := b) x0 x1 (by omega) rfl hN (keys4 (F := Ideal) (e := .bf16) x1) (rowA4 (F := Ideal) i x0) hk1 ha
  refine met_step (L := 2048) x0 x1 x2 x3 dq (by omega) hN (by omega) _ _ hw (fun s u => ?_ : ∀ s u, gsAt 1536 (keys4 (F := Ideal) (e := .bf16) x1) (keys4 (F := Ideal) (e := .bf16) x2) (rowA4 (F := Ideal) i x0) (rowA4 (F := Ideal) i x3) s u = _) X _
    (fun t d u hu => ?_) (fun t d ht => ?_) (fun s d hs => ?_) (fun s d hs => ?_) (fun s d hs => ?_) (fun s d hs => ?_) h
  · rw [gsAt, hw, dot_eq (L := 2048) (by omega) hN x2 x3 _ _ hk2 hb3, gs]
  · refine (put_rows2_in (c := 512) X.1 _ _ hr _ t d u hu).trans ?_
    refine (dq4_at _ _ _ _ _ u d).trans ?_
    rw [rowsD_at X.1 _ _ hr _ u d t hu]
    exact congrArg _ (Finset.sum_congr rfl fun s _ => by rw [hk1])
  · exact put_rows2_out (c := 512) X.1 _ _ hr _ t d ht
  · simp only [diag4]
    refine (dk4_at _ _ _ _ _ s d).trans ?_
    rw [acc4_eq]
    exact congrArg _ (Finset.sum_congr rfl fun u _ => by rw [ha])
  · omega
  · simp only [diag4]
    refine (dv4_at _ _ _ _ s d).trans ?_
    rw [acc4_eq]
    exact congrArg _ (Finset.sum_congr rfl fun u _ => by rw [hb3])
  · omega

/-- One later step. -/
theorem met_trip (i : grid0.Coords) (b : ℕ) (hb : b = (i 1).val * 2048) (k : Fin (k0_t1_loop i).trips) (X : Acc Ideal)
    (h : Met b x0 x1 x2 x3 dq (b + 2048 + k.val * 512) X) :
    Met b x0 x1 x2 x3 dq (b + 2048 + k.val * 512 + 512) (tripF (F := Ideal) i x0 x1 x2 x3 k X) := by
  have hk : k.val < 12 - 4 * (i 1).val := lt_of_lt_of_eq k.isLt (trips_eq i)
  have hi : (i 1).val < 4 := (i 1).isLt
  have ho := off_later i k
  have hr := off_laterD i k
  rw [← hb] at ho hr
  generalize hn : b + 2048 + k.val * 512 = n at h ho hr ⊢
  have hN : n + 512 ≤ 8192 := by omega
  have ha : ∀ (u : Fin 512) (j : Fin 128), rowsQ (F := Ideal) (e := .bf16) x0 (k0_off3 i k) (k0_off3_inb i k) (ix3 0 u j) = x0 (ix3 0 ⟨n + u.val, by omega⟩ j) := fun u j => rowsQ_at x0 _ _ ho _ u j _
  have hb3 : ∀ (u : Fin 512) (j : Fin 128), rowsQ (F := Ideal) (e := .bf16) x3 (k0_off3 i k) (k0_off3_inb i k) (ix3 0 u j) = x3 (ix3 0 ⟨n + u.val, by omega⟩ j) := fun u j => rowsQ_at x3 _ _ ho _ u j _
  have hw : ∀ (s : Fin 2048) (u : Fin 512), Ideal.exp (dotKQ x1 s (rowsQ (F := Ideal) (e := .bf16) x0 (k0_off3 i k) (k0_off3_inb i k)) u)
      = wt b x0 x1 ⟨s.val, by omega⟩ ⟨n + u.val, by omega⟩ := fun s u => by
    rw [dot_eq (L := 2048) (by omega) hN x1 x0 _ _ (fun _ _ => rfl) ha, wt_on _ _ _ _ _ (by show b + s.val ≤ n + u.val; omega)]
  refine met_step (L := 2048) x0 x1 x2 x3 dq (by omega) hN (by omega) _
    (fun s u => Ideal.exp (dotKQ x1 s (rowsQ (F := Ideal) (e := .bf16) x0 (k0_off3 i k) (k0_off3_inb i k)) u) * dotKQ x2 s (rowsQ (F := Ideal) (e := .bf16) x3 (k0_off3 i k) (k0_off3_inb i k)) u)
    hw (fun s u => ?_) X _
    (fun t d u hu => ?_) (fun t d ht => ?_) (fun s d hs => ?_) (fun s d hs => by omega) (fun s d hs => ?_) (fun s d hs => by omega) h
  · rw [hw, dot_eq (L := 2048) (by omega) hN x2 x3 _ _ (fun _ _ => rfl) hb3, gs]
  · refine (put_rows2_in (c := 512) X.1 _ _ hr _ t d u hu).trans ?_
    rw [keys4_eq x1, keys4_eq x2, pay54_at, rowsD_at X.1 _ _ hr _ u d t hu]
    exact congrArg _ (Finset.sum_congr rfl fun s _ => by rw [pay7_at])
  · exact put_rows2_out (c := 512) X.1 _ _ hr _ t d ht
  · simp only [tripF]
    rw [keys4_eq x1, keys4_eq x2, acc4_eq, pay8_at]
    exact congrArg _ (Finset.sum_congr rfl fun u _ => by rw [ha])
  · simp only [tripF]
    rw [keys4_eq x1, acc4_eq, pay6_at]
    exact congrArg _ (Finset.sum_congr rfl fun u _ => by rw [hb3])

/-- Before the first step. -/
theorem met_start (b : ℕ) : Met b x0 x1 x2 x3 dq b (dq, k0_pay18 (F := Ideal), k0_pay19 (F := Ideal)) := by
  refine ⟨fun t d => ?_, fun s d => ?_, fun s d => ?_⟩
  · by_cases h : t.val < b
    · rw [if_pos h, Finset.sum_eq_zero fun s _ => by rw [gs_off _ _ _ _ _ _ _ (by omega), zero_mul], add_zero]
    · rw [if_neg h, add_zero]
  · rw [sum_below_zero _ b (fun t ht => by rw [gs_off _ _ _ _ _ _ _ (by omega), zero_mul])]
    exact pay18_at s d
  · rw [sum_below_zero _ b (fun t ht => by rw [wt_off _ _ _ _ _ (by omega), zero_mul])]
    exact pay19_at s d

/-- The whole of a point. -/
theorem met_point (i : grid0.Coords) (b : ℕ) (hb : b = (i 1).val * 2048) :
    Met b x0 x1 x2 x3 dq 8192 (pointF (F := Ideal) i x0 x1 x2 x3 dq) := by
  have hi : (i 1).val < 4 := (i 1).isLt
  have h4 : Met b x0 x1 x2 x3 dq (b + 1536 + 512) (diagF (F := Ideal) i x0 x1 x2 x3 dq) :=
    met_diag4 x0 x1 x2 x3 dq i b hb _ (met_diag3 x0 x1 x2 x3 dq i b hb _ (met_diag2 x0 x1 x2 x3 dq i b hb _
      (met_diag1 x0 x1 x2 x3 dq i b hb _ (met_start x0 x1 x2 x3 dq b))))
  have hs : ∀ n, n ≤ (k0_t1_loop i).trips → Met b x0 x1 x2 x3 dq (b + 2048 + n * 512)
      (stateF (F := Ideal) i x0 x1 x2 x3 (diagF (F := Ideal) i x0 x1 x2 x3 dq) n) := by
    intro n
    induction n with
    | zero =>
      intro _
      rw [Nat.zero_mul, Nat.add_zero]
      exact h4
    | succ n ih =>
      intro hn
      have h := met_trip x0 x1 x2 x3 dq i b hb ⟨n, hn⟩ _ (ih (by omega))
      rw [stateF_succ (F := Ideal) i x0 x1 x2 x3 _ ⟨n, hn⟩, show b + 2048 + (n + 1) * 512 = b + 2048 + n * 512 + 512 by omega]
      exact h
  have h := hs _ le_rfl
  rw [show b + 2048 + (k0_t1_loop i).trips * 512 = 8192 by rw [trips_eq]; omega] at h
  exact h

end Cert.Kernel4Ideal.Fox

end

end
-- ==== Proof.FoxBody.lean ====
module

public import proofs.«01_k».proof.Proof.FoxRead

/-! The body of the backward attention at one grid point, from blocks to blocks. -/

@[expose] public section

set_option maxRecDepth 16384
set_option maxHeartbeats 1000000

noncomputable section

namespace Cert.Kernel4Ideal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen

variable {F : FTy → Type} [FloatOps F] [Named F]

local notation "𝕄" => MT nD τ sig Unit (Elt F) ℕ (UR sig nD τ) ℕ

variable (i : grid0.Coords) (arg2 : Memref sig .tc .vmem S1x8192x128 .bf16) (harg2 : arg2.IsWhole) (arg3 : Memref sig .tc .vmem S1x2048x128 .bf16) (harg3 : arg3.IsWhole)
    (arg4 : Memref sig .tc .vmem S1x2048x128 .bf16) (harg4 : arg4.IsWhole) (arg5 : Memref sig .tc .vmem S1x8192x128 .bf16) (harg5 : arg5.IsWhole)
    (arg6 : Memref sig .tc .vmem S8192x128 .f32) (harg6 : arg6.IsWhole) (arg7 : Memref sig .tc .vmem S2048x128 .f32) (harg7 : arg7.IsWhole)
    (arg8 : Memref sig .tc .vmem S2048x128 .f32) (harg8 : arg8.IsWhole) (arg9 : Memref sig .tc .vmem S2048x128 .f32) (harg9 : arg9.IsWhole)
    (arg10 : Memref sig .tc .vmem S2048x128 .f32) (harg10 : arg10.IsWhole)

/-- A point neither first nor last in its head adds to the gradient of the queries. -/
theorem body_mid (c : Dev nD) (hc0 : ¬isFirst i) (hc1 : ¬isLast i)
    (x0 : Vec F S1x8192x128 .bf16) (x1 x2 : Vec F S1x2048x128 .bf16) (x3 : Vec F S1x8192x128 .bf16) (d4 : Vec F S8192x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare d4 ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (pointF i x0 x1 x2 x3 d4).1 ∗ owns (c : Thread nD τ) arg7 fullShare ((acc4 (pointF i x0 x1 x2 x3 d4).2.1))
            ∗ owns (c : Thread nD τ) arg8 fullShare ((acc4 (pointF i x0 x1 x2 x3 d4).2.2))
            ∗ (∃ d, owns (c : Thread nD τ) arg9 fullShare d) ∗ (∃ d, owns (c : Thread nD τ) arg10 fullShare d)) -∗ K ⟨⟩))
      ⊢ wp frame (wpE (defs₀ (F := F)) Variants.none c none) E (cc0_fox_attn_bwd i arg2 harg2 arg3 harg3 arg4 harg4 arg5 harg5 arg6 harg6 arg7 harg7 arg8 harg8 arg9 harg9 arg10 harg10) K := by
  simp only [cc0_fox_attn_bwd_eq_skeleton]; unfold cc0_fox_attn_bwd_skel
  simp only [k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
  subst hf0 hf1 hf2 hf3 hf4
  sl_exec (disch := first | sl_exact hc0 | sl_exact hc1)
  sl_step
  have hs : ((_, _, _) : Acc F) = diagF i (arg2.view.read (Elt F) f0) (arg3.view.read (Elt F) f1) (arg4.view.read (Elt F) f2) (arg5.view.read (Elt F) f3) (arg6.view.read (Elt F) f4) :=
    Prod.ext (dq_read arg6.view f4 i (dq1 i (arg2.view.read (Elt F) f0) (arg3.view.read (Elt F) f1) (arg4.view.read (Elt F) f2) (arg5.view.read (Elt F) f3)) (dq2 i (arg2.view.read (Elt F) f0) (arg3.view.read (Elt F) f1) (arg4.view.read (Elt F) f2) (arg5.view.read (Elt F) f3))
        (dq3 i (arg2.view.read (Elt F) f0) (arg3.view.read (Elt F) f1) (arg4.view.read (Elt F) f2) (arg5.view.read (Elt F) f3)) (dq4 i (arg2.view.read (Elt F) f0) (arg3.view.read (Elt F) f1) (arg4.view.read (Elt F) f2) (arg5.view.read (Elt F) f3)))
      (Prod.ext (acc_read arg9.view k0_pay18 (dk1 i (arg2.view.read (Elt F) f0) (arg3.view.read (Elt F) f1) (arg4.view.read (Elt F) f2) (arg5.view.read (Elt F) f3)) (dk2 i (arg2.view.read (Elt F) f0) (arg3.view.read (Elt F) f1) (arg4.view.read (Elt F) f2) (arg5.view.read (Elt F) f3))
          (dk3 i (arg2.view.read (Elt F) f0) (arg3.view.read (Elt F) f1) (arg4.view.read (Elt F) f2) (arg5.view.read (Elt F) f3)) (dk4 i (arg2.view.read (Elt F) f0) (arg3.view.read (Elt F) f1) (arg4.view.read (Elt F) f2) (arg5.view.read (Elt F) f3)))
        (acc_read arg10.view k0_pay19 (dv1 i (arg2.view.read (Elt F) f0) (arg3.view.read (Elt F) f1) (arg5.view.read (Elt F) f3)) (dv2 i (arg2.view.read (Elt F) f0) (arg3.view.read (Elt F) f1) (arg5.view.read (Elt F) f3))
          (dv3 i (arg2.view.read (Elt F) f0) (arg3.view.read (Elt F) f1) (arg5.view.read (Elt F) f3)) (dv4 i (arg2.view.read (Elt F) f0) (arg3.view.read (Elt F) f1) (arg5.view.read (Elt F) f3))))
  iapply Hk
  isplitl [H0]; · iexists f0; isplitr [H0]; · ipureintro; rfl
                  iexact H0
  isplitl [H1]; · iexists f1; isplitr [H1]; · ipureintro; rfl
                  iexact H1
  isplitl [H2]; · iexists f2; isplitr [H2]; · ipureintro; rfl
                  iexact H2
  isplitl [H3]; · iexists f3; isplitr [H3]; · ipureintro; rfl
                  iexact H3
  isplitl [H4]
  · iexists fL0; isplitr [H4]
    · ipureintro
      exact hL5.trans (congrArg (fun s => (stateF i _ _ _ _ s _).1) hs)
    iexact H4
  isplitl [H5]
  · iexists (arg7.view.writes (Elt F) f5 [⟨Rect.unit (s := S2048x128) ![0, 0] S2048x128.size inb_S2048x128_S2048x128_0_0,
        (acc4 (arg9.view.read (Elt F) fL1))⟩]); isplitr [H5]
    · ipureintro
      refine (View.read_writes_full ..).trans ?_
      refine congrArg (fun x => acc4 x) ?_
      exact hL7.trans (congrArg (fun s => (stateF i _ _ _ _ s _).2.1) hs)
    iexact H5
  isplitl [H6]
  · iexists (arg8.view.writes (Elt F) f6 [⟨Rect.unit (s := S2048x128) ![0, 0] S2048x128.size inb_S2048x128_S2048x128_0_0,
        (acc4 (arg10.view.read (Elt F) fL2))⟩]); isplitr [H6]
    · ipureintro
      refine (View.read_writes_full ..).trans ?_
      refine congrArg (fun x => acc4 x) ?_
      exact hL9.trans (congrArg (fun s => (stateF i _ _ _ _ s _).2.2) hs)
    iexact H6
  isplitl [HS0]
  · iexists (arg9.view.read (Elt F) fL1); iexists fL1; isplitr [HS0]; · ipureintro; rfl
    iexact HS0
  iexists (arg10.view.read (Elt F) fL2); iexists fL2; isplitr [HS1]; · ipureintro; rfl
  iexact HS1

/-- The first point of a head clears the gradient of the queries and adds to it. -/
theorem body_first (c : Dev nD) (hc0 : isFirst i) (hc1 : ¬isLast i)
    (x0 : Vec F S1x8192x128 .bf16) (x1 x2 : Vec F S1x2048x128 .bf16) (x3 : Vec F S1x8192x128 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (pointF i x0 x1 x2 x3 k0_pay20).1 ∗ owns (c : Thread nD τ) arg7 fullShare ((acc4 (pointF i x0 x1 x2 x3 k0_pay20).2.1))
            ∗ owns (c : Thread nD τ) arg8 fullShare ((acc4 (pointF i x0 x1 x2 x3 k0_pay20).2.2))
            ∗ (∃ d, owns (c : Thread nD τ) arg9 fullShare d) ∗ (∃ d, owns (c : Thread nD τ) arg10 fullShare d)) -∗ K ⟨⟩))
      ⊢ wp frame (wpE (defs₀ (F := F)) Variants.none c none) E (cc0_fox_attn_bwd i arg2 harg2 arg3 harg3 arg4 harg4 arg5 harg5 arg6 harg6 arg7 harg7 arg8 harg8 arg9 harg9 arg10 harg10) K := by
  simp only [cc0_fox_attn_bwd_eq_skeleton]; unfold cc0_fox_attn_bwd_skel
  simp only [k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
  subst hf0 hf1 hf2 hf3
  sl_exec (disch := first | sl_exact hc0 | sl_exact hc1)
  sl_step
  have hs : ((_, _, _) : Acc F) = diagF i (arg2.view.read (Elt F) f0) (arg3.view.read (Elt F) f1) (arg4.view.read (Elt F) f2) (arg5.view.read (Elt F) f3) k0_pay20 :=
    Prod.ext (dq_first arg6.view i k0_pay20 (dq1 i (arg2.view.read (Elt F) f0) (arg3.view.read (Elt F) f1) (arg4.view.read (Elt F) f2) (arg5.view.read (Elt F) f3)) (dq2 i (arg2.view.read (Elt F) f0) (arg3.view.read (Elt F) f1) (arg4.view.read (Elt F) f2) (arg5.view.read (Elt F) f3))
        (dq3 i (arg2.view.read (Elt F) f0) (arg3.view.read (Elt F) f1) (arg4.view.read (Elt F) f2) (arg5.view.read (Elt F) f3)) (dq4 i (arg2.view.read (Elt F) f0) (arg3.view.read (Elt F) f1) (arg4.view.read (Elt F) f2) (arg5.view.read (Elt F) f3)))
      (Prod.ext (acc_read arg9.view k0_pay18 (dk1 i (arg2.view.read (Elt F) f0) (arg3.view.read (Elt F) f1) (arg4.view.read (Elt F) f2) (arg5.view.read (Elt F) f3)) (dk2 i (arg2.view.read (Elt F) f0) (arg3.view.read (Elt F) f1) (arg4.view.read (Elt F) f2) (arg5.view.read (Elt F) f3))
          (dk3 i (arg2.view.read (Elt F) f0) (arg3.view.read (Elt F) f1) (arg4.view.read (Elt F) f2) (arg5.view.read (Elt F) f3)) (dk4 i (arg2.view.read (Elt F) f0) (arg3.view.read (Elt F) f1) (arg4.view.read (Elt F) f2) (arg5.view.read (Elt F) f3)))
        (acc_read arg10.view k0_pay19 (dv1 i (arg2.view.read (Elt F) f0) (arg3.view.read (Elt F) f1) (arg5.view.read (Elt F) f3)) (dv2 i (arg2.view.read (Elt F) f0) (arg3.view.read (Elt F) f1) (arg5.view.read (Elt F) f3))
          (dv3 i (arg2.view.read (Elt F) f0) (arg3.view.read (Elt F) f1) (arg5.view.read (Elt F) f3)) (dv4 i (arg2.view.read (Elt F) f0) (arg3.view.read (Elt F) f1) (arg5.view.read (Elt F) f3))))
  iapply Hk
  isplitl [H0]; · iexists f0; isplitr [H0]; · ipureintro; rfl
                  iexact H0
  isplitl [H1]; · iexists f1; isplitr [H1]; · ipureintro; rfl
                  iexact H1
  isplitl [H2]; · iexists f2; isplitr [H2]; · ipureintro; rfl
                  iexact H2
  isplitl [H3]; · iexists f3; isplitr [H3]; · ipureintro; rfl
                  iexact H3
  isplitl [H4]
  · iexists fL0; isplitr [H4]
    · ipureintro
      exact hL5.trans (congrArg (fun s => (stateF i _ _ _ _ s _).1) hs)
    iexact H4
  isplitl [H5]
  · iexists (arg7.view.writes (Elt F) f5 [⟨Rect.unit (s := S2048x128) ![0, 0] S2048x128.size inb_S2048x128_S2048x128_0_0,
        (acc4 (arg9.view.read (Elt F) fL1))⟩]); isplitr [H5]
    · ipureintro
      refine (View.read_writes_full ..).trans ?_
      refine congrArg (fun x => acc4 x) ?_
      exact hL7.trans (congrArg (fun s => (stateF i _ _ _ _ s _).2.1) hs)
    iexact H5
  isplitl [H6]
  · iexists (arg8.view.writes (Elt F) f6 [⟨Rect.unit (s := S2048x128) ![0, 0] S2048x128.size inb_S2048x128_S2048x128_0_0,
        (acc4 (arg10.view.read (Elt F) fL2))⟩]); isplitr [H6]
    · ipureintro
      refine (View.read_writes_full ..).trans ?_
      refine congrArg (fun x => acc4 x) ?_
      exact hL9.trans (congrArg (fun s => (stateF i _ _ _ _ s _).2.2) hs)
    iexact H6
  isplitl [HS0]
  · iexists (arg9.view.read (Elt F) fL1); iexists fL1; isplitr [HS0]; · ipureintro; rfl
    iexact HS0
  iexists (arg10.view.read (Elt F) fL2); iexists fL2; isplitr [HS1]; · ipureintro; rfl
  iexact HS1

/-- The last point of a head adds to the gradient of the queries and scales it. -/
theorem body_last (c : Dev nD) (hc0 : ¬isFirst i) (hc1 : isLast i)
    (x0 : Vec F S1x8192x128 .bf16) (x1 x2 : Vec F S1x2048x128 .bf16) (x3 : Vec F S1x8192x128 .bf16) (d4 : Vec F S8192x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare d4 ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay1 (allQ (pointF i x0 x1 x2 x3 d4).1)) ∗ owns (c : Thread nD τ) arg7 fullShare ((acc4 (pointF i x0 x1 x2 x3 d4).2.1))
            ∗ owns (c : Thread nD τ) arg8 fullShare ((acc4 (pointF i x0 x1 x2 x3 d4).2.2))
            ∗ (∃ d, owns (c : Thread nD τ) arg9 fullShare d) ∗ (∃ d, owns (c : Thread nD τ) arg10 fullShare d)) -∗ K ⟨⟩))
      ⊢ wp frame (wpE (defs₀ (F := F)) Variants.none c none) E (cc0_fox_attn_bwd i arg2 harg2 arg3 harg3 arg4 harg4 arg5 harg5 arg6 harg6 arg7 harg7 arg8 harg8 arg9 harg9 arg10 harg10) K := by
  simp only [cc0_fox_attn_bwd_eq_skeleton]; unfold cc0_fox_attn_bwd_skel
  simp only [k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
  subst hf0 hf1 hf2 hf3 hf4
  sl_exec (disch := first | sl_exact hc0 | sl_exact hc1)
  sl_step
  have hs : ((_, _, _) : Acc F) = diagF i (arg2.view.read (Elt F) f0) (arg3.view.read (Elt F) f1) (arg4.view.read (Elt F) f2) (arg5.view.read (Elt F) f3) (arg6.view.read (Elt F) f4) :=
    Prod.ext (dq_read arg6.view f4 i (dq1 i (arg2.view.read (Elt F) f0) (arg3.view.read (Elt F) f1) (arg4.view.read (Elt F) f2) (arg5.view.read (Elt F) f3)) (dq2 i (arg2.view.read (Elt F) f0) (arg3.view.read (Elt F) f1) (arg4.view.read (Elt F) f2) (arg5.view.read (Elt F) f3))
        (dq3 i (arg2.view.read (Elt F) f0) (arg3.view.read (Elt F) f1) (arg4.view.read (Elt F) f2) (arg5.view.read (Elt F) f3)) (dq4 i (arg2.view.read (Elt F) f0) (arg3.view.read (Elt F) f1) (arg4.view.read (Elt F) f2) (arg5.view.read (Elt F) f3)))
      (Prod.ext (acc_read arg9.view k0_pay18 (dk1 i (arg2.view.read (Elt F) f0) (arg3.view.read (Elt F) f1) (arg4.view.read (Elt F) f2) (arg5.view.read (Elt F) f3)) (dk2 i (arg2.view.read (Elt F) f0) (arg3.view.read (Elt F) f1) (arg4.view.read (Elt F) f2) (arg5.view.read (Elt F) f3))
          (dk3 i (arg2.view.read (Elt F) f0) (arg3.view.read (Elt F) f1) (arg4.view.read (Elt F) f2) (arg5.view.read (Elt F) f3)) (dk4 i (arg2.view.read (Elt F) f0) (arg3.view.read (Elt F) f1) (arg4.view.read (Elt F) f2) (arg5.view.read (Elt F) f3)))
        (acc_read arg10.view k0_pay19 (dv1 i (arg2.view.read (Elt F) f0) (arg3.view.read (Elt F) f1) (arg5.view.read (Elt F) f3)) (dv2 i (arg2.view.read (Elt F) f0) (arg3.view.read (Elt F) f1) (arg5.view.read (Elt F) f3))
          (dv3 i (arg2.view.read (Elt F) f0) (arg3.view.read (Elt F) f1) (arg5.view.read (Elt F) f3)) (dv4 i (arg2.view.read (Elt F) f0) (arg3.view.read (Elt F) f1) (arg5.view.read (Elt F) f3))))
  iapply Hk
  isplitl [H0]; · iexists f0; isplitr [H0]; · ipureintro; rfl
                  iexact H0
  isplitl [H1]; · iexists f1; isplitr [H1]; · ipureintro; rfl
                  iexact H1
  isplitl [H2]; · iexists f2; isplitr [H2]; · ipureintro; rfl
                  iexact H2
  isplitl [H3]; · iexists f3; isplitr [H3]; · ipureintro; rfl
                  iexact H3
  isplitl [H4]
  · iexists (arg6.view.writes (Elt F) fL0 [⟨Rect.unit (s := S8192x128) ![0, 0] S8192x128.size inb_S8192x128_S8192x128_0_0,
        k0_pay1 (allQ (arg6.view.read (Elt F) fL0))⟩]); isplitr [H4]
    · ipureintro
      refine (View.read_writes_full ..).trans ?_
      refine congrArg (fun x => k0_pay1 (allQ x)) ?_
      exact hL5.trans (congrArg (fun s => (stateF i _ _ _ _ s _).1) hs)
    iexact H4
  isplitl [H5]
  · iexists (arg7.view.writes (Elt F) f5 [⟨Rect.unit (s := S2048x128) ![0, 0] S2048x128.size inb_S2048x128_S2048x128_0_0,
        (acc4 (arg9.view.read (Elt F) fL1))⟩]); isplitr [H5]
    · ipureintro
      refine (View.read_writes_full ..).trans ?_
      refine congrArg (fun x => acc4 x) ?_
      exact hL7.trans (congrArg (fun s => (stateF i _ _ _ _ s _).2.1) hs)
    iexact H5
  isplitl [H6]
  · iexists (arg8.view.writes (Elt F) f6 [⟨Rect.unit (s := S2048x128) ![0, 0] S2048x128.size inb_S2048x128_S2048x128_0_0,
        (acc4 (arg10.view.read (Elt F) fL2))⟩]); isplitr [H6]
    · ipureintro
      refine (View.read_writes_full ..).trans ?_
      refine congrArg (fun x => acc4 x) ?_
      exact hL9.trans (congrArg (fun s => (stateF i _ _ _ _ s _).2.2) hs)
    iexact H6
  isplitl [HS0]
  · iexists (arg9.view.read (Elt F) fL1); iexists fL1; isplitr [HS0]; · ipureintro; rfl
    iexact HS0
  iexists (arg10.view.read (Elt F) fL2); iexists fL2; isplitr [HS1]; · ipureintro; rfl
  iexact HS1

end Cert.Kernel4Ideal.Fox

end

end
-- ==== Proof.FoxRun.lean ====
module

public import proofs.«01_k».proof.Proof.FoxBody
public import Idealize.ShloMosaic.Lib.Pipeline.ValueKit

/-! The run of the backward attention: what each grid point leaves in the blocks, and the launch. -/

@[expose] public section

set_option maxRecDepth 16384
set_option maxHeartbeats 1000000

noncomputable section

namespace Cert.Kernel4Ideal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Which points are the first, which the last, of their heads. -/
theorem isFirst_iff : ∀ t : Fin cfg0.N, isFirst (grid0.coords t) ↔ t.val % 4 = 0 :=
  (fun t => by
    have ht : t.val < 64 := Nat.lt_of_lt_of_eq t.isLt N_0
    have e1 : (grid0.coords t 1).val = t.val / 1 % 4 := Pipeline.Grid.coords_val t 1 (by decide) rfl
    simp only [isFirst, e1]
    word_cmp
   : ∀ t : Fin grid0.N, isFirst (grid0.coords t) ↔ t.val % 4 = 0)
theorem isLast_iff : ∀ t : Fin cfg0.N, isLast (grid0.coords t) ↔ t.val % 4 = 3 :=
  (fun t => by
    have ht : t.val < 64 := Nat.lt_of_lt_of_eq t.isLt N_0
    have e1 : (grid0.coords t 1).val = t.val / 1 % 4 := Pipeline.Grid.coords_val t 1 (by decide) rfl
    simp only [isLast, e1]
    word_cmp
   : ∀ t : Fin grid0.N, isLast (grid0.coords t) ↔ t.val % 4 = 3)

/-- One point over its own blocks, the gradient of the queries having been `d` before. -/
abbrev pt (c : Dev nD) (t : Fin cfg0.N) (d : Vec F S8192x128 .f32) : Acc F :=
  pointF (grid0.coords t) (iblk m c 0 t) (iblk m c 1 t) (iblk m c 2 t) (iblk m c 3 t) d

/-- What the points up to `n` leave of the gradient of the queries (first) and of the two accumulators. -/
def accAt (c : Dev nD) : (n : ℕ) → n < cfg0.N → Acc F
  | 0, h => pt m c ⟨0, h⟩ k0_pay20
  | n + 1, h =>
    if (n + 1) % 4 = 0 then pt m c ⟨n + 1, h⟩ k0_pay20
    else pt m c ⟨n + 1, h⟩ (accAt c n (Nat.lt_of_succ_lt h)).1

theorem accAt_first (c : Dev nD) (t : Fin cfg0.N) (h0 : t.val % 4 = 0) : accAt m c t.val t.isLt = pt m c t k0_pay20 := by
  obtain ⟨n, hn⟩ := t
  cases n with
  | zero => rfl
  | succ n => exact (if_pos h0)

theorem accAt_next (c : Dev nD) (t : Fin cfg0.N) (h0 : ¬t.val % 4 = 0) :
    accAt m c t.val t.isLt = pt m c t (accAt m c (t.val - 1) (Nat.lt_of_le_of_lt (Nat.sub_le _ _) t.isLt)).1 := by
  obtain ⟨n, hn⟩ := t
  cases n with
  | zero => exact absurd (Nat.zero_mod _) h0
  | succ n => exact (if_neg h0)

/-- What a point leaves of the gradient of the queries: scaled, at the last point of a head. -/
def dqAt (c : Dev nD) (t : Fin cfg0.N) : Vec F S8192x128 .f32 :=
  if t.val % 4 = 3 then k0_pay1 (allQ (accAt m c t.val t.isLt).1) else (accAt m c t.val t.isLt).1

abbrev ms0_0 (t : Fin cfg0.N) : Memref sig .tc .vmem S1x8192x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8192x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .f32 := win0_6.stage (cfg0.slots t 6)
abbrev hs0_6 (t : Fin cfg0.N) : (ms0_6 t).IsWhole := hstage0_6 ((cfg0.slots t 6).cast nbuf0_6)
abbrev scM0_0 : Memref sig .tc .vmem S2048x128 .f32 := Memref.whole cc0_scratch0
abbrev scM0_1 : Memref sig .tc .vmem S2048x128 .f32 := Memref.whole cc0_scratch1

/-- The invariant of the launch: the two accumulators and the generator register, at any contents. -/
theorem rest_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The proof data: each window's block before and after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dqAt m c t
    | ⟨5, _⟩ => (acc4 (accAt m c t.val t.isLt).2.1)
    | ⟨6, _⟩ => (acc4 (accAt m c t.val t.isLt).2.2)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = dqAt m c t := by dsimp only [dats]
theorem after0_5 (c : Dev nD) (t : Fin cfg0.N) : (dats m 0 c).after 5 t = (acc4 (accAt m c t.val t.isLt).2.1) := by dsimp only [dats]
theorem after0_6 (c : Dev nD) (t : Fin cfg0.N) : (dats m 0 c).after 6 t = (acc4 (accAt m c t.val t.isLt).2.2) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Away from the first point of a head the gradient of the queries is found as the point before left it. -/
theorem before0_4 (c : Dev nD) (t : Fin cfg0.N) (h0 : ¬t.val % 4 = 0) (d) :
    (dats m 0 c).before 4 t d = (accAt m c (t.val - 1) (Nat.lt_of_le_of_lt (Nat.sub_le _ _) t.isLt)).1 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]
  unfold dqAt
  exact if_neg (by dsimp only; omega)

/-- What the body is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, rest_eq]
  have hN : t.val < 64 := lt_of_lt_of_eq t.isLt (show cfg0.N = 64 from N_0)
  by_cases h0 : t.val % 4 = 0
  · rw [dqAt, if_neg (by omega), accAt_first m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (body_first (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) c ((isFirst_iff t).mpr h0) (fun h => absurd ((isLast_iff t).mp h) (by omega)) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before0_4 m c t h0]
    by_cases h1 : t.val % 4 = 3
    · rw [dqAt, if_pos h1, accAt_next m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (body_last (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) c (fun h => h0 ((isFirst_iff t).mp h)) ((isLast_iff t).mpr h1) (iblk m c 0 t) (iblk m c 1 t) (iblk m c 2 t) (iblk m c 3 t) (accAt m c (t.val - 1) (Nat.lt_of_le_of_lt (Nat.sub_le _ _) t.isLt)).1 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [dqAt, if_neg h1, accAt_next m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (body_mid (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) c (fun h => h0 ((isFirst_iff t).mp h)) (fun h => h1 ((isLast_iff t).mp h)) (iblk m c 0 t) (iblk m c 1 t) (iblk m c 2 t) (iblk m c 3 t) (accAt m c (t.val - 1) (Nat.lt_of_le_of_lt (Nat.sub_le _ _) t.isLt)).1 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every final state has the arrays at the proof data's contents and every counter at zero. -/
theorem run_quiet : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiet m ρ)

/-- The frame, at any values. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.Kernel4Ideal.Fox

end

end
-- ==== Proof.FoxArr.lean ====
module

public import proofs.«01_k».proof.Proof.FoxState
public import proofs.«01_k».proof.Proof.FoxRun

@[expose] public section

set_option maxRecDepth 16384

noncomputable section

open Idealize.ShloMosaic Idealize.ShloMosaic.TcCoe Idealize.SL.Sem
open Idealize.ShloMosaic.Pipeline (Dat)

namespace Cert.Kernel4Ideal.Fox

open Cert.Kernel4Ideal Cert.Kernel4Ideal.Gen Cert.Attn

variable (m : (ℓ : Loc nD τ sig) → Buf (Elt Ideal) ℓ)

theorem idx : ∀ t : Fin cfg0.N, win0_0.index t = ![t.val / 4, 0, 0] ∧ win0_1.index t = ![t.val / 4, t.val % 4, 0]
    ∧ win0_2.index t = ![t.val / 4 + 32, t.val % 4, 0] ∧ win0_3.index t = ![t.val / 4, 0, 0] ∧ win0_4.index t = ![0, t.val / 4]
    ∧ win0_5.index t = ![t.val % 4, t.val / 4] ∧ win0_6.index t = ![t.val % 4, t.val / 4] :=
  (by decide +kernel : ∀ t : Fin grid0.N, _)

/-- The head and the key block of a point. -/
def hd (t : Fin cfg0.N) : Fin 16 := ⟨t.val / 4, by have := Nat.lt_of_lt_of_eq t.isLt N_0; omega⟩
def row (t : Fin cfg0.N) (s : Fin 2048) : Fin 8192 := ⟨t.val % 4 * 2048 + s.val, by have := s.isLt; omega⟩

variable (Q K : FVec Ideal S16x8192x128 .bf16) (V' : FVec Ideal S48x8192x128 .bf16) (D : FVec Ideal S16x8192x128 .bf16)

/-- The head of the packed operand a head's values lie in. -/
def vh (h : Fin 16) : Fin 48 := ⟨h.val + 32, by omega⟩

/-- The weight of key `s` for query `t`, and the gradient of its score. -/
def wgt (h : Fin 16) (s t : Fin 8192) : EReal :=
  if s.val ≤ t.val then Ideal.exp (∑ j : Fin 128, K (ix3 h s j) * Q (ix3 h t j)) else 0
def grd (h : Fin 16) (s t : Fin 8192) : EReal := wgt Q K h s t * ∑ j : Fin 128, V' (ix3 (vh h) s j) * D (ix3 h t j)

/-- One key block's part of a query's gradient, for the block's number. -/
def dqBlock (h : Fin 16) (t : Fin 8192) (d : Fin 128) (k : ℕ) : EReal :=
  if hk : k < 4 then ∑ s : Fin 2048, grd Q K V' D h ⟨k * 2048 + s.val, by have := s.isLt; omega⟩ t
    * K (ix3 h ⟨k * 2048 + s.val, by have := s.isLt; omega⟩ d) else 0

theorem blk0 (c : Dev nD) (t : Fin cfg0.N) (u : Fin 8192) (j : Fin 128) :
    iblk m c 0 t (ix3 (0 : Fin 1) u j) = V m c main_v112 (ix3 (hd t) u j) := by
  blk_point [iblk, idx t, hd]
theorem blk1 (c : Dev nD) (t : Fin cfg0.N) (s : Fin 2048) (j : Fin 128) :
    iblk m c 1 t (ix3 (0 : Fin 1) s j) = V m c main_v81 (ix3 (hd t) (row t s) j) := by
  blk_point [iblk, idx t, hd, row]
theorem blk2 (c : Dev nD) (t : Fin cfg0.N) (s : Fin 2048) (j : Fin 128) :
    iblk m c 2 t (ix3 (0 : Fin 1) s j) = V m c main_v54 (ix3 (vh (hd t)) (row t s) j) := by
  blk_point [iblk, idx t, hd, row, vh]
theorem blk3 (c : Dev nD) (t : Fin cfg0.N) (u : Fin 8192) (j : Fin 128) :
    iblk m c 3 t (ix3 (0 : Fin 1) u j) = V m c main_v138 (ix3 (hd t) u j) := by
  blk_point [iblk, idx t, hd]

/-- A point's sums over its blocks are sums over the arrays. -/
theorem wt_blk (c : Dev nD) (t : Fin cfg0.N) (s : Fin 2048) (u : Fin 8192) :
    wt (t.val % 4 * 2048) (iblk m c 0 t) (iblk m c 1 t) s u = wgt (V m c main_v112) (V m c main_v81) (hd t) (row t s) u := by
  unfold wt wgt dotKQ
  simp only [blk0, blk1]
  rfl
theorem gs_blk (c : Dev nD) (t : Fin cfg0.N) (s : Fin 2048) (u : Fin 8192) :
    gs (t.val % 4 * 2048) (iblk m c 0 t) (iblk m c 1 t) (iblk m c 2 t) (iblk m c 3 t) s u
      = grd (V m c main_v112) (V m c main_v81) (V m c main_v54) (V m c main_v138) (hd t) (row t s) u := by
  unfold gs grd
  rw [wt_blk]
  unfold dotKQ
  simp only [blk2, blk3]

theorem met_pt (c : Dev nD) (t : Fin cfg0.N) (d) :
    Met (t.val % 4 * 2048) (iblk m c 0 t) (iblk m c 1 t) (iblk m c 2 t) (iblk m c 3 t) d 8192 (pt m c t d) := by
  have ht : t.val < 64 := Nat.lt_of_lt_of_eq t.isLt N_0
  have e1 : (grid0.coords t 1).val = t.val / 1 % 4 := Pipeline.Grid.coords_val t 1 (by decide) rfl
  exact met_point _ _ _ _ d (grid0.coords t) _ (by rw [e1, Nat.div_one])

theorem met_acc (c : Dev nD) (t : Fin cfg0.N) : ∃ d, accAt m c t.val t.isLt = pt m c t d := by
  by_cases h : t.val % 4 = 0
  · exact ⟨_, accAt_first m c t h⟩
  · exact ⟨_, accAt_next m c t h⟩

/-- A key block's gradients of keys and of values. -/
theorem dk_at (c : Dev nD) (t : Fin cfg0.N) (s : Fin 2048) (d : Fin 128) :
    (accAt m c t.val t.isLt).2.1 (ix2 s d) = ∑ u : Fin 8192,
      grd (V m c main_v112) (V m c main_v81) (V m c main_v54) (V m c main_v138) (hd t) (row t s) u * V m c main_v112 (ix3 (hd t) u d) := by
  obtain ⟨x, hx⟩ := met_acc m c t
  rw [hx, (met_pt m c t x).k s d]
  exact Finset.sum_congr rfl fun u _ => by rw [if_pos u.isLt, gs_blk, blk0]

theorem dv_at (c : Dev nD) (t : Fin cfg0.N) (s : Fin 2048) (d : Fin 128) :
    (accAt m c t.val t.isLt).2.2 (ix2 s d) = ∑ u : Fin 8192,
      wgt (V m c main_v112) (V m c main_v81) (hd t) (row t s) u * V m c main_v138 (ix3 (hd t) u d) := by
  obtain ⟨x, hx⟩ := met_acc m c t
  rw [hx, (met_pt m c t x).v s d]
  exact Finset.sum_congr rfl fun u _ => by rw [if_pos u.isLt, wt_blk, blk3]

theorem dqBlock_at (t : Fin cfg0.N) (u : Fin 8192) (d : Fin 128) : dqBlock Q K V' D (hd t) u d (t.val % 4)
    = ∑ s : Fin 2048, grd Q K V' D (hd t) (row t s) u * K (ix3 (hd t) (row t s) d) := by
  rw [dqBlock, dif_pos (by omega)]
  rfl

theorem pt_q (c : Dev nD) (t : Fin cfg0.N) (x) (u : Fin 8192) (d : Fin 128) :
    (pt m c t x).1 (ix2 u d) = x (ix2 u d)
      + dqBlock (V m c main_v112) (V m c main_v81) (V m c main_v54) (V m c main_v138) (hd t) u d (t.val % 4) := by
  rw [(met_pt m c t x).q u d, if_pos u.isLt, dqBlock_at]
  simp only [gs_blk, blk1]

/-- A query's gradient after the key blocks so far. -/
theorem dq_at (c : Dev nD) (n : ℕ) (hn : n < cfg0.N) (u : Fin 8192) (d : Fin 128) :
    (accAt m c n hn).1 (ix2 u d) = ∑ k ∈ Finset.range (n % 4 + 1),
      dqBlock (V m c main_v112) (V m c main_v81) (V m c main_v54) (V m c main_v138) (hd ⟨n, hn⟩) u d k := by
  induction n with
  | zero =>
    rw [accAt_first m c ⟨0, hn⟩ rfl, pt_q, pay20_at]
    simp
  | succ n ih =>
    have ht : n + 1 < 64 := Nat.lt_of_lt_of_eq hn N_0
    by_cases h : (n + 1) % 4 = 0
    · rw [accAt_first m c ⟨n + 1, hn⟩ h, pt_q, pay20_at]
      simp only [h]
      simp
    · rw [accAt_next m c ⟨n + 1, hn⟩ h, pt_q]
      simp only [Nat.add_sub_cancel]
      have e : hd ⟨n + 1, hn⟩ = hd ⟨n, Nat.lt_of_succ_lt hn⟩ := Fin.ext (by show (n + 1) / 4 = n / 4; omega)
      rw [ih (Nat.lt_of_succ_lt hn), e, show (n + 1) % 4 = n % 4 + 1 by omega]
      exact (Finset.sum_range_succ _ _).symm

/-- The key blocks together are all keys. -/
theorem blocks_all (h : Fin 16) (t : Fin 8192) (d : Fin 128) :
    ∑ k ∈ Finset.range 4, dqBlock Q K V' D h t d k = ∑ s : Fin 8192, grd Q K V' D h s t * K (ix3 h s d) := by
  rw [Finset.sum_range]
  refine Eq.trans ?_ (Fin.sum_univ_tiles 4 2048 (by rfl) _).symm
  exact Finset.sum_congr rfl fun k _ => by rw [dqBlock, dif_pos k.isLt]

/-- The head and the column of a column of the gradients, which hold the heads side by side. -/
def colH (x : Fin 2048) : Fin 16 := ⟨x.val / 128, by omega⟩
def colD (x : Fin 2048) : Fin 128 := ⟨x.val % 128, by omega⟩

/-- The three arrays the region leaves. -/
def dqArr : FVec Ideal S8192x2048 .f32 := fun y =>
  (∑ s : Fin 8192, grd Q K V' D (colH (y 1)) s (y 0) * K (ix3 (colH (y 1)) s (colD (y 1)))) * Ideal.ofBits .f32 0x3E000000#32
def dkArr : FVec Ideal S8192x2048 .f32 := fun y => ∑ u : Fin 8192, grd Q K V' D (colH (y 1)) (y 0) u * Q (ix3 (colH (y 1)) u (colD (y 1)))
def dvArr : FVec Ideal S8192x2048 .f32 := fun y => ∑ u : Fin 8192, wgt Q K (colH (y 1)) (y 0) u * D (ix3 (colH (y 1)) u (colD (y 1)))

/-- A column of a head's block is that column of the head. -/
theorem col_hd (t : Fin cfg0.N) (d : Fin 128) (h : (hd t).val * 128 + d.val < 2048) :
    colH ⟨(hd t).val * 128 + d.val, h⟩ = hd t ∧ colD ⟨(hd t).val * 128 + d.val, h⟩ = d :=
  ⟨Fin.ext (by show ((hd t).val * 128 + d.val) / 128 = (hd t).val; omega), Fin.ext (by show ((hd t).val * 128 + d.val) % 128 = d.val; omega)⟩

def col (t : Fin cfg0.N) (d : Fin 128) : Fin 2048 := ⟨(hd t).val * 128 + d.val, by have := (hd t).isLt; omega⟩
theorem colH_col (t : Fin cfg0.N) (d : Fin 128) : colH (col t d) = hd t := (col_hd t d _).1
theorem colD_col (t : Fin cfg0.N) (d : Fin 128) : colD (col t d) = d := (col_hd t d _).2

theorem arr_k (c : Dev nD) : (dats m 0 c).arrAt 5 cfg0.N = dkArr (V m c main_v112) (V m c main_v81) (V m c main_v54) (V m c main_v138) := by
  refine (dats m 0 c).arrAt_eq_of_covers 5 _ (by decide +kernel) fun t _ y => ?_
  blk_simp
  rw [after0_5, acc4_eq]
  idx_vars y
  have hj : (((View.whole main_v139_1).slice (win0_5.rect t)).emb (ix2 y0 y1)) = ix2 (row t y0) (col t y1) := by
    blk_ext [idx t, hd, row, col]
  rw [hj]
  refine (dk_at m c t y0 y1).trans ?_
  show _ = ∑ u : Fin 8192, grd (V m c main_v112) (V m c main_v81) (V m c main_v54) (V m c main_v138) (colH (col t y1)) (row t y0) u
    * V m c main_v112 (ix3 (colH (col t y1)) u (colD (col t y1)))
  rw [colH_col, colD_col]

theorem arr_v (c : Dev nD) : (dats m 0 c).arrAt 6 cfg0.N = dvArr (V m c main_v112) (V m c main_v81) (V m c main_v138) := by
  refine (dats m 0 c).arrAt_eq_of_covers 6 _ (by decide +kernel) fun t _ y => ?_
  blk_simp
  rw [after0_6, acc4_eq]
  idx_vars y
  have hj : (((View.whole main_v139_2).slice (win0_6.rect t)).emb (ix2 y0 y1)) = ix2 (row t y0) (col t y1) := by
    blk_ext [idx t, hd, row, col]
  rw [hj]
  refine (dv_at m c t y0 y1).trans ?_
  show _ = ∑ u : Fin 8192, wgt (V m c main_v112) (V m c main_v81) (colH (col t y1)) (row t y0) u
    * V m c main_v138 (ix3 (colH (col t y1)) u (colD (col t y1)))
  rw [colH_col, colD_col]

theorem arr_q (c : Dev nD) : (dats m 0 c).arrAt 4 cfg0.N = dqArr (V m c main_v112) (V m c main_v81) (V m c main_v54) (V m c main_v138) := by
  refine (dats m 0 c).arrAt_eq_of_covers 4 _ (by decide +kernel) fun t hf y => ?_
  have h3 : t.val % 4 = 3 := (flush0_4 t).mp hf
  blk_simp
  rw [after0_4, dqAt, if_pos h3, allQ_eq]
  idx_vars y
  have hj : (((View.whole main_v139_0).slice (win0_4.rect t)).emb (ix2 y0 y1)) = ix2 y0 (col t y1) := by
    blk_ext [idx t, hd, col]
  rw [hj]
  refine (pay1_at _ y0 y1).trans ?_
  rw [dq_at m c t.val t.isLt, h3, blocks_all]
  show _ = (∑ s : Fin 8192, grd (V m c main_v112) (V m c main_v81) (V m c main_v54) (V m c main_v138) (colH (col t y1)) s y0
    * V m c main_v81 (ix3 (colH (col t y1)) s (colD (col t y1)))) * Ideal.ofBits .f32 0x3E000000#32
  rw [colH_col, colD_col]

end Cert.Kernel4Ideal.Fox
end
-- ==== Proof.FoxHost.lean ====
module

public import proofs.«01_k».proof.Proof.FoxState
public import proofs.«01_k».proof.Proof.FoxRun
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel4Ideal.Fox

open Cert.Kernel4Ideal Cert.Kernel4Ideal.Gen Cert.Attn

variable (m : (ℓ : Loc nD τ sig) → Buf (Elt Ideal) ℓ)

/-- The buffers of the host line before the masked scores. -/
abbrev W1 (c : Dev nD) := StableHlo.after hostOps0_1 (StableHlo.after hostOps0 fun b => m (c, b))

/-- The buffers once the forward lines have run and the packed operand is there. -/
abbrev W2 (c : Dev nD) := StableHlo.after hostOps0_2 (W1 m c)

/-- The host operations between these and the kernel: the operands are widened by columns. -/
def lateOps : List (HloOp τ sig (Elt Ideal)) :=
    hostOps0_3 ++ hostOps0_4 ++ hostOps0_5 ++ hostOps0_6 ++ hostOps0_7 ++ hostOps0_8 ++ hostOps0_9 ++ hostOps0_10 ++
     hostOps0_11 ++ hostOps0_12 ++ hostOps0_13 ++ hostOps0_14 ++ hostOps0_15 ++ hostOps0_16 ++ hostOps0_17 ++
     hostOps0_18 ++ hostOps0_19 ++ hostOps0_20 ++ hostOps0_21 ++ hostOps0_22 ++ hostOps0_23 ++ hostOps0_24 ++
     hostOps0_25

theorem V_eq (c : Dev nD) (b) : V m c b = StableHlo.after lateOps (W2 m c) (Proc.devRef .tc b) := rfl

/-- Column `k` of a widened operand is set to one number per row. -/
def setCol (k : BitVec 32) (y : FVec Ideal S16x8192 .bf16) (x : FVec Ideal S16x8192x128 .bf16) : FVec Ideal S16x8192x128 .bf16 :=
  select (broadcastInDim S16x8192x128 ![0, 1, 2] bcast_S1x1x128_S16x8192x128_0_1_2
      (cmpi CmpIPredicate.eq (iotaInDim S1x1x128 32 2) (broadcastInDim S1x1x128 ![] bcast_S_S1x1x128 (constantI S_ 32 k))))
    (broadcastInDim S16x8192x128 ![0, 1, 2] bcast_S16x8192x1_S16x8192x128_0_1_2
      (broadcastInDim S16x8192x1 ![0, 1] bcast_S16x8192_S16x8192x1_0_1 y)) x

/-- A number's bf16 part, as the host line writes it. -/
def part (x : FVec Ideal S16x8192 .f32) : FVec Ideal S16x8192 .bf16 :=
  truncf .bf16 (extf .f32 (truncf .bf16 x bitsLt_bf16_f32) bitsLt_bf16_f32) bitsLt_bf16_f32

/-- What the bf16 part leaves. -/
def left (x : FVec Ideal S16x8192 .f32) : FVec Ideal S16x8192 .f32 :=
  subf x (extf .f32 (truncf .bf16 x bitsLt_bf16_f32) bitsLt_bf16_f32)

/-- The constant columns of a head of queries or values, and of a head of keys. -/
def onesRow : FVec Ideal S1x64 .f32 :=
  broadcastInDim S1x64 ![1] bcast_S64_S1x64_1 (uitofp .f32 (cmpi .slt (iotaInDim S64 32 0) (broadcastInDim S64 ![] bcast_S_S64 (constantI S_ 32 3#32))))
def keyRow : FVec Ideal S1x64 .f32 :=
  broadcastInDim S1x64 ![1] bcast_S64_S1x64_1 (addf
    (uitofp .f32 (andi (cmpi .sge (iotaInDim S64 32 0) (broadcastInDim S64 ![] bcast_S_S64 (constantI S_ 32 4#32)))
      (cmpi .slt (iotaInDim S64 32 0) (broadcastInDim S64 ![] bcast_S_S64 (constantI S_ 32 7#32)))))
    (mulf (uitofp .f32 (cmpi .eq (iotaInDim S64 32 0) (broadcastInDim S64 ![] bcast_S_S64 (constantI S_ 32 3#32))))
      (broadcastInDim S64 ![] bcast_S_S64 (constant S_ .f32 0x41000000#32))))

/-- The constant columns of all heads. -/
def tails : FVec Ideal S48x64 .f32 :=
  shapeCast S48x64 (broadcastInDim S3x16x64 ![0, 2] bcast_S3x64_S3x16x64_0_2
    (concatenate S3x64 0 [⟨S1x64, onesRow⟩, ⟨S1x64, keyRow⟩, ⟨S1x64, onesRow⟩] concatenates_S1x64_S1x64_S1x64_S3x64_d0)) shapeCasts_S3x16x64_S48x64

/-- Scaled queries, keys and values, each head with its constant columns. -/
def packed (q k v : FVec Ideal S16x8192x64 .f32) : FVec Ideal S48x8192x128 .bf16 :=
  truncf .bf16 (concatenate S48x8192x128 2
    [⟨S48x8192x64, concatenate S48x8192x64 0 [⟨S16x8192x64, mulf q (broadcastInDim S16x8192x64 ![] bcast_S_S16x8192x64 (constant S_ .f32 0x3E000000#32))⟩,
        ⟨S16x8192x64, k⟩, ⟨S16x8192x64, v⟩] concatenates_S16x8192x64_S16x8192x64_S16x8192x64_S48x8192x64_d0⟩,
     ⟨S48x8192x64, broadcastInDim S48x8192x64 ![0, 1, 2] bcast_S48x1x64_S48x8192x64_0_1_2 (broadcastInDim S48x1x64 ![0, 2] bcast_S48x64_S48x1x64_0_2 tails)⟩]
    concatenates_S48x8192x64_S48x8192x64_S48x8192x128_d2) bitsLt_bf16_f32

/-- Operands widened with zeros to 128 columns. -/
def wide0 (x : FVec Ideal S16x8192x128 .bf16) (z : IVec S_ 32) : FVec Ideal S16x8192x128 .bf16 :=
  pad S16x8192x128 ![0, 0, 0] ![0, 0, 0] ![0, 0, 0] x (sitofp .bf16 z) pads_S16x8192x128_S16x8192x128_000_000_000 h_S_
def wide64 (x : FVec Ideal S16x8192x64 .bf16) : FVec Ideal S16x8192x128 .bf16 :=
  pad S16x8192x128 ![0, 0, 0] ![0, 0, 64] ![0, 0, 0] x (sitofp .bf16 (constantI S_ 32 0#32)) pads_S16x8192x64_S16x8192x128_000_000_0640 h_S_

/-- A row of outputs times a row of cotangents. -/
def rowProd (o ct : FVec Ideal S16x8192x64 .f32) : FVec Ideal S16x8192 .f32 :=
  Host.reduceAdd (mulf o (extf .f32 (truncf .bf16 ct bitsLt_bf16_f32) bitsLt_bf16_f32))
    (constant S_ .f32 0x00000000#32) reducesTo_S16x8192x64_S16x8192_d2 h_S_

theorem read_k (W : Valuation τ sig (Elt Ideal)) : StableHlo.after lateOps W (Proc.devRef .tc main_v81) =
    setCol 66#32 (W (Proc.devRef .tc main_v67)) (setCol 65#32 (W (Proc.devRef .tc main_v66)) (setCol 64#32 (W (Proc.devRef .tc main_v65))
      (wide0 (W (Proc.devRef .tc main_v55)) (W (Proc.devRef .tc main_c_8))))) := by
  unfold lateOps
  simp only [List.cons_append, List.nil_append, List.append_assoc]
  after_reads_simp
  simp only [StableHlo.TRef.ofBuf_toBuf]
  unfold setCol wide0
  rfl

theorem read_v (W : Valuation τ sig (Elt Ideal)) : StableHlo.after lateOps W (Proc.devRef .tc main_v54) = W (Proc.devRef .tc main_v54) := by
  unfold lateOps
  simp only [List.cons_append, List.nil_append, List.append_assoc]
  after_reads_simp

theorem read_q (W : Valuation τ sig (Elt Ideal)) : StableHlo.after lateOps W (Proc.devRef .tc main_v112) =
    setCol 70#32 (part (left (left (Host.negf (F := Ideal) (s := S16x8192) (φ := .f32) (W (Proc.devRef .tc main_v25))))))
    (setCol 69#32 (part (left (Host.negf (F := Ideal) (s := S16x8192) (φ := .f32) (W (Proc.devRef .tc main_v25)))))
     (setCol 68#32 (part (Host.negf (F := Ideal) (s := S16x8192) (φ := .f32) (W (Proc.devRef .tc main_v25))))
      (wide0 (extractStridedSlice S16x8192x128 ![0, 0, 0] (W (Proc.devRef .tc main_v54)) slices_S48x8192x128_S16x8192x128_0_0_0) (constantI S_ 32 0#32)))) := by
  unfold lateOps
  simp only [List.cons_append, List.nil_append, List.append_assoc]
  after_reads_simp
  simp only [StableHlo.TRef.ofBuf_toBuf]
  unfold setCol part left wide0
  rfl

theorem read_ct (W : Valuation τ sig (Elt Ideal)) : StableHlo.after lateOps W (Proc.devRef .tc main_v138) =
    setCol 66#32 (part (left (left (Host.negf (rowProd (W (Proc.devRef .tc main_v22)) (W (Proc.devRef .tc main_arg4)))))))
    (setCol 65#32 (part (left (Host.negf (rowProd (W (Proc.devRef .tc main_v22)) (W (Proc.devRef .tc main_arg4))))))
     (setCol 64#32 (part (Host.negf (rowProd (W (Proc.devRef .tc main_v22)) (W (Proc.devRef .tc main_arg4)))))
      (wide64 (truncf (F := Ideal) (s := S16x8192x64) (φ := .f32) .bf16 (W (Proc.devRef .tc main_arg4)) bitsLt_bf16_f32)))) := by
  unfold lateOps
  simp only [List.cons_append, List.nil_append, List.append_assoc]
  after_reads_simp
  simp only [StableHlo.TRef.ofBuf_toBuf]
  unfold setCol part left wide64 rowProd
  rfl

theorem setCol_at (k : Nat) (hk : k < 128) (y x) (h : Fin 16) (t : Fin 8192) (j : Fin 128) :
    setCol (BitVec.ofNat 32 k) y x (ix3 h t j) = if j.val = k then y (ix2 h t) else x (ix3 h t j) := by
  unfold setCol
  pointwise
  have hj := j.isLt
  have : IntOp.cmpi CmpIPredicate.eq (BitVec.ofNat 32 j.val) (BitVec.ofNat 32 k) = BitVec.ofBool (decide (j.val = k)) := by
    word_cmp
  rw [this]
  by_cases e : j.val = k <;> simp only [e, decide_true, decide_false, if_true, if_false] <;> rfl

theorem wide0_at (x z) (h : Fin 16) (t : Fin 8192) (j : Fin 128) : wide0 x z (ix3 h t j) = x (ix3 h t j) := by
  unfold wide0
  pointwise

theorem wide64_at (x) (h : Fin 16) (t : Fin 8192) (j : Fin 128) :
    wide64 x (ix3 h t j) = if h1 : j.val < 64 then x (ix3 h t ⟨j.val, h1⟩) else (0 : EReal) := by
  unfold wide64
  pointwise
  split
  · rfl
  · show (((0#32 : BitVec 32).toInt : ℝ) : EReal) = 0
    simp

theorem part_at (x) (h : Fin 16) (t : Fin 8192) : part x (ix2 h t) = x (ix2 h t) := by
  unfold part
  pointwise

theorem left_at (x) (h : Fin 16) (t : Fin 8192) : left x (ix2 h t) = x (ix2 h t) - x (ix2 h t) := by
  unfold left
  pointwise

/-- Each row's maximum. -/
def rowMax (s : FVec Ideal S16x8192x8192 .f32) : FVec Ideal S16x8192x1 .f32 :=
  broadcastInDim S16x8192x1 ![0, 1] bcast_S16x8192_S16x8192x1_0_1
    (Host.reduce FloatOps.maximumf s (constant S_ .f32 0xFF800000#32) reducesTo_S16x8192x8192_S16x8192_d2 h_S_)

/-- The exponentials of a row against its maximum. -/
def rowExp (s : FVec Ideal S16x8192x8192 .f32) : FVec Ideal S16x8192x8192 .f32 :=
  Host.exp (subf s (broadcastInDim S16x8192x8192 ![0, 1, 2] bcast_S16x8192x1_S16x8192x8192_0_1_2 (rowMax s)))

/-- Their sum over the row. -/
def rowSum (s : FVec Ideal S16x8192x8192 .f32) : FVec Ideal S16x8192x1 .f32 :=
  broadcastInDim S16x8192x1 ![0, 1] bcast_S16x8192_S16x8192x1_0_1
    (Host.reduceAdd (rowExp s) (constant S_ .f32 0x00000000#32) reducesTo_S16x8192x8192_S16x8192_d2 h_S_)

/-- The row log-sum. -/
def rowLse (s : FVec Ideal S16x8192x8192 .f32) : FVec Ideal S16x8192 .f32 :=
  shapeCast S16x8192 (addf (rowMax s) (Host.log (rowSum s))) shapeCasts_S16x8192x1_S16x8192

/-- The attention's output. -/
def attnOut (s : FVec Ideal S16x8192x8192 .f32) (v : FVec Ideal S16x8192x64 .f32) : FVec Ideal S16x8192x64 .f32 :=
  Host.dotGeneral dot_S16x8192x8192_S16x8192x64_S16x8192x64_2_1_1_2_0_0 none
    (Host.divf (rowExp s) (broadcastInDim S16x8192x8192 ![0, 1, 2] bcast_S16x8192x1_S16x8192x8192_0_1_2 (rowSum s))) v

theorem read_lse (W : Valuation τ sig (Elt Ideal)) : StableHlo.after hostOps0_2 W (Proc.devRef .tc main_v25) =
    rowLse (W (Proc.devRef .tc main_v12)) := by
  after_reads_simp
  unfold rowLse rowSum rowExp rowMax
  rfl

theorem read_out (W : Valuation τ sig (Elt Ideal)) : StableHlo.after hostOps0_2 W (Proc.devRef .tc main_v22) =
    attnOut (W (Proc.devRef .tc main_v12)) (W (Proc.devRef .tc main_arg2)) := by
  after_reads_simp
  unfold attnOut rowSum rowExp rowMax
  rfl

theorem read_v54 (W : Valuation τ sig (Elt Ideal)) : StableHlo.after hostOps0_2 W (Proc.devRef .tc main_v54) =
    packed (W (Proc.devRef .tc main_arg0)) (W (Proc.devRef .tc main_arg1)) (W (Proc.devRef .tc main_arg2)) := by
  after_reads_simp
  unfold packed tails onesRow keyRow
  rfl

theorem read_v55 (W : Valuation τ sig (Elt Ideal)) : StableHlo.after hostOps0_2 W (Proc.devRef .tc main_v55) =
    extractStridedSlice S16x8192x128 ![16, 0, 0] (packed (W (Proc.devRef .tc main_arg0)) (W (Proc.devRef .tc main_arg1)) (W (Proc.devRef .tc main_arg2))) slices_S48x8192x128_S16x8192x128_16_0_0 := by
  after_reads_simp
  unfold packed tails onesRow keyRow
  rfl

theorem read_v65 (W : Valuation τ sig (Elt Ideal)) : StableHlo.after hostOps0_2 W (Proc.devRef .tc main_v65) =
    part (Host.negf (F := Ideal) (s := S16x8192) (φ := .f32) (W (Proc.devRef .tc main_arg3))) := by
  after_reads_simp
  unfold part
  rfl

theorem read_v66 (W : Valuation τ sig (Elt Ideal)) : StableHlo.after hostOps0_2 W (Proc.devRef .tc main_v66) =
    part (left (Host.negf (F := Ideal) (s := S16x8192) (φ := .f32) (W (Proc.devRef .tc main_arg3)))) := by
  after_reads_simp
  unfold part left
  rfl

theorem read_v67 (W : Valuation τ sig (Elt Ideal)) : StableHlo.after hostOps0_2 W (Proc.devRef .tc main_v67) =
    part (left (left (Host.negf (F := Ideal) (s := S16x8192) (φ := .f32) (W (Proc.devRef .tc main_arg3))))) := by
  after_reads_simp
  unfold part left
  rfl

theorem read_arg4 (W : Valuation τ sig (Elt Ideal)) : StableHlo.after hostOps0_2 W (Proc.devRef .tc main_arg4) =
    W (Proc.devRef .tc main_arg4) := by
  after_reads_simp

theorem rowMax_at (s) (h : Fin 16) (t : Fin 8192) :
    rowMax s (ix3 h t 0) = Finset.fold max (⊥ : EReal) (fun x : Fin 8192 => s (ix3 h t x)) Finset.univ := by
  unfold rowMax
  pointwise
  rw [show Ideal.ofBits .f32 0xFF800000#32 = ⊥ from neg_inf_bits]

theorem rowExp_at (s) (h : Fin 16) (t x : Fin 8192) :
    rowExp s (ix3 h t x) = Ideal.exp (s (ix3 h t x) - rowMax s (ix3 h t 0)) := by
  unfold rowExp
  pointwise

theorem rowSum_at (s) (h : Fin 16) (t : Fin 8192) :
    rowSum s (ix3 h t 0) = ∑ x : Fin 8192, rowExp s (ix3 h t x) := by
  unfold rowSum
  pointwise

theorem rows_at (x : FVec Ideal S16x8192x1 .f32) (h : Fin 16) (t : Fin 8192) :
    shapeCast S16x8192 x shapeCasts_S16x8192x1_S16x8192 (ix2 h t) = x (ix3 h t 0) := by
  pointwise

theorem log_add_at (a b : FVec Ideal S16x8192x1 .f32) (i) : addf a (Host.log b) i = a i + Ideal.log (b i) := rfl

theorem rowLse_at (s) (h : Fin 16) (t : Fin 8192) :
    rowLse s (ix2 h t) = rowMax s (ix3 h t 0) + Ideal.log (rowSum s (ix3 h t 0)) :=
  (rows_at (addf (rowMax s) (Host.log (rowSum s))) h t).trans (log_add_at (rowMax s) (rowSum s) (ix3 h t 0))

theorem attnOut_at (s v) (h : Fin 16) (t : Fin 8192) (d : Fin 64) :
    attnOut s v (ix3 h t d) = ∑ x : Fin 8192, Ideal.div (rowExp s (ix3 h t x)) (rowSum s (ix3 h t 0)) * v (ix3 h x d) := by
  unfold attnOut
  pointwise

theorem rowProd_at (o ct) (h : Fin 16) (t : Fin 8192) :
    rowProd o ct (ix2 h t) = ∑ d : Fin 64, o (ix3 h t d) * ct (ix3 h t d) := by
  unfold rowProd
  pointwise

/-- The masked scores. -/
def maskScore (q k : FVec Ideal S16x8192x64 .f32) (z : FVec Ideal S16x8192 .f32) : FVec Ideal S16x8192x8192 .f32 :=
  select (broadcastInDim S16x8192x8192 ![1, 2] bcast_S8192x8192_S16x8192x8192_1_2
      (cmpi .sle (broadcastInDim S8192x8192 ![0, 1] bcast_S1x8192_S8192x8192_0_1 (broadcastInDim S1x8192 ![1] bcast_S8192_S1x8192_1 (iotaInDim S8192 32 0)))
       (broadcastInDim S8192x8192 ![0, 1] bcast_S8192x1_S8192x8192_0_1 (broadcastInDim S8192x1 ![0] bcast_S8192_S8192x1_0 (iotaInDim S8192 32 0)))))
    (subf (mulf (Host.dotGeneral dot_S16x8192x64_S16x8192x64_S16x8192x8192_2_2_1_1_0_0 none q k)
        (broadcastInDim S16x8192x8192 ![] bcast_S_S16x8192x8192 (constant S_ .f32 0x3E000000#32)))
      (broadcastInDim S16x8192x8192 ![0, 1, 2] bcast_S16x1x8192_S16x8192x8192_0_1_2 (broadcastInDim S16x1x8192 ![0, 2] bcast_S16x8192_S16x1x8192_0_2 z)))
    (broadcastInDim S16x8192x8192 ![] bcast_S_S16x8192x8192 (constant S_ .f32 0xFF800000#32))

theorem read_score (W : Valuation τ sig (Elt Ideal)) :
    StableHlo.after hostOps0_1 (StableHlo.after hostOps0 W) (Proc.devRef .tc main_v12) =
    maskScore (W (Proc.devRef .tc main_arg0)) (W (Proc.devRef .tc main_arg1)) (W (Proc.devRef .tc main_arg3)) := by
  after_reads_simp
  simp only [StableHlo.TRef.ofBuf_toBuf]
  unfold maskScore
  rfl

theorem maskScore_at (q k z) (h : Fin 16) (t x : Fin 8192) :
    maskScore q k z (ix3 h t x) = if x.val ≤ t.val then (∑ d : Fin 64, q (ix3 h t d) * k (ix3 h x d)) * Ideal.ofBits .f32 0x3E000000#32 - z (ix2 h x) else ⊥ := by
  unfold maskScore
  pointwise
  have hx := x.isLt
  have ht := t.isLt
  have : IntOp.cmpi CmpIPredicate.sle (BitVec.ofNat 32 x.val) (BitVec.ofNat 32 t.val) = BitVec.ofBool (decide (x.val ≤ t.val)) := by
    word_cmp
  rw [this, show Ideal.ofBits .f32 0xFF800000#32 = ⊥ from neg_inf_bits]
  by_cases e : x.val ≤ t.val <;> simp only [e, decide_true, decide_false, if_true, if_false] <;> rfl

theorem W1_arg0 (c : Dev nD) : W1 m c (Proc.devRef .tc main_arg0) = m (c.tc.loc main_arg0) := by
  unfold W1
  after_reads_simp

theorem W1_arg1 (c : Dev nD) : W1 m c (Proc.devRef .tc main_arg1) = m (c.tc.loc main_arg1) := by
  unfold W1
  after_reads_simp

theorem W1_arg2 (c : Dev nD) : W1 m c (Proc.devRef .tc main_arg2) = m (c.tc.loc main_arg2) := by
  unfold W1
  after_reads_simp

theorem W1_arg4 (c : Dev nD) : W1 m c (Proc.devRef .tc main_arg4) = m (c.tc.loc main_arg4) := by
  unfold W1
  after_reads_simp

theorem W1_arg3 (c : Dev nD) : W1 m c (Proc.devRef .tc main_arg3) = m (c.tc.loc main_arg3) := by
  unfold W1
  after_reads_simp

end Cert.Kernel4Ideal.Fox
end
-- ==== Proof.FoxCols.lean ====
module

public import proofs.«01_k».proof.Proof.FoxHost

@[expose] public section

set_option maxRecDepth 16384

noncomputable section

open Idealize.ShloMosaic Idealize.ShloMosaic.TcCoe Idealize.SL.Sem
open Idealize.ShloMosaic.Pipeline (Dat)

namespace Cert.Kernel4Ideal.Fox

open Cert.Kernel4Ideal Cert.Kernel4Ideal.Gen Cert.Attn

theorem bit_one : FloatOps.uitofp (F := Ideal) FTy.f32 1#1 = (1 : EReal) := by
  show (((1#1 : BitVec 1).toNat : ℝ) : EReal) = 1
  simp
theorem bit_zero : FloatOps.uitofp (F := Ideal) FTy.f32 0#1 = (0 : EReal) := by
  show (((0#1 : BitVec 1).toNat : ℝ) : EReal) = 0
  simp

theorem onesRow_at (j : Fin 64) : onesRow (ix2 0 j) = if j.val < 3 then (1 : EReal) else 0 := by
  unfold onesRow
  pointwise
  have hj := j.isLt
  have : IntOp.cmpi CmpIPredicate.slt (BitVec.ofNat 32 j.val) 3#32 = BitVec.ofBool (decide (j.val < 3)) := by word_cmp
  rw [this]
  by_cases e : j.val < 3
  · rw [if_pos e, decide_eq_true e]; exact bit_one
  · rw [if_neg e, decide_eq_false e]; exact bit_zero

theorem keyRow_at (j : Fin 64) : keyRow (ix2 0 j) = if j.val = 3 then Ideal.ofBits .f32 0x41000000#32 else if 4 ≤ j.val ∧ j.val < 7 then (1 : EReal) else 0 := by
  unfold keyRow
  pointwise
  have hj := j.isLt
  have e0 : IntOp.cmpi CmpIPredicate.eq (BitVec.ofNat 32 j.val) 3#32 = BitVec.ofBool (decide (j.val = 3)) := by word_cmp
  have e1 : IntOp.cmpi CmpIPredicate.sge (BitVec.ofNat 32 j.val) 4#32 = BitVec.ofBool (decide (4 ≤ j.val)) := by word_cmp
  have e2 : IntOp.cmpi CmpIPredicate.slt (BitVec.ofNat 32 j.val) 7#32 = BitVec.ofBool (decide (j.val < 7)) := by word_cmp
  have a1 : IntOp.andi (1#1) (1#1) = 1#1 := by decide
  have a2 : IntOp.andi (1#1) (0#1) = 0#1 := by decide
  have a3 : IntOp.andi (0#1) (1#1) = 0#1 := by decide
  have a4 : IntOp.andi (0#1) (0#1) = 0#1 := by decide
  rw [e0, e1, e2]
  by_cases h0 : j.val = 3
  · simp [h0, a1, a2, a3, a4, bit_one, bit_zero]
  · by_cases h1 : 4 ≤ j.val <;> by_cases h2 : j.val < 7 <;> simp [h0, h1, h2, a1, a2, a3, a4, bit_one, bit_zero]

theorem tails_at (g : Fin 3) (h : Fin 16) (j : Fin 64) :
    tails (ix2 ⟨g.val * 16 + h.val, by omega⟩ j) = if g.val = 1 then keyRow (ix2 0 j) else onesRow (ix2 0 j) := by
  unfold tails
  pointwise
  obtain ⟨g, hg⟩ := g
  match g, hg with
  | 0, _ => rfl
  | 1, _ => rfl
  | 2, _ => rfl

theorem packed_high (q k v) (h : Fin 48) (t : Fin 8192) (j : Fin 64) :
    packed q k v (ix3 h t ⟨j.val + 64, by omega⟩) = tails (ix2 h j) := by
  unfold packed
  pointwise
  rw [dif_neg (by omega)]
  rfl

theorem packed_low (q k v) (h : Fin 48) (t : Fin 8192) (j : Fin 64) :
    packed q k v (ix3 h t ⟨j.val, by omega⟩) = if h1 : h.val < 16 then q (ix3 ⟨h.val, h1⟩ t j) * Ideal.ofBits .f32 0x3E000000#32
    else if h2 : h.val - 16 < 16 then k (ix3 ⟨h.val - 16, h2⟩ t j) else v (ix3 ⟨h.val - 16 - 16, by omega⟩ t j) := by
  unfold packed
  pointwise

/-- The packed operand's columns, for the three groups of heads. -/
theorem packed_q (q k v) (h : Fin 16) (t : Fin 8192) (j : Fin 128) :
    packed q k v (ix3 ⟨h.val, by omega⟩ t j) = if h1 : j.val < 64 then q (ix3 h t ⟨j.val, h1⟩) * Ideal.ofBits .f32 0x3E000000#32
      else if j.val < 67 then (1 : EReal) else 0 := by
  by_cases h1 : j.val < 64
  · rw [dif_pos h1]
    exact (packed_low q k v ⟨h.val, by omega⟩ t ⟨j.val, h1⟩).trans (dif_pos h.isLt)
  · rw [dif_neg h1]
    have e : j = ⟨(⟨j.val - 64, by omega⟩ : Fin 64).val + 64, by show j.val - 64 + 64 < 128; omega⟩ := Fin.ext (by show j.val = j.val - 64 + 64; omega)
    rw [e]
    refine (packed_high q k v ⟨h.val, by omega⟩ t ⟨j.val - 64, by omega⟩).trans ?_
    refine Eq.trans (congrArg (fun x : Fin 48 => tails (ix2 x ⟨j.val - 64, by omega⟩)) (Fin.ext (by show h.val = 0 * 16 + h.val; omega))) ((tails_at 0 h ⟨j.val - 64, by omega⟩).trans ?_)
    rw [if_neg (by decide), onesRow_at]
    exact if_congr (by show j.val - 64 < 3 ↔ j.val - 64 + 64 < 67; omega) rfl rfl

theorem packed_v (q k v) (h : Fin 16) (t : Fin 8192) (j : Fin 128) :
    packed q k v (ix3 ⟨h.val + 32, by omega⟩ t j) = if h1 : j.val < 64 then v (ix3 h t ⟨j.val, h1⟩)
      else if j.val < 67 then (1 : EReal) else 0 := by
  by_cases h1 : j.val < 64
  · rw [dif_pos h1]
    refine (packed_low q k v ⟨h.val + 32, by omega⟩ t ⟨j.val, h1⟩).trans ?_
    rw [dif_neg (by show ¬ h.val + 32 < 16; omega), dif_neg (by show ¬ h.val + 32 - 16 < 16; omega)]
    exact congrArg (fun x : Fin 16 => v (ix3 x t ⟨j.val, h1⟩)) (Fin.ext (by show h.val + 32 - 16 - 16 = h.val; omega))
  · rw [dif_neg h1]
    have e : j = ⟨(⟨j.val - 64, by omega⟩ : Fin 64).val + 64, by show j.val - 64 + 64 < 128; omega⟩ := Fin.ext (by show j.val = j.val - 64 + 64; omega)
    rw [e]
    refine (packed_high q k v ⟨h.val + 32, by omega⟩ t ⟨j.val - 64, by omega⟩).trans ?_
    refine Eq.trans (congrArg (fun x : Fin 48 => tails (ix2 x ⟨j.val - 64, by omega⟩)) (Fin.ext (by show h.val + 32 = 2 * 16 + h.val; omega))) ((tails_at 2 h ⟨j.val - 64, by omega⟩).trans ?_)
    rw [if_neg (by decide), onesRow_at]
    exact if_congr (by show j.val - 64 < 3 ↔ j.val - 64 + 64 < 67; omega) rfl rfl

theorem packed_k (q k v) (h : Fin 16) (t : Fin 8192) (j : Fin 128) :
    packed q k v (ix3 ⟨h.val + 16, by omega⟩ t j) = if h1 : j.val < 64 then k (ix3 h t ⟨j.val, h1⟩)
      else if j.val = 67 then Ideal.ofBits .f32 0x41000000#32 else if 68 ≤ j.val ∧ j.val < 71 then (1 : EReal) else 0 := by
  by_cases h1 : j.val < 64
  · rw [dif_pos h1]
    refine (packed_low q k v ⟨h.val + 16, by omega⟩ t ⟨j.val, h1⟩).trans ?_
    rw [dif_neg (by show ¬ h.val + 16 < 16; omega), dif_pos (by show h.val + 16 - 16 < 16; omega)]
    exact congrArg (fun x : Fin 16 => k (ix3 x t ⟨j.val, h1⟩)) (Fin.ext (by show h.val + 16 - 16 = h.val; omega))
  · rw [dif_neg h1]
    have e : j = ⟨(⟨j.val - 64, by omega⟩ : Fin 64).val + 64, by show j.val - 64 + 64 < 128; omega⟩ := Fin.ext (by show j.val = j.val - 64 + 64; omega)
    rw [e]
    refine (packed_high q k v ⟨h.val + 16, by omega⟩ t ⟨j.val - 64, by omega⟩).trans ?_
    refine Eq.trans (congrArg (fun x : Fin 48 => tails (ix2 x ⟨j.val - 64, by omega⟩)) (Fin.ext (by show h.val + 16 = 1 * 16 + h.val; omega))) ((tails_at 1 h ⟨j.val - 64, by omega⟩).trans ?_)
    rw [if_pos (by decide), keyRow_at]
    exact if_congr (by show j.val - 64 = 3 ↔ j.val - 64 + 64 = 67; omega) rfl (if_congr (by show (4 ≤ j.val - 64 ∧ j.val - 64 < 7) ↔ (68 ≤ j.val - 64 + 64 ∧ j.val - 64 + 64 < 71); omega) rfl rfl)

end Cert.Kernel4Ideal.Fox
end
-- ==== Proof.AttnShift.lean ====
module

public import proofs.«01_k».proof.Proof.AttnReal

/-! Softmax attention is unchanged when a number is added to each row of scores. -/

@[expose] public section

noncomputable section

namespace Cert.Attn

open Idealize.ShloMosaic

variable {n : ℕ} (σ : Fin n → Fin n → ℝ) (a : Fin n → ℝ) (p' : Fin n → Fin n → ℝ)

/-- The scores with a number added to each row. -/
def shift (t s : Fin n) : ℝ := σ t s + a t

theorem top_shift (t : Fin n) : top (shift σ a) t = top σ t + a t := by
  unfold top
  apply le_antisymm
  · refine Finset.sup'_le _ _ fun s hs => ?_
    have := Finset.le_sup' (σ t) hs
    unfold shift
    linarith
  · obtain ⟨s, hs, e⟩ := Finset.exists_mem_eq_sup' (s := Finset.univ.filter fun s : Fin n => s.val ≤ t.val) ⟨t, by simp⟩ (σ t)
    rw [e]
    exact Finset.le_sup' (shift σ a t) hs

theorem ex_shift : ex (shift σ a) = ex σ := by
  funext t s
  unfold ex
  rw [top_shift]
  unfold shift
  rw [add_sub_add_right_eq_sub]

theorem tot_shift : tot (shift σ a) = tot σ := by
  funext t
  unfold tot
  rw [ex_shift]

theorem wts_shift : wts (shift σ a) = wts σ := by
  funext t s
  unfold wts
  rw [ex_shift, tot_shift]

theorem dsc_shift : dsc (shift σ a) p' = dsc σ p' := by
  funext t s
  unfold dsc mean
  rw [wts_shift]

variable {h d : ℕ}

/-- The scores of a head, less a number of each key. -/
def sf (q k : Fin h → Fin n → Fin d → ℝ) (z : Fin h → Fin n → ℝ) (c : ℝ) (b : Fin h) (t s : Fin n) : ℝ := sg q k c b t s - z b s

/-- An eighth and eight. -/
theorem eighth_real : Ideal.ofBits .f32 0x3E000000#32 = ((1 / 8 : ℝ) : EReal) := by
  simp only [Ideal.ofBits]
  unfold Ideal.ieee
  simp
  rw [← EReal.coe_mul]
  norm_num

theorem eight_real : Ideal.ofBits .f32 0x41000000#32 = ((8 : ℝ) : EReal) := by
  simp only [Ideal.ofBits]
  unfold Ideal.ieee
  simp
  rw [← EReal.coe_mul]
  norm_num

end Cert.Attn

end
-- ==== Proof.FoxReal.lean ====
module

public import proofs.«01_k».proof.Proof.FoxArr
public import proofs.«01_k».proof.Proof.FoxCols
public import proofs.«01_k».proof.Proof.AttnShift

@[expose] public section

set_option maxRecDepth 16384

noncomputable section

open Idealize.ShloMosaic Idealize.ShloMosaic.TcCoe Idealize.SL.Sem
open Idealize.ShloMosaic.Pipeline (Dat)

namespace Cert.Kernel4Ideal.Fox

open Cert.Kernel4Ideal Cert.Kernel4Ideal.Gen Cert.Attn

variable (m : (ℓ : Loc nD τ sig) → Buf (Elt Ideal) ℓ)

variable {rq rk : Fin 16 → Fin 8192 → Fin 64 → ℝ} {rv rg : Fin 16 → Fin 8192 → Fin 64 → ℝ} {rz : Fin 16 → Fin 8192 → ℝ} {r : ℝ}

section Rows
variable {q k : FVec Ideal S16x8192x64 .f32} {v ct : FVec Ideal S16x8192x64 .f32} {z : FVec Ideal S16x8192 .f32}
  (hc : Ideal.ofBits .f32 0x3E000000#32 = (r : EReal))
  (hq : ∀ h t d, q (ix3 h t d) = (rq h t d : EReal)) (hk : ∀ h t d, k (ix3 h t d) = (rk h t d : EReal))
  (hz : ∀ h t, z (ix2 h t) = (rz h t : EReal))
  (hv : ∀ h t d, v (ix3 h t d) = (rv h t d : EReal)) (hg : ∀ h t d, ct (ix3 h t d) = (rg h t d : EReal))

include hc hq hk hz in
theorem maskScore_real (h : Fin 16) (t x : Fin 8192) : maskScore q k z (ix3 h t x) = msk (sf rq rk rz r h) t x := by
  rw [maskScore_at, msk]
  split
  · rw [hc, hz, sf, sg, EReal.coe_sub, EReal.coe_mul, coe_sum]
    refine congrArg (fun w : EReal => w * (r : EReal) - (rz h x : EReal)) ?_
    exact Finset.sum_congr rfl fun d _ => by rw [hq, hk, EReal.coe_mul]
  · rfl

include hc hq hk hz in
theorem rowMax_real (h : Fin 16) (t : Fin 8192) : rowMax (maskScore q k z) (ix3 h t 0) = (top (sf rq rk rz r h) t : EReal) := by
  rw [rowMax_at, ← fold_top]
  simp only [maskScore_real hc hq hk hz]

include hc hq hk hz in
theorem rowExp_real (h : Fin 16) (t x : Fin 8192) : rowExp (maskScore q k z) (ix3 h t x) = (ex (sf rq rk rz r h) t x : EReal) := by
  rw [rowExp_at, rowMax_real hc hq hk hz, maskScore_real hc hq hk hz, exp_msk]

include hc hq hk hz in
theorem rowSum_real (h : Fin 16) (t : Fin 8192) : rowSum (maskScore q k z) (ix3 h t 0) = (tot (sf rq rk rz r h) t : EReal) := by
  rw [rowSum_at, ← sum_ex]
  simp only [rowExp_real hc hq hk hz]

include hc hq hk hz in
theorem rowLse_real (h : Fin 16) (t : Fin 8192) : rowLse (maskScore q k z) (ix2 h t) = (lse (sf rq rk rz r h) t : EReal) := by
  rw [rowLse_at, rowMax_real hc hq hk hz, rowSum_real hc hq hk hz, lse_eq]

include hc hq hk hz hv hg in
theorem rowProd_real (h : Fin 16) (t : Fin 8192) : rowProd (attnOut (maskScore q k z) v) ct (ix2 h t) = (mean (sf rq rk rz r h) (dp rv rg h) t : EReal) := by
  have e : mean (sf rq rk rz r h) (dp rv rg h) t = ∑ d : Fin 64, (∑ x, wts (sf rq rk rz r h) t x * rv h x d) * rg h t d := by
    unfold mean dp
    simp only [Finset.mul_sum, Finset.sum_mul]
    rw [Finset.sum_comm]
    exact Finset.sum_congr rfl fun d _ => Finset.sum_congr rfl fun x _ => by ring
  rw [rowProd_at, e, coe_sum]
  refine Finset.sum_congr rfl fun d _ => ?_
  rw [EReal.coe_mul, coe_sum, hg, attnOut_at]
  refine congrArg (fun z : EReal => z * (rg h t d : EReal)) (Finset.sum_congr rfl fun x _ => ?_)
  rw [rowExp_real hc hq hk hz, rowSum_real hc hq hk hz, div_ex, hv, EReal.coe_mul]

end Rows

theorem W1_score (c : Dev nD) : W1 m c (Proc.devRef .tc main_v12) = maskScore (m (c.tc.loc main_arg0)) (m (c.tc.loc main_arg1)) (m (c.tc.loc main_arg3)) :=
  read_score _

/-- The three columns that carry a row's number: the number, then what rounding left of it, nothing here. -/
def cols (a b e : BitVec 32) (y : FVec Ideal S16x8192 .f32) (x : FVec Ideal S16x8192x128 .bf16) : FVec Ideal S16x8192x128 .bf16 :=
  setCol e (part (left (left (Host.negf y)))) (setCol b (part (left (Host.negf y))) (setCol a (part (Host.negf y)) x))

theorem cols_at (a : ℕ) (ha : a < 100) (y : FVec Ideal S16x8192 .f32) (x) (h : Fin 16) (t : Fin 8192) (z : ℝ) (hy : y (ix2 h t) = (z : EReal)) (j : Fin 128) :
    cols (BitVec.ofNat 32 a) (BitVec.ofNat 32 (a + 1)) (BitVec.ofNat 32 (a + 2)) y x (ix3 h t j)
      = if j.val = a + 2 then 0 else if j.val = a + 1 then 0 else if j.val = a then ((-z : ℝ) : EReal) else x (ix3 h t j) := by
  have hn : Host.negf y (ix2 h t) = ((-z : ℝ) : EReal) := by
    show -(y (ix2 h t)) = _
    rw [hy, EReal.coe_neg]
  unfold cols
  rw [setCol_at _ (by omega), setCol_at _ (by omega), setCol_at _ (by omega)]
  simp only [part_at, left_at, hn, ← EReal.coe_sub, sub_self, EReal.coe_zero, sub_zero]

theorem first_at (x : FVec Ideal S48x8192x128 .bf16) (h : Fin 16) (t : Fin 8192) (j : Fin 128) :
    extractStridedSlice S16x8192x128 ![0, 0, 0] x slices_S48x8192x128_S16x8192x128_0_0_0 (ix3 h t j) = x (ix3 ⟨h.val, by omega⟩ t j) := by
  pointwise

theorem second_at (x : FVec Ideal S48x8192x128 .bf16) (h : Fin 16) (t : Fin 8192) (j : Fin 128) :
    extractStridedSlice S16x8192x128 ![16, 0, 0] x slices_S48x8192x128_S16x8192x128_16_0_0 (ix3 h t j) = x (ix3 ⟨h.val + 16, by omega⟩ t j) := by
  pointwise
  exact congrArg (fun z : Fin 48 => x (ix3 z t j)) (Fin.ext (Nat.add_comm _ _))

section Arrays
variable (c : Dev nD) (hc : Ideal.ofBits .f32 0x3E000000#32 = (r : EReal))
  (hq : ∀ h t d, (m (c.tc.loc main_arg0) : FVec Ideal S16x8192x64 .f32) (ix3 h t d) = (rq h t d : EReal))
  (hk : ∀ h t d, (m (c.tc.loc main_arg1) : FVec Ideal S16x8192x64 .f32) (ix3 h t d) = (rk h t d : EReal))
  (hz : ∀ h t, (m (c.tc.loc main_arg3) : FVec Ideal S16x8192 .f32) (ix2 h t) = (rz h t : EReal))
  (hv : ∀ h t d, (m (c.tc.loc main_arg2) : FVec Ideal S16x8192x64 .f32) (ix3 h t d) = (rv h t d : EReal))
  (hg : ∀ h t d, (m (c.tc.loc main_arg4) : FVec Ideal S16x8192x64 .f32) (ix3 h t d) = (rg h t d : EReal))

include hc hq hk hz in
theorem q_at (h : Fin 16) (t : Fin 8192) (j : Fin 128) : (V m c main_v112 : FVec Ideal S16x8192x128 .bf16) (ix3 h t j)
    = if j.val = 70 then 0 else if j.val = 69 then 0 else if j.val = 68 then ((-lse (sf rq rk rz r h) t : ℝ) : EReal)
      else if h1 : j.val < 64 then ((rq h t ⟨j.val, h1⟩ * r : ℝ) : EReal) else if j.val < 67 then 1 else 0 := by
  rw [V_eq, read_q]
  simp only [W2]
  refine (cols_at 68 (by omega) _ _ h t (lse (sf rq rk rz r h) t) ?_ j).trans ?_
  · rw [read_lse, W1_score, rowLse_real hc hq hk hz]
  · rw [wide0_at, first_at, read_v54, W1_arg0, packed_q]
    congr 3
    split
    · rw [hq, hc, EReal.coe_mul]
    · rfl

include hk hz in
theorem k_at (h : Fin 16) (t : Fin 8192) (j : Fin 128) : (V m c main_v81 : FVec Ideal S16x8192x128 .bf16) (ix3 h t j)
    = if j.val = 66 then 0 else if j.val = 65 then 0 else if j.val = 64 then ((-rz h t : ℝ) : EReal)
      else if h1 : j.val < 64 then ((rk h t ⟨j.val, h1⟩ : ℝ) : EReal) else if j.val = 67 then ((8 : ℝ) : EReal)
      else if 68 ≤ j.val ∧ j.val < 71 then 1 else 0 := by
  rw [V_eq, read_k]
  simp only [W2]
  rw [read_v65, read_v66, read_v67, read_v55, W1_arg1, W1_arg3]
  refine (cols_at 64 (by omega) (m (c.tc.loc main_arg3)) _ h t (rz h t) (hz h t) j).trans ?_
  rw [wide0_at, second_at, packed_k, eight_real]
  congr 3
  split
  · exact hk _ _ _
  · rfl

include hv in
theorem v_at (h : Fin 16) (t : Fin 8192) (j : Fin 128) : (V m c main_v54 : FVec Ideal S48x8192x128 .bf16) (ix3 (vh h) t j)
    = if h1 : j.val < 64 then ((rv h t ⟨j.val, h1⟩ : ℝ) : EReal) else if j.val < 67 then 1 else 0 := by
  rw [V_eq, read_v]
  simp only [W2]
  rw [read_v54, W1_arg2]
  refine (packed_v _ _ _ h t j).trans ?_
  split
  · exact hv _ _ _
  · rfl

include hc hq hk hz hv hg in
theorem ct_at (h : Fin 16) (t : Fin 8192) (j : Fin 128) : (V m c main_v138 : FVec Ideal S16x8192x128 .bf16) (ix3 h t j)
    = if j.val = 66 then 0 else if j.val = 65 then 0 else if j.val = 64 then ((-mean (sf rq rk rz r h) (dp rv rg h) t : ℝ) : EReal)
      else if h1 : j.val < 64 then ((rg h t ⟨j.val, h1⟩ : ℝ) : EReal) else 0 := by
  rw [V_eq, read_ct]
  simp only [W2]
  rw [read_out, read_arg4, W1_score, W1_arg2, W1_arg4]
  refine (cols_at 64 (by omega) _ _ h t (mean (sf rq rk rz r h) (dp rv rg h) t) ?_ j).trans ?_
  · exact rowProd_real hc hq hk hz hv hg h t
  · rw [wide64_at]
    congr 3
    split
    · exact hg _ _ _
    · rfl

end Arrays

end Cert.Kernel4Ideal.Fox
-- ==== Proof.FoxFwdArr.lean ====
module

public import proofs.«01_k».proof.Proof.FoxFwdEnd
public import proofs.«01_k».proof.Proof.FoxReal

/-! The attention with forget gates, forward: the operands the host prepares, and the two arrays left. -/

@[expose] public section

set_option maxRecDepth 16384

noncomputable section

open Idealize.ShloMosaic Idealize.ShloMosaic.TcCoe Idealize.SL.Sem
open Idealize.ShloMosaic.Pipeline (Dat)

namespace Cert.Kernel15Ideal.FoxFwd

open Cert.Kernel15Ideal Cert.Kernel15Ideal.Gen Cert.Attn

variable (m : (ℓ : Loc nD τ sig) → Buf (Elt Ideal) ℓ)

theorem idx : ∀ t : Fin cfg0.N, win0_0.index t = ![t.val / 4, t.val % 4, 0] ∧ win0_1.index t = ![t.val / 4, 0, 0]
    ∧ win0_2.index t = ![t.val / 4 + 32, 0, 0] ∧ win0_3.index t = ![t.val / 4, t.val % 4, 0] ∧ win0_4.index t = ![t.val / 4, 0, t.val % 4] :=
  (by decide +kernel : ∀ t : Fin grid0.N, _)

theorem lt_rows (t : Fin cfg0.N) : 2048 * (t.val % 4) + 2048 ≤ 8192 := by omega

/-- The head and the queries of a point. -/
def hd (t : Fin cfg0.N) : Fin 16 := ⟨t.val / 4, by have := Nat.lt_of_lt_of_eq t.isLt N_0; omega⟩
def row (t : Fin cfg0.N) (r : Fin 2048) : Fin 8192 := ⟨2048 * (t.val % 4) + r.val, lt_query (lt_rows t) r⟩

/-- A head's place in the first and in the third group of heads of the packed operand. -/
def first (h : Fin 16) : Fin 48 := ⟨h.val, by omega⟩
def third (h : Fin 16) : Fin 48 := ⟨h.val + 32, by omega⟩

/-- The query and key blocks of a point. -/
abbrev blkQ (c : Dev nD) (t : Fin cfg0.N) : FVec Ideal S1x2048x128 .bf16 := iblk m c 0 t
abbrev blkK (c : Dev nD) (t : Fin cfg0.N) : FVec Ideal S1x8192x128 .bf16 := iblk m c 1 t

theorem blk0 (c : Dev nD) (t : Fin cfg0.N) (r : Fin 2048) (j : Fin 128) :
    iblk m c 0 t (ix3 (0 : Fin 1) r j) = V m c main_v28 (ix3 (first (hd t)) (row t r) j) := by
  blk_point [iblk, idx t, hd, row, first]
theorem blk1 (c : Dev nD) (t : Fin cfg0.N) (s : Fin 8192) (j : Fin 128) :
    iblk m c 1 t (ix3 (0 : Fin 1) s j) = V m c main_v55 (ix3 (hd t) s j) := by
  blk_point [iblk, idx t, hd]
theorem blk2 (c : Dev nD) (t : Fin cfg0.N) (s : Fin 8192) (j : Fin 128) :
    iblk m c 2 t (ix3 (0 : Fin 1) s j) = V m c main_v28 (ix3 (third (hd t)) s j) := by
  blk_point [iblk, idx t, hd, third]

/-- The packed operand, and the keys with the decays in three more columns. -/
theorem packed_eq (c : Dev nD) : V m c main_v28 = Kernel4Ideal.Fox.packed (m (c.tc.loc main_arg0)) (m (c.tc.loc main_arg1)) (m (c.tc.loc main_arg2)) := by
  show StableHlo.after (hostOps0 ++ hostOps0_1 ++ hostOps0_2 ++ hostOps0_3 ++ hostOps0_4 ++ hostOps0_5 ++ hostOps0_6 ++ hostOps0_7) (fun b => m (c, b)) (Proc.devRef .tc main_v28) = _
  simp only [List.cons_append, List.nil_append, List.append_assoc]
  after_reads_simp
  unfold Kernel4Ideal.Fox.packed Kernel4Ideal.Fox.tails Kernel4Ideal.Fox.onesRow Kernel4Ideal.Fox.keyRow
  rfl
theorem keys_eq (c : Dev nD) : V m c main_v55 = Kernel4Ideal.Fox.cols 64#32 65#32 66#32 (m (c.tc.loc main_arg3))
    (Kernel4Ideal.Fox.wide0 (extractStridedSlice S16x8192x128 ![16, 0, 0] (Kernel4Ideal.Fox.packed (m (c.tc.loc main_arg0)) (m (c.tc.loc main_arg1)) (m (c.tc.loc main_arg2)))
      slices_S48x8192x128_S16x8192x128_16_0_0) (constantI S_ 32 0#32)) := by
  show StableHlo.after (hostOps0 ++ hostOps0_1 ++ hostOps0_2 ++ hostOps0_3 ++ hostOps0_4 ++ hostOps0_5 ++ hostOps0_6 ++ hostOps0_7) (fun b => m (c, b)) (Proc.devRef .tc main_v55) = _
  simp only [List.cons_append, List.nil_append, List.append_assoc]
  after_reads_simp
  simp only [StableHlo.TRef.ofBuf_toBuf]
  unfold Kernel4Ideal.Fox.packed Kernel4Ideal.Fox.tails Kernel4Ideal.Fox.onesRow Kernel4Ideal.Fox.keyRow Kernel4Ideal.Fox.cols Kernel4Ideal.Fox.setCol Kernel4Ideal.Fox.part Kernel4Ideal.Fox.left Kernel4Ideal.Fox.wide0
  rfl

theorem v_at (c : Dev nD) (h : Fin 16) (s : Fin 8192) (d : Fin 64) :
    V m c main_v28 (ix3 (third h) s (⟨d.val, by omega⟩ : Fin 128)) = m (c.tc.loc main_arg2) (ix3 h s d) := by
  rw [packed_eq]
  exact (Kernel4Ideal.Fox.packed_v _ _ _ h s _).trans (dif_pos d.isLt)
theorem one_at (c : Dev nD) (h : Fin 16) (s : Fin 8192) : V m c main_v28 (ix3 (third h) s (⟨64, by omega⟩ : Fin 128)) = (1 : EReal) := by
  rw [packed_eq]
  refine (Kernel4Ideal.Fox.packed_v _ _ _ h s _).trans ?_
  rw [dif_neg (by decide), if_pos (by decide)]

/-- The weighted sum of the values, and the row log-sum, as arrays. -/
def outArr (σ : Fin 16 → Fin 8192 → Fin 8192 → ℝ) (v : FVec Ideal S16x8192x64 .f32) : FVec Ideal S16x8192x64 .f32 :=
  fun y => ∑ s : Fin 8192, (wts (σ (y 0)) (y 1) s : EReal) * v (ix3 (y 0) s (y 2))
def logArr (σ : Fin 16 → Fin 8192 → Fin 8192 → ℝ) : FVec Ideal S16x1x8192 .f32 := fun y => (lse (σ (y 0)) (y 2) : EReal)

theorem outArr_at (σ v) (h : Fin 16) (t : Fin 8192) (d : Fin 64) : outArr σ v (ix3 h t d) = ∑ s : Fin 8192, (wts (σ h) t s : EReal) * v (ix3 h s d) := rfl
theorem logArr_at (σ) (h : Fin 16) (u : Fin 1) (t : Fin 8192) : logArr σ (ix3 h u t) = (lse (σ h) t : EReal) := rfl

theorem col0 (x : FVec Ideal S2048x128 .f32) (inb) (u : Fin 2048) :
    VecWindow.window (s := S2048x128) x ![0, 0] S2048x1.size inb (ix2 u (0 : Fin 1)) = x (ix2 u (0 : Fin 128)) := by
  refine congrArg x (funext fun a => Fin.ext ?_)
  match a with
  | ⟨0, _⟩ => show 0 + 1 * u.val = u.val; omega
  | ⟨1, _⟩ => rfl

section
variable (c : Dev nD) {rq rk : Fin 16 → Fin 8192 → Fin 64 → ℝ} {rz : Fin 16 → Fin 8192 → ℝ} {z : ℝ}
  (hc : Ideal.ofBits .f32 0x3E000000#32 = (z : EReal))
  (hq : ∀ h t d, (m (c.tc.loc main_arg0) : FVec Ideal S16x8192x64 .f32) (ix3 h t d) = (rq h t d : EReal))
  (hk : ∀ h t d, (m (c.tc.loc main_arg1) : FVec Ideal S16x8192x64 .f32) (ix3 h t d) = (rk h t d : EReal))
  (hz : ∀ h t, (m (c.tc.loc main_arg3) : FVec Ideal S16x8192 .f32) (ix2 h t) = (rz h t : EReal))

include hc hq in
theorem q_at (h : Fin 16) (t : Fin 8192) (j : Fin 128) : (V m c main_v28 : FVec Ideal S48x8192x128 .bf16) (ix3 (first h) t j)
    = if h1 : j.val < 64 then ((rq h t ⟨j.val, h1⟩ * z : ℝ) : EReal) else if j.val < 67 then 1 else 0 := by
  rw [packed_eq]
  refine (Kernel4Ideal.Fox.packed_q _ _ _ h t j).trans ?_
  split
  · rw [hq, hc, EReal.coe_mul]
  · rfl

include hk hz in
theorem k_at (h : Fin 16) (t : Fin 8192) (j : Fin 128) : (V m c main_v55 : FVec Ideal S16x8192x128 .bf16) (ix3 h t j)
    = if j.val = 66 then 0 else if j.val = 65 then 0 else if j.val = 64 then ((-rz h t : ℝ) : EReal)
      else if h1 : j.val < 64 then ((rk h t ⟨j.val, h1⟩ : ℝ) : EReal) else if j.val = 67 then ((8 : ℝ) : EReal)
      else if 68 ≤ j.val ∧ j.val < 71 then 1 else 0 := by
  rw [keys_eq]
  refine (Kernel4Ideal.Fox.cols_at 64 (by omega) (m (c.tc.loc main_arg3)) _ h t (rz h t) (hz h t) j).trans ?_
  rw [Kernel4Ideal.Fox.wide0_at]
  refine congrArg (fun x : EReal => if j.val = 66 then 0 else if j.val = 65 then 0 else if j.val = 64 then ((-rz h t : ℝ) : EReal) else x) ?_
  refine (Kernel4Ideal.Fox.second_at _ h t j).trans ((Kernel4Ideal.Fox.packed_k _ _ _ h t j).trans ?_)
  rw [eight_real]
  split
  · exact hk _ _ _
  · rfl

include hc hq hk hz

theorem scores (t : Fin cfg0.N) (r : Fin 2048) (u : Fin 8192) :
    ∑ j : Fin 128, blkQ m c t (ix3 (0 : Fin 1) r j) * blkK m c t (ix3 (0 : Fin 1) u j)
      = (sf rq rk rz z (hd t) (row t r) u : EReal) := by
  have e : ∀ j : Fin 128, blkQ m c t (ix3 (0 : Fin 1) r j) * blkK m c t (ix3 (0 : Fin 1) u j) = _ := fun j =>
    congrArg₂ (fun x y : EReal => x * y) ((blk0 m c t r j).trans (q_at m c hc hq _ _ _)) ((blk1 m c t u j).trans (k_at m c hk hz _ _ _))
  simp only [e]
  refine (sum_cols 64 63 _ (fun d : Fin 64 => ((rq (hd t) (row t r) d * z * rk (hd t) u d : ℝ) : EReal)) ((-rz (hd t) u : ℝ) : EReal) ?_ ?_ ?_).trans ?_
  · intro d
    have h1 := d.isLt
    rw [dif_pos h1, if_neg (show ¬d.val = 66 by omega), if_neg (show ¬d.val = 65 by omega), if_neg (show ¬d.val = 64 by omega), dif_pos h1, ← EReal.coe_mul]
  · rw [dif_neg (by decide), if_pos (by decide), if_neg (by decide), if_neg (by decide), if_pos rfl, one_mul]
  · intro j hj
    rw [dif_neg (by omega)]
    by_cases h1 : j.val < 67
    · rw [if_pos h1]
      by_cases h2 : j.val = 66
      · rw [if_pos h2, mul_zero]
      · rw [if_neg h2, if_pos (by omega), mul_zero]
    · rw [if_neg h1, zero_mul]
  · rw [sf, sg, ← coe_sum, ← EReal.coe_add, Finset.sum_mul, sub_eq_add_neg]
    congr 2
    exact Finset.sum_congr rfl fun d _ => by ring

/-- A point's rows, once all its keys are met. -/
theorem met_end (t : Fin cfg0.N) (r : Fin 2048) :
    (∀ l : Fin 128, (ends m c t).1 (ix2 r l) = (top (sf rq rk rz z (hd t)) (row t r) : EReal))
      ∧ ∀ d : Fin 128, (ends m c t).2 (ix2 r d) = ∑ s : Fin 8192, (ex (sf rq rk rz z (hd t)) (row t r) s : EReal) * V m c main_v28 (ix3 (third (hd t)) s d) := by
  have e1 : (grid0.coords t 1).val = t.val / 1 % 4 := Pipeline.Grid.coords_val t 1 (by decide) rfl
  obtain ⟨n, hn, M⟩ := met_point (sf rq rk rz z (hd t)) (iblk m c 0 t) (iblk m c 1 t) (iblk m c 2 t) (2048 * (t.val % 4)) (lt_rows t)
    (fun r u => scores m c hc hq hk hz t r u) (grid0.coords t) (by rw [e1, Nat.div_one]) r
  refine ⟨fun l => (M.big l).trans (seenMax_all _ _ n hn), fun d => (M.acc d).trans ((seenSum_all _ _ _ n hn).trans ?_)⟩
  exact Finset.sum_congr rfl fun s _ => by rw [blk2]; rfl

theorem tot_end (t : Fin cfg0.N) (r : Fin 2048) : (ends m c t).2 (ix2 r ⟨64, by omega⟩) = (tot (sf rq rk rz z (hd t)) (row t r) : EReal) := by
  rw [(met_end m c hc hq hk hz t r).2, ← sum_ex]
  exact Finset.sum_congr rfl fun s _ => by rw [one_at, mul_one]

theorem out_row (t : Fin cfg0.N) (r : Fin 2048) (d : Fin 64) (v : FVec Ideal S16x8192x64 .f32)
    (hv : ∀ s, V m c main_v28 (ix3 (third (hd t)) s (⟨d.val, by omega⟩ : Fin 128)) = v (ix3 (hd t) s d)) :
    Ideal.div ((ends m c t).2 (ix2 r (⟨d.val, by omega⟩ : Fin 128))) ((ends m c t).2 (ix2 r ⟨64, by omega⟩))
      = ∑ s : Fin 8192, (wts (sf rq rk rz z (hd t)) (row t r) s : EReal) * v (ix3 (hd t) s d) := by
  have e := (met_end m c hc hq hk hz t r).2 ⟨d.val, by omega⟩
  simp only [hv] at e
  rw [e, tot_end m c hc hq hk hz]
  exact seen_div (sf rq rk rz z (hd t)) (row t r) fun s => v (ix3 (hd t) s d)

/-- The two arrays the region leaves. -/
theorem arr_o : (dats m 0 c).arrAt 3 cfg0.N = outArr (sf rq rk rz z) (m (c.tc.loc main_arg2)) := by
  refine (dats m 0 c).arrAt_eq_of_covers 3 _ (by decide +kernel) fun t _ y => ?_
  blk_simp
  rw [after0_3, outs]
  idx_vars y
  obtain rfl : y0 = 0 := Subsingleton.elim _ _
  have hj : (((View.whole main_v56_0).slice (win0_3.rect t)).emb (ix3 0 y1 y2)) = ix3 (hd t) (row t y1) y2 := by
    blk_ext [idx t, hd, row]
  rw [hj]
  refine (out_at _ y1 y2).trans ?_
  rw [full_eq]
  exact out_row m c hc hq hk hz t y1 y2 (m (c.tc.loc main_arg2)) fun s => v_at m c (hd t) s y2

theorem arr_l : (dats m 0 c).arrAt 4 cfg0.N = logArr (sf rq rk rz z) := by
  refine (dats m 0 c).arrAt_eq_of_covers 4 _ (by decide +kernel) fun t _ y => ?_
  blk_simp
  rw [after0_4, outs]
  idx_vars y
  obtain rfl : y0 = 0 := Subsingleton.elim _ _
  obtain rfl : y1 = 0 := Subsingleton.elim _ _
  have hj : (((View.whole main_v56_1).slice (win0_4.rect t)).emb (ix3 0 0 y2)) = ix3 (hd t) (0 : Fin 1) (row t y2) := by
    blk_ext [idx t, hd, row]
  rw [hj]
  refine (lse_at _ _ y2).trans (Eq.trans ?_ (logArr_at _ _ _ _).symm)
  rw [full_eq, tot_end m c hc hq hk hz, ← lse_eq]
  exact congrArg (fun x : EReal => x + _) ((col0 _ _ y2).trans ((met_end m c hc hq hk hz t y2).1 0))

end

end Cert.Kernel15Ideal.FoxFwd
-- ==== Proof.FoxRef.lean ====
module

public import proofs.«01_k».proof.Defs

public import proofs.«01_k».proof.Proof.AttnShift
public import proofs.«01_k».proof.Proof.Gen.Reference4Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference4Ideal.Fox

open Cert.Reference4Ideal Cert.Reference4Ideal.Gen Cert.Attn

/-- The mask of later keys. -/
def mask : IVec S16x8192x8192 1 :=
  broadcastInDim S16x8192x8192 ![1, 2] bcast_S8192x8192_S16x8192x8192_1_2
    (cmpi .sle (broadcastInDim S8192x8192 ![0, 1] bcast_S1x8192_S8192x8192_0_1 (broadcastInDim S1x8192 ![1] bcast_S8192_S1x8192_1 (iotaInDim S8192 32 0)))
     (broadcastInDim S8192x8192 ![0, 1] bcast_S8192x1_S8192x8192_0_1 (broadcastInDim S8192x1 ![0] bcast_S8192_S8192x1_0 (iotaInDim S8192 32 0))))

/-- The masked scores. -/
def score (q k : FVec Ideal S16x8192x64 .f32) (z : FVec Ideal S16x8192 .f32) : FVec Ideal S16x8192x8192 .f32 :=
  select mask (subf (addf (mulf (Host.dotGeneral dot_S16x8192x64_S16x8192x64_S16x8192x8192_2_2_1_1_0_0 none q k)
      (broadcastInDim S16x8192x8192 ![] bcast_S_S16x8192x8192 (constant S_ .f32 0x3E000000#32)))
      (broadcastInDim S16x8192x8192 ![0, 1, 2] bcast_S16x8192x1_S16x8192x8192_0_1_2 (broadcastInDim S16x8192x1 ![0, 1] bcast_S16x8192_S16x8192x1_0_1 z)))
      (broadcastInDim S16x8192x8192 ![0, 1, 2] bcast_S16x1x8192_S16x8192x8192_0_1_2 (broadcastInDim S16x1x8192 ![0, 2] bcast_S16x8192_S16x1x8192_0_2 z)))
    (broadcastInDim S16x8192x8192 ![] bcast_S_S16x8192x8192 (id (constant S_ .f32 0xFF800000#32)))

/-- A row's maximum. -/
def redTop (s : FVec Ideal S16x8192x8192 .f32) : FVec Ideal S16x8192 .f32 :=
  Host.reduce FloatOps.maximumf s (constant S_ .f32 0xFF800000#32) reducesTo_S16x8192x8192_S16x8192_d2 h_S_
def rowTop (s : FVec Ideal S16x8192x8192 .f32) : FVec Ideal S16x8192 .f32 :=
  maximumf (broadcastInDim S16x8192 ![] bcast_S_S16x8192 (constant S_ .f32 0xFF800000#32)) (redTop s)

/-- Rows and columns of one number each. -/
def col (x : FVec Ideal S16x8192 .f32) : FVec Ideal S16x8192x1 .f32 :=
  broadcastInDim S16x8192x1 ![0, 1] bcast_S16x8192_S16x8192x1_0_1 x
def spread (x : FVec Ideal S16x8192x1 .f32) : FVec Ideal S16x8192x8192 .f32 :=
  broadcastInDim S16x8192x8192 ![0, 1, 2] bcast_S16x8192x1_S16x8192x8192_0_1_2 x

/-- The exponentials and their sums. -/
def expo (s : FVec Ideal S16x8192x8192 .f32) : FVec Ideal S16x8192x8192 .f32 :=
  Host.exp (subf s (spread (col (rowTop s))))
def total (e : FVec Ideal S16x8192x8192 .f32) : FVec Ideal S16x8192x1 .f32 :=
  col (Host.reduceAdd e (constant S_ .f32 0x00000000#32) reducesTo_S16x8192x8192_S16x8192_d2 h_S_)

/-- The products of the cotangent and the values. -/
def prod (v ct : FVec Ideal S16x8192x64 .f32) : FVec Ideal S16x8192x8192 .f32 :=
  Host.dotGeneral dot_S16x8192x64_S16x8192x64_S16x8192x8192_2_2_1_1_0_0 none ct v

/-- The sum the quotient's gradient takes over a row. -/
def inner (e p : FVec Ideal S16x8192x8192 .f32) : FVec Ideal S16x8192 .f32 :=
  Host.reduceAdd (Host.negf (shapeCast S16x8192x1 (Host.reduceAdd (mulf (mulf p (spread
      (Host.divf (broadcastInDim S16x8192x1 ![] bcast_S_S16x8192x1 (constant S_ .f32 0x3F800000#32)) (mulf (total e) (total e))))) e)
      (constant S_ .f32 0x00000000#32) reducesTo_S16x8192x8192_S16x8192_d2 h_S_) shapeCasts_S16x8192_S16x8192x1))
    (constant S_ .f32 0x00000000#32) reducesTo_S16x8192x1_S16x8192_d2 h_S_

/-- The gradient of the scores. -/
def dscore (e p : FVec Ideal S16x8192x8192 .f32) : FVec Ideal S16x8192x8192 .f32 :=
  select mask (mulf (addf (Host.divf p (spread (total e)))
      (broadcastInDim S16x8192x8192 ![0, 1] bcast_S16x8192_S16x8192x8192_0_1 (inner e p))) e)
    (broadcastInDim S16x8192x8192 ![] bcast_S_S16x8192x8192 (constant S_ .f32 0x00000000#32))

/-- The gradient of the products of queries and keys. -/
def scaled (x : FVec Ideal S16x8192x8192 .f32) : FVec Ideal S16x8192x8192 .f32 :=
  mulf x (broadcastInDim S16x8192x8192 ![] bcast_S_S16x8192x8192 (constant S_ .f32 0x3E000000#32))

/-- The sums of its rows, and of its columns. -/
def rowSums (x : FVec Ideal S16x8192x8192 .f32) : FVec Ideal S16x8192 .f32 :=
  Host.reduceAdd (shapeCast S16x8192x1 (Host.reduceAdd x (constant S_ .f32 0x00000000#32) reducesTo_S16x8192x8192_S16x8192_d2 h_S_)
    shapeCasts_S16x8192_S16x8192x1) (constant S_ .f32 0x00000000#32) reducesTo_S16x8192x1_S16x8192_d2 h_S_
def colSums (x : FVec Ideal S16x8192x8192 .f32) : FVec Ideal S16x8192 .f32 :=
  Host.negf (Host.reduceAdd (shapeCast S16x1x8192 (Host.reduceAdd (Host.negf x) (constant S_ .f32 0x00000000#32) reducesTo_S16x8192x8192_S16x8192_d1 h_S_)
    shapeCasts_S16x8192_S16x1x8192) (constant S_ .f32 0x00000000#32) reducesTo_S16x1x8192_S16x8192_d1 h_S_)

variable (m : (ℓ : Loc nD τ sig) → Buf (Elt Ideal) ℓ) (c : Dev nD)

abbrev sc := score (m (c.tc.loc main_arg0)) (m (c.tc.loc main_arg1)) (m (c.tc.loc main_arg3))
abbrev pr := prod (m (c.tc.loc main_arg2)) (m (c.tc.loc main_arg4))

theorem dv_eq : Value.res_main_v46 m c = transpose S16x8192x64 [0, 2, 1]
    (Host.dotGeneral dot_S16x8192x64_S16x8192x8192_S16x64x8192_1_1_2_2_0_0 none (φ₁ := .f32) (m (c.tc.loc main_arg4))
      (Host.divf (expo (sc m c)) (spread (total (expo (sc m c)))))) transposes_S16x64x8192_S16x8192x64_0_2_1 := by
  unfold Value.res_main_v46 sc spread total col expo spread col rowTop redTop score mask
  rfl

theorem dk_eq : Value.res_main_v70 m c = Host.dotGeneral dot_S16x8192x8192_S16x8192x64_S16x8192x64_1_1_2_2_0_0 none (φ₂ := .f32)
    (scaled (dscore (expo (sc m c)) (pr m c))) (m (c.tc.loc main_arg0)) := by
  unfold Value.res_main_v70 sc pr scaled dscore inner prod spread total col expo spread col rowTop redTop score mask
  rfl

theorem dq_eq : Value.res_main_v71 m c = Host.dotGeneral dot_S16x8192x8192_S16x8192x64_S16x8192x64_2_1_1_2_0_0 none (φ₂ := .f32)
    (scaled (dscore (expo (sc m c)) (pr m c))) (m (c.tc.loc main_arg1)) := by
  unfold Value.res_main_v71 sc pr scaled dscore inner prod spread total col expo spread col rowTop redTop score mask
  rfl

theorem dcq_eq : Value.res_main_v67 m c = rowSums (dscore (expo (sc m c)) (pr m c)) := by
  unfold Value.res_main_v67 sc pr rowSums dscore inner prod spread total col expo spread col rowTop redTop score mask
  rfl

theorem dck_eq : Value.res_main_v72 m c = colSums (dscore (expo (sc m c)) (pr m c)) := by
  unfold Value.res_main_v72 sc pr colSums dscore inner prod spread total col expo spread col rowTop redTop score mask
  rfl

end Cert.Reference4Ideal.Fox
-- ==== Proof.FoxRefAt.lean ====
module

public import proofs.«01_k».proof.Proof.FoxRef

@[expose] public section

set_option maxRecDepth 16384

noncomputable section

open Idealize.ShloMosaic Idealize.ShloMosaic.TcCoe Idealize.SL.Sem
open Idealize.ShloMosaic.Pipeline (Dat)

namespace Cert.Reference4Ideal.Fox

open Cert.Reference4Ideal Cert.Reference4Ideal.Gen Cert.Attn

theorem mask_at (h : Fin 16) (t x : Fin 8192) : mask (ix3 h t x) = BitVec.ofBool (decide (x.val ≤ t.val)) := by
  unfold mask
  pointwise
  have hx := x.isLt
  have ht := t.isLt
  show BitVec.ofBool (BitVec.sle (BitVec.ofNat 32 x.val) (BitVec.ofNat 32 t.val)) = _
  rw [BitVec.sle_eq_decide, BitVec.toInt_ofNat', BitVec.toInt_ofNat', bmod_small _ (by omega), bmod_small _ (by omega)]
  simp only [Nat.cast_le]

theorem select_mask (h : Fin 16) (t x : Fin 8192) (a b : FVec Ideal S16x8192x8192 .f32) :
    select mask a b (ix3 h t x) = if x.val ≤ t.val then a (ix3 h t x) else b (ix3 h t x) := by
  show Scalar.select (mask (ix3 h t x)) (a (ix3 h t x)) (b (ix3 h t x)) = _
  rw [mask_at]
  by_cases e : x.val ≤ t.val <;> simp only [e, decide_true, decide_false, if_true, if_false] <;> rfl

theorem score_at (q k z) (h : Fin 16) (t x : Fin 8192) :
    score q k z (ix3 h t x) = if x.val ≤ t.val then (∑ d : Fin 64, q (ix3 h t d) * k (ix3 h x d)) * Ideal.ofBits .f32 0x3E000000#32 + z (ix2 h t) - z (ix2 h x) else ⊥ := by
  unfold score
  rw [select_mask]
  congr 1
  pointwise

theorem redTop_at (s) (h : Fin 16) (t : Fin 8192) :
    redTop s (ix2 h t) = Finset.fold max (⊥ : EReal) (fun x : Fin 8192 => s (ix3 h t x)) Finset.univ := by
  unfold redTop
  pointwise
  rw [neg_inf_bits]

theorem max_bot (z : FVec Ideal S16x8192 .f32) (h : Fin 16) (t : Fin 8192) :
    maximumf (broadcastInDim S16x8192 ![] bcast_S_S16x8192 (constant S_ .f32 0xFF800000#32)) z (ix2 h t) = z (ix2 h t) := by
  show max (Ideal.ofBits .f32 0xFF800000#32) (z (ix2 h t)) = z (ix2 h t)
  rw [neg_inf_bits]
  exact max_eq_right bot_le

theorem rowTop_at (s) (h : Fin 16) (t : Fin 8192) :
    rowTop s (ix2 h t) = Finset.fold max (⊥ : EReal) (fun x : Fin 8192 => s (ix3 h t x)) Finset.univ :=
  (max_bot (redTop s) h t).trans (redTop_at s h t)

theorem spread_col (x) (h : Fin 16) (t s : Fin 8192) : spread (col x) (ix3 h t s) = x (ix2 h t) := by
  unfold spread col
  pointwise

theorem spread_at (x) (h : Fin 16) (t s : Fin 8192) : spread x (ix3 h t s) = x (ix3 h t 0) := by
  unfold spread
  pointwise

theorem expo_at (s) (h : Fin 16) (t x : Fin 8192) :
    expo s (ix3 h t x) = Ideal.exp (s (ix3 h t x) - rowTop s (ix2 h t)) := by
  unfold expo
  generalize rowTop s = z
  pointwise [spread_col]

theorem total_at (e) (h : Fin 16) (t : Fin 8192) : total e (ix3 h t 0) = ∑ x : Fin 8192, e (ix3 h t x) := by
  unfold total col
  pointwise

theorem prod_at (v ct) (h : Fin 16) (t s : Fin 8192) : prod v ct (ix3 h t s) = ∑ d : Fin 64, ct (ix3 h t d) * v (ix3 h s d) := by
  unfold prod
  pointwise

theorem inner_at (e p) (h : Fin 16) (t : Fin 8192) :
    inner e p (ix2 h t) = -∑ x : Fin 8192, p (ix3 h t x) * Ideal.div 1 (total e (ix3 h t 0) * total e (ix3 h t 0)) * e (ix3 h t x) := by
  unfold inner
  generalize total e = L
  pointwise [spread_at]
  simp only [Finset.univ_unique, Finset.sum_const, Finset.card_singleton, one_smul]

theorem dscore_at (e p) (h : Fin 16) (t s : Fin 8192) :
    dscore e p (ix3 h t s) = if s.val ≤ t.val then (Ideal.div (p (ix3 h t s)) (total e (ix3 h t 0)) + inner e p (ix2 h t)) * e (ix3 h t s) else 0 := by
  unfold dscore
  generalize total e = L
  generalize inner e p = I
  rw [select_mask]
  congr 1
  · pointwise [spread_at]
  · pointwise

theorem scaled_at (x) (h : Fin 16) (t s : Fin 8192) : scaled x (ix3 h t s) = x (ix3 h t s) * Ideal.ofBits .f32 0x3E000000#32 := by
  unfold scaled
  pointwise

theorem rowSums_at (x) (h : Fin 16) (t : Fin 8192) : rowSums x (ix2 h t) = ∑ s : Fin 8192, x (ix3 h t s) := by
  unfold rowSums
  pointwise
  simp only [Finset.univ_unique, Finset.sum_const, Finset.card_singleton, one_smul]

theorem colSums_at (x) (h : Fin 16) (s : Fin 8192) : colSums x (ix2 h s) = -∑ t : Fin 8192, -x (ix3 h t s) := by
  unfold colSums
  pointwise
  simp only [Finset.univ_unique, Finset.sum_const, Finset.card_singleton, one_smul]

end Cert.Reference4Ideal.Fox
end
-- ==== Proof.FoxRefReal.lean ====
module

public import proofs.«01_k».proof.Proof.FoxRefAt

@[expose] public section

set_option maxRecDepth 16384

noncomputable section

open Idealize.ShloMosaic Idealize.ShloMosaic.TcCoe Idealize.SL.Sem
open Idealize.ShloMosaic.Pipeline (Dat)

namespace Cert.Reference4Ideal.Fox

open Cert.Reference4Ideal Cert.Reference4Ideal.Gen Cert.Attn

variable {q k : FVec Ideal S16x8192x64 .f32} {v ct : FVec Ideal S16x8192x64 .f32}
  {rq rk : Fin 16 → Fin 8192 → Fin 64 → ℝ} {rv rg : Fin 16 → Fin 8192 → Fin 64 → ℝ} {z : FVec Ideal S16x8192 .f32} {rz : Fin 16 → Fin 8192 → ℝ} {c : ℝ}
  (hc : Ideal.ofBits .f32 0x3E000000#32 = (c : EReal))
  (hq : ∀ h t d, q (ix3 h t d) = (rq h t d : EReal)) (hk : ∀ h t d, k (ix3 h t d) = (rk h t d : EReal))
  (hz : ∀ h t, z (ix2 h t) = (rz h t : EReal))
  (hv : ∀ h t d, v (ix3 h t d) = (rv h t d : EReal)) (hg : ∀ h t d, ct (ix3 h t d) = (rg h t d : EReal))

include hc hq hk hz in
theorem score_real (h : Fin 16) (t x : Fin 8192) : score q k z (ix3 h t x) = msk (shift (sf rq rk rz c h) (rz h)) t x := by
  rw [score_at, msk]
  split
  · have e : shift (sf rq rk rz c h) (rz h) t x = (∑ d, rq h t d * rk h x d) * c + rz h t - rz h x := by
      unfold shift sf sg
      ring
    rw [hc, hz, hz, e, EReal.coe_sub, EReal.coe_add, EReal.coe_mul, coe_sum]
    refine congrArg (fun w : EReal => w * (c : EReal) + (rz h t : EReal) - (rz h x : EReal)) ?_
    exact Finset.sum_congr rfl fun d _ => by rw [hq, hk, EReal.coe_mul]
  · rfl

include hc hq hk hz in
theorem rowTop_real (h : Fin 16) (t : Fin 8192) : rowTop (score q k z) (ix2 h t) = (top (shift (sf rq rk rz c h) (rz h)) t : EReal) := by
  rw [rowTop_at, ← fold_top]
  simp only [score_real hc hq hk hz]

include hc hq hk hz in
theorem expo_real (h : Fin 16) (t x : Fin 8192) : expo (score q k z) (ix3 h t x) = (ex (sf rq rk rz c h) t x : EReal) := by
  rw [expo_at, rowTop_real hc hq hk hz, score_real hc hq hk hz, exp_msk, ex_shift]

include hc hq hk hz in
theorem total_real (h : Fin 16) (t : Fin 8192) : total (expo (score q k z)) (ix3 h t 0) = (tot (sf rq rk rz c h) t : EReal) := by
  rw [total_at, ← sum_ex]
  simp only [expo_real hc hq hk hz]

include hv hg in
theorem prod_real (h : Fin 16) (t s : Fin 8192) : prod v ct (ix3 h t s) = (dp rv rg h t s : EReal) := by
  rw [prod_at, dp, coe_sum]
  exact Finset.sum_congr rfl fun d _ => by rw [hv, hg, EReal.coe_mul]

include hc hq hk hz hv hg in
theorem inner_real (h : Fin 16) (t : Fin 8192) : inner (expo (score q k z)) (prod v ct) (ix2 h t)
    = ((-∑ x, dp rv rg h t x * (1 / (tot (sf rq rk rz c h) t * tot (sf rq rk rz c h) t)) * ex (sf rq rk rz c h) t x : ℝ) : EReal) := by
  have e : Ideal.div 1 ((tot (sf rq rk rz c h) t : EReal) * (tot (sf rq rk rz c h) t : EReal))
      = ((1 / (tot (sf rq rk rz c h) t * tot (sf rq rk rz c h) t) : ℝ) : EReal) := by
    rw [← EReal.coe_mul, ← EReal.coe_one, div_real _ (mul_ne_zero (tot_ne _ t) (tot_ne _ t))]
  rw [inner_at, EReal.coe_neg, coe_sum]
  simp only [total_real hc hq hk hz, prod_real hv hg, expo_real hc hq hk hz, e, EReal.coe_mul]

include hc hq hk hz hv hg in
theorem dscore_real (h : Fin 16) (t s : Fin 8192) : dscore (expo (score q k z)) (prod v ct) (ix3 h t s)
    = (dsc (sf rq rk rz c h) (dp rv rg h) t s : EReal) := by
  rw [dscore_at, inner_real hc hq hk hz hv hg, total_real hc hq hk hz, prod_real hv hg, expo_real hc hq hk hz, div_real _ (tot_ne _ t)]
  split
  · rw [← dsc_eq, EReal.coe_mul, EReal.coe_add]
  · next e => rw [dsc_off _ _ _ _ e]; rfl

include hc hq hk hz hv hg in
theorem scaled_real (h : Fin 16) (t s : Fin 8192) : scaled (dscore (expo (score q k z)) (prod v ct)) (ix3 h t s)
    = ((dsc (sf rq rk rz c h) (dp rv rg h) t s * c : ℝ) : EReal) := by
  rw [scaled_at, dscore_real hc hq hk hz hv hg, hc, EReal.coe_mul]

include hc hq hk hz hv hg in
theorem dcq_real (h : Fin 16) (t : Fin 8192) : rowSums (dscore (expo (score q k z)) (prod v ct)) (ix2 h t)
    = ((∑ s, dsc (sf rq rk rz c h) (dp rv rg h) t s : ℝ) : EReal) := by
  rw [rowSums_at, coe_sum]
  exact Finset.sum_congr rfl fun s _ => dscore_real hc hq hk hz hv hg h t s

include hc hq hk hz hv hg in
theorem dck_real (h : Fin 16) (s : Fin 8192) : colSums (dscore (expo (score q k z)) (prod v ct)) (ix2 h s)
    = ((∑ t, dsc (sf rq rk rz c h) (dp rv rg h) t s : ℝ) : EReal) := by
  rw [colSums_at, show (∑ t, dsc (sf rq rk rz c h) (dp rv rg h) t s : ℝ) = -∑ t, -dsc (sf rq rk rz c h) (dp rv rg h) t s by
    rw [Finset.sum_neg_distrib, neg_neg], EReal.coe_neg, coe_sum]
  refine congrArg (fun w : EReal => -w) (Finset.sum_congr rfl fun t _ => ?_)
  rw [dscore_real hc hq hk hz hv hg, EReal.coe_neg]

theorem dv_dot (w : FVec Ideal S16x8192x8192 .f32) (g : FVec Ideal S16x8192x64 .f32) (h : Fin 16) (s : Fin 8192) (d : Fin 64) :
    transpose S16x8192x64 [0, 2, 1] (Host.dotGeneral dot_S16x8192x64_S16x8192x8192_S16x64x8192_1_1_2_2_0_0 none (φ₁ := .f32) g w)
      transposes_S16x64x8192_S16x8192x64_0_2_1 (ix3 h s d) = ∑ t : Fin 8192, g (ix3 h t d) * w (ix3 h t s) := by
  pointwise

theorem dk_dot (w : FVec Ideal S16x8192x8192 .f32) (x : FVec Ideal S16x8192x64 .f32) (h : Fin 16) (s : Fin 8192) (d : Fin 64) :
    Host.dotGeneral dot_S16x8192x8192_S16x8192x64_S16x8192x64_1_1_2_2_0_0 none (φ₂ := .f32) w x (ix3 h s d)
      = ∑ t : Fin 8192, w (ix3 h t s) * x (ix3 h t d) := by
  pointwise

theorem dq_dot (w : FVec Ideal S16x8192x8192 .f32) (x : FVec Ideal S16x8192x64 .f32) (h : Fin 16) (t : Fin 8192) (d : Fin 64) :
    Host.dotGeneral dot_S16x8192x8192_S16x8192x64_S16x8192x64_2_1_1_2_0_0 none (φ₂ := .f32) w x (ix3 h t d)
      = ∑ s : Fin 8192, w (ix3 h t s) * x (ix3 h s d) := by
  pointwise

theorem quot_at (e : FVec Ideal S16x8192x8192 .f32) (z : FVec Ideal S16x8192x1 .f32) (h : Fin 16) (t s : Fin 8192) :
    Host.divf e (spread z) (ix3 h t s) = Ideal.div (e (ix3 h t s)) (z (ix3 h t 0)) := by
  pointwise [spread_at]

include hc hq hk hz hg in
theorem dv_real (h : Fin 16) (s : Fin 8192) (d : Fin 64) :
    transpose S16x8192x64 [0, 2, 1] (Host.dotGeneral dot_S16x8192x64_S16x8192x8192_S16x64x8192_1_1_2_2_0_0 none (φ₁ := .f32) ct
      (Host.divf (expo (score q k z)) (spread (total (expo (score q k z)))))) transposes_S16x64x8192_S16x8192x64_0_2_1 (ix3 h s d)
    = ((∑ t, rg h t d * wts (sf rq rk rz c h) t s : ℝ) : EReal) := by
  rw [dv_dot, coe_sum]
  refine Finset.sum_congr rfl fun t _ => ?_
  rw [quot_at, expo_real hc hq hk hz, total_real hc hq hk hz, div_ex, hg, EReal.coe_mul]

include hc hq hk hz hv hg in
theorem dk_real (h : Fin 16) (s : Fin 8192) (d : Fin 64) :
    Host.dotGeneral dot_S16x8192x8192_S16x8192x64_S16x8192x64_1_1_2_2_0_0 none (φ₂ := .f32) (scaled (dscore (expo (score q k z)) (prod v ct))) q (ix3 h s d)
    = ((∑ t, dsc (sf rq rk rz c h) (dp rv rg h) t s * c * rq h t d : ℝ) : EReal) := by
  rw [dk_dot, coe_sum]
  refine Finset.sum_congr rfl fun t _ => ?_
  rw [scaled_real hc hq hk hz hv hg, hq, ← EReal.coe_mul]

include hc hq hk hz hv hg in
theorem dq_real (h : Fin 16) (t : Fin 8192) (d : Fin 64) :
    Host.dotGeneral dot_S16x8192x8192_S16x8192x64_S16x8192x64_2_1_1_2_0_0 none (φ₂ := .f32) (scaled (dscore (expo (score q k z)) (prod v ct))) k (ix3 h t d)
    = ((∑ s, dsc (sf rq rk rz c h) (dp rv rg h) t s * c * rk h s d : ℝ) : EReal) := by
  rw [dq_dot, coe_sum]
  refine Finset.sum_congr rfl fun s _ => ?_
  rw [scaled_real hc hq hk hz hv hg, hk, ← EReal.coe_mul]

end Cert.Reference4Ideal.Fox
-- ==== Proof.FoxFwdRef.lean ====
module

public import proofs.«01_k».proof.Proof.FoxRefReal
public import Idealize.ShloMosaic.Lib.VecWindow
public import Idealize.ShloMosaic.Lib.StableHlo.RunRead

/-! The attention with forget gates, forward: the reference on real scores. -/

@[expose] public section

set_option maxRecDepth 16384

noncomputable section

open Idealize.ShloMosaic Idealize.ShloMosaic.TcCoe Idealize.SL.Sem
open Idealize.ShloMosaic.Pipeline (Dat)

namespace Cert.Reference4Ideal.Fox

open Cert.Reference4Ideal Cert.Reference4Ideal.Gen Cert.Attn

/-- The two results of the forward lines: the weighted sum of the values, and the row log-sum less the row's own decays. -/
def outp (q k v : FVec Ideal S16x8192x64 .f32) (z : FVec Ideal S16x8192 .f32) : FVec Ideal S16x8192x64 .f32 :=
  Host.dotGeneral dot_S16x8192x8192_S16x8192x64_S16x8192x64_2_1_1_2_0_0 none
    (Host.divf (expo (score q k z)) (spread (total (expo (score q k z))))) v
def sums (s : FVec Ideal S16x8192x8192 .f32) : FVec Ideal S16x8192 .f32 :=
  Host.reduceAdd (Host.exp (subf s (spread (col (redTop s))))) (constant S_ .f32 0x00000000#32) reducesTo_S16x8192x8192_S16x8192_d2 h_S_
def logs (q k : FVec Ideal S16x8192x64 .f32) (z : FVec Ideal S16x8192 .f32) : FVec Ideal S16x8192 .f32 :=
  subf (addf (redTop (score q k z)) (Host.log (sums (score q k z)))) z

theorem lse_shift {n : ℕ} (σ : Fin n → Fin n → ℝ) (a : Fin n → ℝ) (t : Fin n) : lse (shift σ a) t - a t = lse σ t := by
  unfold lse
  rw [top_shift, tot_shift]
  ring

variable {q k : FVec Ideal S16x8192x64 .f32} {rq rk : Fin 16 → Fin 8192 → Fin 64 → ℝ} {z : FVec Ideal S16x8192 .f32} {rz : Fin 16 → Fin 8192 → ℝ} {c : ℝ}
  (hc : Ideal.ofBits .f32 0x3E000000#32 = (c : EReal))
  (hq : ∀ h t d, q (ix3 h t d) = (rq h t d : EReal)) (hk : ∀ h t d, k (ix3 h t d) = (rk h t d : EReal))
  (hz : ∀ h t, z (ix2 h t) = (rz h t : EReal))

theorem sums_at (s) (h : Fin 16) (t : Fin 8192) : sums s (ix2 h t) = ∑ x : Fin 8192, Ideal.exp (s (ix3 h t x) - redTop s (ix2 h t)) := by
  unfold sums
  pointwise [spread_col]

theorem logs_at (a b d : FVec Ideal S16x8192 .f32) (h : Fin 16) (t : Fin 8192) :
    subf (addf a (Host.log b)) d (ix2 h t) = a (ix2 h t) + Ideal.log (b (ix2 h t)) - d (ix2 h t) := rfl

include hc hq hk hz

theorem outp_real (v : FVec Ideal S16x8192x64 .f32) (h : Fin 16) (t : Fin 8192) (d : Fin 64) :
    outp q k v z (ix3 h t d) = ∑ s, (wts (sf rq rk rz c h) t s : EReal) * v (ix3 h s d) := by
  unfold outp
  refine (dq_dot _ v h t d).trans (Finset.sum_congr rfl fun s _ => ?_)
  rw [quot_at, total_real hc hq hk hz, expo_real hc hq hk hz, div_ex]

theorem logs_real (h : Fin 16) (t : Fin 8192) : logs q k z (ix2 h t) = (lse (sf rq rk rz c h) t : EReal) := by
  have e : redTop (score q k z) (ix2 h t) = (top (shift (sf rq rk rz c h) (rz h)) t : EReal) := by
    rw [redTop_at, ← fold_top]
    simp only [score_real hc hq hk hz]
  unfold logs
  rw [logs_at, sums_at, e, hz]
  simp only [score_real hc hq hk hz, exp_msk]
  rw [sum_ex, lse_eq, ← EReal.coe_sub]
  exact congrArg (fun x : ℝ => (x : EReal)) (lse_shift (sf rq rk rz c h) (rz h) t)

end Cert.Reference4Ideal.Fox
-- ==== Proof.FoxGrad.lean ====
module

public import proofs.«01_k».proof.Proof.FoxReal
public import proofs.«01_k».proof.Proof.FoxRefReal

@[expose] public section

set_option maxRecDepth 16384

noncomputable section

open Idealize.ShloMosaic Idealize.ShloMosaic.TcCoe Idealize.SL.Sem
open Idealize.ShloMosaic.Pipeline (Dat)

namespace Cert.Kernel4Ideal.Fox

open Cert.Kernel4Ideal Cert.Kernel4Ideal.Gen Cert.Attn

variable (m : (ℓ : Loc nD τ sig) → Buf (Elt Ideal) ℓ)

variable {rq rk rv rg : Fin 16 → Fin 8192 → Fin 64 → ℝ} {rz : Fin 16 → Fin 8192 → ℝ}
  (c : Dev nD)
  (hq : ∀ h t d, (m (c.tc.loc main_arg0) : FVec Ideal S16x8192x64 .f32) (ix3 h t d) = (rq h t d : EReal))
  (hk : ∀ h t d, (m (c.tc.loc main_arg1) : FVec Ideal S16x8192x64 .f32) (ix3 h t d) = (rk h t d : EReal))
  (hz : ∀ h t, (m (c.tc.loc main_arg3) : FVec Ideal S16x8192 .f32) (ix2 h t) = (rz h t : EReal))
  (hv : ∀ h t d, (m (c.tc.loc main_arg2) : FVec Ideal S16x8192x64 .f32) (ix3 h t d) = (rv h t d : EReal))
  (hg : ∀ h t d, (m (c.tc.loc main_arg4) : FVec Ideal S16x8192x64 .f32) (ix3 h t d) = (rg h t d : EReal))

/-- The product of two rows of 128 entries, and of a row of values and one of cotangents. -/
def dot128 (x y : FVec Ideal S16x8192x128 .bf16) (h : Fin 16) (s t : Fin 8192) : EReal := ∑ j : Fin 128, x (ix3 h s j) * y (ix3 h t j)
def dotVD (x : FVec Ideal S48x8192x128 .bf16) (y : FVec Ideal S16x8192x128 .bf16) (h : Fin 16) (s t : Fin 8192) : EReal :=
  ∑ j : Fin 128, x (ix3 (vh h) s j) * y (ix3 h t j)

/-- A sum over 128 columns of which the first 64, column 64 and column 68 count. -/
theorem sum_two (f : Fin 128 → EReal) (g : Fin 64 → EReal) (a b : EReal) (hg : ∀ d : Fin 64, f ⟨d.val, by omega⟩ = g d)
    (ha : f ⟨64, by omega⟩ = a) (hb : f ⟨68, by omega⟩ = b) (h0 : ∀ j : Fin 128, 64 < j.val → j.val ≠ 68 → f j = 0) :
    ∑ j, f j = (∑ d, g d) + (a + b) := by
  refine (Fin.sum_univ_add (a := 64) (b := 64) f).trans ?_
  have e : ∑ i : Fin 64, (fun x : Fin 64 => f (Fin.natAdd 64 x)) i = f (Fin.natAdd 64 (0 : Fin 64)) + f (Fin.natAdd 64 (4 : Fin 64)) := by
    refine Fintype.sum_eq_add (0 : Fin 64) 4 (by decide) fun x hx => h0 (Fin.natAdd 64 x) ?_ ?_
    · have : x.val ≠ 0 := fun e => hx.1 (Fin.ext e)
      show 64 < 64 + x.val
      omega
    · have : x.val ≠ 4 := fun e => hx.2 (Fin.ext e)
      show 64 + x.val ≠ 68
      omega
  exact congrArg₂ (· + ·) (Finset.sum_congr rfl fun d _ => hg d) (e.trans (congrArg₂ (· + ·) ha hb))

theorem dot_two (x y : FVec Ideal S16x8192x128 .bf16) (h : Fin 16) (s t : Fin 8192) (g : Fin 64 → EReal) (a b : EReal)
    (hg : ∀ d : Fin 64, x (ix3 h s ⟨d.val, by omega⟩) * y (ix3 h t ⟨d.val, by omega⟩) = g d)
    (ha : x (ix3 h s ⟨64, by omega⟩) * y (ix3 h t ⟨64, by omega⟩) = a)
    (hb : x (ix3 h s ⟨68, by omega⟩) * y (ix3 h t ⟨68, by omega⟩) = b)
    (h0 : ∀ j : Fin 128, 64 < j.val → j.val ≠ 68 → x (ix3 h s j) * y (ix3 h t j) = 0) : dot128 x y h s t = (∑ d, g d) + (a + b) :=
  sum_two (fun j => x (ix3 h s j) * y (ix3 h t j)) g a b hg ha hb h0

theorem dot_one (x : FVec Ideal S48x8192x128 .bf16) (y : FVec Ideal S16x8192x128 .bf16) (h : Fin 16) (s t : Fin 8192) (g : Fin 64 → EReal) (z : EReal)
    (hg : ∀ d : Fin 64, x (ix3 (vh h) s ⟨d.val, by omega⟩) * y (ix3 h t ⟨d.val, by omega⟩) = g d)
    (hz : x (ix3 (vh h) s ⟨64, by omega⟩) * y (ix3 h t ⟨64, by omega⟩) = z)
    (h0 : ∀ j : Fin 128, 64 < j.val → x (ix3 (vh h) s j) * y (ix3 h t j) = 0) : dotVD x y h s t = (∑ d, g d) + z :=
  sum_cols 64 63 (fun j => x (ix3 (vh h) s j) * y (ix3 h t j)) g z hg hz h0

include hq hk hz in
theorem kq_sum (h : Fin 16) (s t : Fin 8192) :
    dot128 (V m c main_v81) (V m c main_v112) h s t = ((sf rq rk rz (1 / 8) h) t s : EReal) + -(lse (sf rq rk rz (1 / 8) h) t : EReal) := by
  refine (dot_two _ _ h s t (fun d => ((rk h s d * (rq h t d * (1 / 8)) : ℝ) : EReal)) ((-rz h s : ℝ) : EReal) ((-lse (sf rq rk rz (1 / 8) h) t : ℝ) : EReal) ?_ ?_ ?_ ?_).trans ?_
  · intro d
    have := d.isLt
    rw [q_at m c eighth_real hq hk hz, k_at m c hk hz, if_neg (by simp <;> omega), if_neg (by simp <;> omega), if_neg (by simp <;> omega), dif_pos this,
      if_neg (by simp <;> omega), if_neg (by simp <;> omega), if_neg (by simp <;> omega), dif_pos this, ← EReal.coe_mul]
  · rw [q_at m c eighth_real hq hk hz, k_at m c hk hz, if_neg (by simp), if_neg (by simp), if_pos rfl, if_neg (by simp), if_neg (by simp), if_neg (by simp),
      dif_neg (by simp), if_pos (by simp), mul_one]
  · rw [q_at m c eighth_real hq hk hz, k_at m c hk hz, if_neg (by simp), if_neg (by simp), if_neg (by simp), dif_neg (by simp), if_neg (by simp), if_pos (by simp),
      if_neg (by simp), if_neg (by simp), if_pos rfl, one_mul]
  · intro j h1 h2
    rw [q_at m c eighth_real hq hk hz, k_at m c hk hz]
    by_cases e1 : j.val = 66
    · rw [if_pos e1, zero_mul]
    by_cases e2 : j.val = 65
    · rw [if_neg e1, if_pos e2, zero_mul]
    by_cases e3 : j.val = 70
    · rw [if_pos e3, mul_zero]
    by_cases e4 : j.val = 69
    · rw [if_neg e3, if_pos e4, mul_zero]
    rw [if_neg e3, if_neg e4, if_neg h2, dif_neg (show ¬j.val < 64 by omega), dif_neg (show ¬j.val < 64 by omega), if_neg (show ¬j.val < 67 by omega), mul_zero]
  · have e : ((sf rq rk rz (1 / 8) h) t s : ℝ) + -lse (sf rq rk rz (1 / 8) h) t = (∑ d, rk h s d * (rq h t d * (1 / 8))) + (-rz h s + -lse (sf rq rk rz (1 / 8) h) t) := by
      unfold sf sg
      rw [Finset.sum_mul, Finset.sum_congr rfl fun d _ => show rq h t d * rk h s d * (1 / 8) = rk h s d * (rq h t d * (1 / 8)) by ring]
      ring
    rw [← coe_sum, ← EReal.coe_add, ← EReal.coe_add, ← e, EReal.coe_add, EReal.coe_neg]

include hq hk hz in
theorem wgt_real (h : Fin 16) (s t : Fin 8192) : wgt (V m c main_v112) (V m c main_v81) h s t = (wts (sf rq rk rz (1 / 8) h) t s : EReal) := by
  show (if s.val ≤ t.val then Ideal.exp (dot128 (V m c main_v81) (V m c main_v112) h s t) else 0) = _
  split
  · next e => rw [kq_sum m c hq hk hz, exp_lse _ _ _ e]
  · next e => rw [wts_off _ _ _ e]; rfl

include hq hk hz hv hg in
theorem vd_sum (h : Fin 16) (s t : Fin 8192) :
    dotVD (V m c main_v54) (V m c main_v138) h s t = ((dp rv rg h t s - mean (sf rq rk rz (1 / 8) h) (dp rv rg h) t : ℝ) : EReal) := by
  refine (dot_one _ _ h s t (fun d => ((rv h s d * rg h t d : ℝ) : EReal)) ((-mean (sf rq rk rz (1 / 8) h) (dp rv rg h) t : ℝ) : EReal) ?_ ?_ ?_).trans ?_
  · intro d
    have := d.isLt
    rw [ct_at m c eighth_real hq hk hz hv hg, v_at m c hv, dif_pos this, if_neg (by simp <;> omega), if_neg (by simp <;> omega),
      if_neg (by simp <;> omega), dif_pos this, EReal.coe_mul]
  · rw [ct_at m c eighth_real hq hk hz hv hg, v_at m c hv, dif_neg (by simp), if_pos (by simp), if_neg (by simp), if_neg (by simp), if_pos rfl, one_mul]
  · intro j hj
    rw [ct_at m c eighth_real hq hk hz hv hg]
    split
    · exact mul_zero _
    · split
      · exact mul_zero _
      · rw [if_neg (by omega), dif_neg (by omega), mul_zero]
  · rw [← coe_sum, ← EReal.coe_add, sub_eq_add_neg]
    congr 2
    unfold dp
    exact Finset.sum_congr rfl fun d _ => by ring

include hq hk hz hv hg in
theorem grd_real (h : Fin 16) (s t : Fin 8192) :
    grd (V m c main_v112) (V m c main_v81) (V m c main_v54) (V m c main_v138) h s t = (dsc (sf rq rk rz (1 / 8) h) (dp rv rg h) t s : EReal) := by
  show wgt (V m c main_v112) (V m c main_v81) h s t * dotVD (V m c main_v54) (V m c main_v138) h s t = _
  rw [wgt_real m c hq hk hz, vd_sum m c hq hk hz hv hg, ← EReal.coe_mul]
  rfl

include hq hk hz hv hg in
theorem dv_real (h : Fin 16) (s : Fin 8192) (d : Fin 64) :
    (∑ u : Fin 8192, wgt (V m c main_v112) (V m c main_v81) h s u * (V m c main_v138 : FVec Ideal S16x8192x128 .bf16) (ix3 h u ⟨d.val, by omega⟩))
      = ((∑ t, rg h t d * wts (sf rq rk rz (1 / 8) h) t s : ℝ) : EReal) := by
  rw [coe_sum]
  refine Finset.sum_congr rfl fun t _ => ?_
  have := d.isLt
  rw [wgt_real m c hq hk hz, ct_at m c eighth_real hq hk hz hv hg, if_neg (by simp <;> omega), if_neg (by simp <;> omega), if_neg (by simp <;> omega),
    dif_pos this, EReal.coe_mul, mul_comm]

include hq hk hz hv hg in
theorem dk_real (h : Fin 16) (s : Fin 8192) (d : Fin 64) :
    (∑ u : Fin 8192, grd (V m c main_v112) (V m c main_v81) (V m c main_v54) (V m c main_v138) h s u * (V m c main_v112 : FVec Ideal S16x8192x128 .bf16) (ix3 h u ⟨d.val, by omega⟩))
      = ((∑ t, dsc (sf rq rk rz (1 / 8) h) (dp rv rg h) t s * (1 / 8) * rq h t d : ℝ) : EReal) := by
  rw [coe_sum]
  refine Finset.sum_congr rfl fun t _ => ?_
  have := d.isLt
  rw [grd_real m c hq hk hz hv hg, q_at m c eighth_real hq hk hz, if_neg (by simp <;> omega), if_neg (by simp <;> omega), if_neg (by simp <;> omega),
    dif_pos this, ← EReal.coe_mul]
  congr 1
  ring

include hq hk hz hv hg in
theorem dck_real (h : Fin 16) (s : Fin 8192) :
    (∑ u : Fin 8192, grd (V m c main_v112) (V m c main_v81) (V m c main_v54) (V m c main_v138) h s u * (V m c main_v112 : FVec Ideal S16x8192x128 .bf16) (ix3 h u ⟨64, by omega⟩))
      = ((∑ t, dsc (sf rq rk rz (1 / 8) h) (dp rv rg h) t s : ℝ) : EReal) := by
  rw [coe_sum]
  refine Finset.sum_congr rfl fun t _ => ?_
  rw [grd_real m c hq hk hz hv hg, q_at m c eighth_real hq hk hz, if_neg (by simp), if_neg (by simp), if_neg (by simp),
    dif_neg (by simp), if_pos (by simp), mul_one]

include hq hk hz hv hg in
theorem dq_real (h : Fin 16) (t : Fin 8192) (d : Fin 64) :
    (∑ s : Fin 8192, grd (V m c main_v112) (V m c main_v81) (V m c main_v54) (V m c main_v138) h s t * (V m c main_v81 : FVec Ideal S16x8192x128 .bf16) (ix3 h s ⟨d.val, by omega⟩)) * Ideal.ofBits .f32 0x3E000000#32
      = ((∑ s, dsc (sf rq rk rz (1 / 8) h) (dp rv rg h) t s * (1 / 8) * rk h s d : ℝ) : EReal) := by
  have e : ∑ s, dsc (sf rq rk rz (1 / 8) h) (dp rv rg h) t s * (1 / 8) * rk h s d = (∑ s, dsc (sf rq rk rz (1 / 8) h) (dp rv rg h) t s * rk h s d) * (1 / 8) := by
    rw [Finset.sum_mul]
    exact Finset.sum_congr rfl fun s _ => by ring
  rw [e, eighth_real, EReal.coe_mul, coe_sum]
  refine congrArg (fun z : EReal => z * ((1 / 8 : ℝ) : EReal)) (Finset.sum_congr rfl fun s _ => ?_)
  have := d.isLt
  rw [grd_real m c hq hk hz hv hg, k_at m c hk hz, if_neg (by simp <;> omega), if_neg (by simp <;> omega), if_neg (by simp <;> omega),
    dif_pos this, ← EReal.coe_mul]

include hq hk hz hv hg in
theorem dcq_real (h : Fin 16) (t : Fin 8192) :
    (∑ s : Fin 8192, grd (V m c main_v112) (V m c main_v81) (V m c main_v54) (V m c main_v138) h s t * (V m c main_v81 : FVec Ideal S16x8192x128 .bf16) (ix3 h s ⟨67, by omega⟩)) * Ideal.ofBits .f32 0x3E000000#32
      = ((∑ s, dsc (sf rq rk rz (1 / 8) h) (dp rv rg h) t s : ℝ) : EReal) := by
  have e : ∑ s, dsc (sf rq rk rz (1 / 8) h) (dp rv rg h) t s = (∑ s, dsc (sf rq rk rz (1 / 8) h) (dp rv rg h) t s * 8) * (1 / 8) := by
    rw [← Finset.sum_mul]
    ring
  rw [e, eighth_real, EReal.coe_mul, coe_sum]
  refine congrArg (fun z : EReal => z * ((1 / 8 : ℝ) : EReal)) (Finset.sum_congr rfl fun s _ => ?_)
  rw [grd_real m c hq hk hz hv hg, k_at m c hk hz, if_neg (by simp), if_neg (by simp), if_neg (by simp),
    dif_neg (by simp), if_pos rfl, ← EReal.coe_mul]

end Cert.Kernel4Ideal.Fox
-- ==== Proof.FoxRes.lean ====
module

public import proofs.«01_k».proof.Proof.FoxGrad

@[expose] public section

set_option maxRecDepth 16384

noncomputable section

open Idealize.ShloMosaic Idealize.ShloMosaic.TcCoe Idealize.SL.Sem
open Idealize.ShloMosaic.Pipeline (Dat)

namespace Cert.Kernel4Ideal.Fox

open Cert.Kernel4Ideal Cert.Kernel4Ideal.Gen Cert.Attn

variable (m : (ℓ : Loc nD τ sig) → Buf (Elt Ideal) ℓ)

theorem arr_inj : Function.Injective (Pipeline.arrRef spec0) := by decide

/-- The heads of an array that holds all heads' columns side by side. -/
def heads (x : FVec Ideal S8192x2048 .f32) : FVec Ideal S16x8192x128 .f32 :=
  transpose S16x8192x128 [1, 0, 2] (shapeCast S8192x16x128 x shapeCasts_S8192x2048_S8192x16x128) transposes_S8192x16x128_S16x8192x128_1_0_2

/-- The first 64 columns of each head, and one column of each head. -/
def first (x : FVec Ideal S8192x2048 .f32) : FVec Ideal S16x8192x64 .f32 :=
  extractStridedSlice S16x8192x64 ![0, 0, 0] (heads x) slices_S16x8192x128_S16x8192x64_0_0_0
def col67 (x : FVec Ideal S8192x2048 .f32) : FVec Ideal S16x8192 .f32 :=
  shapeCast S16x8192 (extractStridedSlice S16x8192x1 ![0, 0, 67] (heads x) slices_S16x8192x128_S16x8192x1_0_0_67) shapeCasts_S16x8192x1_S16x8192
def col64 (x : FVec Ideal S8192x2048 .f32) : FVec Ideal S16x8192 .f32 :=
  shapeCast S16x8192 (extractStridedSlice S16x8192x1 ![0, 0, 64] (heads x) slices_S16x8192x128_S16x8192x1_0_0_64) shapeCasts_S16x8192x1_S16x8192

/-- Where a head's column lies. -/
def at' (h : Fin 16) (j : Fin 128) : Fin 2048 := ⟨h.val * 128 + j.val, by omega⟩
theorem colH_at (h : Fin 16) (j : Fin 128) : colH (at' h j) = h := Fin.ext (by show (h.val * 128 + j.val) / 128 = h.val; omega)
theorem colD_at (h : Fin 16) (j : Fin 128) : colD (at' h j) = j := Fin.ext (by show (h.val * 128 + j.val) % 128 = j.val; omega)

theorem heads_at (x) (h : Fin 16) (t : Fin 8192) (j : Fin 128) : heads x (ix3 h t j) = x (ix2 t (at' h j)) := by
  unfold heads at'
  pointwise
theorem first_of (x) (h : Fin 16) (t : Fin 8192) (d : Fin 64) : first x (ix3 h t d) = x (ix2 t (at' h ⟨d.val, by omega⟩)) := by
  unfold first
  refine Eq.trans ?_ (heads_at x h t ⟨d.val, by omega⟩)
  generalize heads x = y
  pointwise
theorem col67_of (x) (h : Fin 16) (t : Fin 8192) : col67 x (ix2 h t) = x (ix2 t (at' h ⟨67, by omega⟩)) := by
  unfold col67
  refine Eq.trans ?_ (heads_at x h t ⟨67, by omega⟩)
  generalize heads x = y
  pointwise
theorem col64_of (x) (h : Fin 16) (t : Fin 8192) : col64 x (ix2 h t) = x (ix2 t (at' h ⟨64, by omega⟩)) := by
  unfold col64
  refine Eq.trans ?_ (heads_at x h t ⟨64, by omega⟩)
  generalize heads x = y
  pointwise

section
variable (Q K : FVec Ideal S16x8192x128 .bf16) (V' : FVec Ideal S48x8192x128 .bf16) (D : FVec Ideal S16x8192x128 .bf16)
  (h : Fin 16) (t : Fin 8192) (j : Fin 128)

theorem dqArr_of : dqArr Q K V' D (ix2 t (at' h j)) = (∑ s : Fin 8192, grd Q K V' D h s t * K (ix3 h s j)) * Ideal.ofBits .f32 0x3E000000#32 := by
  show (∑ s : Fin 8192, grd Q K V' D (colH (at' h j)) s t * K (ix3 (colH (at' h j)) s (colD (at' h j)))) * _ = _
  rw [colH_at, colD_at]
theorem dkArr_of : dkArr Q K V' D (ix2 t (at' h j)) = ∑ u : Fin 8192, grd Q K V' D h t u * Q (ix3 h u j) := by
  show ∑ u : Fin 8192, grd Q K V' D (colH (at' h j)) t u * Q (ix3 (colH (at' h j)) u (colD (at' h j))) = _
  rw [colH_at, colD_at]
theorem dvArr_of : dvArr Q K D (ix2 t (at' h j)) = ∑ u : Fin 8192, wgt Q K h t u * D (ix3 h u j) := by
  show ∑ u : Fin 8192, wgt Q K (colH (at' h j)) t u * D (ix3 (colH (at' h j)) u (colD (at' h j))) = _
  rw [colH_at, colD_at]
end

theorem read_v146 (W : Valuation τ sig (Elt Ideal)) : StableHlo.after [hostOps1].flatten W (Proc.devRef .tc main_v146) =
    first (W (Proc.devRef .tc main_v139_0)) := by
  simp only [List.flatten_cons, List.flatten_nil, List.append_nil]
  after_reads_simp
  unfold first heads
  rfl

theorem res_v146 (c : Dev nD) : Pipeline.afterTail₀ cfgs (dats m) 0 (V0 m) [hostOps1] c main_v146 =
    first (dqArr (V m c main_v112) (V m c main_v81) (V m c main_v54) (V m c main_v138)) :=
  (read_v146 _).trans (congrArg first ((Pipeline.withArrays_arr spec0 arr_inj c _ _ 4).trans (arr_q m c)))

theorem read_v147 (W : Valuation τ sig (Elt Ideal)) : StableHlo.after [hostOps1].flatten W (Proc.devRef .tc main_v147) =
    first (W (Proc.devRef .tc main_v139_1)) := by
  simp only [List.flatten_cons, List.flatten_nil, List.append_nil]
  after_reads_simp
  unfold first heads
  rfl

theorem res_v147 (c : Dev nD) : Pipeline.afterTail₀ cfgs (dats m) 0 (V0 m) [hostOps1] c main_v147 =
    first (dkArr (V m c main_v112) (V m c main_v81) (V m c main_v54) (V m c main_v138)) :=
  (read_v147 _).trans (congrArg first ((Pipeline.withArrays_arr spec0 arr_inj c _ _ 5).trans (arr_k m c)))

theorem read_v148 (W : Valuation τ sig (Elt Ideal)) : StableHlo.after [hostOps1].flatten W (Proc.devRef .tc main_v148) =
    first (W (Proc.devRef .tc main_v139_2)) := by
  simp only [List.flatten_cons, List.flatten_nil, List.append_nil]
  after_reads_simp
  unfold first heads
  rfl

theorem res_v148 (c : Dev nD) : Pipeline.afterTail₀ cfgs (dats m) 0 (V0 m) [hostOps1] c main_v148 =
    first (dvArr (V m c main_v112) (V m c main_v81) (V m c main_v138)) :=
  (read_v148 _).trans (congrArg first ((Pipeline.withArrays_arr spec0 arr_inj c _ _ 6).trans (arr_v m c)))

theorem read_v150 (W : Valuation τ sig (Elt Ideal)) : StableHlo.after [hostOps1].flatten W (Proc.devRef .tc main_v150) =
    col67 (W (Proc.devRef .tc main_v139_0)) := by
  simp only [List.flatten_cons, List.flatten_nil, List.append_nil]
  after_reads_simp
  unfold col67 heads
  rfl

theorem res_v150 (c : Dev nD) : Pipeline.afterTail₀ cfgs (dats m) 0 (V0 m) [hostOps1] c main_v150 =
    col67 (dqArr (V m c main_v112) (V m c main_v81) (V m c main_v54) (V m c main_v138)) :=
  (read_v150 _).trans (congrArg col67 ((Pipeline.withArrays_arr spec0 arr_inj c _ _ 4).trans (arr_q m c)))

theorem read_v152 (W : Valuation τ sig (Elt Ideal)) : StableHlo.after [hostOps1].flatten W (Proc.devRef .tc main_v152) =
    col64 (W (Proc.devRef .tc main_v139_1)) := by
  simp only [List.flatten_cons, List.flatten_nil, List.append_nil]
  after_reads_simp
  unfold col64 heads
  rfl

theorem res_v152 (c : Dev nD) : Pipeline.afterTail₀ cfgs (dats m) 0 (V0 m) [hostOps1] c main_v152 =
    col64 (dkArr (V m c main_v112) (V m c main_v81) (V m c main_v54) (V m c main_v138)) :=
  (read_v152 _).trans (congrArg col64 ((Pipeline.withArrays_arr spec0 arr_inj c _ _ 5).trans (arr_k m c)))

end Cert.Kernel4Ideal.Fox
-- ==== Proof.FoxFrame.lean ====
/- The frame of the backward attention with its constant rounded, from the run of the kernel at any values. -/
module

public import proofs.«01_k».proof.Proof.FoxRun
public import proofs.«01_k».proof.Proof.Gen.Kernel4

@[expose] public section

noncomputable section

namespace Cert.Kernel4Ideal.Fox

open Idealize.ShloMosaic Idealize.SL.Sem

/-- At words a named constant is the word it stands for. -/
local instance wordNamed : Named Bits where
  named _ _ {φ} bits := FloatOps.ofBits φ bits

theorem frame_rounded [hK : Cert.Kernel4.Facts] : Cert.quiescent_Kernel4 := fun m ρ _ =>
  cast (by sl_kernel_rfl) (frame_all (F := Bits) m ρ)

theorem frame_ideal [hK : Cert.Kernel4Ideal.Facts] : Cert.quiescent_Kernel4Ideal := fun m ρ _ =>
  frame_all (F := Ideal) m ρ

end Cert.Kernel4Ideal.Fox

end

end
-- ==== Proof.FoxPair.lean ====
module

public import proofs.«01_k».proof.Proof.FoxRes
public import proofs.«01_k».proof.Proof.FoxFrame

@[expose] public section

set_option maxRecDepth 16384

noncomputable section

open Idealize.ShloMosaic Idealize.ShloMosaic.TcCoe Idealize.SL.Sem
open Idealize.ShloMosaic.Pipeline (Dat)

namespace Cert.Kernel4Ideal.Fox

open Cert.Kernel4Ideal Cert.Kernel4Ideal.Gen Cert.Attn

variable (m : (ℓ : Loc nD τ sig) → Buf (Elt Ideal) ℓ)

variable (m' : (ℓ : Loc Reference4Ideal.nD Reference4Ideal.τ Reference4Ideal.sig) → Buf (Elt Ideal) ℓ)

/-- The five gradients agree, on finite arguments. -/
theorem grads_eq [hP : Cert.Pre_fox_finite.Facts] (hpre : Cert.Pre_Kernel4Ideal_fox_finite m) (c : Dev nD)
    (e0 : m' (c.tc.loc Reference4Ideal.main_arg0) = m (c.tc.loc main_arg0)) (e1 : m' (c.tc.loc Reference4Ideal.main_arg1) = m (c.tc.loc main_arg1))
    (e2 : m' (c.tc.loc Reference4Ideal.main_arg2) = m (c.tc.loc main_arg2)) (e3 : m' (c.tc.loc Reference4Ideal.main_arg3) = m (c.tc.loc main_arg3))
    (e4 : m' (c.tc.loc Reference4Ideal.main_arg4) = m (c.tc.loc main_arg4)) :
    Reference4Ideal.Value.res_main_v71 m' c = Pipeline.afterTail₀ cfgs (dats m) 0 (V0 m) [hostOps1] c main_v146
    ∧ Reference4Ideal.Value.res_main_v70 m' c = Pipeline.afterTail₀ cfgs (dats m) 0 (V0 m) [hostOps1] c main_v147
    ∧ Reference4Ideal.Value.res_main_v46 m' c = Pipeline.afterTail₀ cfgs (dats m) 0 (V0 m) [hostOps1] c main_v148
    ∧ Reference4Ideal.Value.res_main_v67 m' c = Pipeline.afterTail₀ cfgs (dats m) 0 (V0 m) [hostOps1] c main_v150
    ∧ Reference4Ideal.Value.res_main_v72 m' c = Pipeline.afterTail₀ cfgs (dats m) 0 (V0 m) [hostOps1] c main_v152 := by
  obtain ⟨p0, p1, p2, p3, p4⟩ := hpre c
  have hq := fun h t d => real_of_ones (m (c.tc.loc main_arg0) : FVec Ideal S16x8192x64 .f32) _ (fun _ => rfl) p0 (ix3 h t d)
  have hk := fun h t d => real_of_ones (m (c.tc.loc main_arg1) : FVec Ideal S16x8192x64 .f32) _ (fun _ => rfl) p1 (ix3 h t d)
  have hv := fun h t d => real_of_ones (m (c.tc.loc main_arg2) : FVec Ideal S16x8192x64 .f32) _ (fun _ => rfl) p2 (ix3 h t d)
  have hz := fun h t => real_of_ones (m (c.tc.loc main_arg3) : FVec Ideal S16x8192 .f32) _ (fun _ => rfl) p3 (ix2 h t)
  have hg := fun h t d => real_of_ones (m (c.tc.loc main_arg4) : FVec Ideal S16x8192x64 .f32) _ (fun _ => rfl) p4 (ix3 h t d)
  rw [res_v146, res_v147, res_v148, res_v150, res_v152, Reference4Ideal.Fox.dq_eq, Reference4Ideal.Fox.dk_eq, Reference4Ideal.Fox.dv_eq,
    Reference4Ideal.Fox.dcq_eq, Reference4Ideal.Fox.dck_eq]
  simp only [Reference4Ideal.Fox.sc, Reference4Ideal.Fox.pr]
  rw [e0, e1, e2, e3, e4]
  refine ⟨?_, ?_, ?_, ?_, ?_⟩
  · funext y
    idx_vars y
    refine (Reference4Ideal.Fox.dq_real eighth_real hq hk hz hv hg y0 y1 y2).trans ((first_of _ y0 y1 y2).trans ((dqArr_of _ _ _ _ _ _ _).trans ?_)).symm
    exact dq_real m c hq hk hz hv hg y0 y1 y2
  · funext y
    idx_vars y
    refine (Reference4Ideal.Fox.dk_real eighth_real hq hk hz hv hg y0 y1 y2).trans ((first_of _ y0 y1 y2).trans ((dkArr_of _ _ _ _ _ _ _).trans ?_)).symm
    exact dk_real m c hq hk hz hv hg y0 y1 y2
  · funext y
    idx_vars y
    refine (Reference4Ideal.Fox.dv_real eighth_real hq hk hz hg y0 y1 y2).trans ((first_of _ y0 y1 y2).trans ((dvArr_of _ _ _ _ _ _).trans ?_)).symm
    exact dv_real m c hq hk hz hv hg y0 y1 y2
  · funext y
    idx_vars y
    refine (Reference4Ideal.Fox.dcq_real eighth_real hq hk hz hv hg y0 y1).trans ((col67_of _ y0 y1).trans ((dqArr_of _ _ _ _ _ _ _).trans ?_)).symm
    exact dcq_real m c hq hk hz hv hg y0 y1
  · funext y
    idx_vars y
    refine (Reference4Ideal.Fox.dck_real eighth_real hq hk hz hv hg y0 y1).trans ((col64_of _ y0 y1).trans ((dkArr_of _ _ _ _ _ _ _).trans ?_)).symm
    exact dck_real m c hq hk hz hv hg y0 y1

theorem algebraic [hP : Cert.Pre_fox_finite.Facts] : Cert.algebraic_Kernel4Ideal_Reference4Ideal_pre_fox_finite := by
  intro m g m' g' hpre hagree
  refine ⟨fun c => Pipeline.afterTail₀ cfgs (dats m) 0 (V0 m) [hostOps1] c main_v146, fun c => Pipeline.afterTail₀ cfgs (dats m) 0 (V0 m) [hostOps1] c main_v147, fun c => Pipeline.afterTail₀ cfgs (dats m) 0 (V0 m) [hostOps1] c main_v148, fun c => Pipeline.afterTail₀ cfgs (dats m) 0 (V0 m) [hostOps1] c main_v150, fun c => Pipeline.afterTail₀ cfgs (dats m) 0 (V0 m) [hostOps1] c main_v152, ?_, ?_⟩
  · refine θ_run_mono (θ_run_and (run_main m g) (frame_all m g)) fun r h c => ?_
    exact ⟨(h.1 c).2 main_v146 (by decide), (h.1 c).2 main_v147 (by decide), (h.1 c).2 main_v148 (by decide), (h.1 c).2 main_v150 (by decide), (h.1 c).2 main_v152 (by decide), h.2.1 c⟩
  · refine θ_run_mono (Reference4Ideal.Value.run m' g') fun r h c => ?_
    have e := grads_eq m m' hpre c (hagree c).1 (hagree c).2.1 (hagree c).2.2.1 (hagree c).2.2.2.1 (hagree c).2.2.2.2
    exact ⟨(h c).1.trans e.1, (h c).2.1.trans e.2.1, (h c).2.2.1.trans e.2.2.1, (h c).2.2.2.1.trans e.2.2.2.1, (h c).2.2.2.2.1.trans e.2.2.2.2, (h c).2.2.2.2.2⟩

instance preFacts : Cert.Pre_fox_finite.Facts := ⟨by decide, by decide⟩

theorem preserves : Cert.preserves_Kernel4_Kernel4Ideal :=
  IdealRules.named_const.statement Cert.Kernel4Ideal.κ "mask" .f32 0xF149F2CA#32 ⊥ rfl

end Cert.Kernel4Ideal.Fox
-- ==== Proof.FoxFwdPair.lean ====
module

public import proofs.«01_k».proof.Proof.Gen.Reference15Ideal.Run
public import proofs.«01_k».proof.Proof.FoxFwdArr
public import proofs.«01_k».proof.Proof.FoxFwdRef
public import proofs.«01_k».proof.Proof.FoxPair

/-! The attention with forget gates, forward: the two results agree on finite queries, keys and decays. -/

@[expose] public section

set_option maxRecDepth 16384

noncomputable section

open Idealize.ShloMosaic Idealize.ShloMosaic.TcCoe Idealize.SL.Sem
open Idealize.ShloMosaic.Pipeline (Dat)

namespace Cert.Kernel15Ideal.FoxFwd

open Cert.Kernel15Ideal Cert.Kernel15Ideal.Gen Cert.Attn

variable (m : (ℓ : Loc nD τ sig) → Buf (Elt Ideal) ℓ)

theorem read_v57 (W : Valuation τ sig (Elt Ideal)) : StableHlo.after [hostOps1].flatten W (Proc.devRef .tc main_v57) =
    shapeCast (s := S16x1x8192) (α := Ideal .f32) S16x8192 (W (Proc.devRef .tc main_v56_1)) shapeCasts_S16x1x8192_S16x8192 := by
  simp only [List.flatten_cons, List.flatten_nil, List.append_nil]
  after_reads_simp
  rfl

theorem flat_at (x : FVec Ideal S16x1x8192 .f32) (h : Fin 16) (t : Fin 8192) :
    shapeCast S16x8192 x shapeCasts_S16x1x8192_S16x8192 (ix2 h t) = x (ix3 h (0 : Fin 1) t) := by
  pointwise

section
variable [hP : Cert.Pre_fox_fwd_finite.Facts] (hpre : Cert.Pre_Kernel15Ideal_fox_fwd_finite m) (c : Dev nD)

include hpre

/-- The two results are the reference's, on finite queries, keys and decays. -/
theorem out_eq : Reference4Ideal.Fox.outp (m (c.tc.loc main_arg0)) (m (c.tc.loc main_arg1)) (m (c.tc.loc main_arg2)) (m (c.tc.loc main_arg3)) = (dats m 0 c).arrAt 3 cfg0.N := by
  obtain ⟨p0, p1, p2⟩ := hpre c
  have hq := fun h t d => real_of_ones (m (c.tc.loc main_arg0) : FVec Ideal S16x8192x64 .f32) _ (fun _ => rfl) p0 (ix3 h t d)
  have hk := fun h t d => real_of_ones (m (c.tc.loc main_arg1) : FVec Ideal S16x8192x64 .f32) _ (fun _ => rfl) p1 (ix3 h t d)
  have hz := fun h t => real_of_ones (m (c.tc.loc main_arg3) : FVec Ideal S16x8192 .f32) _ (fun _ => rfl) p2 (ix2 h t)
  refine Eq.trans ?_ (arr_o m c eighth_real hq hk hz).symm
  funext y
  idx_vars y
  exact (Reference4Ideal.Fox.outp_real eighth_real hq hk hz _ y0 y1 y2).trans (outArr_at _ _ _ _ _).symm

theorem logs_eq : Reference4Ideal.Fox.logs (m (c.tc.loc main_arg0)) (m (c.tc.loc main_arg1)) (m (c.tc.loc main_arg3))
    = Pipeline.afterTail₀ cfgs (dats m) 0 (V0 m) [hostOps1] c main_v57 := by
  obtain ⟨p0, p1, p2⟩ := hpre c
  have hq := fun h t d => real_of_ones (m (c.tc.loc main_arg0) : FVec Ideal S16x8192x64 .f32) _ (fun _ => rfl) p0 (ix3 h t d)
  have hk := fun h t d => real_of_ones (m (c.tc.loc main_arg1) : FVec Ideal S16x8192x64 .f32) _ (fun _ => rfl) p1 (ix3 h t d)
  have hz := fun h t => real_of_ones (m (c.tc.loc main_arg3) : FVec Ideal S16x8192 .f32) _ (fun _ => rfl) p2 (ix2 h t)
  refine Eq.trans ?_ ((read_v57 _).trans (congrArg (fun x => shapeCast (s := S16x1x8192) (α := Ideal .f32) S16x8192 x shapeCasts_S16x1x8192_S16x8192)
    (((dats m 0 c).withArrays_arrAt sharedIn0 (V0 m c) (fun _ => rfl) 4).trans (arr_l m c eighth_real hq hk hz)))).symm
  funext y
  idx_vars y
  exact (Reference4Ideal.Fox.logs_real eighth_real hq hk hz y0 y1).trans ((flat_at _ y0 y1).trans (logArr_at _ _ _ _)).symm

end

instance preFacts : Cert.Pre_fox_fwd_finite.Facts := ⟨by decide, by decide, by decide⟩

theorem preserves : Cert.preserves_Kernel15_Kernel15Ideal :=
  IdealRules.named_const.statement Cert.Kernel15Ideal.κ "mask" .f32 0xF149F2CA#32 ⊥ rfl

theorem algebraic [hP : Cert.Pre_fox_fwd_finite.Facts] : Cert.algebraic_Kernel15Ideal_Reference15Ideal_pre_fox_fwd_finite := by
  intro m g m' g' hpre hagree
  refine ⟨fun c => (dats m 0 c).arrAt 3 cfg0.N, fun c => Pipeline.afterTail₀ cfgs (dats m) 0 (V0 m) [hostOps1] c main_v57, ?_, ?_⟩
  · refine θ_run_mono (θ_run_and (run_main m g) (unchanged m g)) fun r h c => ?_
    exact ⟨(h.1 c).1 3, (h.1 c).2 main_v57 (by decide), h.2 c⟩
  · refine θ_run_mono (Reference15Ideal.Value.run m' g') fun r h c => ?_
    have e := out_eq m hpre c
    have e' := logs_eq m hpre c
    rw [← (hagree c).1, ← (hagree c).2.1, ← (hagree c).2.2.1, ← (hagree c).2.2.2] at e
    rw [← (hagree c).1, ← (hagree c).2.1, ← (hagree c).2.2.2] at e'
    exact ⟨(h c).1.trans e, (h c).2.1.trans e', (h c).2.2⟩

end Cert.Kernel15Ideal.FoxFwd
-- ==== Proof.lean ====
module

public import proofs.«01_k».proof.Proof.Gen.Kernel.Frame
public import proofs.«01_k».proof.Proof.Gen.Kernel2.Frame
public import proofs.«01_k».proof.Proof.KRope
public import proofs.«01_k».proof.Proof.Gen.Kernel3.Frame
public import proofs.«01_k».proof.Proof.MlaPair
public import proofs.«01_k».proof.Proof.Gen.Kernel4.Frame
public import proofs.«01_k».proof.Proof.Gen.Kernel5.Frame
public import proofs.«01_k».proof.Proof.QANorm
public import proofs.«01_k».proof.Proof.Gen.Kernel6.Frame
public import proofs.«01_k».proof.Proof.KvANorm
public import proofs.«01_k».proof.Proof.Gen.Kernel7.Frame
public import proofs.«01_k».proof.Proof.QADx
public import proofs.«01_k».proof.Proof.Gen.Kernel8.Frame
public import proofs.«01_k».proof.Proof.FfnNorm
public import proofs.«01_k».proof.Proof.Gen.Kernel9.Frame
public import proofs.«01_k».proof.Proof.QkvDx
public import proofs.«01_k».proof.Proof.Gen.Kernel10.Frame
public import proofs.«01_k».proof.Proof.KvADx
public import proofs.«01_k».proof.Proof.Gen.Kernel11.Frame
public import proofs.«01_k».proof.Proof.LossHead
public import proofs.«01_k».proof.Proof.Gen.Kernel12.Frame
public import proofs.«01_k».proof.Proof.FfnDu
public import proofs.«01_k».proof.Proof.Gen.Kernel13.Frame
public import proofs.«01_k».proof.Proof.GateScan
public import proofs.«01_k».proof.Proof.Gen.Kernel14.Frame
public import proofs.«01_k».proof.Proof.MlaFwdPair
public import proofs.«01_k».proof.Proof.Gen.Kernel15.Frame
public import proofs.«01_k».proof.Proof.FoxFwdPair

@[expose] public section

noncomputable section

namespace Cert.Proof

open Idealize.ShloMosaic Idealize.SL.Sem

theorem claim : Cert.Claim := ⟨Kernel.Gen.facts, KernelIdeal.Gen.facts, ReferenceIdeal.Gen.facts, Kernel2.Gen.facts, Kernel2Ideal.Gen.facts, Reference2Ideal.Gen.facts, Kernel3.Gen.facts, Kernel3Ideal.Gen.facts, Reference3Ideal.Gen.facts, Kernel4.Gen.facts, Kernel4Ideal.Gen.facts, Reference4Ideal.Gen.facts, Kernel5.Gen.facts, Kernel5Ideal.Gen.facts, Reference5Ideal.Gen.facts, Kernel6.Gen.facts, Kernel6Ideal.Gen.facts, Reference6Ideal.Gen.facts, Kernel7.Gen.facts, Kernel7Ideal.Gen.facts, Reference7Ideal.Gen.facts, Kernel8.Gen.facts, Kernel8Ideal.Gen.facts, Reference8Ideal.Gen.facts, Kernel9.Gen.facts, Kernel9Ideal.Gen.facts, Reference9Ideal.Gen.facts, Kernel10.Gen.facts, Kernel10Ideal.Gen.facts, Reference10Ideal.Gen.facts, Kernel11.Gen.facts, Kernel11Ideal.Gen.facts, Reference11Ideal.Gen.facts, Kernel12.Gen.facts, Kernel12Ideal.Gen.facts, Reference12Ideal.Gen.facts, Kernel13.Gen.facts, Kernel13Ideal.Gen.facts, Reference13Ideal.Gen.facts, Kernel14.Gen.facts, Kernel14Ideal.Gen.facts, Reference14Ideal.Gen.facts, Kernel15.Gen.facts, Kernel15Ideal.Gen.facts, Reference15Ideal.Gen.facts, Kernel3Ideal.Mla.preFacts, Kernel4Ideal.Fox.preFacts, Kernel5Ideal.NormGrad.preFacts, Kernel6Ideal.NormGrad.preFacts, Kernel7Ideal.MmNorm.preFacts, Kernel8Ideal.MmNorm.preFacts, Kernel9Ideal.MmNorm.preFacts, Kernel10Ideal.MmNorm.preFacts, Kernel11Ideal.Loss.preFacts, Kernel13Ideal.Gate.preFacts, Kernel14Ideal.MlaFwd.preFacts, Kernel15Ideal.FoxFwd.preFacts,
   fun m ρ _ => Kernel.Gen.frame m ρ,
   fun m ρ _ => KernelIdeal.Gen.frame m ρ,
   fun m ρ _ => (θ_run ReferenceIdeal.defs _ _).mono (fun r h => ⟨fun c => (h c).2, sem_eq_zero_of_no_sems (by decide) r.2⟩) (ReferenceIdeal.Value.run m ρ),
   fun m ρ _ => Kernel2.Gen.frame m ρ,
   fun m ρ _ => Kernel2Ideal.Gen.frame m ρ,
   fun m ρ _ => (θ_run Reference2Ideal.defs _ _).mono (fun r h => ⟨fun c => (h c).2, sem_eq_zero_of_no_sems (by decide) r.2⟩) (Reference2Ideal.Value.run m ρ),
   fun m ρ h => Kernel3Ideal.Mla.frame_rounded m ρ h,
   fun m ρ _ => Kernel3Ideal.Mla.frame_ideal m ρ trivial,
   fun m ρ _ => Kernel3Ideal.Mla.frame_ideal m ρ trivial,
   fun m ρ _ => (θ_run Reference3Ideal.defs _ _).mono (fun r h => ⟨fun c => (h c).2.2.2, sem_eq_zero_of_no_sems (by decide) r.2⟩) (Reference3Ideal.Value.run m ρ),
   fun m ρ _ => (θ_run Reference3Ideal.defs _ _).mono (fun r h => ⟨fun c => (h c).2.2.2, sem_eq_zero_of_no_sems (by decide) r.2⟩) (Reference3Ideal.Value.run m ρ),
   fun m ρ h => Kernel4Ideal.Fox.frame_rounded m ρ h,
   fun m ρ _ => Kernel4Ideal.Fox.frame_ideal m ρ trivial,
   fun m ρ _ => Kernel4Ideal.Fox.frame_ideal m ρ trivial,
   fun m ρ _ => (θ_run Reference4Ideal.defs _ _).mono (fun r h => ⟨fun c => (h c).2.2.2.2.2, sem_eq_zero_of_no_sems (by decide) r.2⟩) (Reference4Ideal.Value.run m ρ),
   fun m ρ _ => (θ_run Reference4Ideal.defs _ _).mono (fun r h => ⟨fun c => (h c).2.2.2.2.2, sem_eq_zero_of_no_sems (by decide) r.2⟩) (Reference4Ideal.Value.run m ρ),
   fun m ρ _ => Kernel5.Gen.frame m ρ,
   fun m ρ _ => Kernel5Ideal.Gen.frame m ρ,
   fun m ρ _ => Kernel5Ideal.Gen.frame m ρ,
   fun m ρ _ => (θ_run Reference5Ideal.defs _ _).mono (fun r h => ⟨fun c => (h c).2.2, sem_eq_zero_of_no_sems (by decide) r.2⟩) (Reference5Ideal.Value.run m ρ),
   fun m ρ _ => (θ_run Reference5Ideal.defs _ _).mono (fun r h => ⟨fun c => (h c).2.2, sem_eq_zero_of_no_sems (by decide) r.2⟩) (Reference5Ideal.Value.run m ρ),
   fun m ρ _ => Kernel6.Gen.frame m ρ,
   fun m ρ _ => Kernel6Ideal.Gen.frame m ρ,
   fun m ρ _ => Kernel6Ideal.Gen.frame m ρ,
   fun m ρ _ => (θ_run Reference6Ideal.defs _ _).mono (fun r h => ⟨fun c => (h c).2.2, sem_eq_zero_of_no_sems (by decide) r.2⟩) (Reference6Ideal.Value.run m ρ),
   fun m ρ _ => (θ_run Reference6Ideal.defs _ _).mono (fun r h => ⟨fun c => (h c).2.2, sem_eq_zero_of_no_sems (by decide) r.2⟩) (Reference6Ideal.Value.run m ρ),
   fun m ρ _ => Kernel7.Gen.frame m ρ,
   fun m ρ _ => Kernel7Ideal.Gen.frame m ρ,
   fun m ρ _ => Kernel7Ideal.Gen.frame m ρ,
   fun m ρ _ => (θ_run Reference7Ideal.defs _ _).mono (fun r h => ⟨fun c => (h c).2.2, sem_eq_zero_of_no_sems (by decide) r.2⟩) (Reference7Ideal.Value.run m ρ),
   fun m ρ _ => (θ_run Reference7Ideal.defs _ _).mono (fun r h => ⟨fun c => (h c).2.2, sem_eq_zero_of_no_sems (by decide) r.2⟩) (Reference7Ideal.Value.run m ρ),
   fun m ρ _ => Kernel8.Gen.frame m ρ,
   fun m ρ _ => Kernel8Ideal.Gen.frame m ρ,
   fun m ρ _ => Kernel8Ideal.Gen.frame m ρ,
   fun m ρ _ => (θ_run Reference8Ideal.defs _ _).mono (fun r h => ⟨fun c => (h c).2.2.2, sem_eq_zero_of_no_sems (by decide) r.2⟩) (Reference8Ideal.Value.run m ρ),
   fun m ρ _ => (θ_run Reference8Ideal.defs _ _).mono (fun r h => ⟨fun c => (h c).2.2.2, sem_eq_zero_of_no_sems (by decide) r.2⟩) (Reference8Ideal.Value.run m ρ),
   fun m ρ _ => Kernel9.Gen.frame m ρ,
   fun m ρ _ => Kernel9Ideal.Gen.frame m ρ,
   fun m ρ _ => Kernel9Ideal.Gen.frame m ρ,
   fun m ρ _ => (θ_run Reference9Ideal.defs _ _).mono (fun r h => ⟨fun c => (h c).2.2, sem_eq_zero_of_no_sems (by decide) r.2⟩) (Reference9Ideal.Value.run m ρ),
   fun m ρ _ => (θ_run Reference9Ideal.defs _ _).mono (fun r h => ⟨fun c => (h c).2.2, sem_eq_zero_of_no_sems (by decide) r.2⟩) (Reference9Ideal.Value.run m ρ),
   fun m ρ _ => Kernel10.Gen.frame m ρ,
   fun m ρ _ => Kernel10Ideal.Gen.frame m ρ,
   fun m ρ _ => Kernel10Ideal.Gen.frame m ρ,
   fun m ρ _ => (θ_run Reference10Ideal.defs _ _).mono (fun r h => ⟨fun c => (h c).2.2.2, sem_eq_zero_of_no_sems (by decide) r.2⟩) (Reference10Ideal.Value.run m ρ),
   fun m ρ _ => (θ_run Reference10Ideal.defs _ _).mono (fun r h => ⟨fun c => (h c).2.2.2, sem_eq_zero_of_no_sems (by decide) r.2⟩) (Reference10Ideal.Value.run m ρ),
   fun m ρ _ => Kernel11.Gen.frame m ρ,
   fun m ρ _ => Kernel11Ideal.Gen.frame m ρ,
   fun m ρ _ => Kernel11Ideal.Gen.frame m ρ,
   fun m ρ _ => (θ_run Reference11Ideal.defs _ _).mono (fun r h => ⟨fun c => (h c).2.2.2.2, sem_eq_zero_of_no_sems (by decide) r.2⟩) (Reference11Ideal.Value.run m ρ),
   fun m ρ _ => (θ_run Reference11Ideal.defs _ _).mono (fun r h => ⟨fun c => (h c).2.2.2.2, sem_eq_zero_of_no_sems (by decide) r.2⟩) (Reference11Ideal.Value.run m ρ),
   fun m ρ _ => Kernel12.Gen.frame m ρ,
   fun m ρ _ => Kernel12Ideal.Gen.frame m ρ,
   fun m ρ _ => (θ_run Reference12Ideal.defs _ _).mono (fun r h => ⟨fun c => (h c).2, sem_eq_zero_of_no_sems (by decide) r.2⟩) (Reference12Ideal.Value.run m ρ),
   fun m ρ _ => Kernel13.Gen.frame m ρ,
   fun m ρ _ => Kernel13Ideal.Gen.frame m ρ,
   fun m ρ _ => Kernel13Ideal.Gen.frame m ρ,
   fun m ρ _ => (θ_run Reference13Ideal.defs _ _).mono (fun r h => ⟨fun c => (h c).2.2, sem_eq_zero_of_no_sems (by decide) r.2⟩) (Reference13Ideal.Value.run m ρ),
   fun m ρ _ => (θ_run Reference13Ideal.defs _ _).mono (fun r h => ⟨fun c => (h c).2.2, sem_eq_zero_of_no_sems (by decide) r.2⟩) (Reference13Ideal.Value.run m ρ),
   fun m ρ _ => Kernel14.Gen.frame m ρ,
   fun m ρ _ => Kernel14Ideal.Gen.frame m ρ,
   fun m ρ _ => Kernel14Ideal.Gen.frame m ρ,
   fun m ρ _ => (θ_run Reference14Ideal.defs _ _).mono (fun r h => ⟨fun c => (h c).2.2, sem_eq_zero_of_no_sems (by decide) r.2⟩) (Reference14Ideal.Value.run m ρ),
   fun m ρ _ => (θ_run Reference14Ideal.defs _ _).mono (fun r h => ⟨fun c => (h c).2.2, sem_eq_zero_of_no_sems (by decide) r.2⟩) (Reference14Ideal.Value.run m ρ),
   fun m ρ _ => Kernel15.Gen.frame m ρ,
   fun m ρ _ => Kernel15Ideal.Gen.frame m ρ,
   fun m ρ _ => Kernel15Ideal.Gen.frame m ρ,
   fun m ρ _ => (θ_run Reference15Ideal.defs _ _).mono (fun r h => ⟨fun c => (h c).2.2, sem_eq_zero_of_no_sems (by decide) r.2⟩) (Reference15Ideal.Value.run m ρ),
   fun m ρ _ => (θ_run Reference15Ideal.defs _ _).mono (fun r h => ⟨fun c => (h c).2.2, sem_eq_zero_of_no_sems (by decide) r.2⟩) (Reference15Ideal.Value.run m ρ),
   trivial,
   KernelIdeal.Rope.algebraic,
   trivial,
   Kernel2Ideal.Rope.algebraic,
   Kernel3Ideal.Mla.preserves,
   Kernel3Ideal.Mla.algebraic,
   Kernel4Ideal.Fox.preserves,
   Kernel4Ideal.Fox.algebraic,
   trivial,
   Kernel5Ideal.NormGrad.algebraic,
   trivial,
   Kernel6Ideal.NormGrad.algebraic,
   trivial,
   Kernel7Ideal.MmNorm.algebraic,
   trivial,
   Kernel8Ideal.MmNorm.algebraic,
   trivial,
   Kernel9Ideal.MmNorm.algebraic,
   trivial,
   Kernel10Ideal.MmNorm.algebraic,
   trivial,
   Kernel11Ideal.Loss.algebraic,
   trivial,
   Kernel12Ideal.FfnDu.algebraic,
   trivial,
   Kernel13Ideal.Gate.algebraic,
   Kernel14Ideal.MlaFwd.preserves,
   Kernel14Ideal.MlaFwd.algebraic,
   Kernel15Ideal.FoxFwd.preserves,
   Kernel15Ideal.FoxFwd.algebraic⟩

end Cert.Proof

end
